-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWIdeal_gatew_finite [hPre_gatew_finite : Cert.Pre_gatew_finite.Facts] (m : (ℓ : Loc Cert.GateWIdeal.nD Cert.GateWIdeal.τ Cert.GateWIdeal.sig) → Buf (Elt Ideal) ℓ) : Prop :=
  ∀ c : Dev Cert.GateWIdeal.nD,
    (Cert.Pre_gatew_finite.fn (F := Ideal) (m ((c.tc : Thread Cert.GateWIdeal.nD Cert.GateWIdeal.τ).loc Cert.GateWIdeal.main_arg0)) (m ((c.tc : Thread Cert.GateWIdeal.nD Cert.GateWIdeal.τ).loc Cert.GateWIdeal.main_arg1)) (m ((c.tc : Thread Cert.GateWIdeal.nD Cert.GateWIdeal.τ).loc Cert.GateWIdeal.main_arg2)) (m ((c.tc : Thread Cert.GateWIdeal.nD Cert.GateWIdeal.τ).loc Cert.GateWIdeal.main_arg3)) (m ((c.tc : Thread Cert.GateWIdeal.nD Cert.GateWIdeal.τ).loc Cert.GateWIdeal.main_arg4)) (m ((c.tc : Thread Cert.GateWIdeal.nD Cert.GateWIdeal.τ).loc Cert.GateWIdeal.main_arg5))) = (fun _ => 1#1)

def Pre_GateWRefIdeal (m : (ℓ : Loc Cert.GateWRefIdeal.nD Cert.GateWRefIdeal.τ Cert.GateWRefIdeal.sig) → Buf (Elt Ideal) ℓ) : Prop :=
  True

def Pre_GateWRefIdeal_gatew_finite [hPre_gatew_finite : Cert.Pre_gatew_finite.Facts] (m : (ℓ : Loc Cert.GateWRefIdeal.nD Cert.GateWRefIdeal.τ Cert.GateWRefIdeal.sig) → Buf (Elt Ideal) ℓ) : Prop :=
  ∀ c : Dev Cert.GateWRefIdeal.nD,
    (Cert.Pre_gatew_finite.fn (F := Ideal) (m ((c.tc : Thread Cert.GateWRefIdeal.nD Cert.GateWRefIdeal.τ).loc Cert.GateWRefIdeal.main_arg0)) (m ((c.tc : Thread Cert.GateWRefIdeal.nD Cert.GateWRefIdeal.τ).loc Cert.GateWRefIdeal.main_arg1)) (m ((c.tc : Thread Cert.GateWRefIdeal.nD Cert.GateWRefIdeal.τ).loc Cert.GateWRefIdeal.main_arg2)) (m ((c.tc : Thread Cert.GateWRefIdeal.nD Cert.GateWRefIdeal.τ).loc Cert.GateWRefIdeal.main_arg3)) (m ((c.tc : Thread Cert.GateWRefIdeal.nD Cert.GateWRefIdeal.τ).loc Cert.GateWRefIdeal.main_arg4)) (m ((c.tc : Thread Cert.GateWRefIdeal.nD Cert.GateWRefIdeal.τ).loc Cert.GateWRefIdeal.main_arg5))) = (fun _ => 1#1)

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3))) = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_attna_finite [hPre_attna_finite : Cert.Pre_attna_finite.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_attna_finite.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3)) (m ((c.tc : Thread Cert.AttnAIdeal.nD Cert.AttnAIdeal.τ).loc Cert.AttnAIdeal.main_arg4)) (m ((c.tc : Thread Cert.AttnAIdeal.nD Cert.AttnAIdeal.τ).loc Cert.AttnAIdeal.main_arg5)) (m ((c.tc : Thread Cert.AttnAIdeal.nD Cert.AttnAIdeal.τ).loc Cert.AttnAIdeal.main_arg6))) = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_attna_finite [hPre_attna_finite : Cert.Pre_attna_finite.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_attna_finite.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3)) (m ((c.tc : Thread Cert.AttnARefIdeal.nD Cert.AttnARefIdeal.τ).loc Cert.AttnARefIdeal.main_arg4)) (m ((c.tc : Thread Cert.AttnARefIdeal.nD Cert.AttnARefIdeal.τ).loc Cert.AttnARefIdeal.main_arg5)) (m ((c.tc : Thread Cert.AttnARefIdeal.nD Cert.AttnARefIdeal.τ).loc Cert.AttnARefIdeal.main_arg6))) = (fun _ => 1#1)

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_ModsF (m : (ℓ : Loc Cert.ModsF.nD Cert.ModsF.τ Cert.ModsF.sig) → Buf (Elt Bits) ℓ) : Prop :=
  True

def Pre_ModsFIdeal (m : (ℓ : Loc Cert.ModsFIdeal.nD Cert.ModsFIdeal.τ Cert.ModsFIdeal.sig) → Buf (Elt Ideal) ℓ) : Prop :=
  True

def Pre_ModsFRefIdeal (m : (ℓ : Loc Cert.ModsFRefIdeal.nD Cert.ModsFRefIdeal.τ Cert.ModsFRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1)
      ∧ r.2.mem ((c.tc : Thread Cert.GateW.nD Cert.GateW.τ).loc Cert.GateW.main_arg2) = m ((c.tc : Thread Cert.GateW.nD Cert.GateW.τ).loc Cert.GateW.main_arg2)
      ∧ r.2.mem ((c.tc : Thread Cert.GateW.nD Cert.GateW.τ).loc Cert.GateW.main_arg3) = m ((c.tc : Thread Cert.GateW.nD Cert.GateW.τ).loc Cert.GateW.main_arg3)
      ∧ r.2.mem ((c.tc : Thread Cert.GateW.nD Cert.GateW.τ).loc Cert.GateW.main_arg4) = m ((c.tc : Thread Cert.GateW.nD Cert.GateW.τ).loc Cert.GateW.main_arg4)
      ∧ r.2.mem ((c.tc : Thread Cert.GateW.nD Cert.GateW.τ).loc Cert.GateW.main_arg5) = m ((c.tc : Thread Cert.GateW.nD Cert.GateW.τ).loc Cert.GateW.main_arg5))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
      ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2)
      ∧ r.2.mem ((c.tc : Thread Cert.GateWIdeal.nD Cert.GateWIdeal.τ).loc Cert.GateWIdeal.main_arg3) = m ((c.tc : Thread Cert.GateWIdeal.nD Cert.GateWIdeal.τ).loc Cert.GateWIdeal.main_arg3)
      ∧ r.2.mem ((c.tc : Thread Cert.GateWIdeal.nD Cert.GateWIdeal.τ).loc Cert.GateWIdeal.main_arg4) = m ((c.tc : Thread Cert.GateWIdeal.nD Cert.GateWIdeal.τ).loc Cert.GateWIdeal.main_arg4)
      ∧ r.2.mem ((c.tc : Thread Cert.GateWIdeal.nD Cert.GateWIdeal.τ).loc Cert.GateWIdeal.main_arg5) = m ((c.tc : Thread Cert.GateWIdeal.nD Cert.GateWIdeal.τ).loc Cert.GateWIdeal.main_arg5))
      ∧ r.2.sem = fun _ => 0)

def quiescent_GateWIdeal_pre_gatew_finite [hGateWIdeal : Cert.GateWIdeal.Facts] [hPre_gatew_finite : Cert.Pre_gatew_finite.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal_gatew_finite m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
      ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2)
      ∧ r.2.mem ((c.tc : Thread Cert.GateWIdeal.nD Cert.GateWIdeal.τ).loc Cert.GateWIdeal.main_arg3) = m ((c.tc : Thread Cert.GateWIdeal.nD Cert.GateWIdeal.τ).loc Cert.GateWIdeal.main_arg3)
      ∧ r.2.mem ((c.tc : Thread Cert.GateWIdeal.nD Cert.GateWIdeal.τ).loc Cert.GateWIdeal.main_arg4) = m ((c.tc : Thread Cert.GateWIdeal.nD Cert.GateWIdeal.τ).loc Cert.GateWIdeal.main_arg4)
      ∧ r.2.mem ((c.tc : Thread Cert.GateWIdeal.nD Cert.GateWIdeal.τ).loc Cert.GateWIdeal.main_arg5) = m ((c.tc : Thread Cert.GateWIdeal.nD Cert.GateWIdeal.τ).loc Cert.GateWIdeal.main_arg5))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1)
      ∧ r.2.mem ((c.tc : Thread Cert.GateWRefIdeal.nD Cert.GateWRefIdeal.τ).loc Cert.GateWRefIdeal.main_arg2) = m ((c.tc : Thread Cert.GateWRefIdeal.nD Cert.GateWRefIdeal.τ).loc Cert.GateWRefIdeal.main_arg2)
      ∧ r.2.mem ((c.tc : Thread Cert.GateWRefIdeal.nD Cert.GateWRefIdeal.τ).loc Cert.GateWRefIdeal.main_arg3) = m ((c.tc : Thread Cert.GateWRefIdeal.nD Cert.GateWRefIdeal.τ).loc Cert.GateWRefIdeal.main_arg3)
      ∧ r.2.mem ((c.tc : Thread Cert.GateWRefIdeal.nD Cert.GateWRefIdeal.τ).loc Cert.GateWRefIdeal.main_arg4) = m ((c.tc : Thread Cert.GateWRefIdeal.nD Cert.GateWRefIdeal.τ).loc Cert.GateWRefIdeal.main_arg4)
      ∧ r.2.mem ((c.tc : Thread Cert.GateWRefIdeal.nD Cert.GateWRefIdeal.τ).loc Cert.GateWRefIdeal.main_arg5) = m ((c.tc : Thread Cert.GateWRefIdeal.nD Cert.GateWRefIdeal.τ).loc Cert.GateWRefIdeal.main_arg5))
      ∧ r.2.sem = fun _ => 0)

def quiescent_GateWRefIdeal_pre_gatew_finite [hGateWRefIdeal : Cert.GateWRefIdeal.Facts] [hPre_gatew_finite : Cert.Pre_gatew_finite.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal_gatew_finite m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1)
      ∧ r.2.mem ((c.tc : Thread Cert.GateWRefIdeal.nD Cert.GateWRefIdeal.τ).loc Cert.GateWRefIdeal.main_arg2) = m ((c.tc : Thread Cert.GateWRefIdeal.nD Cert.GateWRefIdeal.τ).loc Cert.GateWRefIdeal.main_arg2)
      ∧ r.2.mem ((c.tc : Thread Cert.GateWRefIdeal.nD Cert.GateWRefIdeal.τ).loc Cert.GateWRefIdeal.main_arg3) = m ((c.tc : Thread Cert.GateWRefIdeal.nD Cert.GateWRefIdeal.τ).loc Cert.GateWRefIdeal.main_arg3)
      ∧ r.2.mem ((c.tc : Thread Cert.GateWRefIdeal.nD Cert.GateWRefIdeal.τ).loc Cert.GateWRefIdeal.main_arg4) = m ((c.tc : Thread Cert.GateWRefIdeal.nD Cert.GateWRefIdeal.τ).loc Cert.GateWRefIdeal.main_arg4)
      ∧ r.2.mem ((c.tc : Thread Cert.GateWRefIdeal.nD Cert.GateWRefIdeal.τ).loc Cert.GateWRefIdeal.main_arg5) = m ((c.tc : Thread Cert.GateWRefIdeal.nD Cert.GateWRefIdeal.τ).loc Cert.GateWRefIdeal.main_arg5))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3)
      ∧ r.2.mem ((c.tc : Thread Cert.AttnA.nD Cert.AttnA.τ).loc Cert.AttnA.main_arg4) = m ((c.tc : Thread Cert.AttnA.nD Cert.AttnA.τ).loc Cert.AttnA.main_arg4)
      ∧ r.2.mem ((c.tc : Thread Cert.AttnA.nD Cert.AttnA.τ).loc Cert.AttnA.main_arg5) = m ((c.tc : Thread Cert.AttnA.nD Cert.AttnA.τ).loc Cert.AttnA.main_arg5)
      ∧ r.2.mem ((c.tc : Thread Cert.AttnA.nD Cert.AttnA.τ).loc Cert.AttnA.main_arg6) = m ((c.tc : Thread Cert.AttnA.nD Cert.AttnA.τ).loc Cert.AttnA.main_arg6))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
      ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6))
      ∧ r.2.sem = fun _ => 0)

def quiescent_AttnAIdeal_pre_attna_finite [hAttnAIdeal : Cert.AttnAIdeal.Facts] [hPre_attna_finite : Cert.Pre_attna_finite.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_attna_finite m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
      ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
      ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
      ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5)
      ∧ r.2.mem ((c.tc : Thread Cert.AttnARefIdeal.nD Cert.AttnARefIdeal.τ).loc Cert.AttnARefIdeal.main_arg6) = m ((c.tc : Thread Cert.AttnARefIdeal.nD Cert.AttnARefIdeal.τ).loc Cert.AttnARefIdeal.main_arg6))
      ∧ r.2.sem = fun _ => 0)

def quiescent_AttnARefIdeal_pre_attna_finite [hAttnARefIdeal : Cert.AttnARefIdeal.Facts] [hPre_attna_finite : Cert.Pre_attna_finite.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_attna_finite m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3)
      ∧ r.2.mem ((c.tc : Thread Cert.AttnARefIdeal.nD Cert.AttnARefIdeal.τ).loc Cert.AttnARefIdeal.main_arg4) = m ((c.tc : Thread Cert.AttnARefIdeal.nD Cert.AttnARefIdeal.τ).loc Cert.AttnARefIdeal.main_arg4)
      ∧ r.2.mem ((c.tc : Thread Cert.AttnARefIdeal.nD Cert.AttnARefIdeal.τ).loc Cert.AttnARefIdeal.main_arg5) = m ((c.tc : Thread Cert.AttnARefIdeal.nD Cert.AttnARefIdeal.τ).loc Cert.AttnARefIdeal.main_arg5)
      ∧ r.2.mem ((c.tc : Thread Cert.AttnARefIdeal.nD Cert.AttnARefIdeal.τ).loc Cert.AttnARefIdeal.main_arg6) = m ((c.tc : Thread Cert.AttnARefIdeal.nD Cert.AttnARefIdeal.τ).loc Cert.AttnARefIdeal.main_arg6))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2)
      ∧ r.2.mem ((c.tc : Thread Cert.GateF.nD Cert.GateF.τ).loc Cert.GateF.main_arg3) = m ((c.tc : Thread Cert.GateF.nD Cert.GateF.τ).loc Cert.GateF.main_arg3)
      ∧ r.2.mem ((c.tc : Thread Cert.GateF.nD Cert.GateF.τ).loc Cert.GateF.main_arg4) = m ((c.tc : Thread Cert.GateF.nD Cert.GateF.τ).loc Cert.GateF.main_arg4)
      ∧ r.2.mem ((c.tc : Thread Cert.GateF.nD Cert.GateF.τ).loc Cert.GateF.main_arg5) = m ((c.tc : Thread Cert.GateF.nD Cert.GateF.τ).loc Cert.GateF.main_arg5))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
      ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
      ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4)
      ∧ r.2.mem ((c.tc : Thread Cert.GateFIdeal.nD Cert.GateFIdeal.τ).loc Cert.GateFIdeal.main_arg5) = m ((c.tc : Thread Cert.GateFIdeal.nD Cert.GateFIdeal.τ).loc Cert.GateFIdeal.main_arg5))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1)
      ∧ r.2.mem ((c.tc : Thread Cert.GateFRefIdeal.nD Cert.GateFRefIdeal.τ).loc Cert.GateFRefIdeal.main_arg2) = m ((c.tc : Thread Cert.GateFRefIdeal.nD Cert.GateFRefIdeal.τ).loc Cert.GateFRefIdeal.main_arg2)
      ∧ r.2.mem ((c.tc : Thread Cert.GateFRefIdeal.nD Cert.GateFRefIdeal.τ).loc Cert.GateFRefIdeal.main_arg3) = m ((c.tc : Thread Cert.GateFRefIdeal.nD Cert.GateFRefIdeal.τ).loc Cert.GateFRefIdeal.main_arg3)
      ∧ r.2.mem ((c.tc : Thread Cert.GateFRefIdeal.nD Cert.GateFRefIdeal.τ).loc Cert.GateFRefIdeal.main_arg4) = m ((c.tc : Thread Cert.GateFRefIdeal.nD Cert.GateFRefIdeal.τ).loc Cert.GateFRefIdeal.main_arg4)
      ∧ r.2.mem ((c.tc : Thread Cert.GateFRefIdeal.nD Cert.GateFRefIdeal.τ).loc Cert.GateFRefIdeal.main_arg5) = m ((c.tc : Thread Cert.GateFRefIdeal.nD Cert.GateFRefIdeal.τ).loc Cert.GateFRefIdeal.main_arg5))
      ∧ r.2.sem = fun _ => 0)

def quiescent_ModsF [hModsF : Cert.ModsF.Facts] : Prop :=
  ∀ (m : (ℓ : Loc Cert.ModsF.nD Cert.ModsF.τ Cert.ModsF.sig) → Buf (Elt Bits) ℓ) (g : Dev Cert.ModsF.nD → PrngReg), Pre_ModsF m →
    θ_run (Cert.ModsF.defs (F := Bits)) (onTc (τ := Cert.ModsF.τ) (Cert.ModsF.main (F := Bits))) ⟨m, fun _ => 0, g⟩ (fun r => (∀ c : Dev Cert.ModsF.nD,
      r.2.mem ((c.tc : Thread Cert.ModsF.nD Cert.ModsF.τ).loc Cert.ModsF.main_arg0) = m ((c.tc : Thread Cert.ModsF.nD Cert.ModsF.τ).loc Cert.ModsF.main_arg0)
      ∧ r.2.mem ((c.tc : Thread Cert.ModsF.nD Cert.ModsF.τ).loc Cert.ModsF.main_arg1) = m ((c.tc : Thread Cert.ModsF.nD Cert.ModsF.τ).loc Cert.ModsF.main_arg1)
      ∧ r.2.mem ((c.tc : Thread Cert.ModsF.nD Cert.ModsF.τ).loc Cert.ModsF.main_arg2) = m ((c.tc : Thread Cert.ModsF.nD Cert.ModsF.τ).loc Cert.ModsF.main_arg2)
      ∧ r.2.mem ((c.tc : Thread Cert.ModsF.nD Cert.ModsF.τ).loc Cert.ModsF.main_arg3) = m ((c.tc : Thread Cert.ModsF.nD Cert.ModsF.τ).loc Cert.ModsF.main_arg3)
      ∧ r.2.mem ((c.tc : Thread Cert.ModsF.nD Cert.ModsF.τ).loc Cert.ModsF.main_arg4) = m ((c.tc : Thread Cert.ModsF.nD Cert.ModsF.τ).loc Cert.ModsF.main_arg4))
      ∧ r.2.sem = fun _ => 0)

def quiescent_ModsFIdeal [hModsFIdeal : Cert.ModsFIdeal.Facts] : Prop :=
  ∀ (m : (ℓ : Loc Cert.ModsFIdeal.nD Cert.ModsFIdeal.τ Cert.ModsFIdeal.sig) → Buf (Elt Ideal) ℓ) (g : Dev Cert.ModsFIdeal.nD → PrngReg), Pre_ModsFIdeal m →
    θ_run (Cert.ModsFIdeal.defs (F := Ideal)) (onTc (τ := Cert.ModsFIdeal.τ) (Cert.ModsFIdeal.main (F := Ideal))) ⟨m, fun _ => 0, g⟩ (fun r => (∀ c : Dev Cert.ModsFIdeal.nD,
      r.2.mem ((c.tc : Thread Cert.ModsFIdeal.nD Cert.ModsFIdeal.τ).loc Cert.ModsFIdeal.main_arg0) = m ((c.tc : Thread Cert.ModsFIdeal.nD Cert.ModsFIdeal.τ).loc Cert.ModsFIdeal.main_arg0)
      ∧ r.2.mem ((c.tc : Thread Cert.ModsFIdeal.nD Cert.ModsFIdeal.τ).loc Cert.ModsFIdeal.main_arg1) = m ((c.tc : Thread Cert.ModsFIdeal.nD Cert.ModsFIdeal.τ).loc Cert.ModsFIdeal.main_arg1)
      ∧ r.2.mem ((c.tc : Thread Cert.ModsFIdeal.nD Cert.ModsFIdeal.τ).loc Cert.ModsFIdeal.main_arg2) = m ((c.tc : Thread Cert.ModsFIdeal.nD Cert.ModsFIdeal.τ).loc Cert.ModsFIdeal.main_arg2)
      ∧ r.2.mem ((c.tc : Thread Cert.ModsFIdeal.nD Cert.ModsFIdeal.τ).loc Cert.ModsFIdeal.main_arg3) = m ((c.tc : Thread Cert.ModsFIdeal.nD Cert.ModsFIdeal.τ).loc Cert.ModsFIdeal.main_arg3)
      ∧ r.2.mem ((c.tc : Thread Cert.ModsFIdeal.nD Cert.ModsFIdeal.τ).loc Cert.ModsFIdeal.main_arg4) = m ((c.tc : Thread Cert.ModsFIdeal.nD Cert.ModsFIdeal.τ).loc Cert.ModsFIdeal.main_arg4))
      ∧ r.2.sem = fun _ => 0)

def quiescent_ModsFRefIdeal [hModsFRefIdeal : Cert.ModsFRefIdeal.Facts] : Prop :=
  ∀ (m : (ℓ : Loc Cert.ModsFRefIdeal.nD Cert.ModsFRefIdeal.τ Cert.ModsFRefIdeal.sig) → Buf (Elt Ideal) ℓ) (g : Dev Cert.ModsFRefIdeal.nD → PrngReg), Pre_ModsFRefIdeal m →
    θ_run (Cert.ModsFRefIdeal.defs (F := Ideal)) (onTc (τ := Cert.ModsFRefIdeal.τ) (Cert.ModsFRefIdeal.main (F := Ideal))) ⟨m, fun _ => 0, g⟩ (fun r => (∀ c : Dev Cert.ModsFRefIdeal.nD,
      r.2.mem ((c.tc : Thread Cert.ModsFRefIdeal.nD Cert.ModsFRefIdeal.τ).loc Cert.ModsFRefIdeal.main_arg0) = m ((c.tc : Thread Cert.ModsFRefIdeal.nD Cert.ModsFRefIdeal.τ).loc Cert.ModsFRefIdeal.main_arg0)
      ∧ r.2.mem ((c.tc : Thread Cert.ModsFRefIdeal.nD Cert.ModsFRefIdeal.τ).loc Cert.ModsFRefIdeal.main_arg1) = m ((c.tc : Thread Cert.ModsFRefIdeal.nD Cert.ModsFRefIdeal.τ).loc Cert.ModsFRefIdeal.main_arg1)
      ∧ r.2.mem ((c.tc : Thread Cert.ModsFRefIdeal.nD Cert.ModsFRefIdeal.τ).loc Cert.ModsFRefIdeal.main_arg2) = m ((c.tc : Thread Cert.ModsFRefIdeal.nD Cert.ModsFRefIdeal.τ).loc Cert.ModsFRefIdeal.main_arg2)
      ∧ r.2.mem ((c.tc : Thread Cert.ModsFRefIdeal.nD Cert.ModsFRefIdeal.τ).loc Cert.ModsFRefIdeal.main_arg3) = m ((c.tc : Thread Cert.ModsFRefIdeal.nD Cert.ModsFRefIdeal.τ).loc Cert.ModsFRefIdeal.main_arg3)
      ∧ r.2.mem ((c.tc : Thread Cert.ModsFRefIdeal.nD Cert.ModsFRefIdeal.τ).loc Cert.ModsFRefIdeal.main_arg4) = m ((c.tc : Thread Cert.ModsFRefIdeal.nD Cert.ModsFRefIdeal.τ).loc Cert.ModsFRefIdeal.main_arg4))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2)
      ∧ r.2.mem ((c.tc : Thread Cert.InF.nD Cert.InF.τ).loc Cert.InF.main_arg3) = m ((c.tc : Thread Cert.InF.nD Cert.InF.τ).loc Cert.InF.main_arg3)
      ∧ r.2.mem ((c.tc : Thread Cert.InF.nD Cert.InF.τ).loc Cert.InF.main_arg4) = m ((c.tc : Thread Cert.InF.nD Cert.InF.τ).loc Cert.InF.main_arg4))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
      ∧ r.2.mem ((c.tc : Thread Cert.InFIdeal.nD Cert.InFIdeal.τ).loc Cert.InFIdeal.main_arg3) = m ((c.tc : Thread Cert.InFIdeal.nD Cert.InFIdeal.τ).loc Cert.InFIdeal.main_arg3)
      ∧ r.2.mem ((c.tc : Thread Cert.InFIdeal.nD Cert.InFIdeal.τ).loc Cert.InFIdeal.main_arg4) = m ((c.tc : Thread Cert.InFIdeal.nD Cert.InFIdeal.τ).loc Cert.InFIdeal.main_arg4))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2)
      ∧ r.2.mem ((c.tc : Thread Cert.InFRefIdeal.nD Cert.InFRefIdeal.τ).loc Cert.InFRefIdeal.main_arg3) = m ((c.tc : Thread Cert.InFRefIdeal.nD Cert.InFRefIdeal.τ).loc Cert.InFRefIdeal.main_arg3)
      ∧ r.2.mem ((c.tc : Thread Cert.InFRefIdeal.nD Cert.InFRefIdeal.τ).loc Cert.InFRefIdeal.main_arg4) = m ((c.tc : Thread Cert.InFRefIdeal.nD Cert.InFRefIdeal.τ).loc Cert.InFRefIdeal.main_arg4))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v61_0)) (v1 : (c : Dev Cert.AttnIdeal.nD) → Buf (Elt Ideal) ((c.tc : Thread Cert.AttnIdeal.nD Cert.AttnIdeal.τ).loc Cert.AttnIdeal.main_v61_1)) (v2 : (c : Dev Cert.AttnIdeal.nD) → Buf (Elt Ideal) ((c.tc : Thread Cert.AttnIdeal.nD Cert.AttnIdeal.τ).loc Cert.AttnIdeal.main_v61_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v61_0) = v0 c
          ∧ r.2.mem ((c.tc : Thread Cert.AttnIdeal.nD Cert.AttnIdeal.τ).loc Cert.AttnIdeal.main_v61_1) = v1 c
          ∧ r.2.mem ((c.tc : Thread Cert.AttnIdeal.nD Cert.AttnIdeal.τ).loc Cert.AttnIdeal.main_v61_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v185) = v0 c
          ∧ r.2.mem ((c.tc : Thread Cert.AttnRefIdeal.nD Cert.AttnRefIdeal.τ).loc Cert.AttnRefIdeal.main_v187) = v1 c
          ∧ r.2.mem ((c.tc : Thread Cert.AttnRefIdeal.nD Cert.AttnRefIdeal.τ).loc Cert.AttnRefIdeal.main_v189) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v6_1)) (v1 : (c : Dev Cert.GateIdeal.nD) → Buf (Elt Ideal) ((c.tc : Thread Cert.GateIdeal.nD Cert.GateIdeal.τ).loc Cert.GateIdeal.main_v6_2)) (v2 : (c : Dev Cert.GateIdeal.nD) → Buf (Elt Ideal) ((c.tc : Thread Cert.GateIdeal.nD Cert.GateIdeal.τ).loc Cert.GateIdeal.main_v6_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_1) = v0 c
          ∧ r.2.mem ((c.tc : Thread Cert.GateIdeal.nD Cert.GateIdeal.τ).loc Cert.GateIdeal.main_v6_2) = v1 c
          ∧ r.2.mem ((c.tc : Thread Cert.GateIdeal.nD Cert.GateIdeal.τ).loc Cert.GateIdeal.main_v6_3) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v21) = v0 c
          ∧ r.2.mem ((c.tc : Thread Cert.GateRefIdeal.nD Cert.GateRefIdeal.τ).loc Cert.GateRefIdeal.main_v22) = v1 c
          ∧ r.2.mem ((c.tc : Thread Cert.GateRefIdeal.nD Cert.GateRefIdeal.τ).loc Cert.GateRefIdeal.main_v23) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v58) = v0 c
          ∧ r.2.mem ((c.tc : Thread Cert.NormRefIdeal.nD Cert.NormRefIdeal.τ).loc Cert.NormRefIdeal.main_v63) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v152) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_GateW_GateWIdeal : Prop :=
  True

def algebraic_GateWIdeal_GateWRefIdeal_pre_gatew_finite [hGateWIdeal : Cert.GateWIdeal.Facts] [hGateWRefIdeal : Cert.GateWRefIdeal.Facts] [hPre_gatew_finite : Cert.Pre_gatew_finite.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal_gatew_finite m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)
      ∧ m' ((c.tc : Thread Cert.GateWRefIdeal.nD Cert.GateWRefIdeal.τ).loc Cert.GateWRefIdeal.main_arg2) = m ((c.tc : Thread Cert.GateWIdeal.nD Cert.GateWIdeal.τ).loc Cert.GateWIdeal.main_arg2)
      ∧ m' ((c.tc : Thread Cert.GateWRefIdeal.nD Cert.GateWRefIdeal.τ).loc Cert.GateWRefIdeal.main_arg3) = m ((c.tc : Thread Cert.GateWIdeal.nD Cert.GateWIdeal.τ).loc Cert.GateWIdeal.main_arg3)
      ∧ m' ((c.tc : Thread Cert.GateWRefIdeal.nD Cert.GateWRefIdeal.τ).loc Cert.GateWRefIdeal.main_arg4) = m ((c.tc : Thread Cert.GateWIdeal.nD Cert.GateWIdeal.τ).loc Cert.GateWIdeal.main_arg4)
      ∧ m' ((c.tc : Thread Cert.GateWRefIdeal.nD Cert.GateWRefIdeal.τ).loc Cert.GateWRefIdeal.main_arg5) = m ((c.tc : Thread Cert.GateWIdeal.nD Cert.GateWIdeal.τ).loc Cert.GateWIdeal.main_arg5)) →
    ∃ (v0 : (c : Dev Cert.GateWIdeal.nD) → Buf (Elt Ideal) ((c.tc : Thread Cert.GateWIdeal.nD Cert.GateWIdeal.τ).loc Cert.GateWIdeal.main_v10_0)) (v1 : (c : Dev Cert.GateWIdeal.nD) → Buf (Elt Ideal) ((c.tc : Thread Cert.GateWIdeal.nD Cert.GateWIdeal.τ).loc Cert.GateWIdeal.main_v10_1)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v10_0) = v0 c
          ∧ r.2.mem ((c.tc : Thread Cert.GateWIdeal.nD Cert.GateWIdeal.τ).loc Cert.GateWIdeal.main_v10_1) = v1 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1)
          ∧ r.2.mem ((c.tc : Thread Cert.GateWIdeal.nD Cert.GateWIdeal.τ).loc Cert.GateWIdeal.main_arg2) = m ((c.tc : Thread Cert.GateWIdeal.nD Cert.GateWIdeal.τ).loc Cert.GateWIdeal.main_arg2)
          ∧ r.2.mem ((c.tc : Thread Cert.GateWIdeal.nD Cert.GateWIdeal.τ).loc Cert.GateWIdeal.main_arg3) = m ((c.tc : Thread Cert.GateWIdeal.nD Cert.GateWIdeal.τ).loc Cert.GateWIdeal.main_arg3)
          ∧ r.2.mem ((c.tc : Thread Cert.GateWIdeal.nD Cert.GateWIdeal.τ).loc Cert.GateWIdeal.main_arg4) = m ((c.tc : Thread Cert.GateWIdeal.nD Cert.GateWIdeal.τ).loc Cert.GateWIdeal.main_arg4)
          ∧ r.2.mem ((c.tc : Thread Cert.GateWIdeal.nD Cert.GateWIdeal.τ).loc Cert.GateWIdeal.main_arg5) = m ((c.tc : Thread Cert.GateWIdeal.nD Cert.GateWIdeal.τ).loc Cert.GateWIdeal.main_arg5))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v18) = v0 c
          ∧ r.2.mem ((c.tc : Thread Cert.GateWRefIdeal.nD Cert.GateWRefIdeal.τ).loc Cert.GateWRefIdeal.main_v19) = v1 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1)
          ∧ r.2.mem ((c.tc : Thread Cert.GateWRefIdeal.nD Cert.GateWRefIdeal.τ).loc Cert.GateWRefIdeal.main_arg2) = m' ((c.tc : Thread Cert.GateWRefIdeal.nD Cert.GateWRefIdeal.τ).loc Cert.GateWRefIdeal.main_arg2)
          ∧ r.2.mem ((c.tc : Thread Cert.GateWRefIdeal.nD Cert.GateWRefIdeal.τ).loc Cert.GateWRefIdeal.main_arg3) = m' ((c.tc : Thread Cert.GateWRefIdeal.nD Cert.GateWRefIdeal.τ).loc Cert.GateWRefIdeal.main_arg3)
          ∧ r.2.mem ((c.tc : Thread Cert.GateWRefIdeal.nD Cert.GateWRefIdeal.τ).loc Cert.GateWRefIdeal.main_arg4) = m' ((c.tc : Thread Cert.GateWRefIdeal.nD Cert.GateWRefIdeal.τ).loc Cert.GateWRefIdeal.main_arg4)
          ∧ r.2.mem ((c.tc : Thread Cert.GateWRefIdeal.nD Cert.GateWRefIdeal.τ).loc Cert.GateWRefIdeal.main_arg5) = m' ((c.tc : Thread Cert.GateWRefIdeal.nD Cert.GateWRefIdeal.τ).loc Cert.GateWRefIdeal.main_arg5))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v0_0)) (v1 : (c : Dev Cert.ModsIdeal.nD) → Buf (Elt Ideal) ((c.tc : Thread Cert.ModsIdeal.nD Cert.ModsIdeal.τ).loc Cert.ModsIdeal.main_v0_1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v0_0) = v0 c
          ∧ r.2.mem ((c.tc : Thread Cert.ModsIdeal.nD Cert.ModsIdeal.τ).loc Cert.ModsIdeal.main_v0_1) = v1 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v40) = v0 c
          ∧ r.2.mem ((c.tc : Thread Cert.ModsRefIdeal.nD Cert.ModsRefIdeal.τ).loc Cert.ModsRefIdeal.main_v21) = v1 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_AttnF_AttnFIdeal : Prop :=
  True

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)) →
    ∃ (v0 : (c : Dev Cert.AttnFIdeal.nD) → Buf (Elt Ideal) ((c.tc : Thread Cert.AttnFIdeal.nD Cert.AttnFIdeal.τ).loc Cert.AttnFIdeal.main_v60)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v60) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v82) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3))

def preserves_AttnA_AttnAIdeal : Prop :=
  True

def algebraic_AttnAIdeal_AttnARefIdeal_pre_attna_finite [hAttnAIdeal : Cert.AttnAIdeal.Facts] [hAttnARefIdeal : Cert.AttnARefIdeal.Facts] [hPre_attna_finite : Cert.Pre_attna_finite.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_attna_finite m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)
      ∧ m' ((c.tc : Thread Cert.AttnARefIdeal.nD Cert.AttnARefIdeal.τ).loc Cert.AttnARefIdeal.main_arg3) = m ((c.tc : Thread Cert.AttnAIdeal.nD Cert.AttnAIdeal.τ).loc Cert.AttnAIdeal.main_arg3)
      ∧ m' ((c.tc : Thread Cert.AttnARefIdeal.nD Cert.AttnARefIdeal.τ).loc Cert.AttnARefIdeal.main_arg4) = m ((c.tc : Thread Cert.AttnAIdeal.nD Cert.AttnAIdeal.τ).loc Cert.AttnAIdeal.main_arg4)
      ∧ m' ((c.tc : Thread Cert.AttnARefIdeal.nD Cert.AttnARefIdeal.τ).loc Cert.AttnARefIdeal.main_arg5) = m ((c.tc : Thread Cert.AttnAIdeal.nD Cert.AttnAIdeal.τ).loc Cert.AttnAIdeal.main_arg5)
      ∧ m' ((c.tc : Thread Cert.AttnARefIdeal.nD Cert.AttnARefIdeal.τ).loc Cert.AttnARefIdeal.main_arg6) = m ((c.tc : Thread Cert.AttnAIdeal.nD Cert.AttnAIdeal.τ).loc Cert.AttnAIdeal.main_arg6)) →
    ∃ (v0 : (c : Dev Cert.AttnAIdeal.nD) → Buf (Elt Ideal) ((c.tc : Thread Cert.AttnAIdeal.nD Cert.AttnAIdeal.τ).loc Cert.AttnAIdeal.main_v65_0)) (v1 : (c : Dev Cert.AttnAIdeal.nD) → Buf (Elt Ideal) ((c.tc : Thread Cert.AttnAIdeal.nD Cert.AttnAIdeal.τ).loc Cert.AttnAIdeal.main_v65_1)) (v2 : (c : Dev Cert.AttnAIdeal.nD) → Buf (Elt Ideal) ((c.tc : Thread Cert.AttnAIdeal.nD Cert.AttnAIdeal.τ).loc Cert.AttnAIdeal.main_v65_2)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v65_0) = v0 c
          ∧ r.2.mem ((c.tc : Thread Cert.AttnAIdeal.nD Cert.AttnAIdeal.τ).loc Cert.AttnAIdeal.main_v65_1) = v1 c
          ∧ r.2.mem ((c.tc : Thread Cert.AttnAIdeal.nD Cert.AttnAIdeal.τ).loc Cert.AttnAIdeal.main_v65_2) = v2 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3)
          ∧ r.2.mem ((c.tc : Thread Cert.AttnAIdeal.nD Cert.AttnAIdeal.τ).loc Cert.AttnAIdeal.main_arg4) = m ((c.tc : Thread Cert.AttnAIdeal.nD Cert.AttnAIdeal.τ).loc Cert.AttnAIdeal.main_arg4)
          ∧ r.2.mem ((c.tc : Thread Cert.AttnAIdeal.nD Cert.AttnAIdeal.τ).loc Cert.AttnAIdeal.main_arg5) = m ((c.tc : Thread Cert.AttnAIdeal.nD Cert.AttnAIdeal.τ).loc Cert.AttnAIdeal.main_arg5)
          ∧ r.2.mem ((c.tc : Thread Cert.AttnAIdeal.nD Cert.AttnAIdeal.τ).loc Cert.AttnAIdeal.main_arg6) = m ((c.tc : Thread Cert.AttnAIdeal.nD Cert.AttnAIdeal.τ).loc Cert.AttnAIdeal.main_arg6))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v187) = v0 c
          ∧ r.2.mem ((c.tc : Thread Cert.AttnARefIdeal.nD Cert.AttnARefIdeal.τ).loc Cert.AttnARefIdeal.main_v189) = v1 c
          ∧ r.2.mem ((c.tc : Thread Cert.AttnARefIdeal.nD Cert.AttnARefIdeal.τ).loc Cert.AttnARefIdeal.main_v191) = v2 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3)
          ∧ r.2.mem ((c.tc : Thread Cert.AttnARefIdeal.nD Cert.AttnARefIdeal.τ).loc Cert.AttnARefIdeal.main_arg4) = m' ((c.tc : Thread Cert.AttnARefIdeal.nD Cert.AttnARefIdeal.τ).loc Cert.AttnARefIdeal.main_arg4)
          ∧ r.2.mem ((c.tc : Thread Cert.AttnARefIdeal.nD Cert.AttnARefIdeal.τ).loc Cert.AttnARefIdeal.main_arg5) = m' ((c.tc : Thread Cert.AttnARefIdeal.nD Cert.AttnARefIdeal.τ).loc Cert.AttnARefIdeal.main_arg5)
          ∧ r.2.mem ((c.tc : Thread Cert.AttnARefIdeal.nD Cert.AttnARefIdeal.τ).loc Cert.AttnARefIdeal.main_arg6) = m' ((c.tc : Thread Cert.AttnARefIdeal.nD Cert.AttnARefIdeal.τ).loc Cert.AttnARefIdeal.main_arg6))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)
      ∧ m' ((c.tc : Thread Cert.GateFRefIdeal.nD Cert.GateFRefIdeal.τ).loc Cert.GateFRefIdeal.main_arg2) = m ((c.tc : Thread Cert.GateFIdeal.nD Cert.GateFIdeal.τ).loc Cert.GateFIdeal.main_arg2)
      ∧ m' ((c.tc : Thread Cert.GateFRefIdeal.nD Cert.GateFRefIdeal.τ).loc Cert.GateFRefIdeal.main_arg3) = m ((c.tc : Thread Cert.GateFIdeal.nD Cert.GateFIdeal.τ).loc Cert.GateFIdeal.main_arg3)
      ∧ m' ((c.tc : Thread Cert.GateFRefIdeal.nD Cert.GateFRefIdeal.τ).loc Cert.GateFRefIdeal.main_arg4) = m ((c.tc : Thread Cert.GateFIdeal.nD Cert.GateFIdeal.τ).loc Cert.GateFIdeal.main_arg4)
      ∧ m' ((c.tc : Thread Cert.GateFRefIdeal.nD Cert.GateFRefIdeal.τ).loc Cert.GateFRefIdeal.main_arg5) = m ((c.tc : Thread Cert.GateFIdeal.nD Cert.GateFIdeal.τ).loc Cert.GateFIdeal.main_arg5)) →
    ∃ (v0 : (c : Dev Cert.GateFIdeal.nD) → Buf (Elt Ideal) ((c.tc : Thread Cert.GateFIdeal.nD Cert.GateFIdeal.τ).loc Cert.GateFIdeal.main_v6_0)) (v1 : (c : Dev Cert.GateFIdeal.nD) → Buf (Elt Ideal) ((c.tc : Thread Cert.GateFIdeal.nD Cert.GateFIdeal.τ).loc Cert.GateFIdeal.main_v6_1)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v6_0) = v0 c
          ∧ r.2.mem ((c.tc : Thread Cert.GateFIdeal.nD Cert.GateFIdeal.τ).loc Cert.GateFIdeal.main_v6_1) = v1 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
          ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
          ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4)
          ∧ r.2.mem ((c.tc : Thread Cert.GateFIdeal.nD Cert.GateFIdeal.τ).loc Cert.GateFIdeal.main_arg5) = m ((c.tc : Thread Cert.GateFIdeal.nD Cert.GateFIdeal.τ).loc Cert.GateFIdeal.main_arg5))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v5) = v0 c
          ∧ r.2.mem ((c.tc : Thread Cert.GateFRefIdeal.nD Cert.GateFRefIdeal.τ).loc Cert.GateFRefIdeal.main_v10) = v1 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1)
          ∧ r.2.mem ((c.tc : Thread Cert.GateFRefIdeal.nD Cert.GateFRefIdeal.τ).loc Cert.GateFRefIdeal.main_arg2) = m' ((c.tc : Thread Cert.GateFRefIdeal.nD Cert.GateFRefIdeal.τ).loc Cert.GateFRefIdeal.main_arg2)
          ∧ r.2.mem ((c.tc : Thread Cert.GateFRefIdeal.nD Cert.GateFRefIdeal.τ).loc Cert.GateFRefIdeal.main_arg3) = m' ((c.tc : Thread Cert.GateFRefIdeal.nD Cert.GateFRefIdeal.τ).loc Cert.GateFRefIdeal.main_arg3)
          ∧ r.2.mem ((c.tc : Thread Cert.GateFRefIdeal.nD Cert.GateFRefIdeal.τ).loc Cert.GateFRefIdeal.main_arg4) = m' ((c.tc : Thread Cert.GateFRefIdeal.nD Cert.GateFRefIdeal.τ).loc Cert.GateFRefIdeal.main_arg4)
          ∧ r.2.mem ((c.tc : Thread Cert.GateFRefIdeal.nD Cert.GateFRefIdeal.τ).loc Cert.GateFRefIdeal.main_arg5) = m' ((c.tc : Thread Cert.GateFRefIdeal.nD Cert.GateFRefIdeal.τ).loc Cert.GateFRefIdeal.main_arg5))

def preserves_ModsF_ModsFIdeal : Prop :=
  True

def algebraic_ModsFIdeal_ModsFRefIdeal [hModsFIdeal : Cert.ModsFIdeal.Facts] [hModsFRefIdeal : Cert.ModsFRefIdeal.Facts] : Prop :=
  ∀ (m : (ℓ : Loc Cert.ModsFIdeal.nD Cert.ModsFIdeal.τ Cert.ModsFIdeal.sig) → Buf (Elt Ideal) ℓ) (g : Dev Cert.ModsFIdeal.nD → PrngReg)
    (m' : (ℓ : Loc Cert.ModsFRefIdeal.nD Cert.ModsFRefIdeal.τ Cert.ModsFRefIdeal.sig) → Buf (Elt Ideal) ℓ) (g' : Dev Cert.ModsFRefIdeal.nD → PrngReg), Pre_ModsFIdeal m →
    (∀ c : Dev Cert.ModsFIdeal.nD,
      m' ((c.tc : Thread Cert.ModsFRefIdeal.nD Cert.ModsFRefIdeal.τ).loc Cert.ModsFRefIdeal.main_arg0) = m ((c.tc : Thread Cert.ModsFIdeal.nD Cert.ModsFIdeal.τ).loc Cert.ModsFIdeal.main_arg0)
      ∧ m' ((c.tc : Thread Cert.ModsFRefIdeal.nD Cert.ModsFRefIdeal.τ).loc Cert.ModsFRefIdeal.main_arg1) = m ((c.tc : Thread Cert.ModsFIdeal.nD Cert.ModsFIdeal.τ).loc Cert.ModsFIdeal.main_arg1)
      ∧ m' ((c.tc : Thread Cert.ModsFRefIdeal.nD Cert.ModsFRefIdeal.τ).loc Cert.ModsFRefIdeal.main_arg2) = m ((c.tc : Thread Cert.ModsFIdeal.nD Cert.ModsFIdeal.τ).loc Cert.ModsFIdeal.main_arg2)
      ∧ m' ((c.tc : Thread Cert.ModsFRefIdeal.nD Cert.ModsFRefIdeal.τ).loc Cert.ModsFRefIdeal.main_arg3) = m ((c.tc : Thread Cert.ModsFIdeal.nD Cert.ModsFIdeal.τ).loc Cert.ModsFIdeal.main_arg3)
      ∧ m' ((c.tc : Thread Cert.ModsFRefIdeal.nD Cert.ModsFRefIdeal.τ).loc Cert.ModsFRefIdeal.main_arg4) = m ((c.tc : Thread Cert.ModsFIdeal.nD Cert.ModsFIdeal.τ).loc Cert.ModsFIdeal.main_arg4)) →
    ∃ (v0 : (c : Dev Cert.ModsFIdeal.nD) → Buf (Elt Ideal) ((c.tc : Thread Cert.ModsFIdeal.nD Cert.ModsFIdeal.τ).loc Cert.ModsFIdeal.main_v2)),
      θ_run (Cert.ModsFIdeal.defs (F := Ideal)) (onTc (τ := Cert.ModsFIdeal.τ) (Cert.ModsFIdeal.main (F := Ideal))) ⟨m, fun _ => 0, g⟩ (fun r => ∀ c : Dev Cert.ModsFIdeal.nD,
          r.2.mem ((c.tc : Thread Cert.ModsFIdeal.nD Cert.ModsFIdeal.τ).loc Cert.ModsFIdeal.main_v2) = v0 c
          ∧ r.2.mem ((c.tc : Thread Cert.ModsFIdeal.nD Cert.ModsFIdeal.τ).loc Cert.ModsFIdeal.main_arg0) = m ((c.tc : Thread Cert.ModsFIdeal.nD Cert.ModsFIdeal.τ).loc Cert.ModsFIdeal.main_arg0)
          ∧ r.2.mem ((c.tc : Thread Cert.ModsFIdeal.nD Cert.ModsFIdeal.τ).loc Cert.ModsFIdeal.main_arg1) = m ((c.tc : Thread Cert.ModsFIdeal.nD Cert.ModsFIdeal.τ).loc Cert.ModsFIdeal.main_arg1)
          ∧ r.2.mem ((c.tc : Thread Cert.ModsFIdeal.nD Cert.ModsFIdeal.τ).loc Cert.ModsFIdeal.main_arg2) = m ((c.tc : Thread Cert.ModsFIdeal.nD Cert.ModsFIdeal.τ).loc Cert.ModsFIdeal.main_arg2)
          ∧ r.2.mem ((c.tc : Thread Cert.ModsFIdeal.nD Cert.ModsFIdeal.τ).loc Cert.ModsFIdeal.main_arg3) = m ((c.tc : Thread Cert.ModsFIdeal.nD Cert.ModsFIdeal.τ).loc Cert.ModsFIdeal.main_arg3)
          ∧ r.2.mem ((c.tc : Thread Cert.ModsFIdeal.nD Cert.ModsFIdeal.τ).loc Cert.ModsFIdeal.main_arg4) = m ((c.tc : Thread Cert.ModsFIdeal.nD Cert.ModsFIdeal.τ).loc Cert.ModsFIdeal.main_arg4))
      ∧ θ_run (Cert.ModsFRefIdeal.defs (F := Ideal)) (onTc (τ := Cert.ModsFRefIdeal.τ) (Cert.ModsFRefIdeal.main (F := Ideal))) ⟨m', fun _ => 0, g'⟩ (fun r => ∀ c : Dev Cert.ModsFRefIdeal.nD,
          r.2.mem ((c.tc : Thread Cert.ModsFRefIdeal.nD Cert.ModsFRefIdeal.τ).loc Cert.ModsFRefIdeal.main_v37) = v0 c
          ∧ r.2.mem ((c.tc : Thread Cert.ModsFRefIdeal.nD Cert.ModsFRefIdeal.τ).loc Cert.ModsFRefIdeal.main_arg0) = m' ((c.tc : Thread Cert.ModsFRefIdeal.nD Cert.ModsFRefIdeal.τ).loc Cert.ModsFRefIdeal.main_arg0)
          ∧ r.2.mem ((c.tc : Thread Cert.ModsFRefIdeal.nD Cert.ModsFRefIdeal.τ).loc Cert.ModsFRefIdeal.main_arg1) = m' ((c.tc : Thread Cert.ModsFRefIdeal.nD Cert.ModsFRefIdeal.τ).loc Cert.ModsFRefIdeal.main_arg1)
          ∧ r.2.mem ((c.tc : Thread Cert.ModsFRefIdeal.nD Cert.ModsFRefIdeal.τ).loc Cert.ModsFRefIdeal.main_arg2) = m' ((c.tc : Thread Cert.ModsFRefIdeal.nD Cert.ModsFRefIdeal.τ).loc Cert.ModsFRefIdeal.main_arg2)
          ∧ r.2.mem ((c.tc : Thread Cert.ModsFRefIdeal.nD Cert.ModsFRefIdeal.τ).loc Cert.ModsFRefIdeal.main_arg3) = m' ((c.tc : Thread Cert.ModsFRefIdeal.nD Cert.ModsFRefIdeal.τ).loc Cert.ModsFRefIdeal.main_arg3)
          ∧ r.2.mem ((c.tc : Thread Cert.ModsFRefIdeal.nD Cert.ModsFRefIdeal.τ).loc Cert.ModsFRefIdeal.main_arg4) = m' ((c.tc : Thread Cert.ModsFRefIdeal.nD Cert.ModsFRefIdeal.τ).loc Cert.ModsFRefIdeal.main_arg4))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)
      ∧ m' ((c.tc : Thread Cert.InFRefIdeal.nD Cert.InFRefIdeal.τ).loc Cert.InFRefIdeal.main_arg3) = m ((c.tc : Thread Cert.InFIdeal.nD Cert.InFIdeal.τ).loc Cert.InFIdeal.main_arg3)
      ∧ m' ((c.tc : Thread Cert.InFRefIdeal.nD Cert.InFRefIdeal.τ).loc Cert.InFRefIdeal.main_arg4) = m ((c.tc : Thread Cert.InFIdeal.nD Cert.InFIdeal.τ).loc Cert.InFIdeal.main_arg4)) →
    ∃ (v0 : (c : Dev Cert.InFIdeal.nD) → Buf (Elt Ideal) ((c.tc : Thread Cert.InFIdeal.nD Cert.InFIdeal.τ).loc Cert.InFIdeal.main_v6_0)) (v1 : (c : Dev Cert.InFIdeal.nD) → Buf (Elt Ideal) ((c.tc : Thread Cert.InFIdeal.nD Cert.InFIdeal.τ).loc Cert.InFIdeal.main_v6_1)) (v2 : (c : Dev Cert.InFIdeal.nD) → Buf (Elt Ideal) ((c.tc : Thread Cert.InFIdeal.nD Cert.InFIdeal.τ).loc Cert.InFIdeal.main_v6_2)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v6_0) = v0 c
          ∧ r.2.mem ((c.tc : Thread Cert.InFIdeal.nD Cert.InFIdeal.τ).loc Cert.InFIdeal.main_v6_1) = v1 c
          ∧ r.2.mem ((c.tc : Thread Cert.InFIdeal.nD Cert.InFIdeal.τ).loc Cert.InFIdeal.main_v6_2) = v2 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
          ∧ r.2.mem ((c.tc : Thread Cert.InFIdeal.nD Cert.InFIdeal.τ).loc Cert.InFIdeal.main_arg3) = m ((c.tc : Thread Cert.InFIdeal.nD Cert.InFIdeal.τ).loc Cert.InFIdeal.main_arg3)
          ∧ r.2.mem ((c.tc : Thread Cert.InFIdeal.nD Cert.InFIdeal.τ).loc Cert.InFIdeal.main_arg4) = m ((c.tc : Thread Cert.InFIdeal.nD Cert.InFIdeal.τ).loc Cert.InFIdeal.main_arg4))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v24) = v0 c
          ∧ r.2.mem ((c.tc : Thread Cert.InFRefIdeal.nD Cert.InFRefIdeal.τ).loc Cert.InFRefIdeal.main_v25) = v1 c
          ∧ r.2.mem ((c.tc : Thread Cert.InFRefIdeal.nD Cert.InFRefIdeal.τ).loc Cert.InFRefIdeal.main_v26) = v2 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2)
          ∧ r.2.mem ((c.tc : Thread Cert.InFRefIdeal.nD Cert.InFRefIdeal.τ).loc Cert.InFRefIdeal.main_arg3) = m' ((c.tc : Thread Cert.InFRefIdeal.nD Cert.InFRefIdeal.τ).loc Cert.InFRefIdeal.main_arg3)
          ∧ r.2.mem ((c.tc : Thread Cert.InFRefIdeal.nD Cert.InFRefIdeal.τ).loc Cert.InFRefIdeal.main_arg4) = m' ((c.tc : Thread Cert.InFRefIdeal.nD Cert.InFRefIdeal.τ).loc Cert.InFRefIdeal.main_arg4))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hPool : Cert.Pool.Facts) (hPoolIdeal : Cert.PoolIdeal.Facts) (hPoolRefIdeal : Cert.PoolRefIdeal.Facts) (hGateW : Cert.GateW.Facts) (hGateWIdeal : Cert.GateWIdeal.Facts) (hGateWRefIdeal : Cert.GateWRefIdeal.Facts) (hMods : Cert.Mods.Facts) (hModsIdeal : Cert.ModsIdeal.Facts) (hModsRefIdeal : Cert.ModsRefIdeal.Facts) (hAttnF : Cert.AttnF.Facts) (hAttnFIdeal : Cert.AttnFIdeal.Facts) (hAttnFRefIdeal : Cert.AttnFRefIdeal.Facts) (hAttnA : Cert.AttnA.Facts) (hAttnAIdeal : Cert.AttnAIdeal.Facts) (hAttnARefIdeal : Cert.AttnARefIdeal.Facts) (hGateF : Cert.GateF.Facts) (hGateFIdeal : Cert.GateFIdeal.Facts) (hGateFRefIdeal : Cert.GateFRefIdeal.Facts) (hModsF : Cert.ModsF.Facts) (hModsFIdeal : Cert.ModsFIdeal.Facts) (hModsFRefIdeal : Cert.ModsFRefIdeal.Facts) (hInF : Cert.InF.Facts) (hInFIdeal : Cert.InFIdeal.Facts) (hInFRefIdeal : Cert.InFRefIdeal.Facts) (hPre_loss_finite : Cert.Pre_loss_finite.Facts) (hPre_attn_finite : Cert.Pre_attn_finite.Facts) (hPre_gate_finite : Cert.Pre_gate_finite.Facts) (hPre_norm_finite : Cert.Pre_norm_finite.Facts) (hPre_pool_finite : Cert.Pre_pool_finite.Facts) (hPre_gatew_finite : Cert.Pre_gatew_finite.Facts) (hPre_attnf_finite : Cert.Pre_attnf_finite.Facts) (hPre_attna_finite : Cert.Pre_attna_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_GateW (hGateW := hGateW)
    ∧ quiescent_GateWIdeal (hGateWIdeal := hGateWIdeal)
    ∧ quiescent_GateWIdeal_pre_gatew_finite (hGateWIdeal := hGateWIdeal) (hPre_gatew_finite := hPre_gatew_finite)
    ∧ quiescent_GateWRefIdeal (hGateWRefIdeal := hGateWRefIdeal)
    ∧ quiescent_GateWRefIdeal_pre_gatew_finite (hGateWRefIdeal := hGateWRefIdeal) (hPre_gatew_finite := hPre_gatew_finite)
    ∧ quiescent_Mods (hMods := hMods)
    ∧ quiescent_ModsIdeal (hModsIdeal := hModsIdeal)
    ∧ quiescent_ModsRefIdeal (hModsRefIdeal := hModsRefIdeal)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_AttnA (hAttnA := hAttnA)
    ∧ quiescent_AttnAIdeal (hAttnAIdeal := hAttnAIdeal)
    ∧ quiescent_AttnAIdeal_pre_attna_finite (hAttnAIdeal := hAttnAIdeal) (hPre_attna_finite := hPre_attna_finite)
    ∧ quiescent_AttnARefIdeal (hAttnARefIdeal := hAttnARefIdeal)
    ∧ quiescent_AttnARefIdeal_pre_attna_finite (hAttnARefIdeal := hAttnARefIdeal) (hPre_attna_finite := hPre_attna_finite)
    ∧ quiescent_GateF (hGateF := hGateF)
    ∧ quiescent_GateFIdeal (hGateFIdeal := hGateFIdeal)
    ∧ quiescent_GateFRefIdeal (hGateFRefIdeal := hGateFRefIdeal)
    ∧ quiescent_ModsF (hModsF := hModsF)
    ∧ quiescent_ModsFIdeal (hModsFIdeal := hModsFIdeal)
    ∧ quiescent_ModsFRefIdeal (hModsFRefIdeal := hModsFRefIdeal)
    ∧ quiescent_InF (hInF := hInF)
    ∧ quiescent_InFIdeal (hInFIdeal := hInFIdeal)
    ∧ quiescent_InFRefIdeal (hInFRefIdeal := hInFRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_GateW_GateWIdeal
    ∧ algebraic_GateWIdeal_GateWRefIdeal_pre_gatew_finite (hGateWIdeal := hGateWIdeal) (hGateWRefIdeal := hGateWRefIdeal) (hPre_gatew_finite := hPre_gatew_finite)
    ∧ preserves_Mods_ModsIdeal
    ∧ algebraic_ModsIdeal_ModsRefIdeal (hModsIdeal := hModsIdeal) (hModsRefIdeal := hModsRefIdeal)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_AttnA_AttnAIdeal
    ∧ algebraic_AttnAIdeal_AttnARefIdeal_pre_attna_finite (hAttnAIdeal := hAttnAIdeal) (hAttnARefIdeal := hAttnARefIdeal) (hPre_attna_finite := hPre_attna_finite)
    ∧ preserves_GateF_GateFIdeal
    ∧ algebraic_GateFIdeal_GateFRefIdeal (hGateFIdeal := hGateFIdeal) (hGateFRefIdeal := hGateFRefIdeal)
    ∧ preserves_ModsF_ModsFIdeal
    ∧ algebraic_ModsFIdeal_ModsFRefIdeal (hModsFIdeal := hModsFIdeal) (hModsFRefIdeal := hModsFRefIdeal)
    ∧ preserves_InF_InFIdeal
    ∧ algebraic_InFIdeal_InFRefIdeal (hInFIdeal := hInFIdeal) (hInFRefIdeal := hInFRefIdeal)
-- ==== Pre_attn_finite.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S_ : Shape := ⟨0, ![]⟩

class Facts : Prop where
  bcast_S_S1x8192x16x128 : S_.BroadcastsInDim S1x8192x16x128 (![] : Fin 0 → Fin S1x8192x16x128.rank)
  reducesTo_S1x8192x16x128_S_d0_1_2_3 : S1x8192x16x128.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn_part1 {F : FTy → Type} [FloatOps F] (main_arg4 : FVec F S1x8192x2048 .f32) (main_v13 : IVec S_ 1) (main_v16 : IVec S16x257 1) : IVec S_ 1 :=
  let main_c_5 : IVec S_ 1 := constantI S_ 1 1#1
  let main_v17 : IVec S_ 1 := (fun x v => Host.reduce IntOp.andi x v reducesTo_S16x257_S_d0_1 h_S_) main_v16 main_c_5
  let main_v18 : IVec S_ 1 := andi main_v13 main_v17
  let main_v19 : FVec F S1x8192x2048 .f32 := Host.absf main_arg4
  let main_cst_6 : FVec F S_ .f32 := constant S_ .f32 0x7F800000#32
  let main_v20 : FVec F S1x8192x2048 .f32 := broadcastInDim S1x8192x2048 ![] bcast_S_S1x8192x2048 main_cst_6
  let main_v21 : IVec S1x8192x2048 1 := cmpf .olt main_v19 main_v20
  let main_c_7 : IVec S_ 1 := constantI S_ 1 1#1
  let main_v22 : IVec S_ 1 := (fun x v => Host.reduce IntOp.andi x v reducesTo_S1x8192x2048_S_d0_1_2 h_S_) main_v21 main_c_7
  let main_v23 : IVec S_ 1 := andi main_v18 main_v22
  main_v23

def fn {F : FTy → Type} [FloatOps F] (main_arg0 : FVec F S1x8192x16x128 .f32) (main_arg1 : FVec F S1x8192x16x128 .f32) (main_arg2 : FVec F S1x8192x16x128 .f32) (main_arg3 : FVec F S16x257 .f32) (main_arg4 : FVec F S1x8192x2048 .f32) : IVec S_ 1 :=
  let main_v0 : FVec F S1x8192x16x128 .f32 := Host.absf main_arg0
  let main_cst : FVec F S_ .f32 := constant S_ .f32 0x7F800000#32
  let main_v1 : FVec F S1x8192x16x128 .f32 := broadcastInDim S1x8192x16x128 ![] bcast_S_S1x8192x16x128 main_cst
  let main_v2 : IVec S1x8192x16x128 1 := cmpf .olt main_v0 main_v1
  let main_c : IVec S_ 1 := constantI S_ 1 1#1
  let main_v3 : IVec S_ 1 := (fun x v => Host.reduce IntOp.andi x v reducesTo_S1x8192x16x128_S_d0_1_2_3 h_S_) main_v2 main_c
  let main_v4 : FVec F S1x8192x16x128 .f32 := Host.absf main_arg1
  let main_cst_0 : FVec F S_ .f32 := constant S_ .f32 0x7F800000#32
  let main_v5 : FVec F S1x8192x16x128 .f32 := broadcastInDim S1x8192x16x128 ![] bcast_S_S1x8192x16x128 main_cst_0
  let main_v6 : IVec S1x8192x16x128 1 := cmpf .olt main_v4 main_v5
  let main_c_1 : IVec S_ 1 := constantI S_ 1 1#1
  let main_v7 : IVec S_ 1 := (fun x v => Host.reduce IntOp.andi x v reducesTo_S1x8192x16x128_S_d0_1_2_3 h_S_) main_v6 main_c_1
  let main_v8 : IVec S_ 1 := andi main_v3 main_v7
  let main_v9 : FVec F S1x8192x16x128 .f32 := Host.absf main_arg2
  let main_cst_2 : FVec F S_ .f32 := constant S_ .f32 0x7F800000#32
  let main_v10 : FVec F S1x8192x16x128 .f32 := broadcastInDim S1x8192x16x128 ![] bcast_S_S1x8192x16x128 main_cst_2
  let main_v11 : IVec S1x8192x16x128 1 := cmpf .olt main_v9 main_v10
  let main_c_3 : IVec S_ 1 := constantI S_ 1 1#1
  let main_v12 : IVec S_ 1 := (fun x v => Host.reduce IntOp.andi x v reducesTo_S1x8192x16x128_S_d0_1_2_3 h_S_) main_v11 main_c_3
  let main_v13 : IVec S_ 1 := andi main_v8 main_v12
  let main_v14 : FVec F S16x257 .f32 := Host.absf main_arg3
  let main_cst_4 : FVec F S_ .f32 := constant S_ .f32 0x7F800000#32
  let main_v15 : FVec F S16x257 .f32 := broadcastInDim S16x257 ![] bcast_S_S16x257 main_cst_4
  let main_v16 : IVec S16x257 1 := cmpf .olt main_v14 main_v15
  fn_part1 (F := F) main_arg4 main_v13 main_v16
-- ==== Pre_attna_finite.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S_ : Shape := ⟨0, ![]⟩

class Facts : Prop where
  bcast_S_S1x8192x16x128 : S_.BroadcastsInDim S1x8192x16x128 (![] : Fin 0 → Fin S1x8192x16x128.rank)
  reducesTo_S1x8192x16x128_S_d0_1_2_3 : S1x8192x16x128.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_
  bcast_S_S1x8192x2048 : S_.BroadcastsInDim S1x8192x2048 (![] : Fin 0 → Fin S1x8192x2048.rank)
  reducesTo_S1x8192x2048_S_d0_1_2 : S1x8192x2048.ReducesTo [0, 1, 2] S_

variable [Facts]

def fn_part1 {F : FTy → Type} [FloatOps F] (main_arg4 : FVec F S1x8192x2048 .f32) (main_v13 : IVec S_ 1) (main_v16 : IVec S16x257 1) : IVec S_ 1 :=
  let main_c_5 : IVec S_ 1 := constantI S_ 1 1#1
  let main_v17 : IVec S_ 1 := (fun x v => Host.reduce IntOp.andi x v reducesTo_S16x257_S_d0_1 h_S_) main_v16 main_c_5
  let main_v18 : IVec S_ 1 := andi main_v13 main_v17
  let main_v19 : FVec F S1x8192x2048 .f32 := Host.absf main_arg4
  let main_cst_6 : FVec F S_ .f32 := constant S_ .f32 0x7F800000#32
  let main_v20 : FVec F S1x8192x2048 .f32 := broadcastInDim S1x8192x2048 ![] bcast_S_S1x8192x2048 main_cst_6
  let main_v21 : IVec S1x8192x2048 1 := cmpf .olt main_v19 main_v20
  let main_c_7 : IVec S_ 1 := constantI S_ 1 1#1
  let main_v22 : IVec S_ 1 := (fun x v => Host.reduce IntOp.andi x v reducesTo_S1x8192x2048_S_d0_1_2 h_S_) main_v21 main_c_7
  let main_v23 : IVec S_ 1 := andi main_v18 main_v22
  main_v23

def fn {F : FTy → Type} [FloatOps F] (main_arg0 : FVec F S1x8192x16x128 .f32) (main_arg1 : FVec F S1x8192x16x128 .f32) (main_arg2 : FVec F S1x8192x16x128 .f32) (main_arg3 : FVec F S16x257 .f32) (main_arg4 : FVec F S1x8192x2048 .f32) (main_arg5 : FVec F S1x8192x16x128 .f32) (main_arg6 : FVec F S1x8192x16x128 .f32) : IVec S_ 1 :=
  let main_v0 : FVec F S1x8192x16x128 .f32 := Host.absf main_arg0
  let main_cst : FVec F S_ .f32 := constant S_ .f32 0x7F800000#32
  let main_v1 : FVec F S1x8192x16x128 .f32 := broadcastInDim S1x8192x16x128 ![] bcast_S_S1x8192x16x128 main_cst
  let main_v2 : IVec S1x8192x16x128 1 := cmpf .olt main_v0 main_v1
  let main_c : IVec S_ 1 := constantI S_ 1 1#1
  let main_v3 : IVec S_ 1 := (fun x v => Host.reduce IntOp.andi x v reducesTo_S1x8192x16x128_S_d0_1_2_3 h_S_) main_v2 main_c
  let main_v4 : FVec F S1x8192x16x128 .f32 := Host.absf main_arg1
  let main_cst_0 : FVec F S_ .f32 := constant S_ .f32 0x7F800000#32
  let main_v5 : FVec F S1x8192x16x128 .f32 := broadcastInDim S1x8192x16x128 ![] bcast_S_S1x8192x16x128 main_cst_0
  let main_v6 : IVec S1x8192x16x128 1 := cmpf .olt main_v4 main_v5
  let main_c_1 : IVec S_ 1 := constantI S_ 1 1#1
  let main_v7 : IVec S_ 1 := (fun x v => Host.reduce IntOp.andi x v reducesTo_S1x8192x16x128_S_d0_1_2_3 h_S_) main_v6 main_c_1
  let main_v8 : IVec S_ 1 := andi main_v3 main_v7
  let main_v9 : FVec F S1x8192x16x128 .f32 := Host.absf main_arg2
  let main_cst_2 : FVec F S_ .f32 := constant S_ .f32 0x7F800000#32
  let main_v10 : FVec F S1x8192x16x128 .f32 := broadcastInDim S1x8192x16x128 ![] bcast_S_S1x8192x16x128 main_cst_2
  let main_v11 : IVec S1x8192x16x128 1 := cmpf .olt main_v9 main_v10
  let main_c_3 : IVec S_ 1 := constantI S_ 1 1#1
  let main_v12 : IVec S_ 1 := (fun x v => Host.reduce IntOp.andi x v reducesTo_S1x8192x16x128_S_d0_1_2_3 h_S_) main_v11 main_c_3
  let main_v13 : IVec S_ 1 := andi main_v8 main_v12
  let main_v14 : FVec F S16x257 .f32 := Host.absf main_arg3
  let main_cst_4 : FVec F S_ .f32 := constant S_ .f32 0x7F800000#32
  let main_v15 : FVec F S16x257 .f32 := broadcastInDim S16x257 ![] bcast_S_S16x257 main_cst_4
  let main_v16 : IVec S16x257 1 := cmpf .olt main_v14 main_v15
  fn_part1 (F := F) main_arg4 main_v13 main_v16
-- ==== Pre_attnf_finite.lean ====
abbrev S1x8192x16x128 : Shape := ⟨4, ![1, 8192, 16, 128]⟩
abbrev S16x257 : Shape := ⟨2, ![16, 257]⟩
abbrev S_ : Shape := ⟨0, ![]⟩

class Facts : Prop where
  bcast_S_S1x8192x16x128 : S_.BroadcastsInDim S1x8192x16x128 (![] : Fin 0 → Fin S1x8192x16x128.rank)
  reducesTo_S1x8192x16x128_S_d0_1_2_3 : S1x8192x16x128.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn_part1 {F : FTy → Type} [FloatOps F] (main_v13 : IVec S_ 1) (main_v16 : IVec S16x257 1) : IVec S_ 1 :=
  let main_c_5 : IVec S_ 1 := constantI S_ 1 1#1
  let main_v17 : IVec S_ 1 := (fun x v => Host.reduce IntOp.andi x v reducesTo_S16x257_S_d0_1 h_S_) main_v16 main_c_5
  let main_v18 : IVec S_ 1 := andi main_v13 main_v17
  main_v18

def fn {F : FTy → Type} [FloatOps F] (main_arg0 : FVec F S1x8192x16x128 .f32) (main_arg1 : FVec F S1x8192x16x128 .f32) (main_arg2 : FVec F S1x8192x16x128 .f32) (main_arg3 : FVec F S16x257 .f32) : IVec S_ 1 :=
  let main_v0 : FVec F S1x8192x16x128 .f32 := Host.absf main_arg0
  let main_cst : FVec F S_ .f32 := constant S_ .f32 0x7F800000#32
  let main_v1 : FVec F S1x8192x16x128 .f32 := broadcastInDim S1x8192x16x128 ![] bcast_S_S1x8192x16x128 main_cst
  let main_v2 : IVec S1x8192x16x128 1 := cmpf .olt main_v0 main_v1
  let main_c : IVec S_ 1 := constantI S_ 1 1#1
  let main_v3 : IVec S_ 1 := (fun x v => Host.reduce IntOp.andi x v reducesTo_S1x8192x16x128_S_d0_1_2_3 h_S_) main_v2 main_c
  let main_v4 : FVec F S1x8192x16x128 .f32 := Host.absf main_arg1
  let main_cst_0 : FVec F S_ .f32 := constant S_ .f32 0x7F800000#32
  let main_v5 : FVec F S1x8192x16x128 .f32 := broadcastInDim S1x8192x16x128 ![] bcast_S_S1x8192x16x128 main_cst_0
  let main_v6 : IVec S1x8192x16x128 1 := cmpf .olt main_v4 main_v5
  let main_c_1 : IVec S_ 1 := constantI S_ 1 1#1
  let main_v7 : IVec S_ 1 := (fun x v => Host.reduce IntOp.andi x v reducesTo_S1x8192x16x128_S_d0_1_2_3 h_S_) main_v6 main_c_1
  let main_v8 : IVec S_ 1 := andi main_v3 main_v7
  let main_v9 : FVec F S1x8192x16x128 .f32 := Host.absf main_arg2
  let main_cst_2 : FVec F S_ .f32 := constant S_ .f32 0x7F800000#32
  let main_v10 : FVec F S1x8192x16x128 .f32 := broadcastInDim S1x8192x16x128 ![] bcast_S_S1x8192x16x128 main_cst_2
  let main_v11 : IVec S1x8192x16x128 1 := cmpf .olt main_v9 main_v10
  let main_c_3 : IVec S_ 1 := constantI S_ 1 1#1
  let main_v12 : IVec S_ 1 := (fun x v => Host.reduce IntOp.andi x v reducesTo_S1x8192x16x128_S_d0_1_2_3 h_S_) main_v11 main_c_3
  let main_v13 : IVec S_ 1 := andi main_v8 main_v12
  let main_v14 : FVec F S16x257 .f32 := Host.absf main_arg3
  let main_cst_4 : FVec F S_ .f32 := constant S_ .f32 0x7F800000#32
  let main_v15 : FVec F S16x257 .f32 := broadcastInDim S16x257 ![] bcast_S_S16x257 main_cst_4
  let main_v16 : IVec S16x257 1 := cmpf .olt main_v14 main_v15
  fn_part1 (F := F) main_v13 main_v16
-- ==== Pre_gate_finite.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024 .f32) (main_arg5 : FVec F S8192x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S2048 .f32) (main_arg3 : FVec F S2048x1024 .f32) (main_arg4 : FVec F S1024 .f32) (main_arg5 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_gatew_finite.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024 .f32) (main_arg5 : FVec F S8192x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S2048 .f32) (main_arg3 : FVec F S2048x1024 .f32) (main_arg4 : FVec F S1024 .f32) (main_arg5 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_norm_finite.lean ====
abbrev S8192x1024 : Shape := ⟨2, ![8192, 1024]⟩
abbrev S1024 : Shape := ⟨1, ![1024]⟩
abbrev S1024x4096 : Shape := ⟨2, ![1024, 4096]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg5 : FVec F S8192x2048 .f32) (main_arg6 : FVec F S8192x2048 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg6
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024 .f32) (main_arg3 : FVec F S1024 .f32) (main_arg4 : FVec F S1024x4096 .f32) (main_arg5 : FVec F S8192x2048 .f32) (main_arg6 : FVec F S8192x2048 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg5 main_arg6 main_v13 main_v16
-- ==== Pre_pool_finite.lean ====
abbrev S8192x2048 : Shape := ⟨2, ![8192, 2048]⟩
abbrev S4x512x512 : Shape := ⟨3, ![4, 512, 512]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x2048 .f32) (main_arg1 : FVec F S4x512x512 .f32) (main_arg2 : FVec F S8192x2048 .f32) : IVec S_ 1 :=
  let main_v0 : FVec F S4x512x512 .f32 := Host.absf main_arg1
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S8192x2048 .f32 := Host.absf main_arg2
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Attn.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S8192x2048 : Shape := ⟨2, ![8192, 2048]⟩
abbrev S_ : Shape := ⟨0, ![]⟩
abbrev S8704x2048 : Shape := ⟨2, ![8704, 2048]⟩
abbrev S5 : Shape := ⟨1, ![5]⟩
abbrev S640 : Shape := ⟨1, ![640]⟩
abbrev S128 : Shape := ⟨1, ![128]⟩
abbrev S1x128 : Shape := ⟨2, ![1, 128]⟩
abbrev S640x1 : Shape := ⟨2, ![640, 1]⟩
abbrev S640x128 : Shape := ⟨2, ![640, 128]⟩
abbrev S640x128x1 : Shape := ⟨3, ![640, 128, 1]⟩
abbrev S16x640x128 : Shape := ⟨3, ![16, 640, 128]⟩
abbrev S1x640 : Shape := ⟨2, ![1, 640]⟩
abbrev S5x1 : Shape := ⟨2, ![5, 1]⟩
abbrev S5x640 : Shape := ⟨2, ![5, 640]⟩
abbrev S1x640x128 : Shape := ⟨3, ![1, 640, 128]⟩
abbrev S5x640x1 : Shape := ⟨3, ![5, 640, 1]⟩
abbrev S5x640x128 : Shape := ⟨3, ![5, 640, 128]⟩
abbrev S1x5x640x128 : Shape := ⟨4, ![1, 5, 640, 128]⟩
abbrev S16x1x640x128 : Shape := ⟨4, ![16, 1, 640, 128]⟩
abbrev S16x5x640x128 : Shape := ⟨4, ![16, 5, 640, 128]⟩
abbrev S4096x128 : Shape := ⟨2, ![4096, 128]⟩
abbrev S8704x128 : Shape := ⟨2, ![8704, 128]⟩
abbrev S128x128 : Shape := ⟨2, ![128, 128]⟩
abbrev S1x1x640x128 : Shape := ⟨4, ![1, 1, 640, 128]⟩
abbrev S128x256 : Shape := ⟨2, ![128, 256]⟩
abbrev S256x128 : Shape := ⟨2, ![256, 128]⟩
abbrev S128x384 : Shape := ⟨2, ![128, 384]⟩
abbrev S384x128 : Shape := ⟨2, ![384, 128]⟩
abbrev S128x512 : Shape := ⟨2, ![128, 512]⟩
abbrev S512x128 : Shape := ⟨2, ![512, 128]⟩
abbrev S128x640 : Shape := ⟨2, ![128, 640]⟩

abbrev nBuf : Space → Nat
  | .hbm => 96
  | .vmem => 18
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16x128, .f32⟩
  | .hbm, ⟨3, _⟩ => ⟨S16x257, .f32⟩
  | .hbm, ⟨4, _⟩ => ⟨S1x8192x2048, .f32⟩
  | .hbm, ⟨5, _⟩ => ⟨S1x8192x16x128, .bf16⟩
  | .hbm, ⟨6, _⟩ => ⟨S8192x2048, .bf16⟩
  | .hbm, ⟨7, _⟩ => ⟨S1x8192x16x128, .bf16⟩
  | .hbm, ⟨8, _⟩ => ⟨S8192x2048, .bf16⟩
  | .hbm, ⟨9, _⟩ => ⟨S_, .i32⟩
  | .hbm, ⟨10, _⟩ => ⟨S_, .bf16⟩
  | .hbm, ⟨11, _⟩ => ⟨S8704x2048, .bf16⟩
  | .hbm, ⟨12, _⟩ => ⟨S1x8192x16x128, .bf16⟩
  | .hbm, ⟨13, _⟩ => ⟨S8192x2048, .bf16⟩
  | .hbm, ⟨14, _⟩ => ⟨S_, .i32⟩
  | .hbm, ⟨15, _⟩ => ⟨S_, .bf16⟩
  | .hbm, ⟨16, _⟩ => ⟨S8704x2048, .bf16⟩
  | .hbm, ⟨17, _⟩ => ⟨S1x8192x2048, .bf16⟩
  | .hbm, ⟨18, _⟩ => ⟨S8192x2048, .bf16⟩
  | .hbm, ⟨19, _⟩ => ⟨S5, .i32⟩
  | .hbm, ⟨20, _⟩ => ⟨S640, .i32⟩
  | .hbm, ⟨21, _⟩ => ⟨S128, .i32⟩
  | .hbm, ⟨22, _⟩ => ⟨S1x128, .i32⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S640x1, .i32⟩
  | .hbm, ⟨27, _⟩ => ⟨S640x128, .i32⟩
  | .hbm, ⟨28, _⟩ => ⟨S640x128, .i32⟩
  | .hbm, ⟨29, _⟩ => ⟨S640x128, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S640x128, .i32⟩
  | .hbm, ⟨34, _⟩ => ⟨S640x128, .i32⟩
  | .hbm, ⟨35, _⟩ => ⟨S_, .i32⟩
  | .hbm, ⟨36, _⟩ => ⟨S640x128, .i32⟩
  | .hbm, ⟨37, _⟩ => ⟨S640x128, .i32⟩
  | .hbm, ⟨38, _⟩ => ⟨S_, .i32⟩
  | .hbm, ⟨39, _⟩ => ⟨S640x128, .i32⟩
  | .hbm, ⟨40, _⟩ => ⟨S640x128, .i32⟩
  | .hbm, ⟨41, _⟩ => ⟨S_, .i32⟩
  | .hbm, ⟨42, _⟩ => ⟨S640x128, .i32⟩
  | .hbm, ⟨43, _⟩ => ⟨S640x128, .i1⟩
  | .hbm, ⟨44, _⟩ => ⟨S_, .i32⟩
  | .hbm, ⟨45, _⟩ => ⟨S640x128, .i32⟩
  | .hbm, ⟨46, _⟩ => ⟨S640x128, .i32⟩
  | .hbm, ⟨47, _⟩ => ⟨S640x128, .i32⟩
  | .hbm, ⟨48, _⟩ => ⟨S640x128x1, .i32⟩
  | .hbm, ⟨49, _⟩ => ⟨S16x640x128, .f32⟩
  | .hbm, ⟨50, _⟩ => ⟨S_, .i32⟩
  | .hbm, ⟨51, _⟩ => ⟨S640, .i32⟩
  | .hbm, ⟨52, _⟩ => ⟨S640, .i32⟩
  | .hbm, ⟨53, _⟩ => ⟨S640x1, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S1x128, .i32⟩
  | .hbm, ⟨58, _⟩ => ⟨S640x128, .i32⟩
  | .hbm, ⟨59, _⟩ => ⟨S640x128, .i32⟩
  | .hbm, ⟨60, _⟩ => ⟨S640x128, .i32⟩
  | .hbm, ⟨61, _⟩ => ⟨S_, .i32⟩
  | .hbm, ⟨62, _⟩ => ⟨S640x128, .i32⟩
  | .hbm, ⟨63, _⟩ => ⟨S640x128, .i1⟩
  | .hbm, ⟨64, _⟩ => ⟨S_, .i32⟩
  | .hbm, ⟨65, _⟩ => ⟨S640x128, .i32⟩
  | .hbm, ⟨66, _⟩ => ⟨S640x128, .i1⟩
  | .hbm, ⟨67, _⟩ => ⟨S640x128, .i1⟩
  | .hbm, ⟨68, _⟩ => ⟨S1x640, .i32⟩
  | .hbm, ⟨69, _⟩ => ⟨S5x1, .i32⟩
  | .hbm, ⟨70, _⟩ => ⟨S_, .i32⟩
  | .hbm, ⟨71, _⟩ => ⟨S5x1, .i32⟩
  | .hbm, ⟨72, _⟩ => ⟨S5x1, .i32⟩
  | .hbm, ⟨73, _⟩ => ⟨S_, .i32⟩
  | .hbm, ⟨74, _⟩ => ⟨S5x1, .i32⟩
  | .hbm, ⟨75, _⟩ => ⟨S5x1, .i32⟩
  | .hbm, ⟨76, _⟩ => ⟨S5x640, .i32⟩
  | .hbm, ⟨77, _⟩ => ⟨S5x640, .i32⟩
  | .hbm, ⟨78, _⟩ => ⟨S5x640, .i1⟩
  | .hbm, ⟨79, _⟩ => ⟨S1x640x128, .i1⟩
  | .hbm, ⟨80, _⟩ => ⟨S5x640x1, .i1⟩
  | .hbm, ⟨81, _⟩ => ⟨S5x640x128, .i1⟩
  | .hbm, ⟨82, _⟩ => ⟨S5x640x128, .i1⟩
  | .hbm, ⟨83, _⟩ => ⟨S5x640x128, .i1⟩
  | .hbm, ⟨84, _⟩ => ⟨S1x5x640x128, .i1⟩
  | .hbm, ⟨85, _⟩ => ⟨S16x1x640x128, .f32⟩
  | .hbm, ⟨86, _⟩ => ⟨S_, .f32⟩
  | .hbm, ⟨87, _⟩ => ⟨S_, .f32⟩
  | .hbm, ⟨88, _⟩ => ⟨S16x5x640x128, .i1⟩
  | .hbm, ⟨89, _⟩ => ⟨S16x5x640x128, .f32⟩
  | .hbm, ⟨90, _⟩ => ⟨S16x5x640x128, .f32⟩
  | .hbm, ⟨91, _⟩ => ⟨S16x5x640x128, .f32⟩
  | .hbm, ⟨92, _⟩ => ⟨S8192x2048, .bf16⟩
  | .hbm, ⟨93, _⟩ => ⟨S8704x2048, .f32⟩
  | .hbm, ⟨94, _⟩ => ⟨S8704x2048, .f32⟩
  | .hbm, ⟨95, _⟩ => ⟨S16x5x640x128, .f32⟩
  | .local _ .vmem, ⟨0, _⟩ => ⟨S4096x128, .bf16⟩
  | .local _ .vmem, ⟨1, _⟩ => ⟨S4096x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S4096x128, .bf16⟩
  | .local _ .vmem, ⟨7, _⟩ => ⟨S4096x128, .bf16⟩
  | .local _ .vmem, ⟨8, _⟩ => ⟨S1x5x640x128, .f32⟩
  | .local _ .vmem, ⟨9, _⟩ => ⟨S1x5x640x128, .f32⟩
  | .local _ .vmem, ⟨10, _⟩ => ⟨S4096x128, .bf16⟩
  | .local _ .vmem, ⟨11, _⟩ => ⟨S4096x128, .bf16⟩
  | .local _ .vmem, ⟨12, _⟩ => ⟨S8704x128, .f32⟩
  | .local _ .vmem, ⟨13, _⟩ => ⟨S8704x128, .f32⟩
  | .local _ .vmem, ⟨14, _⟩ => ⟨S8704x128, .f32⟩
  | .local _ .vmem, ⟨15, _⟩ => ⟨S8704x128, .f32⟩
  | .local _ .vmem, ⟨16, _⟩ => ⟨S1x5x640x128, .f32⟩
  | .local _ .vmem, ⟨17, _⟩ => ⟨S1x5x640x128, .f32⟩
  | _, _ => ⟨S1x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_v60 : Ref sig .tc := ⟨.hbm, 91, rfl⟩
abbrev main_v61_0 : Ref sig .tc := ⟨.hbm, 92, rfl⟩
abbrev main_v61_1 : Ref sig .tc := ⟨.hbm, 93, rfl⟩
abbrev main_v61_2 : Ref sig .tc := ⟨.hbm, 94, rfl⟩
abbrev main_v61_3 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  let c0_i32_1 : BitVec 32 := 0#32
  let v4 : BitVec 32 := Scalar.addi v0 c0_i32_1
  let c128_i32 : BitVec 32 := 128#32
  let v5 : BitVec 32 := Scalar.muli v4 c128_i32
  v5
def k0_mult2 (i : grid0.Coords) : BitVec 32 :=
  let arg1 : BitVec 32 := BitVec.ofNat 32 (i 1).val
  let c32_i32 : BitVec 32 := 32#32
  let v0 : BitVec 32 := Scalar.muli arg1 c32_i32
  let c1_i32 : BitVec 32 := 1#32
  let v7 : BitVec 32 := Scalar.addi v0 c1_i32
  let c128_i32_2 : BitVec 32 := 128#32
  let v8 : BitVec 32 := Scalar.muli v7 c128_i32_2
  v8
def k0_mult3 (i : grid0.Coords) : BitVec 32 :=
  let arg1 : BitVec 32 := BitVec.ofNat 32 (i 1).val
  let c32_i32 : BitVec 32 := 32#32
  let v0 : BitVec 32 := Scalar.muli arg1 c32_i32
  let c2_i32 : BitVec 32 := 2#32
  let v10 : BitVec 32 := Scalar.addi v0 c2_i32
  let c128_i32_3 : BitVec 32 := 128#32
  let v11 : BitVec 32 := Scalar.muli v10 c128_i32_3
  v11
def k0_mult4 (i : grid0.Coords) : BitVec 32 :=
  let arg1 : BitVec 32 := BitVec.ofNat 32 (i 1).val
  let c32_i32 : BitVec 32 := 32#32
  let v0 : BitVec 32 := Scalar.muli arg1 c32_i32
  let c3_i32 : BitVec 32 := 3#32
  let v13 : BitVec 32 := Scalar.addi v0 c3_i32
  let c128_i32_4 : BitVec 32 := 128#32
  let v14 : BitVec 32 := Scalar.muli v13 c128_i32_4
  v14
def k0_mult5 (i : grid0.Coords) : BitVec 32 :=
  let arg1 : BitVec 32 := BitVec.ofNat 32 (i 1).val
  let c32_i32 : BitVec 32 := 32#32
  let v0 : BitVec 32 := Scalar.muli arg1 c32_i32
  let c4_i32 : BitVec 32 := 4#32
  let v16 : BitVec 32 := Scalar.addi v0 c4_i32
  let c128_i32_5 : BitVec 32 := 128#32
  let v17 : BitVec 32 := Scalar.muli v16 c128_i32_5
  v17
def k0_mult6 (i : grid0.Coords) : BitVec 32 :=
  let arg1 : BitVec 32 := BitVec.ofNat 32 (i 1).val
  let c32_i32 : BitVec 32 := 32#32
  let v0 : BitVec 32 := Scalar.muli arg1 c32_i32
  let c5_i32 : BitVec 32 := 5#32
  let v19 : BitVec 32 := Scalar.addi v0 c5_i32
  let c128_i32_6 : BitVec 32 := 128#32
  let v20 : BitVec 32 := Scalar.muli v19 c128_i32_6
  v20
def k0_mult7 (i : grid0.Coords) : BitVec 32 :=
  let arg1 : BitVec 32 := BitVec.ofNat 32 (i 1).val
  let c32_i32 : BitVec 32 := 32#32
  let v0 : BitVec 32 := Scalar.muli arg1 c32_i32
  let c6_i32 : BitVec 32 := 6#32
  let v22 : BitVec 32 := Scalar.addi v0 c6_i32
  let c128_i32_7 : BitVec 32 := 128#32
  let v23 : BitVec 32 := Scalar.muli v22 c128_i32_7
  v23
def k0_mult8 (i : grid0.Coords) : BitVec 32 :=
  let arg1 : BitVec 32 := BitVec.ofNat 32 (i 1).val
  let c32_i32 : BitVec 32 := 32#32
  let v0 : BitVec 32 := Scalar.muli arg1 c32_i32
  let c7_i32 : BitVec 32 := 7#32
  let v25 : BitVec 32 := Scalar.addi v0 c7_i32
  let c128_i32_8 : BitVec 32 := 128#32
  let v26 : BitVec 32 := Scalar.muli v25 c128_i32_8
  v26
def k0_mult9 (i : grid0.Coords) : BitVec 32 :=
  let arg1 : BitVec 32 := BitVec.ofNat 32 (i 1).val
  let c32_i32 : BitVec 32 := 32#32
  let v0 : BitVec 32 := Scalar.muli arg1 c32_i32
  let c8_i32 : BitVec 32 := 8#32
  let v28 : BitVec 32 := Scalar.addi v0 c8_i32
  let c128_i32_9 : BitVec 32 := 128#32
  let v29 : BitVec 32 := Scalar.muli v28 c128_i32_9
  v29
def k0_mult10 (i : grid0.Coords) : BitVec 32 :=
  let arg1 : BitVec 32 := BitVec.ofNat 32 (i 1).val
  let c32_i32 : BitVec 32 := 32#32
  let v0 : BitVec 32 := Scalar.muli arg1 c32_i32
  let c9_i32 : BitVec 32 := 9#32
  let v31 : BitVec 32 := Scalar.addi v0 c9_i32
  let c128_i32_10 : BitVec 32 := 128#32
  let v32 : BitVec 32 := Scalar.muli v31 c128_i32_10
  v32
def k0_mult11 (i : grid0.Coords) : BitVec 32 :=
  let arg1 : BitVec 32 := BitVec.ofNat 32 (i 1).val
  let c32_i32 : BitVec 32 := 32#32
  let v0 : BitVec 32 := Scalar.muli arg1 c32_i32
  let c10_i32 : BitVec 32 := 10#32
  let v34 : BitVec 32 := Scalar.addi v0 c10_i32
  let c128_i32_11 : BitVec 32 := 128#32
  let v35 : BitVec 32 := Scalar.muli v34 c128_i32_11
  v35
def k0_mult12 (i : grid0.Coords) : BitVec 32 :=
  let arg1 : BitVec 32 := BitVec.ofNat 32 (i 1).val
  let c32_i32 : BitVec 32 := 32#32
  let v0 : BitVec 32 := Scalar.muli arg1 c32_i32
  let c11_i32 : BitVec 32 := 11#32
  let v37 : BitVec 32 := Scalar.addi v0 c11_i32
  let c128_i32_12 : BitVec 32 := 128#32
  let v38 : BitVec 32 := Scalar.muli v37 c128_i32_12
  v38
def k0_mult13 (i : grid0.Coords) : BitVec 32 :=
  let arg1 : BitVec 32 := BitVec.ofNat 32 (i 1).val
  let c32_i32 : BitVec 32 := 32#32
  let v0 : BitVec 32 := Scalar.muli arg1 c32_i32
  let c12_i32 : BitVec 32 := 12#32
  let v40 : BitVec 32 := Scalar.addi v0 c12_i32
  let c128_i32_13 : BitVec 32 := 128#32
  let v41 : BitVec 32 := Scalar.muli v40 c128_i32_13
  v41
def k0_mult14 (i : grid0.Coords) : BitVec 32 :=
  let arg1 : BitVec 32 := BitVec.ofNat 32 (i 1).val
  let c32_i32 : BitVec 32 := 32#32
  let v0 : BitVec 32 := Scalar.muli arg1 c32_i32
  let c13_i32 : BitVec 32 := 13#32
  let v43 : BitVec 32 := Scalar.addi v0 c13_i32
  let c128_i32_14 : BitVec 32 := 128#32
  let v44 : BitVec 32 := Scalar.muli v43 c128_i32_14
  v44
def k0_mult15 (i : grid0.Coords) : BitVec 32 :=
  let arg1 : BitVec 32 := BitVec.ofNat 32 (i 1).val
  let c32_i32 : BitVec 32 := 32#32
  let v0 : BitVec 32 := Scalar.muli arg1 c32_i32
  let c14_i32 : BitVec 32 := 14#32
  let v46 : BitVec 32 := Scalar.addi v0 c14_i32
  let c128_i32_15 : BitVec 32 := 128#32
  let v47 : BitVec 32 := Scalar.muli v46 c128_i32_15
  v47
def k0_mult16 (i : grid0.Coords) : BitVec 32 :=
  let arg1 : BitVec 32 := BitVec.ofNat 32 (i 1).val
  let c32_i32 : BitVec 32 := 32#32
  let v0 : BitVec 32 := Scalar.muli arg1 c32_i32
  let c15_i32 : BitVec 32 := 15#32
  let v49 : BitVec 32 := Scalar.addi v0 c15_i32
  let c128_i32_16 : BitVec 32 := 128#32
  let v50 : BitVec 32 := Scalar.muli v49 c128_i32_16
  v50
def k0_mult17 (i : grid0.Coords) : BitVec 32 :=
  let arg1 : BitVec 32 := BitVec.ofNat 32 (i 1).val
  let c32_i32 : BitVec 32 := 32#32
  let v0 : BitVec 32 := Scalar.muli arg1 c32_i32
  let c16_i32 : BitVec 32 := 16#32
  let v52 : BitVec 32 := Scalar.addi v0 c16_i32
  let c128_i32_17 : BitVec 32 := 128#32
  let v53 : BitVec 32 := Scalar.muli v52 c128_i32_17
  v53
def k0_mult18 (i : grid0.Coords) : BitVec 32 :=
  let arg1 : BitVec 32 := BitVec.ofNat 32 (i 1).val
  let c32_i32 : BitVec 32 := 32#32
  let v0 : BitVec 32 := Scalar.muli arg1 c32_i32
  let c17_i32 : BitVec 32 := 17#32
  let v55 : BitVec 32 := Scalar.addi v0 c17_i32
  let c128_i32_18 : BitVec 32 := 128#32
  let v56 : BitVec 32 := Scalar.muli v55 c128_i32_18
  v56
def k0_mult19 (i : grid0.Coords) : BitVec 32 :=
  let arg1 : BitVec 32 := BitVec.ofNat 32 (i 1).val
  let c32_i32 : BitVec 32 := 32#32
  let v0 : BitVec 32 := Scalar.muli arg1 c32_i32
  let c18_i32 : BitVec 32 := 18#32
  let v58 : BitVec 32 := Scalar.addi v0 c18_i32
  let c128_i32_19 : BitVec 32 := 128#32
  let v59 : BitVec 32 := Scalar.muli v58 c128_i32_19
  v59
def k0_mult20 (i : grid0.Coords) : BitVec 32 :=
  let arg1 : BitVec 32 := BitVec.ofNat 32 (i 1).val
  let c32_i32 : BitVec 32 := 32#32
  let v0 : BitVec 32 := Scalar.muli arg1 c32_i32
  let c19_i32 : BitVec 32 := 19#32
  let v61 : BitVec 32 := Scalar.addi v0 c19_i32
  let c128_i32_20 : BitVec 32 := 128#32
  let v62 : BitVec 32 := Scalar.muli v61 c128_i32_20
  v62
def k0_mult21 (i : grid0.Coords) : BitVec 32 :=
  let arg1 : BitVec 32 := BitVec.ofNat 32 (i 1).val
  let c32_i32 : BitVec 32 := 32#32
  let v0 : BitVec 32 := Scalar.muli arg1 c32_i32
  let c20_i32 : BitVec 32 := 20#32
  let v64 : BitVec 32 := Scalar.addi v0 c20_i32
  let c128_i32_21 : BitVec 32 := 128#32
  let v65 : BitVec 32 := Scalar.muli v64 c128_i32_21
  v65
def k0_mult22 (i : grid0.Coords) : BitVec 32 :=
  let arg1 : BitVec 32 := BitVec.ofNat 32 (i 1).val
  let c32_i32 : BitVec 32 := 32#32
  let v0 : BitVec 32 := Scalar.muli arg1 c32_i32
  let c21_i32 : BitVec 32 := 21#32
  let v67 : BitVec 32 := Scalar.addi v0 c21_i32
  let c128_i32_22 : BitVec 32 := 128#32
  let v68 : BitVec 32 := Scalar.muli v67 c128_i32_22
  v68
def k0_mult23 (i : grid0.Coords) : BitVec 32 :=
  let arg1 : BitVec 32 := BitVec.ofNat 32 (i 1).val
  let c32_i32 : BitVec 32 := 32#32
  let v0 : BitVec 32 := Scalar.muli arg1 c32_i32
  let c22_i32 : BitVec 32 := 22#32
  let v70 : BitVec 32 := Scalar.addi v0 c22_i32
  let c128_i32_23 : BitVec 32 := 128#32
  let v71 : BitVec 32 := Scalar.muli v70 c128_i32_23
  v71
def k0_mult24 (i : grid0.Coords) : BitVec 32 :=
  let arg1 : BitVec 32 := BitVec.ofNat 32 (i 1).val
  let c32_i32 : BitVec 32 := 32#32
  let v0 : BitVec 32 := Scalar.muli arg1 c32_i32
  let c23_i32 : BitVec 32 := 23#32
  let v73 : BitVec 32 := Scalar.addi v0 c23_i32
  let c128_i32_24 : BitVec 32 := 128#32
  let v74 : BitVec 32 := Scalar.muli v73 c128_i32_24
  v74
def k0_mult25 (i : grid0.Coords) : BitVec 32 :=
  let arg1 : BitVec 32 := BitVec.ofNat 32 (i 1).val
  let c32_i32 : BitVec 32 := 32#32
  let v0 : BitVec 32 := Scalar.muli arg1 c32_i32
  let c24_i32 : BitVec 32 := 24#32
  let v76 : BitVec 32 := Scalar.addi v0 c24_i32
  let c128_i32_25 : BitVec 32 := 128#32
  let v77 : BitVec 32 := Scalar.muli v76 c128_i32_25
  v77
def k0_mult26 (i : grid0.Coords) : BitVec 32 :=
  let arg1 : BitVec 32 := BitVec.ofNat 32 (i 1).val
  let c32_i32 : BitVec 32 := 32#32
  let v0 : BitVec 32 := Scalar.muli arg1 c32_i32
  let c25_i32 : BitVec 32 := 25#32
  let v79 : BitVec 32 := Scalar.addi v0 c25_i32
  let c128_i32_26 : BitVec 32 := 128#32
  let v80 : BitVec 32 := Scalar.muli v79 c128_i32_26
  v80
def k0_mult27 (i : grid0.Coords) : BitVec 32 :=
  let arg1 : BitVec 32 := BitVec.ofNat 32 (i 1).val
  let c32_i32 : BitVec 32 := 32#32
  let v0 : BitVec 32 := Scalar.muli arg1 c32_i32
  let c26_i32 : BitVec 32 := 26#32
  let v82 : BitVec 32 := Scalar.addi v0 c26_i32
  let c128_i32_27 : BitVec 32 := 128#32
  let v83 : BitVec 32 := Scalar.muli v82 c128_i32_27
  v83
def k0_mult28 (i : grid0.Coords) : BitVec 32 :=
  let arg1 : BitVec 32 := BitVec.ofNat 32 (i 1).val
  let c32_i32 : BitVec 32 := 32#32
  let v0 : BitVec 32 := Scalar.muli arg1 c32_i32
  let c27_i32 : BitVec 32 := 27#32
  let v85 : BitVec 32 := Scalar.addi v0 c27_i32
  let c128_i32_28 : BitVec 32 := 128#32
  let v86 : BitVec 32 := Scalar.muli v85 c128_i32_28
  v86
def k0_mult29 (i : grid0.Coords) : BitVec 32 :=
  let arg1 : BitVec 32 := BitVec.ofNat 32 (i 1).val
  let c32_i32 : BitVec 32 := 32#32
  let v0 : BitVec 32 := Scalar.muli arg1 c32_i32
  let c28_i32 : BitVec 32 := 28#32
  let v88 : BitVec 32 := Scalar.addi v0 c28_i32
  let c128_i32_29 : BitVec 32 := 128#32
  let v89 : BitVec 32 := Scalar.muli v88 c128_i32_29
  v89
def k0_mult30 (i : grid0.Coords) : BitVec 32 :=
  let arg1 : BitVec 32 := BitVec.ofNat 32 (i 1).val
  let c32_i32 : BitVec 32 := 32#32
  let v0 : BitVec 32 := Scalar.muli arg1 c32_i32
  let c29_i32 : BitVec 32 := 29#32
  let v91 : BitVec 32 := Scalar.addi v0 c29_i32
  let c128_i32_30 : BitVec 32 := 128#32
  let v92 : BitVec 32 := Scalar.muli v91 c128_i32_30
  v92
def k0_mult31 (i : grid0.Coords) : BitVec 32 :=
  let arg1 : BitVec 32 := BitVec.ofNat 32 (i 1).val
  let c32_i32 : BitVec 32 := 32#32
  let v0 : BitVec 32 := Scalar.muli arg1 c32_i32
  let c30_i32 : BitVec 32 := 30#32
  let v94 : BitVec 32 := Scalar.addi v0 c30_i32
  let c128_i32_31 : BitVec 32 := 128#32
  let v95 : BitVec 32 := Scalar.muli v94 c128_i32_31
  v95
def k0_mult32 (i : grid0.Coords) : BitVec 32 :=
  let arg1 : BitVec 32 := BitVec.ofNat 32 (i 1).val
  let c32_i32 : BitVec 32 := 32#32
  let v0 : BitVec 32 := Scalar.muli arg1 c32_i32
  let c31_i32 : BitVec 32 := 31#32
  let v97 : BitVec 32 := Scalar.addi v0 c31_i32
  let c128_i32_32 : BitVec 32 := 128#32
  let v98 : BitVec 32 := Scalar.muli v97 c128_i32_32
  v98
def k0_off1 (i : grid0.Coords) (c0_i32_1 : BitVec 32) : Fin 2 → Nat :=
  let arg1 : BitVec 32 := BitVec.ofNat 32 (i 1).val
  let c32_i32 : BitVec 32 := 32#32
  let v0 : BitVec 32 := Scalar.muli arg1 c32_i32
  let v4 : BitVec 32 := Scalar.addi v0 c0_i32_1
  let c128_i32 : BitVec 32 := 128#32
  let v5 : BitVec 32 := Scalar.muli v4 c128_i32
  let v6 : BitVec 32 := v5
  let v100 : Index := Scalar.indexCast v6
  let c0 : Index := 0#32
  ![v100.toNat, 0]
def k0_off2 (i : grid0.Coords) (c0_i32_89 : BitVec 32) : Fin 4 → Nat :=
  let c0_91 : Index := 0#32
  let arg1 : BitVec 32 := BitVec.ofNat 32 (i 1).val
  let c32_i32 : BitVec 32 := 32#32
  let v0 : BitVec 32 := Scalar.muli arg1 c32_i32
  let v198 : BitVec 32 := Scalar.addi v0 c0_i32_89
  let c4_i32_90 : BitVec 32 := 4#32
  let v199 : BitVec 32 := Scalar.minsi v198 c4_i32_90
  let v200 : Index := Scalar.indexCast v199
  let c0_92 : Index := 0#32
  let c0_93 : Index := 0#32
  ![0, v200.toNat, 0, 0]
def k0_mult33 (i : grid0.Coords) : BitVec 32 :=
  let arg1 : BitVec 32 := BitVec.ofNat 32 (i 1).val
  let c32_i32 : BitVec 32 := 32#32
  let v0 : BitVec 32 := Scalar.muli arg1 c32_i32
  let c0_i32_799 : BitVec 32 := 0#32
  let v1692 : BitVec 32 := Scalar.addi v0 c0_i32_799
  let c128_i32_800 : BitVec 32 := 128#32
  let v1693 : BitVec 32 := Scalar.muli v1692 c128_i32_800
  v1693
def k0_off3 (i : grid0.Coords) (c0_i32_799 : BitVec 32) : Fin 2 → Nat :=
  let arg1 : BitVec 32 := BitVec.ofNat 32 (i 1).val
  let c32_i32 : BitVec 32 := 32#32
  let v0 : BitVec 32 := Scalar.muli arg1 c32_i32
  let v1692 : BitVec 32 := Scalar.addi v0 c0_i32_799
  let c128_i32_800 : BitVec 32 := 128#32
  let v1693 : BitVec 32 := Scalar.muli v1692 c128_i32_800
  let v1694 : BitVec 32 := v1693
  let v1695 : Index := Scalar.indexCast v1694
  let c0_801 : Index := 0#32
  ![v1695.toNat, 0]
def k0_mult34 (i : grid0.Coords) : BitVec 32 :=
  let arg1 : BitVec 32 := BitVec.ofNat 32 (i 1).val
  let c32_i32 : BitVec 32 := 32#32
  let v0 : BitVec 32 := Scalar.muli arg1 c32_i32
  let c1_i32_812 : BitVec 32 := 1#32
  let v1717 : BitVec 32 := Scalar.addi v0 c1_i32_812
  let c128_i32_813 : BitVec 32 := 128#32
  let v1718 : BitVec 32 := Scalar.muli v1717 c128_i32_813
  v1718
def k0_mult35 (i : grid0.Coords) : BitVec 32 :=
  let arg1 : BitVec 32 := BitVec.ofNat 32 (i 1).val
  let c32_i32 : BitVec 32 := 32#32
  let v0 : BitVec 32 := Scalar.muli arg1 c32_i32
  let c2_i32_825 : BitVec 32 := 2#32
  let v1746 : BitVec 32 := Scalar.addi v0 c2_i32_825
  let c128_i32_826 : BitVec 32 := 128#32
  let v1747 : BitVec 32 := Scalar.muli v1746 c128_i32_826
  v1747
def k0_mult36 (i : grid0.Coords) : BitVec 32 :=
  let arg1 : BitVec 32 := BitVec.ofNat 32 (i 1).val
  let c32_i32 : BitVec 32 := 32#32
  let v0 : BitVec 32 := Scalar.muli arg1 c32_i32
  let c3_i32_838 : BitVec 32 := 3#32
  let v1777 : BitVec 32 := Scalar.addi v0 c3_i32_838
  let c128_i32_839 : BitVec 32 := 128#32
  let v1778 : BitVec 32 := Scalar.muli v1777 c128_i32_839
  v1778
def k0_mult37 (i : grid0.Coords) : BitVec 32 :=
  let arg1 : BitVec 32 := BitVec.ofNat 32 (i 1).val
  let c32_i32 : BitVec 32 := 32#32
  let v0 : BitVec 32 := Scalar.muli arg1 c32_i32
  let c4_i32_851 : BitVec 32 := 4#32
  let v1810 : BitVec 32 := Scalar.addi v0 c4_i32_851
  let c128_i32_852 : BitVec 32 := 128#32
  let v1811 : BitVec 32 := Scalar.muli v1810 c128_i32_852
  v1811
def k0_mult38 (i : grid0.Coords) : BitVec 32 :=
  let arg1 : BitVec 32 := BitVec.ofNat 32 (i 1).val
  let c32_i32 : BitVec 32 := 32#32
  let v0 : BitVec 32 := Scalar.muli arg1 c32_i32
  let c5_i32_864 : BitVec 32 := 5#32
  let v1845 : BitVec 32 := Scalar.addi v0 c5_i32_864
  let c128_i32_865 : BitVec 32 := 128#32
  let v1846 : BitVec 32 := Scalar.muli v1845 c128_i32_865
  v1846
def k0_mult39 (i : grid0.Coords) : BitVec 32 :=
  let arg1 : BitVec 32 := BitVec.ofNat 32 (i 1).val
  let c32_i32 : BitVec 32 := 32#32
  let v0 : BitVec 32 := Scalar.muli arg1 c32_i32
  let c6_i32_877 : BitVec 32 := 6#32
  let v1880 : BitVec 32 := Scalar.addi v0 c6_i32_877
  let c128_i32_878 : BitVec 32 := 128#32
  let v1881 : BitVec 32 := Scalar.muli v1880 c128_i32_878
  v1881
def k0_mult40 (i : grid0.Coords) : BitVec 32 :=
  let arg1 : BitVec 32 := BitVec.ofNat 32 (i 1).val
  let c32_i32 : BitVec 32 := 32#32
  let v0 : BitVec 32 := Scalar.muli arg1 c32_i32
  let c7_i32_890 : BitVec 32 := 7#32
  let v1915 : BitVec 32 := Scalar.addi v0 c7_i32_890
  let c128_i32_891 : BitVec 32 := 128#32
  let v1916 : BitVec 32 := Scalar.muli v1915 c128_i32_891
  v1916
def k0_mult41 (i : grid0.Coords) : BitVec 32 :=
  let arg1 : BitVec 32 := BitVec.ofNat 32 (i 1).val
  let c32_i32 : BitVec 32 := 32#32
  let v0 : BitVec 32 := Scalar.muli arg1 c32_i32
  let c8_i32_903 : BitVec 32 := 8#32
  let v1950 : BitVec 32 := Scalar.addi v0 c8_i32_903
  let c128_i32_904 : BitVec 32 := 128#32
  let v1951 : BitVec 32 := Scalar.muli v1950 c128_i32_904
  v1951
def k0_mult42 (i : grid0.Coords) : BitVec 32 :=
  let arg1 : BitVec 32 := BitVec.ofNat 32 (i 1).val
  let c32_i32 : BitVec 32 := 32#32
  let v0 : BitVec 32 := Scalar.muli arg1 c32_i32
  let c9_i32_916 : BitVec 32 := 9#32
  let v1985 : BitVec 32 := Scalar.addi v0 c9_i32_916
  let c128_i32_917 : BitVec 32 := 128#32
  let v1986 : BitVec 32 := Scalar.muli v1985 c128_i32_917
  v1986
def k0_mult43 (i : grid0.Coords) : BitVec 32 :=
  let arg1 : BitVec 32 := BitVec.ofNat 32 (i 1).val
  let c32_i32 : BitVec 32 := 32#32
  let v0 : BitVec 32 := Scalar.muli arg1 c32_i32
  let c10_i32_929 : BitVec 32 := 10#32
  let v2020 : BitVec 32 := Scalar.addi v0 c10_i32_929
  let c128_i32_930 : BitVec 32 := 128#32
  let v2021 : BitVec 32 := Scalar.muli v2020 c128_i32_930
  v2021
def k0_mult44 (i : grid0.Coords) : BitVec 32 :=
  let arg1 : BitVec 32 := BitVec.ofNat 32 (i 1).val
  let c32_i32 : BitVec 32 := 32#32
  let v0 : BitVec 32 := Scalar.muli arg1 c32_i32
  let c11_i32_942 : BitVec 32 := 11#32
  let v2055 : BitVec 32 := Scalar.addi v0 c11_i32_942
  let c128_i32_943 : BitVec 32 := 128#32
  let v2056 : BitVec 32 := Scalar.muli v2055 c128_i32_943
  v2056
def k0_mult45 (i : grid0.Coords) : BitVec 32 :=
  let arg1 : BitVec 32 := BitVec.ofNat 32 (i 1).val
  let c32_i32 : BitVec 32 := 32#32
  let v0 : BitVec 32 := Scalar.muli arg1 c32_i32
  let c12_i32_955 : BitVec 32 := 12#32
  let v2090 : BitVec 32 := Scalar.addi v0 c12_i32_955
  let c128_i32_956 : BitVec 32 := 128#32
  let v2091 : BitVec 32 := Scalar.muli v2090 c128_i32_956
  v2091
def k0_mult46 (i : grid0.Coords) : BitVec 32 :=
  let arg1 : BitVec 32 := BitVec.ofNat 32 (i 1).val
  let c32_i32 : BitVec 32 := 32#32
  let v0 : BitVec 32 := Scalar.muli arg1 c32_i32
  let c13_i32_968 : BitVec 32 := 13#32
  let v2125 : BitVec 32 := Scalar.addi v0 c13_i32_968
  let c128_i32_969 : BitVec 32 := 128#32
  let v2126 : BitVec 32 := Scalar.muli v2125 c128_i32_969
  v2126
def k0_mult47 (i : grid0.Coords) : BitVec 32 :=
  let arg1 : BitVec 32 := BitVec.ofNat 32 (i 1).val
  let c32_i32 : BitVec 32 := 32#32
  let v0 : BitVec 32 := Scalar.muli arg1 c32_i32
  let c14_i32_981 : BitVec 32 := 14#32
  let v2160 : BitVec 32 := Scalar.addi v0 c14_i32_981
  let c128_i32_982 : BitVec 32 := 128#32
  let v2161 : BitVec 32 := Scalar.muli v2160 c128_i32_982
  v2161
def k0_mult48 (i : grid0.Coords) : BitVec 32 :=
  let arg1 : BitVec 32 := BitVec.ofNat 32 (i 1).val
  let c32_i32 : BitVec 32 := 32#32
  let v0 : BitVec 32 := Scalar.muli arg1 c32_i32
  let c15_i32_994 : BitVec 32 := 15#32
  let v2195 : BitVec 32 := Scalar.addi v0 c15_i32_994
  let c128_i32_995 : BitVec 32 := 128#32
  let v2196 : BitVec 32 := Scalar.muli v2195 c128_i32_995
  v2196
def k0_mult49 (i : grid0.Coords) : BitVec 32 :=
  let arg1 : BitVec 32 := BitVec.ofNat 32 (i 1).val
  let c32_i32 : BitVec 32 := 32#32
  let v0 : BitVec 32 := Scalar.muli arg1 c32_i32
  let c16_i32_1007 : BitVec 32 := 16#32
  let v2230 : BitVec 32 := Scalar.addi v0 c16_i32_1007
  let c128_i32_1008 : BitVec 32 := 128#32
  let v2231 : BitVec 32 := Scalar.muli v2230 c128_i32_1008
  v2231
def k0_mult50 (i : grid0.Coords) : BitVec 32 :=
  let arg1 : BitVec 32 := BitVec.ofNat 32 (i 1).val
  let c32_i32 : BitVec 32 := 32#32
  let v0 : BitVec 32 := Scalar.muli arg1 c32_i32
  let c17_i32_1020 : BitVec 32 := 17#32
  let v2265 : BitVec 32 := Scalar.addi v0 c17_i32_1020
  let c128_i32_1021 : BitVec 32 := 128#32
  let v2266 : BitVec 32 := Scalar.muli v2265 c128_i32_1021
  v2266
def k0_mult51 (i : grid0.Coords) : BitVec 32 :=
  let arg1 : BitVec 32 := BitVec.ofNat 32 (i 1).val
  let c32_i32 : BitVec 32 := 32#32
  let v0 : BitVec 32 := Scalar.muli arg1 c32_i32
  let c18_i32_1033 : BitVec 32 := 18#32
  let v2300 : BitVec 32 := Scalar.addi v0 c18_i32_1033
  let c128_i32_1034 : BitVec 32 := 128#32
  let v2301 : BitVec 32 := Scalar.muli v2300 c128_i32_1034
  v2301
def k0_mult52 (i : grid0.Coords) : BitVec 32 :=
  let arg1 : BitVec 32 := BitVec.ofNat 32 (i 1).val
  let c32_i32 : BitVec 32 := 32#32
  let v0 : BitVec 32 := Scalar.muli arg1 c32_i32
  let c19_i32_1046 : BitVec 32 := 19#32
  let v2335 : BitVec 32 := Scalar.addi v0 c19_i32_1046
  let c128_i32_1047 : BitVec 32 := 128#32
  let v2336 : BitVec 32 := Scalar.muli v2335 c128_i32_1047
  v2336
def k0_mult53 (i : grid0.Coords) : BitVec 32 :=
  let arg1 : BitVec 32 := BitVec.ofNat 32 (i 1).val
  let c32_i32 : BitVec 32 := 32#32
  let v0 : BitVec 32 := Scalar.muli arg1 c32_i32
  let c20_i32_1059 : BitVec 32 := 20#32
  let v2370 : BitVec 32 := Scalar.addi v0 c20_i32_1059
  let c128_i32_1060 : BitVec 32 := 128#32
  let v2371 : BitVec 32 := Scalar.muli v2370 c128_i32_1060
  v2371
def k0_mult54 (i : grid0.Coords) : BitVec 32 :=
  let arg1 : BitVec 32 := BitVec.ofNat 32 (i 1).val
  let c32_i32 : BitVec 32 := 32#32
  let v0 : BitVec 32 := Scalar.muli arg1 c32_i32
  let c21_i32_1072 : BitVec 32 := 21#32
  let v2405 : BitVec 32 := Scalar.addi v0 c21_i32_1072
  let c128_i32_1073 : BitVec 32 := 128#32
  let v2406 : BitVec 32 := Scalar.muli v2405 c128_i32_1073
  v2406
def k0_mult55 (i : grid0.Coords) : BitVec 32 :=
  let arg1 : BitVec 32 := BitVec.ofNat 32 (i 1).val
  let c32_i32 : BitVec 32 := 32#32
  let v0 : BitVec 32 := Scalar.muli arg1 c32_i32
  let c22_i32_1085 : BitVec 32 := 22#32
  let v2440 : BitVec 32 := Scalar.addi v0 c22_i32_1085
  let c128_i32_1086 : BitVec 32 := 128#32
  let v2441 : BitVec 32 := Scalar.muli v2440 c128_i32_1086
  v2441
def k0_mult56 (i : grid0.Coords) : BitVec 32 :=
  let arg1 : BitVec 32 := BitVec.ofNat 32 (i 1).val
  let c32_i32 : BitVec 32 := 32#32
  let v0 : BitVec 32 := Scalar.muli arg1 c32_i32
  let c23_i32_1098 : BitVec 32 := 23#32
  let v2475 : BitVec 32 := Scalar.addi v0 c23_i32_1098
  let c128_i32_1099 : BitVec 32 := 128#32
  let v2476 : BitVec 32 := Scalar.muli v2475 c128_i32_1099
  v2476
def k0_mult57 (i : grid0.Coords) : BitVec 32 :=
  let arg1 : BitVec 32 := BitVec.ofNat 32 (i 1).val
  let c32_i32 : BitVec 32 := 32#32
  let v0 : BitVec 32 := Scalar.muli arg1 c32_i32
  let c24_i32_1111 : BitVec 32 := 24#32
  let v2510 : BitVec 32 := Scalar.addi v0 c24_i32_1111
  let c128_i32_1112 : BitVec 32 := 128#32
  let v2511 : BitVec 32 := Scalar.muli v2510 c128_i32_1112
  v2511
def k0_mult58 (i : grid0.Coords) : BitVec 32 :=
  let arg1 : BitVec 32 := BitVec.ofNat 32 (i 1).val
  let c32_i32 : BitVec 32 := 32#32
  let v0 : BitVec 32 := Scalar.muli arg1 c32_i32
  let c25_i32_1124 : BitVec 32 := 25#32
  let v2545 : BitVec 32 := Scalar.addi v0 c25_i32_1124
  let c128_i32_1125 : BitVec 32 := 128#32
  let v2546 : BitVec 32 := Scalar.muli v2545 c128_i32_1125
  v2546
def k0_mult59 (i : grid0.Coords) : BitVec 32 :=
  let arg1 : BitVec 32 := BitVec.ofNat 32 (i 1).val
  let c32_i32 : BitVec 32 := 32#32
  let v0 : BitVec 32 := Scalar.muli arg1 c32_i32
  let c26_i32_1137 : BitVec 32 := 26#32
  let v2580 : BitVec 32 := Scalar.addi v0 c26_i32_1137
  let c128_i32_1138 : BitVec 32 := 128#32
  let v2581 : BitVec 32 := Scalar.muli v2580 c128_i32_1138
  v2581
def k0_mult60 (i : grid0.Coords) : BitVec 32 :=
  let arg1 : BitVec 32 := BitVec.ofNat 32 (i 1).val
  let c32_i32 : BitVec 32 := 32#32
  let v0 : BitVec 32 := Scalar.muli arg1 c32_i32
  let c27_i32_1150 : BitVec 32 := 27#32
  let v2615 : BitVec 32 := Scalar.addi v0 c27_i32_1150
  let c128_i32_1151 : BitVec 32 := 128#32
  let v2616 : BitVec 32 := Scalar.muli v2615 c128_i32_1151
  v2616
def k0_mult61 (i : grid0.Coords) : BitVec 32 :=
  let arg1 : BitVec 32 := BitVec.ofNat 32 (i 1).val
  let c32_i32 : BitVec 32 := 32#32
  let v0 : BitVec 32 := Scalar.muli arg1 c32_i32
  let c28_i32_1163 : BitVec 32 := 28#32
  let v2650 : BitVec 32 := Scalar.addi v0 c28_i32_1163
  let c128_i32_1164 : BitVec 32 := 128#32
  let v2651 : BitVec 32 := Scalar.muli v2650 c128_i32_1164
  v2651
def k0_mult62 (i : grid0.Coords) : BitVec 32 :=
  let arg1 : BitVec 32 := BitVec.ofNat 32 (i 1).val
  let c32_i32 : BitVec 32 := 32#32
  let v0 : BitVec 32 := Scalar.muli arg1 c32_i32
  let c29_i32_1176 : BitVec 32 := 29#32
  let v2685 : BitVec 32 := Scalar.addi v0 c29_i32_1176
  let c128_i32_1177 : BitVec 32 := 128#32
  let v2686 : BitVec 32 := Scalar.muli v2685 c128_i32_1177
  v2686
def k0_mult63 (i : grid0.Coords) : BitVec 32 :=
  let arg1 : BitVec 32 := BitVec.ofNat 32 (i 1).val
  let c32_i32 : BitVec 32 := 32#32
  let v0 : BitVec 32 := Scalar.muli arg1 c32_i32
  let c30_i32_1189 : BitVec 32 := 30#32
  let v2720 : BitVec 32 := Scalar.addi v0 c30_i32_1189
  let c128_i32_1190 : BitVec 32 := 128#32
  let v2721 : BitVec 32 := Scalar.muli v2720 c128_i32_1190
  v2721
def k0_mult64 (i : grid0.Coords) : BitVec 32 :=
  let arg1 : BitVec 32 := BitVec.ofNat 32 (i 1).val
  let c32_i32 : BitVec 32 := 32#32
  let v0 : BitVec 32 := Scalar.muli arg1 c32_i32
  let c31_i32_1202 : BitVec 32 := 31#32
  let v2755 : BitVec 32 := Scalar.addi v0 c31_i32_1202
  let c128_i32_1203 : BitVec 32 := 128#32
  let v2756 : BitVec 32 := Scalar.muli v2755 c128_i32_1203
  v2756
def k0_mult65 (i : grid0.Coords) : BitVec 32 :=
  let arg1 : BitVec 32 := BitVec.ofNat 32 (i 1).val
  let c32_i32 : BitVec 32 := 32#32
  let v0 : BitVec 32 := Scalar.muli arg1 c32_i32
  let c32_i32_1215 : BitVec 32 := 32#32
  let v2790 : BitVec 32 := Scalar.addi v0 c32_i32_1215
  let c128_i32_1216 : BitVec 32 := 128#32
  let v2791 : BitVec 32 := Scalar.muli v2790 c128_i32_1216
  v2791
def k0_mult66 (i : grid0.Coords) : BitVec 32 :=
  let arg1 : BitVec 32 := BitVec.ofNat 32 (i 1).val
  let c32_i32 : BitVec 32 := 32#32
  let v0 : BitVec 32 := Scalar.muli arg1 c32_i32
  let c33_i32 : BitVec 32 := 33#32
  let v2823 : BitVec 32 := Scalar.addi v0 c33_i32
  let c128_i32_1228 : BitVec 32 := 128#32
  let v2824 : BitVec 32 := Scalar.muli v2823 c128_i32_1228
  v2824
def k0_mult67 (i : grid0.Coords) : BitVec 32 :=
  let arg1 : BitVec 32 := BitVec.ofNat 32 (i 1).val
  let c32_i32 : BitVec 32 := 32#32
  let v0 : BitVec 32 := Scalar.muli arg1 c32_i32
  let c34_i32 : BitVec 32 := 34#32
  let v2854 : BitVec 32 := Scalar.addi v0 c34_i32
  let c128_i32_1240 : BitVec 32 := 128#32
  let v2855 : BitVec 32 := Scalar.muli v2854 c128_i32_1240
  v2855
def k0_mult68 (i : grid0.Coords) : BitVec 32 :=
  let arg1 : BitVec 32 := BitVec.ofNat 32 (i 1).val
  let c32_i32 : BitVec 32 := 32#32
  let v0 : BitVec 32 := Scalar.muli arg1 c32_i32
  let c35_i32 : BitVec 32 := 35#32
  let v2883 : BitVec 32 := Scalar.addi v0 c35_i32
  let c128_i32_1252 : BitVec 32 := 128#32
  let v2884 : BitVec 32 := Scalar.muli v2883 c128_i32_1252
  v2884
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8704x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x5x640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnRefIdeal.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S_ : Shape := ⟨0, ![]⟩
abbrev S1x512x16x128 : Shape := ⟨4, ![1, 512, 16, 128]⟩
abbrev S1x8704x16x128 : Shape := ⟨4, ![1, 8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S1x128x64x16x128 : Shape := ⟨5, ![1, 128, 64, 16, 128]⟩
abbrev S1x136x64x16x128 : Shape := ⟨5, ![1, 136, 64, 16, 128]⟩
abbrev S1x128x576x16x128 : Shape := ⟨5, ![1, 128, 576, 16, 128]⟩
abbrev S1x128x16x64x576 : Shape := ⟨5, ![1, 128, 16, 64, 576]⟩
abbrev S1x1x16x64x576 : Shape := ⟨5, ![1, 1, 16, 64, 576]⟩
abbrev S128x1 : Shape := ⟨2, ![128, 1]⟩
abbrev S128x576 : Shape := ⟨2, ![128, 576]⟩
abbrev S1x128x1x1x576 : Shape := ⟨5, ![1, 128, 1, 1, 576]⟩
abbrev S1x128x16x64 : Shape := ⟨4, ![1, 128, 16, 64]⟩
abbrev S1x128x16x64x1 : Shape := ⟨5, ![1, 128, 16, 64, 1]⟩
abbrev S1x128x16x128x64 : Shape := ⟨5, ![1, 128, 16, 128, 64]⟩
abbrev S1x128x16x128x576 : Shape := ⟨5, ![1, 128, 16, 128, 576]⟩
abbrev S128x16x64 : Shape := ⟨3, ![128, 16, 64]⟩
abbrev S1x128x16x576x128 : Shape := ⟨5, ![1, 128, 16, 576, 128]⟩
abbrev S1x128x16x64x128 : Shape := ⟨5, ![1, 128, 16, 64, 128]⟩
abbrev S8192x2048 : Shape := ⟨2, ![8192, 2048]⟩
abbrev S8704x2048 : Shape := ⟨2, ![8704, 2048]⟩

abbrev nBuf : Space → Nat
  | .hbm => 257
  | .vmem => 0
  | .smem => 0
  | _ => 0

abbrev hbmTy0_0 (i : Nat) : BufTy := match i % 128 with
  | 0 => ⟨S1x8192x16x128, .f32⟩
  | 1 => ⟨S1x8192x16x128, .f32⟩
  | 2 => ⟨S1x8192x16x128, .f32⟩
  | 3 => ⟨S16x257, .f32⟩
  | 4 => ⟨S1x8192x2048, .f32⟩
  | 5 => ⟨S_, .f32⟩
  | 6 => ⟨S1x512x16x128, .f32⟩
  | 7 => ⟨S1x8704x16x128, .f32⟩
  | 8 => ⟨S_, .f32⟩
  | 9 => ⟨S1x512x16x128, .f32⟩
  | 10 => ⟨S_, .f32⟩
  | 11 => ⟨S1x512x16x128, .f32⟩
  | 12 => ⟨S1x8704x16x128, .f32⟩
  | 13 => ⟨S_, .f32⟩
  | 14 => ⟨S1x512x16x128, .f32⟩
  | 15 => ⟨S64, .i32⟩
  | 16 => ⟨S64x1, .i32⟩
  | 17 => ⟨S576, .i32⟩
  | 18 => ⟨S1x576, .i32⟩
  | 19 => ⟨S_, .i32⟩
  | 20 => ⟨S64x1, .i32⟩
  | 21 => ⟨S64x1, .i32⟩
  | 22 => ⟨S64x576, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S16x64x576, .f32⟩
  | 45 => ⟨S576, .i32⟩
  | 46 => ⟨S_, .i32⟩
  | 47 => ⟨S576, .i32⟩
  | 48 => ⟨S576, .i32⟩
  | 49 => ⟨S128, .i32⟩
  | 50 => ⟨S_, .i32⟩
  | 51 => ⟨S128, .i32⟩
  | 52 => ⟨S128, .i32⟩
  | 53 => ⟨S1x128x64x16x128, .f32⟩
  | 54 => ⟨S1x136x64x16x128, .f32⟩
  | 55 => ⟨S1x128x64x16x128, .f32⟩
  | 56 => ⟨S1x128x64x16x128, .f32⟩
  | 57 => ⟨S1x128x64x16x128, .f32⟩
  | 58 => ⟨S1x128x64x16x128, .f32⟩
  | 59 => ⟨S1x128x64x16x128, .f32⟩
  | 60 => ⟨S1x128x64x16x128, .f32⟩
  | 61 => ⟨S1x128x64x16x128, .f32⟩
  | 62 => ⟨S1x128x64x16x128, .f32⟩
  | 63 => ⟨S1x128x64x16x128, .f32⟩
  | 64 => ⟨S1x128x576x16x128, .f32⟩
  | 65 => ⟨S1x136x64x16x128, .f32⟩
  | 66 => ⟨S1x128x64x16x128, .f32⟩
  | 67 => ⟨S1x128x64x16x128, .f32⟩
  | 68 => ⟨S1x128x64x16x128, .f32⟩
  | 69 => ⟨S1x128x64x16x128, .f32⟩
  | 70 => ⟨S1x128x64x16x128, .f32⟩
  | 71 => ⟨S1x128x64x16x128, .f32⟩
  | 72 => ⟨S1x128x64x16x128, .f32⟩
  | 73 => ⟨S1x128x64x16x128, .f32⟩
  | 74 => ⟨S1x128x64x16x128, .f32⟩
  | 75 => ⟨S1x128x576x16x128, .f32⟩
  | 76 => ⟨S1x128x16x64x576, .f32⟩
  | 77 => ⟨S_, .f32⟩
  | 78 => ⟨S1x128x16x64x576, .f32⟩
  | 79 => ⟨S1x128x16x64x576, .f32⟩
  | 80 => ⟨S1x1x16x64x576, .f32⟩
  | 81 => ⟨S1x128x16x64x576, .f32⟩
  | 82 => ⟨S1x128x16x64x576, .f32⟩
  | 83 => ⟨S128x1, .i32⟩
  | 84 => ⟨S1x576, .i32⟩
  | 85 => ⟨S128x576, .i32⟩
  | 86 => ⟨S128x576, .i32⟩
  | 87 => ⟨S128x576, .i32⟩
  | 88 => ⟨S_, .i32⟩
  | 89 => ⟨S128x576, .i32⟩
  | 90 => ⟨S128x576, .i1⟩
  | 91 => ⟨S1x128x1x1x576, .i1⟩
  | 92 => ⟨S_, .f32⟩
  | 93 => ⟨S_, .f32⟩
  | 94 => ⟨S1x128x16x64x576, .i1⟩
  | 95 => ⟨S1x128x16x64x576, .f32⟩
  | 96 => ⟨S1x128x16x64x576, .f32⟩
  | 97 => ⟨S_, .f32⟩
  | 98 => ⟨S1x128x16x64x576, .f32⟩
  | 99 => ⟨S_, .f32⟩
  | 100 => ⟨S1x128x16x64, .f32⟩
  | 101 => ⟨S1x128x16x64x1, .f32⟩
  | 102 => ⟨S1x128x16x64x576, .f32⟩
  | 103 => ⟨S1x128x16x64x576, .i1⟩
  | 104 => ⟨S1x128x16x64x576, .f32⟩
  | 105 => ⟨S_, .f32⟩
  | 106 => ⟨S1x128x16x64, .f32⟩
  | 107 => ⟨S_, .f32⟩
  | 108 => ⟨S1x128x16x64, .f32⟩
  | 109 => ⟨S1x128x16x64, .f32⟩
  | 110 => ⟨S_, .f32⟩
  | 111 => ⟨S1x128x16x64, .f32⟩
  | 112 => ⟨S1x128x16x64, .i1⟩
  | 113 => ⟨S_, .f32⟩
  | 114 => ⟨S1x128x16x64, .f32⟩
  | 115 => ⟨S1x128x16x64, .i1⟩
  | 116 => ⟨S_, .f32⟩
  | 117 => ⟨S1x128x16x64, .f32⟩
  | 118 => ⟨S_, .f32⟩
  | 119 => ⟨S1x128x16x64, .f32⟩
  | 120 => ⟨S_, .f32⟩
  | 121 => ⟨S1x128x16x64, .f32⟩
  | 122 => ⟨S1x128x16x64, .f32⟩
  | 123 => ⟨S1x128x16x64, .f32⟩
  | 124 => ⟨S1x128x16x64x1, .f32⟩
  | 125 => ⟨S1x128x16x64x576, .f32⟩
  | 126 => ⟨S1x128x16x64x576, .f32⟩
  | 127 => ⟨S1x128x16x64x576, .f32⟩
  | _ => ⟨S1x8192x16x128, .f32⟩

abbrev hbmTy0_1 (i : Nat) : BufTy := match i % 128 with
  | 0 => ⟨S_, .f32⟩
  | 1 => ⟨S1x128x16x64, .f32⟩
  | 2 => ⟨S1x128x16x64x1, .f32⟩
  | 3 => ⟨S1x128x16x64x576, .f32⟩
  | 4 => ⟨S1x128x16x64x576, .f32⟩
  | 5 => ⟨S1x128x16x64x1, .f32⟩
  | 6 => ⟨S_, .f32⟩
  | 7 => ⟨S1x128x16x64x1, .f32⟩
  | 8 => ⟨S1x128x16x64x1, .f32⟩
  | 9 => ⟨S1x128x16x128x64, .f32⟩
  | 10 => ⟨S1x128x64x16x128, .f32⟩
  | 11 => ⟨S1x8192x2048, .f32⟩
  | 12 => ⟨S1x128x64x16x128, .f32⟩
  | 13 => ⟨S1x128x16x128x64, .f32⟩
  | 14 => ⟨S1x128x16x64x576, .f32⟩
  | 15 => ⟨S1x128x16x128x576, .f32⟩
  | 16 => ⟨S1x128x576x16x128, .f32⟩
  | 17 => ⟨S1x128x16x64x576, .f32⟩
  | 18 => ⟨S1x128x16x64x576, .f32⟩
  | 19 => ⟨S1x128x16x64x576, .f32⟩
  | 20 => ⟨S_, .f32⟩
  | 21 => ⟨S1x128x16x64, .f32⟩
  | 22 => ⟨S1x128x16x64x1, .f32⟩
  | 23 => ⟨S1x128x16x64x1, .f32⟩
  | 24 => ⟨S1x128x16x64x576, .f32⟩
  | 25 => ⟨S1x128x16x64x576, .f32⟩
  | 26 => ⟨S_, .f32⟩
  | 27 => ⟨S128x16x64, .f32⟩
  | 28 => ⟨S1x128x16x64, .f32⟩
  | 29 => ⟨S1x128x16x64x576, .f32⟩
  | 30 => ⟨S1x128x16x64x576, .f32⟩
  | 31 => ⟨S1x128x16x64x576, .f32⟩
  | 32 => ⟨S_, .f32⟩
  | 33 => ⟨S1x128x16x64x576, .f32⟩
  | 34 => ⟨S1x128x16x64x576, .f32⟩
  | 35 => ⟨S_, .f32⟩
  | 36 => ⟨S1x128x16x64x576, .f32⟩
  | 37 => ⟨S1x128x16x64x576, .f32⟩
  | 38 => ⟨S1x128x16x576x128, .f32⟩
  | 39 => ⟨S1x128x576x16x128, .f32⟩
  | 40 => ⟨S1x128x16x64x128, .f32⟩
  | 41 => ⟨S1x128x64x16x128, .f32⟩
  | 42 => ⟨S1x128x64x16x128, .f32⟩
  | 43 => ⟨S1x128x64x16x128, .f32⟩
  | 44 => ⟨S1x128x64x16x128, .f32⟩
  | 45 => ⟨S1x128x64x16x128, .f32⟩
  | 46 => ⟨S1x128x64x16x128, .f32⟩
  | 47 => ⟨S1x128x64x16x128, .f32⟩
  | 48 => ⟨S1x128x64x16x128, .f32⟩
  | 49 => ⟨S1x128x64x16x128, .f32⟩
  | 50 => ⟨S1x128x64x16x128, .f32⟩
  | 51 => ⟨S_, .f32⟩
  | 52 => ⟨S1x136x64x16x128, .f32⟩
  | 53 => ⟨S_, .f32⟩
  | 54 => ⟨S1x136x64x16x128, .f32⟩
  | 55 => ⟨S1x136x64x16x128, .f32⟩
  | 56 => ⟨S_, .f32⟩
  | 57 => ⟨S1x136x64x16x128, .f32⟩
  | 58 => ⟨S1x136x64x16x128, .f32⟩
  | 59 => ⟨S_, .f32⟩
  | 60 => ⟨S1x136x64x16x128, .f32⟩
  | 61 => ⟨S1x136x64x16x128, .f32⟩
  | 62 => ⟨S_, .f32⟩
  | 63 => ⟨S1x136x64x16x128, .f32⟩
  | 64 => ⟨S1x136x64x16x128, .f32⟩
  | 65 => ⟨S_, .f32⟩
  | 66 => ⟨S1x136x64x16x128, .f32⟩
  | 67 => ⟨S1x136x64x16x128, .f32⟩
  | 68 => ⟨S_, .f32⟩
  | 69 => ⟨S1x136x64x16x128, .f32⟩
  | 70 => ⟨S1x136x64x16x128, .f32⟩
  | 71 => ⟨S_, .f32⟩
  | 72 => ⟨S1x136x64x16x128, .f32⟩
  | 73 => ⟨S1x136x64x16x128, .f32⟩
  | 74 => ⟨S_, .f32⟩
  | 75 => ⟨S1x136x64x16x128, .f32⟩
  | 76 => ⟨S1x136x64x16x128, .f32⟩
  | 77 => ⟨S1x8704x16x128, .f32⟩
  | 78 => ⟨S1x128x64x16x128, .f32⟩
  | 79 => ⟨S1x128x64x16x128, .f32⟩
  | 80 => ⟨S1x128x64x16x128, .f32⟩
  | 81 => ⟨S1x128x64x16x128, .f32⟩
  | 82 => ⟨S1x128x64x16x128, .f32⟩
  | 83 => ⟨S1x128x64x16x128, .f32⟩
  | 84 => ⟨S1x128x64x16x128, .f32⟩
  | 85 => ⟨S1x128x64x16x128, .f32⟩
  | 86 => ⟨S1x128x64x16x128, .f32⟩
  | 87 => ⟨S_, .f32⟩
  | 88 => ⟨S1x136x64x16x128, .f32⟩
  | 89 => ⟨S_, .f32⟩
  | 90 => ⟨S1x136x64x16x128, .f32⟩
  | 91 => ⟨S1x136x64x16x128, .f32⟩
  | 92 => ⟨S_, .f32⟩
  | 93 => ⟨S1x136x64x16x128, .f32⟩
  | 94 => ⟨S1x136x64x16x128, .f32⟩
  | 95 => ⟨S_, .f32⟩
  | 96 => ⟨S1x136x64x16x128, .f32⟩
  | 97 => ⟨S1x136x64x16x128, .f32⟩
  | 98 => ⟨S_, .f32⟩
  | 99 => ⟨S1x136x64x16x128, .f32⟩
  | 100 => ⟨S1x136x64x16x128, .f32⟩
  | 101 => ⟨S_, .f32⟩
  | 102 => ⟨S1x136x64x16x128, .f32⟩
  | 103 => ⟨S1x136x64x16x128, .f32⟩
  | 104 => ⟨S_, .f32⟩
  | 105 => ⟨S1x136x64x16x128, .f32⟩
  | 106 => ⟨S1x136x64x16x128, .f32⟩
  | 107 => ⟨S_, .f32⟩
  | 108 => ⟨S1x136x64x16x128, .f32⟩
  | 109 => ⟨S1x136x64x16x128, .f32⟩
  | 110 => ⟨S_, .f32⟩
  | 111 => ⟨S1x136x64x16x128, .f32⟩
  | 112 => ⟨S1x136x64x16x128, .f32⟩
  | 113 => ⟨S1x8704x16x128, .f32⟩
  | 114 => ⟨S1x8192x16x128, .f32⟩
  | 115 => ⟨S1x512x16x128, .f32⟩
  | 116 => ⟨S1x8192x16x128, .f32⟩
  | 117 => ⟨S1x512x16x128, .f32⟩
  | 118 => ⟨S1x8192x16x128, .f32⟩
  | 119 => ⟨S8192x2048, .f32⟩
  | 120 => ⟨S8192x2048, .bf16⟩
  | 121 => ⟨S8192x2048, .f32⟩
  | 122 => ⟨S_, .i32⟩
  | 123 => ⟨S_, .f32⟩
  | 124 => ⟨S8704x2048, .f32⟩
  | 125 => ⟨S8192x2048, .f32⟩
  | 126 => ⟨S_, .i32⟩
  | 127 => ⟨S_, .f32⟩
  | _ => ⟨S1x8192x16x128, .f32⟩

abbrev hbmTy0_2 (i : Nat) : BufTy := match i % 128 with
  | 0 => ⟨S8704x2048, .f32⟩
  | _ => ⟨S1x8192x16x128, .f32⟩

abbrev hbmTy (i : Nat) : BufTy := match i / 128 with
  | 0 => hbmTy0_0 i
  | 1 => hbmTy0_1 i
  | 2 => hbmTy0_2 i
  | _ => ⟨S1x8192x16x128, .f32⟩

abbrev bufTy : (tb : Table) → Fin (tcTables nBuf tb) → BufTy
  | .hbm, ⟨i, _⟩ => hbmTy i
  | _, _ => ⟨S1x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_call1_v0 : Ref sig .tc := ⟨.hbm, 93, rfl⟩
abbrev main_v68_1 : Ref sig .tc := ⟨.hbm, 94, rfl⟩
abbrev main_call1_v2 : Ref sig .tc := ⟨.hbm, 95, rfl⟩
abbrev main_v68_0 : Ref sig .tc := ⟨.hbm, 96, rfl⟩
abbrev main_call1_cst : Ref sig .tc := ⟨.hbm, 97, rfl⟩
abbrev main_v68_2 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_cst_17 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_cst_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_21 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_23 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_24 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_call2_cst : Ref sig .tc := ⟨.hbm, 160, rfl⟩
abbrev main_call2_v0 : Ref sig .tc := ⟨.hbm, 161, rfl⟩
abbrev main_v118 : Ref sig .tc := ⟨.hbm, 162, rfl⟩
abbrev main_cst_25 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_26 : Ref sig .tc := ⟨.hbm, 179, rfl⟩
abbrev main_v134 : Ref sig .tc := ⟨.hbm, 180, rfl⟩
abbrev main_cst_27 : Ref sig .tc := ⟨.hbm, 181, rfl⟩
abbrev main_v135 : Ref sig .tc := ⟨.hbm, 182, rfl⟩
abbrev main_v136 : Ref sig .tc := ⟨.hbm, 183, rfl⟩
abbrev main_cst_28 : Ref sig .tc := ⟨.hbm, 184, rfl⟩
abbrev main_v137 : Ref sig .tc := ⟨.hbm, 185, rfl⟩
abbrev main_v138 : Ref sig .tc := ⟨.hbm, 186, rfl⟩
abbrev main_cst_29 : Ref sig .tc := ⟨.hbm, 187, rfl⟩
abbrev main_v139 : Ref sig .tc := ⟨.hbm, 188, rfl⟩
abbrev main_v140 : Ref sig .tc := ⟨.hbm, 189, rfl⟩
abbrev main_cst_30 : Ref sig .tc := ⟨.hbm, 190, rfl⟩
abbrev main_v141 : Ref sig .tc := ⟨.hbm, 191, rfl⟩
abbrev main_v142 : Ref sig .tc := ⟨.hbm, 192, rfl⟩
abbrev main_cst_31 : Ref sig .tc := ⟨.hbm, 193, rfl⟩
abbrev main_v143 : Ref sig .tc := ⟨.hbm, 194, rfl⟩
abbrev main_v144 : Ref sig .tc := ⟨.hbm, 195, rfl⟩
abbrev main_cst_32 : Ref sig .tc := ⟨.hbm, 196, rfl⟩
abbrev main_v145 : Ref sig .tc := ⟨.hbm, 197, rfl⟩
abbrev main_v146 : Ref sig .tc := ⟨.hbm, 198, rfl⟩
abbrev main_cst_33 : Ref sig .tc := ⟨.hbm, 199, rfl⟩
abbrev main_v147 : Ref sig .tc := ⟨.hbm, 200, rfl⟩
abbrev main_v148 : Ref sig .tc := ⟨.hbm, 201, rfl⟩
abbrev main_cst_34 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_35 : Ref sig .tc := ⟨.hbm, 215, rfl⟩
abbrev main_v161 : Ref sig .tc := ⟨.hbm, 216, rfl⟩
abbrev main_cst_36 : Ref sig .tc := ⟨.hbm, 217, rfl⟩
abbrev main_v162 : Ref sig .tc := ⟨.hbm, 218, rfl⟩
abbrev main_v163 : Ref sig .tc := ⟨.hbm, 219, rfl⟩
abbrev main_cst_37 : Ref sig .tc := ⟨.hbm, 220, rfl⟩
abbrev main_v164 : Ref sig .tc := ⟨.hbm, 221, rfl⟩
abbrev main_v165 : Ref sig .tc := ⟨.hbm, 222, rfl⟩
abbrev main_cst_38 : Ref sig .tc := ⟨.hbm, 223, rfl⟩
abbrev main_v166 : Ref sig .tc := ⟨.hbm, 224, rfl⟩
abbrev main_v167 : Ref sig .tc := ⟨.hbm, 225, rfl⟩
abbrev main_cst_39 : Ref sig .tc := ⟨.hbm, 226, rfl⟩
abbrev main_v168 : Ref sig .tc := ⟨.hbm, 227, rfl⟩
abbrev main_v169 : Ref sig .tc := ⟨.hbm, 228, rfl⟩
abbrev main_cst_40 : Ref sig .tc := ⟨.hbm, 229, rfl⟩
abbrev main_v170 : Ref sig .tc := ⟨.hbm, 230, rfl⟩
abbrev main_v171 : Ref sig .tc := ⟨.hbm, 231, rfl⟩
abbrev main_cst_41 : Ref sig .tc := ⟨.hbm, 232, rfl⟩
abbrev main_v172 : Ref sig .tc := ⟨.hbm, 233, rfl⟩
abbrev main_v173 : Ref sig .tc := ⟨.hbm, 234, rfl⟩
abbrev main_cst_42 : Ref sig .tc := ⟨.hbm, 235, rfl⟩
abbrev main_v174 : Ref sig .tc := ⟨.hbm, 236, rfl⟩
abbrev main_v175 : Ref sig .tc := ⟨.hbm, 237, rfl⟩
abbrev main_cst_43 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_c_44 : Ref sig .tc := ⟨.hbm, 250, rfl⟩
abbrev main_call3_v0 : Ref sig .tc := ⟨.hbm, 251, rfl⟩
abbrev main_v187 : Ref sig .tc := ⟨.hbm, 252, rfl⟩
abbrev main_v188 : Ref sig .tc := ⟨.hbm, 253, rfl⟩
abbrev main_c_45 : Ref sig .tc := ⟨.hbm, 254, rfl⟩
abbrev main_call4_v0 : Ref sig .tc := ⟨.hbm, 255, rfl⟩
abbrev main_v189 : Ref sig .tc := ⟨.hbm, 256, rfl⟩

abbrev nD : Nat := 1
abbrev τ : Topo := Topo.v7x

variable {F : FTy → Type} [FloatOps F]
-- ==== Gate.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x1024 : Shape := ⟨2, ![1, 1024]⟩
abbrev S8x256x1024 : Shape := ⟨3, ![8, 256, 1024]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S2048x1024, .bf16⟩
  | .hbm, ⟨8, _⟩ => ⟨S8x256x1024, .bf16⟩
  | .hbm, ⟨9, _⟩ => ⟨S8192x2048, .bf16⟩
  | .hbm, ⟨10, _⟩ => ⟨S8192x2048, .bf16⟩
  | .hbm, ⟨11, _⟩ => ⟨S1x2048, .f32⟩
  | .hbm, ⟨12, _⟩ => ⟨S8192x1024, .bf16⟩
  | .hbm, ⟨13, _⟩ => ⟨S8192x2048, .bf16⟩
  | .hbm, ⟨14, _⟩ => ⟨S8192x2048, .bf16⟩
  | .hbm, ⟨15, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x256x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateRefIdeal.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x2048 : Shape := ⟨2, ![1, 2048]⟩
abbrev S_ : Shape := ⟨0, ![]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S8192x2048, .bf16⟩
  | .hbm, ⟨45, _⟩ => ⟨S8192x2048, .bf16⟩
  | .hbm, ⟨46, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x4096 : Shape := ⟨2, ![1024, 4096]⟩
abbrev S8192x2048 : Shape := ⟨2, ![8192, 2048]⟩
abbrev S1024x8x512 : Shape := ⟨3, ![1024, 8, 512]⟩
abbrev S8x1024x512 : Shape := ⟨3, ![8, 1024, 512]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x2048, .bf16⟩
  | .hbm, ⟨9, _⟩ => ⟨S8192x2048, .bf16⟩
  | .hbm, ⟨10, _⟩ => ⟨S1024x4096, .bf16⟩
  | .hbm, ⟨11, _⟩ => ⟨S1024x8x512, .bf16⟩
  | .hbm, ⟨12, _⟩ => ⟨S8x1024x512, .bf16⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S8x1024x512, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S8192x1024 : Shape := ⟨2, ![8192, 1024]⟩
abbrev S1024 : Shape := ⟨1, ![1024]⟩
abbrev S1024x4096 : Shape := ⟨2, ![1024, 4096]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x4096, .f32⟩
  | .hbm, ⟨38, _⟩ => ⟨S8192x2048, .f32⟩
  | .hbm, ⟨39, _⟩ => ⟨S8192x2048, .f32⟩
  | .hbm, ⟨40, _⟩ => ⟨S8192x4096, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Pool.lean ====
abbrev S8192x2048 : Shape := ⟨2, ![8192, 2048]⟩
abbrev S4x512x512 : Shape := ⟨3, ![4, 512, 512]⟩
abbrev S4x8x64x512 : Shape := ⟨4, ![4, 8, 64, 512]⟩
abbrev S8x4x64x512 : Shape := ⟨4, ![8, 4, 64, 512]⟩
abbrev S512x2048 : Shape := ⟨2, ![512, 2048]⟩
abbrev S16x2048 : Shape := ⟨2, ![16, 2048]⟩
abbrev S528x1 : Shape := ⟨2, ![528, 1]⟩
abbrev S512x512 : Shape := ⟨2, ![512, 512]⟩
abbrev S16x512 : Shape := ⟨2, ![16, 512]⟩
abbrev S528x512 : Shape := ⟨2, ![528, 512]⟩
abbrev S8x1x64x512 : Shape := ⟨4, ![8, 1, 64, 512]⟩
abbrev S8x64x512 : Shape := ⟨3, ![8, 64, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S8192x2048, .f32⟩
  | .hbm, ⟨3, _⟩ => ⟨S8192x2048, .bf16⟩
  | .hbm, ⟨4, _⟩ => ⟨S4x512x512, .bf16⟩
  | .hbm, ⟨5, _⟩ => ⟨S4x8x64x512, .bf16⟩
  | .hbm, ⟨6, _⟩ => ⟨S8x4x64x512, .bf16⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S8x4x64x512, .bf16⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S8192x2048 : Shape := ⟨2, ![8192, 2048]⟩
abbrev S4x512x512 : Shape := ⟨3, ![4, 512, 512]⟩
abbrev S8192x4x512 : Shape := ⟨3, ![8192, 4, 512]⟩
abbrev S_ : Shape := ⟨0, ![]⟩
abbrev S8192 : Shape := ⟨1, ![8192]⟩
abbrev S8192x1x512 : Shape := ⟨3, ![8192, 1, 512]⟩
abbrev S8192x512 : Shape := ⟨2, ![8192, 512]⟩
abbrev S2x512 : Shape := ⟨2, ![2, 512]⟩
abbrev S8194x512 : Shape := ⟨2, ![8194, 512]⟩
abbrev S8192x1 : Shape := ⟨2, ![8192, 1]⟩
abbrev S4x512 : Shape := ⟨2, ![4, 512]⟩
abbrev S8196x512 : Shape := ⟨2, ![8196, 512]⟩
abbrev S8x512 : Shape := ⟨2, ![8, 512]⟩
abbrev S8200x512 : Shape := ⟨2, ![8200, 512]⟩
abbrev S16x512 : Shape := ⟨2, ![16, 512]⟩
abbrev S8208x512 : Shape := ⟨2, ![8208, 512]⟩
abbrev S4x512x8192 : Shape := ⟨3, ![4, 512, 8192]⟩
abbrev S4x8192x512 : Shape := ⟨3, ![4, 8192, 512]⟩

abbrev nBuf : Space → Nat
  | .hbm => 188
  | .vmem => 0
  | .smem => 0
  | _ => 0

abbrev hbmTy0_0 (i : Nat) : BufTy := match i % 128 with
  | 0 => ⟨S8192x2048, .f32⟩
  | 1 => ⟨S4x512x512, .f32⟩
  | 2 => ⟨S8192x2048, .f32⟩
  | 3 => ⟨S8192x4x512, .f32⟩
  | 4 => ⟨S_, .f32⟩
  | 5 => ⟨S_, .f32⟩
  | 6 => ⟨S8192x4x512, .f32⟩
  | 7 => ⟨S8192, .i32⟩
  | 8 => ⟨S8192x1x512, .f32⟩
  | 9 => ⟨S8192x512, .f32⟩
  | 10 => ⟨S_, .f32⟩
  | 11 => ⟨S2x512, .f32⟩
  | 12 => ⟨S8194x512, .f32⟩
  | 13 => ⟨S_, .f32⟩
  | 14 => ⟨S2x512, .f32⟩
  | 15 => ⟨S8192x512, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S8192x1, .f32⟩
  | 24 => ⟨S8192x512, .f32⟩
  | 25 => ⟨S8192x512, .f32⟩
  | 26 => ⟨S8192x512, .f32⟩
  | 27 => ⟨S8192x1x512, .f32⟩
  | 28 => ⟨S8192x512, .f32⟩
  | 29 => ⟨S8192x512, .f32⟩
  | 30 => ⟨S8192x1x512, .f32⟩
  | 31 => ⟨S8192x512, .f32⟩
  | 32 => ⟨S_, .f32⟩
  | 33 => ⟨S4x512, .f32⟩
  | 34 => ⟨S8196x512, .f32⟩
  | 35 => ⟨S_, .f32⟩
  | 36 => ⟨S4x512, .f32⟩
  | 37 => ⟨S8192x512, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x1, .f32⟩
  | 46 => ⟨S8192x512, .f32⟩
  | 47 => ⟨S8192x512, .f32⟩
  | 48 => ⟨S8192x512, .f32⟩
  | 49 => ⟨S8192x1x512, .f32⟩
  | 50 => ⟨S8192x512, .f32⟩
  | 51 => ⟨S8192x512, .f32⟩
  | 52 => ⟨S8192x1x512, .f32⟩
  | 53 => ⟨S8192x512, .f32⟩
  | 54 => ⟨S_, .f32⟩
  | 55 => ⟨S8x512, .f32⟩
  | 56 => ⟨S8200x512, .f32⟩
  | 57 => ⟨S_, .f32⟩
  | 58 => ⟨S8x512, .f32⟩
  | 59 => ⟨S8192x512, .f32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S8192, .f32⟩
  | 67 => ⟨S8192x1, .f32⟩
  | 68 => ⟨S8192x512, .f32⟩
  | 69 => ⟨S8192x512, .f32⟩
  | 70 => ⟨S8192x512, .f32⟩
  | 71 => ⟨S8192x1x512, .f32⟩
  | 72 => ⟨S8192x512, .f32⟩
  | 73 => ⟨S8192x512, .f32⟩
  | 74 => ⟨S8192x1x512, .f32⟩
  | 75 => ⟨S8192x512, .f32⟩
  | 76 => ⟨S_, .f32⟩
  | 77 => ⟨S16x512, .f32⟩
  | 78 => ⟨S8208x512, .f32⟩
  | 79 => ⟨S_, .f32⟩
  | 80 => ⟨S16x512, .f32⟩
  | 81 => ⟨S8192x512, .f32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .f32⟩
  | 89 => ⟨S8192x1, .f32⟩
  | 90 => ⟨S8192x512, .f32⟩
  | 91 => ⟨S8192x512, .f32⟩
  | 92 => ⟨S8192x512, .f32⟩
  | 93 => ⟨S8192x1x512, .f32⟩
  | 94 => ⟨S8192x512, .f32⟩
  | 95 => ⟨S8192x512, .f32⟩
  | 96 => ⟨S8192x1x512, .f32⟩
  | 97 => ⟨S8192x1x512, .f32⟩
  | 98 => ⟨S8192x1x512, .f32⟩
  | 99 => ⟨S8192x1x512, .f32⟩
  | 100 => ⟨S8192x4x512, .f32⟩
  | 101 => ⟨S4x512x8192, .f32⟩
  | 102 => ⟨S8192x4x512, .f32⟩
  | 103 => ⟨S8192x2048, .f32⟩
  | 104 => ⟨S8192x4x512, .f32⟩
  | 105 => ⟨S4x512x8192, .f32⟩
  | 106 => ⟨S4x8192x512, .f32⟩
  | 107 => ⟨S8192x4x512, .f32⟩
  | 108 => ⟨S8192x1x512, .f32⟩
  | 109 => ⟨S8192x512, .f32⟩
  | 110 => ⟨S8192x1x512, .f32⟩
  | 111 => ⟨S8192x512, .f32⟩
  | 112 => ⟨S8192x1x512, .f32⟩
  | 113 => ⟨S8192x512, .f32⟩
  | 114 => ⟨S8192x1x512, .f32⟩
  | 115 => ⟨S8192x512, .f32⟩
  | 116 => ⟨S8192x512, .f32⟩
  | 117 => ⟨S8192x1x512, .f32⟩
  | 118 => ⟨S_, .f32⟩
  | 119 => ⟨S8192x4x512, .f32⟩
  | 120 => ⟨S8192x512, .f32⟩
  | 121 => ⟨S8192x512, .f32⟩
  | 122 => ⟨S8192x512, .f32⟩
  | 123 => ⟨S_, .f32⟩
  | 124 => ⟨S8208x512, .f32⟩
  | 125 => ⟨S16x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x1x512, .f32⟩
  | 1 => ⟨S_, .f32⟩
  | 2 => ⟨S8192x4x512, .f32⟩
  | 3 => ⟨S8192x512, .f32⟩
  | 4 => ⟨S8192x1x512, .f32⟩
  | 5 => ⟨S_, .f32⟩
  | 6 => ⟨S8192x4x512, .f32⟩
  | 7 => ⟨S8192x4x512, .f32⟩
  | 8 => ⟨S8192x512, .f32⟩
  | 9 => ⟨S8192x512, .f32⟩
  | 10 => ⟨S8192x512, .f32⟩
  | 11 => ⟨S_, .f32⟩
  | 12 => ⟨S8200x512, .f32⟩
  | 13 => ⟨S8x512, .f32⟩
  | 14 => ⟨S8192x512, .f32⟩
  | 15 => ⟨S8192x512, .f32⟩
  | 16 => ⟨S8192x1x512, .f32⟩
  | 17 => ⟨S_, .f32⟩
  | 18 => ⟨S8192x4x512, .f32⟩
  | 19 => ⟨S8192x4x512, .f32⟩
  | 20 => ⟨S8192x512, .f32⟩
  | 21 => ⟨S8192x1x512, .f32⟩
  | 22 => ⟨S_, .f32⟩
  | 23 => ⟨S8192x4x512, .f32⟩
  | 24 => ⟨S8192x4x512, .f32⟩
  | 25 => ⟨S8192x512, .f32⟩
  | 26 => ⟨S8192x512, .f32⟩
  | 27 => ⟨S8192x512, .f32⟩
  | 28 => ⟨S_, .f32⟩
  | 29 => ⟨S8196x512, .f32⟩
  | 30 => ⟨S4x512, .f32⟩
  | 31 => ⟨S8192x512, .f32⟩
  | 32 => ⟨S8192x512, .f32⟩
  | 33 => ⟨S8192x1x512, .f32⟩
  | 34 => ⟨S_, .f32⟩
  | 35 => ⟨S8192x4x512, .f32⟩
  | 36 => ⟨S8192x4x512, .f32⟩
  | 37 => ⟨S8192x512, .f32⟩
  | 38 => ⟨S8192x1x512, .f32⟩
  | 39 => ⟨S_, .f32⟩
  | 40 => ⟨S8192x4x512, .f32⟩
  | 41 => ⟨S8192x4x512, .f32⟩
  | 42 => ⟨S8192x512, .f32⟩
  | 43 => ⟨S8192x512, .f32⟩
  | 44 => ⟨S8192x512, .f32⟩
  | 45 => ⟨S_, .f32⟩
  | 46 => ⟨S8194x512, .f32⟩
  | 47 => ⟨S2x512, .f32⟩
  | 48 => ⟨S8192x512, .f32⟩
  | 49 => ⟨S8192x512, .f32⟩
  | 50 => ⟨S8192x1x512, .f32⟩
  | 51 => ⟨S_, .f32⟩
  | 52 => ⟨S8192x4x512, .f32⟩
  | 53 => ⟨S8192x4x512, .f32⟩
  | 54 => ⟨S_, .f32⟩
  | 55 => ⟨S_, .f32⟩
  | 56 => ⟨S8192x4x512, .f32⟩
  | 57 => ⟨S8192x4x512, .f32⟩
  | 58 => ⟨S8192x2048, .f32⟩
  | 59 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_c_12 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_16 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_18 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_19 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_20 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_21 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_22 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_23 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_24 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_25 : Ref sig .tc := ⟨.hbm, 179, rfl⟩
abbrev main_v147 : Ref sig .tc := ⟨.hbm, 180, rfl⟩
abbrev main_v148 : Ref sig .tc := ⟨.hbm, 181, rfl⟩
abbrev main_call1_call0_cst : Ref sig .tc := ⟨.hbm, 182, rfl⟩
abbrev main_call1_call0_v0 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩

abbrev nD : Nat := 1
abbrev τ : Topo := Topo.v7x

variable {F : FTy → Type} [FloatOps F]
-- ==== GateW.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x1024 : Shape := ⟨2, ![1, 1024]⟩
abbrev S8x256x1024 : Shape := ⟨3, ![8, 256, 1024]⟩
abbrev S1x2048 : Shape := ⟨2, ![1, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 26
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S2048x1024, .bf16⟩
  | .hbm, ⟨8, _⟩ => ⟨S8x256x1024, .bf16⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S8192x1024, .bf16⟩
  | .hbm, ⟨24, _⟩ => ⟨S8x256x1024, .bf16⟩
  | .hbm, ⟨25, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S1x1024, .f32⟩
  | .local _ .vmem, ⟨6, _⟩ => ⟨S8x256x1024, .bf16⟩
  | .local _ .vmem, ⟨7, _⟩ => ⟨S1x1024, .f32⟩
  | .local _ .vmem, ⟨8, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateWRefIdeal.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x2048 : Shape := ⟨2, ![1, 2048]⟩
abbrev S_ : Shape := ⟨0, ![]⟩
abbrev S1x1024 : Shape := ⟨2, ![1, 1024]⟩
abbrev S1024x2048 : Shape := ⟨2, ![1024, 2048]⟩
abbrev S8x256x1024 : Shape := ⟨3, ![8, 256, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1024x2048, .f32⟩
  | .hbm, ⟨32, _⟩ => ⟨S2048x1024, .f32⟩
  | .hbm, ⟨33, _⟩ => ⟨S8x256x1024, .f32⟩
  | .hbm, ⟨34, _⟩ => ⟨S8x256x1024, .bf16⟩
  | .hbm, ⟨35, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Mods.lean ====
abbrev S8x1024 : Shape := ⟨2, ![8, 1024]⟩
abbrev S4x1024x384 : Shape := ⟨3, ![4, 1024, 384]⟩
abbrev S1024x256 : Shape := ⟨2, ![1024, 256]⟩
abbrev S8x1792 : Shape := ⟨2, ![8, 1792]⟩
abbrev S8x384 : Shape := ⟨2, ![8, 384]⟩
abbrev S1024x384 : Shape := ⟨2, ![1024, 384]⟩
abbrev S1x1024x384 : Shape := ⟨3, ![1, 1024, 384]⟩
abbrev S8x256 : Shape := ⟨2, ![8, 256]⟩

abbrev nBuf : Space → Nat
  | .hbm => 6
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S1024x256, .f32⟩
  | .hbm, ⟨3, _⟩ => ⟨S8x1792, .f32⟩
  | .hbm, ⟨4, _⟩ => ⟨S4x1024x384, .f32⟩
  | .hbm, ⟨5, _⟩ => ⟨S1024x256, .f32⟩
  | .local _ .vmem, ⟨0, _⟩ => ⟨S8x1024, .f32⟩
  | .local _ .vmem, ⟨1, _⟩ => ⟨S8x1792, .f32⟩
  | .local _ .vmem, ⟨2, _⟩ => ⟨S4x1024x384, .f32⟩
  | .local _ .vmem, ⟨3, _⟩ => ⟨S1024x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModsRefIdeal.lean ====
abbrev S8x1024 : Shape := ⟨2, ![8, 1024]⟩
abbrev S4x1024x384 : Shape := ⟨3, ![4, 1024, 384]⟩
abbrev S1024x256 : Shape := ⟨2, ![1024, 256]⟩
abbrev S8x1792 : Shape := ⟨2, ![8, 1792]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S8x256 : Shape := ⟨2, ![8, 256]⟩
abbrev S256x1024 : Shape := ⟨2, ![256, 1024]⟩
abbrev S384x1024 : Shape := ⟨2, ![384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S1024x256, .f32⟩
  | .hbm, ⟨3, _⟩ => ⟨S8x1792, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x384, .f32⟩
  | .hbm, ⟨14, _⟩ => ⟨S1024x384, .f32⟩
  | .hbm, ⟨15, _⟩ => ⟨S8x384, .f32⟩
  | .hbm, ⟨16, _⟩ => ⟨S1x1024x384, .f32⟩
  | .hbm, ⟨17, _⟩ => ⟨S1024x384, .f32⟩
  | .hbm, ⟨18, _⟩ => ⟨S8x384, .f32⟩
  | .hbm, ⟨19, _⟩ => ⟨S1x1024x384, .f32⟩
  | .hbm, ⟨20, _⟩ => ⟨S1024x384, .f32⟩
  | .hbm, ⟨21, _⟩ => ⟨S8x384, .f32⟩
  | .hbm, ⟨22, _⟩ => ⟨S1x1024x384, .f32⟩
  | .hbm, ⟨23, _⟩ => ⟨S1024x384, .f32⟩
  | .hbm, ⟨24, _⟩ => ⟨S8x384, .f32⟩
  | .hbm, ⟨25, _⟩ => ⟨S8x256, .f32⟩
  | .hbm, ⟨26, _⟩ => ⟨S8x1792, .f32⟩
  | .hbm, ⟨27, _⟩ => ⟨S8x384, .f32⟩
  | .hbm, ⟨28, _⟩ => ⟨S8x384, .f32⟩
  | .hbm, ⟨29, _⟩ => ⟨S8x384, .f32⟩
  | .hbm, ⟨30, _⟩ => ⟨S8x384, .f32⟩
  | .hbm, ⟨31, _⟩ => ⟨S8x256, .f32⟩
  | .hbm, ⟨32, _⟩ => ⟨S256x1024, .f32⟩
  | .hbm, ⟨33, _⟩ => ⟨S1024x256, .f32⟩
  | .hbm, ⟨34, _⟩ => ⟨S384x1024, .f32⟩
  | .hbm, ⟨35, _⟩ => ⟨S1024x384, .f32⟩
  | .hbm, ⟨36, _⟩ => ⟨S1x1024x384, .f32⟩
  | .hbm, ⟨37, _⟩ => ⟨S_, .f32⟩
  | .hbm, ⟨38, _⟩ => ⟨S4x1024x384, .f32⟩
  | .hbm, ⟨39, _⟩ => ⟨S384x1024, .f32⟩
  | .hbm, ⟨40, _⟩ => ⟨S1024x384, .f32⟩
  | .hbm, ⟨41, _⟩ => ⟨S1x1024x384, .f32⟩
  | .hbm, ⟨42, _⟩ => ⟨S_, .f32⟩
  | .hbm, ⟨43, _⟩ => ⟨S4x1024x384, .f32⟩
  | .hbm, ⟨44, _⟩ => ⟨S4x1024x384, .f32⟩
  | .hbm, ⟨45, _⟩ => ⟨S384x1024, .f32⟩
  | .hbm, ⟨46, _⟩ => ⟨S1024x384, .f32⟩
  | .hbm, ⟨47, _⟩ => ⟨S1x1024x384, .f32⟩
  | .hbm, ⟨48, _⟩ => ⟨S_, .f32⟩
  | .hbm, ⟨49, _⟩ => ⟨S4x1024x384, .f32⟩
  | .hbm, ⟨50, _⟩ => ⟨S4x1024x384, .f32⟩
  | .hbm, ⟨51, _⟩ => ⟨S384x1024, .f32⟩
  | .hbm, ⟨52, _⟩ => ⟨S1024x384, .f32⟩
  | .hbm, ⟨53, _⟩ => ⟨S1x1024x384, .f32⟩
  | .hbm, ⟨54, _⟩ => ⟨S_, .f32⟩
  | .hbm, ⟨55, _⟩ => ⟨S4x1024x384, .f32⟩
  | .hbm, ⟨56, _⟩ => ⟨S4x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== AttnF.lean ====
abbrev S1x8192x16x128 : Shape := ⟨4, ![1, 8192, 16, 128]⟩
abbrev S16x257 : Shape := ⟨2, ![16, 257]⟩
abbrev S8192x2048 : Shape := ⟨2, ![8192, 2048]⟩
abbrev S_ : Shape := ⟨0, ![]⟩
abbrev S8704x2048 : Shape := ⟨2, ![8704, 2048]⟩
abbrev S5 : Shape := ⟨1, ![5]⟩
abbrev S640 : Shape := ⟨1, ![640]⟩
abbrev S128 : Shape := ⟨1, ![128]⟩
abbrev S1x128 : Shape := ⟨2, ![1, 128]⟩
abbrev S640x1 : Shape := ⟨2, ![640, 1]⟩
abbrev S640x128 : Shape := ⟨2, ![640, 128]⟩
abbrev S640x128x1 : Shape := ⟨3, ![640, 128, 1]⟩
abbrev S16x640x128 : Shape := ⟨3, ![16, 640, 128]⟩
abbrev S1x640 : Shape := ⟨2, ![1, 640]⟩
abbrev S5x1 : Shape := ⟨2, ![5, 1]⟩
abbrev S5x640 : Shape := ⟨2, ![5, 640]⟩
abbrev S1x640x128 : Shape := ⟨3, ![1, 640, 128]⟩
abbrev S5x640x1 : Shape := ⟨3, ![5, 640, 1]⟩
abbrev S5x640x128 : Shape := ⟨3, ![5, 640, 128]⟩
abbrev S1x5x640x128 : Shape := ⟨4, ![1, 5, 640, 128]⟩
abbrev S16x1x640x128 : Shape := ⟨4, ![16, 1, 640, 128]⟩
abbrev S16x5x640x128 : Shape := ⟨4, ![16, 5, 640, 128]⟩
abbrev S16x5x128x640 : Shape := ⟨4, ![16, 5, 128, 640]⟩
abbrev S8192x128 : Shape := ⟨2, ![8192, 128]⟩
abbrev S8704x128 : Shape := ⟨2, ![8704, 128]⟩
abbrev S1x5x128x640 : Shape := ⟨4, ![1, 5, 128, 640]⟩
abbrev S128x128 : Shape := ⟨2, ![128, 128]⟩
abbrev S128x640 : Shape := ⟨2, ![128, 640]⟩
abbrev S1x1x128x640 : Shape := ⟨4, ![1, 1, 128, 640]⟩
abbrev S128x1 : Shape := ⟨2, ![128, 1]⟩

abbrev nBuf : Space → Nat
  | .hbm => 91
  | .vmem => 10
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16x128, .f32⟩
  | .hbm, ⟨3, _⟩ => ⟨S16x257, .f32⟩
  | .hbm, ⟨4, _⟩ => ⟨S1x8192x16x128, .bf16⟩
  | .hbm, ⟨5, _⟩ => ⟨S8192x2048, .bf16⟩
  | .hbm, ⟨6, _⟩ => ⟨S1x8192x16x128, .bf16⟩
  | .hbm, ⟨7, _⟩ => ⟨S8192x2048, .bf16⟩
  | .hbm, ⟨8, _⟩ => ⟨S_, .i32⟩
  | .hbm, ⟨9, _⟩ => ⟨S_, .bf16⟩
  | .hbm, ⟨10, _⟩ => ⟨S8704x2048, .bf16⟩
  | .hbm, ⟨11, _⟩ => ⟨S1x8192x16x128, .bf16⟩
  | .hbm, ⟨12, _⟩ => ⟨S8192x2048, .bf16⟩
  | .hbm, ⟨13, _⟩ => ⟨S_, .i32⟩
  | .hbm, ⟨14, _⟩ => ⟨S_, .bf16⟩
  | .hbm, ⟨15, _⟩ => ⟨S8704x2048, .bf16⟩
  | .hbm, ⟨16, _⟩ => ⟨S5, .i32⟩
  | .hbm, ⟨17, _⟩ => ⟨S640, .i32⟩
  | .hbm, ⟨18, _⟩ => ⟨S128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i32⟩
  | .hbm, ⟨23, _⟩ => ⟨S640x1, .i32⟩
  | .hbm, ⟨24, _⟩ => ⟨S640x128, .i32⟩
  | .hbm, ⟨25, _⟩ => ⟨S640x128, .i32⟩
  | .hbm, ⟨26, _⟩ => ⟨S640x128, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S640x128, .i32⟩
  | .hbm, ⟨31, _⟩ => ⟨S640x128, .i32⟩
  | .hbm, ⟨32, _⟩ => ⟨S_, .i32⟩
  | .hbm, ⟨33, _⟩ => ⟨S640x128, .i32⟩
  | .hbm, ⟨34, _⟩ => ⟨S640x128, .i32⟩
  | .hbm, ⟨35, _⟩ => ⟨S_, .i32⟩
  | .hbm, ⟨36, _⟩ => ⟨S640x128, .i32⟩
  | .hbm, ⟨37, _⟩ => ⟨S640x128, .i32⟩
  | .hbm, ⟨38, _⟩ => ⟨S_, .i32⟩
  | .hbm, ⟨39, _⟩ => ⟨S640x128, .i32⟩
  | .hbm, ⟨40, _⟩ => ⟨S640x128, .i1⟩
  | .hbm, ⟨41, _⟩ => ⟨S_, .i32⟩
  | .hbm, ⟨42, _⟩ => ⟨S640x128, .i32⟩
  | .hbm, ⟨43, _⟩ => ⟨S640x128, .i32⟩
  | .hbm, ⟨44, _⟩ => ⟨S640x128, .i32⟩
  | .hbm, ⟨45, _⟩ => ⟨S640x128x1, .i32⟩
  | .hbm, ⟨46, _⟩ => ⟨S16x640x128, .f32⟩
  | .hbm, ⟨47, _⟩ => ⟨S_, .i32⟩
  | .hbm, ⟨48, _⟩ => ⟨S640, .i32⟩
  | .hbm, ⟨49, _⟩ => ⟨S640, .i32⟩
  | .hbm, ⟨50, _⟩ => ⟨S640x1, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S1x128, .i32⟩
  | .hbm, ⟨55, _⟩ => ⟨S640x128, .i32⟩
  | .hbm, ⟨56, _⟩ => ⟨S640x128, .i32⟩
  | .hbm, ⟨57, _⟩ => ⟨S640x128, .i32⟩
  | .hbm, ⟨58, _⟩ => ⟨S_, .i32⟩
  | .hbm, ⟨59, _⟩ => ⟨S640x128, .i32⟩
  | .hbm, ⟨60, _⟩ => ⟨S640x128, .i1⟩
  | .hbm, ⟨61, _⟩ => ⟨S_, .i32⟩
  | .hbm, ⟨62, _⟩ => ⟨S640x128, .i32⟩
  | .hbm, ⟨63, _⟩ => ⟨S640x128, .i1⟩
  | .hbm, ⟨64, _⟩ => ⟨S640x128, .i1⟩
  | .hbm, ⟨65, _⟩ => ⟨S1x640, .i32⟩
  | .hbm, ⟨66, _⟩ => ⟨S5x1, .i32⟩
  | .hbm, ⟨67, _⟩ => ⟨S_, .i32⟩
  | .hbm, ⟨68, _⟩ => ⟨S5x1, .i32⟩
  | .hbm, ⟨69, _⟩ => ⟨S5x1, .i32⟩
  | .hbm, ⟨70, _⟩ => ⟨S_, .i32⟩
  | .hbm, ⟨71, _⟩ => ⟨S5x1, .i32⟩
  | .hbm, ⟨72, _⟩ => ⟨S5x1, .i32⟩
  | .hbm, ⟨73, _⟩ => ⟨S5x640, .i32⟩
  | .hbm, ⟨74, _⟩ => ⟨S5x640, .i32⟩
  | .hbm, ⟨75, _⟩ => ⟨S5x640, .i1⟩
  | .hbm, ⟨76, _⟩ => ⟨S1x640x128, .i1⟩
  | .hbm, ⟨77, _⟩ => ⟨S5x640x1, .i1⟩
  | .hbm, ⟨78, _⟩ => ⟨S5x640x128, .i1⟩
  | .hbm, ⟨79, _⟩ => ⟨S5x640x128, .i1⟩
  | .hbm, ⟨80, _⟩ => ⟨S5x640x128, .i1⟩
  | .hbm, ⟨81, _⟩ => ⟨S1x5x640x128, .i1⟩
  | .hbm, ⟨82, _⟩ => ⟨S16x1x640x128, .f32⟩
  | .hbm, ⟨83, _⟩ => ⟨S_, .f32⟩
  | .hbm, ⟨84, _⟩ => ⟨S_, .f32⟩
  | .hbm, ⟨85, _⟩ => ⟨S16x5x640x128, .i1⟩
  | .hbm, ⟨86, _⟩ => ⟨S16x5x640x128, .f32⟩
  | .hbm, ⟨87, _⟩ => ⟨S16x5x640x128, .f32⟩
  | .hbm, ⟨88, _⟩ => ⟨S16x5x640x128, .f32⟩
  | .hbm, ⟨89, _⟩ => ⟨S16x5x128x640, .f32⟩
  | .hbm, ⟨90, _⟩ => ⟨S8192x2048, .bf16⟩
  | .local _ .vmem, ⟨0, _⟩ => ⟨S8192x128, .bf16⟩
  | .local _ .vmem, ⟨1, _⟩ => ⟨S8192x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S1x5x128x640, .f32⟩
  | .local _ .vmem, ⟨7, _⟩ => ⟨S1x5x128x640, .f32⟩
  | .local _ .vmem, ⟨8, _⟩ => ⟨S8192x128, .bf16⟩
  | .local _ .vmem, ⟨9, _⟩ => ⟨S8192x128, .bf16⟩
  | _, _ => ⟨S1x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  let c0_i32 : BitVec 32 := 0#32
  let v1 : BitVec 32 := Scalar.addi v0 c0_i32
  let c128_i32 : BitVec 32 := 128#32
  let v2 : BitVec 32 := Scalar.muli v1 c128_i32
  v2
def k0_mult2 (i : grid0.Coords) : BitVec 32 :=
  let arg1 : BitVec 32 := BitVec.ofNat 32 (i 1).val
  let c64_i32 : BitVec 32 := 64#32
  let v0 : BitVec 32 := Scalar.muli arg1 c64_i32
  let c1_i32 : BitVec 32 := 1#32
  let v4 : BitVec 32 := Scalar.addi v0 c1_i32
  let c128_i32_0 : BitVec 32 := 128#32
  let v5 : BitVec 32 := Scalar.muli v4 c128_i32_0
  v5
def k0_mult3 (i : grid0.Coords) : BitVec 32 :=
  let arg1 : BitVec 32 := BitVec.ofNat 32 (i 1).val
  let c64_i32 : BitVec 32 := 64#32
  let v0 : BitVec 32 := Scalar.muli arg1 c64_i32
  let c2_i32 : BitVec 32 := 2#32
  let v7 : BitVec 32 := Scalar.addi v0 c2_i32
  let c128_i32_1 : BitVec 32 := 128#32
  let v8 : BitVec 32 := Scalar.muli v7 c128_i32_1
  v8
def k0_mult4 (i : grid0.Coords) : BitVec 32 :=
  let arg1 : BitVec 32 := BitVec.ofNat 32 (i 1).val
  let c64_i32 : BitVec 32 := 64#32
  let v0 : BitVec 32 := Scalar.muli arg1 c64_i32
  let c3_i32 : BitVec 32 := 3#32
  let v10 : BitVec 32 := Scalar.addi v0 c3_i32
  let c128_i32_2 : BitVec 32 := 128#32
  let v11 : BitVec 32 := Scalar.muli v10 c128_i32_2
  v11
def k0_mult5 (i : grid0.Coords) : BitVec 32 :=
  let arg1 : BitVec 32 := BitVec.ofNat 32 (i 1).val
  let c64_i32 : BitVec 32 := 64#32
  let v0 : BitVec 32 := Scalar.muli arg1 c64_i32
  let c4_i32 : BitVec 32 := 4#32
  let v13 : BitVec 32 := Scalar.addi v0 c4_i32
  let c128_i32_3 : BitVec 32 := 128#32
  let v14 : BitVec 32 := Scalar.muli v13 c128_i32_3
  v14
def k0_mult6 (i : grid0.Coords) : BitVec 32 :=
  let arg1 : BitVec 32 := BitVec.ofNat 32 (i 1).val
  let c64_i32 : BitVec 32 := 64#32
  let v0 : BitVec 32 := Scalar.muli arg1 c64_i32
  let c5_i32 : BitVec 32 := 5#32
  let v16 : BitVec 32 := Scalar.addi v0 c5_i32
  let c128_i32_4 : BitVec 32 := 128#32
  let v17 : BitVec 32 := Scalar.muli v16 c128_i32_4
  v17
def k0_mult7 (i : grid0.Coords) : BitVec 32 :=
  let arg1 : BitVec 32 := BitVec.ofNat 32 (i 1).val
  let c64_i32 : BitVec 32 := 64#32
  let v0 : BitVec 32 := Scalar.muli arg1 c64_i32
  let c6_i32 : BitVec 32 := 6#32
  let v19 : BitVec 32 := Scalar.addi v0 c6_i32
  let c128_i32_5 : BitVec 32 := 128#32
  let v20 : BitVec 32 := Scalar.muli v19 c128_i32_5
  v20
def k0_mult8 (i : grid0.Coords) : BitVec 32 :=
  let arg1 : BitVec 32 := BitVec.ofNat 32 (i 1).val
  let c64_i32 : BitVec 32 := 64#32
  let v0 : BitVec 32 := Scalar.muli arg1 c64_i32
  let c7_i32 : BitVec 32 := 7#32
  let v22 : BitVec 32 := Scalar.addi v0 c7_i32
  let c128_i32_6 : BitVec 32 := 128#32
  let v23 : BitVec 32 := Scalar.muli v22 c128_i32_6
  v23
def k0_off1 (i : grid0.Coords) (c0_i32 : BitVec 32) : Fin 2 → Nat :=
  let arg1 : BitVec 32 := BitVec.ofNat 32 (i 1).val
  let c64_i32 : BitVec 32 := 64#32
  let v0 : BitVec 32 := Scalar.muli arg1 c64_i32
  let v1 : BitVec 32 := Scalar.addi v0 c0_i32
  let c128_i32 : BitVec 32 := 128#32
  let v2 : BitVec 32 := Scalar.muli v1 c128_i32
  let v3 : BitVec 32 := v2
  let v27 : Index := Scalar.indexCast v3
  let c0_8 : Index := 0#32
  ![v27.toNat, 0]
def k0_off2 (i : grid0.Coords) (c0_i32_31 : BitVec 32) : Fin 4 → Nat :=
  let c0_33 : Index := 0#32
  let arg1 : BitVec 32 := BitVec.ofNat 32 (i 1).val
  let c64_i32 : BitVec 32 := 64#32
  let v0 : BitVec 32 := Scalar.muli arg1 c64_i32
  let v75 : BitVec 32 := Scalar.addi v0 c0_i32_31
  let c4_i32_32 : BitVec 32 := 4#32
  let v76 : BitVec 32 := Scalar.minsi v75 c4_i32_32
  let v77 : Index := Scalar.indexCast v76
  let c0_34 : Index := 0#32
  let c0_35 : Index := 0#32
  ![0, v77.toNat, 0, 0]
def k0_mult9 (i : grid0.Coords) : BitVec 32 :=
  let arg1 : BitVec 32 := BitVec.ofNat 32 (i 1).val
  let c64_i32 : BitVec 32 := 64#32
  let v0 : BitVec 32 := Scalar.muli arg1 c64_i32
  let c8_i32 : BitVec 32 := 8#32
  let v265 : BitVec 32 := Scalar.addi v0 c8_i32
  let c128_i32_126 : BitVec 32 := 128#32
  let v266 : BitVec 32 := Scalar.muli v265 c128_i32_126
  v266
def k0_mult10 (i : grid0.Coords) : BitVec 32 :=
  let arg1 : BitVec 32 := BitVec.ofNat 32 (i 1).val
  let c64_i32 : BitVec 32 := 64#32
  let v0 : BitVec 32 := Scalar.muli arg1 c64_i32
  let c9_i32 : BitVec 32 := 9#32
  let v268 : BitVec 32 := Scalar.addi v0 c9_i32
  let c128_i32_127 : BitVec 32 := 128#32
  let v269 : BitVec 32 := Scalar.muli v268 c128_i32_127
  v269
def k0_mult11 (i : grid0.Coords) : BitVec 32 :=
  let arg1 : BitVec 32 := BitVec.ofNat 32 (i 1).val
  let c64_i32 : BitVec 32 := 64#32
  let v0 : BitVec 32 := Scalar.muli arg1 c64_i32
  let c10_i32 : BitVec 32 := 10#32
  let v271 : BitVec 32 := Scalar.addi v0 c10_i32
  let c128_i32_128 : BitVec 32 := 128#32
  let v272 : BitVec 32 := Scalar.muli v271 c128_i32_128
  v272
def k0_mult12 (i : grid0.Coords) : BitVec 32 :=
  let arg1 : BitVec 32 := BitVec.ofNat 32 (i 1).val
  let c64_i32 : BitVec 32 := 64#32
  let v0 : BitVec 32 := Scalar.muli arg1 c64_i32
  let c11_i32 : BitVec 32 := 11#32
  let v274 : BitVec 32 := Scalar.addi v0 c11_i32
  let c128_i32_129 : BitVec 32 := 128#32
  let v275 : BitVec 32 := Scalar.muli v274 c128_i32_129
  v275
def k0_mult13 (i : grid0.Coords) : BitVec 32 :=
  let arg1 : BitVec 32 := BitVec.ofNat 32 (i 1).val
  let c64_i32 : BitVec 32 := 64#32
  let v0 : BitVec 32 := Scalar.muli arg1 c64_i32
  let c12_i32 : BitVec 32 := 12#32
  let v277 : BitVec 32 := Scalar.addi v0 c12_i32
  let c128_i32_130 : BitVec 32 := 128#32
  let v278 : BitVec 32 := Scalar.muli v277 c128_i32_130
  v278
def k0_mult14 (i : grid0.Coords) : BitVec 32 :=
  let arg1 : BitVec 32 := BitVec.ofNat 32 (i 1).val
  let c64_i32 : BitVec 32 := 64#32
  let v0 : BitVec 32 := Scalar.muli arg1 c64_i32
  let c13_i32 : BitVec 32 := 13#32
  let v280 : BitVec 32 := Scalar.addi v0 c13_i32
  let c128_i32_131 : BitVec 32 := 128#32
  let v281 : BitVec 32 := Scalar.muli v280 c128_i32_131
  v281
def k0_mult15 (i : grid0.Coords) : BitVec 32 :=
  let arg1 : BitVec 32 := BitVec.ofNat 32 (i 1).val
  let c64_i32 : BitVec 32 := 64#32
  let v0 : BitVec 32 := Scalar.muli arg1 c64_i32
  let c14_i32 : BitVec 32 := 14#32
  let v283 : BitVec 32 := Scalar.addi v0 c14_i32
  let c128_i32_132 : BitVec 32 := 128#32
  let v284 : BitVec 32 := Scalar.muli v283 c128_i32_132
  v284
def k0_mult16 (i : grid0.Coords) : BitVec 32 :=
  let arg1 : BitVec 32 := BitVec.ofNat 32 (i 1).val
  let c64_i32 : BitVec 32 := 64#32
  let v0 : BitVec 32 := Scalar.muli arg1 c64_i32
  let c15_i32 : BitVec 32 := 15#32
  let v286 : BitVec 32 := Scalar.addi v0 c15_i32
  let c128_i32_133 : BitVec 32 := 128#32
  let v287 : BitVec 32 := Scalar.muli v286 c128_i32_133
  v287
def k0_mult17 (i : grid0.Coords) : BitVec 32 :=
  let arg1 : BitVec 32 := BitVec.ofNat 32 (i 1).val
  let c64_i32 : BitVec 32 := 64#32
  let v0 : BitVec 32 := Scalar.muli arg1 c64_i32
  let c16_i32 : BitVec 32 := 16#32
  let v529 : BitVec 32 := Scalar.addi v0 c16_i32
  let c128_i32_254 : BitVec 32 := 128#32
  let v530 : BitVec 32 := Scalar.muli v529 c128_i32_254
  v530
def k0_mult18 (i : grid0.Coords) : BitVec 32 :=
  let arg1 : BitVec 32 := BitVec.ofNat 32 (i 1).val
  let c64_i32 : BitVec 32 := 64#32
  let v0 : BitVec 32 := Scalar.muli arg1 c64_i32
  let c17_i32 : BitVec 32 := 17#32
  let v532 : BitVec 32 := Scalar.addi v0 c17_i32
  let c128_i32_255 : BitVec 32 := 128#32
  let v533 : BitVec 32 := Scalar.muli v532 c128_i32_255
  v533
def k0_mult19 (i : grid0.Coords) : BitVec 32 :=
  let arg1 : BitVec 32 := BitVec.ofNat 32 (i 1).val
  let c64_i32 : BitVec 32 := 64#32
  let v0 : BitVec 32 := Scalar.muli arg1 c64_i32
  let c18_i32 : BitVec 32 := 18#32
  let v535 : BitVec 32 := Scalar.addi v0 c18_i32
  let c128_i32_256 : BitVec 32 := 128#32
  let v536 : BitVec 32 := Scalar.muli v535 c128_i32_256
  v536
def k0_mult20 (i : grid0.Coords) : BitVec 32 :=
  let arg1 : BitVec 32 := BitVec.ofNat 32 (i 1).val
  let c64_i32 : BitVec 32 := 64#32
  let v0 : BitVec 32 := Scalar.muli arg1 c64_i32
  let c19_i32 : BitVec 32 := 19#32
  let v538 : BitVec 32 := Scalar.addi v0 c19_i32
  let c128_i32_257 : BitVec 32 := 128#32
  let v539 : BitVec 32 := Scalar.muli v538 c128_i32_257
  v539
def k0_mult21 (i : grid0.Coords) : BitVec 32 :=
  let arg1 : BitVec 32 := BitVec.ofNat 32 (i 1).val
  let c64_i32 : BitVec 32 := 64#32
  let v0 : BitVec 32 := Scalar.muli arg1 c64_i32
  let c20_i32 : BitVec 32 := 20#32
  let v541 : BitVec 32 := Scalar.addi v0 c20_i32
  let c128_i32_258 : BitVec 32 := 128#32
  let v542 : BitVec 32 := Scalar.muli v541 c128_i32_258
  v542
def k0_mult22 (i : grid0.Coords) : BitVec 32 :=
  let arg1 : BitVec 32 := BitVec.ofNat 32 (i 1).val
  let c64_i32 : BitVec 32 := 64#32
  let v0 : BitVec 32 := Scalar.muli arg1 c64_i32
  let c21_i32 : BitVec 32 := 21#32
  let v544 : BitVec 32 := Scalar.addi v0 c21_i32
  let c128_i32_259 : BitVec 32 := 128#32
  let v545 : BitVec 32 := Scalar.muli v544 c128_i32_259
  v545
def k0_mult23 (i : grid0.Coords) : BitVec 32 :=
  let arg1 : BitVec 32 := BitVec.ofNat 32 (i 1).val
  let c64_i32 : BitVec 32 := 64#32
  let v0 : BitVec 32 := Scalar.muli arg1 c64_i32
  let c22_i32 : BitVec 32 := 22#32
  let v547 : BitVec 32 := Scalar.addi v0 c22_i32
  let c128_i32_260 : BitVec 32 := 128#32
  let v548 : BitVec 32 := Scalar.muli v547 c128_i32_260
  v548
def k0_mult24 (i : grid0.Coords) : BitVec 32 :=
  let arg1 : BitVec 32 := BitVec.ofNat 32 (i 1).val
  let c64_i32 : BitVec 32 := 64#32
  let v0 : BitVec 32 := Scalar.muli arg1 c64_i32
  let c23_i32 : BitVec 32 := 23#32
  let v550 : BitVec 32 := Scalar.addi v0 c23_i32
  let c128_i32_261 : BitVec 32 := 128#32
  let v551 : BitVec 32 := Scalar.muli v550 c128_i32_261
  v551
def k0_mult25 (i : grid0.Coords) : BitVec 32 :=
  let arg1 : BitVec 32 := BitVec.ofNat 32 (i 1).val
  let c64_i32 : BitVec 32 := 64#32
  let v0 : BitVec 32 := Scalar.muli arg1 c64_i32
  let c24_i32 : BitVec 32 := 24#32
  let v793 : BitVec 32 := Scalar.addi v0 c24_i32
  let c128_i32_382 : BitVec 32 := 128#32
  let v794 : BitVec 32 := Scalar.muli v793 c128_i32_382
  v794
def k0_mult26 (i : grid0.Coords) : BitVec 32 :=
  let arg1 : BitVec 32 := BitVec.ofNat 32 (i 1).val
  let c64_i32 : BitVec 32 := 64#32
  let v0 : BitVec 32 := Scalar.muli arg1 c64_i32
  let c25_i32 : BitVec 32 := 25#32
  let v796 : BitVec 32 := Scalar.addi v0 c25_i32
  let c128_i32_383 : BitVec 32 := 128#32
  let v797 : BitVec 32 := Scalar.muli v796 c128_i32_383
  v797
def k0_mult27 (i : grid0.Coords) : BitVec 32 :=
  let arg1 : BitVec 32 := BitVec.ofNat 32 (i 1).val
  let c64_i32 : BitVec 32 := 64#32
  let v0 : BitVec 32 := Scalar.muli arg1 c64_i32
  let c26_i32 : BitVec 32 := 26#32
  let v799 : BitVec 32 := Scalar.addi v0 c26_i32
  let c128_i32_384 : BitVec 32 := 128#32
  let v800 : BitVec 32 := Scalar.muli v799 c128_i32_384
  v800
def k0_mult28 (i : grid0.Coords) : BitVec 32 :=
  let arg1 : BitVec 32 := BitVec.ofNat 32 (i 1).val
  let c64_i32 : BitVec 32 := 64#32
  let v0 : BitVec 32 := Scalar.muli arg1 c64_i32
  let c27_i32 : BitVec 32 := 27#32
  let v802 : BitVec 32 := Scalar.addi v0 c27_i32
  let c128_i32_385 : BitVec 32 := 128#32
  let v803 : BitVec 32 := Scalar.muli v802 c128_i32_385
  v803
def k0_mult29 (i : grid0.Coords) : BitVec 32 :=
  let arg1 : BitVec 32 := BitVec.ofNat 32 (i 1).val
  let c64_i32 : BitVec 32 := 64#32
  let v0 : BitVec 32 := Scalar.muli arg1 c64_i32
  let c28_i32 : BitVec 32 := 28#32
  let v805 : BitVec 32 := Scalar.addi v0 c28_i32
  let c128_i32_386 : BitVec 32 := 128#32
  let v806 : BitVec 32 := Scalar.muli v805 c128_i32_386
  v806
def k0_mult30 (i : grid0.Coords) : BitVec 32 :=
  let arg1 : BitVec 32 := BitVec.ofNat 32 (i 1).val
  let c64_i32 : BitVec 32 := 64#32
  let v0 : BitVec 32 := Scalar.muli arg1 c64_i32
  let c29_i32 : BitVec 32 := 29#32
  let v808 : BitVec 32 := Scalar.addi v0 c29_i32
  let c128_i32_387 : BitVec 32 := 128#32
  let v809 : BitVec 32 := Scalar.muli v808 c128_i32_387
  v809
def k0_mult31 (i : grid0.Coords) : BitVec 32 :=
  let arg1 : BitVec 32 := BitVec.ofNat 32 (i 1).val
  let c64_i32 : BitVec 32 := 64#32
  let v0 : BitVec 32 := Scalar.muli arg1 c64_i32
  let c30_i32 : BitVec 32 := 30#32
  let v811 : BitVec 32 := Scalar.addi v0 c30_i32
  let c128_i32_388 : BitVec 32 := 128#32
  let v812 : BitVec 32 := Scalar.muli v811 c128_i32_388
  v812
def k0_mult32 (i : grid0.Coords) : BitVec 32 :=
  let arg1 : BitVec 32 := BitVec.ofNat 32 (i 1).val
  let c64_i32 : BitVec 32 := 64#32
  let v0 : BitVec 32 := Scalar.muli arg1 c64_i32
  let c31_i32 : BitVec 32 := 31#32
  let v814 : BitVec 32 := Scalar.addi v0 c31_i32
  let c128_i32_389 : BitVec 32 := 128#32
  let v815 : BitVec 32 := Scalar.muli v814 c128_i32_389
  v815
def k0_mult33 (i : grid0.Coords) : BitVec 32 :=
  let arg1 : BitVec 32 := BitVec.ofNat 32 (i 1).val
  let c64_i32 : BitVec 32 := 64#32
  let v0 : BitVec 32 := Scalar.muli arg1 c64_i32
  let c32_i32 : BitVec 32 := 32#32
  let v1057 : BitVec 32 := Scalar.addi v0 c32_i32
  let c128_i32_510 : BitVec 32 := 128#32
  let v1058 : BitVec 32 := Scalar.muli v1057 c128_i32_510
  v1058
def k0_mult34 (i : grid0.Coords) : BitVec 32 :=
  let arg1 : BitVec 32 := BitVec.ofNat 32 (i 1).val
  let c64_i32 : BitVec 32 := 64#32
  let v0 : BitVec 32 := Scalar.muli arg1 c64_i32
  let c33_i32 : BitVec 32 := 33#32
  let v1060 : BitVec 32 := Scalar.addi v0 c33_i32
  let c128_i32_511 : BitVec 32 := 128#32
  let v1061 : BitVec 32 := Scalar.muli v1060 c128_i32_511
  v1061
def k0_mult35 (i : grid0.Coords) : BitVec 32 :=
  let arg1 : BitVec 32 := BitVec.ofNat 32 (i 1).val
  let c64_i32 : BitVec 32 := 64#32
  let v0 : BitVec 32 := Scalar.muli arg1 c64_i32
  let c34_i32 : BitVec 32 := 34#32
  let v1063 : BitVec 32 := Scalar.addi v0 c34_i32
  let c128_i32_512 : BitVec 32 := 128#32
  let v1064 : BitVec 32 := Scalar.muli v1063 c128_i32_512
  v1064
def k0_mult36 (i : grid0.Coords) : BitVec 32 :=
  let arg1 : BitVec 32 := BitVec.ofNat 32 (i 1).val
  let c64_i32 : BitVec 32 := 64#32
  let v0 : BitVec 32 := Scalar.muli arg1 c64_i32
  let c35_i32 : BitVec 32 := 35#32
  let v1066 : BitVec 32 := Scalar.addi v0 c35_i32
  let c128_i32_513 : BitVec 32 := 128#32
  let v1067 : BitVec 32 := Scalar.muli v1066 c128_i32_513
  v1067
def k0_mult37 (i : grid0.Coords) : BitVec 32 :=
  let arg1 : BitVec 32 := BitVec.ofNat 32 (i 1).val
  let c64_i32 : BitVec 32 := 64#32
  let v0 : BitVec 32 := Scalar.muli arg1 c64_i32
  let c36_i32 : BitVec 32 := 36#32
  let v1069 : BitVec 32 := Scalar.addi v0 c36_i32
  let c128_i32_514 : BitVec 32 := 128#32
  let v1070 : BitVec 32 := Scalar.muli v1069 c128_i32_514
  v1070
def k0_mult38 (i : grid0.Coords) : BitVec 32 :=
  let arg1 : BitVec 32 := BitVec.ofNat 32 (i 1).val
  let c64_i32 : BitVec 32 := 64#32
  let v0 : BitVec 32 := Scalar.muli arg1 c64_i32
  let c37_i32 : BitVec 32 := 37#32
  let v1072 : BitVec 32 := Scalar.addi v0 c37_i32
  let c128_i32_515 : BitVec 32 := 128#32
  let v1073 : BitVec 32 := Scalar.muli v1072 c128_i32_515
  v1073
def k0_mult39 (i : grid0.Coords) : BitVec 32 :=
  let arg1 : BitVec 32 := BitVec.ofNat 32 (i 1).val
  let c64_i32 : BitVec 32 := 64#32
  let v0 : BitVec 32 := Scalar.muli arg1 c64_i32
  let c38_i32 : BitVec 32 := 38#32
  let v1075 : BitVec 32 := Scalar.addi v0 c38_i32
  let c128_i32_516 : BitVec 32 := 128#32
  let v1076 : BitVec 32 := Scalar.muli v1075 c128_i32_516
  v1076
def k0_mult40 (i : grid0.Coords) : BitVec 32 :=
  let arg1 : BitVec 32 := BitVec.ofNat 32 (i 1).val
  let c64_i32 : BitVec 32 := 64#32
  let v0 : BitVec 32 := Scalar.muli arg1 c64_i32
  let c39_i32 : BitVec 32 := 39#32
  let v1078 : BitVec 32 := Scalar.addi v0 c39_i32
  let c128_i32_517 : BitVec 32 := 128#32
  let v1079 : BitVec 32 := Scalar.muli v1078 c128_i32_517
  v1079
def k0_mult41 (i : grid0.Coords) : BitVec 32 :=
  let arg1 : BitVec 32 := BitVec.ofNat 32 (i 1).val
  let c64_i32 : BitVec 32 := 64#32
  let v0 : BitVec 32 := Scalar.muli arg1 c64_i32
  let c40_i32 : BitVec 32 := 40#32
  let v1321 : BitVec 32 := Scalar.addi v0 c40_i32
  let c128_i32_638 : BitVec 32 := 128#32
  let v1322 : BitVec 32 := Scalar.muli v1321 c128_i32_638
  v1322
def k0_mult42 (i : grid0.Coords) : BitVec 32 :=
  let arg1 : BitVec 32 := BitVec.ofNat 32 (i 1).val
  let c64_i32 : BitVec 32 := 64#32
  let v0 : BitVec 32 := Scalar.muli arg1 c64_i32
  let c41_i32 : BitVec 32 := 41#32
  let v1324 : BitVec 32 := Scalar.addi v0 c41_i32
  let c128_i32_639 : BitVec 32 := 128#32
  let v1325 : BitVec 32 := Scalar.muli v1324 c128_i32_639
  v1325
def k0_mult43 (i : grid0.Coords) : BitVec 32 :=
  let arg1 : BitVec 32 := BitVec.ofNat 32 (i 1).val
  let c64_i32 : BitVec 32 := 64#32
  let v0 : BitVec 32 := Scalar.muli arg1 c64_i32
  let c42_i32 : BitVec 32 := 42#32
  let v1327 : BitVec 32 := Scalar.addi v0 c42_i32
  let c128_i32_640 : BitVec 32 := 128#32
  let v1328 : BitVec 32 := Scalar.muli v1327 c128_i32_640
  v1328
def k0_mult44 (i : grid0.Coords) : BitVec 32 :=
  let arg1 : BitVec 32 := BitVec.ofNat 32 (i 1).val
  let c64_i32 : BitVec 32 := 64#32
  let v0 : BitVec 32 := Scalar.muli arg1 c64_i32
  let c43_i32 : BitVec 32 := 43#32
  let v1330 : BitVec 32 := Scalar.addi v0 c43_i32
  let c128_i32_641 : BitVec 32 := 128#32
  let v1331 : BitVec 32 := Scalar.muli v1330 c128_i32_641
  v1331
def k0_mult45 (i : grid0.Coords) : BitVec 32 :=
  let arg1 : BitVec 32 := BitVec.ofNat 32 (i 1).val
  let c64_i32 : BitVec 32 := 64#32
  let v0 : BitVec 32 := Scalar.muli arg1 c64_i32
  let c44_i32 : BitVec 32 := 44#32
  let v1333 : BitVec 32 := Scalar.addi v0 c44_i32
  let c128_i32_642 : BitVec 32 := 128#32
  let v1334 : BitVec 32 := Scalar.muli v1333 c128_i32_642
  v1334
def k0_mult46 (i : grid0.Coords) : BitVec 32 :=
  let arg1 : BitVec 32 := BitVec.ofNat 32 (i 1).val
  let c64_i32 : BitVec 32 := 64#32
  let v0 : BitVec 32 := Scalar.muli arg1 c64_i32
  let c45_i32 : BitVec 32 := 45#32
  let v1336 : BitVec 32 := Scalar.addi v0 c45_i32
  let c128_i32_643 : BitVec 32 := 128#32
  let v1337 : BitVec 32 := Scalar.muli v1336 c128_i32_643
  v1337
def k0_mult47 (i : grid0.Coords) : BitVec 32 :=
  let arg1 : BitVec 32 := BitVec.ofNat 32 (i 1).val
  let c64_i32 : BitVec 32 := 64#32
  let v0 : BitVec 32 := Scalar.muli arg1 c64_i32
  let c46_i32 : BitVec 32 := 46#32
  let v1339 : BitVec 32 := Scalar.addi v0 c46_i32
  let c128_i32_644 : BitVec 32 := 128#32
  let v1340 : BitVec 32 := Scalar.muli v1339 c128_i32_644
  v1340
def k0_mult48 (i : grid0.Coords) : BitVec 32 :=
  let arg1 : BitVec 32 := BitVec.ofNat 32 (i 1).val
  let c64_i32 : BitVec 32 := 64#32
  let v0 : BitVec 32 := Scalar.muli arg1 c64_i32
  let c47_i32 : BitVec 32 := 47#32
  let v1342 : BitVec 32 := Scalar.addi v0 c47_i32
  let c128_i32_645 : BitVec 32 := 128#32
  let v1343 : BitVec 32 := Scalar.muli v1342 c128_i32_645
  v1343
def k0_mult49 (i : grid0.Coords) : BitVec 32 :=
  let arg1 : BitVec 32 := BitVec.ofNat 32 (i 1).val
  let c64_i32 : BitVec 32 := 64#32
  let v0 : BitVec 32 := Scalar.muli arg1 c64_i32
  let c48_i32 : BitVec 32 := 48#32
  let v1585 : BitVec 32 := Scalar.addi v0 c48_i32
  let c128_i32_766 : BitVec 32 := 128#32
  let v1586 : BitVec 32 := Scalar.muli v1585 c128_i32_766
  v1586
def k0_mult50 (i : grid0.Coords) : BitVec 32 :=
  let arg1 : BitVec 32 := BitVec.ofNat 32 (i 1).val
  let c64_i32 : BitVec 32 := 64#32
  let v0 : BitVec 32 := Scalar.muli arg1 c64_i32
  let c49_i32 : BitVec 32 := 49#32
  let v1588 : BitVec 32 := Scalar.addi v0 c49_i32
  let c128_i32_767 : BitVec 32 := 128#32
  let v1589 : BitVec 32 := Scalar.muli v1588 c128_i32_767
  v1589
def k0_mult51 (i : grid0.Coords) : BitVec 32 :=
  let arg1 : BitVec 32 := BitVec.ofNat 32 (i 1).val
  let c64_i32 : BitVec 32 := 64#32
  let v0 : BitVec 32 := Scalar.muli arg1 c64_i32
  let c50_i32 : BitVec 32 := 50#32
  let v1591 : BitVec 32 := Scalar.addi v0 c50_i32
  let c128_i32_768 : BitVec 32 := 128#32
  let v1592 : BitVec 32 := Scalar.muli v1591 c128_i32_768
  v1592
def k0_mult52 (i : grid0.Coords) : BitVec 32 :=
  let arg1 : BitVec 32 := BitVec.ofNat 32 (i 1).val
  let c64_i32 : BitVec 32 := 64#32
  let v0 : BitVec 32 := Scalar.muli arg1 c64_i32
  let c51_i32 : BitVec 32 := 51#32
  let v1594 : BitVec 32 := Scalar.addi v0 c51_i32
  let c128_i32_769 : BitVec 32 := 128#32
  let v1595 : BitVec 32 := Scalar.muli v1594 c128_i32_769
  v1595
def k0_mult53 (i : grid0.Coords) : BitVec 32 :=
  let arg1 : BitVec 32 := BitVec.ofNat 32 (i 1).val
  let c64_i32 : BitVec 32 := 64#32
  let v0 : BitVec 32 := Scalar.muli arg1 c64_i32
  let c52_i32 : BitVec 32 := 52#32
  let v1597 : BitVec 32 := Scalar.addi v0 c52_i32
  let c128_i32_770 : BitVec 32 := 128#32
  let v1598 : BitVec 32 := Scalar.muli v1597 c128_i32_770
  v1598
def k0_mult54 (i : grid0.Coords) : BitVec 32 :=
  let arg1 : BitVec 32 := BitVec.ofNat 32 (i 1).val
  let c64_i32 : BitVec 32 := 64#32
  let v0 : BitVec 32 := Scalar.muli arg1 c64_i32
  let c53_i32 : BitVec 32 := 53#32
  let v1600 : BitVec 32 := Scalar.addi v0 c53_i32
  let c128_i32_771 : BitVec 32 := 128#32
  let v1601 : BitVec 32 := Scalar.muli v1600 c128_i32_771
  v1601
def k0_mult55 (i : grid0.Coords) : BitVec 32 :=
  let arg1 : BitVec 32 := BitVec.ofNat 32 (i 1).val
  let c64_i32 : BitVec 32 := 64#32
  let v0 : BitVec 32 := Scalar.muli arg1 c64_i32
  let c54_i32 : BitVec 32 := 54#32
  let v1603 : BitVec 32 := Scalar.addi v0 c54_i32
  let c128_i32_772 : BitVec 32 := 128#32
  let v1604 : BitVec 32 := Scalar.muli v1603 c128_i32_772
  v1604
def k0_mult56 (i : grid0.Coords) : BitVec 32 :=
  let arg1 : BitVec 32 := BitVec.ofNat 32 (i 1).val
  let c64_i32 : BitVec 32 := 64#32
  let v0 : BitVec 32 := Scalar.muli arg1 c64_i32
  let c55_i32 : BitVec 32 := 55#32
  let v1606 : BitVec 32 := Scalar.addi v0 c55_i32
  let c128_i32_773 : BitVec 32 := 128#32
  let v1607 : BitVec 32 := Scalar.muli v1606 c128_i32_773
  v1607
def k0_mult57 (i : grid0.Coords) : BitVec 32 :=
  let arg1 : BitVec 32 := BitVec.ofNat 32 (i 1).val
  let c64_i32 : BitVec 32 := 64#32
  let v0 : BitVec 32 := Scalar.muli arg1 c64_i32
  let c56_i32 : BitVec 32 := 56#32
  let v1849 : BitVec 32 := Scalar.addi v0 c56_i32
  let c128_i32_894 : BitVec 32 := 128#32
  let v1850 : BitVec 32 := Scalar.muli v1849 c128_i32_894
  v1850
def k0_mult58 (i : grid0.Coords) : BitVec 32 :=
  let arg1 : BitVec 32 := BitVec.ofNat 32 (i 1).val
  let c64_i32 : BitVec 32 := 64#32
  let v0 : BitVec 32 := Scalar.muli arg1 c64_i32
  let c57_i32 : BitVec 32 := 57#32
  let v1852 : BitVec 32 := Scalar.addi v0 c57_i32
  let c128_i32_895 : BitVec 32 := 128#32
  let v1853 : BitVec 32 := Scalar.muli v1852 c128_i32_895
  v1853
def k0_mult59 (i : grid0.Coords) : BitVec 32 :=
  let arg1 : BitVec 32 := BitVec.ofNat 32 (i 1).val
  let c64_i32 : BitVec 32 := 64#32
  let v0 : BitVec 32 := Scalar.muli arg1 c64_i32
  let c58_i32 : BitVec 32 := 58#32
  let v1855 : BitVec 32 := Scalar.addi v0 c58_i32
  let c128_i32_896 : BitVec 32 := 128#32
  let v1856 : BitVec 32 := Scalar.muli v1855 c128_i32_896
  v1856
def k0_mult60 (i : grid0.Coords) : BitVec 32 :=
  let arg1 : BitVec 32 := BitVec.ofNat 32 (i 1).val
  let c64_i32 : BitVec 32 := 64#32
  let v0 : BitVec 32 := Scalar.muli arg1 c64_i32
  let c59_i32 : BitVec 32 := 59#32
  let v1858 : BitVec 32 := Scalar.addi v0 c59_i32
  let c128_i32_897 : BitVec 32 := 128#32
  let v1859 : BitVec 32 := Scalar.muli v1858 c128_i32_897
  v1859
def k0_mult61 (i : grid0.Coords) : BitVec 32 :=
  let arg1 : BitVec 32 := BitVec.ofNat 32 (i 1).val
  let c64_i32 : BitVec 32 := 64#32
  let v0 : BitVec 32 := Scalar.muli arg1 c64_i32
  let c60_i32 : BitVec 32 := 60#32
  let v1861 : BitVec 32 := Scalar.addi v0 c60_i32
  let c128_i32_898 : BitVec 32 := 128#32
  let v1862 : BitVec 32 := Scalar.muli v1861 c128_i32_898
  v1862
def k0_mult62 (i : grid0.Coords) : BitVec 32 :=
  let arg1 : BitVec 32 := BitVec.ofNat 32 (i 1).val
  let c64_i32 : BitVec 32 := 64#32
  let v0 : BitVec 32 := Scalar.muli arg1 c64_i32
  let c61_i32 : BitVec 32 := 61#32
  let v1864 : BitVec 32 := Scalar.addi v0 c61_i32
  let c128_i32_899 : BitVec 32 := 128#32
  let v1865 : BitVec 32 := Scalar.muli v1864 c128_i32_899
  v1865
def k0_mult63 (i : grid0.Coords) : BitVec 32 :=
  let arg1 : BitVec 32 := BitVec.ofNat 32 (i 1).val
  let c64_i32 : BitVec 32 := 64#32
  let v0 : BitVec 32 := Scalar.muli arg1 c64_i32
  let c62_i32 : BitVec 32 := 62#32
  let v1867 : BitVec 32 := Scalar.addi v0 c62_i32
  let c128_i32_900 : BitVec 32 := 128#32
  let v1868 : BitVec 32 := Scalar.muli v1867 c128_i32_900
  v1868
def k0_mult64 (i : grid0.Coords) : BitVec 32 :=
  let arg1 : BitVec 32 := BitVec.ofNat 32 (i 1).val
  let c64_i32 : BitVec 32 := 64#32
  let v0 : BitVec 32 := Scalar.muli arg1 c64_i32
  let c63_i32 : BitVec 32 := 63#32
  let v1870 : BitVec 32 := Scalar.addi v0 c63_i32
  let c128_i32_901 : BitVec 32 := 128#32
  let v1871 : BitVec 32 := Scalar.muli v1870 c128_i32_901
  v1871
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFRefIdeal.lean ====
abbrev S1x8192x16x128 : Shape := ⟨4, ![1, 8192, 16, 128]⟩
abbrev S16x257 : Shape := ⟨2, ![16, 257]⟩
abbrev S_ : Shape := ⟨0, ![]⟩
abbrev S1x512x16x128 : Shape := ⟨4, ![1, 512, 16, 128]⟩
abbrev S1x8704x16x128 : Shape := ⟨4, ![1, 8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S1x128x64x16x128 : Shape := ⟨5, ![1, 128, 64, 16, 128]⟩
abbrev S1x136x64x16x128 : Shape := ⟨5, ![1, 136, 64, 16, 128]⟩
abbrev S1x128x576x16x128 : Shape := ⟨5, ![1, 128, 576, 16, 128]⟩
abbrev S1x128x16x64x576 : Shape := ⟨5, ![1, 128, 16, 64, 576]⟩
abbrev S1x1x16x64x576 : Shape := ⟨5, ![1, 1, 16, 64, 576]⟩
abbrev S128x1 : Shape := ⟨2, ![128, 1]⟩
abbrev S128x576 : Shape := ⟨2, ![128, 576]⟩
abbrev S1x128x1x1x576 : Shape := ⟨5, ![1, 128, 1, 1, 576]⟩
abbrev S1x128x16x64 : Shape := ⟨4, ![1, 128, 16, 64]⟩
abbrev S1x128x16x64x1 : Shape := ⟨5, ![1, 128, 16, 64, 1]⟩
abbrev S1x128x16x128x64 : Shape := ⟨5, ![1, 128, 16, 128, 64]⟩
abbrev S1x8192x2048 : Shape := ⟨3, ![1, 8192, 2048]⟩
abbrev S8192x2048 : Shape := ⟨2, ![8192, 2048]⟩

abbrev nBuf : Space → Nat
  | .hbm => 111
  | .vmem => 0
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16x128, .f32⟩
  | .hbm, ⟨3, _⟩ => ⟨S16x257, .f32⟩
  | .hbm, ⟨4, _⟩ => ⟨S_, .f32⟩
  | .hbm, ⟨5, _⟩ => ⟨S1x512x16x128, .f32⟩
  | .hbm, ⟨6, _⟩ => ⟨S1x8704x16x128, .f32⟩
  | .hbm, ⟨7, _⟩ => ⟨S_, .f32⟩
  | .hbm, ⟨8, _⟩ => ⟨S1x512x16x128, .f32⟩
  | .hbm, ⟨9, _⟩ => ⟨S1x8704x16x128, .f32⟩
  | .hbm, ⟨10, _⟩ => ⟨S64, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S16x64x576, .f32⟩
  | .hbm, ⟨40, _⟩ => ⟨S576, .i32⟩
  | .hbm, ⟨41, _⟩ => ⟨S_, .i32⟩
  | .hbm, ⟨42, _⟩ => ⟨S576, .i32⟩
  | .hbm, ⟨43, _⟩ => ⟨S576, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S1x128x64x16x128, .f32⟩
  | .hbm, ⟨49, _⟩ => ⟨S1x136x64x16x128, .f32⟩
  | .hbm, ⟨50, _⟩ => ⟨S1x128x64x16x128, .f32⟩
  | .hbm, ⟨51, _⟩ => ⟨S1x128x64x16x128, .f32⟩
  | .hbm, ⟨52, _⟩ => ⟨S1x128x64x16x128, .f32⟩
  | .hbm, ⟨53, _⟩ => ⟨S1x128x64x16x128, .f32⟩
  | .hbm, ⟨54, _⟩ => ⟨S1x128x64x16x128, .f32⟩
  | .hbm, ⟨55, _⟩ => ⟨S1x128x64x16x128, .f32⟩
  | .hbm, ⟨56, _⟩ => ⟨S1x128x64x16x128, .f32⟩
  | .hbm, ⟨57, _⟩ => ⟨S1x128x64x16x128, .f32⟩
  | .hbm, ⟨58, _⟩ => ⟨S1x128x64x16x128, .f32⟩
  | .hbm, ⟨59, _⟩ => ⟨S1x128x576x16x128, .f32⟩
  | .hbm, ⟨60, _⟩ => ⟨S1x136x64x16x128, .f32⟩
  | .hbm, ⟨61, _⟩ => ⟨S1x128x64x16x128, .f32⟩
  | .hbm, ⟨62, _⟩ => ⟨S1x128x64x16x128, .f32⟩
  | .hbm, ⟨63, _⟩ => ⟨S1x128x64x16x128, .f32⟩
  | .hbm, ⟨64, _⟩ => ⟨S1x128x64x16x128, .f32⟩
  | .hbm, ⟨65, _⟩ => ⟨S1x128x64x16x128, .f32⟩
  | .hbm, ⟨66, _⟩ => ⟨S1x128x64x16x128, .f32⟩
  | .hbm, ⟨67, _⟩ => ⟨S1x128x64x16x128, .f32⟩
  | .hbm, ⟨68, _⟩ => ⟨S1x128x64x16x128, .f32⟩
  | .hbm, ⟨69, _⟩ => ⟨S1x128x64x16x128, .f32⟩
  | .hbm, ⟨70, _⟩ => ⟨S1x128x576x16x128, .f32⟩
  | .hbm, ⟨71, _⟩ => ⟨S1x128x16x64x576, .f32⟩
  | .hbm, ⟨72, _⟩ => ⟨S_, .f32⟩
  | .hbm, ⟨73, _⟩ => ⟨S1x128x16x64x576, .f32⟩
  | .hbm, ⟨74, _⟩ => ⟨S1x128x16x64x576, .f32⟩
  | .hbm, ⟨75, _⟩ => ⟨S1x1x16x64x576, .f32⟩
  | .hbm, ⟨76, _⟩ => ⟨S1x128x16x64x576, .f32⟩
  | .hbm, ⟨77, _⟩ => ⟨S1x128x16x64x576, .f32⟩
  | .hbm, ⟨78, _⟩ => ⟨S128x1, .i32⟩
  | .hbm, ⟨79, _⟩ => ⟨S1x576, .i32⟩
  | .hbm, ⟨80, _⟩ => ⟨S128x576, .i32⟩
  | .hbm, ⟨81, _⟩ => ⟨S128x576, .i32⟩
  | .hbm, ⟨82, _⟩ => ⟨S128x576, .i32⟩
  | .hbm, ⟨83, _⟩ => ⟨S_, .i32⟩
  | .hbm, ⟨84, _⟩ => ⟨S128x576, .i32⟩
  | .hbm, ⟨85, _⟩ => ⟨S128x576, .i1⟩
  | .hbm, ⟨86, _⟩ => ⟨S1x128x1x1x576, .i1⟩
  | .hbm, ⟨87, _⟩ => ⟨S_, .f32⟩
  | .hbm, ⟨88, _⟩ => ⟨S_, .f32⟩
  | .hbm, ⟨89, _⟩ => ⟨S1x128x16x64x576, .i1⟩
  | .hbm, ⟨90, _⟩ => ⟨S1x128x16x64x576, .f32⟩
  | .hbm, ⟨91, _⟩ => ⟨S1x128x16x64x576, .f32⟩
  | .hbm, ⟨92, _⟩ => ⟨S_, .f32⟩
  | .hbm, ⟨93, _⟩ => ⟨S1x128x16x64, .f32⟩
  | .hbm, ⟨94, _⟩ => ⟨S_, .f32⟩
  | .hbm, ⟨95, _⟩ => ⟨S1x128x16x64, .f32⟩
  | .hbm, ⟨96, _⟩ => ⟨S1x128x16x64, .f32⟩
  | .hbm, ⟨97, _⟩ => ⟨S1x128x16x64x1, .f32⟩
  | .hbm, ⟨98, _⟩ => ⟨S1x128x16x64x576, .f32⟩
  | .hbm, ⟨99, _⟩ => ⟨S1x128x16x64x576, .f32⟩
  | .hbm, ⟨100, _⟩ => ⟨S1x128x16x64x576, .f32⟩
  | .hbm, ⟨101, _⟩ => ⟨S_, .f32⟩
  | .hbm, ⟨102, _⟩ => ⟨S1x128x16x64, .f32⟩
  | .hbm, ⟨103, _⟩ => ⟨S1x128x16x64x1, .f32⟩
  | .hbm, ⟨104, _⟩ => ⟨S1x128x16x64x576, .f32⟩
  | .hbm, ⟨105, _⟩ => ⟨S1x128x16x64x576, .f32⟩
  | .hbm, ⟨106, _⟩ => ⟨S1x128x16x128x64, .f32⟩
  | .hbm, ⟨107, _⟩ => ⟨S1x128x64x16x128, .f32⟩
  | .hbm, ⟨108, _⟩ => ⟨S1x8192x2048, .f32⟩
  | .hbm, ⟨109, _⟩ => ⟨S8192x2048, .f32⟩
  | .hbm, ⟨110, _⟩ => ⟨S8192x2048, .bf16⟩
  | _, _ => ⟨S1x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== AttnA.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S8192x2048 : Shape := ⟨2, ![8192, 2048]⟩
abbrev S_ : Shape := ⟨0, ![]⟩
abbrev S8704x2048 : Shape := ⟨2, ![8704, 2048]⟩
abbrev S5 : Shape := ⟨1, ![5]⟩
abbrev S640 : Shape := ⟨1, ![640]⟩
abbrev S128 : Shape := ⟨1, ![128]⟩
abbrev S1x128 : Shape := ⟨2, ![1, 128]⟩
abbrev S640x1 : Shape := ⟨2, ![640, 1]⟩
abbrev S640x128 : Shape := ⟨2, ![640, 128]⟩
abbrev S640x128x1 : Shape := ⟨3, ![640, 128, 1]⟩
abbrev S16x640x128 : Shape := ⟨3, ![16, 640, 128]⟩
abbrev S1x640 : Shape := ⟨2, ![1, 640]⟩
abbrev S5x1 : Shape := ⟨2, ![5, 1]⟩
abbrev S5x640 : Shape := ⟨2, ![5, 640]⟩
abbrev S1x640x128 : Shape := ⟨3, ![1, 640, 128]⟩
abbrev S5x640x1 : Shape := ⟨3, ![5, 640, 1]⟩
abbrev S5x640x128 : Shape := ⟨3, ![5, 640, 128]⟩
abbrev S1x5x640x128 : Shape := ⟨4, ![1, 5, 640, 128]⟩
abbrev S16x1x640x128 : Shape := ⟨4, ![16, 1, 640, 128]⟩
abbrev S16x5x640x128 : Shape := ⟨4, ![16, 5, 640, 128]⟩
abbrev S2048x128 : Shape := ⟨2, ![2048, 128]⟩
abbrev S8704x128 : Shape := ⟨2, ![8704, 128]⟩
abbrev S8192x128 : Shape := ⟨2, ![8192, 128]⟩
abbrev S2 : Shape := ⟨1, ![2]⟩
abbrev S1 : Shape := ⟨1, ![1]⟩
abbrev S128x128 : Shape := ⟨2, ![128, 128]⟩
abbrev S1x1x640x128 : Shape := ⟨4, ![1, 1, 640, 128]⟩
abbrev S128x256 : Shape := ⟨2, ![128, 256]⟩
abbrev S256x128 : Shape := ⟨2, ![256, 128]⟩
abbrev S128x384 : Shape := ⟨2, ![128, 384]⟩
abbrev S384x128 : Shape := ⟨2, ![384, 128]⟩
abbrev S128x512 : Shape := ⟨2, ![128, 512]⟩
abbrev S512x128 : Shape := ⟨2, ![512, 128]⟩
abbrev S128x640 : Shape := ⟨2, ![128, 640]⟩

abbrev nBuf : Space → Nat
  | .hbm => 106
  | .vmem => 22
  | .smem => 0
  | _ => 0

abbrev bufTy : (tb : Table) → Fin (tcTables nBuf tb) → BufTy
  | .hbm, ⟨0, _⟩ => ⟨S1x8192x16x128, .f32⟩
  | .hbm, ⟨1, _⟩ => ⟨S1x8192x16x128, .f32⟩
  | .hbm, ⟨2, _⟩ => ⟨S1x8192x16x128, .f32⟩
  | .hbm, ⟨3, _⟩ => ⟨S16x257, .f32⟩
  | .hbm, ⟨4, _⟩ => ⟨S1x8192x2048, .f32⟩
  | .hbm, ⟨5, _⟩ => ⟨S1x8192x16x128, .f32⟩
  | .hbm, ⟨6, _⟩ => ⟨S1x8192x16x128, .f32⟩
  | .hbm, ⟨7, _⟩ => ⟨S1x8192x16x128, .bf16⟩
  | .hbm, ⟨8, _⟩ => ⟨S8192x2048, .bf16⟩
  | .hbm, ⟨9, _⟩ => ⟨S1x8192x16x128, .bf16⟩
  | .hbm, ⟨10, _⟩ => ⟨S8192x2048, .bf16⟩
  | .hbm, ⟨11, _⟩ => ⟨S_, .i32⟩
  | .hbm, ⟨12, _⟩ => ⟨S_, .bf16⟩
  | .hbm, ⟨13, _⟩ => ⟨S8704x2048, .bf16⟩
  | .hbm, ⟨14, _⟩ => ⟨S1x8192x16x128, .bf16⟩
  | .hbm, ⟨15, _⟩ => ⟨S8192x2048, .bf16⟩
  | .hbm, ⟨16, _⟩ => ⟨S_, .i32⟩
  | .hbm, ⟨17, _⟩ => ⟨S_, .bf16⟩
  | .hbm, ⟨18, _⟩ => ⟨S8704x2048, .bf16⟩
  | .hbm, ⟨19, _⟩ => ⟨S1x8192x2048, .bf16⟩
  | .hbm, ⟨20, _⟩ => ⟨S8192x2048, .bf16⟩
  | .hbm, ⟨21, _⟩ => ⟨S5, .i32⟩
  | .hbm, ⟨22, _⟩ => ⟨S640, .i32⟩
  | .hbm, ⟨23, _⟩ => ⟨S128, .i32⟩
  | .hbm, ⟨24, _⟩ => ⟨S1x128, .i32⟩
  | .hbm, ⟨25, _⟩ => ⟨S_, .i32⟩
  | .hbm, ⟨26, _⟩ => ⟨S1x128, .i32⟩
  | .hbm, ⟨27, _⟩ => ⟨S1x128, .i32⟩
  | .hbm, ⟨28, _⟩ => ⟨S640x1, .i32⟩
  | .hbm, ⟨29, _⟩ => ⟨S640x128, .i32⟩
  | .hbm, ⟨30, _⟩ => ⟨S640x128, .i32⟩
  | .hbm, ⟨31, _⟩ => ⟨S640x128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S640x128, .i32⟩
  | .hbm, ⟨36, _⟩ => ⟨S640x128, .i32⟩
  | .hbm, ⟨37, _⟩ => ⟨S_, .i32⟩
  | .hbm, ⟨38, _⟩ => ⟨S640x128, .i32⟩
  | .hbm, ⟨39, _⟩ => ⟨S640x128, .i32⟩
  | .hbm, ⟨40, _⟩ => ⟨S_, .i32⟩
  | .hbm, ⟨41, _⟩ => ⟨S640x128, .i32⟩
  | .hbm, ⟨42, _⟩ => ⟨S640x128, .i32⟩
  | .hbm, ⟨43, _⟩ => ⟨S_, .i32⟩
  | .hbm, ⟨44, _⟩ => ⟨S640x128, .i32⟩
  | .hbm, ⟨45, _⟩ => ⟨S640x128, .i1⟩
  | .hbm, ⟨46, _⟩ => ⟨S_, .i32⟩
  | .hbm, ⟨47, _⟩ => ⟨S640x128, .i32⟩
  | .hbm, ⟨48, _⟩ => ⟨S640x128, .i32⟩
  | .hbm, ⟨49, _⟩ => ⟨S640x128, .i32⟩
  | .hbm, ⟨50, _⟩ => ⟨S640x128x1, .i32⟩
  | .hbm, ⟨51, _⟩ => ⟨S16x640x128, .f32⟩
  | .hbm, ⟨52, _⟩ => ⟨S_, .i32⟩
  | .hbm, ⟨53, _⟩ => ⟨S640, .i32⟩
  | .hbm, ⟨54, _⟩ => ⟨S640, .i32⟩
  | .hbm, ⟨55, _⟩ => ⟨S640x1, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S1x128, .i32⟩
  | .hbm, ⟨60, _⟩ => ⟨S640x128, .i32⟩
  | .hbm, ⟨61, _⟩ => ⟨S640x128, .i32⟩
  | .hbm, ⟨62, _⟩ => ⟨S640x128, .i32⟩
  | .hbm, ⟨63, _⟩ => ⟨S_, .i32⟩
  | .hbm, ⟨64, _⟩ => ⟨S640x128, .i32⟩
  | .hbm, ⟨65, _⟩ => ⟨S640x128, .i1⟩
  | .hbm, ⟨66, _⟩ => ⟨S_, .i32⟩
  | .hbm, ⟨67, _⟩ => ⟨S640x128, .i32⟩
  | .hbm, ⟨68, _⟩ => ⟨S640x128, .i1⟩
  | .hbm, ⟨69, _⟩ => ⟨S640x128, .i1⟩
  | .hbm, ⟨70, _⟩ => ⟨S1x640, .i32⟩
  | .hbm, ⟨71, _⟩ => ⟨S5x1, .i32⟩
  | .hbm, ⟨72, _⟩ => ⟨S_, .i32⟩
  | .hbm, ⟨73, _⟩ => ⟨S5x1, .i32⟩
  | .hbm, ⟨74, _⟩ => ⟨S5x1, .i32⟩
  | .hbm, ⟨75, _⟩ => ⟨S_, .i32⟩
  | .hbm, ⟨76, _⟩ => ⟨S5x1, .i32⟩
  | .hbm, ⟨77, _⟩ => ⟨S5x1, .i32⟩
  | .hbm, ⟨78, _⟩ => ⟨S5x640, .i32⟩
  | .hbm, ⟨79, _⟩ => ⟨S5x640, .i32⟩
  | .hbm, ⟨80, _⟩ => ⟨S5x640, .i1⟩
  | .hbm, ⟨81, _⟩ => ⟨S1x640x128, .i1⟩
  | .hbm, ⟨82, _⟩ => ⟨S5x640x1, .i1⟩
  | .hbm, ⟨83, _⟩ => ⟨S5x640x128, .i1⟩
  | .hbm, ⟨84, _⟩ => ⟨S5x640x128, .i1⟩
  | .hbm, ⟨85, _⟩ => ⟨S5x640x128, .i1⟩
  | .hbm, ⟨86, _⟩ => ⟨S1x5x640x128, .i1⟩
  | .hbm, ⟨87, _⟩ => ⟨S16x1x640x128, .f32⟩
  | .hbm, ⟨88, _⟩ => ⟨S_, .f32⟩
  | .hbm, ⟨89, _⟩ => ⟨S_, .f32⟩
  | .hbm, ⟨90, _⟩ => ⟨S16x5x640x128, .i1⟩
  | .hbm, ⟨91, _⟩ => ⟨S16x5x640x128, .f32⟩
  | .hbm, ⟨92, _⟩ => ⟨S16x5x640x128, .f32⟩
  | .hbm, ⟨93, _⟩ => ⟨S16x5x640x128, .f32⟩
  | .hbm, ⟨94, _⟩ => ⟨S8192x2048, .f32⟩
  | .hbm, ⟨95, _⟩ => ⟨S_, .i32⟩
  | .hbm, ⟨96, _⟩ => ⟨S_, .f32⟩
  | .hbm, ⟨97, _⟩ => ⟨S8704x2048, .f32⟩
  | .hbm, ⟨98, _⟩ => ⟨S8192x2048, .f32⟩
  | .hbm, ⟨99, _⟩ => ⟨S_, .i32⟩
  | .hbm, ⟨100, _⟩ => ⟨S_, .f32⟩
  | .hbm, ⟨101, _⟩ => ⟨S8704x2048, .f32⟩
  | .hbm, ⟨102, _⟩ => ⟨S8192x2048, .bf16⟩
  | .hbm, ⟨103, _⟩ => ⟨S8192x2048, .bf16⟩
  | .hbm, ⟨104, _⟩ => ⟨S8192x2048, .bf16⟩
  | .hbm, ⟨105, _⟩ => ⟨S16x5x640x128, .f32⟩
  | .local _ .vmem, ⟨0, _⟩ => ⟨S2048x128, .bf16⟩
  | .local _ .vmem, ⟨1, _⟩ => ⟨S2048x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S2048x128, .bf16⟩
  | .local _ .vmem, ⟨7, _⟩ => ⟨S2048x128, .bf16⟩
  | .local _ .vmem, ⟨8, _⟩ => ⟨S1x5x640x128, .f32⟩
  | .local _ .vmem, ⟨9, _⟩ => ⟨S1x5x640x128, .f32⟩
  | .local _ .vmem, ⟨10, _⟩ => ⟨S2048x128, .bf16⟩
  | .local _ .vmem, ⟨11, _⟩ => ⟨S2048x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S1x5x640x128, .f32⟩
  | .local _ .vmem, ⟨17, _⟩ => ⟨S1x5x640x128, .f32⟩
  | .local _ .vmem, ⟨18, _⟩ => ⟨S8704x128, .f32⟩
  | .local _ .vmem, ⟨19, _⟩ => ⟨S8704x128, .f32⟩
  | .local _ .vmem, ⟨20, _⟩ => ⟨S8704x128, .f32⟩
  | .local _ .vmem, ⟨21, _⟩ => ⟨S8704x128, .f32⟩
  | _, _ => ⟨S1x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_v60 : Ref sig .tc := ⟨.hbm, 93, rfl⟩
abbrev main_v61 : Ref sig .tc := ⟨.hbm, 94, rfl⟩
abbrev main_c_13 : Ref sig .tc := ⟨.hbm, 95, rfl⟩
abbrev main_call4_v0 : Ref sig .tc := ⟨.hbm, 96, rfl⟩
abbrev main_v62 : Ref sig .tc := ⟨.hbm, 97, rfl⟩
abbrev main_v63 : Ref sig .tc := ⟨.hbm, 98, rfl⟩
abbrev main_c_14 : Ref sig .tc := ⟨.hbm, 99, rfl⟩
abbrev main_call5_v0 : Ref sig .tc := ⟨.hbm, 100, rfl⟩
abbrev main_v64 : Ref sig .tc := ⟨.hbm, 101, rfl⟩
abbrev main_v65_0 : Ref sig .tc := ⟨.hbm, 102, rfl⟩
abbrev main_v65_1 : Ref sig .tc := ⟨.hbm, 103, rfl⟩
abbrev main_v65_2 : Ref sig .tc := ⟨.hbm, 104, rfl⟩
abbrev main_v65_3 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_i32_679 : BitVec 32 := 0#32
  let arg0 : BitVec 32 := BitVec.ofNat 32 (i 0).val
  let c128_i32 : BitVec 32 := 128#32
  let v0 : BitVec 32 := Scalar.muli arg0 c128_i32
  let v1 : BitVec 32 := v0
  ![0, v1.toNat]
def k0_mult2 (i : grid0.Coords) : BitVec 32 :=
  let arg1 : BitVec 32 := BitVec.ofNat 32 (i 1).val
  let c16_i32 : BitVec 32 := 16#32
  let v2 : BitVec 32 := Scalar.muli arg1 c16_i32
  let c0_i32_2 : BitVec 32 := 0#32
  let v6 : BitVec 32 := Scalar.addi v2 c0_i32_2
  let c128_i32_3 : BitVec 32 := 128#32
  let v7 : BitVec 32 := Scalar.muli v6 c128_i32_3
  v7
def k0_mult3 (i : grid0.Coords) : BitVec 32 :=
  let arg1 : BitVec 32 := BitVec.ofNat 32 (i 1).val
  let c16_i32 : BitVec 32 := 16#32
  let v2 : BitVec 32 := Scalar.muli arg1 c16_i32
  let c1_i32_4 : BitVec 32 := 1#32
  let v9 : BitVec 32 := Scalar.addi v2 c1_i32_4
  let c128_i32_5 : BitVec 32 := 128#32
  let v10 : BitVec 32 := Scalar.muli v9 c128_i32_5
  v10
def k0_mult4 (i : grid0.Coords) : BitVec 32 :=
  let arg1 : BitVec 32 := BitVec.ofNat 32 (i 1).val
  let c16_i32 : BitVec 32 := 16#32
  let v2 : BitVec 32 := Scalar.muli arg1 c16_i32
  let c2_i32 : BitVec 32 := 2#32
  let v12 : BitVec 32 := Scalar.addi v2 c2_i32
  let c128_i32_6 : BitVec 32 := 128#32
  let v13 : BitVec 32 := Scalar.muli v12 c128_i32_6
  v13
def k0_mult5 (i : grid0.Coords) : BitVec 32 :=
  let arg1 : BitVec 32 := BitVec.ofNat 32 (i 1).val
  let c16_i32 : BitVec 32 := 16#32
  let v2 : BitVec 32 := Scalar.muli arg1 c16_i32
  let c3_i32 : BitVec 32 := 3#32
  let v15 : BitVec 32 := Scalar.addi v2 c3_i32
  let c128_i32_7 : BitVec 32 := 128#32
  let v16 : BitVec 32 := Scalar.muli v15 c128_i32_7
  v16
def k0_mult6 (i : grid0.Coords) : BitVec 32 :=
  let arg1 : BitVec 32 := BitVec.ofNat 32 (i 1).val
  let c16_i32 : BitVec 32 := 16#32
  let v2 : BitVec 32 := Scalar.muli arg1 c16_i32
  let c4_i32 : BitVec 32 := 4#32
  let v18 : BitVec 32 := Scalar.addi v2 c4_i32
  let c128_i32_8 : BitVec 32 := 128#32
  let v19 : BitVec 32 := Scalar.muli v18 c128_i32_8
  v19
def k0_mult7 (i : grid0.Coords) : BitVec 32 :=
  let arg1 : BitVec 32 := BitVec.ofNat 32 (i 1).val
  let c16_i32 : BitVec 32 := 16#32
  let v2 : BitVec 32 := Scalar.muli arg1 c16_i32
  let c5_i32 : BitVec 32 := 5#32
  let v21 : BitVec 32 := Scalar.addi v2 c5_i32
  let c128_i32_9 : BitVec 32 := 128#32
  let v22 : BitVec 32 := Scalar.muli v21 c128_i32_9
  v22
def k0_mult8 (i : grid0.Coords) : BitVec 32 :=
  let arg1 : BitVec 32 := BitVec.ofNat 32 (i 1).val
  let c16_i32 : BitVec 32 := 16#32
  let v2 : BitVec 32 := Scalar.muli arg1 c16_i32
  let c6_i32 : BitVec 32 := 6#32
  let v24 : BitVec 32 := Scalar.addi v2 c6_i32
  let c128_i32_10 : BitVec 32 := 128#32
  let v25 : BitVec 32 := Scalar.muli v24 c128_i32_10
  v25
def k0_mult9 (i : grid0.Coords) : BitVec 32 :=
  let arg1 : BitVec 32 := BitVec.ofNat 32 (i 1).val
  let c16_i32 : BitVec 32 := 16#32
  let v2 : BitVec 32 := Scalar.muli arg1 c16_i32
  let c7_i32 : BitVec 32 := 7#32
  let v27 : BitVec 32 := Scalar.addi v2 c7_i32
  let c128_i32_11 : BitVec 32 := 128#32
  let v28 : BitVec 32 := Scalar.muli v27 c128_i32_11
  v28
def k0_mult10 (i : grid0.Coords) : BitVec 32 :=
  let arg1 : BitVec 32 := BitVec.ofNat 32 (i 1).val
  let c16_i32 : BitVec 32 := 16#32
  let v2 : BitVec 32 := Scalar.muli arg1 c16_i32
  let c8_i32 : BitVec 32 := 8#32
  let v30 : BitVec 32 := Scalar.addi v2 c8_i32
  let c128_i32_12 : BitVec 32 := 128#32
  let v31 : BitVec 32 := Scalar.muli v30 c128_i32_12
  v31
def k0_mult11 (i : grid0.Coords) : BitVec 32 :=
  let arg1 : BitVec 32 := BitVec.ofNat 32 (i 1).val
  let c16_i32 : BitVec 32 := 16#32
  let v2 : BitVec 32 := Scalar.muli arg1 c16_i32
  let c9_i32 : BitVec 32 := 9#32
  let v33 : BitVec 32 := Scalar.addi v2 c9_i32
  let c128_i32_13 : BitVec 32 := 128#32
  let v34 : BitVec 32 := Scalar.muli v33 c128_i32_13
  v34
def k0_mult12 (i : grid0.Coords) : BitVec 32 :=
  let arg1 : BitVec 32 := BitVec.ofNat 32 (i 1).val
  let c16_i32 : BitVec 32 := 16#32
  let v2 : BitVec 32 := Scalar.muli arg1 c16_i32
  let c10_i32 : BitVec 32 := 10#32
  let v36 : BitVec 32 := Scalar.addi v2 c10_i32
  let c128_i32_14 : BitVec 32 := 128#32
  let v37 : BitVec 32 := Scalar.muli v36 c128_i32_14
  v37
def k0_mult13 (i : grid0.Coords) : BitVec 32 :=
  let arg1 : BitVec 32 := BitVec.ofNat 32 (i 1).val
  let c16_i32 : BitVec 32 := 16#32
  let v2 : BitVec 32 := Scalar.muli arg1 c16_i32
  let c11_i32 : BitVec 32 := 11#32
  let v39 : BitVec 32 := Scalar.addi v2 c11_i32
  let c128_i32_15 : BitVec 32 := 128#32
  let v40 : BitVec 32 := Scalar.muli v39 c128_i32_15
  v40
def k0_mult14 (i : grid0.Coords) : BitVec 32 :=
  let arg1 : BitVec 32 := BitVec.ofNat 32 (i 1).val
  let c16_i32 : BitVec 32 := 16#32
  let v2 : BitVec 32 := Scalar.muli arg1 c16_i32
  let c12_i32 : BitVec 32 := 12#32
  let v42 : BitVec 32 := Scalar.addi v2 c12_i32
  let c128_i32_16 : BitVec 32 := 128#32
  let v43 : BitVec 32 := Scalar.muli v42 c128_i32_16
  v43
def k0_mult15 (i : grid0.Coords) : BitVec 32 :=
  let arg1 : BitVec 32 := BitVec.ofNat 32 (i 1).val
  let c16_i32 : BitVec 32 := 16#32
  let v2 : BitVec 32 := Scalar.muli arg1 c16_i32
  let c13_i32 : BitVec 32 := 13#32
  let v45 : BitVec 32 := Scalar.addi v2 c13_i32
  let c128_i32_17 : BitVec 32 := 128#32
  let v46 : BitVec 32 := Scalar.muli v45 c128_i32_17
  v46
def k0_mult16 (i : grid0.Coords) : BitVec 32 :=
  let arg1 : BitVec 32 := BitVec.ofNat 32 (i 1).val
  let c16_i32 : BitVec 32 := 16#32
  let v2 : BitVec 32 := Scalar.muli arg1 c16_i32
  let c14_i32 : BitVec 32 := 14#32
  let v48 : BitVec 32 := Scalar.addi v2 c14_i32
  let c128_i32_18 : BitVec 32 := 128#32
  let v49 : BitVec 32 := Scalar.muli v48 c128_i32_18
  v49
def k0_mult17 (i : grid0.Coords) : BitVec 32 :=
  let arg1 : BitVec 32 := BitVec.ofNat 32 (i 1).val
  let c16_i32 : BitVec 32 := 16#32
  let v2 : BitVec 32 := Scalar.muli arg1 c16_i32
  let c15_i32 : BitVec 32 := 15#32
  let v51 : BitVec 32 := Scalar.addi v2 c15_i32
  let c128_i32_19 : BitVec 32 := 128#32
  let v52 : BitVec 32 := Scalar.muli v51 c128_i32_19
  v52
def k0_off2 (i : grid0.Coords) (c0_i32_2 : BitVec 32) : Fin 2 → Nat :=
  let arg1 : BitVec 32 := BitVec.ofNat 32 (i 1).val
  let c16_i32 : BitVec 32 := 16#32
  let v2 : BitVec 32 := Scalar.muli arg1 c16_i32
  let v6 : BitVec 32 := Scalar.addi v2 c0_i32_2
  let c128_i32_3 : BitVec 32 := 128#32
  let v7 : BitVec 32 := Scalar.muli v6 c128_i32_3
  let v8 : BitVec 32 := v7
  let v54 : Index := Scalar.indexCast v8
  let c0 : Index := 0#32
  ![v54.toNat, 0]
def k0_off3 (i : grid0.Coords) (c0_i32_76 : BitVec 32) : Fin 4 → Nat :=
  let c0_78 : Index := 0#32
  let arg1 : BitVec 32 := BitVec.ofNat 32 (i 1).val
  let c16_i32 : BitVec 32 := 16#32
  let v2 : BitVec 32 := Scalar.muli arg1 c16_i32
  let v152 : BitVec 32 := Scalar.addi v2 c0_i32_76
  let c4_i32_77 : BitVec 32 := 4#32
  let v153 : BitVec 32 := Scalar.minsi v152 c4_i32_77
  let v154 : Index := Scalar.indexCast v153
  let c0_79 : Index := 0#32
  let c0_80 : Index := 0#32
  ![0, v154.toNat, 0, 0]
def k0_mult18 (i : grid0.Coords) : BitVec 32 :=
  let arg1 : BitVec 32 := BitVec.ofNat 32 (i 1).val
  let c16_i32 : BitVec 32 := 16#32
  let v2 : BitVec 32 := Scalar.muli arg1 c16_i32
  let c0_i32_418 : BitVec 32 := 0#32
  let v868 : BitVec 32 := Scalar.addi v2 c0_i32_418
  let c128_i32_419 : BitVec 32 := 128#32
  let v869 : BitVec 32 := Scalar.muli v868 c128_i32_419
  v869
def k0_off4 (i : grid0.Coords) (c0_i32_418 : BitVec 32) : Fin 2 → Nat :=
  let arg1 : BitVec 32 := BitVec.ofNat 32 (i 1).val
  let c16_i32 : BitVec 32 := 16#32
  let v2 : BitVec 32 := Scalar.muli arg1 c16_i32
  let v868 : BitVec 32 := Scalar.addi v2 c0_i32_418
  let c128_i32_419 : BitVec 32 := 128#32
  let v869 : BitVec 32 := Scalar.muli v868 c128_i32_419
  let v870 : BitVec 32 := v869
  let v871 : Index := Scalar.indexCast v870
  let c0_420 : Index := 0#32
  ![v871.toNat, 0]
def k0_mult19 (i : grid0.Coords) : BitVec 32 :=
  let arg1 : BitVec 32 := BitVec.ofNat 32 (i 1).val
  let c16_i32 : BitVec 32 := 16#32
  let v2 : BitVec 32 := Scalar.muli arg1 c16_i32
  let c1_i32_431 : BitVec 32 := 1#32
  let v895 : BitVec 32 := Scalar.addi v2 c1_i32_431
  let c128_i32_432 : BitVec 32 := 128#32
  let v896 : BitVec 32 := Scalar.muli v895 c128_i32_432
  v896
def k0_mult20 (i : grid0.Coords) : BitVec 32 :=
  let arg1 : BitVec 32 := BitVec.ofNat 32 (i 1).val
  let c16_i32 : BitVec 32 := 16#32
  let v2 : BitVec 32 := Scalar.muli arg1 c16_i32
  let c2_i32_444 : BitVec 32 := 2#32
  let v926 : BitVec 32 := Scalar.addi v2 c2_i32_444
  let c128_i32_445 : BitVec 32 := 128#32
  let v927 : BitVec 32 := Scalar.muli v926 c128_i32_445
  v927
def k0_mult21 (i : grid0.Coords) : BitVec 32 :=
  let arg1 : BitVec 32 := BitVec.ofNat 32 (i 1).val
  let c16_i32 : BitVec 32 := 16#32
  let v2 : BitVec 32 := Scalar.muli arg1 c16_i32
  let c3_i32_457 : BitVec 32 := 3#32
  let v959 : BitVec 32 := Scalar.addi v2 c3_i32_457
  let c128_i32_458 : BitVec 32 := 128#32
  let v960 : BitVec 32 := Scalar.muli v959 c128_i32_458
  v960
def k0_mult22 (i : grid0.Coords) : BitVec 32 :=
  let arg1 : BitVec 32 := BitVec.ofNat 32 (i 1).val
  let c16_i32 : BitVec 32 := 16#32
  let v2 : BitVec 32 := Scalar.muli arg1 c16_i32
  let c4_i32_470 : BitVec 32 := 4#32
  let v994 : BitVec 32 := Scalar.addi v2 c4_i32_470
  let c128_i32_471 : BitVec 32 := 128#32
  let v995 : BitVec 32 := Scalar.muli v994 c128_i32_471
  v995
def k0_mult23 (i : grid0.Coords) : BitVec 32 :=
  let arg1 : BitVec 32 := BitVec.ofNat 32 (i 1).val
  let c16_i32 : BitVec 32 := 16#32
  let v2 : BitVec 32 := Scalar.muli arg1 c16_i32
  let c5_i32_483 : BitVec 32 := 5#32
  let v1031 : BitVec 32 := Scalar.addi v2 c5_i32_483
  let c128_i32_484 : BitVec 32 := 128#32
  let v1032 : BitVec 32 := Scalar.muli v1031 c128_i32_484
  v1032
def k0_mult24 (i : grid0.Coords) : BitVec 32 :=
  let arg1 : BitVec 32 := BitVec.ofNat 32 (i 1).val
  let c16_i32 : BitVec 32 := 16#32
  let v2 : BitVec 32 := Scalar.muli arg1 c16_i32
  let c6_i32_496 : BitVec 32 := 6#32
  let v1068 : BitVec 32 := Scalar.addi v2 c6_i32_496
  let c128_i32_497 : BitVec 32 := 128#32
  let v1069 : BitVec 32 := Scalar.muli v1068 c128_i32_497
  v1069
def k0_mult25 (i : grid0.Coords) : BitVec 32 :=
  let arg1 : BitVec 32 := BitVec.ofNat 32 (i 1).val
  let c16_i32 : BitVec 32 := 16#32
  let v2 : BitVec 32 := Scalar.muli arg1 c16_i32
  let c7_i32_509 : BitVec 32 := 7#32
  let v1105 : BitVec 32 := Scalar.addi v2 c7_i32_509
  let c128_i32_510 : BitVec 32 := 128#32
  let v1106 : BitVec 32 := Scalar.muli v1105 c128_i32_510
  v1106
def k0_mult26 (i : grid0.Coords) : BitVec 32 :=
  let arg1 : BitVec 32 := BitVec.ofNat 32 (i 1).val
  let c16_i32 : BitVec 32 := 16#32
  let v2 : BitVec 32 := Scalar.muli arg1 c16_i32
  let c8_i32_522 : BitVec 32 := 8#32
  let v1142 : BitVec 32 := Scalar.addi v2 c8_i32_522
  let c128_i32_523 : BitVec 32 := 128#32
  let v1143 : BitVec 32 := Scalar.muli v1142 c128_i32_523
  v1143
def k0_mult27 (i : grid0.Coords) : BitVec 32 :=
  let arg1 : BitVec 32 := BitVec.ofNat 32 (i 1).val
  let c16_i32 : BitVec 32 := 16#32
  let v2 : BitVec 32 := Scalar.muli arg1 c16_i32
  let c9_i32_535 : BitVec 32 := 9#32
  let v1179 : BitVec 32 := Scalar.addi v2 c9_i32_535
  let c128_i32_536 : BitVec 32 := 128#32
  let v1180 : BitVec 32 := Scalar.muli v1179 c128_i32_536
  v1180
def k0_mult28 (i : grid0.Coords) : BitVec 32 :=
  let arg1 : BitVec 32 := BitVec.ofNat 32 (i 1).val
  let c16_i32 : BitVec 32 := 16#32
  let v2 : BitVec 32 := Scalar.muli arg1 c16_i32
  let c10_i32_548 : BitVec 32 := 10#32
  let v1216 : BitVec 32 := Scalar.addi v2 c10_i32_548
  let c128_i32_549 : BitVec 32 := 128#32
  let v1217 : BitVec 32 := Scalar.muli v1216 c128_i32_549
  v1217
def k0_mult29 (i : grid0.Coords) : BitVec 32 :=
  let arg1 : BitVec 32 := BitVec.ofNat 32 (i 1).val
  let c16_i32 : BitVec 32 := 16#32
  let v2 : BitVec 32 := Scalar.muli arg1 c16_i32
  let c11_i32_561 : BitVec 32 := 11#32
  let v1253 : BitVec 32 := Scalar.addi v2 c11_i32_561
  let c128_i32_562 : BitVec 32 := 128#32
  let v1254 : BitVec 32 := Scalar.muli v1253 c128_i32_562
  v1254
def k0_mult30 (i : grid0.Coords) : BitVec 32 :=
  let arg1 : BitVec 32 := BitVec.ofNat 32 (i 1).val
  let c16_i32 : BitVec 32 := 16#32
  let v2 : BitVec 32 := Scalar.muli arg1 c16_i32
  let c12_i32_574 : BitVec 32 := 12#32
  let v1290 : BitVec 32 := Scalar.addi v2 c12_i32_574
  let c128_i32_575 : BitVec 32 := 128#32
  let v1291 : BitVec 32 := Scalar.muli v1290 c128_i32_575
  v1291
def k0_mult31 (i : grid0.Coords) : BitVec 32 :=
  let arg1 : BitVec 32 := BitVec.ofNat 32 (i 1).val
  let c16_i32 : BitVec 32 := 16#32
  let v2 : BitVec 32 := Scalar.muli arg1 c16_i32
  let c13_i32_587 : BitVec 32 := 13#32
  let v1327 : BitVec 32 := Scalar.addi v2 c13_i32_587
  let c128_i32_588 : BitVec 32 := 128#32
  let v1328 : BitVec 32 := Scalar.muli v1327 c128_i32_588
  v1328
def k0_mult32 (i : grid0.Coords) : BitVec 32 :=
  let arg1 : BitVec 32 := BitVec.ofNat 32 (i 1).val
  let c16_i32 : BitVec 32 := 16#32
  let v2 : BitVec 32 := Scalar.muli arg1 c16_i32
  let c14_i32_600 : BitVec 32 := 14#32
  let v1364 : BitVec 32 := Scalar.addi v2 c14_i32_600
  let c128_i32_601 : BitVec 32 := 128#32
  let v1365 : BitVec 32 := Scalar.muli v1364 c128_i32_601
  v1365
def k0_mult33 (i : grid0.Coords) : BitVec 32 :=
  let arg1 : BitVec 32 := BitVec.ofNat 32 (i 1).val
  let c16_i32 : BitVec 32 := 16#32
  let v2 : BitVec 32 := Scalar.muli arg1 c16_i32
  let c15_i32_613 : BitVec 32 := 15#32
  let v1401 : BitVec 32 := Scalar.addi v2 c15_i32_613
  let c128_i32_614 : BitVec 32 := 128#32
  let v1402 : BitVec 32 := Scalar.muli v1401 c128_i32_614
  v1402
def k0_mult34 (i : grid0.Coords) : BitVec 32 :=
  let arg1 : BitVec 32 := BitVec.ofNat 32 (i 1).val
  let c16_i32 : BitVec 32 := 16#32
  let v2 : BitVec 32 := Scalar.muli arg1 c16_i32
  let c16_i32_626 : BitVec 32 := 16#32
  let v1438 : BitVec 32 := Scalar.addi v2 c16_i32_626
  let c128_i32_627 : BitVec 32 := 128#32
  let v1439 : BitVec 32 := Scalar.muli v1438 c128_i32_627
  v1439
def k0_mult35 (i : grid0.Coords) : BitVec 32 :=
  let arg1 : BitVec 32 := BitVec.ofNat 32 (i 1).val
  let c16_i32 : BitVec 32 := 16#32
  let v2 : BitVec 32 := Scalar.muli arg1 c16_i32
  let c17_i32 : BitVec 32 := 17#32
  let v1473 : BitVec 32 := Scalar.addi v2 c17_i32
  let c128_i32_639 : BitVec 32 := 128#32
  let v1474 : BitVec 32 := Scalar.muli v1473 c128_i32_639
  v1474
def k0_mult36 (i : grid0.Coords) : BitVec 32 :=
  let arg1 : BitVec 32 := BitVec.ofNat 32 (i 1).val
  let c16_i32 : BitVec 32 := 16#32
  let v2 : BitVec 32 := Scalar.muli arg1 c16_i32
  let c18_i32 : BitVec 32 := 18#32
  let v1506 : BitVec 32 := Scalar.addi v2 c18_i32
  let c128_i32_651 : BitVec 32 := 128#32
  let v1507 : BitVec 32 := Scalar.muli v1506 c128_i32_651
  v1507
def k0_mult37 (i : grid0.Coords) : BitVec 32 :=
  let arg1 : BitVec 32 := BitVec.ofNat 32 (i 1).val
  let c16_i32 : BitVec 32 := 16#32
  let v2 : BitVec 32 := Scalar.muli arg1 c16_i32
  let c19_i32 : BitVec 32 := 19#32
  let v1537 : BitVec 32 := Scalar.addi v2 c19_i32
  let c128_i32_663 : BitVec 32 := 128#32
  let v1538 : BitVec 32 := Scalar.muli v1537 c128_i32_663
  v1538
def k0_cond2 (i : grid0.Coords) : BitVec 1 :=
  let arg1 : BitVec 32 := BitVec.ofNat 32 (i 1).val
  let c3_i32_675 : BitVec 32 := 3#32
  let v1564 : BitVec 1 := Scalar.cmpi .eq arg1 c3_i32_675
  let v1565 : BitVec 32 := Scalar.extui v1564
  let c0_i32_678 : BitVec 32 := 0#32
  let v1566 : BitVec 1 := Scalar.cmpi .ne v1565 c0_i32_678
  v1566

def k0_off5 (i : grid0.Coords) : Fin 2 → Nat :=
  let c0_i32_679 : BitVec 32 := 0#32
  let arg0 : BitVec 32 := BitVec.ofNat 32 (i 0).val
  let c128_i32 : BitVec 32 := 128#32
  let v0 : BitVec 32 := Scalar.muli arg0 c128_i32
  let v1 : BitVec 32 := v0
  ![0, v1.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x5x640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnARefIdeal.lean ====
abbrev S1x8192x16x128 : Shape := ⟨4, ![1, 8192, 16, 128]⟩
abbrev S16x257 : Shape := ⟨2, ![16, 257]⟩
abbrev S1x8192x2048 : Shape := ⟨3, ![1, 8192, 2048]⟩
abbrev S_ : Shape := ⟨0, ![]⟩
abbrev S1x512x16x128 : Shape := ⟨4, ![1, 512, 16, 128]⟩
abbrev S1x8704x16x128 : Shape := ⟨4, ![1, 8704, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S1x128x64x16x128 : Shape := ⟨5, ![1, 128, 64, 16, 128]⟩
abbrev S1x136x64x16x128 : Shape := ⟨5, ![1, 136, 64, 16, 128]⟩
abbrev S1x128x576x16x128 : Shape := ⟨5, ![1, 128, 576, 16, 128]⟩
abbrev S1x128x16x64x576 : Shape := ⟨5, ![1, 128, 16, 64, 576]⟩
abbrev S1x1x16x64x576 : Shape := ⟨5, ![1, 1, 16, 64, 576]⟩
abbrev S128x1 : Shape := ⟨2, ![128, 1]⟩
abbrev S128x576 : Shape := ⟨2, ![128, 576]⟩
abbrev S1x128x1x1x576 : Shape := ⟨5, ![1, 128, 1, 1, 576]⟩
abbrev S1x128x16x64 : Shape := ⟨4, ![1, 128, 16, 64]⟩
abbrev S1x128x16x64x1 : Shape := ⟨5, ![1, 128, 16, 64, 1]⟩
abbrev S1x128x16x128x64 : Shape := ⟨5, ![1, 128, 16, 128, 64]⟩
abbrev S1x128x16x128x576 : Shape := ⟨5, ![1, 128, 16, 128, 576]⟩
abbrev S128x16x64 : Shape := ⟨3, ![128, 16, 64]⟩
abbrev S1x128x16x576x128 : Shape := ⟨5, ![1, 128, 16, 576, 128]⟩
abbrev S1x128x16x64x128 : Shape := ⟨5, ![1, 128, 16, 64, 128]⟩
abbrev S8192x2048 : Shape := ⟨2, ![8192, 2048]⟩

abbrev nBuf : Space → Nat
  | .hbm => 257
  | .vmem => 0
  | .smem => 0
  | _ => 0

abbrev hbmTy0_0 (i : Nat) : BufTy := match i % 128 with
  | 0 => ⟨S1x8192x16x128, .f32⟩
  | 1 => ⟨S1x8192x16x128, .f32⟩
  | 2 => ⟨S1x8192x16x128, .f32⟩
  | 3 => ⟨S16x257, .f32⟩
  | 4 => ⟨S1x8192x2048, .f32⟩
  | 5 => ⟨S1x8192x16x128, .f32⟩
  | 6 => ⟨S1x8192x16x128, .f32⟩
  | 7 => ⟨S_, .f32⟩
  | 8 => ⟨S1x512x16x128, .f32⟩
  | 9 => ⟨S1x8704x16x128, .f32⟩
  | 10 => ⟨S_, .f32⟩
  | 11 => ⟨S1x512x16x128, .f32⟩
  | 12 => ⟨S_, .f32⟩
  | 13 => ⟨S1x512x16x128, .f32⟩
  | 14 => ⟨S1x8704x16x128, .f32⟩
  | 15 => ⟨S_, .f32⟩
  | 16 => ⟨S1x512x16x128, .f32⟩
  | 17 => ⟨S64, .i32⟩
  | 18 => ⟨S64x1, .i32⟩
  | 19 => ⟨S576, .i32⟩
  | 20 => ⟨S1x576, .i32⟩
  | 21 => ⟨S_, .i32⟩
  | 22 => ⟨S64x1, .i32⟩
  | 23 => ⟨S64x1, .i32⟩
  | 24 => ⟨S64x576, .i32⟩
  | 25 => ⟨S64x576, .i32⟩
  | 26 => ⟨S64x576, .i32⟩
  | 27 => ⟨S_, .i32⟩
  | 28 => ⟨S_, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i1⟩
  | 41 => ⟨S_, .i32⟩
  | 42 => ⟨S64x576, .i32⟩
  | 43 => ⟨S64x576, .i32⟩
  | 44 => ⟨S64x576, .i32⟩
  | 45 => ⟨S64x576x1, .i32⟩
  | 46 => ⟨S16x64x576, .f32⟩
  | 47 => ⟨S576, .i32⟩
  | 48 => ⟨S_, .i32⟩
  | 49 => ⟨S576, .i32⟩
  | 50 => ⟨S576, .i32⟩
  | 51 => ⟨S128, .i32⟩
  | 52 => ⟨S_, .i32⟩
  | 53 => ⟨S128, .i32⟩
  | 54 => ⟨S128, .i32⟩
  | 55 => ⟨S1x128x64x16x128, .f32⟩
  | 56 => ⟨S1x136x64x16x128, .f32⟩
  | 57 => ⟨S1x128x64x16x128, .f32⟩
  | 58 => ⟨S1x128x64x16x128, .f32⟩
  | 59 => ⟨S1x128x64x16x128, .f32⟩
  | 60 => ⟨S1x128x64x16x128, .f32⟩
  | 61 => ⟨S1x128x64x16x128, .f32⟩
  | 62 => ⟨S1x128x64x16x128, .f32⟩
  | 63 => ⟨S1x128x64x16x128, .f32⟩
  | 64 => ⟨S1x128x64x16x128, .f32⟩
  | 65 => ⟨S1x128x64x16x128, .f32⟩
  | 66 => ⟨S1x128x576x16x128, .f32⟩
  | 67 => ⟨S1x136x64x16x128, .f32⟩
  | 68 => ⟨S1x128x64x16x128, .f32⟩
  | 69 => ⟨S1x128x64x16x128, .f32⟩
  | 70 => ⟨S1x128x64x16x128, .f32⟩
  | 71 => ⟨S1x128x64x16x128, .f32⟩
  | 72 => ⟨S1x128x64x16x128, .f32⟩
  | 73 => ⟨S1x128x64x16x128, .f32⟩
  | 74 => ⟨S1x128x64x16x128, .f32⟩
  | 75 => ⟨S1x128x64x16x128, .f32⟩
  | 76 => ⟨S1x128x64x16x128, .f32⟩
  | 77 => ⟨S1x128x576x16x128, .f32⟩
  | 78 => ⟨S1x128x16x64x576, .f32⟩
  | 79 => ⟨S_, .f32⟩
  | 80 => ⟨S1x128x16x64x576, .f32⟩
  | 81 => ⟨S1x128x16x64x576, .f32⟩
  | 82 => ⟨S1x1x16x64x576, .f32⟩
  | 83 => ⟨S1x128x16x64x576, .f32⟩
  | 84 => ⟨S1x128x16x64x576, .f32⟩
  | 85 => ⟨S128x1, .i32⟩
  | 86 => ⟨S1x576, .i32⟩
  | 87 => ⟨S128x576, .i32⟩
  | 88 => ⟨S128x576, .i32⟩
  | 89 => ⟨S128x576, .i32⟩
  | 90 => ⟨S_, .i32⟩
  | 91 => ⟨S128x576, .i32⟩
  | 92 => ⟨S128x576, .i1⟩
  | 93 => ⟨S1x128x1x1x576, .i1⟩
  | 94 => ⟨S_, .f32⟩
  | 95 => ⟨S_, .f32⟩
  | 96 => ⟨S1x128x16x64x576, .i1⟩
  | 97 => ⟨S1x128x16x64x576, .f32⟩
  | 98 => ⟨S1x128x16x64x576, .f32⟩
  | 99 => ⟨S_, .f32⟩
  | 100 => ⟨S1x128x16x64x576, .f32⟩
  | 101 => ⟨S_, .f32⟩
  | 102 => ⟨S1x128x16x64, .f32⟩
  | 103 => ⟨S1x128x16x64x1, .f32⟩
  | 104 => ⟨S1x128x16x64x576, .f32⟩
  | 105 => ⟨S1x128x16x64x576, .i1⟩
  | 106 => ⟨S1x128x16x64x576, .f32⟩
  | 107 => ⟨S_, .f32⟩
  | 108 => ⟨S1x128x16x64, .f32⟩
  | 109 => ⟨S_, .f32⟩
  | 110 => ⟨S1x128x16x64, .f32⟩
  | 111 => ⟨S1x128x16x64, .f32⟩
  | 112 => ⟨S_, .f32⟩
  | 113 => ⟨S1x128x16x64, .f32⟩
  | 114 => ⟨S1x128x16x64, .i1⟩
  | 115 => ⟨S_, .f32⟩
  | 116 => ⟨S1x128x16x64, .f32⟩
  | 117 => ⟨S1x128x16x64, .i1⟩
  | 118 => ⟨S_, .f32⟩
  | 119 => ⟨S1x128x16x64, .f32⟩
  | 120 => ⟨S_, .f32⟩
  | 121 => ⟨S1x128x16x64, .f32⟩
  | 122 => ⟨S_, .f32⟩
  | 123 => ⟨S1x128x16x64, .f32⟩
  | 124 => ⟨S1x128x16x64, .f32⟩
  | 125 => ⟨S1x128x16x64, .f32⟩
  | 126 => ⟨S1x128x16x64x1, .f32⟩
  | 127 => ⟨S1x128x16x64x576, .f32⟩
  | _ => ⟨S1x8192x16x128, .f32⟩

abbrev hbmTy0_1 (i : Nat) : BufTy := match i % 128 with
  | 0 => ⟨S1x128x16x64x576, .f32⟩
  | 1 => ⟨S1x128x16x64x576, .f32⟩
  | 2 => ⟨S_, .f32⟩
  | 3 => ⟨S1x128x16x64, .f32⟩
  | 4 => ⟨S1x128x16x64x1, .f32⟩
  | 5 => ⟨S1x128x16x64x576, .f32⟩
  | 6 => ⟨S1x128x16x64x576, .f32⟩
  | 7 => ⟨S1x128x16x64x1, .f32⟩
  | 8 => ⟨S_, .f32⟩
  | 9 => ⟨S1x128x16x64x1, .f32⟩
  | 10 => ⟨S1x128x16x64x1, .f32⟩
  | 11 => ⟨S1x128x16x128x64, .f32⟩
  | 12 => ⟨S1x128x64x16x128, .f32⟩
  | 13 => ⟨S1x8192x2048, .f32⟩
  | 14 => ⟨S1x128x64x16x128, .f32⟩
  | 15 => ⟨S1x128x16x128x64, .f32⟩
  | 16 => ⟨S1x128x16x64x576, .f32⟩
  | 17 => ⟨S1x128x16x128x576, .f32⟩
  | 18 => ⟨S1x128x576x16x128, .f32⟩
  | 19 => ⟨S1x128x16x64x576, .f32⟩
  | 20 => ⟨S1x128x16x64x576, .f32⟩
  | 21 => ⟨S1x128x16x64x576, .f32⟩
  | 22 => ⟨S_, .f32⟩
  | 23 => ⟨S1x128x16x64, .f32⟩
  | 24 => ⟨S1x128x16x64x1, .f32⟩
  | 25 => ⟨S1x128x16x64x1, .f32⟩
  | 26 => ⟨S1x128x16x64x576, .f32⟩
  | 27 => ⟨S1x128x16x64x576, .f32⟩
  | 28 => ⟨S_, .f32⟩
  | 29 => ⟨S128x16x64, .f32⟩
  | 30 => ⟨S1x128x16x64, .f32⟩
  | 31 => ⟨S1x128x16x64x576, .f32⟩
  | 32 => ⟨S1x128x16x64x576, .f32⟩
  | 33 => ⟨S1x128x16x64x576, .f32⟩
  | 34 => ⟨S_, .f32⟩
  | 35 => ⟨S1x128x16x64x576, .f32⟩
  | 36 => ⟨S1x128x16x64x576, .f32⟩
  | 37 => ⟨S_, .f32⟩
  | 38 => ⟨S1x128x16x64x576, .f32⟩
  | 39 => ⟨S1x128x16x64x576, .f32⟩
  | 40 => ⟨S1x128x16x576x128, .f32⟩
  | 41 => ⟨S1x128x576x16x128, .f32⟩
  | 42 => ⟨S1x128x16x64x128, .f32⟩
  | 43 => ⟨S1x128x64x16x128, .f32⟩
  | 44 => ⟨S1x128x64x16x128, .f32⟩
  | 45 => ⟨S1x128x64x16x128, .f32⟩
  | 46 => ⟨S1x128x64x16x128, .f32⟩
  | 47 => ⟨S1x128x64x16x128, .f32⟩
  | 48 => ⟨S1x128x64x16x128, .f32⟩
  | 49 => ⟨S1x128x64x16x128, .f32⟩
  | 50 => ⟨S1x128x64x16x128, .f32⟩
  | 51 => ⟨S1x128x64x16x128, .f32⟩
  | 52 => ⟨S1x128x64x16x128, .f32⟩
  | 53 => ⟨S_, .f32⟩
  | 54 => ⟨S1x136x64x16x128, .f32⟩
  | 55 => ⟨S_, .f32⟩
  | 56 => ⟨S1x136x64x16x128, .f32⟩
  | 57 => ⟨S1x136x64x16x128, .f32⟩
  | 58 => ⟨S_, .f32⟩
  | 59 => ⟨S1x136x64x16x128, .f32⟩
  | 60 => ⟨S1x136x64x16x128, .f32⟩
  | 61 => ⟨S_, .f32⟩
  | 62 => ⟨S1x136x64x16x128, .f32⟩
  | 63 => ⟨S1x136x64x16x128, .f32⟩
  | 64 => ⟨S_, .f32⟩
  | 65 => ⟨S1x136x64x16x128, .f32⟩
  | 66 => ⟨S1x136x64x16x128, .f32⟩
  | 67 => ⟨S_, .f32⟩
  | 68 => ⟨S1x136x64x16x128, .f32⟩
  | 69 => ⟨S1x136x64x16x128, .f32⟩
  | 70 => ⟨S_, .f32⟩
  | 71 => ⟨S1x136x64x16x128, .f32⟩
  | 72 => ⟨S1x136x64x16x128, .f32⟩
  | 73 => ⟨S_, .f32⟩
  | 74 => ⟨S1x136x64x16x128, .f32⟩
  | 75 => ⟨S1x136x64x16x128, .f32⟩
  | 76 => ⟨S_, .f32⟩
  | 77 => ⟨S1x136x64x16x128, .f32⟩
  | 78 => ⟨S1x136x64x16x128, .f32⟩
  | 79 => ⟨S1x8704x16x128, .f32⟩
  | 80 => ⟨S1x128x64x16x128, .f32⟩
  | 81 => ⟨S1x128x64x16x128, .f32⟩
  | 82 => ⟨S1x128x64x16x128, .f32⟩
  | 83 => ⟨S1x128x64x16x128, .f32⟩
  | 84 => ⟨S1x128x64x16x128, .f32⟩
  | 85 => ⟨S1x128x64x16x128, .f32⟩
  | 86 => ⟨S1x128x64x16x128, .f32⟩
  | 87 => ⟨S1x128x64x16x128, .f32⟩
  | 88 => ⟨S1x128x64x16x128, .f32⟩
  | 89 => ⟨S_, .f32⟩
  | 90 => ⟨S1x136x64x16x128, .f32⟩
  | 91 => ⟨S_, .f32⟩
  | 92 => ⟨S1x136x64x16x128, .f32⟩
  | 93 => ⟨S1x136x64x16x128, .f32⟩
  | 94 => ⟨S_, .f32⟩
  | 95 => ⟨S1x136x64x16x128, .f32⟩
  | 96 => ⟨S1x136x64x16x128, .f32⟩
  | 97 => ⟨S_, .f32⟩
  | 98 => ⟨S1x136x64x16x128, .f32⟩
  | 99 => ⟨S1x136x64x16x128, .f32⟩
  | 100 => ⟨S_, .f32⟩
  | 101 => ⟨S1x136x64x16x128, .f32⟩
  | 102 => ⟨S1x136x64x16x128, .f32⟩
  | 103 => ⟨S_, .f32⟩
  | 104 => ⟨S1x136x64x16x128, .f32⟩
  | 105 => ⟨S1x136x64x16x128, .f32⟩
  | 106 => ⟨S_, .f32⟩
  | 107 => ⟨S1x136x64x16x128, .f32⟩
  | 108 => ⟨S1x136x64x16x128, .f32⟩
  | 109 => ⟨S_, .f32⟩
  | 110 => ⟨S1x136x64x16x128, .f32⟩
  | 111 => ⟨S1x136x64x16x128, .f32⟩
  | 112 => ⟨S_, .f32⟩
  | 113 => ⟨S1x136x64x16x128, .f32⟩
  | 114 => ⟨S1x136x64x16x128, .f32⟩
  | 115 => ⟨S1x8704x16x128, .f32⟩
  | 116 => ⟨S1x8192x16x128, .f32⟩
  | 117 => ⟨S1x512x16x128, .f32⟩
  | 118 => ⟨S1x8192x16x128, .f32⟩
  | 119 => ⟨S1x8192x16x128, .f32⟩
  | 120 => ⟨S1x512x16x128, .f32⟩
  | 121 => ⟨S1x8192x16x128, .f32⟩
  | 122 => ⟨S1x8192x16x128, .f32⟩
  | 123 => ⟨S8192x2048, .f32⟩
  | 124 => ⟨S8192x2048, .bf16⟩
  | 125 => ⟨S8192x2048, .f32⟩
  | 126 => ⟨S8192x2048, .bf16⟩
  | 127 => ⟨S8192x2048, .f32⟩
  | _ => ⟨S1x8192x16x128, .f32⟩

abbrev hbmTy0_2 (i : Nat) : BufTy := match i % 128 with
  | 0 => ⟨S8192x2048, .bf16⟩
  | _ => ⟨S1x8192x16x128, .f32⟩

abbrev hbmTy (i : Nat) : BufTy := match i / 128 with
  | 0 => hbmTy0_0 i
  | 1 => hbmTy0_1 i
  | 2 => hbmTy0_2 i
  | _ => ⟨S1x8192x16x128, .f32⟩

abbrev bufTy : (tb : Table) → Fin (tcTables nBuf tb) → BufTy
  | .hbm, ⟨i, _⟩ => hbmTy i
  | _, _ => ⟨S1x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_call1_v0 : Ref sig .tc := ⟨.hbm, 95, rfl⟩
abbrev main_v68_1 : Ref sig .tc := ⟨.hbm, 96, rfl⟩
abbrev main_call1_v2 : Ref sig .tc := ⟨.hbm, 97, rfl⟩
abbrev main_v68_0 : Ref sig .tc := ⟨.hbm, 98, rfl⟩
abbrev main_call1_cst : Ref sig .tc := ⟨.hbm, 99, rfl⟩
abbrev main_v68_2 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_21 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_23 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_24 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_call2_cst : Ref sig .tc := ⟨.hbm, 162, rfl⟩
abbrev main_call2_v0 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_26 : Ref sig .tc := ⟨.hbm, 181, rfl⟩
abbrev main_v134 : Ref sig .tc := ⟨.hbm, 182, rfl⟩
abbrev main_cst_27 : Ref sig .tc := ⟨.hbm, 183, rfl⟩
abbrev main_v135 : Ref sig .tc := ⟨.hbm, 184, rfl⟩
abbrev main_v136 : Ref sig .tc := ⟨.hbm, 185, rfl⟩
abbrev main_cst_28 : Ref sig .tc := ⟨.hbm, 186, rfl⟩
abbrev main_v137 : Ref sig .tc := ⟨.hbm, 187, rfl⟩
abbrev main_v138 : Ref sig .tc := ⟨.hbm, 188, rfl⟩
abbrev main_cst_29 : Ref sig .tc := ⟨.hbm, 189, rfl⟩
abbrev main_v139 : Ref sig .tc := ⟨.hbm, 190, rfl⟩
abbrev main_v140 : Ref sig .tc := ⟨.hbm, 191, rfl⟩
abbrev main_cst_30 : Ref sig .tc := ⟨.hbm, 192, rfl⟩
abbrev main_v141 : Ref sig .tc := ⟨.hbm, 193, rfl⟩
abbrev main_v142 : Ref sig .tc := ⟨.hbm, 194, rfl⟩
abbrev main_cst_31 : Ref sig .tc := ⟨.hbm, 195, rfl⟩
abbrev main_v143 : Ref sig .tc := ⟨.hbm, 196, rfl⟩
abbrev main_v144 : Ref sig .tc := ⟨.hbm, 197, rfl⟩
abbrev main_cst_32 : Ref sig .tc := ⟨.hbm, 198, rfl⟩
abbrev main_v145 : Ref sig .tc := ⟨.hbm, 199, rfl⟩
abbrev main_v146 : Ref sig .tc := ⟨.hbm, 200, rfl⟩
abbrev main_cst_33 : Ref sig .tc := ⟨.hbm, 201, rfl⟩
abbrev main_v147 : Ref sig .tc := ⟨.hbm, 202, rfl⟩
abbrev main_v148 : Ref sig .tc := ⟨.hbm, 203, rfl⟩
abbrev main_cst_34 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_35 : Ref sig .tc := ⟨.hbm, 217, rfl⟩
abbrev main_v161 : Ref sig .tc := ⟨.hbm, 218, rfl⟩
abbrev main_cst_36 : Ref sig .tc := ⟨.hbm, 219, rfl⟩
abbrev main_v162 : Ref sig .tc := ⟨.hbm, 220, rfl⟩
abbrev main_v163 : Ref sig .tc := ⟨.hbm, 221, rfl⟩
abbrev main_cst_37 : Ref sig .tc := ⟨.hbm, 222, rfl⟩
abbrev main_v164 : Ref sig .tc := ⟨.hbm, 223, rfl⟩
abbrev main_v165 : Ref sig .tc := ⟨.hbm, 224, rfl⟩
abbrev main_cst_38 : Ref sig .tc := ⟨.hbm, 225, rfl⟩
abbrev main_v166 : Ref sig .tc := ⟨.hbm, 226, rfl⟩
abbrev main_v167 : Ref sig .tc := ⟨.hbm, 227, rfl⟩
abbrev main_cst_39 : Ref sig .tc := ⟨.hbm, 228, rfl⟩
abbrev main_v168 : Ref sig .tc := ⟨.hbm, 229, rfl⟩
abbrev main_v169 : Ref sig .tc := ⟨.hbm, 230, rfl⟩
abbrev main_cst_40 : Ref sig .tc := ⟨.hbm, 231, rfl⟩
abbrev main_v170 : Ref sig .tc := ⟨.hbm, 232, rfl⟩
abbrev main_v171 : Ref sig .tc := ⟨.hbm, 233, rfl⟩
abbrev main_cst_41 : Ref sig .tc := ⟨.hbm, 234, rfl⟩
abbrev main_v172 : Ref sig .tc := ⟨.hbm, 235, rfl⟩
abbrev main_v173 : Ref sig .tc := ⟨.hbm, 236, rfl⟩
abbrev main_cst_42 : Ref sig .tc := ⟨.hbm, 237, rfl⟩
abbrev main_v174 : Ref sig .tc := ⟨.hbm, 238, rfl⟩
abbrev main_v175 : Ref sig .tc := ⟨.hbm, 239, rfl⟩
abbrev main_cst_43 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩

abbrev nD : Nat := 1
abbrev τ : Topo := Topo.v7x

variable {F : FTy → Type} [FloatOps F]
-- ==== GateF.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x2048 : Shape := ⟨2, ![1, 2048]⟩
abbrev S8x256x1024 : Shape := ⟨3, ![8, 256, 1024]⟩
abbrev S1x1024 : Shape := ⟨2, ![1, 1024]⟩
abbrev S512x2048 : Shape := ⟨2, ![512, 2048]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S8192x2048, .bf16⟩
  | .hbm, ⟨7, _⟩ => ⟨S8192x2048, .bf16⟩
  | .hbm, ⟨8, _⟩ => ⟨S1x2048, .f32⟩
  | .hbm, ⟨9, _⟩ => ⟨S2048x1024, .bf16⟩
  | .hbm, ⟨10, _⟩ => ⟨S8x256x1024, .bf16⟩
  | .hbm, ⟨11, _⟩ => ⟨S1x1024, .f32⟩
  | .hbm, ⟨12, _⟩ => ⟨S8192x2048, .bf16⟩
  | .hbm, ⟨13, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S512x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateFRefIdeal.lean ====
abbrev S8192x2048 : Shape := ⟨2, ![8192, 2048]⟩
abbrev S2048 : Shape := ⟨1, ![2048]⟩
abbrev S2048x1024 : Shape := ⟨2, ![2048, 1024]⟩
abbrev S1024 : Shape := ⟨1, ![1024]⟩
abbrev S8192x1024 : Shape := ⟨2, ![8192, 1024]⟩
abbrev S1x2048 : Shape := ⟨2, ![1, 2048]⟩
abbrev S_ : Shape := ⟨0, ![]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S8192x1024, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== ModsF.lean ====
abbrev S8x1024 : Shape := ⟨2, ![8, 1024]⟩
abbrev S4x1024x384 : Shape := ⟨3, ![4, 1024, 384]⟩
abbrev S4x384 : Shape := ⟨2, ![4, 384]⟩
abbrev S1024x256 : Shape := ⟨2, ![1024, 256]⟩
abbrev S256 : Shape := ⟨1, ![256]⟩
abbrev S4x1x384 : Shape := ⟨3, ![4, 1, 384]⟩
abbrev S1x256 : Shape := ⟨2, ![1, 256]⟩
abbrev S8x1792 : Shape := ⟨2, ![8, 1792]⟩
abbrev S1x1024x384 : Shape := ⟨3, ![1, 1024, 384]⟩
abbrev S1024x384 : Shape := ⟨2, ![1024, 384]⟩
abbrev S8x384 : Shape := ⟨2, ![8, 384]⟩
abbrev S1x1x384 : Shape := ⟨3, ![1, 1, 384]⟩
abbrev S1x384 : Shape := ⟨2, ![1, 384]⟩
abbrev S8x256 : Shape := ⟨2, ![8, 256]⟩

abbrev nBuf : Space → Nat
  | .hbm => 8
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S4x384, .f32⟩
  | .hbm, ⟨3, _⟩ => ⟨S1024x256, .f32⟩
  | .hbm, ⟨4, _⟩ => ⟨S256, .f32⟩
  | .hbm, ⟨5, _⟩ => ⟨S4x1x384, .f32⟩
  | .hbm, ⟨6, _⟩ => ⟨S1x256, .f32⟩
  | .hbm, ⟨7, _⟩ => ⟨S8x1792, .f32⟩
  | .local _ .vmem, ⟨0, _⟩ => ⟨S8x1024, .f32⟩
  | .local _ .vmem, ⟨1, _⟩ => ⟨S4x1024x384, .f32⟩
  | .local _ .vmem, ⟨2, _⟩ => ⟨S4x1x384, .f32⟩
  | .local _ .vmem, ⟨3, _⟩ => ⟨S1024x256, .f32⟩
  | .local _ .vmem, ⟨4, _⟩ => ⟨S1x256, .f32⟩
  | .local _ .vmem, ⟨5, _⟩ => ⟨S8x1792, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ModsFRefIdeal.lean ====
abbrev S8x1024 : Shape := ⟨2, ![8, 1024]⟩
abbrev S4x1024x384 : Shape := ⟨3, ![4, 1024, 384]⟩
abbrev S4x384 : Shape := ⟨2, ![4, 384]⟩
abbrev S1024x256 : Shape := ⟨2, ![1024, 256]⟩
abbrev S256 : Shape := ⟨1, ![256]⟩
abbrev S_ : Shape := ⟨0, ![]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S384 : Shape := ⟨1, ![384]⟩
abbrev S8x256 : Shape := ⟨2, ![8, 256]⟩
abbrev S1x256 : Shape := ⟨2, ![1, 256]⟩
abbrev S8x1792 : Shape := ⟨2, ![8, 1792]⟩

abbrev nBuf : Space → Nat
  | .hbm => 51
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x384, .f32⟩
  | .hbm, ⟨2, _⟩ => ⟨S4x384, .f32⟩
  | .hbm, ⟨3, _⟩ => ⟨S1024x256, .f32⟩
  | .hbm, ⟨4, _⟩ => ⟨S256, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x384, .f32⟩
  | .hbm, ⟨15, _⟩ => ⟨S1024x384, .f32⟩
  | .hbm, ⟨16, _⟩ => ⟨S8x384, .f32⟩
  | .hbm, ⟨17, _⟩ => ⟨S1x384, .f32⟩
  | .hbm, ⟨18, _⟩ => ⟨S384, .f32⟩
  | .hbm, ⟨19, _⟩ => ⟨S1x384, .f32⟩
  | .hbm, ⟨20, _⟩ => ⟨S8x384, .f32⟩
  | .hbm, ⟨21, _⟩ => ⟨S8x384, .f32⟩
  | .hbm, ⟨22, _⟩ => ⟨S1x1024x384, .f32⟩
  | .hbm, ⟨23, _⟩ => ⟨S1024x384, .f32⟩
  | .hbm, ⟨24, _⟩ => ⟨S8x384, .f32⟩
  | .hbm, ⟨25, _⟩ => ⟨S1x384, .f32⟩
  | .hbm, ⟨26, _⟩ => ⟨S384, .f32⟩
  | .hbm, ⟨27, _⟩ => ⟨S1x384, .f32⟩
  | .hbm, ⟨28, _⟩ => ⟨S8x384, .f32⟩
  | .hbm, ⟨29, _⟩ => ⟨S8x384, .f32⟩
  | .hbm, ⟨30, _⟩ => ⟨S1x1024x384, .f32⟩
  | .hbm, ⟨31, _⟩ => ⟨S1024x384, .f32⟩
  | .hbm, ⟨32, _⟩ => ⟨S8x384, .f32⟩
  | .hbm, ⟨33, _⟩ => ⟨S1x384, .f32⟩
  | .hbm, ⟨34, _⟩ => ⟨S384, .f32⟩
  | .hbm, ⟨35, _⟩ => ⟨S1x384, .f32⟩
  | .hbm, ⟨36, _⟩ => ⟨S8x384, .f32⟩
  | .hbm, ⟨37, _⟩ => ⟨S8x384, .f32⟩
  | .hbm, ⟨38, _⟩ => ⟨S1x1024x384, .f32⟩
  | .hbm, ⟨39, _⟩ => ⟨S1024x384, .f32⟩
  | .hbm, ⟨40, _⟩ => ⟨S8x384, .f32⟩
  | .hbm, ⟨41, _⟩ => ⟨S1x384, .f32⟩
  | .hbm, ⟨42, _⟩ => ⟨S384, .f32⟩
  | .hbm, ⟨43, _⟩ => ⟨S1x384, .f32⟩
  | .hbm, ⟨44, _⟩ => ⟨S8x384, .f32⟩
  | .hbm, ⟨45, _⟩ => ⟨S8x384, .f32⟩
  | .hbm, ⟨46, _⟩ => ⟨S8x256, .f32⟩
  | .hbm, ⟨47, _⟩ => ⟨S1x256, .f32⟩
  | .hbm, ⟨48, _⟩ => ⟨S8x256, .f32⟩
  | .hbm, ⟨49, _⟩ => ⟨S8x256, .f32⟩
  | .hbm, ⟨50, _⟩ => ⟨S8x1792, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== InF.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S8192x1024, .bf16⟩
  | .hbm, ⟨12, _⟩ => ⟨S8192x2048, .bf16⟩
  | .hbm, ⟨13, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x1024x512, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x2048, .f32⟩
  | .hbm, ⟨32, _⟩ => ⟨S8192x2048, .f32⟩
  | .hbm, ⟨33, _⟩ => ⟨S8192x1024, .bf16⟩
  | .hbm, ⟨34, _⟩ => ⟨S8192x2048, .bf16⟩
  | .hbm, ⟨35, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Coe.lean ====
/- Real numbers inside the extended reals: the few facts that carry an arithmetic expression over real entries
   into the reals, where it can be worked on as ordinary algebra, and the reading of "every entry is finite". -/
module

public import Idealize.ShloMosaic.PureOps.Ideal
public import Idealize.ShloMosaic.PureOps.Ideal.Laws
public import Idealize.ShloMosaic.Lib.ReduceAll
public import Idealize.ShloMosaic.Lib.IdealHost
public import Idealize.ShloMosaic.Lib.Claim
public import Idealize.ShloMosaic.Lib.Pipeline.ValueKit

@[expose] public section

namespace Cert.Coe

open Idealize.ShloMosaic

/-- A finite sum of reals is the same sum taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division of reals off zero. -/
theorem div_real {a b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {a : ℝ} (h : 0 < a) : Ideal.rsqrt (a : EReal) = (((Real.sqrt a)⁻¹ : ℝ) : EReal) := by
  rw [Ideal.rsqrt_coe, if_neg (not_lt.2 h.le), if_neg h.ne']

/-- The infinity word is `⊤`. -/
theorem ofBits_inf : Ideal.ofBits .f32 0x7F800000#32 = ⊤ := by
  simp [Ideal.ofBits, Ideal.ieee]

/-- A value whose magnitude lies below infinity is a real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- An array of whose entries each is a real is the image of an array of reals. -/
theorem reals_of {ι : Type*} {X : ι → EReal} (h : ∀ i, ∃ r : ℝ, X i = r) : ∃ x : ι → ℝ, X = fun i => (x i : EReal) := by
  choose x hx using h
  exact ⟨x, funext hx⟩

/-- An extended real per index is finite when the program's test that every magnitude lies below infinity says so. -/
theorem real_of_test {s : Shape} (X : FVec Ideal s .f32) {d : Fin 0 → Fin s.rank} (b : (⟨0, ![]⟩ : Shape).BroadcastsInDim s d)
    {axes : List (Fin s.rank)} (hr : s.ReducesTo axes ⟨0, ![]⟩) (h0 : 0 < (⟨0, ![]⟩ : Shape).numel) (j : (⟨0, ![]⟩ : Shape).Idx)
    (e : Host.reduce IntOp.andi (cmpf .olt (Host.absf X) (broadcastInDim s d b (constant ⟨0, ![]⟩ .f32 0x7F800000#32))) (constantI ⟨0, ![]⟩ 1 1#1) hr h0 j = 1#1)
    (i : s.Idx) : ∃ r : ℝ, X i = r := by
  haveI : Subsingleton (⟨0, ![]⟩ : Shape).Idx := ⟨fun a b => funext fun i => i.elim0⟩
  have h := Host.reduce_andi_all _ _ hr h0 j e i
  refine real_of_abs_lt ?_
  rw [← ofBits_inf]
  exact h

end Cert.Coe

end
-- ==== Proof.LossKernel.lean ====
/- The value of the loss call: what the three arrays `dh`, `dg` and the loss hold after its run, each as one
   function of the rows of `h` and `target` and of the gain `g`. -/
module

public import proofs.«01_k».proof.Proof.Coe
public import proofs.«01_k».proof.Proof.Gen.LossIdeal.Value

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)

/-! ## One row -/

/-- The reciprocal root mean square of a row. -/
def rs (h : Fin 1024 → EReal) : EReal :=
  Ideal.rsqrt (Ideal.div (∑ x, h x * h x) (Ideal.ofBits FTy.f32 1149239296#32) + Ideal.ofBits FTy.f32 897988541#32)

/-- The difference of the normalised row from its target, at column `j`. -/
def err (h g t : Fin 1024 → EReal) (j : Fin 1024) : EReal := h j * rs h * g j - t j

/-- The gradient of the row at column `j`, as the call writes it. -/
def dhRow (h g t : Fin 1024 → EReal) (j : Fin 1024) : EReal :=
  rs h * (err h g t j * Ideal.ofBits FTy.f32 981467136#32 * g j
    - h j * rs h * Ideal.div (∑ x, err h g t x * Ideal.ofBits FTy.f32 981467136#32 * g x * (h x * rs h)) (Ideal.ofBits FTy.f32 1149239296#32))

/-- What a row adds to the gradient of the gain. -/
def dgRow (h g t : Fin 1024 → EReal) (j : Fin 1024) : EReal :=
  err h g t j * Ideal.ofBits FTy.f32 981467136#32 * (h j * rs h)

/-- The mean square error of a row. -/
def lossRow (h g t : Fin 1024 → EReal) : EReal :=
  Ideal.div (∑ x, err h g t x * err h g t x) (Ideal.ofBits FTy.f32 1149239296#32)

/-- Row `r` of a block. -/
abbrev brow (h : Vec Ideal S512x1024 EltTy.f32) (r : Fin 512) : Fin 1024 → EReal := fun x => h (ix2 r x)

theorem pay_dh (h : Vec Ideal S512x1024 EltTy.f32) (g : Vec Ideal S1x1024 EltTy.f32) (t : Vec Ideal S512x1024 EltTy.f32) (j) :
    k0_pay2 (k0_pay5 g) (k0_pay6 h) (k0_pay7 h) (k0_pay10 h g t) j
      = dhRow (brow h (j 0)) (fun x => g (ix2 0 x)) (brow t (j 0)) (j 1) := by
  obtain ⟨a, b, rfl⟩ : ∃ a b, j = ix2 a b := ⟨_, _, eq_ix2 j⟩
  pointwise [k0_pay2, k0_pay5, k0_pay6, k0_pay7, k0_pay8, k0_pay10]
  rfl

theorem pay_dg (h : Vec Ideal S512x1024 EltTy.f32) (g : Vec Ideal S1x1024 EltTy.f32) (t : Vec Ideal S512x1024 EltTy.f32) (a : Vec Ideal S1x1024 EltTy.f32) (j) :
    k0_pay1 (k0_pay7 h) (k0_pay10 h g t) a j
      = a j + ∑ r : Fin 512, dgRow (brow h r) (fun x => g (ix2 0 x)) (brow t r) (j 1) := by
  pointwise [k0_pay1, k0_pay2, k0_pay5, k0_pay6, k0_pay7, k0_pay8, k0_pay10]
  rfl

theorem pay_loss (h : Vec Ideal S512x1024 EltTy.f32) (g : Vec Ideal S1x1024 EltTy.f32) (t : Vec Ideal S512x1024 EltTy.f32) (a : Vec Ideal S1x128 EltTy.f32) (j) :
    k0_pay9 h g t a j = a j + Ideal.ofBits FTy.f32 1056964608#32 * ∑ r : Fin 512, lossRow (brow h r) (fun x => g (ix2 0 x)) (brow t r) := by
  pointwise [k0_pay1, k0_pay2, k0_pay5, k0_pay6, k0_pay7, k0_pay8, k0_pay10, k0_pay9]
  rfl

theorem pay_zero3 (j : S1x1024.Idx) : (k0_pay3 : FVec Ideal S1x1024 .f32) j = 0 := by
  pointwise [k0_pay3]

theorem pay_zero4 (j : S1x128.Idx) : (k0_pay4 : FVec Ideal S1x128 .f32) j = 0 := by
  pointwise [k0_pay4]

/-! ## The blocks -/

variable (m : (ℓ : Loc nD τ sig) → Buf (Elt Ideal) ℓ) (c : Dev nD)

/-- Row `r` of the array `h`. -/
abbrev hRow (r : Fin 8192) : Fin 1024 → EReal := fun x => (m ((c : Thread nD τ).loc main_arg0) : S8192x1024.Idx → EReal) (ix2 r x)

/-- The gain. -/
abbrev gain : Fin 1024 → EReal := fun x => (m ((c : Thread nD τ).loc main_arg1) : S1024.Idx → EReal) (ix1 x)

/-- Row `r` of the target. -/
abbrev tRow (r : Fin 8192) : Fin 1024 → EReal := fun x => (m ((c : Thread nD τ).loc main_arg2) : S8192x1024.Idx → EReal) (ix2 r x)

/-- The window's block at a grid point: its row coordinate is the point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- Row `a` of the block of `h` that point `t` stages is row `512 t + a` of the array. -/
theorem blk_h (t : Fin cfg0.N) (a : Fin 512) (hr : t.val * 512 + a.val < 8192) :
    brow (iblk m c 0 t) a = hRow m c ⟨t.val * 512 + a.val, hr⟩ := by
  funext x
  show (iblk m c 0 t : S512x1024.Idx → EReal) (ix2 a x) = _
  blk_point [iblk, V, idx t]

theorem blk_t (t : Fin cfg0.N) (a : Fin 512) (hr : t.val * 512 + a.val < 8192) :
    brow (iblk m c 2 t) a = tRow m c ⟨t.val * 512 + a.val, hr⟩ := by
  funext x
  show (iblk m c 2 t : S512x1024.Idx → EReal) (ix2 a x) = _
  blk_point [iblk, V, idx t]

theorem blk_g (t : Fin cfg0.N) :
    (fun x => (iblk m c 1 t : S1x1024.Idx → EReal) (ix2 0 x)) = gain m c := by
  funext x
  blk_point [iblk, V, idx t]

theorem arr3 : (dats m 0 c).arrAt 3 cfg0.N = fun j : S8192x1024.Idx => dhRow (hRow m c (j 0)) (gain m c) (tRow m c (j 0)) (j 1) := by
  refine Dat.arrAt_eq_of_covers _ 3 _ (by decide +kernel) fun t hf y => ?_
  blk_simp
  rw [after0_3]
  have ht : t.val < 16 := lt_of_lt_of_eq t.isLt N_0
  have hy : t.val * 512 + (y 0).val < 8192 := by have : (y 0).val < 512 := (y 0).isLt; omega
  have e : ((((cfg0.win 3).blk t).view.emb y) : S8192x1024.Idx) = ix2 ⟨t.val * 512 + (y 0).val, hy⟩ (y 1) := by
    blk_ext [idx t]
  have key : k0_pay2 (k0_pay5 (iblk m c 1 t)) (k0_pay6 (iblk m c 0 t)) (k0_pay7 (iblk m c 0 t))
      (k0_pay10 (iblk m c 0 t) (iblk m c 1 t) (iblk m c 2 t)) y =
      (fun j : S8192x1024.Idx => dhRow (hRow m c (j 0)) (gain m c) (tRow m c (j 0)) (j 1)) (((cfg0.win 3).blk t).view.emb y) := by
    rw [e, pay_dh, blk_h m c t (y 0) hy, blk_t m c t (y 0) hy, blk_g m c t]
    rfl
  by_cases h : t.val % 16 = 0
  · rw [outsAt0_A m c t h]
    frame_out
    exact key
  · rw [outsAt0_B m c t h]
    frame_out
    exact key

theorem arr4 : (dats m 0 c).arrAt 4 cfg0.N = fun j : S1x1024.Idx => ∑ r : Fin 8192, dgRow (hRow m c r) (gain m c) (tRow m c r) (j 1) := by
  refine Dat.arrAt_eq_of_after_last _ 4 t0_15 (by decide +kernel) _ fun j => ?_
  blk_simp
  rw [after0_4, Pipeline.eq_sum_fin_of_reset_step_apply_last (fun n h => (outsAt0 m c n h).2.1) 16 (fun _ => 0) _
    (fun t h j => by rw [outsAt0_A m c t h]; frame_out; rw [pay_dg, pay_zero3])
    (fun t h j => by rw [outsAt0_B m c t h]; frame_out; rw [pay_dg]) (le_of_eq N_0) t0_15 rfl j, zero_add]
  show (_ : EReal) = _
  refine (Fin.sum_mul_add_congr (S := 16) (n := 512) fun t k hl => ?_)
  rw [blk_h m c t k hl, blk_t m c t k hl, blk_g m c t]

theorem arr5 : (dats m 0 c).arrAt 5 cfg0.N = fun j : S1x128.Idx =>
    ∑ p : Fin 16, Ideal.ofBits FTy.f32 1056964608#32 * ∑ k : Fin 512, lossRow (hRow m c ⟨p.val * 512 + k.val, by omega⟩) (gain m c)
      (tRow m c ⟨p.val * 512 + k.val, by omega⟩) := by
  refine Dat.arrAt_eq_of_after_last _ 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h]; frame_out; rw [pay_loss, pay_zero4])
    (fun t h j => by rw [outsAt0_B m c t h]; frame_out; rw [pay_loss]) (le_of_eq N_0) t0_15 rfl j, zero_add]
  show (_ : EReal) = _
  refine Finset.sum_congr rfl fun p _ => ?_
  refine congrArg _ (Finset.sum_congr rfl fun k _ => ?_)
  have hp : p.val * 512 + k.val < 8192 := by have := lt_of_lt_of_eq p.isLt N_0; omega
  rw [blk_h m c p k hp, blk_t m c p k hp, blk_g m c p]

end Cert.LossIdeal.Value

end
end
-- ==== Proof.LossRef.lean ====
/- The reference of the loss call, read at an index: each of its three results over the rows of `h` and `target`. -/
module

public import proofs.«01_k».proof.Proof.Coe
public import proofs.«01_k».proof.Proof.Gen.LossRefIdeal.Read

@[expose] public section

set_option maxRecDepth 16384

noncomputable section

namespace Cert.LossRefIdeal.Read

open Cert.LossRefIdeal Cert.LossRefIdeal.Gen Idealize.ShloMosaic Idealize.ShloMosaic.TcCoe

/-- A row's mean square, with the small constant. -/
def ms (h : Fin 1024 → EReal) : EReal :=
  Ideal.div (∑ x, h x * h x) (Ideal.ofBits FTy.f32 1149239296#32) + Ideal.ofBits FTy.f32 897988541#32

/-- The normalised row less its target. -/
def err (h g t : Fin 1024 → EReal) (j : Fin 1024) : EReal := h j * Ideal.rsqrt (ms h) * g j - t j

/-- The cotangent of the normalised row: the derivative of half its mean square error. -/
def ct (h g t : Fin 1024 → EReal) (j : Fin 1024) : EReal :=
  Ideal.div (Ideal.ofBits FTy.f32 1056964608#32) (Ideal.ofBits FTy.f32 1149239296#32)
    * (Ideal.ofBits FTy.f32 1073741824#32 * err h g t j)

/-- The cotangent of the mean square, through the reciprocal root. -/
def cms (h g t : Fin 1024 → EReal) : EReal :=
  ∑ _x : Fin 1, Ideal.div ((∑ x, h x * (ct h g t x * g x)) * (Ideal.ofBits FTy.f32 3204448256#32 * Ideal.div (Ideal.rsqrt (ms h)) (ms h)))
    (Ideal.ofBits FTy.f32 1149239296#32)

/-- The derivative of the row, as differentiation of the plain lines writes it. -/
def dhRow (h g t : Fin 1024 → EReal) (j : Fin 1024) : EReal :=
  ct h g t j * g j * Ideal.rsqrt (ms h) + h j * cms h g t + cms h g t * h j

/-- What a row adds to the derivative of the gain. -/
def dgRow (h g t : Fin 1024 → EReal) (j : Fin 1024) : EReal := h j * Ideal.rsqrt (ms h) * ct h g t j

/-- The mean square error of a row. -/
def lossRow (h g t : Fin 1024 → EReal) : EReal :=
  Ideal.div (∑ x, err h g t x * err h g t x) (Ideal.ofBits FTy.f32 1149239296#32)

variable (h : S8192x1024.Idx → EReal) (g : S1024.Idx → EReal) (t : S8192x1024.Idx → EReal)

theorem val_dh (s : Fin 8192) (j : Fin 1024) :
    val_main_v50 (F := Ideal) h g t (ix2 s j) = dhRow (fun x => h (ix2 s x)) (fun x => g (ix1 x)) (fun x => t (ix2 s x)) j := by
  pointwise [val_main_v0, val_main_v1, val_main_v2, val_main_v3, val_main_v4, val_main_v5, val_main_v6, val_main_v7, val_main_v8, val_main_v9, val_main_v10,
      val_main_v11, val_main_v12, val_main_v13, val_main_v14, val_main_v15, val_main_v16, val_main_v17, val_main_v18, val_main_v19, val_main_v20,
      val_main_v21, val_main_v22, val_main_v23, val_main_v24, val_main_v25, val_main_v26, val_main_v27, val_main_v28, val_main_v29, val_main_v30,
      val_main_v31, val_main_v32, val_main_v33, val_main_v34, val_main_v35, val_main_v36, val_main_v37, val_main_v38, val_main_v39, val_main_v40,
      val_main_v41, val_main_v42, val_main_v43, val_main_v44, val_main_v45, val_main_v46, val_main_v47, val_main_v48, val_main_v49, val_main_v50,
      val_main_v51, val_main_v52, val_main_cst, val_main_cst_0, val_main_cst_1, val_main_cst_2, val_main_cst_3, val_main_cst_4, val_main_cst_5,
      val_main_cst_6, val_main_cst_7, val_main_cst_8, val_main_cst_9, val_main_cst_10, val_main_cst_11, val_main_cst_12, val_main_cst_13, val_main_cst_14,
      val_main_cst_15]
  rfl

theorem val_dg (s : Fin 1) (j : Fin 1024) :
    val_main_v51 (F := Ideal) h g t (ix2 s j)
      = ∑ _x : Fin 1, ∑ r : Fin 8192, dgRow (fun x => h (ix2 r x)) (fun x => g (ix1 x)) (fun x => t (ix2 r x)) j := by
  pointwise [val_main_v0, val_main_v1, val_main_v2, val_main_v3, val_main_v4, val_main_v5, val_main_v6, val_main_v7, val_main_v8, val_main_v9, val_main_v10,
      val_main_v11, val_main_v12, val_main_v13, val_main_v14, val_main_v15, val_main_v16, val_main_v17, val_main_v18, val_main_v19, val_main_v20,
      val_main_v21, val_main_v22, val_main_v23, val_main_v24, val_main_v25, val_main_v26, val_main_v27, val_main_v28, val_main_v29, val_main_v30,
      val_main_v31, val_main_v32, val_main_v33, val_main_v34, val_main_v35, val_main_v36, val_main_v37, val_main_v38, val_main_v39, val_main_v40,
      val_main_v41, val_main_v42, val_main_v43, val_main_v44, val_main_v45, val_main_v46, val_main_v47, val_main_v48, val_main_v49, val_main_v50,
      val_main_v51, val_main_v52, val_main_cst, val_main_cst_0, val_main_cst_1, val_main_cst_2, val_main_cst_3, val_main_cst_4, val_main_cst_5,
      val_main_cst_6, val_main_cst_7, val_main_cst_8, val_main_cst_9, val_main_cst_10, val_main_cst_11, val_main_cst_12, val_main_cst_13, val_main_cst_14,
      val_main_cst_15]
  rfl

theorem val_loss (s : Fin 1) (j : Fin 128) :
    val_main_v52 (F := Ideal) h g t (ix2 s j)
      = Ideal.ofBits FTy.f32 1056964608#32 * ∑ r : Fin 8192, lossRow (fun x => h (ix2 r x)) (fun x => g (ix1 x)) (fun x => t (ix2 r x)) := by
  pointwise [val_main_v0, val_main_v1, val_main_v2, val_main_v3, val_main_v4, val_main_v5, val_main_v6, val_main_v7, val_main_v8, val_main_v9, val_main_v10,
      val_main_v11, val_main_v12, val_main_v13, val_main_v14, val_main_v15, val_main_v16, val_main_v17, val_main_v18, val_main_v19, val_main_v20,
      val_main_v21, val_main_v22, val_main_v23, val_main_v24, val_main_v25, val_main_v26, val_main_v27, val_main_v28, val_main_v29, val_main_v30,
      val_main_v31, val_main_v32, val_main_v33, val_main_v34, val_main_v35, val_main_v36, val_main_v37, val_main_v38, val_main_v39, val_main_v40,
      val_main_v41, val_main_v42, val_main_v43, val_main_v44, val_main_v45, val_main_v46, val_main_v47, val_main_v48, val_main_v49, val_main_v50,
      val_main_v51, val_main_v52, val_main_cst, val_main_cst_0, val_main_cst_1, val_main_cst_2, val_main_cst_3, val_main_cst_4, val_main_cst_5,
      val_main_cst_6, val_main_cst_7, val_main_cst_8, val_main_cst_9, val_main_cst_10, val_main_cst_11, val_main_cst_12, val_main_cst_13, val_main_cst_14,
      val_main_cst_15]
  rfl

end Cert.LossRefIdeal.Read

end
end
-- ==== Proof.LossEq.lean ====
/- The loss call and its reference agree over finite arrays: the mathematics, row by row over the reals. -/
module

public import proofs.«01_k».proof.Proof.Coe
public import proofs.«01_k».proof.Proof.LossKernel
public import proofs.«01_k».proof.Proof.LossRef

@[expose] public section

set_option maxRecDepth 16384

noncomputable section

namespace Cert.LossEq

open Idealize.ShloMosaic Cert.Coe

/-- The small constant of the root mean square. -/
def eps : ℝ := 8796093 / 8796093022208

theorem eps_pos : 0 < eps := by unfold eps; norm_num

theorem c_1024 : Ideal.ofBits FTy.f32 1149239296#32 = ((1024 : ℝ) : EReal) := by
  simp [Ideal.ofBits, Ideal.ieee, -EReal.coe_mul]; norm_num
theorem c_inv : Ideal.ofBits FTy.f32 981467136#32 = ((1 / 1024 : ℝ) : EReal) := by
  simp [Ideal.ofBits, Ideal.ieee, -EReal.coe_mul]; norm_num
theorem c_eps : Ideal.ofBits FTy.f32 897988541#32 = ((eps : ℝ) : EReal) := by
  unfold eps; simp [Ideal.ofBits, Ideal.ieee, -EReal.coe_mul]; norm_num
theorem c_half : Ideal.ofBits FTy.f32 1056964608#32 = ((1 / 2 : ℝ) : EReal) := by
  simp [Ideal.ofBits, Ideal.ieee, -EReal.coe_mul]; norm_num
theorem c_mhalf : Ideal.ofBits FTy.f32 3204448256#32 = ((-(1 / 2) : ℝ) : EReal) := by
  simp [Ideal.ofBits, Ideal.ieee, -EReal.coe_mul]; norm_num
theorem c_two : Ideal.ofBits FTy.f32 1073741824#32 = ((2 : ℝ) : EReal) := by
  simp [Ideal.ofBits, Ideal.ieee, -EReal.coe_mul]; norm_num

/-! ## The real functions -/

/-- A real row's mean square with the small constant. -/
def msR (h : Fin 1024 → ℝ) : ℝ := (∑ x, h x * h x) / 1024 + eps

theorem msR_pos (h : Fin 1024 → ℝ) : 0 < msR h :=
  add_pos_of_nonneg_of_pos (div_nonneg (Finset.sum_nonneg fun x _ => mul_self_nonneg _) (by norm_num)) eps_pos

/-- Its reciprocal root. -/
def rR (h : Fin 1024 → ℝ) : ℝ := (Real.sqrt (msR h))⁻¹

theorem rR_sq (h : Fin 1024 → ℝ) : rR h * rR h = 1 / msR h := by
  unfold rR
  rw [← mul_inv, Real.mul_self_sqrt (msR_pos h).le, one_div]

def errR (h g t : Fin 1024 → ℝ) (j : Fin 1024) : ℝ := h j * rR h * g j - t j

def dhR (h g t : Fin 1024 → ℝ) (j : Fin 1024) : ℝ :=
  rR h * (errR h g t j * (1 / 1024) * g j - h j * rR h * ((∑ x, errR h g t x * (1 / 1024) * g x * (h x * rR h)) / 1024))

def dgR (h g t : Fin 1024 → ℝ) (j : Fin 1024) : ℝ := errR h g t j * (1 / 1024) * (h j * rR h)

def lossR (h g t : Fin 1024 → ℝ) : ℝ := (∑ x, errR h g t x * errR h g t x) / 1024

section
variable (h g t : Fin 1024 → ℝ)

/-- A real row among the extended reals. -/
abbrev up (h : Fin 1024 → ℝ) : Fin 1024 → EReal := fun x => (h x : EReal)

theorem ms_up : Ideal.div (∑ x, up h x * up h x) (Ideal.ofBits FTy.f32 1149239296#32) + Ideal.ofBits FTy.f32 897988541#32 = (msR h : EReal) := by
  simp only [c_1024, c_eps, ← EReal.coe_mul, sum_coe]
  rw [div_real (by norm_num), ← EReal.coe_add]
  rfl

theorem rs_up : Ideal.rsqrt (msR h : EReal) = (rR h : EReal) := rsqrt_real (msR_pos h)

/-! ## The kernel's rows -/

theorem k_rs : Cert.LossIdeal.Value.rs (up h) = (rR h : EReal) := by
  unfold Cert.LossIdeal.Value.rs; rw [ms_up, rs_up]

theorem k_err (j) : Cert.LossIdeal.Value.err (up h) (up g) (up t) j = (errR h g t j : EReal) := by
  unfold Cert.LossIdeal.Value.err errR
  rw [k_rs]; simp only [← EReal.coe_mul, ← EReal.coe_sub]

theorem k_dh (j) : Cert.LossIdeal.Value.dhRow (up h) (up g) (up t) j = (dhR h g t j : EReal) := by
  unfold Cert.LossIdeal.Value.dhRow dhR
  simp only [k_rs, k_err, c_inv, c_1024, ← EReal.coe_mul, sum_coe]
  rw [div_real (by norm_num)]
  simp only [← EReal.coe_mul, ← EReal.coe_sub]

theorem k_dg (j) : Cert.LossIdeal.Value.dgRow (up h) (up g) (up t) j = (dgR h g t j : EReal) := by
  unfold Cert.LossIdeal.Value.dgRow dgR
  simp only [k_rs, k_err, c_inv, ← EReal.coe_mul]

theorem k_loss : Cert.LossIdeal.Value.lossRow (up h) (up g) (up t) = (lossR h g t : EReal) := by
  unfold Cert.LossIdeal.Value.lossRow lossR
  simp only [k_err, c_1024, ← EReal.coe_mul, sum_coe]
  rw [div_real (by norm_num)]

/-! ## The reference's rows -/

theorem r_ms : Cert.LossRefIdeal.Read.ms (up h) = (msR h : EReal) := ms_up h

theorem r_err (j) : Cert.LossRefIdeal.Read.err (up h) (up g) (up t) j = (errR h g t j : EReal) := by
  unfold Cert.LossRefIdeal.Read.err errR
  rw [r_ms, rs_up]; simp only [← EReal.coe_mul, ← EReal.coe_sub]

theorem r_ct (j) : Cert.LossRefIdeal.Read.ct (up h) (up g) (up t) j = ((1 / 2 / 1024 * (2 * errR h g t j) : ℝ) : EReal) := by
  unfold Cert.LossRefIdeal.Read.ct
  rw [r_err, c_half, c_1024, c_two, div_real (by norm_num)]; simp only [← EReal.coe_mul]

theorem r_cms : Cert.LossRefIdeal.Read.cms (up h) (up g) (up t)
    = (((∑ x, h x * (1 / 2 / 1024 * (2 * errR h g t x) * g x)) * (-(1 / 2) * (rR h / msR h)) / 1024 : ℝ) : EReal) := by
  unfold Cert.LossRefIdeal.Read.cms
  simp only [r_ct, r_ms, rs_up, c_mhalf, c_1024, ← EReal.coe_mul, sum_coe, Finset.univ_unique, Finset.sum_singleton]
  rw [div_real (msR_pos h).ne', ← EReal.coe_mul, ← EReal.coe_mul, div_real (by norm_num)]

theorem r_dh (j) : Cert.LossRefIdeal.Read.dhRow (up h) (up g) (up t) j = (dhR h g t j : EReal) := by
  unfold Cert.LossRefIdeal.Read.dhRow
  rw [r_cms, r_ct, r_ms, rs_up]
  simp only [← EReal.coe_mul, ← EReal.coe_add]
  refine congrArg _ ?_
  unfold dhR
  have e1 : ∑ x, h x * (1 / 2 / 1024 * (2 * errR h g t x) * g x) = (∑ x, errR h g t x * g x * h x) / 1024 := by
    rw [Finset.sum_div]; exact Finset.sum_congr rfl fun x _ => by ring
  have e2 : ∑ x, errR h g t x * (1 / 1024) * g x * (h x * rR h) = (∑ x, errR h g t x * g x * h x) / 1024 * rR h := by
    rw [Finset.sum_div, Finset.sum_mul]; exact Finset.sum_congr rfl fun x _ => by ring
  rw [e1, e2, div_eq_mul_one_div (rR h) (msR h), ← rR_sq]
  ring

theorem r_dg (j) : Cert.LossRefIdeal.Read.dgRow (up h) (up g) (up t) j = (dgR h g t j : EReal) := by
  unfold Cert.LossRefIdeal.Read.dgRow dgR
  rw [r_ct, r_ms, rs_up]
  simp only [← EReal.coe_mul]
  refine congrArg _ ?_
  ring

theorem r_loss : Cert.LossRefIdeal.Read.lossRow (up h) (up g) (up t) = (lossR h g t : EReal) := by
  unfold Cert.LossRefIdeal.Read.lossRow lossR
  simp only [r_err, c_1024, ← EReal.coe_mul, sum_coe]
  rw [div_real (by norm_num)]

end

/-! ## The three arrays -/

theorem dh_eq {h g t : Fin 1024 → EReal} (hh : ∀ x, ∃ r : ℝ, h x = r) (hg : ∀ x, ∃ r : ℝ, g x = r) (ht : ∀ x, ∃ r : ℝ, t x = r) (j) :
    Cert.LossIdeal.Value.dhRow h g t j = Cert.LossRefIdeal.Read.dhRow h g t j := by
  obtain ⟨h, rfl⟩ := reals_of hh
  obtain ⟨g, rfl⟩ := reals_of hg
  obtain ⟨t, rfl⟩ := reals_of ht
  exact (k_dh h g t j).trans (r_dh h g t j).symm

theorem dg_eq {h g t : Fin 1024 → EReal} (hh : ∀ x, ∃ r : ℝ, h x = r) (hg : ∀ x, ∃ r : ℝ, g x = r) (ht : ∀ x, ∃ r : ℝ, t x = r) (j) :
    Cert.LossIdeal.Value.dgRow h g t j = Cert.LossRefIdeal.Read.dgRow h g t j := by
  obtain ⟨h, rfl⟩ := reals_of hh
  obtain ⟨g, rfl⟩ := reals_of hg
  obtain ⟨t, rfl⟩ := reals_of ht
  exact (k_dg h g t j).trans (r_dg h g t j).symm

/-- The sixteen tiles' halved sums are half of the whole sum. -/
theorem loss_eq {h t : Fin 8192 → Fin 1024 → EReal} {g : Fin 1024 → EReal}
    (hh : ∀ s x, ∃ r : ℝ, h s x = r) (hg : ∀ x, ∃ r : ℝ, g x = r) (ht : ∀ s x, ∃ r : ℝ, t s x = r) :
    (∑ p : Fin 16, Ideal.ofBits FTy.f32 1056964608#32 * ∑ k : Fin 512,
        Cert.LossIdeal.Value.lossRow (h ⟨p.val * 512 + k.val, by omega⟩) g (t ⟨p.val * 512 + k.val, by omega⟩))
      = Ideal.ofBits FTy.f32 1056964608#32 * ∑ s : Fin 8192, Cert.LossRefIdeal.Read.lossRow (h s) g (t s) := by
  obtain ⟨g, rfl⟩ := reals_of hg
  choose h' hh' using fun s => reals_of (hh s)
  choose t' ht' using fun s => reals_of (ht s)
  obtain rfl : h = fun s => up (h' s) := funext hh'
  obtain rfl : t = fun s => up (t' s) := funext ht'
  simp only [k_loss, r_loss, c_half, sum_coe, ← EReal.coe_mul]
  refine congrArg _ ?_
  rw [← Finset.mul_sum]
  refine congrArg _ ?_
  exact Fin.sum_mul_add_congr (S := 16) (n := 512) fun p k hl => rfl

end Cert.LossEq

end
end
-- ==== Proof.LossClaims.lean ====
/- The claims about the loss call: its frames, its reference's frame, and that both compute the same three arrays. -/
module

public import proofs.«01_k».proof.Defs
public import proofs.«01_k».proof.Proof.LossEq
public import proofs.«01_k».proof.Proof.Gen.Loss.Frame
public import proofs.«01_k».proof.Proof.Gen.LossRefIdeal.Run
public import proofs.«01_k».proof.Proof.Gen.Pre_loss_finite
public import Idealize.ShloMosaic.Adequacy
public import Idealize.ShloMosaic.Init

@[expose] public section

set_option maxRecDepth 16384

noncomputable section

namespace Cert.LossClaims

open Idealize.ShloMosaic Idealize.ShloMosaic.TcCoe Idealize.SL.Sem Cert.Coe

theorem frame_ref (m : (ℓ : Loc Cert.LossRefIdeal.nD Cert.LossRefIdeal.τ Cert.LossRefIdeal.sig) → Buf (Elt Ideal) ℓ)
    (ρ : Dev Cert.LossRefIdeal.nD → PrngReg) :
    θ_run (Cert.LossRefIdeal.defs (F := Ideal)) (onTc (τ := Cert.LossRefIdeal.τ) (Cert.LossRefIdeal.main (F := Ideal))) ⟨m, fun _ => 0, ρ⟩
      (fun r => (∀ c : Dev Cert.LossRefIdeal.nD,
        r.2.mem ((c.tc : Thread _ Cert.LossRefIdeal.τ).loc Cert.LossRefIdeal.main_arg0) = m ((c.tc : Thread _ Cert.LossRefIdeal.τ).loc Cert.LossRefIdeal.main_arg0)
        ∧ r.2.mem ((c.tc : Thread _ Cert.LossRefIdeal.τ).loc Cert.LossRefIdeal.main_arg1) = m ((c.tc : Thread _ Cert.LossRefIdeal.τ).loc Cert.LossRefIdeal.main_arg1)
        ∧ r.2.mem ((c.tc : Thread _ Cert.LossRefIdeal.τ).loc Cert.LossRefIdeal.main_arg2) = m ((c.tc : Thread _ Cert.LossRefIdeal.τ).loc Cert.LossRefIdeal.main_arg2))
        ∧ r.2.sem = fun _ => 0) :=
  (θ_run Cert.LossRefIdeal.defs _ _).mono (fun r h => ⟨fun c => (h c).2.2.2, sem_eq_zero_of_no_sems (by decide) r.2⟩)
    (Cert.LossRefIdeal.Value.run (F := Ideal) m ρ)

/-- The precondition, read as: every entry of the three arguments is a real. -/
theorem finite_args (h : FVec Ideal Cert.Pre_loss_finite.S8192x1024 .f32) (g : FVec Ideal Cert.Pre_loss_finite.S1024 .f32)
    (t : FVec Ideal Cert.Pre_loss_finite.S8192x1024 .f32)
    (e : ∀ i, Cert.Pre_loss_finite.fn h g t i = 1#1) :
    (∀ i, ∃ r : ℝ, h i = r) ∧ (∀ i, ∃ r : ℝ, g i = r) ∧ (∀ i, ∃ r : ℝ, t i = r) := by
  have e := e (fun a : Fin 0 => a.elim0)
  obtain ⟨e, e3⟩ := IntOp.andi_eq_one.1 e
  obtain ⟨e1, e2⟩ := IntOp.andi_eq_one.1 e
  exact ⟨real_of_test h _ _ _ _ e1, real_of_test g _ _ _ _ e2, real_of_test t _ _ _ _ e3⟩

theorem algebraic : Cert.algebraic_LossIdeal_LossRefIdeal_pre_loss_finite := by
  intro m ρ m' ρ' pre hag
  refine ⟨fun c => (Cert.LossIdeal.Gen.dats m 0 c).arrAt 3 Cert.LossIdeal.cfg0.N, fun c => (Cert.LossIdeal.Gen.dats m 0 c).arrAt 4 Cert.LossIdeal.cfg0.N,
    fun c => (Cert.LossIdeal.Gen.dats m 0 c).arrAt 5 Cert.LossIdeal.cfg0.N, Cert.LossIdeal.Value.run_blocks m ρ, ?_⟩
  refine (θ_run Cert.LossRefIdeal.defs _ _).mono (fun r h c => ?_) (Cert.LossRefIdeal.Value.run (F := Ideal) m' ρ')
  obtain ⟨r0, r1, r2, k⟩ := h c
  obtain ⟨a0, a1, a2⟩ := hag c
  obtain ⟨f0, f1, f2⟩ := finite_args _ _ _ (fun i => congrFun (pre c) i)
  refine ⟨(r0.trans (Cert.LossRefIdeal.Read.val_main_v50_eq m' c)).trans (Eq.trans ?_ (Cert.LossIdeal.Value.arr3 m c).symm),
    (r1.trans (Cert.LossRefIdeal.Read.val_main_v51_eq _ _ _)).trans (Eq.trans ?_ (Cert.LossIdeal.Value.arr4 m c).symm),
    (r2.trans (Cert.LossRefIdeal.Read.val_main_v52_eq _ _ _)).trans (Eq.trans ?_ (Cert.LossIdeal.Value.arr5 m c).symm), k⟩
  · rw [a0, a1, a2]
    funext j
    obtain ⟨s, x, rfl⟩ : ∃ s x, j = ix2 s x := ⟨_, _, eq_ix2 j⟩
    exact (Cert.LossRefIdeal.Read.val_dh _ _ _ s x).trans (Cert.LossEq.dh_eq (fun x => f0 _) (fun x => f1 _) (fun x => f2 _) x).symm
  · rw [a0, a1, a2]
    funext j
    obtain ⟨s, x, rfl⟩ : ∃ s x, j = ix2 s x := ⟨_, _, eq_ix2 j⟩
    refine (Cert.LossRefIdeal.Read.val_dg _ _ _ s x).trans ?_
    rw [Finset.univ_unique, Finset.sum_singleton]
    exact Finset.sum_congr rfl fun r _ => (Cert.LossEq.dg_eq (fun x => f0 _) (fun x => f1 _) (fun x => f2 _) x).symm
  · rw [a0, a1, a2]
    funext j
    obtain ⟨s, x, rfl⟩ : ∃ s x, j = ix2 s x := ⟨_, _, eq_ix2 j⟩
    exact (Cert.LossRefIdeal.Read.val_loss _ _ _ s x).trans (Cert.LossEq.loss_eq (fun _ _ => f0 _) (fun x => f1 _) (fun _ _ => f2 _)).symm

end Cert.LossClaims

end
end
-- ==== Proof.AttnRunA.lean ====
module

public import proofs.«01_k».proof.Proof.Gen.AttnIdeal.Frame
public import proofs.«01_k».proof.Proof.Gen.AttnIdeal.Skeleton
public import Idealize.ShloMosaic.Lib.WordCmp

/-! The body of the attention's backward call at the first point of a head, run over any float values. -/

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's one branch: the head's first point. -/
abbrev first (i : grid0.Coords) : Prop :=
  (Scalar.cmpi .ne (Scalar.extui (Scalar.cmpi .eq (BitVec.ofNat 32 (i 1).val) 0#32)) 0#32) = 1#1

/-- The branch is taken at the even points. -/
theorem first_iff : ∀ t : Fin cfg0.N, first (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [first, e0, e1]
    word_cmp
   : ∀ t : Fin grid0.N, first (grid0.coords t) ↔ t.val % 2 = 0)

variable (c : Dev nD) (i : grid0.Coords)
  (arg2 : Memref sig .tc .vmem S4096x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S4096x128 .bf16) (harg5 : arg5.IsWhole)
  (arg6 : Memref sig .tc .vmem S1x5x640x128 .f32) (harg6 : arg6.IsWhole)
  (arg7 : Memref sig .tc .vmem S4096x128 .bf16) (harg7 : arg7.IsWhole)
  (arg8 : Memref sig .tc .vmem S8704x128 .f32) (harg8 : arg8.IsWhole)
  (arg9 : Memref sig .tc .vmem S8704x128 .f32) (harg9 : arg9.IsWhole)
  (arg10 : Memref sig .tc .vmem S1x5x640x128 .f32) (harg10 : arg10.IsWhole)
  (x0 : Vec F S4096x128 .bf16) (x1 : Vec F S8704x128 .bf16) (x2 : Vec F S8704x128 .bf16) (x3 : Vec F S4096x128 .bf16) (x4 : Vec F S1x5x640x128 .f32)

set_option maxHeartbeats 8000000 in
/-- The body at a head's first point: the lists of stores each output buffer ends with, found by the run. -/
noncomputable def runA (hc0 : first i) :
    Σ' (L5 : List (View.Piece (Elt F) S4096x128 .bf16)), Σ' (L6 L7 : List (View.Piece (Elt F) S8704x128 .f32)),
    { L8 : List (View.Piece (Elt F) S1x5x640x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) arg8.view.junk L6) ∗ (arg9.view.loc (c : Thread nD τ) ↦[arg9.view.set]{fullShare} arg9.view.writes (Elt F) arg9.view.junk L7) ∗ (arg10.view.loc (c : Thread nD τ) ↦[arg10.view.set]{fullShare} arg10.view.writes (Elt F) arg10.view.junk L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_attn_bwd_eq_skeleton]; unfold cc0_attn_bwd_skel
    simp only [k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [H7]; · iexact H7
    iexact H8

end Cert.AttnRun

end

end
-- ==== Proof.AttnRunB.lean ====
module

public import proofs.«01_k».proof.Proof.Gen.AttnIdeal.Frame
public import proofs.«01_k».proof.Proof.Gen.AttnIdeal.Skeleton
public import proofs.«01_k».proof.Proof.AttnRunA

/-! The body of the attention's backward call at the second point of a head, run over any float values. -/

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S4096x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S4096x128 .bf16) (harg5 : arg5.IsWhole)
  (arg6 : Memref sig .tc .vmem S1x5x640x128 .f32) (harg6 : arg6.IsWhole)
  (arg7 : Memref sig .tc .vmem S4096x128 .bf16) (harg7 : arg7.IsWhole)
  (arg8 : Memref sig .tc .vmem S8704x128 .f32) (harg8 : arg8.IsWhole)
  (arg9 : Memref sig .tc .vmem S8704x128 .f32) (harg9 : arg9.IsWhole)
  (arg10 : Memref sig .tc .vmem S1x5x640x128 .f32) (harg10 : arg10.IsWhole)
  (x0 : Vec F S4096x128 .bf16) (x1 : Vec F S8704x128 .bf16) (x2 : Vec F S8704x128 .bf16) (x3 : Vec F S4096x128 .bf16) (x4 : Vec F S1x5x640x128 .f32)

set_option maxHeartbeats 8000000 in
/-- The body at a head's second point: the lists of stores each output buffer ends with, found by the run. -/
noncomputable def runB (hc0 : ¬first i)
    (y6 y7 : Vec F S8704x128 .f32) (y8 : Vec F S1x5x640x128 .f32) :
    Σ' (L5 : List (View.Piece (Elt F) S4096x128 .bf16)), Σ' (L6 L7 : List (View.Piece (Elt F) S8704x128 .f32)),
    { L8 : List (View.Piece (Elt F) S1x5x640x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread y6) L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_attn_bwd_eq_skeleton]; unfold cc0_attn_bwd_skel
    simp only [k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [H7]; · iexact H7
    iexact H8

end Cert.AttnRun

end

end
-- ==== Proof.AttnTile.lean ====
/- One tile of the attention's backward call, 640 keys by 128 queries, over the extended reals: its softmax and its
   gradient of the scores, and what each store into the gradients of the keys and of the values adds: the products of
   the tiles that share one block of 128 keys, written as one sum over those tiles. -/
module

public import proofs.«01_k».proof.Proof.Gen.AttnIdeal.Skeleton
public import Idealize.ShloMosaic.Lib.Pointwise

@[expose] public section

set_option maxRecDepth 16384

noncomputable section

namespace Cert.AttnTile

open Cert.AttnIdeal Cert.AttnIdeal.Gen
open Idealize.ShloMosaic Idealize.ShloMosaic.TcCoe Idealize.ShloMosaic.Tactic
open Idealize.ShloMosaic.Pointwise

/-- The softmax of a tile, from its keys, its queries and its frame of the bias. -/
def pT (K : Vec Ideal S640x128 .bf16) (Q : Vec Ideal S128x128 .bf16) (B : Vec Ideal S1x1x640x128 .f32) :
    Vec Ideal S640x128 .f32 :=
  k0_pay22 (k0_pay6 K Q) B

/-- The gradient of a tile's scores, from its keys, values, queries, cotangents and frame of the bias. -/
def dT (K V : Vec Ideal S640x128 .bf16) (Q D : Vec Ideal S128x128 .bf16) (B : Vec Ideal S1x1x640x128 .f32) :
    Vec Ideal S640x128 .f32 :=
  k0_pay24 (k0_pay14 V D) (pT K Q B) (k0_pay23 (k0_pay6 K Q) (k0_pay14 V D) B)

/-- A tile of scores, from its keys, its queries and its frame of the bias. -/
def score (K : Vec Ideal S640x128 .bf16) (Q : Vec Ideal S128x128 .bf16) (B : Vec Ideal S1x1x640x128 .f32)
    (y : Fin 640) (b : Fin 128) : EReal :=
  (∑ k, K (ix2 y k) * Q (ix2 b k)) * Ideal.ofBits FTy.f32 0x3DB504F3#32 + B (ix4 0 0 y b)

/-- A tile's softmax, entry by entry. -/
theorem pT_apply (K : Vec Ideal S640x128 .bf16) (Q : Vec Ideal S128x128 .bf16) (B : Vec Ideal S1x1x640x128 .f32)
    (y : Fin 640) (b : Fin 128) :
    pT K Q B (ix2 y b) = Ideal.exp (score K Q B y b
          - Finset.fold max (Ideal.ofBits FTy.f32 0xFF800000#32) (fun x => score K Q B x b) Finset.univ)
        * Ideal.div 1 (∑ x, Ideal.exp (score K Q B x b
          - Finset.fold max (Ideal.ofBits FTy.f32 0xFF800000#32) (fun x => score K Q B x b) Finset.univ)) := by
  pointwise [pT, k0_pay22, k0_pay6]
  rfl

/-- The gradient of a tile's scores, entry by entry. -/
theorem dT_apply (K V : Vec Ideal S640x128 .bf16) (Q D : Vec Ideal S128x128 .bf16) (B : Vec Ideal S1x1x640x128 .f32)
    (y : Fin 640) (b : Fin 128) :
    dT K V Q D B (ix2 y b) = pT K Q B (ix2 y b) * (∑ k, V (ix2 y k) * D (ix2 b k)
        - ∑ x, (∑ k, V (ix2 x k) * D (ix2 b k)) * pT K Q B (ix2 x b)) := by
  simp only [pT_apply K Q B]
  pointwise [dT, k0_pay24, k0_pay14, k0_pay23, k0_pay22, k0_pay6]
  simp only [pT_apply K Q B]
  rfl

/-- The gradient of a tile's queries, entry by entry. -/
theorem dq_apply (D K : Vec Ideal S640x128 .bf16) (x d : Fin 128) :
    k0_pay281 D K (ix2 x d) = (∑ y, D (ix2 y x) * K (ix2 y d)) * Ideal.ofBits FTy.f32 0x3DB504F3#32 := by
  pointwise [k0_pay281]

/-! ## What one block of 128 keys receives -/

/-- The products of `n` tiles from tile `lo` on, whose rows of the block are the `k`-th 128 of the first tile, the one
before of the next, and so on. -/
def blocks (D : ℕ → Vec Ideal S640x128 .f32) (X : ℕ → Fin 128 → EReal) (lo k n : ℕ) (x d : Fin 128) : EReal :=
  ∑ a ∈ Finset.range n, ∑ b : Fin 128, D (lo + a) (ix2 (Fin.ofNat 640 (128 * (k - a) + x.val)) b) * X (128 * (lo + a) + b.val) d

/-- What the gradient of the keys receives in block `r`: the tiles `r - 4` to `r` that there are. -/
def addK (D : ℕ → Vec Ideal S640x128 .f32) (X : ℕ → Fin 128 → EReal) (r : ℕ) (x d : Fin 128) : EReal :=
  blocks D X (r - 4) (r - (r - 4)) (min (r + 1) 32 - (r - 4)) x d * Ideal.ofBits FTy.f32 0x3DB504F3#32

/-- What the gradient of the values receives in block `r`. -/
def addV (D : ℕ → Vec Ideal S640x128 .f32) (X : ℕ → Fin 128 → EReal) (r : ℕ) (x d : Fin 128) : EReal :=
  blocks D X (r - 4) (r - (r - 4)) (min (r + 1) 32 - (r - 4)) x d

theorem mk_ofNat {n k : ℕ} [NeZero n] (h : k < n) : (⟨k, h⟩ : Fin n) = Fin.ofNat n k := Fin.ext (Nat.mod_eq_of_lt h).symm

/-- A sum over `n` blocks of 128, block by block. -/
theorem sum_blocks {N : ℕ} (n : ℕ) (h : N = 128 * n) (f : Fin N → EReal) :
    ∑ y, f y = ∑ a : Fin n, ∑ b : Fin 128, f ⟨128 * a.val + b.val, by have := a.isLt; have := b.isLt; omega⟩ := by
  subst h
  rw [← Fintype.sum_prod_type']
  refine (Fintype.sum_equiv (finProdFinEquiv.trans (finCongr (Nat.mul_comm n 128))) _ _ fun p => congrArg f (Fin.ext ?_)).symm
  show 128 * p.1.val + p.2.val = p.2.val + 128 * p.1.val
  omega

/-- One product of a block, its indices spelt in two ways. -/
theorem block_term (E : Vec Ideal S640x128 .f32) (X : ℕ → Fin 128 → EReal) (d : Fin 128) {y y' b : ℕ} {hy : y < 640} {hb : b < 128}
    {b'' : Fin 128} {k k' : ℕ} (e1 : y = y') (e2 : b = b''.val) (e3 : k = k') :
    E (ix2 ⟨y, hy⟩ ⟨b, hb⟩) * X k d = E (ix2 (Fin.ofNat 640 y') b'') * X k' d := by
  subst e1 e2 e3
  rw [mk_ofNat]

section Stores

variable {D : ℕ → Vec Ideal S640x128 .f32} {X : ℕ → Fin 128 → EReal} {lo : ℕ} {t0 t1 t2 t3 t4 : Vec Ideal S640x128 .bf16}
  {prev : Vec Ideal S128x128 .f32} {q1 : Vec Ideal S128x128 .bf16} {q2 : Vec Ideal S256x128 .bf16}
  {q3 : Vec Ideal S384x128 .bf16} {q4 : Vec Ideal S512x128 .bf16} {q5 : Vec Ideal S640x128 .bf16}

/-! Into the keys: the first four blocks have fewer than five tiles, the last four too. -/

theorem keys1a (h0 : t0 = D lo)
    (hq : ∀ y d, q1 (ix2 y d) = X (128 * lo + y.val) d) (x d : Fin 128) :
    k0_pay282 t0 prev q1 (ix2 x d) = prev (ix2 x d) + (blocks D X lo 0 1 x d) * Ideal.ofBits FTy.f32 0x3DB504F3#32 := by
  pointwise [k0_pay282]
  simp only [h0, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem keys2a (h0 : t0 = D lo) (h1 : t1 = D (lo + 1))
    (hq : ∀ y d, q2 (ix2 y d) = X (128 * lo + y.val) d) (x d : Fin 128) :
    k0_pay284 t0 t1 prev q2 (ix2 x d) = prev (ix2 x d) + (blocks D X lo 1 2 x d) * Ideal.ofBits FTy.f32 0x3DB504F3#32 := by
  pointwise [k0_pay284]
  simp only [h0, h1, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem keys3a (h0 : t0 = D lo) (h1 : t1 = D (lo + 1)) (h2 : t2 = D (lo + 2))
    (hq : ∀ y d, q3 (ix2 y d) = X (128 * lo + y.val) d) (x d : Fin 128) :
    k0_pay288 (k0_pay286 prev) (k0_pay287 t0 t1 t2) q3 (ix2 x d) = prev (ix2 x d) + (blocks D X lo 2 3 x d) * Ideal.ofBits FTy.f32 0x3DB504F3#32 := by
  pointwise [k0_pay288, k0_pay286, k0_pay287]
  simp only [h0, h1, h2, hq]
  rw [sum_blocks 3 rfl, blocks, Finset.sum_range]
  refine congrArg (prev (ix2 x d) + ·) (congrArg (· * _) (Finset.sum_congr rfl fun a _ => Finset.sum_congr rfl fun b _ => ?_))
  have := b.isLt
  fin_cases a <;> dsimp only <;> split_ifs <;> first | (exfalso; omega) | exact block_term _ _ _ (by omega) (by omega) (by omega)

theorem keys4a (h0 : t0 = D lo) (h1 : t1 = D (lo + 1)) (h2 : t2 = D (lo + 2)) (h3 : t3 = D (lo + 3))
    (hq : ∀ y d, q4 (ix2 y d) = X (128 * lo + y.val) d) (x d : Fin 128) :
    k0_pay290 t0 t1 t2 t3 prev q4 (ix2 x d) = prev (ix2 x d) + (blocks D X lo 3 4 x d) * Ideal.ofBits FTy.f32 0x3DB504F3#32 := by
  pointwise [k0_pay290]
  simp only [h0, h1, h2, h3, hq]
  rw [sum_blocks 4 rfl, blocks, Finset.sum_range]
  refine congrArg (prev (ix2 x d) + ·) (congrArg (· * _) (Finset.sum_congr rfl fun a _ => Finset.sum_congr rfl fun b _ => ?_))
  have := b.isLt
  fin_cases a <;> dsimp only <;> split_ifs <;> first | (exfalso; omega) | exact block_term _ _ _ (by omega) (by omega) (by omega)

theorem keys5 (h0 : t0 = D lo) (h1 : t1 = D (lo + 1)) (h2 : t2 = D (lo + 2)) (h3 : t3 = D (lo + 3)) (h4 : t4 = D (lo + 4))
    (hq : ∀ y d, q5 (ix2 y d) = X (128 * lo + y.val) d) (x d : Fin 128) :
    k0_pay292 t0 t1 t2 t3 t4 prev q5 (ix2 x d) = prev (ix2 x d) + (blocks D X lo 4 5 x d) * Ideal.ofBits FTy.f32 0x3DB504F3#32 := by
  pointwise [k0_pay292]
  simp only [h0, h1, h2, h3, h4, hq]
  rw [sum_blocks 5 rfl, blocks, Finset.sum_range]
  refine congrArg (prev (ix2 x d) + ·) (congrArg (· * _) (Finset.sum_congr rfl fun a _ => Finset.sum_congr rfl fun b _ => ?_))
  have := b.isLt
  fin_cases a <;> dsimp only <;> split_ifs <;> first | (exfalso; omega) | exact block_term _ _ _ (by omega) (by omega) (by omega)

theorem keys4b (h0 : t0 = D lo) (h1 : t1 = D (lo + 1)) (h2 : t2 = D (lo + 2)) (h3 : t3 = D (lo + 3))
    (hq : ∀ y d, q4 (ix2 y d) = X (128 * lo + y.val) d) (x d : Fin 128) :
    k0_pay382 (k0_pay380 prev) (k0_pay381 t0 t1 t2 t3 q4) (ix2 x d) = prev (ix2 x d) + (blocks D X lo 4 4 x d) * Ideal.ofBits FTy.f32 0x3DB504F3#32 := by
  pointwise [k0_pay380, k0_pay381, k0_pay382]
  simp only [h0, h1, h2, h3, hq]
  rw [sum_blocks 4 rfl, blocks, Finset.sum_range]
  refine congrArg (prev (ix2 x d) + ·) (congrArg (· * _) (Finset.sum_congr rfl fun a _ => Finset.sum_congr rfl fun b _ => ?_))
  have := b.isLt
  fin_cases a <;> dsimp only <;> split_ifs <;> first | (exfalso; omega) | exact block_term _ _ _ (by omega) (by omega) (by omega)

theorem keys3b (h0 : t0 = D lo) (h1 : t1 = D (lo + 1)) (h2 : t2 = D (lo + 2))
    (hq : ∀ y d, q3 (ix2 y d) = X (128 * lo + y.val) d) (x d : Fin 128) :
    k0_pay384 t0 t1 t2 prev q3 (ix2 x d) = prev (ix2 x d) + (blocks D X lo 4 3 x d) * Ideal.ofBits FTy.f32 0x3DB504F3#32 := by
  pointwise [k0_pay384]
  simp only [h0, h1, h2, hq]
  rw [sum_blocks 3 rfl, blocks, Finset.sum_range]
  refine congrArg (prev (ix2 x d) + ·) (congrArg (· * _) (Finset.sum_congr rfl fun a _ => Finset.sum_congr rfl fun b _ => ?_))
  have := b.isLt
  fin_cases a <;> dsimp only <;> split_ifs <;> first | (exfalso; omega) | exact block_term _ _ _ (by omega) (by omega) (by omega)

theorem keys2b (h0 : t0 = D lo) (h1 : t1 = D (lo + 1))
    (hq : ∀ y d, q2 (ix2 y d) = X (128 * lo + y.val) d) (x d : Fin 128) :
    k0_pay388 t0 t1 prev q2 (ix2 x d) = prev (ix2 x d) + (blocks D X lo 4 2 x d) * Ideal.ofBits FTy.f32 0x3DB504F3#32 := by
  pointwise [k0_pay388]
  simp only [h0, h1, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem keys1b (h0 : t0 = D lo)
    (hq : ∀ y d, q1 (ix2 y d) = X (128 * lo + y.val) d) (x d : Fin 128) :
    k0_pay1 t0 prev q1 (ix2 x d) = prev (ix2 x d) + (blocks D X lo 4 1 x d) * Ideal.ofBits FTy.f32 0x3DB504F3#32 := by
  pointwise [k0_pay1]
  simp only [h0, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

/-! Into the values. -/

theorem vals1a (h0 : t0 = D lo)
    (hq : ∀ y d, q1 (ix2 y d) = X (128 * lo + y.val) d) (x d : Fin 128) :
    k0_pay283 t0 prev q1 (ix2 x d) = prev (ix2 x d) + blocks D X lo 0 1 x d := by
  pointwise [k0_pay283]
  simp only [h0, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem vals2a (h0 : t0 = D lo) (h1 : t1 = D (lo + 1))
    (hq : ∀ y d, q2 (ix2 y d) = X (128 * lo + y.val) d) (x d : Fin 128) :
    k0_pay285 t0 t1 prev q2 (ix2 x d) = prev (ix2 x d) + blocks D X lo 1 2 x d := by
  pointwise [k0_pay285]
  simp only [h0, h1, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem vals3a (h0 : t0 = D lo) (h1 : t1 = D (lo + 1)) (h2 : t2 = D (lo + 2))
    (hq : ∀ y d, q3 (ix2 y d) = X (128 * lo + y.val) d) (x d : Fin 128) :
    k0_pay289 t0 t1 t2 prev q3 (ix2 x d) = prev (ix2 x d) + blocks D X lo 2 3 x d := by
  pointwise [k0_pay289]
  simp only [h0, h1, h2, hq]
  rw [sum_blocks 3 rfl, blocks, Finset.sum_range]
  refine congrArg (prev (ix2 x d) + ·) (Finset.sum_congr rfl fun a _ => Finset.sum_congr rfl fun b _ => ?_)
  have := b.isLt
  fin_cases a <;> dsimp only <;> split_ifs <;> first | (exfalso; omega) | exact block_term _ _ _ (by omega) (by omega) (by omega)

theorem vals4a (h0 : t0 = D lo) (h1 : t1 = D (lo + 1)) (h2 : t2 = D (lo + 2)) (h3 : t3 = D (lo + 3))
    (hq : ∀ y d, q4 (ix2 y d) = X (128 * lo + y.val) d) (x d : Fin 128) :
    k0_pay291 t0 t1 t2 t3 prev q4 (ix2 x d) = prev (ix2 x d) + blocks D X lo 3 4 x d := by
  pointwise [k0_pay291]
  simp only [h0, h1, h2, h3, hq]
  rw [sum_blocks 4 rfl, blocks, Finset.sum_range]
  refine congrArg (prev (ix2 x d) + ·) (Finset.sum_congr rfl fun a _ => Finset.sum_congr rfl fun b _ => ?_)
  have := b.isLt
  fin_cases a <;> dsimp only <;> split_ifs <;> first | (exfalso; omega) | exact block_term _ _ _ (by omega) (by omega) (by omega)

theorem vals5 (h0 : t0 = D lo) (h1 : t1 = D (lo + 1)) (h2 : t2 = D (lo + 2)) (h3 : t3 = D (lo + 3)) (h4 : t4 = D (lo + 4))
    (hq : ∀ y d, q5 (ix2 y d) = X (128 * lo + y.val) d) (x d : Fin 128) :
    k0_pay295 (k0_pay293 prev) (k0_pay294 t0 t1 t2 t3 t4) q5 (ix2 x d) = prev (ix2 x d) + blocks D X lo 4 5 x d := by
  pointwise [k0_pay293, k0_pay294, k0_pay295]
  simp only [h0, h1, h2, h3, h4, hq]
  rw [sum_blocks 5 rfl, blocks, Finset.sum_range]
  refine congrArg (prev (ix2 x d) + ·) (Finset.sum_congr rfl fun a _ => Finset.sum_congr rfl fun b _ => ?_)
  have := b.isLt
  fin_cases a <;> dsimp only <;> split_ifs <;> first | (exfalso; omega) | exact block_term _ _ _ (by omega) (by omega) (by omega)

theorem vals4b (h0 : t0 = D lo) (h1 : t1 = D (lo + 1)) (h2 : t2 = D (lo + 2)) (h3 : t3 = D (lo + 3))
    (hq : ∀ y d, q4 (ix2 y d) = X (128 * lo + y.val) d) (x d : Fin 128) :
    k0_pay383 t0 t1 t2 t3 prev q4 (ix2 x d) = prev (ix2 x d) + blocks D X lo 4 4 x d := by
  pointwise [k0_pay383]
  simp only [h0, h1, h2, h3, hq]
  rw [sum_blocks 4 rfl, blocks, Finset.sum_range]
  refine congrArg (prev (ix2 x d) + ·) (Finset.sum_congr rfl fun a _ => Finset.sum_congr rfl fun b _ => ?_)
  have := b.isLt
  fin_cases a <;> dsimp only <;> split_ifs <;> first | (exfalso; omega) | exact block_term _ _ _ (by omega) (by omega) (by omega)

theorem vals3b (h0 : t0 = D lo) (h1 : t1 = D (lo + 1)) (h2 : t2 = D (lo + 2))
    (hq : ∀ y d, q3 (ix2 y d) = X (128 * lo + y.val) d) (x d : Fin 128) :
    k0_pay387 t1 t2 (k0_pay385 prev) (k0_pay386 t0) q3 (ix2 x d) = prev (ix2 x d) + blocks D X lo 4 3 x d := by
  pointwise [k0_pay385, k0_pay386, k0_pay387]
  simp only [h0, h1, h2, hq]
  rw [sum_blocks 3 rfl, blocks, Finset.sum_range]
  refine congrArg (prev (ix2 x d) + ·) (Finset.sum_congr rfl fun a _ => Finset.sum_congr rfl fun b _ => ?_)
  have := b.isLt
  fin_cases a <;> dsimp only <;> split_ifs <;> first | (exfalso; omega) | exact block_term _ _ _ (by omega) (by omega) (by omega)

theorem vals2b (h0 : t0 = D lo) (h1 : t1 = D (lo + 1))
    (hq : ∀ y d, q2 (ix2 y d) = X (128 * lo + y.val) d) (x d : Fin 128) :
    k0_pay389 t0 t1 prev q2 (ix2 x d) = prev (ix2 x d) + blocks D X lo 4 2 x d := by
  pointwise [k0_pay389]
  simp only [h0, h1, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

theorem vals1b (h0 : t0 = D lo)
    (hq : ∀ y d, q1 (ix2 y d) = X (128 * lo + y.val) d) (x d : Fin 128) :
    k0_pay2 t0 prev q1 (ix2 x d) = prev (ix2 x d) + blocks D X lo 4 1 x d := by
  pointwise [k0_pay2]
  simp only [h0, hq]
  simp only [blocks, Finset.sum_range_succ, Finset.sum_range_zero, zero_add, add_zero, mk_ofNat, Nat.mul_add, Nat.mul_one, Nat.reduceSub, Nat.reduceMul, Nat.add_assoc, Nat.sub_zero, Nat.sub_self, Nat.mul_zero]

end Stores

end Cert.AttnTile

end

end
-- ==== Proof.AttnStores.lean ====
/- What the stores of the attention's backward call leave in its four output buffers, read back entry by entry at
   either point of a head, over the extended reals. -/
module

public import proofs.«01_k».proof.Proof.AttnRunB
public import proofs.«01_k».proof.Proof.AttnTile
public import Idealize.ShloMosaic.Lib.WritesUnit

@[expose] public section

set_option maxRecDepth 16384

noncomputable section

namespace Cert.AttnTile

open Cert.AttnIdeal Cert.AttnIdeal.Gen Cert.AttnRun
open Idealize.ShloMosaic Idealize.ShloMosaic.TcCoe Idealize.ShloMosaic.Tactic
open Idealize.ShloMosaic.Pointwise
open Idealize.SL Idealize.SL.Sem

/-! ## Loads of rows -/

/-- The rows of an array by natural numbers. -/
def rowF {R : ℕ} [NeZero R] (x : (⟨2, ![R, 128]⟩ : Shape).Idx → EReal) (n : ℕ) (d : Fin 128) : EReal := x (ix2 (Fin.ofNat R n) d)

/-- A load of `n` rows from row `o` on. -/
theorem ld_rows {R n : ℕ} [NeZero R] {e : EltTy} (arg : Memref sig .tc .vmem (⟨2, ![R, 128]⟩ : Shape) e) (harg : arg.IsWhole)
    (x : Vec Ideal (⟨2, ![R, 128]⟩ : Shape) e) {off : Fin 2 → ℕ} (o : ℕ) (hoff : off = ![o, 0])
    (inb : ∀ a : Fin 2, off a + (![n, 128] : Fin 2 → ℕ) a ≤ (![R, 128] : Fin 2 → ℕ) a) (y : Fin n) (d : Fin 128) :
    View.readAt (Elt Ideal) arg.view (Rect.unit (s := ⟨2, ![R, 128]⟩) off ![n, 128] inb).toLoadRect (harg.unread x) (ix2 y d)
      = x (ix2 (Fin.ofNat R (o + y.val)) d) := by
  subst hoff
  have h0 : o + n ≤ R := inb 0
  have := y.isLt
  rw [View.readAt_apply, harg.read_unread]
  refine congrArg x (funext (Fin.forall_fin_two.mpr ⟨Fin.ext ?_, Fin.ext ?_⟩))
  · show o + 1 * y.val = (o + y.val) % R
    rw [Nat.mod_eq_of_lt (by omega), Nat.one_mul]
  · show 0 + 1 * d.val = d.val
    omega

/-- A load of one frame of the bias. -/
theorem ld_frame (arg : Memref sig .tc .vmem S1x5x640x128 .f32) (harg : arg.IsWhole) (x : Vec Ideal S1x5x640x128 .f32)
    {off : Fin 4 → ℕ} (o : ℕ) (hoff : off = ![0, o, 0, 0])
    (inb : ∀ a, off a + S1x1x640x128.size a ≤ S1x5x640x128.size a) (y : Fin 640) (b : Fin 128) :
    View.readAt (Elt Ideal) arg.view (Rect.unit (s := S1x5x640x128) off S1x1x640x128.size inb).toLoadRect (harg.unread x) (ix4 0 0 y b)
      = x (ix4 0 (Fin.ofNat 5 o) y b) := by
  subst hoff
  have h1 : o + 1 ≤ 5 := inb 1
  rw [View.readAt_apply, harg.read_unread]
  refine congrArg x (funext fun a => ?_)
  fin_cases a <;> refine Fin.ext ?_
  · rfl
  · show o + 1 * 0 = o % 5
    rw [Nat.mod_eq_of_lt (by omega)]
    omega
  · show 0 + 1 * y.val = y.val
    omega
  · show 0 + 1 * b.val = b.val
    omega

/-! ## Blocks of 128 rows added one after the other -/

/-- `base`, and what the first `n` blocks of 128 rows from row `o` on receive. -/
def added (base : Fin 8704 → Fin 128 → EReal) (add : ℕ → Fin 128 → Fin 128 → EReal) (o n : ℕ) (a : Fin 8704) (d : Fin 128) : EReal :=
  base a d + ∑ r ∈ Finset.range n,
    if h : o + 128 * r ≤ a.val ∧ a.val < o + 128 * r + 128 then add r ⟨a.val - (o + 128 * r), by omega⟩ d else 0

/-- A list of stores leaves the contents `X` over `f`. -/
def Leaves {e : EltTy} {s : Shape} (arg : Memref sig .tc .vmem s e) (f : arg.view.ty.Contents (Elt Ideal))
    (L : List (View.Piece (Elt Ideal) s e)) (X : s.Idx → Elt Ideal e) : Prop :=
  ∀ y, arg.view.read (Elt Ideal) (arg.view.writes (Elt Ideal) f L) y = X y

/-- A function of two coordinates as an array. -/
def arr2 {R C : ℕ} (X : Fin R → Fin C → EReal) : (⟨2, ![R, C]⟩ : Shape).Idx → EReal := fun y => X (y 0) (y 1)

/-- One more block: a store of what a load of the block gave, plus what the block receives. -/
theorem leaves_step {i : grid0.Coords} {arg : Memref sig .tc .vmem S8704x128 .f32} {f : arg.view.ty.Contents (Elt Ideal)}
    {L : List (View.Piece (Elt Ideal) S8704x128 .f32)} {base : Fin 8704 → Fin 128 → EReal}
    {add : ℕ → Fin 128 → Fin 128 → EReal} {r : ℕ}
    {inb : ∀ a, (k0_off3 i (BitVec.ofNat 32 r)) a + S128x128.size a ≤ S8704x128.size a} {w : S128x128.Idx → EReal}
    (hr : r < 36)
    (hw : ∀ x d, w (ix2 x d) = View.readAt (Elt Ideal) arg.view
      (Rect.unit (s := S8704x128) (k0_off3 i (BitVec.ofNat 32 r)) S128x128.size inb).toLoadRect (arg.view.writes (Elt Ideal) f L) (ix2 x d)
        + add r x d)
    (hL : Leaves arg f L (arr2 (added base add (4096 * (i 1).val) r))) :
    Leaves arg f (⟨Rect.unit (s := S8704x128) (k0_off3 i (BitVec.ofNat 32 r)) S128x128.size inb, w⟩ :: L)
      (arr2 (added base add (4096 * (i 1).val) (r + 1))) := by
  intro y
  have e3 := k0_off3_eq i ⟨r, hr⟩
  have hrec : ∀ y : S8704x128.Idx, arr2 (added base add (4096 * (i 1).val) (r + 1)) y
      = arr2 (added base add (4096 * (i 1).val) r) y
        + if h : 4096 * (i 1).val + 128 * r ≤ (y 0).val ∧ (y 0).val < 4096 * (i 1).val + 128 * r + 128 then
            add r ⟨(y 0).val - (4096 * (i 1).val + 128 * r), by omega⟩ (y 1) else 0 := fun y => by
    exact (congrArg _ (Finset.sum_range_succ _ r)).trans (add_assoc _ _ _).symm
  rw [hrec]
  by_cases h : 4096 * (i 1).val + 128 * r ≤ (y 0).val ∧ (y 0).val < 4096 * (i 1).val + 128 * r + 128
  · rw [dif_pos h, View.read_writes_cons_rows_of_mem arg.view f inb w L y
      (ix2 ⟨(y 0).val - (4096 * (i 1).val + 128 * r), by omega⟩ (y 1)) e3
      (by show (y 0).val = 4096 * (i 1).val + 128 * r + ((y 0).val - (4096 * (i 1).val + 128 * r)); omega) rfl]
    refine (hw _ _).trans (congrArg (· + _) ?_)
    rw [View.readAt_apply]
    refine Eq.trans (congrArg _ ?_) (hL y)
    refine funext (Fin.forall_fin_two.mpr ⟨Fin.ext ?_, Fin.ext ?_⟩)
    · show (k0_off3 i (BitVec.ofNat 32 r)) 0 + 1 * ((y 0).val - (4096 * (i 1).val + 128 * r)) = (y 0).val
      rw [show (k0_off3 i (BitVec.ofNat 32 r)) 0 = 4096 * (i 1).val + 128 * r from congrFun e3 0]
      omega
    · show (k0_off3 i (BitVec.ofNat 32 r)) 1 + 1 * (y 1).val = (y 1).val
      rw [show (k0_off3 i (BitVec.ofNat 32 r)) 1 = 0 from congrFun e3 1]
      omega
  · rw [dif_neg h, add_zero, View.read_writes_cons_rows_of_not_mem arg.view f inb w L y e3 (W := 128) rfl (by
      show (y 0).val < 4096 * (i 1).val + 128 * r ∨ 4096 * (i 1).val + 128 * r + 128 ≤ (y 0).val
      omega), hL y]

/-- Rows past the blocks added so far still hold `base`. -/
theorem added_of_le (base : Fin 8704 → Fin 128 → EReal) (add : ℕ → Fin 128 → Fin 128 → EReal) (o n : ℕ) (a : Fin 8704) (d : Fin 128)
    (h : o + 128 * n ≤ a.val) : added base add o n a d = base a d := by
  unfold added
  rw [Finset.sum_eq_zero, add_zero]
  intro r hr
  have := Finset.mem_range.mp hr
  exact dif_neg (by omega)

/-- One more block where the load was made of the contents that the body met. -/
theorem leaves_step' {i : grid0.Coords} {arg : Memref sig .tc .vmem S8704x128 .f32} {harg : arg.IsWhole}
    {L : List (View.Piece (Elt Ideal) S8704x128 .f32)} {X : Vec Ideal S8704x128 .f32}
    {add : ℕ → Fin 128 → Fin 128 → EReal} {r : ℕ}
    {inb : ∀ a, (k0_off3 i (BitVec.ofNat 32 r)) a + S128x128.size a ≤ S8704x128.size a} {w : S128x128.Idx → EReal}
    (hr : r < 36)
    (hw : ∀ x d, w (ix2 x d) = View.readAt (Elt Ideal) arg.view
      (Rect.unit (s := S8704x128) (k0_off3 i (BitVec.ofNat 32 r)) S128x128.size inb).toLoadRect (harg.unread X) (ix2 x d)
        + add r x d)
    (hL : Leaves arg (harg.unread X) L (arr2 (added (fun a d => X (ix2 a d)) add (4096 * (i 1).val) r))) :
    Leaves arg (harg.unread X) (⟨Rect.unit (s := S8704x128) (k0_off3 i (BitVec.ofNat 32 r)) S128x128.size inb, w⟩ :: L)
      (arr2 (added (fun a d => X (ix2 a d)) add (4096 * (i 1).val) (r + 1))) := by
  have e3 : (k0_off3 i (BitVec.ofNat 32 r)) = ![4096 * (i 1).val + 128 * r, 0] := k0_off3_eq i ⟨r, hr⟩
  refine leaves_step hr (fun x d => (hw x d).trans (congrArg (· + _) ?_)) hL
  rw [View.readAt_apply, View.readAt_apply, hL, harg.read_unread]
  have hz : 4096 * (i 1).val + 128 * r
      ≤ ((Rect.unit (s := S8704x128) (k0_off3 i (BitVec.ofNat 32 r)) S128x128.size inb).toLoadRect.idx (ix2 x d) 0).val := by
    show 4096 * (i 1).val + 128 * r ≤ (k0_off3 i (BitVec.ofNat 32 r)) 0 + 1 * x.val
    rw [e3]
    exact Nat.le_add_right _ _
  generalize (Rect.unit (s := S8704x128) (k0_off3 i (BitVec.ofNat 32 r)) S128x128.size inb).toLoadRect.idx (ix2 x d) = z at hz ⊢
  exact Eq.trans (congrArg X (eq_ix2 z)) (added_of_le (fun a d => X (ix2 a d)) add _ r (z 0) (z 1) hz).symm

/-! ## The families of tiles as the body loads them -/

variable (c : Dev nD) (i : grid0.Coords)
  (arg2 : Memref sig .tc .vmem S4096x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S4096x128 .bf16) (harg5 : arg5.IsWhole)
  (arg6 : Memref sig .tc .vmem S1x5x640x128 .f32) (harg6 : arg6.IsWhole)
  (arg7 : Memref sig .tc .vmem S4096x128 .bf16) (harg7 : arg7.IsWhole)
  (arg8 : Memref sig .tc .vmem S8704x128 .f32) (harg8 : arg8.IsWhole)
  (arg9 : Memref sig .tc .vmem S8704x128 .f32) (harg9 : arg9.IsWhole)
  (arg10 : Memref sig .tc .vmem S1x5x640x128 .f32) (harg10 : arg10.IsWhole)
  (x0 : Vec Ideal S4096x128 .bf16) (x1 : Vec Ideal S8704x128 .bf16) (x2 : Vec Ideal S8704x128 .bf16) (x3 : Vec Ideal S4096x128 .bf16) (x4 : Vec Ideal S1x5x640x128 .f32)
  (y6 y7 : Vec Ideal S8704x128 .f32) (y8 : Vec Ideal S1x5x640x128 .f32)

theorem inbQ (t : ℕ) : ∀ a, (![128 * (t % 32), 0] : Fin 2 → ℕ) a + S128x128.size a ≤ S4096x128.size a := by
  have := Nat.mod_lt t (show 0 < 32 by norm_num)
  intro a; fin_cases a
  · show 128 * (t % 32) + 128 ≤ 4096; omega
  · show 0 + 128 ≤ 128; omega

/-- The queries (or cotangents) of tile `t`, as loaded. -/
def RQ (arg : Memref sig .tc .vmem S4096x128 .bf16) (harg : arg.IsWhole) (x : Vec Ideal S4096x128 .bf16) (t : ℕ) : Vec Ideal S128x128 .bf16 :=
  View.readAt (Elt Ideal) arg.view (Rect.unit (s := S4096x128) ![128 * (t % 32), 0] S128x128.size (inbQ t)).toLoadRect (harg.unread x)
/-- The keys (or values) of tile `t`, as loaded. -/
def RK (arg : Memref sig .tc .vmem S8704x128 .bf16) (harg : arg.IsWhole) (x : Vec Ideal S8704x128 .bf16) (t : ℕ) : Vec Ideal S640x128 .bf16 :=
  View.readAt (Elt Ideal) arg.view (Rect.unit (s := S8704x128) (k0_off1 i (BitVec.ofNat 32 (t % 32))) S640x128.size (k0_off1_inb i ⟨t % 32, Nat.mod_lt t (by norm_num)⟩)).toLoadRect (harg.unread x)
/-- The frame of the bias of tile `t`, as loaded. -/
def RB (t : ℕ) : Vec Ideal S1x1x640x128 .f32 :=
  View.readAt (Elt Ideal) arg6.view (Rect.unit (s := S1x5x640x128) (k0_off2 i (BitVec.ofNat 32 (t % 32))) S1x1x640x128.size (k0_off2_inb i ⟨t % 32, Nat.mod_lt t (by norm_num)⟩)).toLoadRect (harg6.unread x4)

/-- The gradient of the scores of tile `t`, as the body computes it. -/
def RD (t : ℕ) := dT (RK i arg3 harg3 x1 t) (RK i arg4 harg4 x2 t) (RQ arg2 harg2 x0 t) (RQ arg5 harg5 x3 t) (RB i arg6 harg6 x4 t)
/-- The softmax of tile `t`, as the body computes it. -/
def RP (t : ℕ) := pT (RK i arg3 harg3 x1 t) (RQ arg2 harg2 x0 t) (RB i arg6 harg6 x4 t)

set_option maxHeartbeats 4000000

/-- What a whole block of keys receives, for the payload in any of the forms in which the body is cut. -/
theorem keys5' {D : ℕ → Vec Ideal S640x128 .f32} {X : ℕ → Fin 128 → EReal} {lo : ℕ} {prev : Vec Ideal S128x128 .f32} {qn : Vec Ideal S640x128 .bf16}
    {w : S128x128.Idx → EReal} (hq : ∀ y d, qn (ix2 y d) = X (128 * lo + y.val) d)
    (hw : w = k0_pay292 (D lo) (D (lo + 1)) (D (lo + 2)) (D (lo + 3)) (D (lo + 4)) prev qn) (x d : Fin 128) :
    w (ix2 x d) = prev (ix2 x d) + blocks D X lo 4 5 x d * Ideal.ofBits .f32 0x3DB504F3#32 := by
  subst hw; exact keys5 rfl rfl rfl rfl rfl hq x d

theorem vals5' {D : ℕ → Vec Ideal S640x128 .f32} {X : ℕ → Fin 128 → EReal} {lo : ℕ} {prev : Vec Ideal S128x128 .f32} {qn : Vec Ideal S640x128 .bf16}
    {w : S128x128.Idx → EReal} (hq : ∀ y d, qn (ix2 y d) = X (128 * lo + y.val) d)
    (hw : w = k0_pay295 (k0_pay293 prev) (k0_pay294 (D lo) (D (lo + 1)) (D (lo + 2)) (D (lo + 3)) (D (lo + 4))) qn) (x d : Fin 128) :
    w (ix2 x d) = prev (ix2 x d) + blocks D X lo 4 5 x d := by
  subst hw; exact vals5 rfl rfl rfl rfl rfl hq x d

theorem leaves_zeros {arg : Memref sig .tc .vmem S8704x128 .f32} {f : arg.view.ty.Contents (Elt Ideal)} {o : ℕ} {add : ℕ → Fin 128 → Fin 128 → EReal}
    {inb : ∀ a, (![0, 0] : Fin 2 → ℕ) a + S8704x128.size a ≤ S8704x128.size a} {w : S8704x128.Idx → EReal} (hw : ∀ y, w y = 0) :
    Leaves arg f [⟨Rect.unit (s := S8704x128) ![0, 0] S8704x128.size inb, w⟩] (arr2 (added (fun _ _ => 0) add o 0)) := by
  intro y
  rw [View.read_writes_cons_rows_of_mem arg.view f inb w [] y y (o := 0) rfl (by omega) rfl]
  exact (hw y).trans (by simp [arr2, added])

theorem leaves_nil {arg : Memref sig .tc .vmem S8704x128 .f32} (harg : arg.IsWhole) {o : ℕ} {add : ℕ → Fin 128 → Fin 128 → EReal}
    (x : Vec Ideal S8704x128 .f32) :
    Leaves arg (harg.unread x) [] (arr2 (added (fun a d => x (ix2 a d)) add o 0)) := by
  intro y
  refine (congrFun (harg.read_unread (Val := Elt Ideal) x) y).trans ?_
  obtain ⟨a, d, rfl⟩ : ∃ a d, y = ix2 a d := ⟨_, _, eq_ix2 y⟩
  simp only [arr2, added, Finset.range_zero, Finset.sum_empty, add_zero]
  rfl

theorem pay3_zero (y : S8704x128.Idx) : k0_pay3 (F := Ideal) y = 0 := by
  pointwise [k0_pay3]
theorem pay4_zero (y : S8704x128.Idx) : k0_pay4 (F := Ideal) y = 0 := by
  pointwise [k0_pay4]

theorem keysA (hc0 : first i) :
    Leaves arg8 arg8.view.junk (runA c i arg2 harg2 arg3 harg3 arg4 harg4 arg5 harg5 arg6 harg6 arg7 harg7 arg8 harg8 arg9 harg9 arg10 harg10 x0 x1 x2 x3 x4 hc0).2.1
      (arr2 (added (fun _ _ => 0) (addK (RD i arg2 harg2 arg3 harg3 arg4 harg4 arg5 harg5 arg6 harg6 x0 x1 x2 x3 x4) (rowF x0)) (4096 * (i 1).val) 36)) := by
  refine leaves_step (by norm_num) (keys1b rfl (ld_rows arg2 harg2 x0 _ rfl _)) ?_
  refine leaves_step (by norm_num) (keys2b rfl rfl (ld_rows arg2 harg2 x0 _ rfl _)) ?_
  refine leaves_step (by norm_num) (keys3b rfl rfl rfl (ld_rows arg2 harg2 x0 _ rfl _)) ?_
  refine leaves_step (by norm_num) (keys4b rfl rfl rfl rfl (ld_rows arg2 harg2 x0 _ rfl _)) ?_
  iterate 28 refine leaves_step (by norm_num) (keys5' (ld_rows arg2 harg2 x0 _ rfl _) rfl) ?_
  refine leaves_step (by norm_num) (keys4a rfl rfl rfl rfl (ld_rows arg2 harg2 x0 _ rfl _)) ?_
  refine leaves_step (by norm_num) (keys3a rfl rfl rfl (ld_rows arg2 harg2 x0 _ rfl _)) ?_
  refine leaves_step (by norm_num) (keys2a rfl rfl (ld_rows arg2 harg2 x0 _ rfl _)) ?_
  refine leaves_step (by norm_num) (keys1a rfl (ld_rows arg2 harg2 x0 _ rfl _)) ?_
  exact leaves_zeros pay3_zero

theorem valsA (hc0 : first i) :
    Leaves arg9 arg9.view.junk (runA c i arg2 harg2 arg3 harg3 arg4 harg4 arg5 harg5 arg6 harg6 arg7 harg7 arg8 harg8 arg9 harg9 arg10 harg10 x0 x1 x2 x3 x4 hc0).2.2.1
      (arr2 (added (fun _ _ => 0) (addV (RP i arg2 harg2 arg3 harg3 arg6 harg6 x0 x1 x4) (rowF x3)) (4096 * (i 1).val) 36)) := by
  refine leaves_step (by norm_num) (vals1b rfl (ld_rows arg5 harg5 x3 _ rfl _)) ?_
  refine leaves_step (by norm_num) (vals2b rfl rfl (ld_rows arg5 harg5 x3 _ rfl _)) ?_
  refine leaves_step (by norm_num) (vals3b rfl rfl rfl (ld_rows arg5 harg5 x3 _ rfl _)) ?_
  refine leaves_step (by norm_num) (vals4b rfl rfl rfl rfl (ld_rows arg5 harg5 x3 _ rfl _)) ?_
  iterate 28 refine leaves_step (by norm_num) (vals5' (ld_rows arg5 harg5 x3 _ rfl _) rfl) ?_
  refine leaves_step (by norm_num) (vals4a rfl rfl rfl rfl (ld_rows arg5 harg5 x3 _ rfl _)) ?_
  refine leaves_step (by norm_num) (vals3a rfl rfl rfl (ld_rows arg5 harg5 x3 _ rfl _)) ?_
  refine leaves_step (by norm_num) (vals2a rfl rfl (ld_rows arg5 harg5 x3 _ rfl _)) ?_
  refine leaves_step (by norm_num) (vals1a rfl (ld_rows arg5 harg5 x3 _ rfl _)) ?_
  exact leaves_zeros pay4_zero

theorem keysB (hc0 : ¬first i) :
    Leaves arg8 (harg8.unread y6) (runB c i arg2 harg2 arg3 harg3 arg4 harg4 arg5 harg5 arg6 harg6 arg7 harg7 arg8 harg8 arg9 harg9 arg10 harg10 x0 x1 x2 x3 x4 hc0 y6 y7 y8).2.1
      (arr2 (added (fun a d => y6 (ix2 a d)) (addK (RD i arg2 harg2 arg3 harg3 arg4 harg4 arg5 harg5 arg6 harg6 x0 x1 x2 x3 x4) (rowF x0)) (4096 * (i 1).val) 36)) := by
  refine leaves_step' (by norm_num) (keys1b rfl (ld_rows arg2 harg2 x0 _ rfl _)) ?_
  refine leaves_step' (by norm_num) (keys2b rfl rfl (ld_rows arg2 harg2 x0 _ rfl _)) ?_
  refine leaves_step' (by norm_num) (keys3b rfl rfl rfl (ld_rows arg2 harg2 x0 _ rfl _)) ?_
  refine leaves_step' (by norm_num) (keys4b rfl rfl rfl rfl (ld_rows arg2 harg2 x0 _ rfl _)) ?_
  iterate 28 refine leaves_step' (by norm_num) (keys5' (ld_rows arg2 harg2 x0 _ rfl _) rfl) ?_
  refine leaves_step' (by norm_num) (keys4a rfl rfl rfl rfl (ld_rows arg2 harg2 x0 _ rfl _)) ?_
  refine leaves_step' (by norm_num) (keys3a rfl rfl rfl (ld_rows arg2 harg2 x0 _ rfl _)) ?_
  refine leaves_step' (by norm_num) (keys2a rfl rfl (ld_rows arg2 harg2 x0 _ rfl _)) ?_
  refine leaves_step' (by norm_num) (keys1a rfl (ld_rows arg2 harg2 x0 _ rfl _)) ?_
  exact leaves_nil harg8 y6

theorem valsB (hc0 : ¬first i) :
    Leaves arg9 (harg9.unread y7) (runB c i arg2 harg2 arg3 harg3 arg4 harg4 arg5 harg5 arg6 harg6 arg7 harg7 arg8 harg8 arg9 harg9 arg10 harg10 x0 x1 x2 x3 x4 hc0 y6 y7 y8).2.2.1
      (arr2 (added (fun a d => y7 (ix2 a d)) (addV (RP i arg2 harg2 arg3 harg3 arg6 harg6 x0 x1 x4) (rowF x3)) (4096 * (i 1).val) 36)) := by
  refine leaves_step' (by norm_num) (vals1b rfl (ld_rows arg5 harg5 x3 _ rfl _)) ?_
  refine leaves_step' (by norm_num) (vals2b rfl rfl (ld_rows arg5 harg5 x3 _ rfl _)) ?_
  refine leaves_step' (by norm_num) (vals3b rfl rfl rfl (ld_rows arg5 harg5 x3 _ rfl _)) ?_
  refine leaves_step' (by norm_num) (vals4b rfl rfl rfl rfl (ld_rows arg5 harg5 x3 _ rfl _)) ?_
  iterate 28 refine leaves_step' (by norm_num) (vals5' (ld_rows arg5 harg5 x3 _ rfl _) rfl) ?_
  refine leaves_step' (by norm_num) (vals4a rfl rfl rfl rfl (ld_rows arg5 harg5 x3 _ rfl _)) ?_
  refine leaves_step' (by norm_num) (vals3a rfl rfl rfl (ld_rows arg5 harg5 x3 _ rfl _)) ?_
  refine leaves_step' (by norm_num) (vals2a rfl rfl (ld_rows arg5 harg5 x3 _ rfl _)) ?_
  refine leaves_step' (by norm_num) (vals1a rfl (ld_rows arg5 harg5 x3 _ rfl _)) ?_
  exact leaves_nil harg9 y7

end Cert.AttnTile

end

end
-- ==== Proof.AttnFam.lean ====
/- The gradient of the queries as the attention's backward call stores it tile by tile, and its tiles as functions of the
   whole blocks, over the extended reals. -/
module

public import proofs.«01_k».proof.Proof.AttnStores

@[expose] public section

set_option maxRecDepth 16384

noncomputable section

namespace Cert.AttnTile

open Cert.AttnIdeal Cert.AttnIdeal.Gen Cert.AttnRun
open Idealize.ShloMosaic Idealize.ShloMosaic.TcCoe Idealize.ShloMosaic.Tactic
open Idealize.ShloMosaic.Pointwise
open Idealize.SL Idealize.SL.Sem

/-- The first `n` tiles of 128 rows hold `X`. -/
def Holds (arg : Memref sig .tc .vmem S4096x128 .bf16) (f : arg.view.ty.Contents (Elt Ideal))
    (L : List (View.Piece (Elt Ideal) S4096x128 .bf16)) (X : ℕ → Fin 128 → Fin 128 → EReal) (n : ℕ) : Prop :=
  ∀ (t : ℕ) (x d : Fin 128) (a : Fin 4096), t < n → a.val = 128 * t + x.val →
    arg.view.read (Elt Ideal) (arg.view.writes (Elt Ideal) f L) (ix2 a d) = X t x d

theorem holds_step {arg : Memref sig .tc .vmem S4096x128 .bf16} {f : arg.view.ty.Contents (Elt Ideal)}
    {L : List (View.Piece (Elt Ideal) S4096x128 .bf16)} {X : ℕ → Fin 128 → Fin 128 → EReal} (n : ℕ)
    {inb : ∀ a, (![128 * n, 0] : Fin 2 → ℕ) a + S128x128.size a ≤ S4096x128.size a} {w : S128x128.Idx → EReal}
    (hw : ∀ x d, w (ix2 x d) = X n x d) (hL : Holds arg f L X n) :
    Holds arg f (⟨Rect.unit (s := S4096x128) ![128 * n, 0] S128x128.size inb, w⟩ :: L) X (n + 1) := by
  intro t x d a ht ha
  have := x.isLt
  by_cases h : t = n
  · subst h
    rw [View.read_writes_cons_rows_of_mem arg.view f inb w L (ix2 a d) (ix2 x d) rfl ha rfl]
    exact hw x d
  · rw [View.read_writes_cons_rows_of_not_mem arg.view f inb w L (ix2 a d) rfl (W := 128) rfl (by
      show a.val < 128 * n ∨ 128 * n + 128 ≤ a.val
      omega)]
    exact hL t x d a (by omega) ha

theorem holds_nil {arg : Memref sig .tc .vmem S4096x128 .bf16} {f : arg.view.ty.Contents (Elt Ideal)}
    {L : List (View.Piece (Elt Ideal) S4096x128 .bf16)} {X : ℕ → Fin 128 → Fin 128 → EReal} : Holds arg f L X 0 :=
  fun t _ _ _ h => absurd h (Nat.not_lt_zero t)

/-- The gradient of the queries of a tile. -/
def dqT (D K : Vec Ideal S640x128 .f32) (x d : Fin 128) : EReal :=
  (∑ y, D (ix2 y x) * K (ix2 y d)) * Ideal.ofBits FTy.f32 0x3DB504F3#32

theorem dqT_of {D : Vec Ideal S640x128 .f32} {K : Vec Ideal S640x128 .bf16} {w : S128x128.Idx → EReal} (hw : w = k0_pay281 D K) (x d : Fin 128) :
    w (ix2 x d) = dqT D K x d := by
  subst hw; exact dq_apply D K x d

/-! ## The tiles as functions of the blocks -/

/-- The queries of tile `t`. -/
def LQ (x : S4096x128.Idx → EReal) (t : ℕ) : S128x128.Idx → EReal := fun y => x (ix2 (Fin.ofNat 4096 (128 * (t % 32) + (y 0).val)) (y 1))
/-- The keys of tile `t` of half `g` of the rows. -/
def LK (g : ℕ) (x : S8704x128.Idx → EReal) (t : ℕ) : S640x128.Idx → EReal :=
  fun y => x (ix2 (Fin.ofNat 8704 (4096 * g + 128 * (t % 32) + (y 0).val)) (y 1))
/-- The frame of the bias of tile `t` of half `g`. -/
def LB (g : ℕ) (x : S1x5x640x128.Idx → EReal) (t : ℕ) : S1x1x640x128.Idx → EReal :=
  fun y => x (ix4 0 (Fin.ofNat 5 (min (32 * g + t % 32) 4)) (y 2) (y 3))
/-- The softmax of tile `t`. -/
def LP (g : ℕ) (x0 : S4096x128.Idx → EReal) (x1 : S8704x128.Idx → EReal) (x4 : S1x5x640x128.Idx → EReal) (t : ℕ) :=
  pT (LK g x1 t) (LQ x0 t) (LB g x4 t)
/-- The gradient of the scores of tile `t`. -/
def LD (g : ℕ) (x0 : S4096x128.Idx → EReal) (x1 x2 : S8704x128.Idx → EReal) (x3 : S4096x128.Idx → EReal) (x4 : S1x5x640x128.Idx → EReal) (t : ℕ) :=
  dT (LK g x1 t) (LK g x2 t) (LQ x0 t) (LQ x3 t) (LB g x4 t)

variable (c : Dev nD) (i : grid0.Coords)
  (arg2 : Memref sig .tc .vmem S4096x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S4096x128 .bf16) (harg5 : arg5.IsWhole)
  (arg6 : Memref sig .tc .vmem S1x5x640x128 .f32) (harg6 : arg6.IsWhole)
  (arg7 : Memref sig .tc .vmem S4096x128 .bf16) (harg7 : arg7.IsWhole)
  (arg8 : Memref sig .tc .vmem S8704x128 .f32) (harg8 : arg8.IsWhole)
  (arg9 : Memref sig .tc .vmem S8704x128 .f32) (harg9 : arg9.IsWhole)
  (arg10 : Memref sig .tc .vmem S1x5x640x128 .f32) (harg10 : arg10.IsWhole)
  (x0 : Vec Ideal S4096x128 .bf16) (x1 : Vec Ideal S8704x128 .bf16) (x2 : Vec Ideal S8704x128 .bf16) (x3 : Vec Ideal S4096x128 .bf16) (x4 : Vec Ideal S1x5x640x128 .f32)
  (y6 y7 : Vec Ideal S8704x128 .f32) (y8 : Vec Ideal S1x5x640x128 .f32)

theorem RQ_eq (arg : Memref sig .tc .vmem S4096x128 .bf16) (harg : arg.IsWhole) (x : Vec Ideal S4096x128 .bf16) : RQ arg harg x = LQ x := by
  funext t j
  obtain ⟨a, b, rfl⟩ : ∃ a b, j = ix2 a b := ⟨_, _, eq_ix2 j⟩
  exact ld_rows arg harg x _ rfl _ a b

theorem RK_eq (arg : Memref sig .tc .vmem S8704x128 .bf16) (harg : arg.IsWhole) (x : Vec Ideal S8704x128 .bf16) : RK i arg harg x = LK (i 1).val x := by
  funext t j
  obtain ⟨a, b, rfl⟩ : ∃ a b, j = ix2 a b := ⟨_, _, eq_ix2 j⟩
  exact ld_rows arg harg x _ (k0_off1_eq i ⟨t % 32, Nat.mod_lt t (by norm_num)⟩) _ a b

theorem RB_eq : RB i arg6 harg6 x4 = LB (i 1).val x4 := by
  funext t j
  obtain ⟨a, b, y, z, rfl⟩ : ∃ a b y z, j = ix4 a b y z := ⟨_, _, _, _, eq_ix4 j⟩
  obtain rfl := Subsingleton.elim a 0
  obtain rfl := Subsingleton.elim b 0
  exact ld_frame arg6 harg6 x4 _ (k0_off2_eq i ⟨t % 32, Nat.mod_lt t (by norm_num)⟩) _ y z

theorem RD_eq : RD i arg2 harg2 arg3 harg3 arg4 harg4 arg5 harg5 arg6 harg6 x0 x1 x2 x3 x4 = LD (i 1).val x0 x1 x2 x3 x4 := by
  funext t
  unfold RD LD
  rw [RQ_eq, RQ_eq, RK_eq, RK_eq, RB_eq]

theorem RP_eq : RP i arg2 harg2 arg3 harg3 arg6 harg6 x0 x1 x4 = LP (i 1).val x0 x1 x4 := by
  funext t
  unfold RP LP
  rw [RQ_eq, RK_eq, RB_eq]

set_option maxHeartbeats 4000000

/-- The gradient of the queries at the first point of a head. -/
theorem dqA (hc0 : first i) (f : arg7.view.ty.Contents (Elt Ideal)) :
    Holds arg7 f (runA c i arg2 harg2 arg3 harg3 arg4 harg4 arg5 harg5 arg6 harg6 arg7 harg7 arg8 harg8 arg9 harg9 arg10 harg10 x0 x1 x2 x3 x4 hc0).1
      (fun t => dqT (RD i arg2 harg2 arg3 harg3 arg4 harg4 arg5 harg5 arg6 harg6 x0 x1 x2 x3 x4 t) (RK i arg3 harg3 x1 t)) 32 := by
  iterate 32 refine holds_step _ (dqT_of rfl) ?_
  exact holds_nil

/-- The gradient of the queries at the second point of a head. -/
theorem dqB (hc0 : ¬first i) (f : arg7.view.ty.Contents (Elt Ideal)) :
    Holds arg7 f (runB c i arg2 harg2 arg3 harg3 arg4 harg4 arg5 harg5 arg6 harg6 arg7 harg7 arg8 harg8 arg9 harg9 arg10 harg10 x0 x1 x2 x3 x4 hc0 y6 y7 y8).1
      (fun t => dqT (RD i arg2 harg2 arg3 harg3 arg4 harg4 arg5 harg5 arg6 harg6 x0 x1 x2 x3 x4 t) (RK i arg3 harg3 x1 t)) 32 := by
  iterate 32 refine holds_step _ (dqT_of rfl) ?_
  exact holds_nil

end Cert.AttnTile

end

end
-- ==== Proof.AttnLaunch.lean ====
/- The attention's backward call launched, over any float values: what its pipeline holds point by point, the body's
   obligation and the run. -/
module

public import proofs.«01_k».proof.Proof.AttnRunB
public import Idealize.ShloMosaic.Lib.Claim
public import Idealize.ShloMosaic.Lib.Pointwise
public import Idealize.ShloMosaic.Lib.WritesUnit

@[expose] public section

set_option maxRecDepth 16384

noncomputable section

namespace Cert.AttnLaunch

open Cert.AttnIdeal Cert.AttnIdeal.Gen Cert.AttnRun
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output blocks hold -/

/-- The point before. -/
def prev (t : Fin cfg0.N) : Fin cfg0.N := ⟨t.val - 1, Nat.lt_of_le_of_lt (Nat.sub_le _ _) t.isLt⟩

/-- The body's stores at the first point of a head, and at its second one, on the buffers staged there. -/
abbrev storesA (c : Dev nD) (t : Fin cfg0.N) (h : first (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) h
abbrev storesB (c : Dev nD) (t : Fin cfg0.N) (h : ¬first (grid0.coords t)) (y6 y7 : Vec F S8704x128 .f32) (y8 : Vec F S1x5x640x128 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) h y6 y7 y8

/-- What the first point of a head leaves in the outputs: the gradients of the queries, keys, values and bias frames. -/
def one5 (c : Dev nD) (t : Fin cfg0.N) : Vec F S4096x128 .bf16 :=
  if h : first (grid0.coords t) then (win0_5.stage (cfg0.slots t 5)).view.read (Elt F) ((win0_5.stage (cfg0.slots t 5)).view.writes (Elt F) (win0_5.stage (cfg0.slots t 5)).view.junk (storesA m c t h).1)
  else (win0_5.stage (cfg0.slots t 5)).view.read (Elt F) (win0_5.stage (cfg0.slots t 5)).view.junk
def one6 (c : Dev nD) (t : Fin cfg0.N) : Vec F S8704x128 .f32 :=
  if h : first (grid0.coords t) then (win0_6.stage (cfg0.slots t 6)).view.read (Elt F) ((win0_6.stage (cfg0.slots t 6)).view.writes (Elt F) (win0_6.stage (cfg0.slots t 6)).view.junk (storesA m c t h).2.1)
  else (win0_6.stage (cfg0.slots t 6)).view.read (Elt F) (win0_6.stage (cfg0.slots t 6)).view.junk
def one7 (c : Dev nD) (t : Fin cfg0.N) : Vec F S8704x128 .f32 :=
  if h : first (grid0.coords t) then (win0_7.stage (cfg0.slots t 7)).view.read (Elt F) ((win0_7.stage (cfg0.slots t 7)).view.writes (Elt F) (win0_7.stage (cfg0.slots t 7)).view.junk (storesA m c t h).2.2.1)
  else (win0_7.stage (cfg0.slots t 7)).view.read (Elt F) (win0_7.stage (cfg0.slots t 7)).view.junk
def one8 (c : Dev nD) (t : Fin cfg0.N) : Vec F S1x5x640x128 .f32 :=
  if h : first (grid0.coords t) then (win0_8.stage (cfg0.slots t 8)).view.read (Elt F) ((win0_8.stage (cfg0.slots t 8)).view.writes (Elt F) (win0_8.stage (cfg0.slots t 8)).view.junk (storesA m c t h).2.2.2.1)
  else (win0_8.stage (cfg0.slots t 8)).view.read (Elt F) (win0_8.stage (cfg0.slots t 8)).view.junk
/-- What the second point of a head leaves in them. -/
def two5 (c : Dev nD) (t : Fin cfg0.N) (h : ¬first (grid0.coords t)) : Vec F S4096x128 .bf16 :=
  (win0_5.stage (cfg0.slots t 5)).view.read (Elt F) ((win0_5.stage (cfg0.slots t 5)).view.writes (Elt F) (win0_5.stage (cfg0.slots t 5)).view.junk (storesB m c t h (one6 m c (prev t)) (one7 m c (prev t)) (one8 m c (prev t))).1)
def two6 (c : Dev nD) (t : Fin cfg0.N) (h : ¬first (grid0.coords t)) : Vec F S8704x128 .f32 :=
  (win0_6.stage (cfg0.slots t 6)).view.read (Elt F) ((win0_6.stage (cfg0.slots t 6)).view.writes (Elt F) ((hstage0_6 ((cfg0.slots t 6).cast nbuf0_6)).unread (one6 m c (prev t))) (storesB m c t h (one6 m c (prev t)) (one7 m c (prev t)) (one8 m c (prev t))).2.1)
def two7 (c : Dev nD) (t : Fin cfg0.N) (h : ¬first (grid0.coords t)) : Vec F S8704x128 .f32 :=
  (win0_7.stage (cfg0.slots t 7)).view.read (Elt F) ((win0_7.stage (cfg0.slots t 7)).view.writes (Elt F) ((hstage0_7 ((cfg0.slots t 7).cast nbuf0_7)).unread (one7 m c (prev t))) (storesB m c t h (one6 m c (prev t)) (one7 m c (prev t)) (one8 m c (prev t))).2.2.1)
def two8 (c : Dev nD) (t : Fin cfg0.N) (h : ¬first (grid0.coords t)) : Vec F S1x5x640x128 .f32 :=
  (win0_8.stage (cfg0.slots t 8)).view.read (Elt F) ((win0_8.stage (cfg0.slots t 8)).view.writes (Elt F) ((hstage0_8 ((cfg0.slots t 8).cast nbuf0_8)).unread (one8 m c (prev t))) (storesB m c t h (one6 m c (prev t)) (one7 m c (prev t)) (one8 m c (prev t))).2.2.2.1)

theorem one_pos (c : Dev nD) (t : Fin cfg0.N) (h : first (grid0.coords t)) :
    one5 m c t = (win0_5.stage (cfg0.slots t 5)).view.read (Elt F) ((win0_5.stage (cfg0.slots t 5)).view.writes (Elt F) (win0_5.stage (cfg0.slots t 5)).view.junk (storesA m c t h).1)
    ∧ one6 m c t = (win0_6.stage (cfg0.slots t 6)).view.read (Elt F) ((win0_6.stage (cfg0.slots t 6)).view.writes (Elt F) (win0_6.stage (cfg0.slots t 6)).view.junk (storesA m c t h).2.1)
    ∧ one7 m c t = (win0_7.stage (cfg0.slots t 7)).view.read (Elt F) ((win0_7.stage (cfg0.slots t 7)).view.writes (Elt F) (win0_7.stage (cfg0.slots t 7)).view.junk (storesA m c t h).2.2.1)
    ∧ one8 m c t = (win0_8.stage (cfg0.slots t 8)).view.read (Elt F) ((win0_8.stage (cfg0.slots t 8)).view.writes (Elt F) (win0_8.stage (cfg0.slots t 8)).view.junk (storesA m c t h).2.2.2.1) :=
  ⟨dif_pos h, dif_pos h, dif_pos h, dif_pos h⟩

/-- Stores of 32 tiles of 128 rows leave the same of any two contents. -/
def Same (arg : Memref sig .tc .vmem S4096x128 .bf16) (f f' : arg.view.ty.Contents (Elt F))
    (L : List (View.Piece (Elt F) S4096x128 .bf16)) (n : ℕ) : Prop :=
  ∀ (a : Fin 4096) (d : Fin 128), a.val < 128 * n →
    arg.view.read (Elt F) (arg.view.writes (Elt F) f L) (ix2 a d) = arg.view.read (Elt F) (arg.view.writes (Elt F) f' L) (ix2 a d)

theorem same_step {arg : Memref sig .tc .vmem S4096x128 .bf16} {f f' : arg.view.ty.Contents (Elt F)}
    {L : List (View.Piece (Elt F) S4096x128 .bf16)} (n : ℕ)
    {inb : ∀ a, (![128 * n, 0] : Fin 2 → ℕ) a + S128x128.size a ≤ S4096x128.size a} {w : S128x128.Idx → Elt F .bf16}
    (hL : Same arg f f' L n) : Same arg f f' (⟨Rect.unit (s := S4096x128) ![128 * n, 0] S128x128.size inb, w⟩ :: L) (n + 1) := by
  intro a d ha
  by_cases h : a.val < 128 * n
  · have e : ∀ g, arg.view.read (Elt F) (arg.view.writes (Elt F) g (⟨Rect.unit (s := S4096x128) ![128 * n, 0] S128x128.size inb, w⟩ :: L)) (ix2 a d)
        = arg.view.read (Elt F) (arg.view.writes (Elt F) g L) (ix2 a d) := fun g =>
      View.read_writes_cons_rows_of_not_mem arg.view g inb w L (ix2 a d) rfl (W := 128) rfl (by
        show a.val < 128 * n ∨ 128 * n + 128 ≤ a.val
        omega)
    exact (e f).trans ((hL a d h).trans (e f').symm)
  · have hx : a.val - 128 * n < 128 := by omega
    have e : ∀ g, arg.view.read (Elt F) (arg.view.writes (Elt F) g (⟨Rect.unit (s := S4096x128) ![128 * n, 0] S128x128.size inb, w⟩ :: L)) (ix2 a d)
        = w (ix2 ⟨a.val - 128 * n, hx⟩ d) := fun g =>
      View.read_writes_cons_rows_of_mem arg.view g inb w L (ix2 a d) (ix2 ⟨a.val - 128 * n, hx⟩ d) rfl
        (by show a.val = 128 * n + (a.val - 128 * n); omega) rfl
    exact (e f).trans (e f').symm

theorem same_nil {arg : Memref sig .tc .vmem S4096x128 .bf16} {f f' : arg.view.ty.Contents (Elt F)}
    {L : List (View.Piece (Elt F) S4096x128 .bf16)} : Same arg f f' L 0 := fun a _ h => absurd h (Nat.not_lt_zero a.val)

theorem same_all {arg : Memref sig .tc .vmem S4096x128 .bf16} {f f' : arg.view.ty.Contents (Elt F)}
    {L : List (View.Piece (Elt F) S4096x128 .bf16)} (h : Same arg f f' L 32) :
    arg.view.read (Elt F) (arg.view.writes (Elt F) f L) = arg.view.read (Elt F) (arg.view.writes (Elt F) f' L) := by
  funext y
  obtain ⟨a, d, rfl⟩ : ∃ a d, y = ix2 a d := ⟨_, _, eq_ix2 y⟩
  exact h a d (by have := a.isLt; omega)

/-! ## The pipeline's proof data -/

/-- The arrays as the region finds them; after the body each input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if h : first (grid0.coords t) then one5 m c t else two5 m c t h
    | ⟨6, _⟩ => if h : first (grid0.coords t) then one6 m c t else two6 m c t h
    | ⟨7, _⟩ => if h : first (grid0.coords t) then one7 m c t else two7 m c t h
    | ⟨8, _⟩ => if h : first (grid0.coords t) then one8 m c t else two8 m c t h
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = if h : first (grid0.coords t) then one5 m c t else two5 m c t h := by dsimp only [dats]
theorem after0_6 (c : Dev nD) (t : Fin cfg0.N) : (dats m 0 c).after 6 t = if h : first (grid0.coords t) then one6 m c t else two6 m c t h := by dsimp only [dats]
theorem after0_7 (c : Dev nD) (t : Fin cfg0.N) : (dats m 0 c).after 7 t = if h : first (grid0.coords t) then one7 m c t else two7 m c t h := by dsimp only [dats]
theorem after0_8 (c : Dev nD) (t : Fin cfg0.N) : (dats m 0 c).after 8 t = if h : first (grid0.coords t) then one8 m c t else two8 m c t h := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At the second point of a head an accumulated output's buffer holds what the first point left. -/
theorem before0_6_B (c : Dev nD) (t : Fin cfg0.N) (h0 : ¬t.val % 2 = 0) (d) :
    (dats m 0 c).before 6 t d = one6 m c (prev t) := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  exact (after0_6 m c (prev t)).trans (dif_pos ((first_iff (prev t)).mpr (show (t.val - 1) % 2 = 0 by omega)))
theorem before0_7_B (c : Dev nD) (t : Fin cfg0.N) (h0 : ¬t.val % 2 = 0) (d) :
    (dats m 0 c).before 7 t d = one7 m c (prev t) := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  exact (after0_7 m c (prev t)).trans (dif_pos ((first_iff (prev t)).mpr (show (t.val - 1) % 2 = 0 by omega)))
theorem before0_8_B (c : Dev nD) (t : Fin cfg0.N) (h0 : ¬t.val % 2 = 0) (d) :
    (dats m 0 c).before 8 t d = one8 m c (prev t) := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  exact (after0_8 m c (prev t)).trans (dif_pos ((first_iff (prev t)).mpr (show (t.val - 1) % 2 = 0 by omega)))

/-! ## The body's obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000

/-- The stores into the gradient of the queries are its 32 tiles. -/
theorem sameA (c : Dev nD) (t : Fin cfg0.N) (h : first (grid0.coords t)) (f f') :
    Same (win0_5.stage (cfg0.slots t 5)) f f' (storesA m c t h).1 32 := by
  iterate 32 refine same_step _ ?_
  exact same_nil
theorem sameB (c : Dev nD) (t : Fin cfg0.N) (h : ¬first (grid0.coords t)) (y6 y7 y8) (f f') :
    Same (win0_5.stage (cfg0.slots t 5)) f f' (storesB m c t h y6 y7 y8).1 32 := by
  iterate 32 refine same_step _ ?_
  exact same_nil

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 2 = 0
  · have hf := (first_iff t).mpr h0
    obtain ⟨e5', e6', e7', e8'⟩ := one_pos m c t hf
    rw [dif_pos hf, dif_pos hf, dif_pos hf, dif_pos hf, e5', e6', e7', e8']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((storesA m c t hf).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact same_all (sameA m c t hf _ _)
    isplitl [H6]; · unfold owns; iexists _; isplitr; swap; · iexact H6
                    ipureintro; rfl
    isplitl [H7]; · unfold owns; iexists _; isplitr; swap; · iexact H7
                    ipureintro; rfl
    unfold owns; iexists _; isplitr
    swap; · iexact H8
    ipureintro; rfl
  · have hf : ¬first (grid0.coords t) := fun h => h0 ((first_iff t).mp h)
    rw [dif_neg hf, dif_neg hf, dif_neg hf, dif_neg hf]
    simp only [before0_6_B m c t h0, before0_7_B m c t h0, before0_8_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((storesB m c t hf _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, ⟨%e5, H5⟩, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact same_all (sameB m c t hf _ _ _ _ _)
    isplitl [H6]; · unfold owns; iexists _; isplitr; swap; · iexact H6
                    ipureintro; rfl
    isplitl [H7]; · unfold owns; iexists _; isplitr; swap; · iexact H7
                    ipureintro; rfl
    unfold owns; iexists _; isplitr
    swap; · iexact H8
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnLaunch

end

end
-- ==== Proof.AttnHeld.lean ====
/- What the attention's backward call holds point by point over the extended reals: the gradients of the queries, keys and
   values as functions of the blocks staged. -/
module

public import proofs.«01_k».proof.Proof.AttnFam
public import proofs.«01_k».proof.Proof.AttnLaunch

@[expose] public section

set_option maxRecDepth 16384

noncomputable section

namespace Cert.AttnLaunch

open Cert.AttnIdeal Cert.AttnIdeal.Gen Cert.AttnRun Cert.AttnTile
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The half of the rows that point `t` works on. -/
def half (t : Fin cfg0.N) : ℕ := (grid0.coords t 1).val

/-- The gradients of the scores, and the softmaxes, of point `t`. -/
def tilesD (c : Dev nD) (t : Fin cfg0.N) := LD (half t) (iblk m c 0 t) (iblk m c 1 t) (iblk m c 2 t) (iblk m c 3 t) (iblk m c 4 t)
def tilesP (c : Dev nD) (t : Fin cfg0.N) := LP (half t) (iblk m c 0 t) (iblk m c 1 t) (iblk m c 4 t)

/-- What point `t` adds to a block of keys, or of values. -/
def toK (c : Dev nD) (t : Fin cfg0.N) := addK (tilesD m c t) (rowF (iblk m c 0 t : S4096x128.Idx → EReal))
def toV (c : Dev nD) (t : Fin cfg0.N) := addV (tilesP m c t) (rowF (iblk m c 3 t : S4096x128.Idx → EReal))

/-- What the first point of a head leaves of the gradients of keys and values, and what its second one leaves. -/
def keys1 (c : Dev nD) (t : Fin cfg0.N) : S8704x128.Idx → EReal := arr2 (added (fun _ _ => 0) (toK m c t) (4096 * half t) 36)
def vals1 (c : Dev nD) (t : Fin cfg0.N) : S8704x128.Idx → EReal := arr2 (added (fun _ _ => 0) (toV m c t) (4096 * half t) 36)
def keys2 (c : Dev nD) (t : Fin cfg0.N) : S8704x128.Idx → EReal :=
  arr2 (added (fun a d => keys1 m c (prev t) (ix2 a d)) (toK m c t) (4096 * half t) 36)
def vals2 (c : Dev nD) (t : Fin cfg0.N) : S8704x128.Idx → EReal :=
  arr2 (added (fun a d => vals1 m c (prev t) (ix2 a d)) (toV m c t) (4096 * half t) 36)

/-- What point `t` leaves of the gradient of the queries. -/
def queries (c : Dev nD) (t : Fin cfg0.N) : S4096x128.Idx → EReal := fun y =>
  dqT (tilesD m c t ((y 0).val / 128)) (LK (half t) (iblk m c 1 t) ((y 0).val / 128)) ⟨(y 0).val % 128, Nat.mod_lt _ (by norm_num)⟩ (y 1)

/-- The gradient of the queries, from the body's stores. -/
theorem queries_of {c : Dev nD} {t : Fin cfg0.N} {arg7 : Memref sig .tc .vmem S4096x128 .bf16} {f : arg7.view.ty.Contents (Elt Ideal)}
    {L : List (View.Piece (Elt Ideal) S4096x128 .bf16)}
    (h : Holds arg7 f L (fun n => dqT (tilesD m c t n) (LK (half t) (iblk m c 1 t) n)) 32) :
    arg7.view.read (Elt Ideal) (arg7.view.writes (Elt Ideal) f L) = queries m c t := by
  funext y
  obtain ⟨a, d, rfl⟩ : ∃ a d, y = ix2 a d := ⟨_, _, eq_ix2 y⟩
  have := a.isLt
  exact h (a.val / 128) ⟨a.val % 128, Nat.mod_lt _ (by norm_num)⟩ d a (by omega) (by dsimp only; omega)

set_option maxHeartbeats 4000000

theorem one5_eq (c : Dev nD) (t : Fin cfg0.N) (h : first (grid0.coords t)) : one5 m c t = queries m c t := by
  refine (one_pos m c t h).1.trans (queries_of m ?_)
  have := dqA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) h (win0_5.stage (cfg0.slots t 5)).view.junk
  rwa [RD_eq, RK_eq] at this
theorem two5_eq (c : Dev nD) (t : Fin cfg0.N) (h : ¬first (grid0.coords t)) : two5 m c t h = queries m c t := by
  refine queries_of m ?_
  have := dqB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (one6 m c (prev t)) (one7 m c (prev t)) (one8 m c (prev t)) h (win0_5.stage (cfg0.slots t 5)).view.junk
  rwa [RD_eq, RK_eq] at this
theorem one6_eq (c : Dev nD) (t : Fin cfg0.N) (h : first (grid0.coords t)) : one6 m c t = keys1 m c t := by
  refine (one_pos m c t h).2.1.trans ?_
  have := keysA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) h
  rw [RD_eq] at this
  exact funext this
theorem two6_eq (c : Dev nD) (t : Fin cfg0.N) (h : ¬first (grid0.coords t)) (hp : first (grid0.coords (prev t))) :
    two6 m c t h = keys2 m c t := by
  have := keysB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (one6 m c (prev t)) (one7 m c (prev t)) (one8 m c (prev t)) h
  rw [RD_eq] at this
  refine (funext this : two6 m c t h = _).trans ?_
  rw [one6_eq m c (prev t) hp]
  rfl
theorem one7_eq (c : Dev nD) (t : Fin cfg0.N) (h : first (grid0.coords t)) : one7 m c t = vals1 m c t := by
  refine (one_pos m c t h).2.2.1.trans ?_
  have := valsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) h
  rw [RP_eq] at this
  exact funext this
theorem two7_eq (c : Dev nD) (t : Fin cfg0.N) (h : ¬first (grid0.coords t)) (hp : first (grid0.coords (prev t))) :
    two7 m c t h = vals2 m c t := by
  have := valsB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (one6 m c (prev t)) (one7 m c (prev t)) (one8 m c (prev t)) h
  rw [RP_eq] at this
  refine (funext this : two7 m c t h = _).trans ?_
  rw [one7_eq m c (prev t) hp]
  rfl

theorem first_prev (t : Fin cfg0.N) (h : ¬t.val % 2 = 0) : first (grid0.coords (prev t)) :=
  (first_iff (prev t)).mpr (show (t.val - 1) % 2 = 0 by omega)

/-- What the outputs' buffers hold after a point. -/
theorem held5 (c : Dev nD) (t : Fin cfg0.N) : (dats m 0 c).after 5 t = queries m c t := by
  rw [after0_5]
  by_cases h : first (grid0.coords t)
  · rw [dif_pos h]; exact one5_eq m c t h
  · rw [dif_neg h]; exact two5_eq m c t h
theorem held6 (c : Dev nD) (t : Fin cfg0.N) (h : ¬t.val % 2 = 0) : (dats m 0 c).after 6 t = keys2 m c t := by
  have hf : ¬first (grid0.coords t) := fun e => h ((first_iff t).mp e)
  rw [after0_6, dif_neg hf]
  exact two6_eq m c t hf (first_prev t h)
theorem held7 (c : Dev nD) (t : Fin cfg0.N) (h : ¬t.val % 2 = 0) : (dats m 0 c).after 7 t = vals2 m c t := by
  have hf : ¬first (grid0.coords t) := fun e => h ((first_iff t).mp e)
  rw [after0_7, dif_neg hf]
  exact two7_eq m c t hf (first_prev t h)

end Cert.AttnLaunch

end

end
-- ==== Proof.AttnGather.lean ====
/-
  One row of a table read at computed columns: the gather by which both programs spread the bias of a head, one word for each distance, over the places of a
  tile or a chunk.
-/
module

public import Idealize.ShloMosaic.Lib.Pointwise

@[expose] public section

open Idealize.ShloMosaic
open Idealize.ShloMosaic.Pointwise

namespace Cert.AttnGather

variable {α : Type}

/-- The whole column of a table `[H, N]` at each of the places `[A, B]`, the columns given as a table of places. -/
abbrev colDims (H N A B : Nat)
    (wf : GatherDims.WF ⟨2, ![H, N]⟩ ⟨3, ![A, B, 1]⟩ ⟨3, ![H, A, B]⟩ [0] [1] [] [1] [] 2 ![H, 1]) :
    GatherDims ⟨2, ![H, N]⟩ ⟨3, ![A, B, 1]⟩ ⟨3, ![H, A, B]⟩ where
  offsetDims := [0]
  collapsedSliceDims := [1]
  operandBatchingDims := []
  startIndicesBatchingDims := []
  startIndexMap := [1]
  indexVectorDim := 2
  sliceSizes := ![H, 1]
  wf := wf

/-- Where the column asked for is a number `n` below `N`, the gather reads the table there. -/
theorem gather_col {H N A B : Nat}
    (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ 32) (h : Fin H) (a : Fin A) (b : Fin B) (n : Fin N)
    (e : (idx (ix3 a b 0)).toInt.toNat = n.val) :
    Host.gather (colDims H N A B wf) x idx (ix3 h a b) = x (ix2 h n) := by
  unfold Host.gather
  refine congrArg x (funext fun c => Fin.ext ?_)
  show (colDims H N A B wf).start (ix3 h a b) idx c + (colDims H N A B wf).batchCoord (ix3 h a b) c
      + (colDims H N A B wf).offCoord (ix3 h a b) c = _
  rw [GatherDims.batchCoord_eq_zero _ _ _ (fun h => by simp at h)]
  match c with
  | ⟨0, _⟩ =>
    have e0 : (colDims H N A B wf).start (ix3 h a b) idx ⟨0, Nat.succ_pos 1⟩ = 0 := by
      unfold GatherDims.start
      exact dif_neg (show ¬ ((0 : Fin 2) ∈ [(1 : Fin 2)]) by decide)
    have e1 : (colDims H N A B wf).offCoord (ix3 h a b) ⟨0, Nat.succ_pos 1⟩ = h.val := by
      unfold GatherDims.offCoord
      exact dif_pos ((GatherDims.mem_sKept _ _).mpr (show (0 : Fin 2) ∉ [(1 : Fin 2)] ∧ (0 : Fin 2) ∉ [] by decide))
    rw [e0, e1]; simp
  | ⟨1, _⟩ =>
    have e1 : (colDims H N A B wf).offCoord (ix3 h a b) ⟨1, Nat.lt_succ_self 1⟩ = 0 :=
      GatherDims.offCoord_eq_zero _ _ _ (fun h => ((GatherDims.mem_sKept _ _).mp h).1 (List.mem_singleton.mpr rfl))
    rw [e1]
    simp only [Nat.add_zero]
    unfold GatherDims.start
    refine (dif_pos (show (1 : Fin 2) ∈ (colDims H N A B wf).startIndexMap from List.mem_singleton.mpr rfl)).trans ?_
    have hsi : (colDims H N A B wf).siIdx (ix3 h a b) ⟨List.idxOf (1 : Fin 2) (colDims H N A B wf).startIndexMap,
        List.idxOf_lt_length_iff.2 (List.mem_singleton.mpr rfl)⟩ = ix3 a b 0 := by
      funext b; refine Fin.ext ?_
      match b with
      | ⟨0, _⟩ => rfl
      | ⟨1, _⟩ => rfl
      | ⟨2, _⟩ => rfl
    show min (idx ((colDims H N A B wf).siIdx _ ⟨List.idxOf (1 : Fin 2) (colDims H N A B wf).startIndexMap, _⟩)).toInt.toNat (N - 1) = n.val
    rw [hsi, e]
    have := n.isLt
    omega

/-- The column that both programs ask for at a distance word: the distance held between −128 and 128, counted from −128. -/
abbrev column (w : BitVec 32) : BitVec 32 :=
  Scalar.select (IntOp.cmpi .slt (IntOp.addi (IntOp.minsi 128#32 (IntOp.maxsi 4294967168#32 w)) 128#32) 0#32)
    (IntOp.addi (IntOp.addi (IntOp.minsi 128#32 (IntOp.maxsi 4294967168#32 w)) 128#32) 257#32)
    (IntOp.addi (IntOp.minsi 128#32 (IntOp.maxsi 4294967168#32 w)) 128#32)

/-- At the distance `d − 128` it is column `min d 256`. -/
theorem column_eq (d : Fin 768) :
    (column (IntOp.subi (BitVec.ofNat 32 d.val) 128#32)).toInt.toNat = min d.val 256 := by
  revert d
  decide +kernel

/-- The distance of the place `512 + z` from the place `y`, counted from −128. -/
theorem distance_eq (y z : ℕ) (hy : y < 640) (hz : z < 128) :
    IntOp.subi (IntOp.addi 512#32 (BitVec.ofNat 32 z)) (BitVec.ofNat 32 y)
      = IntOp.subi (BitVec.ofNat 32 (640 + z - y)) 128#32 := by
  apply BitVec.eq_of_toNat_eq
  simp only [IntOp.subi, IntOp.addi, BitVec.toNat_sub, BitVec.toNat_add, BitVec.toNat_ofNat]
  omega

/-- The column of key place `y` for query place `z`. -/
theorem column_at (y z : ℕ) (hy : y < 640) (hz : z < 128) :
    (column (IntOp.subi (IntOp.addi 512#32 (BitVec.ofNat 32 z)) (BitVec.ofNat 32 y))).toInt.toNat = min (640 + z - y) 256 := by
  rw [distance_eq y z hy hz]
  exact column_eq ⟨640 + z - y, by omega⟩

/-- The same, the column before the wrap given as a word. -/
theorem column_of (y z : ℕ) (hy : y < 640) (hz : z < 128) (w : BitVec 32)
    (hw : w = IntOp.addi (IntOp.minsi 128#32 (IntOp.maxsi 4294967168#32 (IntOp.subi (IntOp.addi 512#32 (BitVec.ofNat 32 z)) (BitVec.ofNat 32 y)))) 128#32) :
    (Scalar.select (IntOp.cmpi .slt w 0#32) (IntOp.addi w 257#32) w).toInt.toNat = min (640 + z - y) 256 := by
  subst hw
  exact column_at y z hy hz

/-- The chunk of a place below 640. -/
theorem chunk_word (y : Fin 640) : IntOp.divsi .host (BitVec.ofNat 32 y.val) 64#32 = BitVec.ofNat 32 (y.val / 64) := by
  revert y
  decide +kernel

/-- The mask of near chunks, from the chunk `u` of the key place and the chunk `w` of the query place. -/
theorem near_word (u : Fin 10) (w : Fin 2) :
    IntOp.andi (IntOp.cmpi .sge (IntOp.subi (BitVec.ofNat 32 u.val) (BitVec.ofNat 32 w.val)) 0#32)
        (IntOp.cmpi .sle (IntOp.subi (BitVec.ofNat 32 u.val) (BitVec.ofNat 32 w.val)) 8#32)
      = if w.val ≤ u.val ∧ u.val ≤ w.val + 8 then 1#1 else 0#1 := by
  revert u w
  decide +kernel

/-- The mask of the places past the padding, in frame `f`. -/
theorem inside_word (y : Fin 640) (f : Fin 5) :
    IntOp.cmpi .sge (BitVec.ofNat 32 y.val) (IntOp.subi 512#32 (IntOp.muli 128#32 (BitVec.ofNat 32 f.val)))
      = if 512 ≤ y.val + 128 * f.val then 1#1 else 0#1 := by
  revert y f
  decide +kernel

/-- The reference's mask: the place `64 n + y` is past the padding. -/
theorem valid_word (n y : ℕ) (hn : n < 128) (hy : y < 576) :
    IntOp.cmpi .sge (IntOp.addi (IntOp.muli (BitVec.ofNat 32 n) 64#32) (IntOp.subi (BitVec.ofNat 32 y) 512#32)) 0#32
      = if 512 ≤ 64 * n + y then 1#1 else 0#1 := by
  have e : IntOp.addi (IntOp.muli (BitVec.ofNat 32 n) 64#32) (IntOp.subi (BitVec.ofNat 32 y) 512#32)
      = IntOp.subi (BitVec.ofNat 32 (64 * n + y)) 512#32 := by
    apply BitVec.eq_of_toNat_eq
    simp only [IntOp.subi, IntOp.addi, IntOp.muli, BitVec.toNat_sub, BitVec.toNat_add, BitVec.toNat_mul, BitVec.toNat_ofNat]
    omega
  have h : ∀ a : Fin 8704, IntOp.cmpi .sge (IntOp.subi (BitVec.ofNat 32 a.val) 512#32) 0#32 = if 512 ≤ a.val then 1#1 else 0#1 := by decide +kernel
  rw [e]
  exact h ⟨64 * n + y, by omega⟩

/-- A choice by the two masks together. -/
theorem select_and {P Q : Prop} [Decidable P] [Decidable Q] (a b : α) :
    Scalar.select (IntOp.andi (if P then 1#1 else 0#1) (if Q then 1#1 else 0#1)) a b = if P ∧ Q then a else b := by
  by_cases hP : P <;> by_cases hQ : Q <;> simp [hP, hQ, Scalar.select, IntOp.andi]

end Cert.AttnGather
-- ==== Proof.AttnSpec.lean ====
/- The banded attention's gradients over the reals, one head: positions are natural numbers, a key's position counted
   from 512 rows before the first; and the row softmax of scores that are `⊥` where masked. -/
module

public import proofs.«01_k».proof.Proof.Coe

@[expose] public section

noncomputable section

namespace Cert.AttnSpec

open Idealize.ShloMosaic Cert.Coe

/-! ## The attention and its gradients -/

/-- The scale of the scores: the number the literal's word stands for. -/
def sm : ℝ := 11863283 / 134217728

theorem sm_word : Ideal.ofBits FTy.f32 0x3DB504F3#32 = ((sm : ℝ) : EReal) := by
  unfold sm
  simp [Ideal.ofBits, Ideal.ieee, -EReal.coe_mul]
  norm_num

/-- Key position `κ` lies in the band of the query at `s`: in its chunk of 64 or one of the eight before. -/
def Near (s κ : ℕ) : Prop := s / 64 ≤ κ / 64 ∧ κ / 64 ≤ s / 64 + 8

instance (s κ : ℕ) : Decidable (Near s κ) := by unfold Near; infer_instance

/-- The query at `s` sees the key at `κ`: near, and no padding. -/
def Sees (s κ : ℕ) : Prop := Near s κ ∧ 512 ≤ κ

instance (s κ : ℕ) : Decidable (Sees s κ) := by unfold Sees; infer_instance

theorem Near.lo {s κ : ℕ} (h : Near s κ) : 64 * (s / 64) ≤ κ := by unfold Near at h; omega
theorem Near.hi {s κ : ℕ} (h : Near s κ) : κ < 64 * (s / 64) + 576 := by unfold Near at h; omega
theorem near_chunk {n x κ : ℕ} (hx : x < 64) (h : Near (64 * n + x) κ) : 64 * n ≤ κ ∧ κ < 64 * n + 576 := by unfold Near at h; omega
theorem near_tile {n x κ : ℕ} (hx : x < 128) (h : Near (128 * n + x) κ) : 128 * n ≤ κ ∧ κ < 128 * n + 640 := by unfold Near at h; omega

variable (q k v o : ℕ → Fin 128 → ℝ) (rel : ℕ → ℝ)

/-- The score of query `s` at key `κ`. -/
def sc (s κ : ℕ) : ℝ := (∑ d, k κ d * q s d) * sm + rel (min (640 + s - κ) 256)
/-- Its exponential, zero where the key isn't seen; the row's sum; the softmax. -/
def ex (s κ : ℕ) : ℝ := if Sees s κ then Real.exp (sc q k rel s κ) else 0
def tot (s : ℕ) : ℝ := ∑ κ ∈ Finset.range 8704, ex q k rel s κ
def pr (s κ : ℕ) : ℝ := ex q k rel s κ / tot q k rel s
/-- The cotangent of the softmax, and of the scores. -/
def dp (s κ : ℕ) : ℝ := ∑ d, v κ d * o s d
def dsc (s κ : ℕ) : ℝ :=
  pr q k rel s κ * (dp v o s κ - ∑ x ∈ Finset.range 8704, dp v o s x * pr q k rel s x)
/-- The gradients of the queries, the keys and the values. -/
def gq (s : ℕ) (d : Fin 128) : ℝ := (∑ κ ∈ Finset.range 8704, dsc q k v o rel s κ * k κ d) * sm
def gk (κ : ℕ) (d : Fin 128) : ℝ := (∑ s ∈ Finset.range 8192, dsc q k v o rel s κ * q s d) * sm
def gv (κ : ℕ) (d : Fin 128) : ℝ := ∑ s ∈ Finset.range 8192, pr q k rel s κ * o s d

/-- The outputs. -/
def outE (s : ℕ) (d : Fin 128) : ℝ := ∑ κ ∈ Finset.range 8704, pr q k rel s κ * v κ d

variable {q k v o rel}

theorem ex_far {s κ : ℕ} (h : ¬Near s κ) : ex q k rel s κ = 0 := if_neg fun e => h e.1
theorem ex_pad {s κ : ℕ} (h : κ < 512) : ex q k rel s κ = 0 := if_neg fun e => absurd e.2 (by omega)
theorem pr_far {s κ : ℕ} (h : ¬Near s κ) : pr q k rel s κ = 0 := by unfold pr; rw [ex_far h, zero_div]
theorem pr_pad {s κ : ℕ} (h : κ < 512) : pr q k rel s κ = 0 := by unfold pr; rw [ex_pad h, zero_div]
theorem dsc_far {s κ : ℕ} (h : ¬Near s κ) : dsc q k v o rel s κ = 0 := by unfold dsc; rw [pr_far h, zero_mul]
theorem dsc_pad {s κ : ℕ} (h : κ < 512) : dsc q k v o rel s κ = 0 := by unfold dsc; rw [pr_pad h, zero_mul]

theorem gk_pad {κ : ℕ} (h : κ < 512) (d : Fin 128) : gk q k v o rel κ d = 0 := by
  unfold gk; rw [Finset.sum_eq_zero fun s _ => by rw [dsc_pad h, zero_mul], zero_mul]
theorem gv_pad {κ : ℕ} (h : κ < 512) (d : Fin 128) : gv q k o rel κ d = 0 := by
  unfold gv; rw [Finset.sum_eq_zero fun s _ => by rw [pr_pad h, zero_mul]]

theorem ex_nonneg (s κ : ℕ) : 0 ≤ ex q k rel s κ := by unfold ex; split_ifs; exacts [(Real.exp_pos _).le, le_rfl]

theorem sees_self (s : ℕ) : Sees s (s + 512) := by unfold Sees Near; omega

theorem tot_pos {s : ℕ} (h : s < 8192) : 0 < tot q k rel s := by
  refine Finset.sum_pos' (fun κ _ => ex_nonneg s κ) ⟨s + 512, Finset.mem_range.2 (by omega), ?_⟩
  unfold ex; rw [if_pos (sees_self s)]; exact Real.exp_pos _

/-! ## Sums over a band -/

/-- A sum over all positions of what vanishes off a stretch of `L` of them is the sum over the stretch. -/
theorem sum_band {L lo N : ℕ} (f : ℕ → ℝ) (hN : lo + L ≤ N) (hf : ∀ κ < N, ¬(lo ≤ κ ∧ κ < lo + L) → f κ = 0) :
    ∑ κ ∈ Finset.range N, f κ = ∑ y : Fin L, f (lo + y.val) := by
  rw [← Fin.sum_univ_eq_sum_range (fun κ => f κ)]
  rw [Fin.sum_univ_eq_sum_range (fun κ => f κ) N, Fin.sum_univ_eq_sum_range (fun y => f (lo + y)) L]
  obtain ⟨r, rfl⟩ := Nat.exists_eq_add_of_le hN
  rw [Finset.sum_range_add, Finset.sum_range_add, Finset.sum_eq_zero (s := Finset.range lo) fun κ h => hf κ (by have := Finset.mem_range.1 h; omega) (by have := Finset.mem_range.1 h; omega),
    Finset.sum_eq_zero (s := Finset.range r) fun κ h => hf _ (by have := Finset.mem_range.1 h; omega) (by omega), zero_add, add_zero]

/-- A sum over `a` blocks of `n` positions. -/
theorem sum_tiles (n a : ℕ) (f : ℕ → ℝ) : ∑ s ∈ Finset.range (n * a), f s = ∑ t ∈ Finset.range a, ∑ b : Fin n, f (n * t + b.val) := by
  induction a with
  | zero => simp
  | succ a ih => rw [Nat.mul_succ, Finset.sum_range_add, ih, Finset.sum_range_succ, Fin.sum_univ_eq_sum_range (fun b => f (n * a + b)) n]

/-! ## A row's softmax -/

section Row

variable {ι : Type*} [Fintype ι] (V : ι → Prop) [DecidablePred V] (r : ι → ℝ) {X : ι → EReal}

/-- The largest of a row of scores, `⊥` where masked, is a real, unless all are masked. -/
theorem row_max (hX : ∀ i, X i = if V i then ((r i : ℝ) : EReal) else ⊥) {i0 : ι} (h0 : V i0) :
    ∃ μ : ℝ, Finset.fold max ⊥ X Finset.univ = (μ : EReal) := by
  have e : Finset.fold max ⊥ X Finset.univ = Finset.univ.sup X := rfl
  rw [e]
  have hb : Finset.univ.sup X ≠ ⊥ := fun h => by
    have := Finset.le_sup (f := X) (Finset.mem_univ i0)
    rw [h, hX, if_pos h0] at this
    exact EReal.coe_ne_bot _ (le_bot_iff.1 this)
  have ht : Finset.univ.sup X ≠ ⊤ := by
    refine ne_of_lt ((Finset.sup_lt_iff (by exact bot_lt_top)).2 fun i _ => ?_)
    rw [hX]; split_ifs; exacts [EReal.coe_lt_top _, bot_lt_top]
  exact ⟨_, (EReal.coe_toReal ht hb).symm⟩

/-- A score's exponential after a real is taken off: the score's own, zero where masked, times a factor of the row. -/
theorem row_exp (hX : ∀ i, X i = if V i then ((r i : ℝ) : EReal) else ⊥) (μ : ℝ) (i : ι) :
    Ideal.exp (X i - (μ : EReal)) = (((if V i then Real.exp (r i) else 0) * Real.exp (-μ) : ℝ) : EReal) := by
  rw [hX]
  split_ifs
  · rw [← EReal.coe_sub, Ideal.exp_coe, sub_eq_add_neg, Real.exp_add]
  · rw [show (⊥ : EReal) - (μ : EReal) = ⊥ by rw [sub_eq_add_neg, EReal.bot_add], Ideal.exp_bot, zero_mul, EReal.coe_zero]

end Row

end Cert.AttnSpec

end

end
-- ==== Proof.AttnTileReal.lean ====
/- The tiles of the attention's backward call on real entries: each is the softmax, or its gradient, of the banded
   attention, and what a block of keys receives from all tiles is the sum over the queries of a half of the rows. -/
module

public import proofs.«01_k».proof.Proof.AttnSpec
public import proofs.«01_k».proof.Proof.AttnFam

@[expose] public section

set_option maxRecDepth 16384

noncomputable section

namespace Cert.AttnTileReal

open Cert.AttnIdeal Cert.AttnTile Cert.AttnSpec Cert.Coe
open Idealize.ShloMosaic Idealize.ShloMosaic.TcCoe
open Idealize.ShloMosaic.Pointwise

variable {q k v o : ℕ → Fin 128 → ℝ} {rel : ℕ → ℝ}

/-! ## One tile -/

section Tile

variable {T : ℕ} (hT : T < 64) {K V : Vec Ideal S640x128 .bf16} {Q D : Vec Ideal S128x128 .bf16} {B : Vec Ideal S1x1x640x128 .f32}
  (hK : ∀ y d, K (ix2 y d) = ((k (128 * T + y.val) d : ℝ) : EReal))
  (hV : ∀ y d, V (ix2 y d) = ((v (128 * T + y.val) d : ℝ) : EReal))
  (hQ : ∀ b d, Q (ix2 b d) = ((q (128 * T + b.val) d : ℝ) : EReal))
  (hD : ∀ b d, D (ix2 b d) = ((o (128 * T + b.val) d : ℝ) : EReal))
  (hB : ∀ y b, B (ix4 0 0 y b) = if Sees (128 * T + b.val) (128 * T + y.val) then ((rel (min (640 + b.val - y.val) 256) : ℝ) : EReal) else ⊥)

include hK hQ hB

theorem score_real (y : Fin 640) (b : Fin 128) : score K Q B y b
    = if Sees (128 * T + b.val) (128 * T + y.val) then ((sc q k rel (128 * T + b.val) (128 * T + y.val) : ℝ) : EReal) else ⊥ := by
  unfold score sc
  rw [hB, sm_word, Finset.sum_congr rfl fun d _ => by rw [hK, hQ, ← EReal.coe_mul], sum_coe, ← EReal.coe_mul]
  split_ifs
  · rw [← EReal.coe_add, show 640 + (128 * T + b.val) - (128 * T + y.val) = 640 + b.val - y.val by omega]
  · rw [EReal.add_bot]

include hT

theorem pT_real (y : Fin 640) (b : Fin 128) :
    pT K Q B (ix2 y b) = ((pr q k rel (128 * T + b.val) (128 * T + y.val) : ℝ) : EReal) := by
  have hb := b.isLt
  have hX := fun x => score_real hK hQ hB x b
  obtain ⟨μ, hμ⟩ := row_max (fun x : Fin 640 => Sees (128 * T + b.val) (128 * T + x.val)) (fun x => sc q k rel (128 * T + b.val) (128 * T + x.val)) hX
    (i0 := ⟨b.val + 512, by omega⟩) (by
      have := sees_self (128 * T + b.val)
      rwa [Nat.add_assoc] at this)
  have hinf : Ideal.ofBits FTy.f32 0xFF800000#32 = ⊥ := by simp [Ideal.ofBits, Ideal.ieee]
  have hE := row_exp (fun x : Fin 640 => Sees (128 * T + b.val) (128 * T + x.val)) (fun x => sc q k rel (128 * T + b.val) (128 * T + x.val)) hX μ
  have hZ : tot q k rel (128 * T + b.val) = ∑ x : Fin 640, ex q k rel (128 * T + b.val) (128 * T + x.val) := by
    unfold tot
    exact sum_band _ (by omega) fun κ _ h => ex_far fun n => h (near_tile hb n)
  have hpos := tot_pos (q := q) (k := k) (rel := rel) (s := 128 * T + b.val) (by omega)
  rw [pT_apply, hinf, hμ, hE, Finset.sum_congr rfl fun x _ => hE x, sum_coe, ← Finset.sum_mul]
  change ((ex q k rel _ _ * _ : ℝ) : EReal) * Ideal.div ((1 : ℝ) : EReal) (((∑ x : Fin 640, ex q k rel (128 * T + b.val) (128 * T + x.val)) * _ : ℝ) : EReal) = _
  have he := Real.exp_pos (-μ)
  rw [← hZ, div_real (mul_pos hpos he).ne', ← EReal.coe_mul]
  unfold pr
  congr 1
  field_simp

include hV hD

theorem dT_real (y : Fin 640) (b : Fin 128) :
    dT K V Q D B (ix2 y b) = ((dsc q k v o rel (128 * T + b.val) (128 * T + y.val) : ℝ) : EReal) := by
  have hb := b.isLt
  have hP := fun x => pT_real hT hK hQ hB x b
  have hdp : ∀ x : Fin 640, ∑ d, V (ix2 x d) * D (ix2 b d) = ((dp v o (128 * T + b.val) (128 * T + x.val) : ℝ) : EReal) := fun x => by
    rw [Finset.sum_congr rfl fun d _ => by rw [hV, hD, ← EReal.coe_mul], sum_coe]
    rfl
  rw [dT_apply, hP, hdp, Finset.sum_congr rfl fun x _ => by rw [hdp, hP, ← EReal.coe_mul], sum_coe, ← EReal.coe_sub, ← EReal.coe_mul]
  unfold dsc
  rw [sum_band (L := 640) (lo := 128 * T) (fun x => dp v o (128 * T + b.val) x * pr q k rel (128 * T + b.val) x) (by omega)
    fun κ _ h => by rw [pr_far fun n => h (near_tile hb n), mul_zero]]

theorem dq_real (x d : Fin 128) :
    dqT (dT K V Q D B) K x d = ((gq q k v o rel (128 * T + x.val) d : ℝ) : EReal) := by
  have hb := x.isLt
  unfold dqT gq
  rw [Finset.sum_congr rfl fun y _ => by rw [dT_real hT hK hV hQ hD hB, hK, ← EReal.coe_mul], sum_coe, sm_word, ← EReal.coe_mul,
    sum_band (L := 640) (lo := 128 * T) (fun κ => dsc q k v o rel (128 * T + x.val) κ * k κ d) (by omega)
      fun κ _ h => by rw [dsc_far fun n => h (near_tile hb n), zero_mul]]

end Tile

/-! ## What the blocks of keys receive -/

section Blocks

variable {f : ℕ → ℕ → ℝ} (hf : ∀ s κ, ¬Near s κ → f s κ = 0) {x : ℕ → Fin 128 → ℝ} {g : ℕ}
  {D : ℕ → Vec Ideal S640x128 .f32} {X : ℕ → Fin 128 → EReal}
  (hD : ∀ t < 32, ∀ y b, D t (ix2 y b) = ((f (4096 * g + 128 * t + b.val) (4096 * g + 128 * t + y.val) : ℝ) : EReal))
  (hX : ∀ t < 32, ∀ (b : Fin 128) d, X (128 * t + b.val) d = ((x (4096 * g + 128 * t + b.val) d : ℝ) : EReal))

include hf hD hX

/-- What block `r` receives: the sum over the queries of half `g`. -/
theorem blocks_real {r : ℕ} (hr : r < 36) (y d : Fin 128) :
    blocks D X (r - 4) (r - (r - 4)) (min (r + 1) 32 - (r - 4)) y d
      = ((∑ s ∈ Finset.range 4096, f (4096 * g + s) (4096 * g + 128 * r + y.val) * x (4096 * g + s) d : ℝ) : EReal) := by
  have hy := y.isLt
  have h1 := sum_tiles 128 32 (fun s => f (4096 * g + s) (4096 * g + 128 * r + y.val) * x (4096 * g + s) d)
  rw [show 128 * 32 = 4096 from rfl] at h1
  rw [h1, sum_band (L := min (r + 1) 32 - (r - 4)) (lo := r - 4) _ (by omega) fun t ht h => Finset.sum_eq_zero fun b _ => by
    rw [hf, zero_mul]
    intro e
    have := b.isLt
    have := near_tile (n := 32 * g + t) this (κ := 4096 * g + 128 * r + y.val) (by convert e using 1; ring)
    omega]
  unfold blocks
  rw [Fin.sum_univ_eq_sum_range (fun a => ∑ b : Fin 128, f (4096 * g + (128 * (r - 4 + a) + b.val)) (4096 * g + 128 * r + y.val) * x (4096 * g + (128 * (r - 4 + a) + b.val)) d)
    (min (r + 1) 32 - (r - 4)), ← sum_coe]
  refine Finset.sum_congr rfl fun a ha => ?_
  have ha := Finset.mem_range.1 ha
  rw [← sum_coe]
  refine Finset.sum_congr rfl fun b _ => ?_
  rw [hD _ (by omega), hX _ (by omega), ← EReal.coe_mul]
  have e : (Fin.ofNat 640 (128 * (r - (r - 4) - a) + y.val)).val = 128 * (r - (r - 4) - a) + y.val := Nat.mod_eq_of_lt (by omega)
  rw [e]
  congr 3 <;> first | rfl | omega | (congr 1 <;> omega)

end Blocks

/-- The blocks together: what a row of the array receives. -/
theorem added_real (base : Fin 8704 → Fin 128 → EReal) {add : ℕ → Fin 128 → Fin 128 → EReal} {o : ℕ} (F : ℕ → Fin 128 → ℝ)
    (hadd : ∀ r < 36, ∀ y d, add r y d = ((F (o + 128 * r + y.val) d : ℝ) : EReal))
    (hF : ∀ a, ¬(o ≤ a ∧ a < o + 4608) → ∀ d, F a d = 0) (a : Fin 8704) (d : Fin 128) :
    added base add o 36 a d = base a d + ((F a.val d : ℝ) : EReal) := by
  unfold added
  congr 1
  by_cases h : o ≤ a.val ∧ a.val < o + 4608
  · rw [Finset.sum_eq_single_of_mem ((a.val - o) / 128) (Finset.mem_range.2 (by omega)) fun r _ hne => dif_neg (by omega),
      dif_pos (by omega), hadd _ (by omega)]
    congr 2
    dsimp only
    omega
  · rw [hF a.val h d, EReal.coe_zero]
    exact Finset.sum_eq_zero fun r hr => dif_neg (by have := Finset.mem_range.1 hr; omega)

end Cert.AttnTileReal

end

end
-- ==== Proof.AttnHeads.lean ====
/-
  The reals that one head of the attention works on, out of the arrays that both programs take: its queries, its keys and values with 512 rows of zeros before
  them, its bias and its cotangent, by natural numbers.
-/
module

public import Idealize.ShloMosaic.Lib.Pointwise
public import proofs.«01_k».proof.Proof.AttnSpec

@[expose] public section

open Idealize.ShloMosaic
open Idealize.ShloMosaic.Pointwise

namespace Cert.AttnHeads

/-- The queries of head `h`. -/
noncomputable def qH (q : (⟨4, ![1, 8192, 16, 128]⟩ : Shape).Idx → ℝ) (h : Fin 16) (s : ℕ) (d : Fin 128) : ℝ := q (ix4 0 (Fin.ofNat 8192 s) h d)
/-- The keys, or the values, of head `h`, after 512 rows of zeros. -/
noncomputable def kH (k : (⟨4, ![1, 8192, 16, 128]⟩ : Shape).Idx → ℝ) (h : Fin 16) (κ : ℕ) (d : Fin 128) : ℝ := if κ < 512 then 0 else qH k h (κ - 512) d
/-- The cotangent of the output of head `h`: its 128 columns of the rows. -/
noncomputable def oH (o : (⟨3, ![1, 8192, 2048]⟩ : Shape).Idx → ℝ) (h : Fin 16) (s : ℕ) (d : Fin 128) : ℝ :=
  o (ix3 0 (Fin.ofNat 8192 s) (Fin.ofNat 2048 (128 * h.val + d.val)))
/-- The bias of head `h`, by distance. -/
noncomputable def rH (rel : (⟨2, ![16, 257]⟩ : Shape).Idx → ℝ) (h : Fin 16) (x : ℕ) : ℝ := rel (ix2 h (Fin.ofNat 257 x))

/-- The gradients of all heads as the arrays that the programs return: of the queries, of the padded keys, of the padded values. -/
noncomputable def GQ (q k v : (⟨4, ![1, 8192, 16, 128]⟩ : Shape).Idx → ℝ) (o : (⟨3, ![1, 8192, 2048]⟩ : Shape).Idx → ℝ) (rel : (⟨2, ![16, 257]⟩ : Shape).Idx → ℝ) :
    (⟨2, ![8192, 2048]⟩ : Shape).Idx → EReal := fun j =>
  ((AttnSpec.gq (qH q (Fin.ofNat 16 ((j 1).val / 128))) (kH k (Fin.ofNat 16 ((j 1).val / 128))) (kH v (Fin.ofNat 16 ((j 1).val / 128)))
    (oH o (Fin.ofNat 16 ((j 1).val / 128))) (rH rel (Fin.ofNat 16 ((j 1).val / 128))) (j 0).val (Fin.ofNat 128 (j 1).val) : ℝ) : EReal)
noncomputable def GK (q k v : (⟨4, ![1, 8192, 16, 128]⟩ : Shape).Idx → ℝ) (o : (⟨3, ![1, 8192, 2048]⟩ : Shape).Idx → ℝ) (rel : (⟨2, ![16, 257]⟩ : Shape).Idx → ℝ) :
    (⟨2, ![8704, 2048]⟩ : Shape).Idx → EReal := fun j =>
  ((AttnSpec.gk (qH q (Fin.ofNat 16 ((j 1).val / 128))) (kH k (Fin.ofNat 16 ((j 1).val / 128))) (kH v (Fin.ofNat 16 ((j 1).val / 128)))
    (oH o (Fin.ofNat 16 ((j 1).val / 128))) (rH rel (Fin.ofNat 16 ((j 1).val / 128))) (j 0).val (Fin.ofNat 128 (j 1).val) : ℝ) : EReal)
noncomputable def GV (q k : (⟨4, ![1, 8192, 16, 128]⟩ : Shape).Idx → ℝ) (o : (⟨3, ![1, 8192, 2048]⟩ : Shape).Idx → ℝ) (rel : (⟨2, ![16, 257]⟩ : Shape).Idx → ℝ) :
    (⟨2, ![8704, 2048]⟩ : Shape).Idx → EReal := fun j =>
  ((AttnSpec.gv (qH q (Fin.ofNat 16 ((j 1).val / 128))) (kH k (Fin.ofNat 16 ((j 1).val / 128)))
    (oH o (Fin.ofNat 16 ((j 1).val / 128))) (rH rel (Fin.ofNat 16 ((j 1).val / 128))) (j 0).val (Fin.ofNat 128 (j 1).val) : ℝ) : EReal)

theorem fin_ofNat {n k : ℕ} [NeZero n] (h : k < n) : (⟨k, h⟩ : Fin n) = Fin.ofNat n k := Fin.ext (Nat.mod_eq_of_lt h).symm

theorem GQ_apply (q k v o rel) {h : Fin 16} {d : Fin 128} (x : Fin 8192) (y : Fin 2048) (eh : Fin.ofNat 16 (y.val / 128) = h) (ed : Fin.ofNat 128 y.val = d) :
    GQ q k v o rel (ix2 x y) = ((AttnSpec.gq (qH q h) (kH k h) (kH v h) (oH o h) (rH rel h) x.val d : ℝ) : EReal) := by
  subst eh ed; rfl
theorem GK_apply (q k v o rel) {h : Fin 16} {d : Fin 128} (x : Fin 8704) (y : Fin 2048) (eh : Fin.ofNat 16 (y.val / 128) = h) (ed : Fin.ofNat 128 y.val = d) :
    GK q k v o rel (ix2 x y) = ((AttnSpec.gk (qH q h) (kH k h) (kH v h) (oH o h) (rH rel h) x.val d : ℝ) : EReal) := by
  subst eh ed; rfl
theorem GV_apply (q k o rel) {h : Fin 16} {d : Fin 128} (x : Fin 8704) (y : Fin 2048) (eh : Fin.ofNat 16 (y.val / 128) = h) (ed : Fin.ofNat 128 y.val = d) :
    GV q k o rel (ix2 x y) = ((AttnSpec.gv (qH q h) (kH k h) (oH o h) (rH rel h) x.val d : ℝ) : EReal) := by
  subst eh ed; rfl

end Cert.AttnHeads
-- ==== Proof.AttnOperands.lean ====
/-
  What the host code hands the attention's backward call, and what each grid point stages of it: the queries and the cotangent of one head's half of the rows,
  the padded keys and values of the head, and the head's frames of the bias.
-/
module

public import proofs.«01_k».proof.Proof.AttnHeld
public import proofs.«01_k».proof.Proof.AttnGather
public import proofs.«01_k».proof.Proof.AttnTileReal
public import proofs.«01_k».proof.Proof.AttnHeads
public import Idealize.ShloMosaic.Lib.StableHlo.ReadAt

@[expose] public section

set_option maxRecDepth 16384

noncomputable section

namespace Cert.AttnArrays

open Cert.AttnIdeal Cert.AttnIdeal.Gen Cert.AttnTile Cert.AttnLaunch Cert.AttnHeads Cert.AttnSpec Cert.AttnTileReal
open Idealize.ShloMosaic Idealize.ShloMosaic.TcCoe Idealize.SL.Sem
open Idealize.ShloMosaic.Pointwise

variable (m : (ℓ : Loc nD τ sig) → Buf (Elt Ideal) ℓ) (c : Dev nD)

/-! ## The operands -/

theorem operand_q (a : Fin 8192) (b : Fin 2048) : (V m c main_v1 : S8192x2048.Idx → EReal) (ix2 a b)
    = (m (c, Proc.tc.devRef main_arg0) : S1x8192x16x128.Idx → EReal) (ix4 0 a ⟨b.val / 128, by omega⟩ ⟨b.val % 128, by omega⟩) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_at

theorem operand_o (a : Fin 8192) (b : Fin 2048) : (V m c main_v9 : S8192x2048.Idx → EReal) (ix2 a b)
    = (m (c, Proc.tc.devRef main_arg4) : S1x8192x2048.Idx → EReal) (ix3 0 a b) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_at

theorem sitofp_zero : (FloatOps.sitofp (F := Ideal) FTy.bf16 0#32 : EReal) = 0 := by
  simp [FloatOps.sitofp]

theorem operand_k (a : Fin 8704) (b : Fin 2048) : (V m c main_v4 : S8704x2048.Idx → EReal) (ix2 a b)
    = (if h : 512 ≤ a.val then (m (c, Proc.tc.devRef main_arg1) : S1x8192x16x128.Idx → EReal)
        (ix4 0 ⟨a.val - 512, by omega⟩ ⟨b.val / 128, by omega⟩ ⟨b.val % 128, by omega⟩) else (0 : EReal) : EReal) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_at
  by_cases h : 512 ≤ a.val
  · rw [dif_pos h, dif_pos ⟨h, by omega⟩]
  · rw [dif_neg h, dif_neg fun e => h e.1]
    exact sitofp_zero

theorem operand_v (a : Fin 8704) (b : Fin 2048) : (V m c main_v7 : S8704x2048.Idx → EReal) (ix2 a b)
    = (if h : 512 ≤ a.val then (m (c, Proc.tc.devRef main_arg2) : S1x8192x16x128.Idx → EReal)
        (ix4 0 ⟨a.val - 512, by omega⟩ ⟨b.val / 128, by omega⟩ ⟨b.val % 128, by omega⟩) else (0 : EReal) : EReal) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_at
  by_cases h : 512 ≤ a.val
  · rw [dif_pos h, dif_pos ⟨h, by omega⟩]
  · rw [dif_neg h, dif_neg fun e => h e.1]
    exact sitofp_zero

theorem gather_bias (x : S16x257.Idx → EReal) (idx : IVec S640x128x1 32) (h : Fin 16) (y : Fin 640) (z : Fin 128) (n : Fin 257)
    (e : (idx (ix3 y z 0)).toInt.toNat = n.val) :
    Host.gather gather_S16x257_S640x128x1_S16x640x128_0_1_n_n_1_2_161 x idx (ix3 h y z) = x (ix2 h n) :=
  AttnGather.gather_col _ x idx h y z n e

theorem operand_b (a : Fin 16) (f : Fin 5) (y : Fin 640) (z : Fin 128) :
    (V m c main_v60 : S16x5x640x128.Idx → EReal) (ix4 a f y z)
      = if (z.val / 64 ≤ y.val / 64 ∧ y.val / 64 ≤ z.val / 64 + 8) ∧ 512 ≤ y.val + 128 * f.val
        then (m (c, Proc.tc.devRef main_arg3) : S16x257.Idx → EReal) (ix2 a (Fin.ofNat 257 (min (640 + z.val - y.val) 256)))
        else (⊥ : EReal) := by
  have hn : (Fin.ofNat 257 (min (640 + z.val - y.val) 256)).val = min (640 + z.val - y.val) 256 := Nat.mod_eq_of_lt (by omega)
  unfold V
  simp only [hostOps0, hostOps0_1, hostOps0_2, hostOps0_3, hostOps0_4, hostOps0_5, hostOps0_6, hostOps0_7, List.flatten_cons, List.flatten_nil,
    List.append_nil, List.cons_append, List.nil_append]
  after_reads_at
  rw [gather_bias _ _ a y z (Fin.ofNat 257 (min (640 + z.val - y.val) 256)) ?e]
  case e =>
    rw [hn]
    pointwise []
    exact AttnGather.column_at y.val z.val y.isLt z.isLt
  have hz := AttnGather.chunk_word ⟨z.val, by omega⟩
  dsimp only at hz
  have hw := AttnGather.near_word ⟨y.val / 64, by omega⟩ ⟨z.val / 64, by omega⟩
  dsimp only at hw
  rw [AttnGather.chunk_word, hz, hw, AttnGather.inside_word, AttnGather.select_and]
  refine if_congr Iff.rfl rfl ?_
  show Ideal.ofBits FTy.f32 0xFF800000#32 = ⊥
  simp [Ideal.ofBits, Ideal.ieee]

/-! ## The blocks -/

theorem idx : ∀ t : Fin cfg0.N, win0_0.index t = ![t.val % 2, t.val / 2] ∧ win0_1.index t = ![0, t.val / 2] ∧ win0_2.index t = ![0, t.val / 2]
    ∧ win0_3.index t = ![t.val % 2, t.val / 2] ∧ win0_4.index t = ![t.val / 2, 0, 0, 0] ∧ win0_5.index t = ![t.val % 2, t.val / 2]
    ∧ win0_6.index t = ![0, t.val / 2] ∧ win0_7.index t = ![0, t.val / 2] :=
  (by decide +kernel : ∀ t : Fin grid0.N, _)

theorem half_eq : ∀ t : Fin cfg0.N, half t = t.val % 2 := (by unfold half; decide +kernel : ∀ t : Fin grid0.N, _)

/-- The head that point `t` works on. -/
def hd (t : Fin cfg0.N) : Fin 16 := Fin.ofNat 16 (t.val / 2)

theorem lt_32 (t : Fin cfg0.N) : t.val < 32 := lt_of_lt_of_eq t.isLt N_0
theorem hd_val (t : Fin cfg0.N) : (hd t).val = t.val / 2 := Nat.mod_eq_of_lt (by have := lt_32 t; omega)

theorem blk_q (t : Fin cfg0.N) (a : Fin 4096) (d : Fin 128) (h0 : t.val % 2 * 4096 + a.val < 8192) (h1 : t.val / 2 * 128 + d.val < 2048) :
    (iblk m c 0 t : S4096x128.Idx → EReal) (ix2 a d) = (V m c main_v1 : S8192x2048.Idx → EReal) (ix2 ⟨_, h0⟩ ⟨_, h1⟩) := by
  blk_point [iblk, idx t]
theorem blk_k (t : Fin cfg0.N) (a : Fin 8704) (d : Fin 128) (h1 : t.val / 2 * 128 + d.val < 2048) :
    (iblk m c 1 t : S8704x128.Idx → EReal) (ix2 a d) = (V m c main_v4 : S8704x2048.Idx → EReal) (ix2 a ⟨_, h1⟩) := by
  blk_point [iblk, idx t]
theorem blk_v (t : Fin cfg0.N) (a : Fin 8704) (d : Fin 128) (h1 : t.val / 2 * 128 + d.val < 2048) :
    (iblk m c 2 t : S8704x128.Idx → EReal) (ix2 a d) = (V m c main_v7 : S8704x2048.Idx → EReal) (ix2 a ⟨_, h1⟩) := by
  blk_point [iblk, idx t]
theorem blk_o (t : Fin cfg0.N) (a : Fin 4096) (d : Fin 128) (h0 : t.val % 2 * 4096 + a.val < 8192) (h1 : t.val / 2 * 128 + d.val < 2048) :
    (iblk m c 3 t : S4096x128.Idx → EReal) (ix2 a d) = (V m c main_v9 : S8192x2048.Idx → EReal) (ix2 ⟨_, h0⟩ ⟨_, h1⟩) := by
  blk_point [iblk, idx t]
theorem blk_b (t : Fin cfg0.N) (f : Fin 5) (y : Fin 640) (z : Fin 128) (h1 : t.val / 2 < 16) :
    (iblk m c 4 t : S1x5x640x128.Idx → EReal) (ix4 0 f y z) = (V m c main_v60 : S16x5x640x128.Idx → EReal) (ix4 ⟨_, h1⟩ f y z) := by
  blk_point [iblk, idx t]

end Cert.AttnArrays

end
end
-- ==== Proof.AttnArrays.lean ====
/-
  The arrays that the attention's backward call leaves, over the reals: the gradients of the queries, of the padded keys and of the padded values of every head.
-/
module

public import proofs.«01_k».proof.Proof.AttnOperands

@[expose] public section

set_option maxRecDepth 16384

noncomputable section

namespace Cert.AttnArrays

open Cert.AttnIdeal Cert.AttnIdeal.Gen Cert.AttnTile Cert.AttnLaunch Cert.AttnHeads Cert.AttnSpec Cert.AttnTileReal
open Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (c : Dev nD)
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (m (c, Proc.tc.devRef main_arg0) : S1x8192x16x128.Idx → EReal) i = ((q i : ℝ) : EReal))
  (hk : ∀ i, (m (c, Proc.tc.devRef main_arg1) : S1x8192x16x128.Idx → EReal) i = ((k i : ℝ) : EReal))
  (hv : ∀ i, (m (c, Proc.tc.devRef main_arg2) : S1x8192x16x128.Idx → EReal) i = ((v i : ℝ) : EReal))
  (hr : ∀ i, (m (c, Proc.tc.devRef main_arg3) : S16x257.Idx → EReal) i = ((rel i : ℝ) : EReal))
  (ho : ∀ i, (m (c, Proc.tc.devRef main_arg4) : S1x8192x2048.Idx → EReal) i = ((o i : ℝ) : EReal))

theorem ix4_congr {n0 n1 n2 n3 : ℕ} {x : Fin n0} {a a' : Fin n1} {b b' : Fin n2} {d d' : Fin n3} (ha : a = a') (hb : b = b') (hd : d = d') :
    ix4 x a b d = ix4 x a' b' d' := by rw [ha, hb, hd]

/-! ## The blocks as reals -/

include hq in
theorem real_q (t : Fin cfg0.N) (a : Fin 4096) (d : Fin 128) :
    (iblk m c 0 t : S4096x128.Idx → EReal) (ix2 a d) = ((qH q (hd t) (4096 * (t.val % 2) + a.val) d : ℝ) : EReal) := by
  have ht := lt_32 t
  rw [blk_q m c t a d (by omega) (by omega), operand_q, hq]
  unfold qH
  congr 2
  rw [← fin_ofNat (show 4096 * (t.val % 2) + a.val < 8192 by omega)]
  refine ix4_congr (Fin.ext ?_) (Fin.ext ?_) (Fin.ext ?_)
  · show t.val % 2 * 4096 + a.val = 4096 * (t.val % 2) + a.val; omega
  · rw [hd_val]; show (t.val / 2 * 128 + d.val) / 128 = _; omega
  · show (t.val / 2 * 128 + d.val) % 128 = _; omega

include ho in
theorem real_o (t : Fin cfg0.N) (a : Fin 4096) (d : Fin 128) :
    (iblk m c 3 t : S4096x128.Idx → EReal) (ix2 a d) = ((oH o (hd t) (4096 * (t.val % 2) + a.val) d : ℝ) : EReal) := by
  have ht := lt_32 t
  rw [blk_o m c t a d (by omega) (by omega), operand_o, ho]
  unfold oH
  have hh := hd_val t
  congr 2
  rw [← fin_ofNat (show 4096 * (t.val % 2) + a.val < 8192 by omega), ← fin_ofNat (show 128 * (hd t).val + d.val < 2048 by omega)]
  refine congrArg₂ (ix3 0) (Fin.ext ?_) (Fin.ext ?_)
  · show t.val % 2 * 4096 + a.val = 4096 * (t.val % 2) + a.val; omega
  · show t.val / 2 * 128 + d.val = 128 * (hd t).val + d.val; omega

include hk in
theorem real_k (t : Fin cfg0.N) (a : Fin 8704) (d : Fin 128) :
    (iblk m c 1 t : S8704x128.Idx → EReal) (ix2 a d) = ((kH k (hd t) a.val d : ℝ) : EReal) := by
  have ht := lt_32 t
  rw [blk_k m c t a d (by omega), operand_k]
  unfold kH qH
  by_cases h : a.val < 512
  · rw [dif_neg (by omega), if_pos h]; rfl
  · rw [dif_pos (by omega), if_neg h, hk]
    congr 2
    rw [← fin_ofNat (show a.val - 512 < 8192 by omega)]
    refine congrArg₂ (ix4 0 _) (Fin.ext ?_) (Fin.ext ?_)
    · rw [hd_val]; show (t.val / 2 * 128 + d.val) / 128 = _; omega
    · show (t.val / 2 * 128 + d.val) % 128 = _; omega

include hv in
theorem real_v (t : Fin cfg0.N) (a : Fin 8704) (d : Fin 128) :
    (iblk m c 2 t : S8704x128.Idx → EReal) (ix2 a d) = ((kH v (hd t) a.val d : ℝ) : EReal) := by
  have ht := lt_32 t
  rw [blk_v m c t a d (by omega), operand_v]
  unfold kH qH
  by_cases h : a.val < 512
  · rw [dif_neg (by omega), if_pos h]; rfl
  · rw [dif_pos (by omega), if_neg h, hv]
    congr 2
    rw [← fin_ofNat (show a.val - 512 < 8192 by omega)]
    refine congrArg₂ (ix4 0 _) (Fin.ext ?_) (Fin.ext ?_)
    · rw [hd_val]; show (t.val / 2 * 128 + d.val) / 128 = _; omega
    · show (t.val / 2 * 128 + d.val) % 128 = _; omega

include hr in
theorem real_b (t : Fin cfg0.N) (f : Fin 5) (y : Fin 640) (z : Fin 128) :
    (iblk m c 4 t : S1x5x640x128.Idx → EReal) (ix4 0 f y z)
      = if (z.val / 64 ≤ y.val / 64 ∧ y.val / 64 ≤ z.val / 64 + 8) ∧ 512 ≤ y.val + 128 * f.val
        then ((rH rel (hd t) (min (640 + z.val - y.val) 256) : ℝ) : EReal) else ⊥ := by
  have ht := lt_32 t
  rw [blk_b m c t f y z (by omega), operand_b]
  refine if_congr Iff.rfl ?_ rfl
  rw [hr]
  unfold rH
  rw [show (⟨t.val / 2, by omega⟩ : Fin 16) = hd t from Fin.ext (hd_val t).symm]

include hq in
theorem row_q (t : Fin cfg0.N) {n : ℕ} (hn : n < 4096) (d : Fin 128) :
    rowF (iblk m c 0 t : S4096x128.Idx → EReal) n d = ((qH q (hd t) (4096 * (t.val % 2) + n) d : ℝ) : EReal) := by
  unfold rowF
  rw [← fin_ofNat hn]
  exact real_q m c hq t ⟨n, hn⟩ d

include ho in
theorem row_o (t : Fin cfg0.N) {n : ℕ} (hn : n < 4096) (d : Fin 128) :
    rowF (iblk m c 3 t : S4096x128.Idx → EReal) n d = ((oH o (hd t) (4096 * (t.val % 2) + n) d : ℝ) : EReal) := by
  unfold rowF
  rw [← fin_ofNat hn]
  exact real_o m c ho t ⟨n, hn⟩ d

/-! ## The tiles as reals -/

section
variable (t : Fin cfg0.N) {T : ℕ} (hT : T < 32)

include hq hT in
theorem tile_q (b d : Fin 128) : LQ (iblk m c 0 t) T (ix2 b d) = ((qH q (hd t) (128 * (32 * (t.val % 2) + T) + b.val) d : ℝ) : EReal) := by
  have := b.isLt
  refine (real_q m c hq t _ d).trans ?_
  congr 2
  show 4096 * (t.val % 2) + (128 * (T % 32) + b.val) % 4096 = _
  rw [Nat.mod_eq_of_lt (by omega : 128 * (T % 32) + b.val < 4096)]; omega

include ho hT in
theorem tile_o (b d : Fin 128) : LQ (iblk m c 3 t) T (ix2 b d) = ((oH o (hd t) (128 * (32 * (t.val % 2) + T) + b.val) d : ℝ) : EReal) := by
  have := b.isLt
  refine (real_o m c ho t _ d).trans ?_
  congr 2
  show 4096 * (t.val % 2) + (128 * (T % 32) + b.val) % 4096 = _
  rw [Nat.mod_eq_of_lt (by omega : 128 * (T % 32) + b.val < 4096)]; omega

include hk hT in
theorem tile_k (y : Fin 640) (d : Fin 128) :
    LK (half t) (iblk m c 1 t) T (ix2 y d) = ((kH k (hd t) (128 * (32 * (t.val % 2) + T) + y.val) d : ℝ) : EReal) := by
  have := y.isLt
  refine (real_k m c hk t _ d).trans ?_
  congr 2
  show (4096 * half t + 128 * (T % 32) + y.val) % 8704 = _
  rw [half_eq, Nat.mod_eq_of_lt (by omega)]; omega

include hv hT in
theorem tile_v (y : Fin 640) (d : Fin 128) :
    LK (half t) (iblk m c 2 t) T (ix2 y d) = ((kH v (hd t) (128 * (32 * (t.val % 2) + T) + y.val) d : ℝ) : EReal) := by
  have := y.isLt
  refine (real_v m c hv t _ d).trans ?_
  congr 2
  show (4096 * half t + 128 * (T % 32) + y.val) % 8704 = _
  rw [half_eq, Nat.mod_eq_of_lt (by omega)]; omega

include hr hT in
theorem tile_b (y : Fin 640) (b : Fin 128) : LB (half t) (iblk m c 4 t) T (ix4 0 0 y b)
    = if Sees (128 * (32 * (t.val % 2) + T) + b.val) (128 * (32 * (t.val % 2) + T) + y.val)
      then ((rH rel (hd t) (min (640 + b.val - y.val) 256) : ℝ) : EReal) else ⊥ := by
  have := y.isLt
  have := b.isLt
  refine (real_b m c hr t _ y b).trans (if_congr ?_ rfl rfl)
  have hf : (Fin.ofNat 5 (min (32 * half t + T % 32) 4)).val = min (32 * (t.val % 2) + T) 4 := by
    show min (32 * half t + T % 32) 4 % 5 = _
    rw [half_eq, Nat.mod_eq_of_lt (by omega : min (32 * (t.val % 2) + T % 32) 4 < 5)]; omega
  rw [hf]
  unfold Sees Near
  omega

end

include hq hk hv hr ho

theorem tilesD_real (t : Fin cfg0.N) {T : ℕ} (hT : T < 32) (y : Fin 640) (b : Fin 128) : tilesD m c t T (ix2 y b)
    = ((dsc (qH q (hd t)) (kH k (hd t)) (kH v (hd t)) (oH o (hd t)) (rH rel (hd t)) (4096 * (t.val % 2) + 128 * T + b.val)
        (4096 * (t.val % 2) + 128 * T + y.val) : ℝ) : EReal) := by
  have e := dT_real (T := 32 * (t.val % 2) + T) (by omega) (tile_k m c hk t hT) (tile_v m c hv t hT) (tile_q m c hq t hT) (tile_o m c ho t hT)
    (tile_b m c hr t hT) y b
  rw [show 128 * (32 * (t.val % 2) + T) = 4096 * (t.val % 2) + 128 * T by omega] at e
  exact e

theorem queries_real (t : Fin cfg0.N) (a : Fin 4096) (d : Fin 128) : queries m c t (ix2 a d)
    = ((gq (qH q (hd t)) (kH k (hd t)) (kH v (hd t)) (oH o (hd t)) (rH rel (hd t)) (4096 * (t.val % 2) + a.val) d : ℝ) : EReal) := by
  have hT : a.val / 128 < 32 := by omega
  have e := dq_real (T := 32 * (t.val % 2) + a.val / 128) (by omega) (tile_k m c hk t hT) (tile_v m c hv t hT) (tile_q m c hq t hT) (tile_o m c ho t hT)
    (tile_b m c hr t hT) ⟨a.val % 128, Nat.mod_lt _ (by norm_num)⟩ d
  refine Eq.trans ?_ (e.trans ?_)
  · rfl
  · congr 2
    show 128 * (32 * (t.val % 2) + a.val / 128) + a.val % 128 = _
    omega

omit hv ho in
theorem tilesP_real (t : Fin cfg0.N) {T : ℕ} (hT : T < 32) (y : Fin 640) (b : Fin 128) : tilesP m c t T (ix2 y b)
    = ((pr (qH q (hd t)) (kH k (hd t)) (rH rel (hd t)) (4096 * (t.val % 2) + 128 * T + b.val) (4096 * (t.val % 2) + 128 * T + y.val) : ℝ) : EReal) := by
  have e := pT_real (T := 32 * (t.val % 2) + T) (by omega) (tile_k m c hk t hT) (tile_q m c hq t hT) (tile_b m c hr t hT) y b
  rw [show 128 * (32 * (t.val % 2) + T) = 4096 * (t.val % 2) + 128 * T by omega] at e
  exact e

/-! ## The gradients of the keys and the values -/

/-- What the queries of half `g` add to the gradient of key `a`, and of value `a`, of the head of point `t`. -/
def fk (q k v : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  (∑ s ∈ Finset.range 4096, dsc (qH q h) (kH k h) (kH v h) (oH o h) (rH rel h) (4096 * g + s) a * qH q h (4096 * g + s) d) * sm
def fv (q k : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  ∑ s ∈ Finset.range 4096, pr (qH q h) (kH k h) (rH rel h) (4096 * g + s) a * oH o h (4096 * g + s) d

omit hq hk hv hr ho in
theorem far_of {g s a : ℕ} (hs : s < 4096) (h : ¬(4096 * g ≤ a ∧ a < 4096 * g + 4608)) : ¬Near (4096 * g + s) a := by unfold Near; omega

theorem toK_real (t : Fin cfg0.N) {r : ℕ} (hr' : r < 36) (y d : Fin 128) :
    toK m c t r y d = ((fk q k v o rel (hd t) (t.val % 2) (4096 * (t.val % 2) + 128 * r + y.val) d : ℝ) : EReal) := by
  have e := blocks_real (f := dsc (qH q (hd t)) (kH k (hd t)) (kH v (hd t)) (oH o (hd t)) (rH rel (hd t))) (x := qH q (hd t)) (g := t.val % 2)
    (D := tilesD m c t) (X := rowF (iblk m c 0 t : S4096x128.Idx → EReal))
    (fun s κ h => dsc_far h) (fun T hT y b => tilesD_real m c hq hk hv hr ho t hT y b)
    (fun T hT b d => by rw [row_q m c hq t (by omega) d, Nat.add_assoc]) hr' y d
  unfold toK addK fk
  rw [e, sm_word, ← EReal.coe_mul]

omit hv in
theorem toV_real (t : Fin cfg0.N) {r : ℕ} (hr' : r < 36) (y d : Fin 128) :
    toV m c t r y d = ((fv q k o rel (hd t) (t.val % 2) (4096 * (t.val % 2) + 128 * r + y.val) d : ℝ) : EReal) := by
  have e := blocks_real (f := pr (qH q (hd t)) (kH k (hd t)) (rH rel (hd t))) (x := oH o (hd t)) (g := t.val % 2)
    (D := tilesP m c t) (X := rowF (iblk m c 3 t : S4096x128.Idx → EReal))
    (fun s κ h => pr_far h) (fun T hT y b => tilesP_real m c hq hk hr t hT y b)
    (fun T hT b d => by rw [row_o m c ho t (by omega) d, Nat.add_assoc]) hr' y d
  unfold toV addV fv
  rw [e]

theorem keys1_real (t : Fin cfg0.N) (a : Fin 8704) (d : Fin 128) :
    keys1 m c t (ix2 a d) = ((fk q k v o rel (hd t) (t.val % 2) a.val d : ℝ) : EReal) := by
  refine (added_real (fun _ _ => (0 : EReal)) (fk q k v o rel (hd t) (t.val % 2)) (fun r h y d => (toK_real m c hq hk hv hr ho t h y d).trans ?_) (fun x h d => ?_) a d).trans (zero_add _)
  · rw [half_eq]
  · rw [half_eq] at h
    unfold fk
    rw [Finset.sum_eq_zero fun s hs => by rw [dsc_far (far_of (Finset.mem_range.1 hs) h), zero_mul], zero_mul]

omit hv in
theorem vals1_real (t : Fin cfg0.N) (a : Fin 8704) (d : Fin 128) :
    vals1 m c t (ix2 a d) = ((fv q k o rel (hd t) (t.val % 2) a.val d : ℝ) : EReal) := by
  refine (added_real (fun _ _ => (0 : EReal)) (fv q k o rel (hd t) (t.val % 2)) (fun r h y d => (toV_real m c hq hk hr ho t h y d).trans ?_) (fun x h d => ?_) a d).trans (zero_add _)
  · rw [half_eq]
  · rw [half_eq] at h
    unfold fv
    rw [Finset.sum_eq_zero fun s hs => by rw [pr_far (far_of (Finset.mem_range.1 hs) h), zero_mul]]

omit hq hk hv hr ho in
theorem halves (f : ℕ → ℝ) : ∑ s ∈ Finset.range 8192, f s
    = ∑ s ∈ Finset.range 4096, f (4096 * 0 + s) + ∑ s ∈ Finset.range 4096, f (4096 * 1 + s) := by
  rw [show 8192 = 4096 + 4096 from rfl, Finset.sum_range_add]
  simp only [Nat.mul_zero, Nat.zero_add, Nat.mul_one]

theorem keys2_real (t : Fin cfg0.N) (ht : t.val % 2 = 1) (a : Fin 8704) (d : Fin 128) :
    keys2 m c t (ix2 a d) = ((gk (qH q (hd t)) (kH k (hd t)) (kH v (hd t)) (oH o (hd t)) (rH rel (hd t)) a.val d : ℝ) : EReal) := by
  have hp : hd (prev t) = hd t := Fin.ext (by rw [hd_val, hd_val]; show (t.val - 1) / 2 = _; omega)
  have hg : (prev t).val % 2 = 0 := by show (t.val - 1) % 2 = 0; omega
  refine (added_real (fun a d => keys1 m c (prev t) (ix2 a d)) (fk q k v o rel (hd t) (t.val % 2)) (fun r h y d => (toK_real m c hq hk hv hr ho t h y d).trans ?_) (fun x h d => ?_) a d).trans ?_
  · rw [half_eq]
  · rw [half_eq] at h
    unfold fk
    rw [Finset.sum_eq_zero fun s hs => by rw [dsc_far (far_of (Finset.mem_range.1 hs) h), zero_mul], zero_mul]
  · rw [keys1_real m c hq hk hv hr ho, hp, hg, ht, ← EReal.coe_add]
    unfold fk gk
    rw [halves, add_mul]

omit hv in
theorem vals2_real (t : Fin cfg0.N) (ht : t.val % 2 = 1) (a : Fin 8704) (d : Fin 128) :
    vals2 m c t (ix2 a d) = ((gv (qH q (hd t)) (kH k (hd t)) (oH o (hd t)) (rH rel (hd t)) a.val d : ℝ) : EReal) := by
  have hp : hd (prev t) = hd t := Fin.ext (by rw [hd_val, hd_val]; show (t.val - 1) / 2 = _; omega)
  have hg : (prev t).val % 2 = 0 := by show (t.val - 1) % 2 = 0; omega
  refine (added_real (fun a d => vals1 m c (prev t) (ix2 a d)) (fv q k o rel (hd t) (t.val % 2)) (fun r h y d => (toV_real m c hq hk hr ho t h y d).trans ?_) (fun x h d => ?_) a d).trans ?_
  · rw [half_eq]
  · rw [half_eq] at h
    unfold fv
    rw [Finset.sum_eq_zero fun s hs => by rw [pr_far (far_of (Finset.mem_range.1 hs) h), zero_mul]]
  · rw [vals1_real m c hq hk hr ho, hp, hg, ht, ← EReal.coe_add]
    unfold fv gv
    rw [halves]

/-! ## The three arrays -/

omit hq hk hv hr ho in
theorem col_head (t : Fin cfg0.N) (d : Fin 128) : Fin.ofNat 16 ((t.val / 2 * 128 + d.val) / 128) = hd t ∧ Fin.ofNat 128 (t.val / 2 * 128 + d.val) = d := by
  have := lt_32 t
  refine ⟨Fin.ext ?_, Fin.ext ?_⟩
  · rw [hd_val]; show (t.val / 2 * 128 + d.val) / 128 % 16 = _; omega
  · show (t.val / 2 * 128 + d.val) % 128 = _; omega

omit hq hk hv hr ho in
theorem odd_of_flush : (∀ t : Fin cfg0.N, (cfg0.win 6).flush t = true → t.val % 2 = 1) ∧ ∀ t : Fin cfg0.N, (cfg0.win 7).flush t = true → t.val % 2 = 1 :=
  (by decide +kernel : (∀ t : Fin grid0.N, _) ∧ ∀ t : Fin grid0.N, _)

theorem arr5 : (dats m 0 c).arrAt 5 cfg0.N = GQ q k v o rel := by
  refine Dat.arrAt_eq_of_covers _ 5 _ (by decide +kernel) fun t hf y => ?_
  blk_simp
  rw [held5]
  have ht := lt_32 t
  obtain ⟨a, d, rfl⟩ : ∃ (a : Fin 4096) (d : Fin 128), y = ix2 a d := ⟨_, _, eq_ix2 y⟩
  have e : ((((cfg0.win 5).blk t).view.emb (ix2 a d)) : S8192x2048.Idx) = ix2 ⟨t.val % 2 * 4096 + a.val, by omega⟩ ⟨t.val / 2 * 128 + d.val, by omega⟩ := by
    blk_ext [idx t]
  refine (queries_real m c hq hk hv hr ho t a d).trans (Eq.trans ?_ (congrArg (GQ q k v o rel) e).symm)
  obtain ⟨e1, e2⟩ := col_head t d
  rw [GQ_apply q k v o rel _ _ e1 e2]
  exact congrArg (fun n : ℕ => ((gq (qH q (hd t)) (kH k (hd t)) (kH v (hd t)) (oH o (hd t)) (rH rel (hd t)) (n + a.val) d : ℝ) : EReal)) (Nat.mul_comm _ _)

theorem arr6 : (dats m 0 c).arrAt 6 cfg0.N = GK q k v o rel := by
  refine Dat.arrAt_eq_of_covers _ 6 _ (by decide +kernel) fun t hf y => ?_
  blk_simp
  have h1 : t.val % 2 = 1 := odd_of_flush.1 t hf
  rw [held6 m c t (by omega)]
  have ht := lt_32 t
  obtain ⟨a, d, rfl⟩ : ∃ (a : Fin 8704) (d : Fin 128), y = ix2 a d := ⟨_, _, eq_ix2 y⟩
  have e : ((((cfg0.win 6).blk t).view.emb (ix2 a d)) : S8704x2048.Idx) = ix2 a ⟨t.val / 2 * 128 + d.val, by omega⟩ := by
    blk_ext [idx t]
  refine (keys2_real m c hq hk hv hr ho t h1 a d).trans (Eq.trans ?_ (congrArg (GK q k v o rel) e).symm)
  obtain ⟨e1, e2⟩ := col_head t d
  exact (GK_apply q k v o rel _ _ e1 e2).symm

omit hv in
theorem arr7 : (dats m 0 c).arrAt 7 cfg0.N = GV q k o rel := by
  refine Dat.arrAt_eq_of_covers _ 7 _ (by decide +kernel) fun t hf y => ?_
  blk_simp
  have h1 : t.val % 2 = 1 := odd_of_flush.2 t hf
  rw [held7 m c t (by omega)]
  have ht := lt_32 t
  obtain ⟨a, d, rfl⟩ : ∃ (a : Fin 8704) (d : Fin 128), y = ix2 a d := ⟨_, _, eq_ix2 y⟩
  have e : ((((cfg0.win 7).blk t).view.emb (ix2 a d)) : S8704x2048.Idx) = ix2 a ⟨t.val / 2 * 128 + d.val, by omega⟩ := by
    blk_ext [idx t]
  refine (vals2_real m c hq hk hr ho t h1 a d).trans (Eq.trans ?_ (congrArg (GV q k o rel) e).symm)
  obtain ⟨e1, e2⟩ := col_head t d
  exact (GV_apply q k o rel _ _ e1 e2).symm

end Cert.AttnArrays

end
end
-- ==== Proof.AttnRefBand.lean ====
/-
  The reference's bands read at an index, over the reals: the queries of a chunk, the keys and values of the nine chunks that it sees, its bias, its mask and its scores.
-/
module

public import proofs.«01_k».proof.Proof.AttnGather
public import proofs.«01_k».proof.Proof.AttnHeads
public import proofs.«01_k».proof.Proof.Coe
public import proofs.«01_k».proof.Proof.Gen.AttnRefIdeal.Read

@[expose] public section

set_option maxRecDepth 16384

noncomputable section

namespace Cert.AttnRef

open Cert.AttnRefIdeal Cert.AttnRefIdeal.Read Cert.AttnHeads Cert.AttnSpec Cert.Coe
open Idealize.ShloMosaic Idealize.ShloMosaic.TcCoe Idealize.SL.Sem
open Idealize.ShloMosaic.Pointwise

variable {x0 x1 x2 : (⟨S1x8192x16x128, .f32⟩ : BufTy).Contents (Elt Ideal)} {x3 : (⟨S16x257, .f32⟩ : BufTy).Contents (Elt Ideal)}
  {x4 : (⟨S1x8192x2048, .f32⟩ : BufTy).Contents (Elt Ideal)}
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (x0 : S1x8192x16x128.Idx → EReal) i = ((q i : ℝ) : EReal))
  (hk : ∀ i, (x1 : S1x8192x16x128.Idx → EReal) i = ((k i : ℝ) : EReal))
  (hv : ∀ i, (x2 : S1x8192x16x128.Idx → EReal) i = ((v i : ℝ) : EReal))
  (hr : ∀ i, (x3 : S16x257.Idx → EReal) i = ((rel i : ℝ) : EReal))
  (ho : ∀ i, (x4 : S1x8192x2048.Idx → EReal) i = ((o i : ℝ) : EReal))

include hq in
/-- The queries by chunks. -/
theorem band_q (n : Fin 128) (i : Fin 64) (h : Fin 16) (d : Fin 128) :
    (val_main_v31 (F := Ideal) x0 : S1x128x64x16x128.Idx → EReal) (ix5 0 n i h d) = ((qH q h (64 * n.val + i.val) d : ℝ) : EReal) := by
  pointwise [val_main_v31]
  refine (hq _).trans (congrArg (fun r : ℝ => (r : EReal)) (congrArg q (congrArg (fun a => ix4 0 a h d) (Fin.ext ?_))))
  show n.val * 64 + i.val = (64 * n.val + i.val) % 8192
  omega

include hk in
/-- The padded keys by chunks. -/
theorem chunk_k (n : Fin 136) (i : Fin 64) (h : Fin 16) (d : Fin 128) :
    (val_main_v32 (F := Ideal) x1 : S1x136x64x16x128.Idx → EReal) (ix5 0 n i h d) = ((kH k h (64 * n.val + i.val) d : ℝ) : EReal) := by
  pointwise [val_main_v32, val_main_v1, val_main_v0, val_main_cst]
  unfold kH qH
  by_cases e : n.val * 64 + i.val < 512
  · rw [if_pos (show 64 * n.val + i.val < 512 by omega)]
    exact dif_pos e
  · rw [if_neg (show ¬64 * n.val + i.val < 512 by omega)]
    refine (dif_neg e).trans ?_
    refine (hk _).trans (congrArg (fun r : ℝ => (r : EReal)) (congrArg k (congrArg (fun a => ix4 0 a h d) (Fin.ext ?_))))
    show n.val * 64 + i.val - 512 = (64 * n.val + i.val - 512) % 8192
    omega

include hk in
/-- The keys that chunk `n` sees, in their order. -/
theorem band_k (n : Fin 128) (y : Fin 576) (h : Fin 16) (d : Fin 128) :
    (val_main_v42 (F := Ideal) x1 : S1x128x576x16x128.Idx → EReal) (ix5 0 n y h d) = ((kH k h (64 * n.val + y.val) d : ℝ) : EReal) := by
  pointwise [val_main_v42, val_main_v33, val_main_v34, val_main_v35, val_main_v36, val_main_v37, val_main_v38, val_main_v39, val_main_v40, val_main_v41]
  split_ifs <;>
  · refine (chunk_k hk _ _ h d).trans ?_
    refine congrArg (fun a : ℕ => ((kH k h a d : ℝ) : EReal)) ?_
    first | omega | (dsimp only; done) | (dsimp only; omega)

include hv in
/-- The values that chunk `n` sees: the same function of the values. -/
theorem band_v (n : Fin 128) (y : Fin 576) (h : Fin 16) (d : Fin 128) :
    (val_main_v53 (F := Ideal) x2 : S1x128x576x16x128.Idx → EReal) (ix5 0 n y h d) = ((kH v h (64 * n.val + y.val) d : ℝ) : EReal) :=
  (congrFun (show val_main_v53 (F := Ideal) x2 = val_main_v42 (F := Ideal) x2 from rfl) _).trans (band_k hv n y h d)

include ho in
/-- The cotangent by chunks. -/
theorem band_o (n : Fin 128) (i : Fin 64) (h : Fin 16) (d : Fin 128) :
    (val_main_v101 (F := Ideal) x4 : S1x128x16x128x64.Idx → EReal) (ix5 0 n h d i) = ((oH o h (64 * n.val + i.val) d : ℝ) : EReal) := by
  pointwise [val_main_v101, val_main_v100]
  refine (ho _).trans (congrArg (fun r : ℝ => (r : EReal)) (congrArg o (congrArg₂ (fun a b => ix3 0 a b) (Fin.ext ?_) (Fin.ext ?_))))
  · show n.val * 64 + i.val = (64 * n.val + i.val) % 8192
    omega
  · show h.val * 128 + d.val = (128 * h.val + d.val) % 2048
    omega

theorem gather_bias (x : S16x257.Idx → EReal) (idx : IVec S64x576x1 32) (h : Fin 16) (i : Fin 64) (y : Fin 576) (n : Fin 257)
    (e : (idx (ix3 i y 0)).toInt.toNat = n.val) :
    Host.gather gather_S16x257_S64x576x1_S16x64x576_0_1_n_n_1_2_161 x idx (ix3 h i y) = x (ix2 h n) :=
  AttnGather.gather_col _ x idx h i y n e

theorem column_word (i : Fin 64) (y : Fin 576) : (val_main_v17 (F := Ideal)) (ix2 i y)
    = IntOp.addi (IntOp.minsi 128#32 (IntOp.maxsi 4294967168#32 (IntOp.subi (IntOp.addi 512#32 (BitVec.ofNat 32 i.val)) (BitVec.ofNat 32 y.val)))) 128#32 := by
  pointwise [val_main_v17, val_main_v16, val_main_v15, val_main_v14, val_main_v13, val_main_v12, val_main_v11, val_main_v10, val_main_v9, val_main_v8, val_main_v7, val_main_v6,
    val_main_c, val_main_c_3, val_main_c_4, val_main_c_5, val_main_call0_v0, val_main_call0_v1, val_main_call0_v2, val_main_call0_v3, val_main_call0_v4]
  rfl

include hr in
/-- The bias of a place of a chunk's band. -/
theorem bias_at (h : Fin 16) (i : Fin 64) (y : Fin 576) :
    (val_main_v24 (F := Ideal) x3 : S16x64x576.Idx → EReal) (ix3 h i y) = ((rH rel h (min (640 + i.val - y.val) 256) : ℝ) : EReal) := by
  have hn : (Fin.ofNat 257 (min (640 + i.val - y.val) 256)).val = min (640 + i.val - y.val) 256 := Nat.mod_eq_of_lt (by omega)
  unfold val_main_v24
  rw [gather_bias _ _ h i y (Fin.ofNat 257 (min (640 + i.val - y.val) 256)) ?e]
  case e =>
    rw [hn]
    pointwise [val_main_v23, val_main_v22, val_main_v21, val_main_v20, val_main_v19, val_main_v18, val_main_c_6, val_main_c_7]
    exact AttnGather.column_of y.val i.val (by omega) (by omega) _ (column_word i y)
  exact hr _

/-- The mask. -/
theorem valid_at (n : Fin 128) (i : Fin 64) (h : Fin 16) (y : Fin 576) :
    val_main_v68_1 (F := Ideal) (ix5 0 n h i y) = if Sees (64 * n.val + i.val) (64 * n.val + y.val) then 1#1 else 0#1 := by
  pointwise [val_main_v68_1, val_main_v67, val_main_v66, val_main_v65, val_main_v64, val_main_v63, val_main_v62, val_main_v61, val_main_v60, val_main_v30, val_main_v29, val_main_v28,
    val_main_v27, val_main_v26, val_main_v25, val_main_c_8, val_main_c_9, val_main_c_11]
  rw [AttnGather.valid_word _ _ n.isLt y.isLt]
  refine if_congr ?_ rfl rfl
  unfold Sees Near
  omega

include hq hk hr in
/-- The scores. -/
theorem score_at (n : Fin 128) (i : Fin 64) (h : Fin 16) (y : Fin 576) :
    (val_main_v68_0 (F := Ideal) x0 x1 x3 : S1x128x16x64x576.Idx → EReal) (ix5 0 n h i y)
      = if Sees (64 * n.val + i.val) (64 * n.val + y.val)
        then ((sc (qH q h) (kH k h) (rH rel h) (64 * n.val + i.val) (64 * n.val + y.val) : ℝ) : EReal) else ⊥ := by
  pointwise [val_main_v68_0, val_main_call1_v2, val_main_call1_v0, val_main_cst_12, val_main_v59, val_main_v58, val_main_v57, val_main_v56, val_main_v55, val_main_v54, val_main_cst_10]
  rw [valid_at, Finset.sum_congr rfl fun d _ => by rw [band_q hq, band_k hk, ← EReal.coe_mul], sum_coe, bias_at hr, sm_word, ← EReal.coe_mul, ← EReal.coe_add]
  split_ifs with hs
  · refine congrArg (fun r : ℝ => (r : EReal)) ?_
    unfold sc
    rw [Finset.sum_congr rfl fun d _ => mul_comm (kH k h (64 * n.val + y.val) d) _, show 640 + (64 * n.val + i.val) - (64 * n.val + y.val) = 640 + i.val - y.val by omega]
  · show Ideal.ofBits FTy.f32 0xFF800000#32 = ⊥
    simp [Ideal.ofBits, Ideal.ieee]

end Cert.AttnRef

end
end
-- ==== Proof.AttnRefGrad.lean ====
/-
  The reference's softmax and its gradients read at an index, over the reals: the probabilities of a chunk's rows, the cotangent of their scores, the queries' gradient,
  and the shares of a chunk's queries in the gradients of the keys and values that they see.
-/
module

public import proofs.«01_k».proof.Proof.AttnRefBand

@[expose] public section

set_option maxRecDepth 16384

noncomputable section

namespace Cert.AttnRef

open Cert.AttnRefIdeal Cert.AttnRefIdeal.Read Cert.AttnHeads Cert.AttnSpec Cert.Coe
open Idealize.ShloMosaic Idealize.ShloMosaic.TcCoe Idealize.SL.Sem
open Idealize.ShloMosaic.Pointwise

variable {x0 x1 x2 : (⟨S1x8192x16x128, .f32⟩ : BufTy).Contents (Elt Ideal)} {x3 : (⟨S16x257, .f32⟩ : BufTy).Contents (Elt Ideal)}
  {x4 : (⟨S1x8192x2048, .f32⟩ : BufTy).Contents (Elt Ideal)}
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (x0 : S1x8192x16x128.Idx → EReal) i = ((q i : ℝ) : EReal))
  (hk : ∀ i, (x1 : S1x8192x16x128.Idx → EReal) i = ((k i : ℝ) : EReal))
  (hv : ∀ i, (x2 : S1x8192x16x128.Idx → EReal) i = ((v i : ℝ) : EReal))
  (hr : ∀ i, (x3 : S16x257.Idx → EReal) i = ((rel i : ℝ) : EReal))
  (ho : ∀ i, (x4 : S1x8192x2048.Idx → EReal) i = ((o i : ℝ) : EReal))

theorem ofBits_bot : Ideal.ofBits FTy.f32 0xFF800000#32 = ⊥ := by simp [Ideal.ofBits, Ideal.ieee]

/-- The largest score of a row. -/
theorem max_row (x : S1x128x16x64x576.Idx → EReal) (n : Fin 128) (h : Fin 16) (i : Fin 64) :
    Host.reduce (FloatOps.maximumf (F := Ideal) (φ := .f32)) x (constant (F := Ideal) S_ .f32 0xFF800000#32) Gen.reducesTo_S1x128x16x64x576_S1x128x16x64_d4 Gen.h_S_ (ix4 0 n h i)
      = Finset.fold max ⊥ (fun y => x (ix5 0 n h i y)) Finset.univ := by
  pointwise []
  rw [ofBits_bot]

/-- A sum over two axes of one place each. -/
theorem sum_unit (x : S1x128x16x64x1.Idx → EReal) (n : Fin 128) (h : Fin 16) (i : Fin 64) :
    Host.reduceAdd (F := Ideal) (φ := .f32) x (constant (F := Ideal) S_ .f32 0x00000000#32) Gen.reducesTo_S1x128x16x64x1_S128x16x64_d0_4 Gen.h_S_ (ix3 n h i) = x (ix5 0 n h i 0) := by
  have hf : Finset.univ.filter (fun j => Gen.reducesTo_S1x128x16x64x1_S128x16x64_d0_4.drop j = ix3 n h i) = {ix5 0 n h i 0} := by
    ext j
    obtain ⟨a, b, c, e, f, rfl⟩ : ∃ a b c e f, j = ix5 a b c e f := ⟨_, _, _, _, _, eq_ix5 j⟩
    have hd : Gen.reducesTo_S1x128x16x64x1_S128x16x64_d0_4.drop (ix5 a b c e f) = ix3 b c e := by
      funext w
      match w with
      | ⟨0, _⟩ => rfl
      | ⟨1, _⟩ => rfl
      | ⟨2, _⟩ => rfl
    rw [Finset.mem_filter, Finset.mem_singleton, hd]
    constructor
    · rintro ⟨-, q⟩
      rw [show a = 0 from Subsingleton.elim a 0, show f = 0 from Subsingleton.elim f 0, show b = n from congrFun q 0, show c = h from congrFun q 1, show e = i from congrFun q 2]
    · intro q
      refine ⟨Finset.mem_univ _, ?_⟩
      rw [show b = n from congrFun q 1, show c = h from congrFun q 2, show e = i from congrFun q 3]
  rw [Host.reduceAdd_apply, Ideal.hostReduceAdd_def]
  unfold Ideal.hostReduceAdd
  rw [hf, Finset.sum_singleton]
  pointwise []

theorem shift_at {n : Fin 128} {i : Fin 64} {h : Fin 16} {μ : ℝ} (hμ : (val_main_v69 (F := Ideal) x0 x1 x3 : S1x128x16x64.Idx → EReal) (ix4 0 n h i) = (μ : EReal)) (y : Fin 576) :
    (val_main_v87 (F := Ideal) x0 x1 x3 : S1x128x16x64x576.Idx → EReal) (ix5 0 n h i y) = (μ : EReal) := by
  have e : (val_main_v75 (F := Ideal) : S1x128x16x64.Idx → EReal) (ix4 0 n h i) = ⊥ := by
    pointwise [val_main_v75, val_main_cst_15]
    exact ofBits_bot
  pointwise [val_main_v87, val_main_v86]
  rw [val_main_v76_apply, hμ, e]
  exact max_eq_right bot_le

theorem max_at {n : Fin 128} {i : Fin 64} {h : Fin 16} {μ : ℝ} (hμ : Finset.fold max ⊥ (fun y => (val_main_v68_0 (F := Ideal) x0 x1 x3 : S1x128x16x64x576.Idx → EReal) (ix5 0 n h i y)) Finset.univ = (μ : EReal)) :
    (val_main_v69 (F := Ideal) x0 x1 x3 : S1x128x16x64.Idx → EReal) (ix4 0 n h i) = (μ : EReal) := by
  unfold val_main_v69 val_main_cst_13
  exact (max_row _ n h i).trans hμ

theorem exp_at {n : Fin 128} {i : Fin 64} {h : Fin 16} {μ : EReal} {y : Fin 576} (hm : (val_main_v87 (F := Ideal) x0 x1 x3 : S1x128x16x64x576.Idx → EReal) (ix5 0 n h i y) = μ) :
    (val_main_v89 (F := Ideal) x0 x1 x3 : S1x128x16x64x576.Idx → EReal) (ix5 0 n h i y)
      = Ideal.exp ((val_main_v68_0 (F := Ideal) x0 x1 x3 : S1x128x16x64x576.Idx → EReal) (ix5 0 n h i y) - μ) := by
  subst hm
  rfl

include hq hk hr in
/-- The exponentials of a row of scores: their own, times a factor of the row. -/
theorem exp_row (n : Fin 128) (i : Fin 64) (h : Fin 16) : ∃ E : ℝ, E ≠ 0 ∧ ∀ y : Fin 576,
    (val_main_v89 (F := Ideal) x0 x1 x3 : S1x128x16x64x576.Idx → EReal) (ix5 0 n h i y)
      = ((ex (qH q h) (kH k h) (rH rel h) (64 * n.val + i.val) (64 * n.val + y.val) * E : ℝ) : EReal) := by
  have hX := fun y : Fin 576 => score_at hq hk hr n i h y
  obtain ⟨μ, hμ⟩ := row_max (fun y : Fin 576 => Sees (64 * n.val + i.val) (64 * n.val + y.val))
    (fun y => sc (qH q h) (kH k h) (rH rel h) (64 * n.val + i.val) (64 * n.val + y.val)) hX (i0 := ⟨i.val + 512, by omega⟩)
    (by show Sees _ (64 * n.val + (i.val + 512)); rw [← Nat.add_assoc]; exact sees_self _)
  refine ⟨Real.exp (-μ), (Real.exp_pos _).ne', fun y => ?_⟩
  rw [exp_at (shift_at (max_at hμ) y)]
  exact row_exp (fun y : Fin 576 => Sees (64 * n.val + i.val) (64 * n.val + y.val))
    (fun y => sc (qH q h) (kH k h) (rH rel h) (64 * n.val + i.val) (64 * n.val + y.val)) hX μ y

/-- A sum over a row's keys is the sum over the band of the row's chunk. -/
theorem row_sum (n : Fin 128) (i : Fin 64) (f : ℕ → ℝ) (hf : ∀ κ, ¬Near (64 * n.val + i.val) κ → f κ = 0) :
    ∑ κ ∈ Finset.range 8704, f κ = ∑ y : Fin 576, f (64 * n.val + y.val) :=
  sum_band f (by omega) fun κ _ hn => hf κ fun hh => hn (near_chunk i.isLt hh)

include hq hk hr in
/-- A row's sum, with the row's factor. -/
theorem exp_tot {n : Fin 128} {i : Fin 64} {h : Fin 16} {E : ℝ} (hE : ∀ y : Fin 576, (val_main_v89 (F := Ideal) x0 x1 x3 : S1x128x16x64x576.Idx → EReal) (ix5 0 n h i y)
      = ((ex (qH q h) (kH k h) (rH rel h) (64 * n.val + i.val) (64 * n.val + y.val) * E : ℝ) : EReal)) :
    (val_main_v91 (F := Ideal) x0 x1 x3 : S1x128x16x64x1.Idx → EReal) (ix5 0 n h i 0) = ((tot (qH q h) (kH k h) (rH rel h) (64 * n.val + i.val) * E : ℝ) : EReal) := by
  pointwise [val_main_v91, val_main_v90, val_main_cst_21]
  rw [Finset.sum_congr rfl fun y _ => hE y, sum_coe, ← Finset.sum_mul]
  unfold tot
  rw [row_sum n i _ fun κ hn => ex_far hn]

include hq hk hr in
/-- The softmax. -/
theorem prob_at (n : Fin 128) (i : Fin 64) (h : Fin 16) (y : Fin 576) :
    (val_main_v93 (F := Ideal) x0 x1 x3 : S1x128x16x64x576.Idx → EReal) (ix5 0 n h i y)
      = ((pr (qH q h) (kH k h) (rH rel h) (64 * n.val + i.val) (64 * n.val + y.val) : ℝ) : EReal) := by
  obtain ⟨E, h0, hE⟩ := exp_row hq hk hr n i h
  have ht : tot (qH q h) (kH k h) (rH rel h) (64 * n.val + i.val) ≠ 0 := (tot_pos (by omega)).ne'
  pointwise [val_main_v93, val_main_v92]
  rw [exp_tot hq hk hr hE, hE, div_real (mul_ne_zero ht h0), mul_div_mul_right _ _ h0]
  rfl

include hv ho in
/-- The cotangent of the softmax. -/
theorem dp_at (n : Fin 128) (i : Fin 64) (h : Fin 16) (y : Fin 576) :
    (val_main_v102 (F := Ideal) x2 x4 : S1x128x16x64x576.Idx → EReal) (ix5 0 n h i y)
      = ((dp (kH v h) (oH o h) (64 * n.val + i.val) (64 * n.val + y.val) : ℝ) : EReal) := by
  pointwise [val_main_v102]
  rw [Finset.sum_congr rfl fun d _ => by rw [band_o ho, band_v hv, ← EReal.coe_mul, mul_comm], sum_coe]
  rfl

include hq hk hv hr ho in
/-- What the derivative of the row's sum adds to each of its places. -/
theorem drop_at {n : Fin 128} {i : Fin 64} {h : Fin 16} {E : ℝ} (h0 : E ≠ 0) (hE : ∀ y : Fin 576, (val_main_v89 (F := Ideal) x0 x1 x3 : S1x128x16x64x576.Idx → EReal) (ix5 0 n h i y)
      = ((ex (qH q h) (kH k h) (rH rel h) (64 * n.val + i.val) (64 * n.val + y.val) * E : ℝ) : EReal)) (y : Fin 576) :
    (val_main_v115 (F := Ideal) x0 x1 x2 x3 x4 : S1x128x16x64x576.Idx → EReal) (ix5 0 n h i y)
      = ((-((∑ κ ∈ Finset.range 8704, dp (kH v h) (oH o h) (64 * n.val + i.val) κ * pr (qH q h) (kH k h) (rH rel h) (64 * n.val + i.val) κ)
            / (tot (qH q h) (kH k h) (rH rel h) (64 * n.val + i.val) * E)) : ℝ) : EReal) := by
  have ht : tot (qH q h) (kH k h) (rH rel h) (64 * n.val + i.val) ≠ 0 := (tot_pos (by omega)).ne'
  have hs : (val_main_v108 (F := Ideal) x0 x1 x2 x3 x4 : S1x128x16x64.Idx → EReal) (ix4 0 n h i)
      = (((∑ κ ∈ Finset.range 8704, dp (kH v h) (oH o h) (64 * n.val + i.val) κ * pr (qH q h) (kH k h) (rH rel h) (64 * n.val + i.val) κ)
            / (tot (qH q h) (kH k h) (rH rel h) (64 * n.val + i.val) * E) : ℝ) : EReal) := by
    pointwise [val_main_v108, val_main_v107, val_main_v106, val_main_v105, val_main_v96, val_main_v94, val_main_v95, val_main_cst_22, val_main_cst_23]
    rw [Finset.sum_congr rfl fun x _ => by
      rw [exp_tot hq hk hr hE, hE, dp_at hv ho, ← EReal.coe_mul, ← EReal.coe_one, div_real (mul_ne_zero (mul_ne_zero ht h0) (mul_ne_zero ht h0)), ← EReal.coe_mul, ← EReal.coe_mul]]
    rw [sum_coe, row_sum n i _ fun κ hn => by rw [pr_far hn, mul_zero], Finset.sum_div]
    refine congrArg (fun r : ℝ => (r : EReal)) (Finset.sum_congr rfl fun x _ => ?_)
    unfold pr
    field_simp
  pointwise [val_main_v115, val_main_v114]
  rw [show val_main_v113 (F := Ideal) x0 x1 x2 x3 x4 (ix3 n h i) = val_main_v110 (F := Ideal) x0 x1 x2 x3 x4 (ix5 0 n h i 0) from sum_unit _ n h i]
  pointwise [val_main_v110, val_main_v109]
  rw [hs, ← EReal.coe_neg]

include hq hk hv hr ho in
/-- The cotangent of the scores, scaled. -/
theorem dsc_at (n : Fin 128) (i : Fin 64) (h : Fin 16) (y : Fin 576) :
    (val_main_v120 (F := Ideal) x0 x1 x2 x3 x4 : S1x128x16x64x576.Idx → EReal) (ix5 0 n h i y)
      = ((dsc (qH q h) (kH k h) (kH v h) (oH o h) (rH rel h) (64 * n.val + i.val) (64 * n.val + y.val) * sm : ℝ) : EReal) := by
  obtain ⟨E, h0, hE⟩ := exp_row hq hk hr n i h
  have ht : tot (qH q h) (kH k h) (rH rel h) (64 * n.val + i.val) ≠ 0 := (tot_pos (by omega)).ne'
  pointwise [val_main_v120, val_main_v119, val_main_v118, val_main_v117, val_main_v116, val_main_v112, val_main_v111, val_main_cst_25, val_main_call2_v0, val_main_call2_cst]
  rw [valid_at, exp_tot hq hk hr hE, hE, dp_at hv ho, drop_at hq hk hv hr ho h0 hE, sm_word, div_real (mul_ne_zero ht h0), ← EReal.coe_add, ← EReal.coe_mul]
  by_cases hs : Sees (64 * n.val + i.val) (64 * n.val + y.val)
  · rw [if_pos hs]
    refine (EReal.coe_mul _ _).symm.trans (congrArg (fun r : ℝ => (r : EReal)) ?_)
    unfold dsc
    rw [show pr (qH q h) (kH k h) (rH rel h) (64 * n.val + i.val) (64 * n.val + y.val) = ex (qH q h) (kH k h) (rH rel h) (64 * n.val + i.val) (64 * n.val + y.val)
      / tot (qH q h) (kH k h) (rH rel h) (64 * n.val + i.val) from rfl]
    field_simp
    ring
  · rw [if_neg hs, show dsc (qH q h) (kH k h) (kH v h) (oH o h) (rH rel h) (64 * n.val + i.val) (64 * n.val + y.val) = 0 by
      unfold dsc pr ex; rw [if_neg hs, zero_div, zero_mul], zero_mul, EReal.coe_zero]
    rfl

include hq hk hv hr ho in
/-- The queries' gradient. -/
theorem dq_at (n : Fin 128) (i : Fin 64) (h : Fin 16) (d : Fin 128) :
    (val_main_v124 (F := Ideal) x0 x1 x2 x3 x4 : S1x128x64x16x128.Idx → EReal) (ix5 0 n i h d)
      = ((gq (qH q h) (kH k h) (kH v h) (oH o h) (rH rel h) (64 * n.val + i.val) d : ℝ) : EReal) := by
  pointwise [val_main_v124, val_main_v123]
  rw [Finset.sum_congr rfl fun y _ => by rw [dsc_at hq hk hv hr ho, band_k hk, ← EReal.coe_mul], sum_coe]
  unfold gq
  rw [row_sum n i _ fun κ hn => by rw [dsc_far hn, zero_mul], Finset.sum_mul]
  exact congrArg (fun r : ℝ => (r : EReal)) (Finset.sum_congr rfl fun y _ => by ring)

include hq hk hv hr ho in
/-- A chunk's share in the gradients of the keys that it sees. -/
theorem dk_band (n : Fin 128) (y : Fin 576) (h : Fin 16) (d : Fin 128) :
    (val_main_v122 (F := Ideal) x0 x1 x2 x3 x4 : S1x128x576x16x128.Idx → EReal) (ix5 0 n y h d)
      = ((∑ i : Fin 64, dsc (qH q h) (kH k h) (kH v h) (oH o h) (rH rel h) (64 * n.val + i.val) (64 * n.val + y.val) * qH q h (64 * n.val + i.val) d * sm : ℝ) : EReal) := by
  pointwise [val_main_v122, val_main_v121]
  rw [Finset.sum_congr rfl fun y _ => by rw [dsc_at hq hk hv hr ho, band_q hq, ← EReal.coe_mul], sum_coe]
  exact congrArg (fun r : ℝ => (r : EReal)) (Finset.sum_congr rfl fun y _ => by ring)

include hq hk hr ho in
/-- A chunk's share in the gradients of the values that it sees. -/
theorem dv_band (n : Fin 128) (y : Fin 576) (h : Fin 16) (d : Fin 128) :
    (val_main_v104 (F := Ideal) x0 x1 x3 x4 : S1x128x576x16x128.Idx → EReal) (ix5 0 n y h d)
      = ((∑ i : Fin 64, pr (qH q h) (kH k h) (rH rel h) (64 * n.val + i.val) (64 * n.val + y.val) * oH o h (64 * n.val + i.val) d : ℝ) : EReal) := by
  pointwise [val_main_v104, val_main_v103]
  rw [Finset.sum_congr rfl fun y _ => by rw [prob_at hq hk hr, band_o ho, ← EReal.coe_mul], sum_coe]
  exact congrArg (fun r : ℝ => (r : EReal)) (Finset.sum_congr rfl fun y _ => by ring)

end Cert.AttnRef

end

end
-- ==== Proof.AttnRefFold.lean ====
/-
  The reference's results over the reals: a key's share of the nine chunks that see it, added up, is the sum over all queries; and the three arrays are the attention's gradients.
-/
module

public import proofs.«01_k».proof.Proof.AttnRefGrad

@[expose] public section

set_option maxRecDepth 16384

noncomputable section

namespace Cert.AttnRef

open Cert.AttnRefIdeal Cert.AttnRefIdeal.Read Cert.AttnHeads Cert.AttnSpec Cert.Coe
open Idealize.ShloMosaic Idealize.ShloMosaic.TcCoe Idealize.SL.Sem
open Idealize.ShloMosaic.Pointwise

variable {x0 x1 x2 : (⟨S1x8192x16x128, .f32⟩ : BufTy).Contents (Elt Ideal)} {x3 : (⟨S16x257, .f32⟩ : BufTy).Contents (Elt Ideal)}
  {x4 : (⟨S1x8192x2048, .f32⟩ : BufTy).Contents (Elt Ideal)}
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (x0 : S1x8192x16x128.Idx → EReal) i = ((q i : ℝ) : EReal))
  (hk : ∀ i, (x1 : S1x8192x16x128.Idx → EReal) i = ((k i : ℝ) : EReal))
  (hv : ∀ i, (x2 : S1x8192x16x128.Idx → EReal) i = ((v i : ℝ) : EReal))
  (hr : ∀ i, (x3 : S16x257.Idx → EReal) i = ((rel i : ℝ) : EReal))
  (ho : ∀ i, (x4 : S1x8192x2048.Idx → EReal) i = ((o i : ℝ) : EReal))

/-- One of the nine shares, written by the reference as a padded slice. -/
theorem share {V : Fin 128 → Fin 576 → EReal} {g : ℕ → ℕ → ℝ} (hV : ∀ n y, V n y = ((∑ i : Fin 64, g (64 * n.val + i.val) (64 * n.val + y.val) : ℝ) : EReal))
    (c r j : ℕ) (P : Prop) [Decidable P] (hP : P ↔ j ≤ c ∧ c - j < 128) (a : P → Fin 128) (b : P → Fin 576) (ha : ∀ h, (a h).val = c - j) (hb : ∀ h, (b h).val = 64 * j + r) :
    (if h : P then V (a h) (b h) else 0) = ((if j ≤ c ∧ c - j < 128 then ∑ i : Fin 64, g (64 * (c - j) + i.val) (64 * c + r) else 0 : ℝ) : EReal) := by
  by_cases h : P
  · have hh := hP.1 h
    rw [dif_pos h, if_pos hh, hV, ha, hb, show 64 * (c - j) + (64 * j + r) = 64 * c + r by omega]
  · rw [dif_neg h, if_neg fun e => h (hP.2 e), EReal.coe_zero]

theorem add_eq {a b : EReal} {x y : ℝ} (ha : a = (x : EReal)) (hb : b = (y : EReal)) : a + b = ((x + y : ℝ) : EReal) := by
  rw [ha, hb, EReal.coe_add]

/-- The chunks that see chunk `c` are the nine up to it. -/
theorem sum_nine (c : ℕ) (G : ℕ → ℝ) (hG : ∀ t, ¬(t ≤ c ∧ c ≤ t + 8) → G t = 0) :
    ∑ t ∈ Finset.range 128, G t = ∑ j ∈ Finset.range 9, if j ≤ c ∧ c - j < 128 then G (c - j) else 0 := by
  rw [← Finset.sum_filter, ← Finset.sum_filter_of_ne (p := fun t => t ≤ c ∧ c ≤ t + 8) fun t _ h => by_contra fun e => h (hG t e)]
  refine Finset.sum_nbij' (fun t => c - t) (fun j => c - j) ?_ ?_ ?_ ?_ ?_ <;> intro t ht <;> simp only [Finset.mem_filter, Finset.mem_range] at ht ⊢
  · omega
  · omega
  · omega
  · omega
  · rw [show c - (c - t) = t by omega]

/-- The nine shares of a key's chunk make the sum over all queries. -/
theorem nine {V : Fin 128 → Fin 576 → EReal} {g : ℕ → ℕ → ℝ} (hV : ∀ n y, V n y = ((∑ i : Fin 64, g (64 * n.val + i.val) (64 * n.val + y.val) : ℝ) : EReal))
    (hg : ∀ s κ, ¬Near s κ → g s κ = 0) (c : Fin 136) (r : Fin 64) :
    (if h : 8 ≤ c.val ∧ c.val - 8 < 128 then V ⟨c.val - 8, h.2⟩ ⟨512 + r.val, by omega⟩ else 0)
        + (if h : 7 ≤ c.val ∧ c.val - 7 < 128 then V ⟨c.val - 7, h.2⟩ ⟨448 + r.val, by omega⟩ else 0)
        + (if h : 6 ≤ c.val ∧ c.val - 6 < 128 then V ⟨c.val - 6, h.2⟩ ⟨384 + r.val, by omega⟩ else 0)
        + (if h : 5 ≤ c.val ∧ c.val - 5 < 128 then V ⟨c.val - 5, h.2⟩ ⟨320 + r.val, by omega⟩ else 0)
        + (if h : 4 ≤ c.val ∧ c.val - 4 < 128 then V ⟨c.val - 4, h.2⟩ ⟨256 + r.val, by omega⟩ else 0)
        + (if h : 3 ≤ c.val ∧ c.val - 3 < 128 then V ⟨c.val - 3, h.2⟩ ⟨192 + r.val, by omega⟩ else 0)
        + (if h : 2 ≤ c.val ∧ c.val - 2 < 128 then V ⟨c.val - 2, h.2⟩ ⟨128 + r.val, by omega⟩ else 0)
        + (if h : 1 ≤ c.val ∧ c.val - 1 < 128 then V ⟨c.val - 1, h.2⟩ ⟨64 + r.val, by omega⟩ else 0)
        + (if h : c.val < 128 then V ⟨c.val, h⟩ ⟨r.val, by omega⟩ else 0)
      = ((∑ s ∈ Finset.range 8192, g s (64 * c.val + r.val) : ℝ) : EReal) := by
  refine Eq.trans (add_eq (add_eq (add_eq (add_eq (add_eq (add_eq (add_eq (add_eq (share hV c.val r.val 8 _ Iff.rfl _ _ (fun _ => rfl) (fun _ => rfl))
    (share hV c.val r.val 7 _ Iff.rfl _ _ (fun _ => rfl) (fun _ => rfl)))
    (share hV c.val r.val 6 _ Iff.rfl _ _ (fun _ => rfl) (fun _ => rfl)))
    (share hV c.val r.val 5 _ Iff.rfl _ _ (fun _ => rfl) (fun _ => rfl)))
    (share hV c.val r.val 4 _ Iff.rfl _ _ (fun _ => rfl) (fun _ => rfl)))
    (share hV c.val r.val 3 _ Iff.rfl _ _ (fun _ => rfl) (fun _ => rfl)))
    (share hV c.val r.val 2 _ Iff.rfl _ _ (fun _ => rfl) (fun _ => rfl)))
    (share hV c.val r.val 1 _ Iff.rfl _ _ (fun _ => rfl) (fun _ => rfl)))
    (share hV c.val r.val 0 _ (by omega) _ _ (fun _ => rfl) (fun _ => (Nat.zero_add _).symm))) ?_
  refine congrArg (fun r : ℝ => (r : EReal)) ?_
  rw [show (8192 : ℕ) = 64 * 128 from rfl, sum_tiles 64 128, sum_nine c.val (fun t => ∑ b : Fin 64, g (64 * t + b.val) (64 * c.val + r.val)) fun t ht =>
    Finset.sum_eq_zero fun b _ => hg _ _ fun hn => ht (by unfold Near at hn; omega)]
  simp only [Finset.sum_range_succ, Finset.sum_range_zero]
  ring

include hq hk hv hr ho in
/-- The keys' gradient, in chunks. -/
theorem dk_chunk (c : Fin 136) (r : Fin 64) (h : Fin 16) (d : Fin 128) :
    (val_main_v177 (F := Ideal) x0 x1 x2 x3 x4 : S1x136x64x16x128.Idx → EReal) (ix5 0 c r h d)
      = ((gk (qH q h) (kH k h) (kH v h) (oH o h) (rH rel h) (64 * c.val + r.val) d : ℝ) : EReal) := by
  pointwise [val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_cst_35, val_main_cst_36, val_main_cst_37, val_main_cst_38, val_main_cst_39, val_main_cst_40, val_main_cst_41, val_main_cst_42, val_main_cst_43]
  refine (nine (V := fun n y => val_main_v122 (F := Ideal) x0 x1 x2 x3 x4 (ix5 0 n y h d))
    (g := fun s κ => dsc (qH q h) (kH k h) (kH v h) (oH o h) (rH rel h) s κ * qH q h s d * sm) (fun n y => dk_band hq hk hv hr ho n y h d)
    (fun s κ hn => by rw [dsc_far hn, zero_mul, zero_mul]) c r).trans ?_
  unfold gk
  rw [Finset.sum_mul]

include hq hk hr ho in
/-- The values' gradient, in chunks. -/
theorem dv_chunk (c : Fin 136) (r : Fin 64) (h : Fin 16) (d : Fin 128) :
    (val_main_v150 (F := Ideal) x0 x1 x3 x4 : S1x136x64x16x128.Idx → EReal) (ix5 0 c r h d)
      = ((gv (qH q h) (kH k h) (oH o h) (rH rel h) (64 * c.val + r.val) d : ℝ) : EReal) := by
  pointwise [val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_cst_26, val_main_cst_27, val_main_cst_28, val_main_cst_29, val_main_cst_30, val_main_cst_31, val_main_cst_32, val_main_cst_33, val_main_cst_34]
  exact nine (V := fun n y => val_main_v104 (F := Ideal) x0 x1 x3 x4 (ix5 0 n y h d))
    (g := fun s κ => pr (qH q h) (kH k h) (rH rel h) s κ * oH o h s d) (fun n y => dv_band hq hk hr ho n y h d)
    (fun s κ hn => by rw [pr_far hn, zero_mul]) c r

theorem word_zero : (FloatOps.sitofp (F := Ideal) FTy.f32 0#32 : EReal) = ((0 : ℝ) : EReal) := by
  show (((0#32 : BitVec 32).toInt : ℝ) : EReal) = _
  simp

include hq hk hv hr ho in
/-- The queries' gradient: the whole array. -/
theorem ref_q : (val_main_v185 (F := Ideal) x0 x1 x2 x3 x4 : S8192x2048.Idx → EReal) = GQ q k v o rel := by
  funext j
  obtain ⟨x, y, rfl⟩ : ∃ a b, j = ix2 a b := ⟨_, _, eq_ix2 j⟩
  rw [GQ_apply q k v o rel x y (fin_ofNat (by omega)).symm (show Fin.ofNat 128 y.val = ⟨y.val % 128, by omega⟩ from Fin.ext rfl)]
  pointwise [val_main_v185, val_main_v184, val_main_v179]
  refine (dq_at hq hk hv hr ho _ _ _ _).trans ?_
  rw [show 64 * (x.val / 64) + x.val % 64 = x.val by omega]

include hq hk hv hr ho in
/-- The keys' gradient: the whole array. -/
theorem ref_k : (val_main_v187 (F := Ideal) x0 x1 x2 x3 x4 : S8704x2048.Idx → EReal) = GK q k v o rel := by
  funext j
  obtain ⟨x, y, rfl⟩ : ∃ a b, j = ix2 a b := ⟨_, _, eq_ix2 j⟩
  rw [GK_apply q k v o rel x y (fin_ofNat (by omega)).symm (show Fin.ofNat 128 y.val = ⟨y.val % 128, by omega⟩ from Fin.ext rfl)]
  pointwise [val_main_v187, val_main_v186, val_main_v183, val_main_v178, val_main_call3_v0, val_main_c_44]
  by_cases hx : 512 ≤ x.val ∧ x.val - 512 < 8192
  · refine (dif_pos hx).trans ((dk_chunk hq hk hv hr ho _ _ _ _).trans ?_)
    rw [show 64 * ((512 + (x.val - 512)) / 64) + (512 + (x.val - 512)) % 64 = x.val by omega]
  · refine (dif_neg hx).trans (word_zero.trans ?_)
    rw [gk_pad (show x.val < 512 by omega)]

include hq hk hr ho in
/-- The values' gradient: the whole array. -/
theorem ref_v : (val_main_v189 (F := Ideal) x0 x1 x3 x4 : S8704x2048.Idx → EReal) = GV q k o rel := by
  funext j
  obtain ⟨x, y, rfl⟩ : ∃ a b, j = ix2 a b := ⟨_, _, eq_ix2 j⟩
  rw [GV_apply q k o rel x y (fin_ofNat (by omega)).symm (show Fin.ofNat 128 y.val = ⟨y.val % 128, by omega⟩ from Fin.ext rfl)]
  pointwise [val_main_v189, val_main_v188, val_main_v181, val_main_v151, val_main_call4_v0, val_main_c_45]
  by_cases hx : 512 ≤ x.val ∧ x.val - 512 < 8192
  · refine (dif_pos hx).trans ((dv_chunk hq hk hr ho _ _ _ _).trans ?_)
    rw [show 64 * ((512 + (x.val - 512)) / 64) + (512 + (x.val - 512)) % 64 = x.val by omega]
  · refine (dif_neg hx).trans (word_zero.trans ?_)
    rw [gv_pad (show x.val < 512 by omega)]

end Cert.AttnRef

end

end
-- ==== Proof.AttnClaims.lean ====
/- The claims about the attention's gradients: the frames, the reference's frame, and that both programs compute the same three arrays. -/
module

public import proofs.«01_k».proof.Defs
public import proofs.«01_k».proof.Proof.AttnArrays
public import proofs.«01_k».proof.Proof.AttnRefFold
public import proofs.«01_k».proof.Proof.Gen.Attn
public import proofs.«01_k».proof.Proof.Gen.AttnRefIdeal.Run
public import proofs.«01_k».proof.Proof.Gen.Pre_attn_finite
public import Idealize.ShloMosaic.Adequacy
public import Idealize.ShloMosaic.Init

@[expose] public section

set_option maxRecDepth 16384

noncomputable section

namespace Cert.AttnClaims

open Idealize.ShloMosaic Idealize.ShloMosaic.TcCoe Idealize.SL.Sem Cert.Coe

/-- What the run of the ideal program's text over the machine's floats says. -/
def FrameBits : Prop :=
  ∀ (m : (ℓ : Loc Cert.AttnIdeal.nD Cert.AttnIdeal.τ Cert.AttnIdeal.sig) → Buf (Elt Bits) ℓ) (ρ : Dev Cert.AttnIdeal.nD → PrngReg), True →
    θ_run (Cert.AttnIdeal.defs (F := Bits)) (onTc (τ := Cert.AttnIdeal.τ) (Cert.AttnIdeal.main (F := Bits))) ⟨m, fun _ => 0, ρ⟩
      (fun r => (∀ c : Dev Cert.AttnIdeal.nD,
        r.2.mem ((c.tc : Thread _ Cert.AttnIdeal.τ).loc Cert.AttnIdeal.main_arg0) = m ((c.tc : Thread _ Cert.AttnIdeal.τ).loc Cert.AttnIdeal.main_arg0)
        ∧ r.2.mem ((c.tc : Thread _ Cert.AttnIdeal.τ).loc Cert.AttnIdeal.main_arg1) = m ((c.tc : Thread _ Cert.AttnIdeal.τ).loc Cert.AttnIdeal.main_arg1)
        ∧ r.2.mem ((c.tc : Thread _ Cert.AttnIdeal.τ).loc Cert.AttnIdeal.main_arg2) = m ((c.tc : Thread _ Cert.AttnIdeal.τ).loc Cert.AttnIdeal.main_arg2)
        ∧ r.2.mem ((c.tc : Thread _ Cert.AttnIdeal.τ).loc Cert.AttnIdeal.main_arg3) = m ((c.tc : Thread _ Cert.AttnIdeal.τ).loc Cert.AttnIdeal.main_arg3)
        ∧ r.2.mem ((c.tc : Thread _ Cert.AttnIdeal.τ).loc Cert.AttnIdeal.main_arg4) = m ((c.tc : Thread _ Cert.AttnIdeal.τ).loc Cert.AttnIdeal.main_arg4))
        ∧ r.2.sem = fun _ => 0)

/-- It is the kernel's frame claim: the two texts are one. -/
theorem frame_same : Cert.quiescent_Attn = FrameBits := by sl_kernel_rfl

theorem frame_kernel : Cert.quiescent_Attn := frame_same.mpr fun m ρ _ => Cert.AttnLaunch.frame (F := Bits) m ρ

theorem frame_ref (m : (ℓ : Loc Cert.AttnRefIdeal.nD Cert.AttnRefIdeal.τ Cert.AttnRefIdeal.sig) → Buf (Elt Ideal) ℓ)
    (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩
      (fun r => (∀ c : Dev Cert.AttnRefIdeal.nD,
        r.2.mem ((c.tc : Thread _ Cert.AttnRefIdeal.τ).loc Cert.AttnRefIdeal.main_arg0) = m ((c.tc : Thread _ Cert.AttnRefIdeal.τ).loc Cert.AttnRefIdeal.main_arg0)
        ∧ r.2.mem ((c.tc : Thread _ Cert.AttnRefIdeal.τ).loc Cert.AttnRefIdeal.main_arg1) = m ((c.tc : Thread _ Cert.AttnRefIdeal.τ).loc Cert.AttnRefIdeal.main_arg1)
        ∧ r.2.mem ((c.tc : Thread _ Cert.AttnRefIdeal.τ).loc Cert.AttnRefIdeal.main_arg2) = m ((c.tc : Thread _ Cert.AttnRefIdeal.τ).loc Cert.AttnRefIdeal.main_arg2)
        ∧ r.2.mem ((c.tc : Thread _ Cert.AttnRefIdeal.τ).loc Cert.AttnRefIdeal.main_arg3) = m ((c.tc : Thread _ Cert.AttnRefIdeal.τ).loc Cert.AttnRefIdeal.main_arg3)
        ∧ r.2.mem ((c.tc : Thread _ Cert.AttnRefIdeal.τ).loc Cert.AttnRefIdeal.main_arg4) = m ((c.tc : Thread _ Cert.AttnRefIdeal.τ).loc Cert.AttnRefIdeal.main_arg4))
        ∧ r.2.sem = fun _ => 0) :=
  (θ_run Cert.AttnRefIdeal.defs _ _).mono (fun r h => ⟨fun c => (h c).2.2.2, sem_eq_zero_of_no_sems (by decide) r.2⟩)
    (Cert.AttnRefIdeal.Value.run (F := Ideal) m ρ)

/-- The kernel's run, its three arrays named. -/
theorem run_kernel (m : (ℓ : Loc Cert.AttnIdeal.nD Cert.AttnIdeal.τ Cert.AttnIdeal.sig) → Buf (Elt Ideal) ℓ) (ρ : Dev Cert.AttnIdeal.nD → PrngReg) :
    θ_run (Cert.AttnIdeal.defs (F := Ideal)) (onTc (τ := Cert.AttnIdeal.τ) (Cert.AttnIdeal.main (F := Ideal))) ⟨m, fun _ => 0, ρ⟩
      (fun r => ∀ c : Dev Cert.AttnIdeal.nD,
        r.2.mem ((c.tc : Thread _ Cert.AttnIdeal.τ).loc Cert.AttnIdeal.main_v61_0) = (Cert.AttnLaunch.dats m 0 c).arrAt 5 Cert.AttnIdeal.cfg0.N
        ∧ r.2.mem ((c.tc : Thread _ Cert.AttnIdeal.τ).loc Cert.AttnIdeal.main_v61_1) = (Cert.AttnLaunch.dats m 0 c).arrAt 6 Cert.AttnIdeal.cfg0.N
        ∧ r.2.mem ((c.tc : Thread _ Cert.AttnIdeal.τ).loc Cert.AttnIdeal.main_v61_2) = (Cert.AttnLaunch.dats m 0 c).arrAt 7 Cert.AttnIdeal.cfg0.N
        ∧ r.2.mem ((c.tc : Thread _ Cert.AttnIdeal.τ).loc Cert.AttnIdeal.main_arg0) = m ((c.tc : Thread _ Cert.AttnIdeal.τ).loc Cert.AttnIdeal.main_arg0)
        ∧ r.2.mem ((c.tc : Thread _ Cert.AttnIdeal.τ).loc Cert.AttnIdeal.main_arg1) = m ((c.tc : Thread _ Cert.AttnIdeal.τ).loc Cert.AttnIdeal.main_arg1)
        ∧ r.2.mem ((c.tc : Thread _ Cert.AttnIdeal.τ).loc Cert.AttnIdeal.main_arg2) = m ((c.tc : Thread _ Cert.AttnIdeal.τ).loc Cert.AttnIdeal.main_arg2)
        ∧ r.2.mem ((c.tc : Thread _ Cert.AttnIdeal.τ).loc Cert.AttnIdeal.main_arg3) = m ((c.tc : Thread _ Cert.AttnIdeal.τ).loc Cert.AttnIdeal.main_arg3)
        ∧ r.2.mem ((c.tc : Thread _ Cert.AttnIdeal.τ).loc Cert.AttnIdeal.main_arg4) = m ((c.tc : Thread _ Cert.AttnIdeal.τ).loc Cert.AttnIdeal.main_arg4)) :=
  (θ_run Cert.AttnIdeal.defs _ _).mono (fun r h c => ⟨(h.1.1 c).1 5, (h.1.1 c).1 6, (h.1.1 c).1 7, h.2.1 c⟩)
    (θ_run_and (Cert.AttnLaunch.run_main m ρ) (Cert.AttnLaunch.frame m ρ))

/-- The precondition, read as: every entry of the five arguments is a real. -/
theorem finite_args (q k v : FVec Ideal Cert.Pre_attn_finite.S1x8192x16x128 .f32) (rel : FVec Ideal Cert.Pre_attn_finite.S16x257 .f32)
    (o : FVec Ideal Cert.Pre_attn_finite.S1x8192x2048 .f32) (e : ∀ i, Cert.Pre_attn_finite.fn q k v rel o i = 1#1) :
    (∀ i, ∃ r : ℝ, q i = r) ∧ (∀ i, ∃ r : ℝ, k i = r) ∧ (∀ i, ∃ r : ℝ, v i = r) ∧ (∀ i, ∃ r : ℝ, rel i = r) ∧ (∀ i, ∃ r : ℝ, o i = r) := by
  have e := e (fun a : Fin 0 => a.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_test q _ _ _ _ e1, real_of_test k _ _ _ _ e2, real_of_test v _ _ _ _ e3, real_of_test rel _ _ _ _ e4, real_of_test o _ _ _ _ e5⟩

theorem algebraic : Cert.algebraic_AttnIdeal_AttnRefIdeal_pre_attn_finite := by
  intro m ρ m' ρ' pre hag
  refine ⟨fun c => (Cert.AttnLaunch.dats m 0 c).arrAt 5 Cert.AttnIdeal.cfg0.N, fun c => (Cert.AttnLaunch.dats m 0 c).arrAt 6 Cert.AttnIdeal.cfg0.N,
    fun c => (Cert.AttnLaunch.dats m 0 c).arrAt 7 Cert.AttnIdeal.cfg0.N, run_kernel m ρ, ?_⟩
  refine (θ_run Cert.AttnRefIdeal.defs _ _).mono (fun r h c => ?_) (Cert.AttnRefIdeal.Value.run (F := Ideal) m' ρ')
  obtain ⟨r0, r1, r2, k⟩ := h c
  obtain ⟨a0, a1, a2, a3, a4⟩ := hag c
  obtain ⟨f0, f1, f2, f3, f4⟩ := finite_args _ _ _ _ _ (fun i => congrFun (pre c) i)
  choose q hq using f0
  choose κ hk using f1
  choose v hv using f2
  choose rel hr using f3
  choose o ho using f4
  refine ⟨(r0.trans (Cert.AttnRefIdeal.Read.val_main_v185_eq _)).trans (Eq.trans ?_ (Cert.AttnArrays.arr5 m c hq hk hv hr ho).symm),
    (r1.trans (Cert.AttnRefIdeal.Read.val_main_v187_eq _)).trans (Eq.trans ?_ (Cert.AttnArrays.arr6 m c hq hk hv hr ho).symm),
    (r2.trans (Cert.AttnRefIdeal.Read.val_main_v189_eq _)).trans (Eq.trans ?_ (Cert.AttnArrays.arr7 m c hq hk hr ho).symm), k⟩
  · exact Cert.AttnRef.ref_q (fun i => (congrFun a0 i).trans (hq i)) (fun i => (congrFun a1 i).trans (hk i)) (fun i => (congrFun a2 i).trans (hv i)) (fun i => (congrFun a3 i).trans (hr i)) (fun i => (congrFun a4 i).trans (ho i))
  · exact Cert.AttnRef.ref_k (fun i => (congrFun a0 i).trans (hq i)) (fun i => (congrFun a1 i).trans (hk i)) (fun i => (congrFun a2 i).trans (hv i)) (fun i => (congrFun a3 i).trans (hr i)) (fun i => (congrFun a4 i).trans (ho i))
  · exact Cert.AttnRef.ref_v (fun i => (congrFun a0 i).trans (hq i)) (fun i => (congrFun a1 i).trans (hk i)) (fun i => (congrFun a3 i).trans (hr i)) (fun i => (congrFun a4 i).trans (ho i))

end Cert.AttnClaims

end
end
-- ==== Proof.AttnFwdTile.lean ====
/- One tile of the attention's forward call, 128 queries by 640 keys, over the extended reals: its rows of outputs, and
   what the body's stores of all 64 tiles leave in the buffer of one head's outputs. -/
module

public import proofs.«01_k».proof.Proof.AttnSpec
public import proofs.«01_k».proof.Proof.Gen.AttnFIdeal.Frame
public import Idealize.ShloMosaic.Lib.Pointwise
public import Idealize.ShloMosaic.Lib.WritesUnit

@[expose] public section

set_option maxRecDepth 16384

noncomputable section

namespace Cert.AttnFwdTile

open Cert.AttnFIdeal Cert.AttnFIdeal.Gen Cert.AttnSpec Cert.Coe
open Idealize.ShloMosaic Idealize.ShloMosaic.TcCoe Idealize.ShloMosaic.Tactic
open Idealize.ShloMosaic.Pointwise
open Idealize.SL Idealize.SL.Sem

/-! ## One tile -/

/-- The outputs of a tile, from its queries, keys, values and frame of the bias. -/
def oT (Q : Vec Ideal S128x128 .bf16) (K V : Vec Ideal S640x128 .bf16) (B : Vec Ideal S1x1x128x640 .f32) : Vec Ideal S128x128 .bf16 :=
  k0_pay1 (k0_pay14 (k0_pay3 Q K) B) (k0_pay15 (k0_pay3 Q K) B) V

/-- A tile of scores. -/
def score (Q : Vec Ideal S128x128 .bf16) (K : Vec Ideal S640x128 .bf16) (B : Vec Ideal S1x1x128x640 .f32) (x : Fin 128) (y : Fin 640) : EReal :=
  (∑ k, Q (ix2 x k) * K (ix2 y k)) * Ideal.ofBits FTy.f32 0x3DB504F3#32 + B (ix4 0 0 x y)

theorem oT_apply (Q : Vec Ideal S128x128 .bf16) (K V : Vec Ideal S640x128 .bf16) (B : Vec Ideal S1x1x128x640 .f32) (x d : Fin 128) :
    oT Q K V B (ix2 x d) = Ideal.div
      (∑ y, Ideal.exp (score Q K B x y - Finset.fold max (Ideal.ofBits FTy.f32 0xFF800000#32) (fun z => score Q K B x z) Finset.univ) * V (ix2 y d))
      (∑ y, Ideal.exp (score Q K B x y - Finset.fold max (Ideal.ofBits FTy.f32 0xFF800000#32) (fun z => score Q K B x z) Finset.univ)) := by
  pointwise [oT, k0_pay1, k0_pay14, k0_pay15, k0_pay13, k0_pay3]
  rfl

section Real

variable {q k v : ℕ → Fin 128 → ℝ} {rel : ℕ → ℝ} {T : ℕ} (hT : T < 64) {Q : Vec Ideal S128x128 .bf16} {K V : Vec Ideal S640x128 .bf16}
  {B : Vec Ideal S1x1x128x640 .f32}
  (hQ : ∀ b d, Q (ix2 b d) = ((q (128 * T + b.val) d : ℝ) : EReal))
  (hK : ∀ y d, K (ix2 y d) = ((k (128 * T + y.val) d : ℝ) : EReal))
  (hV : ∀ y d, V (ix2 y d) = ((v (128 * T + y.val) d : ℝ) : EReal))
  (hB : ∀ b y, B (ix4 0 0 b y) = if Sees (128 * T + b.val) (128 * T + y.val) then ((rel (min (640 + b.val - y.val) 256) : ℝ) : EReal) else ⊥)

include hQ hK hB

theorem score_real (b : Fin 128) (y : Fin 640) : score Q K B b y
    = if Sees (128 * T + b.val) (128 * T + y.val) then ((sc q k rel (128 * T + b.val) (128 * T + y.val) : ℝ) : EReal) else ⊥ := by
  unfold score sc
  rw [hB, sm_word, Finset.sum_congr rfl fun d _ => by rw [hQ, hK, ← EReal.coe_mul, mul_comm], sum_coe, ← EReal.coe_mul]
  split_ifs
  · rw [← EReal.coe_add, show 640 + (128 * T + b.val) - (128 * T + y.val) = 640 + b.val - y.val by omega]
  · rw [EReal.add_bot]

include hT hV

/-- The tile's outputs are the attention's. -/
theorem oT_real (b d : Fin 128) : oT Q K V B (ix2 b d) = ((outE q k v rel (128 * T + b.val) d : ℝ) : EReal) := by
  have hb := b.isLt
  have hX := fun y => score_real hQ hK hB b y
  obtain ⟨μ, hμ⟩ := row_max (fun x : Fin 640 => Sees (128 * T + b.val) (128 * T + x.val)) (fun x => sc q k rel (128 * T + b.val) (128 * T + x.val)) hX
    (i0 := ⟨b.val + 512, by omega⟩) (by
      have := sees_self (128 * T + b.val)
      rwa [Nat.add_assoc] at this)
  have hinf : Ideal.ofBits FTy.f32 0xFF800000#32 = ⊥ := by simp [Ideal.ofBits, Ideal.ieee]
  have hE := row_exp (fun x : Fin 640 => Sees (128 * T + b.val) (128 * T + x.val)) (fun x => sc q k rel (128 * T + b.val) (128 * T + x.val)) hX μ
  have he := Real.exp_pos (-μ)
  have hpos := tot_pos (q := q) (k := k) (rel := rel) (s := 128 * T + b.val) (by omega)
  have hZ : ∑ x : Fin 640, ex q k rel (128 * T + b.val) (128 * T + x.val) * Real.exp (-μ) = tot q k rel (128 * T + b.val) * Real.exp (-μ) := by
    rw [← Finset.sum_mul]
    unfold tot
    rw [sum_band (L := 640) (lo := 128 * T) (fun κ => ex q k rel (128 * T + b.val) κ) (by omega) fun κ _ h => ex_far fun n => h (near_tile hb n)]
  have hN : ∑ y : Fin 640, ex q k rel (128 * T + b.val) (128 * T + y.val) * Real.exp (-μ) * v (128 * T + y.val) d
      = (outE q k v rel (128 * T + b.val) d * tot q k rel (128 * T + b.val)) * Real.exp (-μ) := by
    unfold outE
    rw [sum_band (L := 640) (lo := 128 * T) (fun κ => pr q k rel (128 * T + b.val) κ * v κ d) (by omega) fun κ _ h => by rw [pr_far fun n => h (near_tile hb n), zero_mul],
      Finset.sum_mul, Finset.sum_mul]
    refine Finset.sum_congr rfl fun y _ => ?_
    unfold pr
    field_simp
  rw [oT_apply, hinf, hμ, Finset.sum_congr rfl fun y _ => by rw [hE, hV, ← EReal.coe_mul], Finset.sum_congr rfl fun y _ => hE y, sum_coe, sum_coe]
  refine (div_real (a := ∑ y : Fin 640, ex q k rel (128 * T + b.val) (128 * T + y.val) * Real.exp (-μ) * v (128 * T + y.val) d)
    (b := ∑ x : Fin 640, ex q k rel (128 * T + b.val) (128 * T + x.val) * Real.exp (-μ)) (by rw [hZ]; exact (mul_pos hpos he).ne')).trans ?_
  rw [hN, hZ]
  congr 1
  field_simp

end Real

/-! ## The stores -/

/-- The first `n` tiles of 128 rows hold `X`. -/
def Holds (arg : Memref sig .tc .vmem S8192x128 .bf16) (f : arg.view.ty.Contents (Elt Ideal))
    (L : List (View.Piece (Elt Ideal) S8192x128 .bf16)) (X : ℕ → Vec Ideal S128x128 .bf16) (n : ℕ) : Prop :=
  ∀ (t : ℕ) (x d : Fin 128) (a : Fin 8192), t < n → a.val = 128 * t + x.val →
    arg.view.read (Elt Ideal) (arg.view.writes (Elt Ideal) f L) (ix2 a d) = X t (ix2 x d)

theorem holds_step {arg : Memref sig .tc .vmem S8192x128 .bf16} {f : arg.view.ty.Contents (Elt Ideal)}
    {L : List (View.Piece (Elt Ideal) S8192x128 .bf16)} {X : ℕ → Vec Ideal S128x128 .bf16} (n : ℕ)
    {inb : ∀ a, (![128 * n, 0] : Fin 2 → ℕ) a + S128x128.size a ≤ S8192x128.size a} {w : S128x128.Idx → EReal}
    (hw : w = X n) (hL : Holds arg f L X n) :
    Holds arg f (⟨Rect.unit (s := S8192x128) ![128 * n, 0] S128x128.size inb, w⟩ :: L) X (n + 1) := by
  intro t x d a ht ha
  have := x.isLt
  by_cases h : t = n
  · subst h
    rw [View.read_writes_cons_rows_of_mem arg.view f inb w L (ix2 a d) (ix2 x d) rfl ha rfl, hw]
  · rw [View.read_writes_cons_rows_of_not_mem arg.view f inb w L (ix2 a d) rfl (W := 128) rfl (by
      show a.val < 128 * n ∨ 128 * n + 128 ≤ a.val
      omega)]
    exact hL t x d a (by omega) ha

theorem holds_nil {arg : Memref sig .tc .vmem S8192x128 .bf16} {f : arg.view.ty.Contents (Elt Ideal)} {X : ℕ → Vec Ideal S128x128 .bf16} :
    Holds arg f [] X 0 :=
  fun t _ _ _ h => absurd h (Nat.not_lt_zero t)

variable (c : Dev nD) (i : grid0.Coords)
  (arg2 : Memref sig .tc .vmem S8192x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S1x5x128x640 .f32) (harg5 : arg5.IsWhole)
  (arg6 : Memref sig .tc .vmem S8192x128 .bf16) (harg6 : arg6.IsWhole)
  (x0 : Vec Ideal S8192x128 .bf16) (x1 x2 : Vec Ideal S8704x128 .bf16) (x3 : Vec Ideal S1x5x128x640 .f32)

theorem inbQ (t : ℕ) : ∀ a, (![128 * (t % 64), 0] : Fin 2 → ℕ) a + S128x128.size a ≤ S8192x128.size a := by
  have := Nat.mod_lt t (show 0 < 64 by norm_num)
  intro a; fin_cases a
  · show 128 * (t % 64) + 128 ≤ 8192; omega
  · show 0 + 128 ≤ 128; omega

/-- The queries of tile `t`, as loaded; its keys, or values; its frame of the bias. -/
def RQ (t : ℕ) : Vec Ideal S128x128 .bf16 :=
  View.readAt (Elt Ideal) arg2.view (Rect.unit (s := S8192x128) ![128 * (t % 64), 0] S128x128.size (inbQ t)).toLoadRect (harg2.unread x0)
def RK (arg : Memref sig .tc .vmem S8704x128 .bf16) (harg : arg.IsWhole) (x : Vec Ideal S8704x128 .bf16) (t : ℕ) : Vec Ideal S640x128 .bf16 :=
  View.readAt (Elt Ideal) arg.view (Rect.unit (s := S8704x128) (k0_off1 i (BitVec.ofNat 32 (t % 64))) S640x128.size (k0_off1_inb i ⟨t % 64, Nat.mod_lt t (by norm_num)⟩)).toLoadRect (harg.unread x)
def RB (t : ℕ) : Vec Ideal S1x1x128x640 .f32 :=
  View.readAt (Elt Ideal) arg5.view (Rect.unit (s := S1x5x128x640) (k0_off2 i (BitVec.ofNat 32 (t % 64))) S1x1x128x640.size (k0_off2_inb i ⟨t % 64, Nat.mod_lt t (by norm_num)⟩)).toLoadRect (harg5.unread x3)

/-- The outputs of tile `t`, as the body computes them. -/
def RO (t : ℕ) := oT (RQ arg2 harg2 x0 t) (RK i arg3 harg3 x1 t) (RK i arg4 harg4 x2 t) (RB i arg5 harg5 x3 t)

set_option maxHeartbeats 8000000

theorem stores (f : arg6.view.ty.Contents (Elt Ideal)) :
    Holds arg6 f (kernelRun0_A c i arg2 harg2 arg3 harg3 arg4 harg4 arg5 harg5 arg6 harg6 x0 x1 x2 x3).1
      (RO i arg2 harg2 arg3 harg3 arg4 harg4 arg5 harg5 x0 x1 x2 x3) 64 := by
  iterate 64 refine holds_step _ rfl ?_
  exact holds_nil

end Cert.AttnFwdTile

end

end
-- ==== Proof.AttnFwdRef.lean ====
/-
  The reference of the attention's forward call read at an index, over the reals: its softmax and its bands of values are the lines that the reference of the backward
  call starts with, and its outputs are the attention's.
-/
module

public import proofs.«01_k».proof.Proof.AttnRefGrad
public import proofs.«01_k».proof.Proof.Gen.AttnFRefIdeal.Read

@[expose] public section

set_option maxRecDepth 16384

noncomputable section

namespace Cert.AttnFwdRef

open Cert.AttnFRefIdeal Cert.AttnFRefIdeal.Read Cert.AttnHeads Cert.AttnSpec Cert.Coe
open Idealize.ShloMosaic Idealize.ShloMosaic.TcCoe Idealize.SL.Sem
open Idealize.ShloMosaic.Pointwise

variable {x0 x1 x2 : (⟨S1x8192x16x128, .f32⟩ : BufTy).Contents (Elt Ideal)} {x3 : (⟨S16x257, .f32⟩ : BufTy).Contents (Elt Ideal)}
  {q k v : (⟨4, ![1, 8192, 16, 128]⟩ : Shape).Idx → ℝ} {rel : (⟨2, ![16, 257]⟩ : Shape).Idx → ℝ}
  (hq : ∀ i, (x0 : S1x8192x16x128.Idx → EReal) i = ((q i : ℝ) : EReal))
  (hk : ∀ i, (x1 : S1x8192x16x128.Idx → EReal) i = ((k i : ℝ) : EReal))
  (hv : ∀ i, (x2 : S1x8192x16x128.Idx → EReal) i = ((v i : ℝ) : EReal))
  (hr : ∀ i, (x3 : S16x257.Idx → EReal) i = ((rel i : ℝ) : EReal))

/-- The scores, masked, are the backward reference's. -/
theorem score_same : val_main_v66 (F := Ideal) x0 x1 x3 = Cert.AttnRefIdeal.Read.val_main_v68_0 (F := Ideal) x0 x1 x3 := rfl

/-- So is the softmax. -/
theorem prob_same : val_main_v77 (F := Ideal) x0 x1 x3 = Cert.AttnRefIdeal.Read.val_main_v93 (F := Ideal) x0 x1 x3 := by
  unfold val_main_v77 val_main_v76 val_main_v75 val_main_v74 val_main_v73 val_main_v72 val_main_v71 val_main_v70 val_main_v69 val_main_v67
  rw [score_same]
  rfl

/-- And the values that a chunk sees. -/
theorem values_same : val_main_v51 (F := Ideal) x2 = Cert.AttnRefIdeal.Read.val_main_v53 (F := Ideal) x2 := rfl

include hq hk hv hr in
/-- The outputs of a chunk. -/
theorem chunk_out (n : Fin 128) (i : Fin 64) (h : Fin 16) (d : Fin 128) :
    (val_main_v78 (F := Ideal) x0 x1 x2 x3 : S1x128x16x128x64.Idx → EReal) (ix5 0 n h d i)
      = ((outE (qH q h) (kH k h) (kH v h) (rH rel h) (64 * n.val + i.val) d : ℝ) : EReal) := by
  pointwise [val_main_v78]
  rw [prob_same, values_same, Finset.sum_congr rfl fun y _ => by
    rw [Cert.AttnRef.prob_at hq hk hr n i h y, Cert.AttnRef.band_v hv n y h d, ← EReal.coe_mul, mul_comm], sum_coe]
  unfold outE
  rw [Cert.AttnRef.row_sum n i _ fun κ hn => by rw [pr_far hn, zero_mul]]

/-- All heads' outputs as the array that both programs return. -/
def outR (q k v : (⟨4, ![1, 8192, 16, 128]⟩ : Shape).Idx → ℝ) (rel : (⟨2, ![16, 257]⟩ : Shape).Idx → ℝ) (x : Fin 8192) (y : Fin 2048) : EReal :=
  ((outE (qH q (Fin.ofNat 16 (y.val / 128))) (kH k (Fin.ofNat 16 (y.val / 128))) (kH v (Fin.ofNat 16 (y.val / 128))) (rH rel (Fin.ofNat 16 (y.val / 128)))
    x.val (Fin.ofNat 128 y.val) : ℝ) : EReal)

theorem outR_eq (q k v rel) {h : Fin 16} {d : Fin 128} (x : Fin 8192) (y : Fin 2048) (s : ℕ) (es : x.val = s) (eh : Fin.ofNat 16 (y.val / 128) = h)
    (ed : Fin.ofNat 128 y.val = d) : outR q k v rel x y = ((outE (qH q h) (kH k h) (kH v h) (rH rel h) s d : ℝ) : EReal) := by
  subst es eh ed; rfl

include hq hk hv hr in
/-- The reference's array. -/
theorem out_ref : (val_main_v82 (F := Ideal) x0 x1 x2 x3 : S8192x2048.Idx → EReal) = fun j => outR q k v rel (j 0) (j 1) := by
  funext j
  obtain ⟨x, y, rfl⟩ : ∃ x y, j = ix2 x y := ⟨_, _, eq_ix2 j⟩
  pointwise [val_main_v82, val_main_v81, val_main_v80, val_main_v79]
  refine (chunk_out hq hk hv hr _ _ _ _).trans (outR_eq q k v rel x y _ ?_ (Fin.ext ?_) (Fin.ext ?_)).symm
  · dsimp only; omega
  · show y.val / 128 % 16 = _; dsimp only; omega
  · show y.val % 128 = _; dsimp only

end Cert.AttnFwdRef

end
end
-- ==== Proof.AttnFwdArrays.lean ====
/-
  The array that the attention's forward call leaves, over the reals: the outputs of every head.
-/
module

public import proofs.«01_k».proof.Proof.AttnFwdTile
public import proofs.«01_k».proof.Proof.AttnFwdRef
public import proofs.«01_k».proof.Proof.AttnGather
public import Idealize.ShloMosaic.Lib.StableHlo.ReadAt

@[expose] public section

set_option maxRecDepth 16384

noncomputable section

namespace Cert.AttnFwdArrays

open Cert.AttnFIdeal Cert.AttnFIdeal.Gen Cert.AttnFwdTile Cert.AttnHeads Cert.AttnSpec Cert.AttnFwdRef
open Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (c : Dev nD)

/-! ## The operands -/

theorem operand_q (a : Fin 8192) (b : Fin 2048) : (V m c main_v1 : S8192x2048.Idx → EReal) (ix2 a b)
    = (m (c, Proc.tc.devRef main_arg0) : S1x8192x16x128.Idx → EReal) (ix4 0 a ⟨b.val / 128, by omega⟩ ⟨b.val % 128, by omega⟩) := by
  unfold V
  simp only [hostOps0, hostOps0_1, hostOps0_2, hostOps0_3, hostOps0_4, hostOps0_5, hostOps0_6, hostOps0_7, List.flatten_cons, List.flatten_nil,
    List.append_nil, List.cons_append, List.nil_append]
  after_reads_at

theorem pad_word : (FloatOps.sitofp (F := Ideal) FTy.bf16 0#32 : EReal) = 0 := by
  simp [FloatOps.sitofp]

/-- A row of the padded keys or values: zeros, then the rows of the argument. -/
def padRow (x : S1x8192x16x128.Idx → EReal) (a : Fin 8704) (b : Fin 2048) : EReal :=
  if h : 512 ≤ a.val then x (ix4 0 ⟨a.val - 512, by omega⟩ ⟨b.val / 128, by omega⟩ ⟨b.val % 128, by omega⟩) else 0

theorem operand_k (a : Fin 8704) (b : Fin 2048) : (V m c main_v4 : S8704x2048.Idx → EReal) (ix2 a b)
    = padRow (m (c, Proc.tc.devRef main_arg1) : S1x8192x16x128.Idx → EReal) a b := by
  unfold V padRow
  simp only [hostOps0, hostOps0_1, hostOps0_2, hostOps0_3, hostOps0_4, hostOps0_5, hostOps0_6, hostOps0_7, List.flatten_cons, List.flatten_nil,
    List.append_nil, List.cons_append, List.nil_append]
  after_reads_at
  by_cases h : 512 ≤ a.val
  · rw [dif_pos h, dif_pos ⟨h, by omega⟩]
  · rw [dif_neg h, dif_neg fun e => h e.1]
    exact pad_word

theorem operand_v (a : Fin 8704) (b : Fin 2048) : (V m c main_v7 : S8704x2048.Idx → EReal) (ix2 a b)
    = padRow (m (c, Proc.tc.devRef main_arg2) : S1x8192x16x128.Idx → EReal) a b := by
  unfold V padRow
  simp only [hostOps0, hostOps0_1, hostOps0_2, hostOps0_3, hostOps0_4, hostOps0_5, hostOps0_6, hostOps0_7, List.flatten_cons, List.flatten_nil,
    List.append_nil, List.cons_append, List.nil_append]
  after_reads_at
  by_cases h : 512 ≤ a.val
  · rw [dif_pos h, dif_pos ⟨h, by omega⟩]
  · rw [dif_neg h, dif_neg fun e => h e.1]
    exact pad_word

theorem gather_bias (x : S16x257.Idx → EReal) (idx : IVec S640x128x1 32) (h : Fin 16) (y : Fin 640) (z : Fin 128) (n : Fin 257)
    (e : (idx (ix3 y z 0)).toInt.toNat = n.val) :
    Host.gather gather_S16x257_S640x128x1_S16x640x128_0_1_n_n_1_2_161 x idx (ix3 h y z) = x (ix2 h n) :=
  AttnGather.gather_col _ x idx h y z n e

theorem operand_b (a : Fin 16) (f : Fin 5) (z : Fin 128) (y : Fin 640) :
    (V m c main_v59 : S16x5x128x640.Idx → EReal) (ix4 a f z y)
      = if (z.val / 64 ≤ y.val / 64 ∧ y.val / 64 ≤ z.val / 64 + 8) ∧ 512 ≤ y.val + 128 * f.val
        then (m (c, Proc.tc.devRef main_arg3) : S16x257.Idx → EReal) (ix2 a (Fin.ofNat 257 (min (640 + z.val - y.val) 256)))
        else (⊥ : EReal) := by
  have hn : (Fin.ofNat 257 (min (640 + z.val - y.val) 256)).val = min (640 + z.val - y.val) 256 := Nat.mod_eq_of_lt (by omega)
  unfold V
  simp only [hostOps0, hostOps0_1, hostOps0_2, hostOps0_3, hostOps0_4, hostOps0_5, hostOps0_6, hostOps0_7, List.flatten_cons, List.flatten_nil,
    List.append_nil, List.cons_append, List.nil_append]
  after_reads_at
  rw [gather_bias _ _ a y z (Fin.ofNat 257 (min (640 + z.val - y.val) 256)) ?e]
  case e =>
    rw [hn]
    pointwise []
    exact AttnGather.column_at y.val z.val y.isLt z.isLt
  have hz := AttnGather.chunk_word ⟨z.val, by omega⟩
  dsimp only at hz
  have hw := AttnGather.near_word ⟨y.val / 64, by omega⟩ ⟨z.val / 64, by omega⟩
  dsimp only at hw
  rw [AttnGather.chunk_word, hz, hw, AttnGather.inside_word, AttnGather.select_and]
  refine if_congr Iff.rfl rfl ?_
  show Ideal.ofBits FTy.f32 0xFF800000#32 = ⊥
  simp [Ideal.ofBits, Ideal.ieee]

/-! ## The blocks -/

theorem idx : ∀ t : Fin cfg0.N, win0_0.index t = ![0, t.val] ∧ win0_1.index t = ![0, t.val] ∧ win0_2.index t = ![0, t.val]
    ∧ win0_3.index t = ![t.val, 0, 0, 0] ∧ win0_4.index t = ![0, t.val] ∧ (grid0.coords t 1).val = 0 :=
  (by decide +kernel : ∀ t : Fin grid0.N, _)

theorem lt_16 (t : Fin cfg0.N) : t.val < 16 := lt_of_lt_of_eq t.isLt N_0

/-- The head that point `t` works on. -/
def hd (t : Fin cfg0.N) : Fin 16 := ⟨t.val, lt_16 t⟩

/-- The column of the arrays that is column `d` of the head of point `t`. -/
def col (t : Fin cfg0.N) (d : Fin 128) : Fin 2048 := ⟨t.val * 128 + d.val, by have := lt_16 t; omega⟩

theorem col_head (t : Fin cfg0.N) (d : Fin 128) : (col t d).val / 128 = t.val ∧ (col t d).val % 128 = d.val := by
  constructor
  · show (t.val * 128 + d.val) / 128 = _; omega
  · show (t.val * 128 + d.val) % 128 = _; omega

theorem blk_q (t : Fin cfg0.N) (a : Fin 8192) (d : Fin 128) (h1 : t.val * 128 + d.val < 2048) :
    (iblk m c 0 t : S8192x128.Idx → EReal) (ix2 a d) = (V m c main_v1 : S8192x2048.Idx → EReal) (ix2 a ⟨_, h1⟩) := by
  blk_point [iblk, idx t]
theorem blk_k (t : Fin cfg0.N) (a : Fin 8704) (d : Fin 128) (h1 : t.val * 128 + d.val < 2048) :
    (iblk m c 1 t : S8704x128.Idx → EReal) (ix2 a d) = (V m c main_v4 : S8704x2048.Idx → EReal) (ix2 a ⟨_, h1⟩) := by
  blk_point [iblk, idx t]
theorem blk_v (t : Fin cfg0.N) (a : Fin 8704) (d : Fin 128) (h1 : t.val * 128 + d.val < 2048) :
    (iblk m c 2 t : S8704x128.Idx → EReal) (ix2 a d) = (V m c main_v7 : S8704x2048.Idx → EReal) (ix2 a ⟨_, h1⟩) := by
  blk_point [iblk, idx t]
theorem blk_b (t : Fin cfg0.N) (f : Fin 5) (z : Fin 128) (y : Fin 640) (h1 : t.val < 16) :
    (iblk m c 3 t : S1x5x128x640.Idx → EReal) (ix4 0 f z y) = (V m c main_v59 : S16x5x128x640.Idx → EReal) (ix4 ⟨_, h1⟩ f z y) := by
  blk_point [iblk, idx t]

variable {q k v : (⟨4, ![1, 8192, 16, 128]⟩ : Shape).Idx → ℝ} {rel : (⟨2, ![16, 257]⟩ : Shape).Idx → ℝ}
  (hq : ∀ i, (m (c, Proc.tc.devRef main_arg0) : S1x8192x16x128.Idx → EReal) i = ((q i : ℝ) : EReal))
  (hk : ∀ i, (m (c, Proc.tc.devRef main_arg1) : S1x8192x16x128.Idx → EReal) i = ((k i : ℝ) : EReal))
  (hv : ∀ i, (m (c, Proc.tc.devRef main_arg2) : S1x8192x16x128.Idx → EReal) i = ((v i : ℝ) : EReal))
  (hr : ∀ i, (m (c, Proc.tc.devRef main_arg3) : S16x257.Idx → EReal) i = ((rel i : ℝ) : EReal))

theorem place {n : ℕ} {a a' : Fin n} {h h' : Fin 16} {d d' : Fin 128} (ea : a = a') (eh : h = h') (ed : d = d') : ix4 (0 : Fin 1) a h d = ix4 0 a' h' d' := by
  rw [ea, eh, ed]

include hq in
theorem real_q (t : Fin cfg0.N) (a : Fin 8192) (d : Fin 128) :
    (iblk m c 0 t : S8192x128.Idx → EReal) (ix2 a d) = ((qH q (hd t) a.val d : ℝ) : EReal) := by
  obtain ⟨e1, e2⟩ := col_head t d
  rw [blk_q m c t a d (col t d).isLt, operand_q, hq]
  exact congrArg (fun r : ℝ => (r : EReal)) (congrArg q (place (Fin.ext (Nat.mod_eq_of_lt a.isLt).symm) (Fin.ext e1) (Fin.ext e2)))

theorem real_pad (t : Fin cfg0.N) (a : Fin 8704) (d : Fin 128) {x : S1x8192x16x128.Idx → EReal} {r : (⟨4, ![1, 8192, 16, 128]⟩ : Shape).Idx → ℝ}
    (hx : ∀ i, x i = ((r i : ℝ) : EReal)) : padRow x a (col t d) = ((kH r (hd t) a.val d : ℝ) : EReal) := by
  obtain ⟨e1, e2⟩ := col_head t d
  unfold padRow kH qH
  by_cases h : a.val < 512
  · rw [dif_neg (by omega), if_pos h]; rfl
  · rw [dif_pos (by omega), if_neg h, hx]
    exact congrArg (fun y : ℝ => (y : EReal)) (congrArg r (place (Fin.ext (Nat.mod_eq_of_lt (by omega : a.val - 512 < 8192)).symm) (Fin.ext e1) (Fin.ext e2)))

include hk in
theorem real_k (t : Fin cfg0.N) (a : Fin 8704) (d : Fin 128) :
    (iblk m c 1 t : S8704x128.Idx → EReal) (ix2 a d) = ((kH k (hd t) a.val d : ℝ) : EReal) := by
  rw [blk_k m c t a d (col t d).isLt, operand_k]
  exact real_pad t a d hk

include hv in
theorem real_v (t : Fin cfg0.N) (a : Fin 8704) (d : Fin 128) :
    (iblk m c 2 t : S8704x128.Idx → EReal) (ix2 a d) = ((kH v (hd t) a.val d : ℝ) : EReal) := by
  rw [blk_v m c t a d (col t d).isLt, operand_v]
  exact real_pad t a d hv

include hr in
theorem real_b (t : Fin cfg0.N) (f : Fin 5) (z : Fin 128) (y : Fin 640) :
    (iblk m c 3 t : S1x5x128x640.Idx → EReal) (ix4 0 f z y)
      = if (z.val / 64 ≤ y.val / 64 ∧ y.val / 64 ≤ z.val / 64 + 8) ∧ 512 ≤ y.val + 128 * f.val
        then ((rH rel (hd t) (min (640 + z.val - y.val) 256) : ℝ) : EReal) else ⊥ := by
  rw [blk_b m c t f z y (lt_16 t), operand_b]
  refine if_congr Iff.rfl ?_ rfl
  rw [hr]
  rfl

/-! ## The tiles, as loaded -/

section Loads

variable {i : grid0.Coords} (hi : (i 1).val = 0)
include hi

theorem load_k (arg : Memref sig .tc .vmem S8704x128 .bf16) (harg : arg.IsWhole) (x : Vec Ideal S8704x128 .bf16) {T : ℕ} (hT : T < 64) (y : Fin 640) (d : Fin 128) :
    RK i arg harg x T (ix2 y d) = x (ix2 ⟨128 * T + y.val, by omega⟩ d) := by
  unfold RK
  rw [View.readAt_apply, harg.read_unread]
  have e := k0_off1_eq i ⟨T % 64, Nat.mod_lt T (by norm_num)⟩
  refine congrArg x (funext (Fin.forall_fin_two.mpr ⟨Fin.ext ?_, Fin.ext ?_⟩))
  · show k0_off1 i (BitVec.ofNat 32 (T % 64)) 0 + 1 * y.val = 128 * T + y.val
    rw [show k0_off1 i (BitVec.ofNat 32 (T % 64)) 0 = 8192 * (i 1).val + 128 * (T % 64) from congrFun e 0]
    omega
  · show k0_off1 i (BitVec.ofNat 32 (T % 64)) 1 + 1 * d.val = d.val
    rw [show k0_off1 i (BitVec.ofNat 32 (T % 64)) 1 = 0 from congrFun e 1]
    omega

theorem load_b (arg5 : Memref sig .tc .vmem S1x5x128x640 .f32) (harg5 : arg5.IsWhole) (x : Vec Ideal S1x5x128x640 .f32) {T : ℕ} (hT : T < 64) (z : Fin 128) (y : Fin 640) :
    RB i arg5 harg5 x T (ix4 0 0 z y) = x (ix4 0 ⟨min T 4, by omega⟩ z y) := by
  unfold RB
  rw [View.readAt_apply, harg5.read_unread]
  have e := k0_off2_eq i ⟨T % 64, Nat.mod_lt T (by norm_num)⟩
  refine congrArg x (funext fun a => ?_)
  fin_cases a <;> refine Fin.ext ?_
  · show k0_off2 i (BitVec.ofNat 32 (T % 64)) 0 + 1 * 0 = 0
    rw [show k0_off2 i (BitVec.ofNat 32 (T % 64)) 0 = 0 from congrFun e 0]
  · show k0_off2 i (BitVec.ofNat 32 (T % 64)) 1 + 1 * 0 = min T 4
    rw [show k0_off2 i (BitVec.ofNat 32 (T % 64)) 1 = min (64 * (i 1).val + T % 64) 4 from congrFun e 1]
    omega
  · show k0_off2 i (BitVec.ofNat 32 (T % 64)) 2 + 1 * z.val = z.val
    rw [show k0_off2 i (BitVec.ofNat 32 (T % 64)) 2 = 0 from congrFun e 2]
    omega
  · show k0_off2 i (BitVec.ofNat 32 (T % 64)) 3 + 1 * y.val = y.val
    rw [show k0_off2 i (BitVec.ofNat 32 (T % 64)) 3 = 0 from congrFun e 3]
    omega

end Loads

theorem load_q (arg2 : Memref sig .tc .vmem S8192x128 .bf16) (harg2 : arg2.IsWhole) (x : Vec Ideal S8192x128 .bf16) {T : ℕ} (hT : T < 64) (b d : Fin 128) :
    RQ arg2 harg2 x T (ix2 b d) = x (ix2 ⟨128 * T + b.val, by omega⟩ d) := by
  unfold RQ
  rw [View.readAt_apply, harg2.read_unread]
  refine congrArg x (funext (Fin.forall_fin_two.mpr ⟨Fin.ext ?_, Fin.ext ?_⟩))
  · show 128 * (T % 64) + 1 * b.val = 128 * T + b.val
    omega
  · show 0 + 1 * d.val = d.val
    omega

/-! ## The array -/

include hq hk hv hr

/-- What point `t` leaves in its block. -/
theorem after_real (t : Fin cfg0.N) (a : Fin 8192) (d : Fin 128) :
    (outsAt0 m c t : S8192x128.Idx → EReal) (ix2 a d) = ((outE (qH q (hd t)) (kH k (hd t)) (kH v (hd t)) (rH rel (hd t)) a.val d : ℝ) : EReal) := by
  have hi : (grid0.coords t 1).val = 0 := (idx t).2.2.2.2.2
  have hT : a.val / 128 < 64 := by omega
  have ha : a.val = 128 * (a.val / 128) + a.val % 128 := by omega
  have e := stores c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (ms0_4 t).view.junk (a.val / 128) ⟨a.val % 128, Nat.mod_lt _ (by norm_num)⟩ d a hT ha
  refine Eq.trans ?_ (e.trans ((oT_real hT (q := qH q (hd t)) (k := kH k (hd t)) (v := kH v (hd t)) (rel := rH rel (hd t)) ?_ ?_ ?_ ?_ _ d).trans ?_))
  · exact congrFun ((View.read_writes_junk_eq_canon (Val := Elt Ideal) VO0_4 _).trans (View.read_writes_junk_eq_canon (Val := Elt Ideal) (ms0_4 t).view _).symm) _
  · intro b d
    exact (load_q _ _ _ hT b d).trans (real_q m c hq t _ d)
  · intro y d
    exact (load_k hi _ _ _ hT y d).trans (real_k m c hk t _ d)
  · intro y d
    exact (load_k hi _ _ _ hT y d).trans (real_v m c hv t _ d)
  · intro b y
    refine (load_b hi _ _ _ hT b y).trans ((real_b m c hr t _ b y).trans (if_congr ?_ rfl rfl))
    dsimp only
    unfold Sees Near
    omega
  · rw [← ha]

/-- The kernel's array. -/
theorem arr4 : (dats m 0 c).arrAt 4 cfg0.N = fun j => outR q k v rel (j 0) (j 1) := by
  refine Dat.arrAt_eq_of_covers _ 4 _ (by decide +kernel) fun t hf y => ?_
  blk_simp
  rw [after0_4]
  obtain ⟨a, d, rfl⟩ : ∃ (a : Fin 8192) (d : Fin 128), y = ix2 a d := ⟨_, _, eq_ix2 y⟩
  have e : ((((cfg0.win 4).blk t).view.emb (ix2 a d)) : S8192x2048.Idx) = ix2 a (col t d) := by
    unfold col
    blk_ext [idx t]
  rw [e]
  obtain ⟨e1, e2⟩ := col_head t d
  refine (after_real m c hq hk hv hr t a d).trans (outR_eq q k v rel a (col t d) a.val rfl (Fin.ext ?_) (Fin.ext ?_)).symm
  · show (col t d).val / 128 % 16 = t.val
    have := lt_16 t
    omega
  · exact e2

end Cert.AttnFwdArrays

end
end
-- ==== Proof.AttnFwdClaims.lean ====
/- The claims about the attention's forward call: the reference's frame, and that both programs compute the same array. -/
module

public import proofs.«01_k».proof.Defs
public import proofs.«01_k».proof.Proof.AttnFwdArrays
public import proofs.«01_k».proof.Proof.Gen.AttnFIdeal.Value
public import proofs.«01_k».proof.Proof.Gen.AttnFRefIdeal.Run
public import proofs.«01_k».proof.Proof.Gen.Pre_attnf_finite
public import Idealize.ShloMosaic.Adequacy
public import Idealize.ShloMosaic.Init

@[expose] public section

set_option maxRecDepth 16384

noncomputable section

namespace Cert.AttnFwdClaims

open Idealize.ShloMosaic Idealize.ShloMosaic.TcCoe Idealize.SL.Sem Cert.Coe

theorem frame_ref' : Cert.quiescent_AttnFRefIdeal := fun m ρ _ =>
  (θ_run Cert.AttnFRefIdeal.defs _ _).mono (fun r h => ⟨fun c => (h c).2, sem_eq_zero_of_no_sems (by decide) r.2⟩)
    (Cert.AttnFRefIdeal.Value.run (F := Ideal) m ρ)

theorem frame_ref : Cert.quiescent_AttnFRefIdeal_pre_attnf_finite := fun m ρ _ => frame_ref' m ρ trivial

/-- The precondition, read as: every entry of the four arguments is a real. -/
theorem finite_args (q k v : FVec Ideal Cert.Pre_attnf_finite.S1x8192x16x128 .f32) (rel : FVec Ideal Cert.Pre_attnf_finite.S16x257 .f32)
    (e : ∀ i, Cert.Pre_attnf_finite.fn q k v rel i = 1#1) :
    (∀ i, ∃ r : ℝ, q i = r) ∧ (∀ i, ∃ r : ℝ, k i = r) ∧ (∀ i, ∃ r : ℝ, v i = r) ∧ ∀ i, ∃ r : ℝ, rel i = r := by
  have e := e (fun a : Fin 0 => a.elim0)
  obtain ⟨e, e4⟩ := IntOp.andi_eq_one.1 e
  obtain ⟨e, e3⟩ := IntOp.andi_eq_one.1 e
  obtain ⟨e1, e2⟩ := IntOp.andi_eq_one.1 e
  exact ⟨real_of_test q _ _ _ _ e1, real_of_test k _ _ _ _ e2, real_of_test v _ _ _ _ e3, real_of_test rel _ _ _ _ e4⟩

theorem algebraic : Cert.algebraic_AttnFIdeal_AttnFRefIdeal_pre_attnf_finite := by
  intro m ρ m' ρ' pre hag
  refine ⟨fun c => (Cert.AttnFIdeal.Gen.dats m 0 c).arrAt 4 Cert.AttnFIdeal.cfg0.N,
    (θ_run Cert.AttnFIdeal.defs _ _).mono (fun r h c => h c) (Cert.AttnFIdeal.Value.run_blocks m ρ), ?_⟩
  refine (θ_run Cert.AttnFRefIdeal.defs _ _).mono (fun r h c => ?_) (Cert.AttnFRefIdeal.Value.run (F := Ideal) m' ρ')
  obtain ⟨r0, k⟩ := h c
  obtain ⟨a0, a1, a2, a3⟩ := hag c
  obtain ⟨f0, f1, f2, f3⟩ := finite_args _ _ _ _ (fun i => congrFun (pre c) i)
  choose q hq using f0
  choose κ hk using f1
  choose v hv using f2
  choose rel hr using f3
  refine ⟨(r0.trans (Cert.AttnFRefIdeal.Read.val_main_v82_eq _ _)).trans (Eq.trans ?_ (Cert.AttnFwdArrays.arr4 m c hq hk hv hr).symm), k⟩
  exact Cert.AttnFwdRef.out_ref (fun i => (congrFun a0 i).trans (hq i)) (fun i => (congrFun a1 i).trans (hk i)) (fun i => (congrFun a2 i).trans (hv i))
    (fun i => (congrFun a3 i).trans (hr i))

end Cert.AttnFwdClaims

end
end
-- ==== Proof.AttnAccRunA.lean ====
module

public import proofs.«01_k».proof.Proof.Gen.AttnAIdeal.Frame
public import proofs.«01_k».proof.Proof.Gen.AttnAIdeal.Skeleton
public import proofs.«01_k».proof.Proof.Gen.AttnAIdeal.Points
public import Idealize.ShloMosaic.Lib.Pipeline.Routed
public import Idealize.ShloMosaic.Lib.WordCmp
/-! The body of the attention's accumulating backward call at the first point of a head, run over any float values: it
starts the copies of the other layer's gradients and clears what it sums into. -/

@[expose] public section

set_option maxRecDepth 16384

noncomputable section

namespace Cert.AttnAcc

open Cert.AttnAIdeal Cert.AttnAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The first and the last point of a head. -/
abbrev first (i : grid0.Coords) : Prop := k0_cond1 i = 1#1
abbrev last (i : grid0.Coords) : Prop := k0_cond2 i = 1#1

/-- The column of tiles of an array that a head reads. -/
abbrev col (i : grid0.Coords) (h : first i) (arg : Memref sig .tc .hbm S8704x2048 .f32) : Memref sig .tc .hbm S8704x128 .f32 :=
  arg.slice (Rect.unit (s := S8704x2048) (k0_off1 i) S8704x128.size (k0_off1_inb i h)) (fun _ => rfl)

/-- The two semaphores of the call. -/
abbrev sem0 : SemLoc sig := SemLoc.dma ⟨18, by decide⟩
abbrev sem1 : SemLoc sig := SemLoc.dma ⟨19, by decide⟩

variable (c : Dev nD) (i : grid0.Coords)
  (arg2 : Memref sig .tc .vmem S2048x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S2048x128 .bf16) (harg5 : arg5.IsWhole)
  (arg6 : Memref sig .tc .vmem S1x5x640x128 .f32) (harg6 : arg6.IsWhole)
  (arg7 : Memref sig .tc .hbm S8704x2048 .f32) (harg7 : arg7.IsWhole)
  (arg8 : Memref sig .tc .hbm S8704x2048 .f32) (harg8 : arg8.IsWhole)
  (arg9 : Memref sig .tc .vmem S2048x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x5x640x128 .f32) (harg12 : arg12.IsWhole)
  (arg13 : Memref sig .tc .vmem S8704x128 .f32) (harg13 : arg13.IsWhole)
  (arg14 : Memref sig .tc .vmem S8704x128 .f32) (harg14 : arg14.IsWhole)
  (arg15 : Memref sig .tc .vmem S8704x128 .f32) (harg15 : arg15.IsWhole)
  (arg16 : Memref sig .tc .vmem S8704x128 .f32) (harg16 : arg16.IsWhole)
  (x0 : Vec F S2048x128 .bf16) (x1 : Vec F S8704x128 .bf16) (x2 : Vec F S8704x128 .bf16) (x3 : Vec F S2048x128 .bf16) (x4 : Vec F S1x5x640x128 .f32)

set_option maxHeartbeats 8000000 in
/-- The body at a head's first point: the lists of stores the buffers end with, found by the run, and the two copies in
    flight. -/
noncomputable def runA (hc0 : first i) (hc1 : ¬last i) :
    Σ' (L9 : List (View.Piece (Elt F) S2048x128 .bf16)), Σ' (L12 : List (View.Piece (Elt F) S1x5x640x128 .f32)), Σ' (L13 : List (View.Piece (Elt F) S8704x128 .f32)),
    { L14 : List (View.Piece (Elt F) S8704x128 .f32) //
      ∀ (g7 : arg7.view.ty.Contents (Elt F)) (g8 : arg8.view.ty.Contents (Elt F)) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} g7) ∗ (arg8.view.loc (c : Thread nD τ) ↦[arg8.view.set]{fullShare} g8) ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ semVal ((c : Thread nD τ), sem0) 0 ∗ semVal ((c : Thread nD τ), sem1) 0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set \ (col i hc0 arg7).view.set]{fullShare} g7) ∗ (arg8.view.loc (c : Thread nD τ) ↦[arg8.view.set \ (col i hc0 arg8).view.set]{fullShare} g8)
                ∗ (∃ f, (arg9.view.loc (c : Thread nD τ) ↦[arg9.view.set]{fullShare} arg9.view.writes (Elt F) f L9)) ∗ (arg12.view.loc (c : Thread nD τ) ↦[arg12.view.set]{fullShare} arg12.view.writes (Elt F) arg12.view.junk L12) ∗ (arg13.view.loc (c : Thread nD τ) ↦[arg13.view.set]{fullShare} arg13.view.writes (Elt F) arg13.view.junk L13) ∗ (arg14.view.loc (c : Thread nD τ) ↦[arg14.view.set]{fullShare} arg14.view.writes (Elt F) arg14.view.junk L14)
                ∗ (∃ f, Transfers.Flight (countersEmb (U := Pipeline.UC sig nD τ)) (c : Thread nD τ) sem0 () 139264 iprop((arg15.view.loc (c : Thread nD τ) ↦[arg15.view.set]{fullShare} arg15.view.writes (Elt F) f [⟨Rect.whole S8704x128, ReadAs.same.apply ((col i hc0 arg7).view.read (Elt F) g7)⟩]) ∗ ((col i hc0 arg7).view.loc (c : Thread nD τ) ↦[(col i hc0 arg7).view.set]{fullShare} g7)))
                ∗ (∃ f, Transfers.Flight (countersEmb (U := Pipeline.UC sig nD τ)) (c : Thread nD τ) sem1 () 139264 iprop((arg16.view.loc (c : Thread nD τ) ↦[arg16.view.set]{fullShare} arg16.view.writes (Elt F) f [⟨Rect.whole S8704x128, ReadAs.same.apply ((col i hc0 arg8).view.read (Elt F) g8)⟩]) ∗ ((col i hc0 arg8).view.loc (c : Thread nD τ) ↦[(col i hc0 arg8).view.set]{fullShare} g8)))) -∗ K ⟨⟩))
          ⊢ wp frame (wpE (defs₀ (F := F)) Variants.none c none) Set.univ (cc0_attn_bwd_acc i arg2 harg2 arg3 harg3 arg4 harg4 arg5 harg5 arg6 harg6 arg7 harg7 arg8 harg8 arg9 harg9 arg10 harg10 arg11 harg11 arg12 harg12 arg13 harg13 arg14 harg14 arg15 harg15 arg16 harg16 cc0_scratch4) K } := by
  refine ⟨?_, ?_, ?_, ?_, fun g7 g8 K => ?run⟩
  case run =>
    simp only [cc0_attn_bwd_acc_eq_skeleton]; unfold cc0_attn_bwd_acc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, H7, H8, ⟨%d9, %f9, -, H9⟩, ⟨%d12, %f12, -, H12⟩, ⟨%d13, %f13, -, H13⟩, ⟨%d14, %f14, -, H14⟩, ⟨%d15, %f15, -, H15⟩, ⟨%d16, %f16, -, H16⟩, Hs0, Hs1, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexact H7
    isplitl [H8]; · iexact H8
    isplitl [H9]; · iexists _; iexact H9
    isplitl [H12]; · iexact H12
    isplitl [H13]; · iexact H13
    isplitl [H14]; · iexact H14
    isplitl [Hs0]; · iexists _; iexact Hs0
    iexists _; iexact Hs1

end Cert.AttnAcc

end

end
-- ==== Proof.AttnAccRunM.lean ====
module

public import proofs.«01_k».proof.Proof.Gen.AttnAIdeal.Frame
public import proofs.«01_k».proof.Proof.Gen.AttnAIdeal.Skeleton
public import proofs.«01_k».proof.Proof.Gen.AttnAIdeal.Points
public import Idealize.ShloMosaic.Lib.Pipeline.Routed
public import proofs.«01_k».proof.Proof.AttnAccRunA
/-! The body of the attention's accumulating backward call at a middle point of a head, run over any float values: neither
of its two branches is taken. -/

@[expose] public section

set_option maxRecDepth 16384

noncomputable section

namespace Cert.AttnAcc

open Cert.AttnAIdeal Cert.AttnAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (i : grid0.Coords)
  (arg2 : Memref sig .tc .vmem S2048x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S2048x128 .bf16) (harg5 : arg5.IsWhole)
  (arg6 : Memref sig .tc .vmem S1x5x640x128 .f32) (harg6 : arg6.IsWhole)
  (arg7 : Memref sig .tc .hbm S8704x2048 .f32) (harg7 : arg7.IsWhole)
  (arg8 : Memref sig .tc .hbm S8704x2048 .f32) (harg8 : arg8.IsWhole)
  (arg9 : Memref sig .tc .vmem S2048x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x5x640x128 .f32) (harg12 : arg12.IsWhole)
  (arg13 : Memref sig .tc .vmem S8704x128 .f32) (harg13 : arg13.IsWhole)
  (arg14 : Memref sig .tc .vmem S8704x128 .f32) (harg14 : arg14.IsWhole)
  (arg15 : Memref sig .tc .vmem S8704x128 .f32) (harg15 : arg15.IsWhole)
  (arg16 : Memref sig .tc .vmem S8704x128 .f32) (harg16 : arg16.IsWhole)
  (x0 : Vec F S2048x128 .bf16) (x1 : Vec F S8704x128 .bf16) (x2 : Vec F S8704x128 .bf16) (x3 : Vec F S2048x128 .bf16) (x4 : Vec F S1x5x640x128 .f32)

set_option maxHeartbeats 8000000 in
/-- The body at a head's middle point: the lists of stores the buffers end with, found by the run. -/
noncomputable def runM (hc0 : ¬first i) (hc1 : ¬last i) (y12 : Vec F S1x5x640x128 .f32) (y13 y14 : Vec F S8704x128 .f32) :
    Σ' (L9 : List (View.Piece (Elt F) S2048x128 .bf16)), Σ' (L12 : List (View.Piece (Elt F) S1x5x640x128 .f32)), Σ' (L13 : List (View.Piece (Elt F) S8704x128 .f32)),
    { L14 : List (View.Piece (Elt F) S8704x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ owns (c : Thread nD τ) arg12 fullShare y12 ∗ owns (c : Thread nD τ) arg13 fullShare y13 ∗ owns (c : Thread nD τ) arg14 fullShare y14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg9.view.loc (c : Thread nD τ) ↦[arg9.view.set]{fullShare} arg9.view.writes (Elt F) f L9)) ∗ (arg12.view.loc (c : Thread nD τ) ↦[arg12.view.set]{fullShare} arg12.view.writes (Elt F) (harg12.unread y12) L12) ∗ (arg13.view.loc (c : Thread nD τ) ↦[arg13.view.set]{fullShare} arg13.view.writes (Elt F) (harg13.unread y13) L13) ∗ (arg14.view.loc (c : Thread nD τ) ↦[arg14.view.set]{fullShare} arg14.view.writes (Elt F) (harg14.unread y14) L14)) -∗ K ⟨⟩))
          ⊢ wp frame (wpE (defs₀ (F := F)) Variants.none c none) Set.univ (cc0_attn_bwd_acc i arg2 harg2 arg3 harg3 arg4 harg4 arg5 harg5 arg6 harg6 arg7 harg7 arg8 harg8 arg9 harg9 arg10 harg10 arg11 harg11 arg12 harg12 arg13 harg13 arg14 harg14 arg15 harg15 arg16 harg16 cc0_scratch4) K } := by
  refine ⟨?_, ?_, ?_, ?_, fun K => ?run⟩
  case run =>
    simp only [cc0_attn_bwd_acc_eq_skeleton]; unfold cc0_attn_bwd_acc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d9, %f9, -, H9⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4
    obtain rfl := harg12.eq_unread hf12; obtain rfl := harg13.eq_unread hf13; obtain rfl := harg14.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H9]; · iexists _; iexact H9
    isplitl [H12]; · iexact H12
    isplitl [H13]; · iexact H13
    iexact H14

end Cert.AttnAcc

end

end
-- ==== Proof.AttnAccRunZ.lean ====
module

public import proofs.«01_k».proof.Proof.Gen.AttnAIdeal.Frame
public import proofs.«01_k».proof.Proof.Gen.AttnAIdeal.Skeleton
public import proofs.«01_k».proof.Proof.Gen.AttnAIdeal.Points
public import Idealize.ShloMosaic.Lib.Pipeline.Routed
public import proofs.«01_k».proof.Proof.AttnAccRunA
/-! The body of the attention's accumulating backward call at the last point of a head, run over any float values: it waits
for the two copies and adds what they brought. -/

@[expose] public section

set_option maxRecDepth 16384

noncomputable section

namespace Cert.AttnAcc

open Cert.AttnAIdeal Cert.AttnAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (c : Dev nD) (i : grid0.Coords)
  (arg2 : Memref sig .tc .vmem S2048x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S2048x128 .bf16) (harg5 : arg5.IsWhole)
  (arg6 : Memref sig .tc .vmem S1x5x640x128 .f32) (harg6 : arg6.IsWhole)
  (arg7 : Memref sig .tc .hbm S8704x2048 .f32) (harg7 : arg7.IsWhole)
  (arg8 : Memref sig .tc .hbm S8704x2048 .f32) (harg8 : arg8.IsWhole)
  (arg9 : Memref sig .tc .vmem S2048x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x5x640x128 .f32) (harg12 : arg12.IsWhole)
  (arg13 : Memref sig .tc .vmem S8704x128 .f32) (harg13 : arg13.IsWhole)
  (arg14 : Memref sig .tc .vmem S8704x128 .f32) (harg14 : arg14.IsWhole)
  (arg15 : Memref sig .tc .vmem S8704x128 .f32) (harg15 : arg15.IsWhole)
  (arg16 : Memref sig .tc .vmem S8704x128 .f32) (harg16 : arg16.IsWhole)
  (x0 : Vec F S2048x128 .bf16) (x1 : Vec F S8704x128 .bf16) (x2 : Vec F S8704x128 .bf16) (x3 : Vec F S2048x128 .bf16) (x4 : Vec F S1x5x640x128 .f32)

set_option maxHeartbeats 8000000 in
/-- The body at a head's last point: the lists of stores the buffers end with, found by the run; the two copies have landed. -/
noncomputable def runZ (hc0 : ¬first i) (hc1 : last i) (y12 : Vec F S1x5x640x128 .f32) (y13 y14 y15 y16 : Vec F S8704x128 .f32) :
    Σ' (L9 : List (View.Piece (Elt F) S2048x128 .bf16)), Σ' (L10 L11 : List (View.Piece (Elt F) S8192x128 .bf16)), Σ' (L12 : List (View.Piece (Elt F) S1x5x640x128 .f32)), Σ' (L13 : List (View.Piece (Elt F) S8704x128 .f32)),
    { L14 : List (View.Piece (Elt F) S8704x128 .f32) //
      ∀ (i0 : grid0.Coords) (h0 : first i0) (g7 : arg7.view.ty.Contents (Elt F)) (g8 : arg8.view.ty.Contents (Elt F)) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y12 ∗ owns (c : Thread nD τ) arg13 fullShare y13 ∗ owns (c : Thread nD τ) arg14 fullShare y14
            ∗ Transfers.Flight (countersEmb (U := Pipeline.UC sig nD τ)) (c : Thread nD τ) sem0 () 139264 iprop((arg15.view.loc (c : Thread nD τ) ↦[arg15.view.set]{fullShare} (harg15.unread y15)) ∗ ((col i0 h0 arg7).view.loc (c : Thread nD τ) ↦[(col i0 h0 arg7).view.set]{fullShare} g7))
            ∗ Transfers.Flight (countersEmb (U := Pipeline.UC sig nD τ)) (c : Thread nD τ) sem1 () 139264 iprop((arg16.view.loc (c : Thread nD τ) ↦[arg16.view.set]{fullShare} (harg16.unread y16)) ∗ ((col i0 h0 arg8).view.loc (c : Thread nD τ) ↦[(col i0 h0 arg8).view.set]{fullShare} g8))
            ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ ((col i0 h0 arg7).view.loc (c : Thread nD τ) ↦[(col i0 h0 arg7).view.set]{fullShare} g7) ∗ ((col i0 h0 arg8).view.loc (c : Thread nD τ) ↦[(col i0 h0 arg8).view.set]{fullShare} g8) ∗ (∃ f, (arg9.view.loc (c : Thread nD τ) ↦[arg9.view.set]{fullShare} arg9.view.writes (Elt F) f L9))
                ∗ (∃ f, (arg10.view.loc (c : Thread nD τ) ↦[arg10.view.set]{fullShare} arg10.view.writes (Elt F) f L10)) ∗ (∃ f, (arg11.view.loc (c : Thread nD τ) ↦[arg11.view.set]{fullShare} arg11.view.writes (Elt F) f L11)) ∗ (arg12.view.loc (c : Thread nD τ) ↦[arg12.view.set]{fullShare} arg12.view.writes (Elt F) (harg12.unread y12) L12) ∗ (arg13.view.loc (c : Thread nD τ) ↦[arg13.view.set]{fullShare} arg13.view.writes (Elt F) (harg13.unread y13) L13) ∗ (arg14.view.loc (c : Thread nD τ) ↦[arg14.view.set]{fullShare} arg14.view.writes (Elt F) (harg14.unread y14) L14)
                ∗ (∃ f, arg15.view.loc (c : Thread nD τ) ↦[arg15.view.set]{fullShare} f) ∗ (∃ f, arg16.view.loc (c : Thread nD τ) ↦[arg16.view.set]{fullShare} f)
                ∗ semVal ((c : Thread nD τ), sem0) 0 ∗ semVal ((c : Thread nD τ), sem1) 0 ∗ (∃ W, owes (c : Thread nD τ) 0 W)) -∗ K ⟨⟩))
          ⊢ wp frame (wpE (defs₀ (F := F)) Variants.none c none) Set.univ (cc0_attn_bwd_acc i arg2 harg2 arg3 harg3 arg4 harg4 arg5 harg5 arg6 harg6 arg7 harg7 arg8 harg8 arg9 harg9 arg10 harg10 arg11 harg11 arg12 harg12 arg13 harg13 arg14 harg14 arg15 harg15 arg16 harg16 cc0_scratch4) K } := by
  refine ⟨?_, ?_, ?_, ?_, ?_, ?_, fun i0 h0 g7 g8 W K => ?run⟩
  case run =>
    simp only [cc0_attn_bwd_acc_eq_skeleton]; unfold cc0_attn_bwd_acc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d9, %f9, -, H9⟩, ⟨%d10, %f10, -, H10⟩, ⟨%d11, %f11, -, H11⟩, ⟨%f12, %hf12, H12⟩, ⟨%f13, %hf13, H13⟩, ⟨%f14, %hf14, H14⟩, Hs0, Hs1, Ho, Hk⟩
    obtain rfl := harg2.eq_unread hf0; obtain rfl := harg3.eq_unread hf1; obtain rfl := harg4.eq_unread hf2; obtain rfl := harg5.eq_unread hf3; obtain rfl := harg6.eq_unread hf4
    obtain rfl := harg12.eq_unread hf12; obtain rfl := harg13.eq_unread hf13; obtain rfl := harg14.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [Hs0_src]; · iexact Hs0_src
    isplitl [Hs1_src]; · iexact Hs1_src
    isplitl [H9]; · iexists _; iexact H9
    isplitl [H10]; · iexists _; iexact H10
    isplitl [H11]; · iexists _; iexact H11
    isplitl [H12]; · iexact H12
    isplitl [H13]; · iexact H13
    isplitl [H14]; · iexact H14
    isplitl [Hs0_dst]; · iexists _; iexact Hs0_dst
    isplitl [Hs1_dst]; · iexists _; iexact Hs1_dst
    isplitl [Hs0]; · iexact Hs0
    isplitl [Hs1]; · iexact Hs1
    iexists _; iexact Ho

end Cert.AttnAcc

end

end
-- ==== Proof.AttnAccTile.lean ====
/- The tiles of the attention's accumulating backward call: its softmax, its gradient of the scores and its stores are those
   of the plain backward call, cut at other places. -/
module

public import proofs.«01_k».proof.Proof.Gen.AttnAIdeal.Skeleton
public import proofs.«01_k».proof.Proof.AttnTile

@[expose] public section

set_option maxRecDepth 16384

noncomputable section

namespace Cert.AttnAccTile

open Cert.AttnAIdeal Cert.AttnAIdeal.Gen Cert.AttnTile
open Idealize.ShloMosaic Idealize.ShloMosaic.TcCoe Idealize.ShloMosaic.Tactic
open Idealize.ShloMosaic.Pointwise

/-- The softmax of a tile, as this body computes it. -/
def pA (K : Vec Ideal S640x128 .bf16) (Q : Vec Ideal S128x128 .bf16) (B : Vec Ideal S1x1x640x128 .f32) :
    Vec Ideal S640x128 .f32 := k0_pay26 (k0_pay7 K Q) B

/-- The gradient of a tile's scores, as this body computes it. -/
def dA (K V : Vec Ideal S640x128 .bf16) (Q D : Vec Ideal S128x128 .bf16) (B : Vec Ideal S1x1x640x128 .f32) :
    Vec Ideal S640x128 .f32 := k0_pay107 (k0_pay7 V D) (pA K Q B) (k0_pay106 (k0_pay7 K Q) (k0_pay7 V D) B)

theorem pA_eq : pA = pT := rfl
theorem dA_eq : dA = dT := rfl

/-! ## The stores: a cast to the block's own shape, made before or after the sum, changes nothing -/

section Stores

variable {t0 t1 t2 t3 t4 : Vec Ideal S640x128 .bf16} {p : Vec Ideal S128x128 .f32} {q1 : Vec Ideal S128x128 .bf16} {q2 : Vec Ideal S256x128 .bf16}
  {q3 : Vec Ideal S384x128 .bf16} {q4 : Vec Ideal S512x128 .bf16} {q5 : Vec Ideal S640x128 .bf16}

theorem dq_eq {D K : Vec Ideal S640x128 .bf16} : k0_pay71 D K = Cert.AttnIdeal.Gen.k0_pay281 D K := rfl
theorem k1a : k0_pay142 t0 p q1 = Cert.AttnIdeal.Gen.k0_pay282 t0 p q1 := by
  simp only [k0_pay142, Cert.AttnIdeal.Gen.k0_pay282, shapeCast_self]
  rfl
theorem k2a : k0_pay146 t0 t1 p q2 = Cert.AttnIdeal.Gen.k0_pay284 t0 t1 p q2 := by
  simp only [k0_pay146, Cert.AttnIdeal.Gen.k0_pay284, shapeCast_self]
  rfl
theorem k3a : k0_pay148 t0 t1 t2 p q3 = Cert.AttnIdeal.Gen.k0_pay288 (Cert.AttnIdeal.Gen.k0_pay286 p) (Cert.AttnIdeal.Gen.k0_pay287 t0 t1 t2) q3 := by
  simp only [k0_pay148, Cert.AttnIdeal.Gen.k0_pay286, Cert.AttnIdeal.Gen.k0_pay287, Cert.AttnIdeal.Gen.k0_pay288, shapeCast_self]
  rfl
theorem k4a : k0_pay152 p (k0_pay150 t0 t1 t2 t3) (k0_pay151 q4) = Cert.AttnIdeal.Gen.k0_pay290 t0 t1 t2 t3 p q4 := by
  simp only [k0_pay150, k0_pay151, k0_pay152, Cert.AttnIdeal.Gen.k0_pay290, shapeCast_self]
  rfl
theorem k5 : k0_pay157 t0 t1 t2 t3 t4 p q5 = Cert.AttnIdeal.Gen.k0_pay292 t0 t1 t2 t3 t4 p q5 := by
  simp only [k0_pay157, Cert.AttnIdeal.Gen.k0_pay292, shapeCast_self]
  rfl
theorem k4b : k0_pay187 t0 t1 t2 t3 p q4 = Cert.AttnIdeal.Gen.k0_pay382 (Cert.AttnIdeal.Gen.k0_pay380 p) (Cert.AttnIdeal.Gen.k0_pay381 t0 t1 t2 t3 q4) := by
  simp only [k0_pay187, Cert.AttnIdeal.Gen.k0_pay380, Cert.AttnIdeal.Gen.k0_pay381, Cert.AttnIdeal.Gen.k0_pay382, shapeCast_self]
  rfl
theorem k3b : k0_pay190 p (k0_pay189 t0 t1 t2) q3 = Cert.AttnIdeal.Gen.k0_pay384 t0 t1 t2 p q3 := by
  simp only [k0_pay189, k0_pay190, Cert.AttnIdeal.Gen.k0_pay384, shapeCast_self]
  rfl
theorem k2b : k0_pay193 (k0_pay192 t0 t1 p q2) = Cert.AttnIdeal.Gen.k0_pay388 t0 t1 p q2 := by
  simp only [k0_pay192, k0_pay193, Cert.AttnIdeal.Gen.k0_pay388, shapeCast_self]
  rfl
theorem k1b : k0_pay195 t0 p q1 = Cert.AttnIdeal.Gen.k0_pay1 t0 p q1 := by
  simp only [k0_pay195, Cert.AttnIdeal.Gen.k0_pay1, shapeCast_self]
  rfl
theorem v1a : k0_pay145 p (k0_pay143 t0) (k0_pay144 q1) = Cert.AttnIdeal.Gen.k0_pay283 t0 p q1 := by
  simp only [k0_pay143, k0_pay144, k0_pay145, Cert.AttnIdeal.Gen.k0_pay283, shapeCast_self]
  rfl
theorem v2a : k0_pay147 t0 t1 p q2 = Cert.AttnIdeal.Gen.k0_pay285 t0 t1 p q2 := by
  simp only [k0_pay147, Cert.AttnIdeal.Gen.k0_pay285, shapeCast_self]
  rfl
theorem v3a : k0_pay149 t0 t1 t2 p q3 = Cert.AttnIdeal.Gen.k0_pay289 t0 t1 t2 p q3 := by
  simp only [k0_pay149, Cert.AttnIdeal.Gen.k0_pay289, shapeCast_self]
  rfl
theorem v4a : k0_pay153 t0 t1 t2 t3 p q4 = Cert.AttnIdeal.Gen.k0_pay291 t0 t1 t2 t3 p q4 := by
  simp only [k0_pay153, Cert.AttnIdeal.Gen.k0_pay291, shapeCast_self]
  rfl
theorem v5 : k0_pay156 t0 t1 t2 t3 t4 p q5 = Cert.AttnIdeal.Gen.k0_pay295 (Cert.AttnIdeal.Gen.k0_pay293 p) (Cert.AttnIdeal.Gen.k0_pay294 t0 t1 t2 t3 t4) q5 := by
  simp only [k0_pay156, Cert.AttnIdeal.Gen.k0_pay293, Cert.AttnIdeal.Gen.k0_pay294, Cert.AttnIdeal.Gen.k0_pay295, shapeCast_self]
  rfl
theorem v4b : k0_pay188 t0 t1 t2 t3 p q4 = Cert.AttnIdeal.Gen.k0_pay383 t0 t1 t2 t3 p q4 := by
  simp only [k0_pay188, Cert.AttnIdeal.Gen.k0_pay383, shapeCast_self]
  rfl
theorem v3b : k0_pay191 t0 t1 t2 p q3 = Cert.AttnIdeal.Gen.k0_pay387 t1 t2 (Cert.AttnIdeal.Gen.k0_pay385 p) (Cert.AttnIdeal.Gen.k0_pay386 t0) q3 := by
  simp only [k0_pay191, Cert.AttnIdeal.Gen.k0_pay385, Cert.AttnIdeal.Gen.k0_pay386, Cert.AttnIdeal.Gen.k0_pay387, shapeCast_self]
  rfl
theorem v2b : k0_pay194 t0 t1 p q2 = Cert.AttnIdeal.Gen.k0_pay389 t0 t1 p q2 := by
  simp only [k0_pay194, Cert.AttnIdeal.Gen.k0_pay389, shapeCast_self]
  rfl
theorem v1b : k0_pay1 (k0_pay196 t0 p q1) = Cert.AttnIdeal.Gen.k0_pay2 t0 p q1 := by
  simp only [k0_pay1, k0_pay196, Cert.AttnIdeal.Gen.k0_pay2, shapeCast_self]
  rfl

end Stores

end Cert.AttnAccTile

end

end
-- ==== Proof.AttnAccStores.lean ====
/- What the stores of the attention's accumulating backward call leave at each of a head's four points, read back entry by
   entry over the extended reals: the gradient of the queries, and the running sums of the keys' and the values' gradients. -/
module

public import proofs.«01_k».proof.Proof.AttnAccRunA
public import proofs.«01_k».proof.Proof.AttnAccRunM
public import proofs.«01_k».proof.Proof.AttnAccRunZ
public import proofs.«01_k».proof.Proof.AttnAccTile
public import proofs.«01_k».proof.Proof.AttnFam
public import Idealize.ShloMosaic.Lib.WritesUnit

@[expose] public section

set_option maxRecDepth 16384

noncomputable section

namespace Cert.AttnAccTile

open Cert.AttnAIdeal Cert.AttnAIdeal.Gen Cert.AttnAcc
open Cert.AttnTile (pT dT dqT blocks added arr2 rowF added_of_le)
open Idealize.ShloMosaic Idealize.ShloMosaic.TcCoe Idealize.ShloMosaic.Tactic
open Idealize.ShloMosaic.Pointwise
open Idealize.SL Idealize.SL.Sem

/-! ## Loads -/

/-- A load of `n` rows from row `o` on. -/
theorem ld_rows {R n : ℕ} [NeZero R] {e : EltTy} (arg : Memref sig .tc .vmem (⟨2, ![R, 128]⟩ : Shape) e) (harg : arg.IsWhole)
    (x : Vec Ideal (⟨2, ![R, 128]⟩ : Shape) e) {off : Fin 2 → ℕ} (o : ℕ) (hoff : off = ![o, 0])
    (inb : ∀ a : Fin 2, off a + (![n, 128] : Fin 2 → ℕ) a ≤ (![R, 128] : Fin 2 → ℕ) a) (y : Fin n) (d : Fin 128) :
    View.readAt (Elt Ideal) arg.view (Rect.unit (s := ⟨2, ![R, 128]⟩) off ![n, 128] inb).toLoadRect (harg.unread x) (ix2 y d)
      = x (ix2 (Fin.ofNat R (o + y.val)) d) := by
  subst hoff
  have h0 : o + n ≤ R := inb 0
  have := y.isLt
  rw [View.readAt_apply, harg.read_unread]
  refine congrArg x (funext (Fin.forall_fin_two.mpr ⟨Fin.ext ?_, Fin.ext ?_⟩))
  · show o + 1 * y.val = (o + y.val) % R
    rw [Nat.mod_eq_of_lt (by omega), Nat.one_mul]
  · show 0 + 1 * d.val = d.val
    omega

/-- A load of one frame of the bias. -/
theorem ld_frame (arg : Memref sig .tc .vmem S1x5x640x128 .f32) (harg : arg.IsWhole) (x : Vec Ideal S1x5x640x128 .f32)
    {off : Fin 4 → ℕ} (o : ℕ) (hoff : off = ![0, o, 0, 0])
    (inb : ∀ a, off a + S1x1x640x128.size a ≤ S1x5x640x128.size a) (y : Fin 640) (b : Fin 128) :
    View.readAt (Elt Ideal) arg.view (Rect.unit (s := S1x5x640x128) off S1x1x640x128.size inb).toLoadRect (harg.unread x) (ix4 0 0 y b)
      = x (ix4 0 (Fin.ofNat 5 o) y b) := by
  subst hoff
  have h1 : o + 1 ≤ 5 := inb 1
  rw [View.readAt_apply, harg.read_unread]
  refine congrArg x (funext fun a => ?_)
  fin_cases a <;> refine Fin.ext ?_
  · rfl
  · show o + 1 * 0 = o % 5
    rw [Nat.mod_eq_of_lt (by omega)]
    omega
  · show 0 + 1 * y.val = y.val
    omega
  · show 0 + 1 * b.val = b.val
    omega

/-! ## The tiles -/

/-- The queries of tile `t`. -/
def LQ (x : S2048x128.Idx → EReal) (t : ℕ) : S128x128.Idx → EReal := fun y => x (ix2 (Fin.ofNat 2048 (128 * (t % 16) + (y 0).val)) (y 1))
/-- The keys of tile `t` of quarter `g` of the rows. -/
def LK (g : ℕ) (x : S8704x128.Idx → EReal) (t : ℕ) : S640x128.Idx → EReal :=
  fun y => x (ix2 (Fin.ofNat 8704 (2048 * g + 128 * (t % 16) + (y 0).val)) (y 1))
/-- The frame of the bias of tile `t` of quarter `g`. -/
def LB (g : ℕ) (x : S1x5x640x128.Idx → EReal) (t : ℕ) : S1x1x640x128.Idx → EReal :=
  fun y => x (ix4 0 (Fin.ofNat 5 (min (16 * g + t % 16) 4)) (y 2) (y 3))
/-- The softmax of tile `t`. -/
def LP (g : ℕ) (x0 : S2048x128.Idx → EReal) (x1 : S8704x128.Idx → EReal) (x4 : S1x5x640x128.Idx → EReal) (t : ℕ) :=
  pT (LK g x1 t) (LQ x0 t) (LB g x4 t)
/-- The gradient of the scores of tile `t`. -/
def LD (g : ℕ) (x0 : S2048x128.Idx → EReal) (x1 x2 : S8704x128.Idx → EReal) (x3 : S2048x128.Idx → EReal) (x4 : S1x5x640x128.Idx → EReal) (t : ℕ) :=
  dT (LK g x1 t) (LK g x2 t) (LQ x0 t) (LQ x3 t) (LB g x4 t)

/-- What the sum of the keys' gradients receives in block `r`: the tiles `r - 4` to `r` that there are. -/
def addK (D : ℕ → Vec Ideal S640x128 .f32) (X : ℕ → Fin 128 → EReal) (r : ℕ) (x d : Fin 128) : EReal :=
  blocks D X (r - 4) (r - (r - 4)) (min (r + 1) 16 - (r - 4)) x d * Ideal.ofBits FTy.f32 0x3DB504F3#32
/-- What the sum of the values' gradients receives in block `r`. -/
def addV (D : ℕ → Vec Ideal S640x128 .f32) (X : ℕ → Fin 128 → EReal) (r : ℕ) (x d : Fin 128) : EReal :=
  blocks D X (r - 4) (r - (r - 4)) (min (r + 1) 16 - (r - 4)) x d

/-! ## What one store adds -/

section Stores

variable {D : ℕ → Vec Ideal S640x128 .f32} {X : ℕ → Fin 128 → EReal} {lo : ℕ} {p : Vec Ideal S128x128 .f32} {q1 : Vec Ideal S128x128 .bf16}
  {q2 : Vec Ideal S256x128 .bf16} {q3 : Vec Ideal S384x128 .bf16} {q4 : Vec Ideal S512x128 .bf16} {q5 : Vec Ideal S640x128 .bf16} {w : S128x128.Idx → EReal}

theorem keys1a (hq : ∀ y d, q1 (ix2 y d) = X (128 * lo + y.val) d) (hw : w = k0_pay142 (D lo) p q1) (x d : Fin 128) :
    w (ix2 x d) = p (ix2 x d) + blocks D X lo 0 1 x d * Ideal.ofBits FTy.f32 0x3DB504F3#32 := by
  subst hw; rw [k1a]; exact Cert.AttnTile.keys1a rfl hq x d
theorem keys2a (hq : ∀ y d, q2 (ix2 y d) = X (128 * lo + y.val) d) (hw : w = k0_pay146 (D lo) (D (lo + 1)) p q2) (x d : Fin 128) :
    w (ix2 x d) = p (ix2 x d) + blocks D X lo 1 2 x d * Ideal.ofBits FTy.f32 0x3DB504F3#32 := by
  subst hw; rw [k2a]; exact Cert.AttnTile.keys2a rfl rfl hq x d
theorem keys3a (hq : ∀ y d, q3 (ix2 y d) = X (128 * lo + y.val) d) (hw : w = k0_pay148 (D lo) (D (lo + 1)) (D (lo + 2)) p q3) (x d : Fin 128) :
    w (ix2 x d) = p (ix2 x d) + blocks D X lo 2 3 x d * Ideal.ofBits FTy.f32 0x3DB504F3#32 := by
  subst hw; rw [k3a]; exact Cert.AttnTile.keys3a rfl rfl rfl hq x d
theorem keys4a (hq : ∀ y d, q4 (ix2 y d) = X (128 * lo + y.val) d) (hw : w = k0_pay152 p (k0_pay150 (D lo) (D (lo + 1)) (D (lo + 2)) (D (lo + 3))) (k0_pay151 q4)) (x d : Fin 128) :
    w (ix2 x d) = p (ix2 x d) + blocks D X lo 3 4 x d * Ideal.ofBits FTy.f32 0x3DB504F3#32 := by
  subst hw; rw [k4a]; exact Cert.AttnTile.keys4a rfl rfl rfl rfl hq x d
theorem keys5 (hq : ∀ y d, q5 (ix2 y d) = X (128 * lo + y.val) d) (hw : w = k0_pay157 (D lo) (D (lo + 1)) (D (lo + 2)) (D (lo + 3)) (D (lo + 4)) p q5) (x d : Fin 128) :
    w (ix2 x d) = p (ix2 x d) + blocks D X lo 4 5 x d * Ideal.ofBits FTy.f32 0x3DB504F3#32 := by
  subst hw; rw [k5]; exact Cert.AttnTile.keys5 rfl rfl rfl rfl rfl hq x d
theorem keys4b (hq : ∀ y d, q4 (ix2 y d) = X (128 * lo + y.val) d) (hw : w = k0_pay187 (D lo) (D (lo + 1)) (D (lo + 2)) (D (lo + 3)) p q4) (x d : Fin 128) :
    w (ix2 x d) = p (ix2 x d) + blocks D X lo 4 4 x d * Ideal.ofBits FTy.f32 0x3DB504F3#32 := by
  subst hw; rw [k4b]; exact Cert.AttnTile.keys4b rfl rfl rfl rfl hq x d
theorem keys3b (hq : ∀ y d, q3 (ix2 y d) = X (128 * lo + y.val) d) (hw : w = k0_pay190 p (k0_pay189 (D lo) (D (lo + 1)) (D (lo + 2))) q3) (x d : Fin 128) :
    w (ix2 x d) = p (ix2 x d) + blocks D X lo 4 3 x d * Ideal.ofBits FTy.f32 0x3DB504F3#32 := by
  subst hw; rw [k3b]; exact Cert.AttnTile.keys3b rfl rfl rfl hq x d
theorem keys2b (hq : ∀ y d, q2 (ix2 y d) = X (128 * lo + y.val) d) (hw : w = k0_pay193 (k0_pay192 (D lo) (D (lo + 1)) p q2)) (x d : Fin 128) :
    w (ix2 x d) = p (ix2 x d) + blocks D X lo 4 2 x d * Ideal.ofBits FTy.f32 0x3DB504F3#32 := by
  subst hw; rw [k2b]; exact Cert.AttnTile.keys2b rfl rfl hq x d
theorem keys1b (hq : ∀ y d, q1 (ix2 y d) = X (128 * lo + y.val) d) (hw : w = k0_pay195 (D lo) p q1) (x d : Fin 128) :
    w (ix2 x d) = p (ix2 x d) + blocks D X lo 4 1 x d * Ideal.ofBits FTy.f32 0x3DB504F3#32 := by
  subst hw; rw [k1b]; exact Cert.AttnTile.keys1b rfl hq x d
theorem vals1a (hq : ∀ y d, q1 (ix2 y d) = X (128 * lo + y.val) d) (hw : w = k0_pay145 p (k0_pay143 (D lo)) (k0_pay144 q1)) (x d : Fin 128) :
    w (ix2 x d) = p (ix2 x d) + blocks D X lo 0 1 x d := by
  subst hw; rw [v1a]; exact Cert.AttnTile.vals1a rfl hq x d
theorem vals2a (hq : ∀ y d, q2 (ix2 y d) = X (128 * lo + y.val) d) (hw : w = k0_pay147 (D lo) (D (lo + 1)) p q2) (x d : Fin 128) :
    w (ix2 x d) = p (ix2 x d) + blocks D X lo 1 2 x d := by
  subst hw; rw [v2a]; exact Cert.AttnTile.vals2a rfl rfl hq x d
theorem vals3a (hq : ∀ y d, q3 (ix2 y d) = X (128 * lo + y.val) d) (hw : w = k0_pay149 (D lo) (D (lo + 1)) (D (lo + 2)) p q3) (x d : Fin 128) :
    w (ix2 x d) = p (ix2 x d) + blocks D X lo 2 3 x d := by
  subst hw; rw [v3a]; exact Cert.AttnTile.vals3a rfl rfl rfl hq x d
theorem vals4a (hq : ∀ y d, q4 (ix2 y d) = X (128 * lo + y.val) d) (hw : w = k0_pay153 (D lo) (D (lo + 1)) (D (lo + 2)) (D (lo + 3)) p q4) (x d : Fin 128) :
    w (ix2 x d) = p (ix2 x d) + blocks D X lo 3 4 x d := by
  subst hw; rw [v4a]; exact Cert.AttnTile.vals4a rfl rfl rfl rfl hq x d
theorem vals5 (hq : ∀ y d, q5 (ix2 y d) = X (128 * lo + y.val) d) (hw : w = k0_pay156 (D lo) (D (lo + 1)) (D (lo + 2)) (D (lo + 3)) (D (lo + 4)) p q5) (x d : Fin 128) :
    w (ix2 x d) = p (ix2 x d) + blocks D X lo 4 5 x d := by
  subst hw; rw [v5]; exact Cert.AttnTile.vals5 rfl rfl rfl rfl rfl hq x d
theorem vals4b (hq : ∀ y d, q4 (ix2 y d) = X (128 * lo + y.val) d) (hw : w = k0_pay188 (D lo) (D (lo + 1)) (D (lo + 2)) (D (lo + 3)) p q4) (x d : Fin 128) :
    w (ix2 x d) = p (ix2 x d) + blocks D X lo 4 4 x d := by
  subst hw; rw [v4b]; exact Cert.AttnTile.vals4b rfl rfl rfl rfl hq x d
theorem vals3b (hq : ∀ y d, q3 (ix2 y d) = X (128 * lo + y.val) d) (hw : w = k0_pay191 (D lo) (D (lo + 1)) (D (lo + 2)) p q3) (x d : Fin 128) :
    w (ix2 x d) = p (ix2 x d) + blocks D X lo 4 3 x d := by
  subst hw; rw [v3b]; exact Cert.AttnTile.vals3b rfl rfl rfl hq x d
theorem vals2b (hq : ∀ y d, q2 (ix2 y d) = X (128 * lo + y.val) d) (hw : w = k0_pay194 (D lo) (D (lo + 1)) p q2) (x d : Fin 128) :
    w (ix2 x d) = p (ix2 x d) + blocks D X lo 4 2 x d := by
  subst hw; rw [v2b]; exact Cert.AttnTile.vals2b rfl rfl hq x d
theorem vals1b (hq : ∀ y d, q1 (ix2 y d) = X (128 * lo + y.val) d) (hw : w = k0_pay1 (k0_pay196 (D lo) p q1)) (x d : Fin 128) :
    w (ix2 x d) = p (ix2 x d) + blocks D X lo 4 1 x d := by
  subst hw; rw [v1b]; exact Cert.AttnTile.vals1b rfl hq x d

theorem dqT_of {D : Vec Ideal S640x128 .f32} {K : Vec Ideal S640x128 .bf16} (hw : w = k0_pay71 D K) (x d : Fin 128) :
    w (ix2 x d) = dqT D K x d := by
  subst hw; exact Cert.AttnTile.dq_apply D K x d

end Stores

/-! ## Blocks of 128 rows added one after the other -/

/-- The first `n` tiles of 128 rows hold `X`. -/
def Holds (arg : Memref sig .tc .vmem S2048x128 .bf16) (f : arg.view.ty.Contents (Elt Ideal))
    (L : List (View.Piece (Elt Ideal) S2048x128 .bf16)) (X : ℕ → Fin 128 → Fin 128 → EReal) (n : ℕ) : Prop :=
  ∀ (t : ℕ) (x d : Fin 128) (a : Fin 2048), t < n → a.val = 128 * t + x.val →
    arg.view.read (Elt Ideal) (arg.view.writes (Elt Ideal) f L) (ix2 a d) = X t x d

theorem holds_step {arg : Memref sig .tc .vmem S2048x128 .bf16} {f : arg.view.ty.Contents (Elt Ideal)}
    {L : List (View.Piece (Elt Ideal) S2048x128 .bf16)} {X : ℕ → Fin 128 → Fin 128 → EReal} (n : ℕ)
    {inb : ∀ a, (![128 * n, 0] : Fin 2 → ℕ) a + S128x128.size a ≤ S2048x128.size a} {w : S128x128.Idx → EReal}
    (hw : ∀ x d, w (ix2 x d) = X n x d) (hL : Holds arg f L X n) :
    Holds arg f (⟨Rect.unit (s := S2048x128) ![128 * n, 0] S128x128.size inb, w⟩ :: L) X (n + 1) := by
  intro t x d a ht ha
  have := x.isLt
  by_cases h : t = n
  · subst h
    rw [View.read_writes_cons_rows_of_mem arg.view f inb w L (ix2 a d) (ix2 x d) rfl ha rfl]
    exact hw x d
  · rw [View.read_writes_cons_rows_of_not_mem arg.view f inb w L (ix2 a d) rfl (W := 128) rfl (by
      show a.val < 128 * n ∨ 128 * n + 128 ≤ a.val
      omega)]
    exact hL t x d a (by omega) ha

theorem holds_nil {arg : Memref sig .tc .vmem S2048x128 .bf16} {f : arg.view.ty.Contents (Elt Ideal)}
    {L : List (View.Piece (Elt Ideal) S2048x128 .bf16)} {X : ℕ → Fin 128 → Fin 128 → EReal} : Holds arg f L X 0 :=
  fun t _ _ _ h => absurd h (Nat.not_lt_zero t)

/-- A list of stores leaves the contents `X` over `f`. -/
def Leaves {e : EltTy} {s : Shape} (arg : Memref sig .tc .vmem s e) (f : arg.view.ty.Contents (Elt Ideal))
    (L : List (View.Piece (Elt Ideal) s e)) (X : s.Idx → Elt Ideal e) : Prop :=
  ∀ y, arg.view.read (Elt Ideal) (arg.view.writes (Elt Ideal) f L) y = X y

/-- One more block: a store of the block as earlier stores `L'` left it, plus what the block receives. -/
theorem leaves_over {i : grid0.Coords} {arg : Memref sig .tc .vmem S8704x128 .f32} {f g : arg.view.ty.Contents (Elt Ideal)}
    {L : List (View.Piece (Elt Ideal) S8704x128 .f32)} {base : Fin 8704 → Fin 128 → EReal}
    {add : ℕ → Fin 128 → Fin 128 → EReal} {r r' : ℕ}
    {inb : ∀ a, (k0_off4 i (BitVec.ofNat 32 r)) a + S128x128.size a ≤ S8704x128.size a} {w : S128x128.Idx → EReal}
    (hr : r < 20) (hr' : r' ≤ r)
    (hg : ∀ y, arg.view.read (Elt Ideal) g y = arr2 (added base add (2048 * (i 1).val) r') y)
    (hw : ∀ x d, w (ix2 x d) = View.readAt (Elt Ideal) arg.view
      (Rect.unit (s := S8704x128) (k0_off4 i (BitVec.ofNat 32 r)) S128x128.size inb).toLoadRect g (ix2 x d)
        + add r x d)
    (hL : Leaves arg f L (arr2 (added base add (2048 * (i 1).val) r))) :
    Leaves arg f (⟨Rect.unit (s := S8704x128) (k0_off4 i (BitVec.ofNat 32 r)) S128x128.size inb, w⟩ :: L)
      (arr2 (added base add (2048 * (i 1).val) (r + 1))) := by
  intro y
  have e3 := k0_off4_eq i ⟨r, hr⟩
  have hrec : ∀ y : S8704x128.Idx, arr2 (added base add (2048 * (i 1).val) (r + 1)) y
      = arr2 (added base add (2048 * (i 1).val) r) y
        + if h : 2048 * (i 1).val + 128 * r ≤ (y 0).val ∧ (y 0).val < 2048 * (i 1).val + 128 * r + 128 then
            add r ⟨(y 0).val - (2048 * (i 1).val + 128 * r), by omega⟩ (y 1) else 0 := fun y => by
    exact (congrArg _ (Finset.sum_range_succ _ r)).trans (add_assoc _ _ _).symm
  rw [hrec]
  by_cases h : 2048 * (i 1).val + 128 * r ≤ (y 0).val ∧ (y 0).val < 2048 * (i 1).val + 128 * r + 128
  · rw [dif_pos h, View.read_writes_cons_rows_of_mem arg.view f inb w L y
      (ix2 ⟨(y 0).val - (2048 * (i 1).val + 128 * r), by omega⟩ (y 1)) e3
      (by show (y 0).val = 2048 * (i 1).val + 128 * r + ((y 0).val - (2048 * (i 1).val + 128 * r)); omega) rfl]
    refine (hw _ _).trans (congrArg (· + _) ?_)
    rw [View.readAt_apply]
    refine Eq.trans (congrArg _ ?_) ((hg y).trans ?_)
    · refine funext (Fin.forall_fin_two.mpr ⟨Fin.ext ?_, Fin.ext ?_⟩)
      · show (k0_off4 i (BitVec.ofNat 32 r)) 0 + 1 * ((y 0).val - (2048 * (i 1).val + 128 * r)) = (y 0).val
        rw [show (k0_off4 i (BitVec.ofNat 32 r)) 0 = 2048 * (i 1).val + 128 * r from congrFun e3 0]
        omega
      · show (k0_off4 i (BitVec.ofNat 32 r)) 1 + 1 * (y 1).val = (y 1).val
        rw [show (k0_off4 i (BitVec.ofNat 32 r)) 1 = 0 from congrFun e3 1]
        omega
    · exact (added_of_le base add _ r' (y 0) (y 1) (by omega)).trans (added_of_le base add _ r (y 0) (y 1) (by omega)).symm
  · rw [dif_neg h, add_zero, View.read_writes_cons_rows_of_not_mem arg.view f inb w L y e3 (W := 128) rfl (by
      show (y 0).val < 2048 * (i 1).val + 128 * r ∨ 2048 * (i 1).val + 128 * r + 128 ≤ (y 0).val
      omega), hL y]

section
variable {i : grid0.Coords} {arg : Memref sig .tc .vmem S8704x128 .f32} {L : List (View.Piece (Elt Ideal) S8704x128 .f32)}
  {add : ℕ → Fin 128 → Fin 128 → EReal} {r : ℕ}
  {inb : ∀ a, (k0_off4 i (BitVec.ofNat 32 r)) a + S128x128.size a ≤ S8704x128.size a} {w : S128x128.Idx → EReal}

/-- The block loaded as the stores before left it. -/
theorem leaves_step {f : arg.view.ty.Contents (Elt Ideal)} {base : Fin 8704 → Fin 128 → EReal} (hr : r < 20)
    (hw : ∀ x d, w (ix2 x d) = View.readAt (Elt Ideal) arg.view
      (Rect.unit (s := S8704x128) (k0_off4 i (BitVec.ofNat 32 r)) S128x128.size inb).toLoadRect (arg.view.writes (Elt Ideal) f L) (ix2 x d)
        + add r x d)
    (hL : Leaves arg f L (arr2 (added base add (2048 * (i 1).val) r))) :
    Leaves arg f (⟨Rect.unit (s := S8704x128) (k0_off4 i (BitVec.ofNat 32 r)) S128x128.size inb, w⟩ :: L)
      (arr2 (added base add (2048 * (i 1).val) (r + 1))) := leaves_over hr le_rfl hL hw hL

theorem leaves_nil (harg : arg.IsWhole) {o : ℕ} (x : Vec Ideal S8704x128 .f32) :
    Leaves arg (harg.unread x) [] (arr2 (added (fun a d => x (ix2 a d)) add o 0)) := by
  intro y
  refine (congrFun (harg.read_unread (Val := Elt Ideal) x) y).trans ?_
  obtain ⟨a, d, rfl⟩ : ∃ a d, y = ix2 a d := ⟨_, _, eq_ix2 y⟩
  simp only [arr2, added, Finset.range_zero, Finset.sum_empty, add_zero]
  rfl

/-- The block loaded as the body met it. -/
theorem leaves_step' {harg : arg.IsWhole} {X : Vec Ideal S8704x128 .f32} (hr : r < 20)
    (hw : ∀ x d, w (ix2 x d) = View.readAt (Elt Ideal) arg.view
      (Rect.unit (s := S8704x128) (k0_off4 i (BitVec.ofNat 32 r)) S128x128.size inb).toLoadRect (harg.unread X) (ix2 x d)
        + add r x d)
    (hL : Leaves arg (harg.unread X) L (arr2 (added (fun a d => X (ix2 a d)) add (2048 * (i 1).val) r))) :
    Leaves arg (harg.unread X) (⟨Rect.unit (s := S8704x128) (k0_off4 i (BitVec.ofNat 32 r)) S128x128.size inb, w⟩ :: L)
      (arr2 (added (fun a d => X (ix2 a d)) add (2048 * (i 1).val) (r + 1))) :=
  leaves_over hr (Nat.zero_le r) (leaves_nil harg X) hw hL

theorem leaves_zeros {f : arg.view.ty.Contents (Elt Ideal)} {o : ℕ}
    {inb : ∀ a, (![0, 0] : Fin 2 → ℕ) a + S8704x128.size a ≤ S8704x128.size a} {w : S8704x128.Idx → EReal} (hw : ∀ y, w y = 0) :
    Leaves arg f [⟨Rect.unit (s := S8704x128) ![0, 0] S8704x128.size inb, w⟩] (arr2 (added (fun _ _ => 0) add o 0)) := by
  intro y
  rw [View.read_writes_cons_rows_of_mem arg.view f inb w [] y y (o := 0) rfl (by omega) rfl]
  exact (hw y).trans (by simp [arr2, added])
end

theorem pay4_zero (y : S8704x128.Idx) : k0_pay4 (F := Ideal) y = 0 := by
  pointwise [k0_pay4]
theorem pay5_zero (y : S8704x128.Idx) : k0_pay5 (F := Ideal) y = 0 := by
  pointwise [k0_pay5]

/-! ## The families of tiles as the body loads them -/

variable (c : Dev nD) (i : grid0.Coords)
  (arg2 : Memref sig .tc .vmem S2048x128 .bf16) (harg2 : arg2.IsWhole)
  (arg3 : Memref sig .tc .vmem S8704x128 .bf16) (harg3 : arg3.IsWhole)
  (arg4 : Memref sig .tc .vmem S8704x128 .bf16) (harg4 : arg4.IsWhole)
  (arg5 : Memref sig .tc .vmem S2048x128 .bf16) (harg5 : arg5.IsWhole)
  (arg6 : Memref sig .tc .vmem S1x5x640x128 .f32) (harg6 : arg6.IsWhole)
  (arg7 : Memref sig .tc .hbm S8704x2048 .f32) (harg7 : arg7.IsWhole)
  (arg8 : Memref sig .tc .hbm S8704x2048 .f32) (harg8 : arg8.IsWhole)
  (arg9 : Memref sig .tc .vmem S2048x128 .bf16) (harg9 : arg9.IsWhole)
  (arg10 : Memref sig .tc .vmem S8192x128 .bf16) (harg10 : arg10.IsWhole)
  (arg11 : Memref sig .tc .vmem S8192x128 .bf16) (harg11 : arg11.IsWhole)
  (arg12 : Memref sig .tc .vmem S1x5x640x128 .f32) (harg12 : arg12.IsWhole)
  (arg13 : Memref sig .tc .vmem S8704x128 .f32) (harg13 : arg13.IsWhole)
  (arg14 : Memref sig .tc .vmem S8704x128 .f32) (harg14 : arg14.IsWhole)
  (arg15 : Memref sig .tc .vmem S8704x128 .f32) (harg15 : arg15.IsWhole)
  (arg16 : Memref sig .tc .vmem S8704x128 .f32) (harg16 : arg16.IsWhole)
  (x0 : Vec Ideal S2048x128 .bf16) (x1 : Vec Ideal S8704x128 .bf16) (x2 : Vec Ideal S8704x128 .bf16) (x3 : Vec Ideal S2048x128 .bf16) (x4 : Vec Ideal S1x5x640x128 .f32)
  (y12 : Vec Ideal S1x5x640x128 .f32) (y13 y14 y15 y16 : Vec Ideal S8704x128 .f32)

theorem inbQ (t : ℕ) : ∀ a, (![128 * (t % 16), 0] : Fin 2 → ℕ) a + S128x128.size a ≤ S2048x128.size a := by
  have := Nat.mod_lt t (show 0 < 16 by norm_num)
  intro a; fin_cases a
  · show 128 * (t % 16) + 128 ≤ 2048; omega
  · show 0 + 128 ≤ 128; omega

/-- The queries (or cotangents) of tile `t`, as loaded. -/
def RQ (arg : Memref sig .tc .vmem S2048x128 .bf16) (harg : arg.IsWhole) (x : Vec Ideal S2048x128 .bf16) (t : ℕ) : Vec Ideal S128x128 .bf16 :=
  View.readAt (Elt Ideal) arg.view (Rect.unit (s := S2048x128) ![128 * (t % 16), 0] S128x128.size (inbQ t)).toLoadRect (harg.unread x)
/-- The keys (or values) of tile `t`, as loaded. -/
def RK (arg : Memref sig .tc .vmem S8704x128 .bf16) (harg : arg.IsWhole) (x : Vec Ideal S8704x128 .bf16) (t : ℕ) : Vec Ideal S640x128 .bf16 :=
  View.readAt (Elt Ideal) arg.view (Rect.unit (s := S8704x128) (k0_off2 i (BitVec.ofNat 32 (t % 16))) S640x128.size (k0_off2_inb i ⟨t % 16, Nat.mod_lt t (by norm_num)⟩)).toLoadRect (harg.unread x)
/-- The frame of the bias of tile `t`, as loaded. -/
def RB (t : ℕ) : Vec Ideal S1x1x640x128 .f32 :=
  View.readAt (Elt Ideal) arg6.view (Rect.unit (s := S1x5x640x128) (k0_off3 i (BitVec.ofNat 32 (t % 16))) S1x1x640x128.size (k0_off3_inb i ⟨t % 16, Nat.mod_lt t (by norm_num)⟩)).toLoadRect (harg6.unread x4)
/-- The gradient of the scores of tile `t`, as the body computes it. -/
def RD (t : ℕ) := dA (RK i arg3 harg3 x1 t) (RK i arg4 harg4 x2 t) (RQ arg2 harg2 x0 t) (RQ arg5 harg5 x3 t) (RB i arg6 harg6 x4 t)
/-- The softmax of tile `t`, as the body computes it. -/
def RP (t : ℕ) := pA (RK i arg3 harg3 x1 t) (RQ arg2 harg2 x0 t) (RB i arg6 harg6 x4 t)

theorem RQ_eq (arg : Memref sig .tc .vmem S2048x128 .bf16) (harg : arg.IsWhole) (x : Vec Ideal S2048x128 .bf16) : RQ arg harg x = LQ x := by
  funext t j
  obtain ⟨a, b, rfl⟩ : ∃ a b, j = ix2 a b := ⟨_, _, eq_ix2 j⟩
  exact ld_rows arg harg x _ rfl _ a b

theorem RK_eq (arg : Memref sig .tc .vmem S8704x128 .bf16) (harg : arg.IsWhole) (x : Vec Ideal S8704x128 .bf16) : RK i arg harg x = LK (i 1).val x := by
  funext t j
  obtain ⟨a, b, rfl⟩ : ∃ a b, j = ix2 a b := ⟨_, _, eq_ix2 j⟩
  exact ld_rows arg harg x _ (k0_off2_eq i ⟨t % 16, Nat.mod_lt t (by norm_num)⟩) _ a b

theorem RB_eq : RB i arg6 harg6 x4 = LB (i 1).val x4 := by
  funext t j
  obtain ⟨a, b, y, z, rfl⟩ : ∃ a b y z, j = ix4 a b y z := ⟨_, _, _, _, eq_ix4 j⟩
  obtain rfl := Subsingleton.elim a 0
  obtain rfl := Subsingleton.elim b 0
  exact ld_frame arg6 harg6 x4 _ (k0_off3_eq i ⟨t % 16, Nat.mod_lt t (by norm_num)⟩) _ y z

theorem RD_eq : RD i arg2 harg2 arg3 harg3 arg4 harg4 arg5 harg5 arg6 harg6 x0 x1 x2 x3 x4 = LD (i 1).val x0 x1 x2 x3 x4 := by
  funext t
  unfold RD LD
  rw [RQ_eq, RQ_eq, RK_eq, RK_eq, RB_eq, dA_eq]

theorem RP_eq : RP i arg2 harg2 arg3 harg3 arg6 harg6 x0 x1 x4 = LP (i 1).val x0 x1 x4 := by
  funext t
  unfold RP LP
  rw [RQ_eq, RK_eq, RB_eq, pA_eq]

set_option maxHeartbeats 1000000

/-! ## A head's first point -/

theorem dqA (hc0 : first i) (hc1 : ¬last i) (f : arg9.view.ty.Contents (Elt Ideal)) :
    Holds arg9 f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1).1 (fun t => dqT ((RD i arg2 harg2 arg3 harg3 arg4 harg4 arg5 harg5 arg6 harg6 x0 x1 x2 x3 x4) t) (RK i arg3 harg3 x1 t)) 16 := by
  iterate 16 refine holds_step _ (dqT_of rfl) ?_
  exact holds_nil
theorem keysA (hc0 : first i) (hc1 : ¬last i) : Leaves arg13 arg13.view.junk (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1).2.2.1
    (arr2 (added (fun _ _ => 0) (addK (RD i arg2 harg2 arg3 harg3 arg4 harg4 arg5 harg5 arg6 harg6 x0 x1 x2 x3 x4) (rowF x0)) (2048 * (i 1).val) 20)) := by
  refine leaves_step (by norm_num) (keys1b (ld_rows arg2 harg2 x0 _ rfl _) rfl) ?_
  refine leaves_step (by norm_num) (keys2b (ld_rows arg2 harg2 x0 _ rfl _) rfl) ?_
  refine leaves_step (by norm_num) (keys3b (ld_rows arg2 harg2 x0 _ rfl _) rfl) ?_
  refine leaves_step (by norm_num) (keys4b (ld_rows arg2 harg2 x0 _ rfl _) rfl) ?_
  iterate 12 refine leaves_step (by norm_num) (keys5 (ld_rows arg2 harg2 x0 _ rfl _) rfl) ?_
  refine leaves_step (by norm_num) (keys4a (ld_rows arg2 harg2 x0 _ rfl _) rfl) ?_
  refine leaves_step (by norm_num) (keys3a (ld_rows arg2 harg2 x0 _ rfl _) rfl) ?_
  refine leaves_step (by norm_num) (keys2a (ld_rows arg2 harg2 x0 _ rfl _) rfl) ?_
  refine leaves_step (by norm_num) (keys1a (ld_rows arg2 harg2 x0 _ rfl _) rfl) ?_
  exact leaves_zeros pay4_zero
theorem valsA (hc0 : first i) (hc1 : ¬last i) : Leaves arg14 arg14.view.junk (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1).2.2.2.1
    (arr2 (added (fun _ _ => 0) (addV (RP i arg2 harg2 arg3 harg3 arg6 harg6 x0 x1 x4) (rowF x3)) (2048 * (i 1).val) 20)) := by
  refine leaves_step (by norm_num) (vals1b (ld_rows arg5 harg5 x3 _ rfl _) rfl) ?_
  refine leaves_step (by norm_num) (vals2b (ld_rows arg5 harg5 x3 _ rfl _) rfl) ?_
  refine leaves_step (by norm_num) (vals3b (ld_rows arg5 harg5 x3 _ rfl _) rfl) ?_
  refine leaves_step (by norm_num) (vals4b (ld_rows arg5 harg5 x3 _ rfl _) rfl) ?_
  iterate 12 refine leaves_step (by norm_num) (vals5 (ld_rows arg5 harg5 x3 _ rfl _) rfl) ?_
  refine leaves_step (by norm_num) (vals4a (ld_rows arg5 harg5 x3 _ rfl _) rfl) ?_
  refine leaves_step (by norm_num) (vals3a (ld_rows arg5 harg5 x3 _ rfl _) rfl) ?_
  refine leaves_step (by norm_num) (vals2a (ld_rows arg5 harg5 x3 _ rfl _) rfl) ?_
  refine leaves_step (by norm_num) (vals1a (ld_rows arg5 harg5 x3 _ rfl _) rfl) ?_
  exact leaves_zeros pay5_zero

/-! ## A middle point -/

theorem dqM (hc0 : ¬first i) (hc1 : ¬last i) (f : arg9.view.ty.Contents (Elt Ideal)) :
    Holds arg9 f (runM c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14).1 (fun t => dqT ((RD i arg2 harg2 arg3 harg3 arg4 harg4 arg5 harg5 arg6 harg6 x0 x1 x2 x3 x4) t) (RK i arg3 harg3 x1 t)) 16 := by
  iterate 16 refine holds_step _ (dqT_of rfl) ?_
  exact holds_nil
theorem keysM (hc0 : ¬first i) (hc1 : ¬last i) : Leaves arg13 (harg13.unread y13) (runM c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14).2.2.1
    (arr2 (added (fun a d => y13 (ix2 a d)) (addK (RD i arg2 harg2 arg3 harg3 arg4 harg4 arg5 harg5 arg6 harg6 x0 x1 x2 x3 x4) (rowF x0)) (2048 * (i 1).val) 20)) := by
  refine leaves_step' (by norm_num) (keys1b (ld_rows arg2 harg2 x0 _ rfl _) rfl) ?_
  refine leaves_step' (by norm_num) (keys2b (ld_rows arg2 harg2 x0 _ rfl _) rfl) ?_
  refine leaves_step' (by norm_num) (keys3b (ld_rows arg2 harg2 x0 _ rfl _) rfl) ?_
  refine leaves_step' (by norm_num) (keys4b (ld_rows arg2 harg2 x0 _ rfl _) rfl) ?_
  iterate 12 refine leaves_step' (by norm_num) (keys5 (ld_rows arg2 harg2 x0 _ rfl _) rfl) ?_
  refine leaves_step' (by norm_num) (keys4a (ld_rows arg2 harg2 x0 _ rfl _) rfl) ?_
  refine leaves_step' (by norm_num) (keys3a (ld_rows arg2 harg2 x0 _ rfl _) rfl) ?_
  refine leaves_step' (by norm_num) (keys2a (ld_rows arg2 harg2 x0 _ rfl _) rfl) ?_
  refine leaves_step' (by norm_num) (keys1a (ld_rows arg2 harg2 x0 _ rfl _) rfl) ?_
  exact leaves_nil harg13 y13
theorem valsM (hc0 : ¬first i) (hc1 : ¬last i) : Leaves arg14 (harg14.unread y14) (runM c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14).2.2.2.1
    (arr2 (added (fun a d => y14 (ix2 a d)) (addV (RP i arg2 harg2 arg3 harg3 arg6 harg6 x0 x1 x4) (rowF x3)) (2048 * (i 1).val) 20)) := by
  refine leaves_step' (by norm_num) (vals1b (ld_rows arg5 harg5 x3 _ rfl _) rfl) ?_
  refine leaves_step' (by norm_num) (vals2b (ld_rows arg5 harg5 x3 _ rfl _) rfl) ?_
  refine leaves_step' (by norm_num) (vals3b (ld_rows arg5 harg5 x3 _ rfl _) rfl) ?_
  refine leaves_step' (by norm_num) (vals4b (ld_rows arg5 harg5 x3 _ rfl _) rfl) ?_
  iterate 12 refine leaves_step' (by norm_num) (vals5 (ld_rows arg5 harg5 x3 _ rfl _) rfl) ?_
  refine leaves_step' (by norm_num) (vals4a (ld_rows arg5 harg5 x3 _ rfl _) rfl) ?_
  refine leaves_step' (by norm_num) (vals3a (ld_rows arg5 harg5 x3 _ rfl _) rfl) ?_
  refine leaves_step' (by norm_num) (vals2a (ld_rows arg5 harg5 x3 _ rfl _) rfl) ?_
  refine leaves_step' (by norm_num) (vals1a (ld_rows arg5 harg5 x3 _ rfl _) rfl) ?_
  exact leaves_nil harg14 y14

/-! ## The last point -/

theorem dqZ (hc0 : ¬first i) (hc1 : last i) (f : arg9.view.ty.Contents (Elt Ideal)) :
    Holds arg9 f (runZ c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14 y15 y16).1 (fun t => dqT ((RD i arg2 harg2 arg3 harg3 arg4 harg4 arg5 harg5 arg6 harg6 x0 x1 x2 x3 x4) t) (RK i arg3 harg3 x1 t)) 16 := by
  iterate 16 refine holds_step _ (dqT_of rfl) ?_
  exact holds_nil
theorem keysZ (hc0 : ¬first i) (hc1 : last i) : Leaves arg13 (harg13.unread y13) (runZ c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14 y15 y16).2.2.2.2.1
    (arr2 (added (fun a d => y13 (ix2 a d)) (addK (RD i arg2 harg2 arg3 harg3 arg4 harg4 arg5 harg5 arg6 harg6 x0 x1 x2 x3 x4) (rowF x0)) (2048 * (i 1).val) 20)) := by
  refine leaves_step' (by norm_num) (keys1b (ld_rows arg2 harg2 x0 _ rfl _) rfl) ?_
  refine leaves_step' (by norm_num) (keys2b (ld_rows arg2 harg2 x0 _ rfl _) rfl) ?_
  refine leaves_step' (by norm_num) (keys3b (ld_rows arg2 harg2 x0 _ rfl _) rfl) ?_
  refine leaves_step' (by norm_num) (keys4b (ld_rows arg2 harg2 x0 _ rfl _) rfl) ?_
  iterate 12 refine leaves_step' (by norm_num) (keys5 (ld_rows arg2 harg2 x0 _ rfl _) rfl) ?_
  refine leaves_step' (by norm_num) (keys4a (ld_rows arg2 harg2 x0 _ rfl _) rfl) ?_
  refine leaves_step' (by norm_num) (keys3a (ld_rows arg2 harg2 x0 _ rfl _) rfl) ?_
  refine leaves_step' (by norm_num) (keys2a (ld_rows arg2 harg2 x0 _ rfl _) rfl) ?_
  refine leaves_step' (by norm_num) (keys1a (ld_rows arg2 harg2 x0 _ rfl _) rfl) ?_
  exact leaves_nil harg13 y13
theorem valsZ (hc0 : ¬first i) (hc1 : last i) : Leaves arg14 (harg14.unread y14) (runZ c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1 y12 y13 y14 y15 y16).2.2.2.2.2.1
    (arr2 (added (fun a d => y14 (ix2 a d)) (addV (RP i arg2 harg2 arg3 harg3 arg6 harg6 x0 x1 x4) (rowF x3)) (2048 * (i 1).val) 20)) := by
  refine leaves_step' (by norm_num) (vals1b (ld_rows arg5 harg5 x3 _ rfl _) rfl) ?_
  refine leaves_step' (by norm_num) (vals2b (ld_rows arg5 harg5 x3 _ rfl _) rfl) ?_
  refine leaves_step' (by norm_num) (vals3b (ld_rows arg5 harg5 x3 _ rfl _) rfl) ?_
  refine leaves_step' (by norm_num) (vals4b (ld_rows arg5 harg5 x3 _ rfl _) rfl) ?_
  iterate 12 refine leaves_step' (by norm_num) (vals5 (ld_rows arg5 harg5 x3 _ rfl _) rfl) ?_
  refine leaves_step' (by norm_num) (vals4a (ld_rows arg5 harg5 x3 _ rfl _) rfl) ?_
  refine leaves_step' (by norm_num) (vals3a (ld_rows arg5 harg5 x3 _ rfl _) rfl) ?_
  refine leaves_step' (by norm_num) (vals2a (ld_rows arg5 harg5 x3 _ rfl _) rfl) ?_
  refine leaves_step' (by norm_num) (vals1a (ld_rows arg5 harg5 x3 _ rfl _) rfl) ?_
  exact leaves_nil harg14 y14

end Cert.AttnAccTile

end

end
-- ==== Proof.AttnAccLaunch.lean ====
/- The attention's accumulating backward call launched, over any float values: what its pipeline holds point by point, with
   the two copies in flight from a head's first point to its last, the body's obligation and the run. -/
module

public import proofs.«01_k».proof.Proof.AttnAccRunM
public import proofs.«01_k».proof.Proof.AttnAccRunZ
public import Idealize.ShloMosaic.Lib.Claim
public import Idealize.ShloMosaic.Lib.Pointwise
public import Idealize.ShloMosaic.Lib.WritesUnit
public import Idealize.ShloMosaic.Lib.Pipeline.Routed

@[expose] public section

set_option maxRecDepth 16384

noncomputable section

namespace Cert.AttnAcc

open Cert.AttnAIdeal Cert.AttnAIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The points of a head -/

theorem first_iff : ∀ t : Fin cfg0.N, first (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [first, k0_cond1, e1]
    word_cmp
   : ∀ t : Fin grid0.N, first (grid0.coords t) ↔ t.val % 4 = 0)
theorem last_iff : ∀ t : Fin cfg0.N, last (grid0.coords t) ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [last, k0_cond2, e1]
    word_cmp
   : ∀ t : Fin grid0.N, last (grid0.coords t) ↔ t.val % 4 = 3)
theorem not_last {t : Fin cfg0.N} (h : first (grid0.coords t)) : ¬last (grid0.coords t) := fun h' => by
  have := (first_iff t).mp h; have := (last_iff t).mp h'; omega
theorem not_first {t : Fin cfg0.N} (h : last (grid0.coords t)) : ¬first (grid0.coords t) := fun h' => not_last h' h

/-- The point before, and the first point of the head. -/
def prev (t : Fin cfg0.N) : Fin cfg0.N := ⟨t.val - 1, Nat.lt_of_le_of_lt (Nat.sub_le _ _) t.isLt⟩
def head (t : Fin cfg0.N) : Fin cfg0.N := ⟨t.val / 4 * 4, Nat.lt_of_le_of_lt (Nat.div_mul_le_self _ _) t.isLt⟩
theorem head_first (t : Fin cfg0.N) : first (grid0.coords (head t)) :=
  (first_iff _).mpr (show t.val / 4 * 4 % 4 = 0 by omega)

/-! ## What the buffers hold -/

/-- What the two copies bring: a head's columns of the other layer's gradients. -/
def cameK (c : Dev nD) (t : Fin cfg0.N) (h : first (grid0.coords t)) : Vec F S8704x128 .f32 :=
  (col (grid0.coords t) h (Memref.whole main_v62)).view.read (Elt F) (V m c main_v62)
def cameV (c : Dev nD) (t : Fin cfg0.N) (h : first (grid0.coords t)) : Vec F S8704x128 .f32 :=
  (col (grid0.coords t) h (Memref.whole main_v64)).view.read (Elt F) (V m c main_v64)

/-- The sums a head's points build up: of the bias frames, the keys and the values. -/
abbrev Acc (F : FTy → Type) : Type := Vec F S1x5x640x128 .f32 × Vec F S8704x128 .f32 × Vec F S8704x128 .f32

/-- The body's stores at a head's first, middle and last point, on the buffers staged there. -/
abbrev storesA (c : Dev nD) (t : Fin cfg0.N) (h : first (grid0.coords t)) (h' : ¬last (grid0.coords t)) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) h h'
abbrev storesM (c : Dev nD) (t : Fin cfg0.N) (h : ¬first (grid0.coords t)) (h' : ¬last (grid0.coords t)) (y : Acc F) :=
  runM c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) h h' y.1 y.2.1 y.2.2
abbrev storesZ (c : Dev nD) (t : Fin cfg0.N) (h : ¬first (grid0.coords t)) (h' : last (grid0.coords t)) (y : Acc F) :=
  runZ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) h h' y.1 y.2.1 y.2.2 (cameK m c (head t) (head_first t)) (cameV m c (head t) (head_first t))

/-- The sums after a point, from those before it. -/
def step (c : Dev nD) (t : Fin cfg0.N) (y : Acc F) : Acc F :=
  if hf : first (grid0.coords t) then
    ((win0_8.stage (cfg0.slots t 8)).view.read (Elt F) ((win0_8.stage (cfg0.slots t 8)).view.writes (Elt F) (win0_8.stage (cfg0.slots t 8)).view.junk (storesA m c t hf (not_last hf)).2.1), (Memref.whole cc0_scratch0).view.read (Elt F) ((Memref.whole cc0_scratch0).view.writes (Elt F) (Memref.whole cc0_scratch0).view.junk (storesA m c t hf (not_last hf)).2.2.1), (Memref.whole cc0_scratch1).view.read (Elt F) ((Memref.whole cc0_scratch1).view.writes (Elt F) (Memref.whole cc0_scratch1).view.junk (storesA m c t hf (not_last hf)).2.2.2.1))
  else if hl : last (grid0.coords t) then
    ((win0_8.stage (cfg0.slots t 8)).view.read (Elt F) ((win0_8.stage (cfg0.slots t 8)).view.writes (Elt F) ((hstage0_8 ((cfg0.slots t 8).cast nbuf0_8)).unread y.1) (storesZ m c t hf hl y).2.2.2.1), (Memref.whole cc0_scratch0).view.read (Elt F) ((Memref.whole cc0_scratch0).view.writes (Elt F) ((Memref.isWhole_whole cc0_scratch0).unread y.2.1) (storesZ m c t hf hl y).2.2.2.2.1), (Memref.whole cc0_scratch1).view.read (Elt F) ((Memref.whole cc0_scratch1).view.writes (Elt F) ((Memref.isWhole_whole cc0_scratch1).unread y.2.2) (storesZ m c t hf hl y).2.2.2.2.2.1))
  else
    ((win0_8.stage (cfg0.slots t 8)).view.read (Elt F) ((win0_8.stage (cfg0.slots t 8)).view.writes (Elt F) ((hstage0_8 ((cfg0.slots t 8).cast nbuf0_8)).unread y.1) (storesM m c t hf hl y).2.1), (Memref.whole cc0_scratch0).view.read (Elt F) ((Memref.whole cc0_scratch0).view.writes (Elt F) ((Memref.isWhole_whole cc0_scratch0).unread y.2.1) (storesM m c t hf hl y).2.2.1), (Memref.whole cc0_scratch1).view.read (Elt F) ((Memref.whole cc0_scratch1).view.writes (Elt F) ((Memref.isWhole_whole cc0_scratch1).unread y.2.2) (storesM m c t hf hl y).2.2.2.1))
/-- The sums after point `n`. -/
def acc (c : Dev nD) : (n : ℕ) → n < cfg0.N → Acc F
  | 0, h => step m c ⟨0, h⟩ ((win0_8.stage (cfg0.slots ⟨0, h⟩ 8)).view.read (Elt F) (win0_8.stage (cfg0.slots ⟨0, h⟩ 8)).view.junk, (Memref.whole cc0_scratch0).view.read (Elt F) (Memref.whole cc0_scratch0).view.junk, (Memref.whole cc0_scratch1).view.read (Elt F) (Memref.whole cc0_scratch1).view.junk)
  | n + 1, h => step m c ⟨n + 1, h⟩ (acc c n (by omega))
theorem acc_succ (c : Dev nD) (t : Fin cfg0.N) (h : t.val ≠ 0) :
    acc m c t.val t.isLt = step m c t (acc m c (prev t).val (prev t).isLt) := by
  obtain ⟨n, hn⟩ := t
  cases n with
  | zero => exact absurd rfl h
  | succ n => rfl
/-- What a point leaves in the block of the queries' gradient. -/
def nine (c : Dev nD) (t : Fin cfg0.N) : Vec F S2048x128 .bf16 :=
  if hf : first (grid0.coords t) then (win0_5.stage (cfg0.slots t 5)).view.read (Elt F) ((win0_5.stage (cfg0.slots t 5)).view.writes (Elt F) (win0_5.stage (cfg0.slots t 5)).view.junk (storesA m c t hf (not_last hf)).1)
  else if hl : last (grid0.coords t) then (win0_5.stage (cfg0.slots t 5)).view.read (Elt F) ((win0_5.stage (cfg0.slots t 5)).view.writes (Elt F) (win0_5.stage (cfg0.slots t 5)).view.junk (storesZ m c t hf hl (acc m c (prev t).val (prev t).isLt)).1)
  else (win0_5.stage (cfg0.slots t 5)).view.read (Elt F) ((win0_5.stage (cfg0.slots t 5)).view.writes (Elt F) (win0_5.stage (cfg0.slots t 5)).view.junk (storesM m c t hf hl (acc m c (prev t).val (prev t).isLt)).1)
/-- What the last point leaves in the blocks of the keys' and the values' gradients. -/
def ten (c : Dev nD) (t : Fin cfg0.N) : Vec F S8192x128 .bf16 :=
  if hl : last (grid0.coords t) then (win0_6.stage (cfg0.slots t 6)).view.read (Elt F) ((win0_6.stage (cfg0.slots t 6)).view.writes (Elt F) (win0_6.stage (cfg0.slots t 6)).view.junk (storesZ m c t (not_first hl) hl (acc m c (prev t).val (prev t).isLt)).2.1)
  else (win0_6.stage (cfg0.slots t 6)).view.read (Elt F) (win0_6.stage (cfg0.slots t 6)).view.junk
def eleven (c : Dev nD) (t : Fin cfg0.N) : Vec F S8192x128 .bf16 :=
  if hl : last (grid0.coords t) then (win0_7.stage (cfg0.slots t 7)).view.read (Elt F) ((win0_7.stage (cfg0.slots t 7)).view.writes (Elt F) (win0_7.stage (cfg0.slots t 7)).view.junk (storesZ m c t (not_first hl) hl (acc m c (prev t).val (prev t).isLt)).2.2.1)
  else (win0_7.stage (cfg0.slots t 7)).view.read (Elt F) (win0_7.stage (cfg0.slots t 7)).view.junk

/-! ## What is held between points -/

/-- The buffers the call reads by its own copies, and its two semaphores. -/
abbrev sent : Finset (Ref sig .tc) := {main_v62, main_v64}
abbrev osem : Fin 2 → SemLoc sig := ![sem0, sem1]

abbrev restOf (c : Dev nD) (t : Fin cfg0.N) (h : first (grid0.coords t)) (b : Memref sig .tc .hbm S8704x2048 .f32) (g : b.view.ty.Contents (Elt F)) : sProp 𝕄 :=
  iprop(b.view.loc (c : Thread nD τ) ↦[b.view.set \ (col (grid0.coords t) h b).view.set]{fullShare} g)
abbrev colOf (c : Dev nD) (t : Fin cfg0.N) (h : first (grid0.coords t)) (b : Memref sig .tc .hbm S8704x2048 .f32) (g : b.view.ty.Contents (Elt F)) : sProp 𝕄 :=
  iprop((col (grid0.coords t) h b).view.loc (c : Thread nD τ) ↦[(col (grid0.coords t) h b).view.set]{fullShare} g)
abbrev wholeOf {sp : Space} {s : Shape} {e : EltTy} (c : Dev nD) (b : Memref sig .tc sp s e) (g : b.view.ty.Contents (Elt F)) : sProp 𝕄 :=
  iprop(b.view.loc (c : Thread nD τ) ↦[b.view.set]{fullShare} g)

/-- A copy of a head's columns of `b` in flight into `d`. -/
abbrev flying (c : Dev nD) (t : Fin cfg0.N) (h : first (grid0.coords t)) (s : SemLoc sig) (d : Memref sig .tc .vmem S8704x128 .f32)
    (b : Memref sig .tc .hbm S8704x2048 .f32) (g : b.view.ty.Contents (Elt F)) (x : d.view.ty.Contents (Elt F)) : sProp 𝕄 :=
  Transfers.Flight (countersEmb (U := Pipeline.UC sig nD τ)) (c : Thread nD τ) s () 139264 iprop(wholeOf c d x ∗ colOf c t h b g)

/-- Between the points of a head: the two copies in flight, the rest of what they read, the generator's register. -/
def Fly (c : Dev nD) (t : Fin cfg0.N) (h : first (grid0.coords t)) : sProp 𝕄 :=
  iprop(restOf c t h (Memref.whole main_v62) (V m c main_v62) ∗ restOf c t h (Memref.whole main_v64) (V m c main_v64)
    ∗ flying c t h sem0 (Memref.whole cc0_scratch2) (Memref.whole main_v62) (V m c main_v62) ((Memref.isWhole_whole cc0_scratch2).unread (cameK m c t h))
    ∗ flying c t h sem1 (Memref.whole cc0_scratch3) (Memref.whole main_v64) (V m c main_v64) ((Memref.isWhole_whole cc0_scratch3).unread (cameV m c t h))
    ∗ ∃ r, prngReg c r)
theorem Fly_congr (c : Dev nD) {t t' : Fin cfg0.N} (e : t = t') (h : first (grid0.coords t)) (h' : first (grid0.coords t')) :
    Fly m c t h = Fly m c t' h' := by subst e; rfl

/-- What is held before point `n`. -/
def held (c : Dev nD) (n : ℕ) (hn : n - 1 < cfg0.N) : sProp 𝕄 :=
  if n % 4 = 0 then Pipeline.Ends spec0 osem sent c (V m c)
  else iprop(owns (c : Thread nD τ) (Memref.whole cc0_scratch0) fullShare (acc m c (n - 1) hn).2.1
    ∗ owns (c : Thread nD τ) (Memref.whole cc0_scratch1) fullShare (acc m c (n - 1) hn).2.2
    ∗ Fly m c (head ⟨n - 1, hn⟩) (head_first ⟨n - 1, hn⟩))

/-- The resources at a head's ends, one by one. -/
theorem ends_eq (c : Dev nD) : (Pipeline.Ends spec0 osem sent c (V m c) : sProp 𝕄)
    = iprop((wholeOf c (Memref.whole main_v62) (V m c main_v62) ∗ wholeOf c (Memref.whole main_v64) (V m c main_v64))
      ∗ (semVal ((c : Thread nD τ), sem0) 0 ∗ semVal ((c : Thread nD τ), sem1) 0)
      ∗ ((∃ f, wholeOf c (Memref.whole cc0_scratch0) f) ∗ (∃ f, wholeOf c (Memref.whole cc0_scratch1) f)
        ∗ (∃ f, wholeOf c (Memref.whole cc0_scratch2) f) ∗ (∃ f, wholeOf c (Memref.whole cc0_scratch3) f))
      ∗ ∃ r, prngReg c r) := by
  unfold Pipeline.Ends Pipeline.routed
  rw [scopedRest0_eq, Pipeline.ownSems0_eq_of_list c osem [0, 1] (by decide) (by decide),
    bigSep_eq_bigSepL_of_eq (S := sent) [main_v62, main_v64] (by decide) (by decide)]
  simp only [wholeOf, Memref.view_whole, View.set_whole]
  rfl

/-! ## The pipeline's proof data -/

/-- The arrays as the region finds them; after the body each input's buffer at its block and the outputs' as above. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => nine m c t
    | ⟨6, _⟩ => ten m c t
    | ⟨7, _⟩ => eleven m c t
    | ⟨8, _⟩ => (acc m c t.val t.isLt).1
  Φ k := held m c k.val (by have := k.isLt; have : cfg0.N = 64 := N_0; omega)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = nine m c t := by dsimp only [dats]
theorem after0_6 (c : Dev nD) (t : Fin cfg0.N) : (dats m 0 c).after 6 t = ten m c t := by dsimp only [dats]
theorem after0_7 (c : Dev nD) (t : Fin cfg0.N) : (dats m 0 c).after 7 t = eleven m c t := by dsimp only [dats]
theorem after0_8 (c : Dev nD) (t : Fin cfg0.N) : (dats m 0 c).after 8 t = (acc m c t.val t.isLt).1 := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- After a head's first point the bias frames' buffer holds what the point before left. -/
theorem before0_8 (c : Dev nD) (t : Fin cfg0.N) (h0 : ¬t.val % 4 = 0) (d) :
    (dats m 0 c).before 8 t d = (acc m c (prev t).val (prev t).isLt).1 := by
  rw [Dat.before_out_kept _ 8 rfl t (by omega) (Bool.eq_false_iff.mpr fun h => by have := (flush0_8 _).mp h; dsimp only at this; omega)
    (fun _ => rfl) (fun _ _ => rfl)]
  exact after0_8 m c (prev t)

end Cert.AttnAcc

end

end
-- ==== Proof.AttnAccFrame.lean ====
/- The attention's accumulating backward call over any float values: the body's obligation at a head's first, middle and
   last points, the run of the call, and that it leaves its arguments as they were. -/
module

public import proofs.«01_k».proof.Proof.AttnAccLaunch

@[expose] public section

set_option maxRecDepth 16384

noncomputable section

namespace Cert.AttnAcc

open Cert.AttnAIdeal Cert.AttnAIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The stores of the blocks written whole -/

/-- Stores of tiles of 128 rows leave the same of any two contents. -/
def Same (arg : Memref sig .tc .vmem S2048x128 .bf16) (f f' : arg.view.ty.Contents (Elt F))
    (L : List (View.Piece (Elt F) S2048x128 .bf16)) (n : ℕ) : Prop :=
  ∀ (a : Fin 2048) (d : Fin 128), a.val < 128 * n →
    arg.view.read (Elt F) (arg.view.writes (Elt F) f L) (ix2 a d) = arg.view.read (Elt F) (arg.view.writes (Elt F) f' L) (ix2 a d)

theorem same_step {arg : Memref sig .tc .vmem S2048x128 .bf16} {f f' : arg.view.ty.Contents (Elt F)}
    {L : List (View.Piece (Elt F) S2048x128 .bf16)} (n : ℕ)
    {inb : ∀ a, (![128 * n, 0] : Fin 2 → ℕ) a + S128x128.size a ≤ S2048x128.size a} {w : S128x128.Idx → Elt F .bf16}
    (hL : Same arg f f' L n) : Same arg f f' (⟨Rect.unit (s := S2048x128) ![128 * n, 0] S128x128.size inb, w⟩ :: L) (n + 1) := by
  intro a d ha
  by_cases h : a.val < 128 * n
  · have e : ∀ g, arg.view.read (Elt F) (arg.view.writes (Elt F) g (⟨Rect.unit (s := S2048x128) ![128 * n, 0] S128x128.size inb, w⟩ :: L)) (ix2 a d)
        = arg.view.read (Elt F) (arg.view.writes (Elt F) g L) (ix2 a d) := fun g =>
      View.read_writes_cons_rows_of_not_mem arg.view g inb w L (ix2 a d) rfl (W := 128) rfl (by
        show a.val < 128 * n ∨ 128 * n + 128 ≤ a.val
        omega)
    exact (e f).trans ((hL a d h).trans (e f').symm)
  · have hx : a.val - 128 * n < 128 := by omega
    have e : ∀ g, arg.view.read (Elt F) (arg.view.writes (Elt F) g (⟨Rect.unit (s := S2048x128) ![128 * n, 0] S128x128.size inb, w⟩ :: L)) (ix2 a d)
        = w (ix2 ⟨a.val - 128 * n, hx⟩ d) := fun g =>
      View.read_writes_cons_rows_of_mem arg.view g inb w L (ix2 a d) (ix2 ⟨a.val - 128 * n, hx⟩ d) rfl
        (by show a.val = 128 * n + (a.val - 128 * n); omega) rfl
    exact (e f).trans (e f').symm

theorem same_nil {arg : Memref sig .tc .vmem S2048x128 .bf16} {f f' : arg.view.ty.Contents (Elt F)}
    {L : List (View.Piece (Elt F) S2048x128 .bf16)} : Same arg f f' L 0 := fun a _ h => absurd h (Nat.not_lt_zero a.val)

theorem same_all {arg : Memref sig .tc .vmem S2048x128 .bf16} {f f' : arg.view.ty.Contents (Elt F)}
    {L : List (View.Piece (Elt F) S2048x128 .bf16)} (h : Same arg f f' L 16) :
    arg.view.read (Elt F) (arg.view.writes (Elt F) f L) = arg.view.read (Elt F) (arg.view.writes (Elt F) f' L) := by
  funext y
  obtain ⟨a, d, rfl⟩ : ∃ a d, y = ix2 a d := ⟨_, _, eq_ix2 y⟩
  exact h a d (by have := a.isLt; omega)

/-- One store of a whole block is what the block then reads. -/
theorem read_one (arg : Memref sig .tc .vmem S8192x128 .bf16) (f : arg.view.ty.Contents (Elt F))
    {inb : ∀ a, (![0, 0] : Fin 2 → ℕ) a + S8192x128.size a ≤ S8192x128.size a} {w : S8192x128.Idx → Elt F .bf16} :
    arg.view.read (Elt F) (arg.view.writes (Elt F) f [⟨Rect.unit (s := S8192x128) ![0, 0] S8192x128.size inb, w⟩]) = w := by
  funext y
  obtain ⟨a, d, rfl⟩ : ∃ a d, y = ix2 a d := ⟨_, _, eq_ix2 y⟩
  exact View.read_writes_cons_rows_of_mem arg.view f inb w [] (ix2 a d) (ix2 a d) rfl (by show a.val = 0 + a.val; omega) rfl

/-! ## The sums point by point -/

set_option maxHeartbeats 4000000 in
theorem acc_first (c : Dev nD) (t : Fin cfg0.N) (hf : first (grid0.coords t)) :
    acc m c t.val t.isLt = ((win0_8.stage (cfg0.slots t 8)).view.read (Elt F) ((win0_8.stage (cfg0.slots t 8)).view.writes (Elt F) (win0_8.stage (cfg0.slots t 8)).view.junk (storesA m c t hf (not_last hf)).2.1), (Memref.whole cc0_scratch0).view.read (Elt F) ((Memref.whole cc0_scratch0).view.writes (Elt F) (Memref.whole cc0_scratch0).view.junk (storesA m c t hf (not_last hf)).2.2.1), (Memref.whole cc0_scratch1).view.read (Elt F) ((Memref.whole cc0_scratch1).view.writes (Elt F) (Memref.whole cc0_scratch1).view.junk (storesA m c t hf (not_last hf)).2.2.2.1)) := by
  obtain ⟨n, hn⟩ := t
  cases n with
  | zero => exact dif_pos hf
  | succ n => exact dif_pos hf
set_option maxHeartbeats 4000000 in
theorem acc_last (c : Dev nD) (t : Fin cfg0.N) (hf : ¬first (grid0.coords t)) (hl : last (grid0.coords t)) :
    acc m c t.val t.isLt = ((win0_8.stage (cfg0.slots t 8)).view.read (Elt F) ((win0_8.stage (cfg0.slots t 8)).view.writes (Elt F) ((hstage0_8 ((cfg0.slots t 8).cast nbuf0_8)).unread (acc m c (prev t).val (prev t).isLt).1) (storesZ m c t hf hl (acc m c (prev t).val (prev t).isLt)).2.2.2.1), (Memref.whole cc0_scratch0).view.read (Elt F) ((Memref.whole cc0_scratch0).view.writes (Elt F) ((Memref.isWhole_whole cc0_scratch0).unread (acc m c (prev t).val (prev t).isLt).2.1) (storesZ m c t hf hl (acc m c (prev t).val (prev t).isLt)).2.2.2.2.1), (Memref.whole cc0_scratch1).view.read (Elt F) ((Memref.whole cc0_scratch1).view.writes (Elt F) ((Memref.isWhole_whole cc0_scratch1).unread (acc m c (prev t).val (prev t).isLt).2.2) (storesZ m c t hf hl (acc m c (prev t).val (prev t).isLt)).2.2.2.2.2.1)) := by
  rw [acc_succ m c t (fun h => hf ((first_iff t).mpr (by omega)))]
  exact (dif_neg hf).trans (dif_pos hl)
set_option maxHeartbeats 4000000 in
theorem acc_mid (c : Dev nD) (t : Fin cfg0.N) (hf : ¬first (grid0.coords t)) (hl : ¬last (grid0.coords t)) :
    acc m c t.val t.isLt = ((win0_8.stage (cfg0.slots t 8)).view.read (Elt F) ((win0_8.stage (cfg0.slots t 8)).view.writes (Elt F) ((hstage0_8 ((cfg0.slots t 8).cast nbuf0_8)).unread (acc m c (prev t).val (prev t).isLt).1) (storesM m c t hf hl (acc m c (prev t).val (prev t).isLt)).2.1), (Memref.whole cc0_scratch0).view.read (Elt F) ((Memref.whole cc0_scratch0).view.writes (Elt F) ((Memref.isWhole_whole cc0_scratch0).unread (acc m c (prev t).val (prev t).isLt).2.1) (storesM m c t hf hl (acc m c (prev t).val (prev t).isLt)).2.2.1), (Memref.whole cc0_scratch1).view.read (Elt F) ((Memref.whole cc0_scratch1).view.writes (Elt F) ((Memref.isWhole_whole cc0_scratch1).unread (acc m c (prev t).val (prev t).isLt).2.2) (storesM m c t hf hl (acc m c (prev t).val (prev t).isLt)).2.2.2.1)) := by
  rw [acc_succ m c t (fun h => hf ((first_iff t).mpr (by omega)))]
  exact (dif_neg hf).trans (dif_neg hl)

/-! ## What is held before and after a point -/

theorem held_ends (c : Dev nD) (n : ℕ) (hn : n - 1 < cfg0.N) (h : n % 4 = 0) : held m c n hn = Pipeline.Ends spec0 osem sent c (V m c) := if_pos h
theorem held_next (c : Dev nD) (t : Fin cfg0.N) (hn : t.val + 1 - 1 < cfg0.N) (h : ¬(t.val + 1) % 4 = 0) :
    held m c (t.val + 1) hn = iprop(owns (c : Thread nD τ) (Memref.whole cc0_scratch0) fullShare (acc m c t.val t.isLt).2.1
      ∗ owns (c : Thread nD τ) (Memref.whole cc0_scratch1) fullShare (acc m c t.val t.isLt).2.2
      ∗ Fly m c (head t) (head_first t)) := if_neg h
theorem held_prev (c : Dev nD) (t : Fin cfg0.N) (hn : t.val - 1 < cfg0.N) (h : ¬t.val % 4 = 0) :
    held m c t.val hn = iprop(owns (c : Thread nD τ) (Memref.whole cc0_scratch0) fullShare (acc m c (prev t).val (prev t).isLt).2.1
      ∗ owns (c : Thread nD τ) (Memref.whole cc0_scratch1) fullShare (acc m c (prev t).val (prev t).isLt).2.2
      ∗ Fly m c (head t) (head_first t)) := by
  have e : head (prev t) = head t := Fin.ext (show (t.val - 1) / 4 * 4 = t.val / 4 * 4 by omega)
  rw [Fly_congr m c e.symm (head_first t) (head_first (prev t))]
  exact if_neg h

/-- A landed copy is the array it brought. -/
theorem landed {d : Memref sig .tc .vmem S8704x128 .f32} (hd : d.IsWhole) (f : d.view.ty.Contents (Elt F)) (x : Vec F S8704x128 .f32) :
    d.view.writes (Elt F) f [⟨Rect.whole S8704x128, x⟩] = hd.unread x := hd.eq_unread (View.read_writes_whole d.view f x)
theorem join_col (c : Dev nD) (t : Fin cfg0.N) (h : first (grid0.coords t)) (b : Memref sig .tc .hbm S8704x2048 .f32) (g : b.view.ty.Contents (Elt F)) :
    iprop(colOf c t h b g ∗ restOf c t h b g) ⊢ wholeOf c b g :=
  (pointsTo_split_subset (View.set_slice_subset (v := b.view) (Rect.unit (s := S8704x2048) (k0_off1 (grid0.coords t)) S8704x128.size (k0_off1_inb (grid0.coords t) h)))).2

/-! ## The body's obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ owns (c : Thread nD τ) (st0_8 t) fullShare ((dats m 0 c).after 8 t))

set_option maxHeartbeats 4000000

/-- The stores into the gradient of the queries are its 16 tiles. -/
theorem sameA (c : Dev nD) (t : Fin cfg0.N) (hf hl) (f f') : Same (win0_5.stage (cfg0.slots t 5)) f f' (storesA m c t hf hl).1 16 := by
  iterate 16 refine same_step _ ?_
  exact same_nil
theorem sameM (c : Dev nD) (t : Fin cfg0.N) (hf hl) {y} (f f') : Same (win0_5.stage (cfg0.slots t 5)) f f' (storesM m c t hf hl y).1 16 := by
  iterate 16 refine same_step _ ?_
  exact same_nil
theorem sameZ (c : Dev nD) (t : Fin cfg0.N) (hf hl) {y} (f f') : Same (win0_5.stage (cfg0.slots t 5)) f f' (storesZ m c t hf hl y).1 16 := by
  iterate 16 refine same_step _ ?_
  exact same_nil

theorem idle6 (t : Fin cfg0.N) (h : ¬last (grid0.coords t)) : cfg0.idle 6 (cfg0.grid.coords t) = true := by
  show (!(k0_cond2 (grid0.coords t) == 1#1)) = true
  rw [beq_eq_false_iff_ne.mpr h]; rfl
theorem idle7 (t : Fin cfg0.N) (h : ¬last (grid0.coords t)) : cfg0.idle 7 (cfg0.grid.coords t) = true := by
  show (!(k0_cond2 (grid0.coords t) == 1#1)) = true
  rw [beq_eq_false_iff_ne.mpr h]; rfl
theorem busy6 (t : Fin cfg0.N) (h : last (grid0.coords t)) : cfg0.idle 6 (cfg0.grid.coords t) = false := by
  show (!(k0_cond2 (grid0.coords t) == 1#1)) = false
  rw [beq_iff_eq.mpr h]; rfl
theorem busy7 (t : Fin cfg0.N) (h : last (grid0.coords t)) : cfg0.idle 7 (cfg0.grid.coords t) = false := by
  show (!(k0_cond2 (grid0.coords t) == 1#1)) = false
  rw [beq_iff_eq.mpr h]; rfl

/-- A head's first point. -/
theorem sound_first (c : Dev nD) (t : Fin cfg0.N) (hf : first (grid0.coords t)) :
    bodyPre m c t ⊢ wp frame (wpE (defs₀ (F := F)) Variants.none c none) Set.univ (bodyAt0 t) (fun _ => bodyPost m c t) := by
  have h0 := (first_iff t).mp hf
  unfold bodyPre bodyPost bodyAt0
  simp only [before0_0, before0_1, before0_2, before0_3, before0_4]
  rw [show (dats m 0 c).Φ t.castSucc = _ from held_ends m c t.val _ h0, ends_eq m c,
    show (dats m 0 c).Φ t.succ = _ from held_next m c t _ (by omega),
    Fly_congr m c (show head t = t from Fin.ext (show t.val / 4 * 4 = t.val by omega)) (head_first t) hf,
    show (dats m 0 c).owesAt () t.succ = (dats m 0 c).owesAt () t.castSucc from rfl,
    after0_0, after0_1, after0_2, after0_3, after0_4, after0_5, after0_8, acc_first m c t hf,
    Dat.leavesExact_idle (dats m 0 c) 6 t (idle6 t (not_last hf)) (Bool.eq_false_iff.mpr fun h => by have := (flush0_6 _).mp h; omega),
    Dat.leavesExact_idle (dats m 0 c) 7 t (idle7 t (not_last hf)) (Bool.eq_false_iff.mpr fun h => by have := (flush0_7 _).mp h; omega),
    show nine m c t = _ from dif_pos hf]
  iintro ⟨⟨⟨Hv7, Hv8⟩, ⟨Hs0, Hs1⟩, ⟨⟨%g0, Hc0⟩, ⟨%g1, Hc1⟩, ⟨%g2, Hc2⟩, ⟨%g3, Hc3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((storesA m c t hf (not_last hf)).2.2.2.2 (V m c main_v62) (V m c main_v64) _)
  isplitl [H0]; · iexact H0
  isplitl [H1]; · iexact H1
  isplitl [H2]; · iexact H2
  isplitl [H3]; · iexact H3
  isplitl [H4]; · iexact H4
  isplitl [Hv7]; · iexact Hv7
  isplitl [Hv8]; · iexact Hv8
  isplitl [H5]; · iexists _; iexact H5
  isplitl [H8]; · iexists _; iexact H8
  isplitl [Hc0]; · iexists _; iapply (owns_intro _ _ _ _); iexact Hc0
  isplitl [Hc1]; · iexists _; iapply (owns_intro _ _ _ _); iexact Hc1
  isplitl [Hc2]; · iexists _; iapply (owns_intro _ _ _ _); iexact Hc2
  isplitl [Hc3]; · iexists _; iapply (owns_intro _ _ _ _); iexact Hc3
  isplitl [Hs0]; · iexact Hs0
  isplitl [Hs1]; · iexact Hs1
  iintro ⟨H0, H1, H2, H3, H4, Hr7, Hr8, ⟨%e5, H5⟩, H8, Hc0, Hc1, ⟨%e15, Hs0⟩, ⟨%e16, Hs1⟩⟩
  isplitl [Hr7 Hr8 Hc0 Hc1 Hs0 Hs1 Hr]
  · isplitl [Hc0]; · unfold owns; iexists _; isplitr; swap; · iexact Hc0
                     ipureintro; rfl
    isplitl [Hc1]; · unfold owns; iexists _; isplitr; swap; · iexact Hc1
                     ipureintro; rfl
    unfold Fly
    isplitl [Hr7]; · iexact Hr7
    isplitl [Hr8]; · iexact Hr8
    isplitl [Hs0]; · rw [← landed (Memref.isWhole_whole cc0_scratch2) e15]; iexact Hs0
    isplitl [Hs1]; · rw [← landed (Memref.isWhole_whole cc0_scratch3) e16]; iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact same_all (sameA m c t _ _ _ _)
  isplitl [H6]; · iexists _; iexact H6
  isplitl [H7]; · iexists _; iexact H7
  unfold owns; iexists _; isplitr
  swap; · iexact H8
  ipureintro; rfl

/-- A middle point. -/
theorem sound_mid (c : Dev nD) (t : Fin cfg0.N) (hf : ¬first (grid0.coords t)) (hl : ¬last (grid0.coords t)) :
    bodyPre m c t ⊢ wp frame (wpE (defs₀ (F := F)) Variants.none c none) Set.univ (bodyAt0 t) (fun _ => bodyPost m c t) := by
  have h0 : ¬t.val % 4 = 0 := fun h => hf ((first_iff t).mpr h)
  have h3 : ¬t.val % 4 = 3 := fun h => hl ((last_iff t).mpr h)
  unfold bodyPre bodyPost bodyAt0
  simp only [before0_0, before0_1, before0_2, before0_3, before0_4, before0_8 m c t h0]
  rw [show (dats m 0 c).Φ t.castSucc = _ from held_prev m c t _ h0,
    show (dats m 0 c).Φ t.succ = _ from held_next m c t _ (by omega),
    show (dats m 0 c).owesAt () t.succ = (dats m 0 c).owesAt () t.castSucc from rfl,
    after0_0, after0_1, after0_2, after0_3, after0_4, after0_5, after0_8, acc_mid m c t hf hl,
    Dat.leavesExact_idle (dats m 0 c) 6 t (idle6 t hl) (Bool.eq_false_iff.mpr fun h => by have := (flush0_6 _).mp h; omega),
    Dat.leavesExact_idle (dats m 0 c) 7 t (idle7 t hl) (Bool.eq_false_iff.mpr fun h => by have := (flush0_7 _).mp h; omega),
    show nine m c t = _ from (dif_neg hf).trans (dif_neg hl)]
  iintro ⟨⟨Hc0, Hc1, HF⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((storesM m c t hf hl _).2.2.2.2 _)
  isplitl [H0]; · iexact H0
  isplitl [H1]; · iexact H1
  isplitl [H2]; · iexact H2
  isplitl [H3]; · iexact H3
  isplitl [H4]; · iexact H4
  isplitl [H5]; · iexists _; iexact H5
  isplitl [H8]; · iexact H8
  isplitl [Hc0]; · iexact Hc0
  isplitl [Hc1]; · iexact Hc1
  iintro ⟨H0, H1, H2, H3, H4, ⟨%e5, H5⟩, H8, Hc0, Hc1⟩
  isplitl [Hc0 Hc1 HF]
  · isplitl [Hc0]; · unfold owns; iexists _; isplitr; swap; · iexact Hc0
                     ipureintro; rfl
    isplitl [Hc1]; · unfold owns; iexists _; isplitr; swap; · iexact Hc1
                     ipureintro; rfl
    iexact HF
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact same_all (sameM m c t _ _ _ _)
  isplitl [H6]; · iexists _; iexact H6
  isplitl [H7]; · iexists _; iexact H7
  unfold owns; iexists _; isplitr
  swap; · iexact H8
  ipureintro; rfl

/-- A head's last point. -/
theorem sound_last (c : Dev nD) (t : Fin cfg0.N) (hf : ¬first (grid0.coords t)) (hl : last (grid0.coords t)) :
    bodyPre m c t ⊢ wp frame (wpE (defs₀ (F := F)) Variants.none c none) Set.univ (bodyAt0 t) (fun _ => bodyPost m c t) := by
  have h0 : ¬t.val % 4 = 0 := fun h => hf ((first_iff t).mpr h)
  have h3 : t.val % 4 = 3 := (last_iff t).mp hl
  have l6 : (dats m 0 c).leavesExact 6 t = owns (c : Thread nD τ) (st0_6 t) fullShare ((dats m 0 c).after 6 t) := by
    unfold Dat.leavesExact; rw [busy6 t hl]
  have l7 : (dats m 0 c).leavesExact 7 t = owns (c : Thread nD τ) (st0_7 t) fullShare ((dats m 0 c).after 7 t) := by
    unfold Dat.leavesExact; rw [busy7 t hl]
  unfold bodyPre bodyPost bodyAt0
  simp only [before0_0, before0_1, before0_2, before0_3, before0_4, before0_8 m c t h0]
  rw [show (dats m 0 c).Φ t.castSucc = _ from held_prev m c t _ h0,
    show (dats m 0 c).Φ t.succ = _ from held_ends m c (t.val + 1) _ (by omega), ends_eq m c, l6, l7,
    after0_0, after0_1, after0_2, after0_3, after0_4, after0_5, after0_6, after0_7, after0_8, acc_last m c t hf hl,
    show nine m c t = _ from (dif_neg hf).trans (dif_pos hl), show ten m c t = _ from dif_pos hl, show eleven m c t = _ from dif_pos hl]
  unfold Fly
  iintro ⟨⟨Hc0, Hc1, Hr7, Hr8, Hs0, Hs1, Hr⟩, ⟨%W, %hW, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((storesZ m c t hf hl (acc m c (prev t).val (prev t).isLt)).2.2.2.2.2.2 (grid0.coords (head t)) (head_first t) (V m c main_v62) (V m c main_v64) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [Hc0]; · iexact Hc0
  isplitl [Hc1]; · iexact Hc1
  isplitl [Hs0]; · iexact Hs0
  isplitl [Hs1]; · iexact Hs1
  isplitl [Ho]; · iexact Ho
  iintro ⟨H0, H1, H2, H3, H4, Hv7, Hv8, ⟨%e5, H5⟩, ⟨%e6, H6⟩, ⟨%e7, H7⟩, H8, Hc0, Hc1, Hc2, Hc3, Hs0, Hs1, ⟨%W', Ho⟩⟩
  isplitl [Hr7 Hr8 Hv7 Hv8 Hc0 Hc1 Hc2 Hc3 Hs0 Hs1 Hr]
  · isplitl [Hr7 Hr8 Hv7 Hv8]
    · isplitl [Hr7 Hv7]
      · iapply (join_col c (head t) (head_first t) (Memref.whole main_v62) (V m c main_v62))
        isplitl [Hv7]; · iexact Hv7
        iexact Hr7
      iapply (join_col c (head t) (head_first t) (Memref.whole main_v64) (V m c main_v64))
      isplitl [Hv8]; · iexact Hv8
      iexact Hr8
    isplitl [Hs0 Hs1]
    · isplitl [Hs0]; · iexact Hs0
      iexact Hs1
    isplitl [Hc0 Hc1 Hc2 Hc3]
    · isplitl [Hc0]; · iexists _; iexact Hc0
      isplitl [Hc1]; · iexists _; iexact Hc1
      isplitl [Hc2]; · iexact Hc2
      iexact Hc3
    iexact Hr
  isplitl [Ho]
  · iexists W'; isplitr
    · ipureintro; exact fun _ _ => Or.inl trivial
    iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    exact same_all (sameZ m c t _ _ _ _)
  isplitl [H6]
  · unfold owns; iexists _; isplitr
    swap; · iexact H6
    ipureintro
    exact (read_one _ _).trans (read_one _ _).symm
  isplitl [H7]
  · unfold owns; iexists _; isplitr
    swap; · iexact H7
    ipureintro
    exact (read_one _ _).trans (read_one _ _).symm
  unfold owns; iexists _; isplitr
  swap; · iexact H8
  ipureintro; rfl

theorem sound_body (c : Dev nD) (t : Fin cfg0.N) :
    bodyPre m c t ⊢ wp frame (wpE (defs₀ (F := F)) Variants.none c none) Set.univ (bodyAt0 t) (fun _ => bodyPost m c t) := by
  by_cases hf : first (grid0.coords t)
  · exact sound_first m c t hf
  by_cases hl : last (grid0.coords t)
  · exact sound_last m c t hf hl
  exact sound_mid m c t hf hl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
/-- The program up to the region: its lines of host operations, then the region. -/
theorem up_to (𝒱₀ : Variants) : Pipeline.HMain (Ix := Unit) (Name := ℕ) (U := Pipeline.UC sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

theorem osem_facts : Pipeline.OwnSemFacts spec0 osem := by decide
theorem sent_rest : sent ⊆ Pipeline.restRefs sig spec0 := by decide

set_option backward.isDefEq.respectTransparency.types false in
theorem run_main : θ_run defs (onTc (τ := τ) (main (F := F))) (s₀ m ρ)
    (fun r => (Pipeline.RoutedPost cfgs (dats m) 0 sent (V m) (V m)) r ∧ r.2.sem = fun _ => 0) :=
  Pipeline.θ_run_frame_routed (Q' := _) cfgs (dats m) (0 : Fin 1) launch0 osem_facts defs₀ Variants.none m ρ main
    (hbody := fun c => (body_obligation m c).loose) (hshare := fun c => (dats m 0 c).share_full fun _ => rfl)
    (howed := fun _ _ => rfl) (V := V m) (hmain := up_to m Variants.none) (hA := A_eq m) (R := sent) (hR := sent_rest) (Y := V m)
    (hin := fun c => Entails.of_eq (held_ends m c 0 (by decide) rfl).symm)
    (hout := fun c => Entails.of_eq (held_ends m c 64 (by decide) rfl))

theorem mem_args {b : Ref sig .tc} (h : b ∈ Pipeline.restRefs sig spec0) (h' : b ∉ sent) : b ∈ Pipeline.restRefs sig spec0 \ sent :=
  Finset.mem_sdiff.mpr ⟨h, h'⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have k := (h.1 c).2.2
    ⟨(k main_arg0 (mem_args (Pipeline.mem_restRefs_of main_arg0 (by decide) (by decide)) (by decide))).trans (V_main_arg0 m c),
     (k main_arg1 (mem_args (Pipeline.mem_restRefs_of main_arg1 (by decide) (by decide)) (by decide))).trans (V_main_arg1 m c),
     (k main_arg2 (mem_args (Pipeline.mem_restRefs_of main_arg2 (by decide) (by decide)) (by decide))).trans (V_main_arg2 m c),
     (k main_arg3 (mem_args (Pipeline.mem_restRefs_of main_arg3 (by decide) (by decide)) (by decide))).trans (V_main_arg3 m c),
     (k main_arg4 (mem_args (Pipeline.mem_restRefs_of main_arg4 (by decide) (by decide)) (by decide))).trans (V_main_arg4 m c),
     (k main_arg5 (mem_args (Pipeline.mem_restRefs_of main_arg5 (by decide) (by decide)) (by decide))).trans (V_main_arg5 m c),
     (k main_arg6 (mem_args (Pipeline.mem_restRefs_of main_arg6 (by decide) (by decide)) (by decide))).trans (V_main_arg6 m c)⟩, h.2⟩) (run_main m ρ)

end Cert.AttnAcc

end

end
-- ==== Proof.AttnAccHeld.lean ====
/- What the attention's accumulating backward call holds point by point over the extended reals: the gradient of the queries,
   the running sums of the keys' and the values' gradients, and what the last point of a head leaves of them. -/
module

public import proofs.«01_k».proof.Proof.AttnAccStores
public import proofs.«01_k».proof.Proof.AttnAccFrame

@[expose] public section

set_option maxRecDepth 16384

noncomputable section

namespace Cert.AttnAccTile

open Cert.AttnAIdeal Cert.AttnAIdeal.Gen Cert.AttnAcc
open Cert.AttnTile (dqT added arr2 rowF)
open Idealize.ShloMosaic Idealize.ShloMosaic.TcCoe Idealize.ShloMosaic.Tactic
open Idealize.ShloMosaic.Pointwise
open Idealize.SL Idealize.SL.Sem
open Idealize.ShloMosaic.Pipeline (Dat)

variable (m : (ℓ : Loc nD τ sig) → Buf (Elt Ideal) ℓ)

/-- The quarter of the rows that point `t` works on. -/
def part (t : Fin cfg0.N) : ℕ := (grid0.coords t 1).val

/-- The gradients of the scores, and the softmaxes, of point `t`. -/
def tilesD (c : Dev nD) (t : Fin cfg0.N) := LD (part t) (iblk m c 0 t) (iblk m c 1 t) (iblk m c 2 t) (iblk m c 3 t) (iblk m c 4 t)
def tilesP (c : Dev nD) (t : Fin cfg0.N) := LP (part t) (iblk m c 0 t) (iblk m c 1 t) (iblk m c 4 t)

/-- What point `t` adds to a block of keys, or of values. -/
def toK (c : Dev nD) (t : Fin cfg0.N) := addK (tilesD m c t) (rowF (iblk m c 0 t : S2048x128.Idx → EReal))
def toV (c : Dev nD) (t : Fin cfg0.N) := addV (tilesP m c t) (rowF (iblk m c 3 t : S2048x128.Idx → EReal))

/-- The sums of the keys' and the values' gradients after point `t`. -/
def sumK (c : Dev nD) (t : Fin cfg0.N) : S8704x128.Idx → EReal := (acc m c t.val t.isLt).2.1
def sumV (c : Dev nD) (t : Fin cfg0.N) : S8704x128.Idx → EReal := (acc m c t.val t.isLt).2.2

/-- What point `t` leaves of the gradient of the queries. -/
def queries (c : Dev nD) (t : Fin cfg0.N) : S2048x128.Idx → EReal := fun y =>
  dqT (tilesD m c t ((y 0).val / 128)) (LK (part t) (iblk m c 1 t) ((y 0).val / 128)) ⟨(y 0).val % 128, Nat.mod_lt _ (by norm_num)⟩ (y 1)

/-- The gradient of the queries, from the body's stores. -/
theorem queries_of {c : Dev nD} {t : Fin cfg0.N} {arg9 : Memref sig .tc .vmem S2048x128 .bf16} {f : arg9.view.ty.Contents (Elt Ideal)}
    {L : List (View.Piece (Elt Ideal) S2048x128 .bf16)}
    (h : Holds arg9 f L (fun n => dqT (tilesD m c t n) (LK (part t) (iblk m c 1 t) n)) 16) :
    arg9.view.read (Elt Ideal) (arg9.view.writes (Elt Ideal) f L) = queries m c t := by
  funext y
  obtain ⟨a, d, rfl⟩ : ∃ a d, y = ix2 a d := ⟨_, _, eq_ix2 y⟩
  have := a.isLt
  exact h (a.val / 128) ⟨a.val % 128, Nat.mod_lt _ (by norm_num)⟩ d a (by omega) (by dsimp only; omega)

set_option maxHeartbeats 4000000

theorem nine_eq (c : Dev nD) (t : Fin cfg0.N) : nine m c t = queries m c t := by
  unfold nine
  split_ifs with hf hl
  · refine queries_of m ?_
    have := dqA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) hf (not_last hf) (win0_5.stage (cfg0.slots t 5)).view.junk
    rwa [RD_eq, RK_eq] at this
  · refine queries_of m ?_
    have := dqZ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 (cameK m c (head t) (head_first t)) (cameV m c (head t) (head_first t)) hf hl (win0_5.stage (cfg0.slots t 5)).view.junk
    rwa [RD_eq, RK_eq] at this
  · refine queries_of m ?_
    have := dqM c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 hf hl (win0_5.stage (cfg0.slots t 5)).view.junk
    rwa [RD_eq, RK_eq] at this

theorem sumK_first (c : Dev nD) (t : Fin cfg0.N) (h : first (grid0.coords t)) :
    sumK m c t = arr2 (added (fun _ _ => 0) (toK m c t) (2048 * part t) 20) := by
  unfold sumK
  rw [acc_first m c t h]
  have := keysA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) h (not_last h)
  rw [RD_eq] at this
  exact funext this
theorem sumK_next (c : Dev nD) (t : Fin cfg0.N) (h : ¬first (grid0.coords t)) :
    sumK m c t = arr2 (added (fun a d => sumK m c (prev t) (ix2 a d)) (toK m c t) (2048 * part t) 20) := by
  by_cases hl : last (grid0.coords t)
  · refine (congrArg (fun y : Acc Ideal => y.2.1) (acc_last m c t h hl)).trans ?_
    have := keysZ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 (cameK m c (head t) (head_first t)) (cameV m c (head t) (head_first t)) h hl
    rw [RD_eq] at this
    exact funext this
  · refine (congrArg (fun y : Acc Ideal => y.2.1) (acc_mid m c t h hl)).trans ?_
    have := keysM c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 h hl
    rw [RD_eq] at this
    exact funext this

theorem sumV_first (c : Dev nD) (t : Fin cfg0.N) (h : first (grid0.coords t)) :
    sumV m c t = arr2 (added (fun _ _ => 0) (toV m c t) (2048 * part t) 20) := by
  unfold sumV
  rw [acc_first m c t h]
  have := valsA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) h (not_last h)
  rw [RP_eq] at this
  exact funext this
theorem sumV_next (c : Dev nD) (t : Fin cfg0.N) (h : ¬first (grid0.coords t)) :
    sumV m c t = arr2 (added (fun a d => sumV m c (prev t) (ix2 a d)) (toV m c t) (2048 * part t) 20) := by
  by_cases hl : last (grid0.coords t)
  · refine (congrArg (fun y : Acc Ideal => y.2.2) (acc_last m c t h hl)).trans ?_
    have := valsZ c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 (cameK m c (head t) (head_first t)) (cameV m c (head t) (head_first t)) h hl
    rw [RP_eq] at this
    exact funext this
  · refine (congrArg (fun y : Acc Ideal => y.2.2) (acc_mid m c t h hl)).trans ?_
    have := valsM c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v62) (Memref.isWhole_whole _) (Memref.whole main_v64) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (acc m c (prev t).val (prev t).isLt).1 (acc m c (prev t).val (prev t).isLt).2.1 (acc m c (prev t).val (prev t).isLt).2.2 h hl
    rw [RP_eq] at this
    exact funext this

/-! ## What the last point leaves -/

theorem pay2_apply (x y : S8192x128.Idx → EReal) (j : S8192x128.Idx) : k0_pay2 (F := Ideal) x y j = x j + y j := by
  pointwise [k0_pay2]
theorem pay3_apply (x y : S8192x128.Idx → EReal) (j : S8192x128.Idx) : k0_pay3 (F := Ideal) x y j = x j + y j := by
  pointwise [k0_pay3]

/-- The rows from the 512th on. -/
theorem ld_tail (arg : Memref sig .tc .vmem S8704x128 .f32) (g : arg.view.ty.Contents (Elt Ideal)) (a : Fin 8192) (d : Fin 128) :
    View.readAt (Elt Ideal) arg.view (Rect.unit (s := S8704x128) ![512, 0] S8192x128.size inb_S8704x128_S8192x128_512_0).toLoadRect g (ix2 a d)
      = arg.view.read (Elt Ideal) g (ix2 ⟨512 + a.val, by omega⟩ d) := by
  rw [View.readAt_apply]
  refine congrArg _ (funext (Fin.forall_fin_two.mpr ⟨Fin.ext ?_, Fin.ext ?_⟩))
  · show 512 + 1 * a.val = 512 + a.val
    omega
  · show 0 + 1 * d.val = d.val
    omega

theorem ten_eq (c : Dev nD) (t : Fin cfg0.N) (hl : last (grid0.coords t)) (a : Fin 8192) (d : Fin 128) :
    (ten m c t : S8192x128.Idx → EReal) (ix2 a d) = sumK m c t (ix2 ⟨512 + a.val, by omega⟩ d) + cameK m c (head t) (head_first t) (ix2 ⟨512 + a.val, by omega⟩ d) := by
  unfold ten
  rw [dif_pos hl]
  refine (congrFun (read_one (win0_6.stage (cfg0.slots t 6)) (win0_6.stage (cfg0.slots t 6)).view.junk) (ix2 a d)).trans ((pay2_apply _ _ _).trans ?_)
  refine congrArg₂ (· + ·) ((ld_tail (Memref.whole cc0_scratch0) _ a d).trans ?_) ((ld_tail (Memref.whole cc0_scratch2) _ a d).trans ?_)
  · exact (congrFun (congrArg (fun y : Acc Ideal => y.2.1) (acc_last m c t (not_first hl) hl)) _).symm
  · exact congrFun ((Memref.isWhole_whole cc0_scratch2).read_unread _) _

theorem eleven_eq (c : Dev nD) (t : Fin cfg0.N) (hl : last (grid0.coords t)) (a : Fin 8192) (d : Fin 128) :
    (eleven m c t : S8192x128.Idx → EReal) (ix2 a d) = sumV m c t (ix2 ⟨512 + a.val, by omega⟩ d) + cameV m c (head t) (head_first t) (ix2 ⟨512 + a.val, by omega⟩ d) := by
  unfold eleven
  rw [dif_pos hl]
  refine (congrFun (read_one (win0_7.stage (cfg0.slots t 7)) (win0_7.stage (cfg0.slots t 7)).view.junk) (ix2 a d)).trans ((pay3_apply _ _ _).trans ?_)
  refine congrArg₂ (· + ·) ((ld_tail (Memref.whole cc0_scratch1) _ a d).trans ?_) ((ld_tail (Memref.whole cc0_scratch3) _ a d).trans ?_)
  · exact (congrFun (congrArg (fun y : Acc Ideal => y.2.2) (acc_last m c t (not_first hl) hl)) _).symm
  · exact congrFun ((Memref.isWhole_whole cc0_scratch3).read_unread _) _

end Cert.AttnAccTile

end

end
-- ==== Proof.AttnAccOperands.lean ====
/-
  What the host code hands the attention's accumulating backward call, and what each grid point stages of it: the queries and the cotangent of one head's quarter of the
  rows, the padded keys and values of the head, the head's frames of the bias, and the head's columns of the other layer's gradients.
-/
module

public import proofs.«01_k».proof.Proof.AttnAccHeld
public import proofs.«01_k».proof.Proof.AttnGather
public import proofs.«01_k».proof.Proof.AttnTileReal
public import proofs.«01_k».proof.Proof.AttnHeads
public import Idealize.ShloMosaic.Lib.StableHlo.ReadAt

@[expose] public section

set_option maxRecDepth 16384

noncomputable section

namespace Cert.AttnAccTile

open Cert.AttnAIdeal Cert.AttnAIdeal.Gen Cert.AttnAcc
open Idealize.ShloMosaic Idealize.ShloMosaic.TcCoe Idealize.SL.Sem
open Idealize.ShloMosaic.Pointwise

variable (m : (ℓ : Loc nD τ sig) → Buf (Elt Ideal) ℓ) (c : Dev nD)

/-! ## The operands -/

theorem operand_q (a : Fin 8192) (b : Fin 2048) : (V m c main_v1 : S8192x2048.Idx → EReal) (ix2 a b)
    = (m (c, Proc.tc.devRef main_arg0) : S1x8192x16x128.Idx → EReal) (ix4 0 a ⟨b.val / 128, by omega⟩ ⟨b.val % 128, by omega⟩) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at

theorem operand_o (a : Fin 8192) (b : Fin 2048) : (V m c main_v9 : S8192x2048.Idx → EReal) (ix2 a b)
    = (m (c, Proc.tc.devRef main_arg4) : S1x8192x2048.Idx → EReal) (ix3 0 a b) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at

theorem sitofp_zero16 : (FloatOps.sitofp (F := Ideal) FTy.bf16 0#32 : EReal) = 0 := by
  simp [FloatOps.sitofp]
theorem sitofp_zero32 : (FloatOps.sitofp (F := Ideal) FTy.f32 0#32 : EReal) = 0 := by
  simp [FloatOps.sitofp]

theorem operand_k (a : Fin 8704) (b : Fin 2048) : (V m c main_v4 : S8704x2048.Idx → EReal) (ix2 a b)
    = (if h : 512 ≤ a.val then (m (c, Proc.tc.devRef main_arg1) : S1x8192x16x128.Idx → EReal)
        (ix4 0 ⟨a.val - 512, by omega⟩ ⟨b.val / 128, by omega⟩ ⟨b.val % 128, by omega⟩) else (0 : EReal) : EReal) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at
  by_cases h : 512 ≤ a.val
  · rw [dif_pos h, dif_pos ⟨h, by omega⟩]
  · rw [dif_neg h, dif_neg fun e => h e.1]
    exact sitofp_zero16

theorem operand_v (a : Fin 8704) (b : Fin 2048) : (V m c main_v7 : S8704x2048.Idx → EReal) (ix2 a b)
    = (if h : 512 ≤ a.val then (m (c, Proc.tc.devRef main_arg2) : S1x8192x16x128.Idx → EReal)
        (ix4 0 ⟨a.val - 512, by omega⟩ ⟨b.val / 128, by omega⟩ ⟨b.val % 128, by omega⟩) else (0 : EReal) : EReal) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at
  by_cases h : 512 ≤ a.val
  · rw [dif_pos h, dif_pos ⟨h, by omega⟩]
  · rw [dif_neg h, dif_neg fun e => h e.1]
    exact sitofp_zero16

theorem gather_bias (x : S16x257.Idx → EReal) (idx : IVec S640x128x1 32) (h : Fin 16) (y : Fin 640) (z : Fin 128) (n : Fin 257)
    (e : (idx (ix3 y z 0)).toInt.toNat = n.val) :
    Host.gather gather_S16x257_S640x128x1_S16x640x128_0_1_n_n_1_2_161 x idx (ix3 h y z) = x (ix2 h n) :=
  AttnGather.gather_col _ x idx h y z n e

theorem operand_b (a : Fin 16) (f : Fin 5) (y : Fin 640) (z : Fin 128) :
    (V m c main_v60 : S16x5x640x128.Idx → EReal) (ix4 a f y z)
      = if (z.val / 64 ≤ y.val / 64 ∧ y.val / 64 ≤ z.val / 64 + 8) ∧ 512 ≤ y.val + 128 * f.val
        then (m (c, Proc.tc.devRef main_arg3) : S16x257.Idx → EReal) (ix2 a (Fin.ofNat 257 (min (640 + z.val - y.val) 256)))
        else (⊥ : EReal) := by
  have hn : (Fin.ofNat 257 (min (640 + z.val - y.val) 256)).val = min (640 + z.val - y.val) 256 := Nat.mod_eq_of_lt (by omega)
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at
  rw [gather_bias _ _ a y z (Fin.ofNat 257 (min (640 + z.val - y.val) 256)) ?e]
  case e =>
    rw [hn]
    pointwise []
    exact AttnGather.column_at y.val z.val y.isLt z.isLt
  have hz := AttnGather.chunk_word ⟨z.val, by omega⟩
  dsimp only at hz
  have hw := AttnGather.near_word ⟨y.val / 64, by omega⟩ ⟨z.val / 64, by omega⟩
  dsimp only at hw
  rw [AttnGather.chunk_word, hz, hw, AttnGather.inside_word, AttnGather.select_and]
  refine if_congr Iff.rfl rfl ?_
  show Ideal.ofBits FTy.f32 0xFF800000#32 = ⊥
  simp [Ideal.ofBits, Ideal.ieee]

theorem operand_dk (a : Fin 8192) (b : Fin 2048) : (V m c main_v62 : S8704x2048.Idx → EReal) (ix2 ⟨512 + a.val, by omega⟩ b)
    = (m (c, Proc.tc.devRef main_arg5) : S1x8192x16x128.Idx → EReal) (ix4 0 a ⟨b.val / 128, by omega⟩ ⟨b.val % 128, by omega⟩) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at

theorem operand_dv (a : Fin 8192) (b : Fin 2048) : (V m c main_v64 : S8704x2048.Idx → EReal) (ix2 ⟨512 + a.val, by omega⟩ b)
    = (m (c, Proc.tc.devRef main_arg6) : S1x8192x16x128.Idx → EReal) (ix4 0 a ⟨b.val / 128, by omega⟩ ⟨b.val % 128, by omega⟩) := by
  unfold V
  simp only [hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_reads_at

/-! ## The blocks -/

theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val / 4, 0, 0, 0] ∧ win0_5.index t = ![t.val % 4, t.val / 4]
    ∧ win0_6.index t = ![0, t.val / 4] ∧ win0_7.index t = ![0, t.val / 4] :=
  (by decide +kernel : ∀ t : Fin grid0.N, _)

theorem part_eq : ∀ t : Fin cfg0.N, part t = t.val % 4 := (by unfold part; decide +kernel : ∀ t : Fin grid0.N, _)
theorem head_eq : ∀ t : Fin cfg0.N, (grid0.coords t 0).val = t.val / 4 := (by decide +kernel : ∀ t : Fin grid0.N, _)

/-- The head that point `t` works on. -/
def hd (t : Fin cfg0.N) : Fin 16 := Fin.ofNat 16 (t.val / 4)

theorem lt_64 (t : Fin cfg0.N) : t.val < 64 := lt_of_lt_of_eq t.isLt N_0
theorem hd_val (t : Fin cfg0.N) : (hd t).val = t.val / 4 := Nat.mod_eq_of_lt (by have := lt_64 t; omega)

theorem blk_q (t : Fin cfg0.N) (a : Fin 2048) (d : Fin 128) (h0 : t.val % 4 * 2048 + a.val < 8192) (h1 : t.val / 4 * 128 + d.val < 2048) :
    (iblk m c 0 t : S2048x128.Idx → EReal) (ix2 a d) = (V m c main_v1 : S8192x2048.Idx → EReal) (ix2 ⟨_, h0⟩ ⟨_, h1⟩) := by
  blk_point [iblk, idx t]
theorem blk_k (t : Fin cfg0.N) (a : Fin 8704) (d : Fin 128) (h1 : t.val / 4 * 128 + d.val < 2048) :
    (iblk m c 1 t : S8704x128.Idx → EReal) (ix2 a d) = (V m c main_v4 : S8704x2048.Idx → EReal) (ix2 a ⟨_, h1⟩) := by
  blk_point [iblk, idx t]
theorem blk_v (t : Fin cfg0.N) (a : Fin 8704) (d : Fin 128) (h1 : t.val / 4 * 128 + d.val < 2048) :
    (iblk m c 2 t : S8704x128.Idx → EReal) (ix2 a d) = (V m c main_v7 : S8704x2048.Idx → EReal) (ix2 a ⟨_, h1⟩) := by
  blk_point [iblk, idx t]
theorem blk_o (t : Fin cfg0.N) (a : Fin 2048) (d : Fin 128) (h0 : t.val % 4 * 2048 + a.val < 8192) (h1 : t.val / 4 * 128 + d.val < 2048) :
    (iblk m c 3 t : S2048x128.Idx → EReal) (ix2 a d) = (V m c main_v9 : S8192x2048.Idx → EReal) (ix2 ⟨_, h0⟩ ⟨_, h1⟩) := by
  blk_point [iblk, idx t]
theorem blk_b (t : Fin cfg0.N) (f : Fin 5) (y : Fin 640) (z : Fin 128) (h1 : t.val / 4 < 16) :
    (iblk m c 4 t : S1x5x640x128.Idx → EReal) (ix4 0 f y z) = (V m c main_v60 : S16x5x640x128.Idx → EReal) (ix4 ⟨_, h1⟩ f y z) := by
  blk_point [iblk, idx t]

theorem cameK_apply (t : Fin cfg0.N) (h : first (grid0.coords t)) (a : Fin 8704) (d : Fin 128) (h1 : t.val / 4 * 128 + d.val < 2048) :
    cameK m c t h (ix2 a d) = (V m c main_v62 : S8704x2048.Idx → EReal) (ix2 a ⟨_, h1⟩) := by
  unfold cameK
  refine congrArg (V m c main_v62 : S8704x2048.Idx → EReal) (funext (Fin.forall_fin_two.mpr ⟨Fin.ext ?_, Fin.ext ?_⟩))
  · show k0_off1 (grid0.coords t) 0 + 1 * a.val = a.val
    rw [show k0_off1 (grid0.coords t) 0 = 0 from congrFun (k0_off1_eq (grid0.coords t)) 0]
    omega
  · show k0_off1 (grid0.coords t) 1 + 1 * d.val = t.val / 4 * 128 + d.val
    rw [show k0_off1 (grid0.coords t) 1 = 128 * (grid0.coords t 0).val from congrFun (k0_off1_eq (grid0.coords t)) 1, head_eq]
    omega

theorem cameV_apply (t : Fin cfg0.N) (h : first (grid0.coords t)) (a : Fin 8704) (d : Fin 128) (h1 : t.val / 4 * 128 + d.val < 2048) :
    cameV m c t h (ix2 a d) = (V m c main_v64 : S8704x2048.Idx → EReal) (ix2 a ⟨_, h1⟩) := by
  unfold cameV
  refine congrArg (V m c main_v64 : S8704x2048.Idx → EReal) (funext (Fin.forall_fin_two.mpr ⟨Fin.ext ?_, Fin.ext ?_⟩))
  · show k0_off1 (grid0.coords t) 0 + 1 * a.val = a.val
    rw [show k0_off1 (grid0.coords t) 0 = 0 from congrFun (k0_off1_eq (grid0.coords t)) 0]
    omega
  · show k0_off1 (grid0.coords t) 1 + 1 * d.val = t.val / 4 * 128 + d.val
    rw [show k0_off1 (grid0.coords t) 1 = 128 * (grid0.coords t 0).val from congrFun (k0_off1_eq (grid0.coords t)) 1, head_eq]
    omega

end Cert.AttnAccTile

end
end
-- ==== Proof.AttnAccRef.lean ====
/-
  The reference of the attention's accumulating backward call read at an index, over the reals: up to the last lines it is the reference of the plain backward call;
  those add the other layer's gradients of the keys and the values.
-/
module

public import proofs.«01_k».proof.Proof.AttnRefFold
public import proofs.«01_k».proof.Proof.Gen.AttnARefIdeal.Read

@[expose] public section

set_option maxRecDepth 16384

noncomputable section

namespace Cert.AttnAccRef

open Cert.AttnARefIdeal Cert.AttnARefIdeal.Read Cert.AttnHeads Cert.AttnSpec Cert.Coe
open Idealize.ShloMosaic Idealize.ShloMosaic.TcCoe Idealize.SL.Sem
open Idealize.ShloMosaic.Pointwise

variable {x0 x1 x2 : (⟨S1x8192x16x128, .f32⟩ : BufTy).Contents (Elt Ideal)} {x3 : (⟨S16x257, .f32⟩ : BufTy).Contents (Elt Ideal)}
  {x4 : (⟨S1x8192x2048, .f32⟩ : BufTy).Contents (Elt Ideal)} {x5 x6 : (⟨S1x8192x16x128, .f32⟩ : BufTy).Contents (Elt Ideal)}
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (x0 : S1x8192x16x128.Idx → EReal) i = ((q i : ℝ) : EReal))
  (hk : ∀ i, (x1 : S1x8192x16x128.Idx → EReal) i = ((k i : ℝ) : EReal))
  (hv : ∀ i, (x2 : S1x8192x16x128.Idx → EReal) i = ((v i : ℝ) : EReal))
  (hr : ∀ i, (x3 : S16x257.Idx → EReal) i = ((rel i : ℝ) : EReal))
  (ho : ∀ i, (x4 : S1x8192x2048.Idx → EReal) i = ((o i : ℝ) : EReal))

/-- The scores, masked; the softmax; and the three gradients in chunks are the plain call's reference's. -/
theorem score_same : val_main_v68_0 (F := Ideal) x0 x1 x3 = Cert.AttnRefIdeal.Read.val_main_v68_0 (F := Ideal) x0 x1 x3 := rfl
theorem prob_same : val_main_v93 (F := Ideal) x0 x1 x3 = Cert.AttnRefIdeal.Read.val_main_v93 (F := Ideal) x0 x1 x3 := rfl
theorem dq_same : val_main_v124 (F := Ideal) x0 x1 x2 x3 x4 = Cert.AttnRefIdeal.Read.val_main_v124 (F := Ideal) x0 x1 x2 x3 x4 := rfl
theorem dk_same : val_main_v177 (F := Ideal) x0 x1 x2 x3 x4 = Cert.AttnRefIdeal.Read.val_main_v177 (F := Ideal) x0 x1 x2 x3 x4 := rfl
theorem dv_same : val_main_v150 (F := Ideal) x0 x1 x3 x4 = Cert.AttnRefIdeal.Read.val_main_v150 (F := Ideal) x0 x1 x3 x4 := rfl

/-- The gradients of the keys and the values of all rows that are no padding, with the other layer's added. -/
def GKA (q k v : (⟨4, ![1, 8192, 16, 128]⟩ : Shape).Idx → ℝ) (o : (⟨3, ![1, 8192, 2048]⟩ : Shape).Idx → ℝ) (rel : (⟨2, ![16, 257]⟩ : Shape).Idx → ℝ)
    (z : S1x8192x16x128.Idx → EReal) (a : Fin 8192) (b : Fin 2048) : EReal :=
  z (ix4 0 a ⟨b.val / 128, by omega⟩ ⟨b.val % 128, by omega⟩) + GK q k v o rel (ix2 ⟨512 + a.val, by omega⟩ b)
def GVA (q k : (⟨4, ![1, 8192, 16, 128]⟩ : Shape).Idx → ℝ) (o : (⟨3, ![1, 8192, 2048]⟩ : Shape).Idx → ℝ) (rel : (⟨2, ![16, 257]⟩ : Shape).Idx → ℝ)
    (z : S1x8192x16x128.Idx → EReal) (a : Fin 8192) (b : Fin 2048) : EReal :=
  z (ix4 0 a ⟨b.val / 128, by omega⟩ ⟨b.val % 128, by omega⟩) + GV q k o rel (ix2 ⟨512 + a.val, by omega⟩ b)

include hq hk hv hr ho in
/-- The queries' gradient: the whole array. -/
theorem ref_q : (val_main_v187 (F := Ideal) x0 x1 x2 x3 x4 : S8192x2048.Idx → EReal) = GQ q k v o rel := by
  funext j
  obtain ⟨x, y, rfl⟩ : ∃ a b, j = ix2 a b := ⟨_, _, eq_ix2 j⟩
  rw [GQ_apply q k v o rel x y (fin_ofNat (by omega)).symm (show Fin.ofNat 128 y.val = ⟨y.val % 128, by omega⟩ from Fin.ext rfl)]
  pointwise [val_main_v187, val_main_v186, val_main_v179]
  rw [dq_same]
  refine (Cert.AttnRef.dq_at hq hk hv hr ho _ _ _ _).trans ?_
  rw [show 64 * (x.val / 64) + x.val % 64 = x.val by omega]

include hq hk hv hr ho in
/-- The keys' gradient: the whole array. -/
theorem ref_k : (val_main_v189 (F := Ideal) x0 x1 x2 x3 x4 x5 : S8192x2048.Idx → EReal) = fun j => GKA q k v o rel x5 (j 0) (j 1) := by
  funext j
  obtain ⟨x, y, rfl⟩ : ∃ a b, j = ix2 a b := ⟨_, _, eq_ix2 j⟩
  show _ = GKA q k v o rel x5 x y
  unfold GKA
  rw [GK_apply q k v o rel _ y (fin_ofNat (by omega)).symm (show Fin.ofNat 128 y.val = ⟨y.val % 128, by omega⟩ from Fin.ext rfl)]
  pointwise [val_main_v189, val_main_v188, val_main_v185, val_main_v184, val_main_v178]
  rw [dk_same, Cert.AttnRef.dk_chunk hq hk hv hr ho]
  rw [show 64 * ((512 + x.val) / 64) + (512 + x.val) % 64 = 512 + x.val by omega]

include hq hk hr ho in
/-- The values' gradient: the whole array. -/
theorem ref_v : (val_main_v191 (F := Ideal) x0 x1 x3 x4 x6 : S8192x2048.Idx → EReal) = fun j => GVA q k o rel x6 (j 0) (j 1) := by
  funext j
  obtain ⟨x, y, rfl⟩ : ∃ a b, j = ix2 a b := ⟨_, _, eq_ix2 j⟩
  show _ = GVA q k o rel x6 x y
  unfold GVA
  rw [GV_apply q k o rel _ y (fin_ofNat (by omega)).symm (show Fin.ofNat 128 y.val = ⟨y.val % 128, by omega⟩ from Fin.ext rfl)]
  pointwise [val_main_v191, val_main_v190, val_main_v182, val_main_v181, val_main_v151]
  rw [dv_same, Cert.AttnRef.dv_chunk hq hk hr ho]
  rw [show 64 * ((512 + x.val) / 64) + (512 + x.val) % 64 = 512 + x.val by omega]

end Cert.AttnAccRef

end
end
-- ==== Proof.AttnAccArrays.lean ====
/-
  The arrays that the attention's accumulating backward call leaves, over the reals: the gradients of the queries, and of the keys and the values with the other
  layer's added, of every head.
-/
module

public import proofs.«01_k».proof.Proof.AttnAccOperands
public import proofs.«01_k».proof.Proof.AttnAccRef

@[expose] public section

set_option maxRecDepth 16384

noncomputable section

namespace Cert.AttnAccTile

open Cert.AttnAIdeal Cert.AttnAIdeal.Gen Cert.AttnAcc Cert.AttnHeads Cert.AttnSpec Cert.Coe
open Cert.AttnTile (dqT added arr2 rowF blocks)
open Cert.AttnTileReal (pT_real dT_real dq_real)
open Cert.AttnAccRef (GKA GVA)
open Idealize.ShloMosaic Idealize.ShloMosaic.TcCoe Idealize.SL.Sem
open Idealize.ShloMosaic.Pointwise
open Idealize.ShloMosaic.Pipeline (Dat)

/-! ## What the blocks of keys receive -/

section Blocks

variable {f : ℕ → ℕ → ℝ} (hf : ∀ s κ, ¬Near s κ → f s κ = 0) {x : ℕ → Fin 128 → ℝ} {g : ℕ}
  {D : ℕ → Vec Ideal S640x128 .f32} {X : ℕ → Fin 128 → EReal}
  (hD : ∀ t < 16, ∀ y b, D t (ix2 y b) = ((f (2048 * g + 128 * t + b.val) (2048 * g + 128 * t + y.val) : ℝ) : EReal))
  (hX : ∀ t < 16, ∀ (b : Fin 128) d, X (128 * t + b.val) d = ((x (2048 * g + 128 * t + b.val) d : ℝ) : EReal))

include hf hD hX

/-- What block `r` receives: the sum over the queries of quarter `g`. -/
theorem blocks_real {r : ℕ} (hr : r < 20) (y d : Fin 128) :
    blocks D X (r - 4) (r - (r - 4)) (min (r + 1) 16 - (r - 4)) y d
      = ((∑ s ∈ Finset.range 2048, f (2048 * g + s) (2048 * g + 128 * r + y.val) * x (2048 * g + s) d : ℝ) : EReal) := by
  have hy := y.isLt
  have h1 := sum_tiles 128 16 (fun s => f (2048 * g + s) (2048 * g + 128 * r + y.val) * x (2048 * g + s) d)
  rw [show 128 * 16 = 2048 from rfl] at h1
  rw [h1, sum_band (L := min (r + 1) 16 - (r - 4)) (lo := r - 4) _ (by omega) fun t ht h => Finset.sum_eq_zero fun b _ => by
    rw [hf, zero_mul]
    intro e
    have := b.isLt
    have := near_tile (n := 16 * g + t) this (κ := 2048 * g + 128 * r + y.val) (by convert e using 1; ring)
    omega]
  unfold blocks
  rw [Fin.sum_univ_eq_sum_range (fun a => ∑ b : Fin 128, f (2048 * g + (128 * (r - 4 + a) + b.val)) (2048 * g + 128 * r + y.val) * x (2048 * g + (128 * (r - 4 + a) + b.val)) d)
    (min (r + 1) 16 - (r - 4)), ← sum_coe]
  refine Finset.sum_congr rfl fun a ha => ?_
  have ha := Finset.mem_range.1 ha
  rw [← sum_coe]
  refine Finset.sum_congr rfl fun b _ => ?_
  rw [hD _ (by omega), hX _ (by omega), ← EReal.coe_mul]
  have e : (Fin.ofNat 640 (128 * (r - (r - 4) - a) + y.val)).val = 128 * (r - (r - 4) - a) + y.val := Nat.mod_eq_of_lt (by omega)
  rw [e]
  congr 3 <;> first | rfl | omega | (congr 1 <;> omega)

end Blocks

/-- The blocks together: what a row of the array receives. -/
theorem added_real (base : Fin 8704 → Fin 128 → EReal) {add : ℕ → Fin 128 → Fin 128 → EReal} {o : ℕ} (F : ℕ → Fin 128 → ℝ)
    (hadd : ∀ r < 20, ∀ y d, add r y d = ((F (o + 128 * r + y.val) d : ℝ) : EReal))
    (hF : ∀ a, ¬(o ≤ a ∧ a < o + 2560) → ∀ d, F a d = 0) (a : Fin 8704) (d : Fin 128) :
    added base add o 20 a d = base a d + ((F a.val d : ℝ) : EReal) := by
  unfold added
  congr 1
  by_cases h : o ≤ a.val ∧ a.val < o + 2560
  · rw [Finset.sum_eq_single_of_mem ((a.val - o) / 128) (Finset.mem_range.2 (by omega)) fun r _ hne => dif_neg (by omega),
      dif_pos (by omega), hadd _ (by omega)]
    congr 2
    dsimp only
    omega
  · rw [hF a.val h d, EReal.coe_zero]
    exact Finset.sum_eq_zero fun r hr => dif_neg (by have := Finset.mem_range.1 hr; omega)

variable (m : (ℓ : Loc nD τ sig) → Buf (Elt Ideal) ℓ) (c : Dev nD)
  {q k v : (⟨4, ![1, 8192, 16, 128]⟩ : Shape).Idx → ℝ} {rel : (⟨2, ![16, 257]⟩ : Shape).Idx → ℝ} {o : (⟨3, ![1, 8192, 2048]⟩ : Shape).Idx → ℝ}
  (hq : ∀ i, (m (c, Proc.tc.devRef main_arg0) : S1x8192x16x128.Idx → EReal) i = ((q i : ℝ) : EReal))
  (hk : ∀ i, (m (c, Proc.tc.devRef main_arg1) : S1x8192x16x128.Idx → EReal) i = ((k i : ℝ) : EReal))
  (hv : ∀ i, (m (c, Proc.tc.devRef main_arg2) : S1x8192x16x128.Idx → EReal) i = ((v i : ℝ) : EReal))
  (hr : ∀ i, (m (c, Proc.tc.devRef main_arg3) : S16x257.Idx → EReal) i = ((rel i : ℝ) : EReal))
  (ho : ∀ i, (m (c, Proc.tc.devRef main_arg4) : S1x8192x2048.Idx → EReal) i = ((o i : ℝ) : EReal))

theorem ix4_congr {n0 n1 n2 n3 : ℕ} {x : Fin n0} {a a' : Fin n1} {b b' : Fin n2} {d d' : Fin n3} (ha : a = a') (hb : b = b') (hd : d = d') :
    ix4 x a b d = ix4 x a' b' d' := by rw [ha, hb, hd]

/-! ## The blocks as reals -/

include hq in
theorem real_q (t : Fin cfg0.N) (a : Fin 2048) (d : Fin 128) :
    (iblk m c 0 t : S2048x128.Idx → EReal) (ix2 a d) = ((qH q (hd t) (2048 * (t.val % 4) + a.val) d : ℝ) : EReal) := by
  have ht := lt_64 t
  rw [blk_q m c t a d (by omega) (by omega), operand_q, hq]
  unfold qH
  congr 2
  rw [← fin_ofNat (show 2048 * (t.val % 4) + a.val < 8192 by omega)]
  refine ix4_congr (Fin.ext ?_) (Fin.ext ?_) (Fin.ext ?_)
  · show t.val % 4 * 2048 + a.val = 2048 * (t.val % 4) + a.val; omega
  · rw [hd_val]; show (t.val / 4 * 128 + d.val) / 128 = _; omega
  · show (t.val / 4 * 128 + d.val) % 128 = _; omega

include ho in
theorem real_o (t : Fin cfg0.N) (a : Fin 2048) (d : Fin 128) :
    (iblk m c 3 t : S2048x128.Idx → EReal) (ix2 a d) = ((oH o (hd t) (2048 * (t.val % 4) + a.val) d : ℝ) : EReal) := by
  have ht := lt_64 t
  rw [blk_o m c t a d (by omega) (by omega), operand_o, ho]
  unfold oH
  have hh := hd_val t
  congr 2
  rw [← fin_ofNat (show 2048 * (t.val % 4) + a.val < 8192 by omega), ← fin_ofNat (show 128 * (hd t).val + d.val < 2048 by omega)]
  refine congrArg₂ (ix3 0) (Fin.ext ?_) (Fin.ext ?_)
  · show t.val % 4 * 2048 + a.val = 2048 * (t.val % 4) + a.val; omega
  · show t.val / 4 * 128 + d.val = 128 * (hd t).val + d.val; omega

include hk in
theorem real_k (t : Fin cfg0.N) (a : Fin 8704) (d : Fin 128) :
    (iblk m c 1 t : S8704x128.Idx → EReal) (ix2 a d) = ((kH k (hd t) a.val d : ℝ) : EReal) := by
  have ht := lt_64 t
  rw [blk_k m c t a d (by omega), operand_k]
  unfold kH qH
  by_cases h : a.val < 512
  · rw [dif_neg (by omega), if_pos h]; rfl
  · rw [dif_pos (by omega), if_neg h, hk]
    congr 2
    rw [← fin_ofNat (show a.val - 512 < 8192 by omega)]
    refine congrArg₂ (ix4 0 _) (Fin.ext ?_) (Fin.ext ?_)
    · rw [hd_val]; show (t.val / 4 * 128 + d.val) / 128 = _; omega
    · show (t.val / 4 * 128 + d.val) % 128 = _; omega

include hv in
theorem real_v (t : Fin cfg0.N) (a : Fin 8704) (d : Fin 128) :
    (iblk m c 2 t : S8704x128.Idx → EReal) (ix2 a d) = ((kH v (hd t) a.val d : ℝ) : EReal) := by
  have ht := lt_64 t
  rw [blk_v m c t a d (by omega), operand_v]
  unfold kH qH
  by_cases h : a.val < 512
  · rw [dif_neg (by omega), if_pos h]; rfl
  · rw [dif_pos (by omega), if_neg h, hv]
    congr 2
    rw [← fin_ofNat (show a.val - 512 < 8192 by omega)]
    refine congrArg₂ (ix4 0 _) (Fin.ext ?_) (Fin.ext ?_)
    · rw [hd_val]; show (t.val / 4 * 128 + d.val) / 128 = _; omega
    · show (t.val / 4 * 128 + d.val) % 128 = _; omega

include hr in
theorem real_b (t : Fin cfg0.N) (f : Fin 5) (y : Fin 640) (z : Fin 128) :
    (iblk m c 4 t : S1x5x640x128.Idx → EReal) (ix4 0 f y z)
      = if (z.val / 64 ≤ y.val / 64 ∧ y.val / 64 ≤ z.val / 64 + 8) ∧ 512 ≤ y.val + 128 * f.val
        then ((rH rel (hd t) (min (640 + z.val - y.val) 256) : ℝ) : EReal) else ⊥ := by
  have ht := lt_64 t
  rw [blk_b m c t f y z (by omega), operand_b]
  refine if_congr Iff.rfl ?_ rfl
  rw [hr]
  unfold rH
  rw [show (⟨t.val / 4, by omega⟩ : Fin 16) = hd t from Fin.ext (hd_val t).symm]

include hq in
theorem row_q (t : Fin cfg0.N) {n : ℕ} (hn : n < 2048) (d : Fin 128) :
    rowF (iblk m c 0 t : S2048x128.Idx → EReal) n d = ((qH q (hd t) (2048 * (t.val % 4) + n) d : ℝ) : EReal) := by
  unfold rowF
  rw [← fin_ofNat hn]
  exact real_q m c hq t ⟨n, hn⟩ d

include ho in
theorem row_o (t : Fin cfg0.N) {n : ℕ} (hn : n < 2048) (d : Fin 128) :
    rowF (iblk m c 3 t : S2048x128.Idx → EReal) n d = ((oH o (hd t) (2048 * (t.val % 4) + n) d : ℝ) : EReal) := by
  unfold rowF
  rw [← fin_ofNat hn]
  exact real_o m c ho t ⟨n, hn⟩ d

/-! ## The tiles as reals -/

section
variable (t : Fin cfg0.N) {T : ℕ} (hT : T < 16)

include hq hT in
theorem tile_q (b d : Fin 128) : LQ (iblk m c 0 t) T (ix2 b d) = ((qH q (hd t) (128 * (16 * (t.val % 4) + T) + b.val) d : ℝ) : EReal) := by
  have := b.isLt
  refine (real_q m c hq t _ d).trans ?_
  congr 2
  show 2048 * (t.val % 4) + (128 * (T % 16) + b.val) % 2048 = _
  rw [Nat.mod_eq_of_lt (by omega : 128 * (T % 16) + b.val < 2048)]; omega

include ho hT in
theorem tile_o (b d : Fin 128) : LQ (iblk m c 3 t) T (ix2 b d) = ((oH o (hd t) (128 * (16 * (t.val % 4) + T) + b.val) d : ℝ) : EReal) := by
  have := b.isLt
  refine (real_o m c ho t _ d).trans ?_
  congr 2
  show 2048 * (t.val % 4) + (128 * (T % 16) + b.val) % 2048 = _
  rw [Nat.mod_eq_of_lt (by omega : 128 * (T % 16) + b.val < 2048)]; omega

include hk hT in
theorem tile_k (y : Fin 640) (d : Fin 128) :
    LK (part t) (iblk m c 1 t) T (ix2 y d) = ((kH k (hd t) (128 * (16 * (t.val % 4) + T) + y.val) d : ℝ) : EReal) := by
  have := y.isLt
  refine (real_k m c hk t _ d).trans ?_
  congr 2
  show (2048 * part t + 128 * (T % 16) + y.val) % 8704 = _
  rw [part_eq, Nat.mod_eq_of_lt (by omega)]; omega

include hv hT in
theorem tile_v (y : Fin 640) (d : Fin 128) :
    LK (part t) (iblk m c 2 t) T (ix2 y d) = ((kH v (hd t) (128 * (16 * (t.val % 4) + T) + y.val) d : ℝ) : EReal) := by
  have := y.isLt
  refine (real_v m c hv t _ d).trans ?_
  congr 2
  show (2048 * part t + 128 * (T % 16) + y.val) % 8704 = _
  rw [part_eq, Nat.mod_eq_of_lt (by omega)]; omega

include hr hT in
theorem tile_b (y : Fin 640) (b : Fin 128) : LB (part t) (iblk m c 4 t) T (ix4 0 0 y b)
    = if Sees (128 * (16 * (t.val % 4) + T) + b.val) (128 * (16 * (t.val % 4) + T) + y.val)
      then ((rH rel (hd t) (min (640 + b.val - y.val) 256) : ℝ) : EReal) else ⊥ := by
  have := y.isLt
  have := b.isLt
  refine (real_b m c hr t _ y b).trans (if_congr ?_ rfl rfl)
  have hf : (Fin.ofNat 5 (min (16 * part t + T % 16) 4)).val = min (16 * (t.val % 4) + T) 4 := by
    show min (16 * part t + T % 16) 4 % 5 = _
    rw [part_eq, Nat.mod_eq_of_lt (by omega : min (16 * (t.val % 4) + T % 16) 4 < 5)]; omega
  rw [hf]
  unfold Sees Near
  omega

end

include hq hk hv hr ho

theorem tilesD_real (t : Fin cfg0.N) {T : ℕ} (hT : T < 16) (y : Fin 640) (b : Fin 128) : tilesD m c t T (ix2 y b)
    = ((dsc (qH q (hd t)) (kH k (hd t)) (kH v (hd t)) (oH o (hd t)) (rH rel (hd t)) (2048 * (t.val % 4) + 128 * T + b.val)
        (2048 * (t.val % 4) + 128 * T + y.val) : ℝ) : EReal) := by
  have e := dT_real (T := 16 * (t.val % 4) + T) (by omega) (tile_k m c hk t hT) (tile_v m c hv t hT) (tile_q m c hq t hT) (tile_o m c ho t hT)
    (tile_b m c hr t hT) y b
  rw [show 128 * (16 * (t.val % 4) + T) = 2048 * (t.val % 4) + 128 * T by omega] at e
  exact e

theorem queries_real (t : Fin cfg0.N) (a : Fin 2048) (d : Fin 128) : queries m c t (ix2 a d)
    = ((gq (qH q (hd t)) (kH k (hd t)) (kH v (hd t)) (oH o (hd t)) (rH rel (hd t)) (2048 * (t.val % 4) + a.val) d : ℝ) : EReal) := by
  have hT : a.val / 128 < 16 := by omega
  have e := dq_real (T := 16 * (t.val % 4) + a.val / 128) (by omega) (tile_k m c hk t hT) (tile_v m c hv t hT) (tile_q m c hq t hT) (tile_o m c ho t hT)
    (tile_b m c hr t hT) ⟨a.val % 128, Nat.mod_lt _ (by norm_num)⟩ d
  refine Eq.trans ?_ (e.trans ?_)
  · rfl
  · congr 2
    show 128 * (16 * (t.val % 4) + a.val / 128) + a.val % 128 = _
    omega

omit hv ho in
theorem tilesP_real (t : Fin cfg0.N) {T : ℕ} (hT : T < 16) (y : Fin 640) (b : Fin 128) : tilesP m c t T (ix2 y b)
    = ((pr (qH q (hd t)) (kH k (hd t)) (rH rel (hd t)) (2048 * (t.val % 4) + 128 * T + b.val) (2048 * (t.val % 4) + 128 * T + y.val) : ℝ) : EReal) := by
  have e := pT_real (T := 16 * (t.val % 4) + T) (by omega) (tile_k m c hk t hT) (tile_q m c hq t hT) (tile_b m c hr t hT) y b
  rw [show 128 * (16 * (t.val % 4) + T) = 2048 * (t.val % 4) + 128 * T by omega] at e
  exact e

/-! ## The gradients of the keys and the values -/

/-- What the queries of quarter `g` add to the gradient of key `a`, and of value `a`, of the head of point `t`. -/
def fk (q k v : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  (∑ s ∈ Finset.range 2048, dsc (qH q h) (kH k h) (kH v h) (oH o h) (rH rel h) (2048 * g + s) a * qH q h (2048 * g + s) d) * sm
def fv (q k : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  ∑ s ∈ Finset.range 2048, pr (qH q h) (kH k h) (rH rel h) (2048 * g + s) a * oH o h (2048 * g + s) d

omit hq hk hv hr ho in
theorem far_of {g s a : ℕ} (hs : s < 2048) (h : ¬(2048 * g ≤ a ∧ a < 2048 * g + 2560)) : ¬Near (2048 * g + s) a := by unfold Near; omega

theorem toK_real (t : Fin cfg0.N) {r : ℕ} (hr' : r < 20) (y d : Fin 128) :
    toK m c t r y d = ((fk q k v o rel (hd t) (t.val % 4) (2048 * (t.val % 4) + 128 * r + y.val) d : ℝ) : EReal) := by
  have e := blocks_real (f := dsc (qH q (hd t)) (kH k (hd t)) (kH v (hd t)) (oH o (hd t)) (rH rel (hd t))) (x := qH q (hd t)) (g := t.val % 4)
    (D := tilesD m c t) (X := rowF (iblk m c 0 t : S2048x128.Idx → EReal))
    (fun s κ h => dsc_far h) (fun T hT y b => tilesD_real m c hq hk hv hr ho t hT y b)
    (fun T hT b d => by rw [row_q m c hq t (by omega) d, Nat.add_assoc]) hr' y d
  unfold toK addK fk
  rw [e, sm_word, ← EReal.coe_mul]

omit hv in
theorem toV_real (t : Fin cfg0.N) {r : ℕ} (hr' : r < 20) (y d : Fin 128) :
    toV m c t r y d = ((fv q k o rel (hd t) (t.val % 4) (2048 * (t.val % 4) + 128 * r + y.val) d : ℝ) : EReal) := by
  have e := blocks_real (f := pr (qH q (hd t)) (kH k (hd t)) (rH rel (hd t))) (x := oH o (hd t)) (g := t.val % 4)
    (D := tilesP m c t) (X := rowF (iblk m c 3 t : S2048x128.Idx → EReal))
    (fun s κ h => pr_far h) (fun T hT y b => tilesP_real m c hq hk hr t hT y b)
    (fun T hT b d => by rw [row_o m c ho t (by omega) d, Nat.add_assoc]) hr' y d
  unfold toV addV fv
  rw [e]

/-- The sums up to quarter `g`. -/
def upK (q k v : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  ∑ n ∈ Finset.range (g + 1), fk q k v o rel h n a d
def upV (q k : (⟨4, ![1, 8192, 16, 128]⟩ : Shape).Idx → ℝ) (o : (⟨3, ![1, 8192, 2048]⟩ : Shape).Idx → ℝ) (rel : (⟨2, ![16, 257]⟩ : Shape).Idx → ℝ) (h : Fin 16) (g a : ℕ) (d : Fin 128) : ℝ :=
  ∑ n ∈ Finset.range (g + 1), fv q k o rel h n a d

theorem sumK_real : ∀ (n : ℕ) (t : Fin cfg0.N), t.val = n → ∀ (a : Fin 8704) (d : Fin 128),
    sumK m c t (ix2 a d) = ((upK q k v o rel (hd t) (t.val % 4) a.val d : ℝ) : EReal)
  | n, t, hn, a, d => by
    have key := fun base => added_real (o := 2048 * part t) base (fk q k v o rel (hd t) (t.val % 4))
      (fun r h y d => (toK_real m c hq hk hv hr ho t h y d).trans (by rw [part_eq])) (fun x h d => by
        rw [part_eq] at h
        unfold fk
        rw [Finset.sum_eq_zero fun s hs => by rw [dsc_far (far_of (Finset.mem_range.1 hs) h), zero_mul], zero_mul]) a d
    by_cases h : t.val % 4 = 0
    · rw [sumK_first m c t ((first_iff t).mpr h)]
      refine (key fun _ _ => 0).trans ((zero_add _).trans ?_)
      unfold upK
      rw [h, Finset.sum_range_one]
    · rw [sumK_next m c t fun e => h ((first_iff t).mp e)]
      refine (key fun a d => sumK m c (prev t) (ix2 a d)).trans ?_
      have hlt : t.val - 1 < n := by omega
      have hp : hd (prev t) = hd t := Fin.ext (by rw [hd_val, hd_val]; show (t.val - 1) / 4 = _; omega)
      have hg : (prev t).val % 4 + 1 = t.val % 4 := by show (t.val - 1) % 4 + 1 = _; omega
      rw [sumK_real (t.val - 1) (prev t) rfl a d, hp, ← EReal.coe_add]
      unfold upK
      rw [hg, Finset.sum_range_succ _ (t.val % 4)]
termination_by n => n

omit hv in
theorem sumV_real : ∀ (n : ℕ) (t : Fin cfg0.N), t.val = n → ∀ (a : Fin 8704) (d : Fin 128),
    sumV m c t (ix2 a d) = ((upV q k o rel (hd t) (t.val % 4) a.val d : ℝ) : EReal)
  | n, t, hn, a, d => by
    have key := fun base => added_real (o := 2048 * part t) base (fv q k o rel (hd t) (t.val % 4))
      (fun r h y d => (toV_real m c hq hk hr ho t h y d).trans (by rw [part_eq])) (fun x h d => by
        rw [part_eq] at h
        unfold fv
        rw [Finset.sum_eq_zero fun s hs => by rw [pr_far (far_of (Finset.mem_range.1 hs) h), zero_mul]]) a d
    by_cases h : t.val % 4 = 0
    · rw [sumV_first m c t ((first_iff t).mpr h)]
      refine (key fun _ _ => 0).trans ((zero_add _).trans ?_)
      unfold upV
      rw [h, Finset.sum_range_one]
    · rw [sumV_next m c t fun e => h ((first_iff t).mp e)]
      refine (key fun a d => sumV m c (prev t) (ix2 a d)).trans ?_
      have hlt : t.val - 1 < n := by omega
      have hp : hd (prev t) = hd t := Fin.ext (by rw [hd_val, hd_val]; show (t.val - 1) / 4 = _; omega)
      have hg : (prev t).val % 4 + 1 = t.val % 4 := by show (t.val - 1) % 4 + 1 = _; omega
      rw [sumV_real (t.val - 1) (prev t) rfl a d, hp, ← EReal.coe_add]
      unfold upV
      rw [hg, Finset.sum_range_succ _ (t.val % 4)]
termination_by n => n

omit hq hk hv hr ho in
theorem quarters (f : ℕ → ℝ) : ∑ s ∈ Finset.range 8192, f s = ∑ n ∈ Finset.range (3 + 1), ∑ s ∈ Finset.range 2048, f (2048 * n + s) := by
  rw [show 8192 = 2048 * 4 from rfl, sum_tiles 2048 4]
  exact Finset.sum_congr rfl fun n _ => Fin.sum_univ_eq_sum_range (fun s => f (2048 * n + s)) 2048

theorem keys_real (t : Fin cfg0.N) (ht : t.val % 4 = 3) (a : Fin 8704) (d : Fin 128) :
    sumK m c t (ix2 a d) = ((gk (qH q (hd t)) (kH k (hd t)) (kH v (hd t)) (oH o (hd t)) (rH rel (hd t)) a.val d : ℝ) : EReal) := by
  rw [sumK_real m c hq hk hv hr ho _ t rfl, ht]
  unfold upK fk gk
  rw [quarters, Finset.sum_mul]

omit hv in
theorem vals_real (t : Fin cfg0.N) (ht : t.val % 4 = 3) (a : Fin 8704) (d : Fin 128) :
    sumV m c t (ix2 a d) = ((gv (qH q (hd t)) (kH k (hd t)) (oH o (hd t)) (rH rel (hd t)) a.val d : ℝ) : EReal) := by
  rw [sumV_real m c hq hk hr ho _ t rfl, ht]
  unfold upV fv gv
  rw [quarters]

/-! ## The three arrays -/

omit hq hk hv hr ho in
theorem col_head (t : Fin cfg0.N) (d : Fin 128) : Fin.ofNat 16 ((t.val / 4 * 128 + d.val) / 128) = hd t ∧ Fin.ofNat 128 (t.val / 4 * 128 + d.val) = d := by
  have := lt_64 t
  refine ⟨Fin.ext ?_, Fin.ext ?_⟩
  · rw [hd_val]; show (t.val / 4 * 128 + d.val) / 128 % 16 = _; omega
  · show (t.val / 4 * 128 + d.val) % 128 = _; omega

omit hq hk hv hr ho in
theorem last_of_flush : (∀ t : Fin cfg0.N, (cfg0.win 6).flush t = true → t.val % 4 = 3) ∧ ∀ t : Fin cfg0.N, (cfg0.win 7).flush t = true → t.val % 4 = 3 :=
  (by decide +kernel : (∀ t : Fin grid0.N, _) ∧ ∀ t : Fin grid0.N, _)

theorem arr5 : (dats m 0 c).arrAt 5 cfg0.N = GQ q k v o rel := by
  refine Dat.arrAt_eq_of_covers _ 5 _ (by decide +kernel) fun t hf y => ?_
  blk_simp
  rw [after0_5, nine_eq]
  have ht := lt_64 t
  obtain ⟨a, d, rfl⟩ : ∃ (a : Fin 2048) (d : Fin 128), y = ix2 a d := ⟨_, _, eq_ix2 y⟩
  have e : ((((cfg0.win 5).blk t).view.emb (ix2 a d)) : S8192x2048.Idx) = ix2 ⟨t.val % 4 * 2048 + a.val, by omega⟩ ⟨t.val / 4 * 128 + d.val, by omega⟩ := by
    blk_ext [idx t]
  refine (queries_real m c hq hk hv hr ho t a d).trans (Eq.trans ?_ (congrArg (GQ q k v o rel) e).symm)
  obtain ⟨e1, e2⟩ := col_head t d
  rw [GQ_apply q k v o rel _ _ e1 e2]
  exact congrArg (fun n : ℕ => ((gq (qH q (hd t)) (kH k (hd t)) (kH v (hd t)) (oH o (hd t)) (rH rel (hd t)) (n + a.val) d : ℝ) : EReal)) (Nat.mul_comm _ _)

theorem arr6 : (dats m 0 c).arrAt 6 cfg0.N
    = fun j : S8192x2048.Idx => GKA q k v o rel (m (c, Proc.tc.devRef main_arg5) : S1x8192x16x128.Idx → EReal) (j 0) (j 1) := by
  refine Dat.arrAt_eq_of_covers _ 6 _ (by decide +kernel) fun t hf y => ?_
  blk_simp
  have h1 : t.val % 4 = 3 := last_of_flush.1 t hf
  have ht := lt_64 t
  obtain ⟨a, d, rfl⟩ : ∃ (a : Fin 8192) (d : Fin 128), y = ix2 a d := ⟨_, _, eq_ix2 y⟩
  have e : ((((cfg0.win 6).blk t).view.emb (ix2 a d)) : S8192x2048.Idx) = ix2 a ⟨t.val / 4 * 128 + d.val, by omega⟩ := by
    blk_ext [idx t]
  have hh : (head t).val / 4 = t.val / 4 := by show t.val / 4 * 4 / 4 = _; omega
  rw [after0_6]
  refine (ten_eq m c t ((last_iff t).mpr h1) a d).trans (Eq.trans ?_
    (congrArg (fun j : S8192x2048.Idx => GKA q k v o rel (m (c, Proc.tc.devRef main_arg5) : S1x8192x16x128.Idx → EReal) (j 0) (j 1)) e).symm)
  show _ = GKA q k v o rel (m (c, Proc.tc.devRef main_arg5) : S1x8192x16x128.Idx → EReal) a ⟨t.val / 4 * 128 + d.val, by omega⟩
  unfold GKA
  obtain ⟨e1, e2⟩ := col_head t d
  rw [GK_apply q k v o rel _ _ e1 e2, keys_real m c hq hk hv hr ho t h1, cameK_apply m c (head t) (head_first t) _ d (by rw [hh]; omega), operand_dk, add_comm]
  refine congrArg (· + _) (congrArg (m (c, Proc.tc.devRef main_arg5) : S1x8192x16x128.Idx → EReal) ?_)
  refine congrArg₂ (ix4 0 a) (Fin.ext ?_) (Fin.ext ?_)
  · dsimp only; rw [hh]
  · dsimp only; rw [hh]

omit hv in
theorem arr7 : (dats m 0 c).arrAt 7 cfg0.N
    = fun j : S8192x2048.Idx => GVA q k o rel (m (c, Proc.tc.devRef main_arg6) : S1x8192x16x128.Idx → EReal) (j 0) (j 1) := by
  refine Dat.arrAt_eq_of_covers _ 7 _ (by decide +kernel) fun t hf y => ?_
  blk_simp
  have h1 : t.val % 4 = 3 := last_of_flush.2 t hf
  have ht := lt_64 t
  obtain ⟨a, d, rfl⟩ : ∃ (a : Fin 8192) (d : Fin 128), y = ix2 a d := ⟨_, _, eq_ix2 y⟩
  have e : ((((cfg0.win 7).blk t).view.emb (ix2 a d)) : S8192x2048.Idx) = ix2 a ⟨t.val / 4 * 128 + d.val, by omega⟩ := by
    blk_ext [idx t]
  have hh : (head t).val / 4 = t.val / 4 := by show t.val / 4 * 4 / 4 = _; omega
  rw [after0_7]
  refine (eleven_eq m c t ((last_iff t).mpr h1) a d).trans (Eq.trans ?_
    (congrArg (fun j : S8192x2048.Idx => GVA q k o rel (m (c, Proc.tc.devRef main_arg6) : S1x8192x16x128.Idx → EReal) (j 0) (j 1)) e).symm)
  show _ = GVA q k o rel (m (c, Proc.tc.devRef main_arg6) : S1x8192x16x128.Idx → EReal) a ⟨t.val / 4 * 128 + d.val, by omega⟩
  unfold GVA
  obtain ⟨e1, e2⟩ := col_head t d
  rw [GV_apply q k o rel _ _ e1 e2, vals_real m c hq hk hr ho t h1, cameV_apply m c (head t) (head_first t) _ d (by rw [hh]; omega), operand_dv, add_comm]
  refine congrArg (· + _) (congrArg (m (c, Proc.tc.devRef main_arg6) : S1x8192x16x128.Idx → EReal) ?_)
  refine congrArg₂ (ix4 0 a) (Fin.ext ?_) (Fin.ext ?_)
  · dsimp only; rw [hh]
  · dsimp only; rw [hh]

end Cert.AttnAccTile

end
end
-- ==== Proof.AttnAccClaims.lean ====
/- The claims about the attention's accumulating backward call: the frames, the reference's frame, and that both programs compute the same three arrays. -/
module

public import proofs.«01_k».proof.Defs
public import proofs.«01_k».proof.Proof.AttnAccArrays
public import proofs.«01_k».proof.Proof.AttnAccFrame
public import proofs.«01_k».proof.Proof.Gen.AttnA
public import proofs.«01_k».proof.Proof.Gen.AttnARefIdeal.Run
public import proofs.«01_k».proof.Proof.Gen.Pre_attna_finite
public import Idealize.ShloMosaic.Adequacy
public import Idealize.ShloMosaic.Init

@[expose] public section

set_option maxRecDepth 16384

noncomputable section

namespace Cert.AttnAccClaims

open Idealize.ShloMosaic Idealize.ShloMosaic.TcCoe Idealize.SL.Sem Cert.Coe

/-- What the run of the ideal program's text over the machine's floats says. -/
def FrameBits : Prop :=
  ∀ (m : (ℓ : Loc Cert.AttnAIdeal.nD Cert.AttnAIdeal.τ Cert.AttnAIdeal.sig) → Buf (Elt Bits) ℓ) (ρ : Dev Cert.AttnAIdeal.nD → PrngReg), True →
    θ_run (Cert.AttnAIdeal.defs (F := Bits)) (onTc (τ := Cert.AttnAIdeal.τ) (Cert.AttnAIdeal.main (F := Bits))) ⟨m, fun _ => 0, ρ⟩
      (fun r => (∀ c : Dev Cert.AttnAIdeal.nD,
        r.2.mem ((c.tc : Thread _ Cert.AttnAIdeal.τ).loc Cert.AttnAIdeal.main_arg0) = m ((c.tc : Thread _ Cert.AttnAIdeal.τ).loc Cert.AttnAIdeal.main_arg0)
        ∧ r.2.mem ((c.tc : Thread _ Cert.AttnAIdeal.τ).loc Cert.AttnAIdeal.main_arg1) = m ((c.tc : Thread _ Cert.AttnAIdeal.τ).loc Cert.AttnAIdeal.main_arg1)
        ∧ r.2.mem ((c.tc : Thread _ Cert.AttnAIdeal.τ).loc Cert.AttnAIdeal.main_arg2) = m ((c.tc : Thread _ Cert.AttnAIdeal.τ).loc Cert.AttnAIdeal.main_arg2)
        ∧ r.2.mem ((c.tc : Thread _ Cert.AttnAIdeal.τ).loc Cert.AttnAIdeal.main_arg3) = m ((c.tc : Thread _ Cert.AttnAIdeal.τ).loc Cert.AttnAIdeal.main_arg3)
        ∧ r.2.mem ((c.tc : Thread _ Cert.AttnAIdeal.τ).loc Cert.AttnAIdeal.main_arg4) = m ((c.tc : Thread _ Cert.AttnAIdeal.τ).loc Cert.AttnAIdeal.main_arg4)
        ∧ r.2.mem ((c.tc : Thread _ Cert.AttnAIdeal.τ).loc Cert.AttnAIdeal.main_arg5) = m ((c.tc : Thread _ Cert.AttnAIdeal.τ).loc Cert.AttnAIdeal.main_arg5)
        ∧ r.2.mem ((c.tc : Thread _ Cert.AttnAIdeal.τ).loc Cert.AttnAIdeal.main_arg6) = m ((c.tc : Thread _ Cert.AttnAIdeal.τ).loc Cert.AttnAIdeal.main_arg6))
        ∧ r.2.sem = fun _ => 0)

/-- It is the kernel's frame claim: the two texts are one. -/
theorem frame_same : Cert.quiescent_AttnA = FrameBits := by sl_kernel_rfl

theorem frame_kernel : Cert.quiescent_AttnA := frame_same.mpr fun m ρ _ => Cert.AttnAcc.frame (F := Bits) m ρ

theorem frame_ref (m : (ℓ : Loc Cert.AttnARefIdeal.nD Cert.AttnARefIdeal.τ Cert.AttnARefIdeal.sig) → Buf (Elt Ideal) ℓ)
    (ρ : Dev Cert.AttnARefIdeal.nD → PrngReg) :
    θ_run (Cert.AttnARefIdeal.defs (F := Ideal)) (onTc (τ := Cert.AttnARefIdeal.τ) (Cert.AttnARefIdeal.main (F := Ideal))) ⟨m, fun _ => 0, ρ⟩
      (fun r => (∀ c : Dev Cert.AttnARefIdeal.nD,
        r.2.mem ((c.tc : Thread _ Cert.AttnARefIdeal.τ).loc Cert.AttnARefIdeal.main_arg0) = m ((c.tc : Thread _ Cert.AttnARefIdeal.τ).loc Cert.AttnARefIdeal.main_arg0)
        ∧ r.2.mem ((c.tc : Thread _ Cert.AttnARefIdeal.τ).loc Cert.AttnARefIdeal.main_arg1) = m ((c.tc : Thread _ Cert.AttnARefIdeal.τ).loc Cert.AttnARefIdeal.main_arg1)
        ∧ r.2.mem ((c.tc : Thread _ Cert.AttnARefIdeal.τ).loc Cert.AttnARefIdeal.main_arg2) = m ((c.tc : Thread _ Cert.AttnARefIdeal.τ).loc Cert.AttnARefIdeal.main_arg2)
        ∧ r.2.mem ((c.tc : Thread _ Cert.AttnARefIdeal.τ).loc Cert.AttnARefIdeal.main_arg3) = m ((c.tc : Thread _ Cert.AttnARefIdeal.τ).loc Cert.AttnARefIdeal.main_arg3)
        ∧ r.2.mem ((c.tc : Thread _ Cert.AttnARefIdeal.τ).loc Cert.AttnARefIdeal.main_arg4) = m ((c.tc : Thread _ Cert.AttnARefIdeal.τ).loc Cert.AttnARefIdeal.main_arg4)
        ∧ r.2.mem ((c.tc : Thread _ Cert.AttnARefIdeal.τ).loc Cert.AttnARefIdeal.main_arg5) = m ((c.tc : Thread _ Cert.AttnARefIdeal.τ).loc Cert.AttnARefIdeal.main_arg5)
        ∧ r.2.mem ((c.tc : Thread _ Cert.AttnARefIdeal.τ).loc Cert.AttnARefIdeal.main_arg6) = m ((c.tc : Thread _ Cert.AttnARefIdeal.τ).loc Cert.AttnARefIdeal.main_arg6))
        ∧ r.2.sem = fun _ => 0) :=
  (θ_run Cert.AttnARefIdeal.defs _ _).mono (fun r h => ⟨fun c => (h c).2.2.2, sem_eq_zero_of_no_sems (by decide) r.2⟩)
    (Cert.AttnARefIdeal.Value.run (F := Ideal) m ρ)

/-- The kernel's run, its three arrays named. -/
theorem run_kernel (m : (ℓ : Loc Cert.AttnAIdeal.nD Cert.AttnAIdeal.τ Cert.AttnAIdeal.sig) → Buf (Elt Ideal) ℓ) (ρ : Dev Cert.AttnAIdeal.nD → PrngReg) :
    θ_run (Cert.AttnAIdeal.defs (F := Ideal)) (onTc (τ := Cert.AttnAIdeal.τ) (Cert.AttnAIdeal.main (F := Ideal))) ⟨m, fun _ => 0, ρ⟩
      (fun r => ∀ c : Dev Cert.AttnAIdeal.nD,
        r.2.mem ((c.tc : Thread _ Cert.AttnAIdeal.τ).loc Cert.AttnAIdeal.main_v65_0) = (Cert.AttnAcc.dats m 0 c).arrAt 5 Cert.AttnAIdeal.cfg0.N
        ∧ r.2.mem ((c.tc : Thread _ Cert.AttnAIdeal.τ).loc Cert.AttnAIdeal.main_v65_1) = (Cert.AttnAcc.dats m 0 c).arrAt 6 Cert.AttnAIdeal.cfg0.N
        ∧ r.2.mem ((c.tc : Thread _ Cert.AttnAIdeal.τ).loc Cert.AttnAIdeal.main_v65_2) = (Cert.AttnAcc.dats m 0 c).arrAt 7 Cert.AttnAIdeal.cfg0.N
        ∧ r.2.mem ((c.tc : Thread _ Cert.AttnAIdeal.τ).loc Cert.AttnAIdeal.main_arg0) = m ((c.tc : Thread _ Cert.AttnAIdeal.τ).loc Cert.AttnAIdeal.main_arg0)
        ∧ r.2.mem ((c.tc : Thread _ Cert.AttnAIdeal.τ).loc Cert.AttnAIdeal.main_arg1) = m ((c.tc : Thread _ Cert.AttnAIdeal.τ).loc Cert.AttnAIdeal.main_arg1)
        ∧ r.2.mem ((c.tc : Thread _ Cert.AttnAIdeal.τ).loc Cert.AttnAIdeal.main_arg2) = m ((c.tc : Thread _ Cert.AttnAIdeal.τ).loc Cert.AttnAIdeal.main_arg2)
        ∧ r.2.mem ((c.tc : Thread _ Cert.AttnAIdeal.τ).loc Cert.AttnAIdeal.main_arg3) = m ((c.tc : Thread _ Cert.AttnAIdeal.τ).loc Cert.AttnAIdeal.main_arg3)
        ∧ r.2.mem ((c.tc : Thread _ Cert.AttnAIdeal.τ).loc Cert.AttnAIdeal.main_arg4) = m ((c.tc : Thread _ Cert.AttnAIdeal.τ).loc Cert.AttnAIdeal.main_arg4)
        ∧ r.2.mem ((c.tc : Thread _ Cert.AttnAIdeal.τ).loc Cert.AttnAIdeal.main_arg5) = m ((c.tc : Thread _ Cert.AttnAIdeal.τ).loc Cert.AttnAIdeal.main_arg5)
        ∧ r.2.mem ((c.tc : Thread _ Cert.AttnAIdeal.τ).loc Cert.AttnAIdeal.main_arg6) = m ((c.tc : Thread _ Cert.AttnAIdeal.τ).loc Cert.AttnAIdeal.main_arg6)) :=
  (θ_run Cert.AttnAIdeal.defs _ _).mono (fun r h c => ⟨(h.1.1 c).1 5, (h.1.1 c).1 6, (h.1.1 c).1 7, h.2.1 c⟩)
    (θ_run_and (Cert.AttnAcc.run_main m ρ) (Cert.AttnAcc.frame m ρ))

/-- The precondition, read as: every entry of the first five arguments is a real. -/
theorem finite_args (q k v : FVec Ideal Cert.Pre_attna_finite.S1x8192x16x128 .f32) (rel : FVec Ideal Cert.Pre_attna_finite.S16x257 .f32)
    (o : FVec Ideal Cert.Pre_attna_finite.S1x8192x2048 .f32) (z w : FVec Ideal Cert.Pre_attna_finite.S1x8192x16x128 .f32)
    (e : ∀ i, Cert.Pre_attna_finite.fn q k v rel o z w i = 1#1) :
    (∀ i, ∃ r : ℝ, q i = r) ∧ (∀ i, ∃ r : ℝ, k i = r) ∧ (∀ i, ∃ r : ℝ, v i = r) ∧ (∀ i, ∃ r : ℝ, rel i = r) ∧ (∀ i, ∃ r : ℝ, o i = r) := by
  have e := e (fun a : Fin 0 => a.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_test q _ _ _ _ e1, real_of_test k _ _ _ _ e2, real_of_test v _ _ _ _ e3, real_of_test rel _ _ _ _ e4, real_of_test o _ _ _ _ e5⟩

theorem algebraic : Cert.algebraic_AttnAIdeal_AttnARefIdeal_pre_attna_finite := by
  intro m ρ m' ρ' pre hag
  refine ⟨fun c => (Cert.AttnAcc.dats m 0 c).arrAt 5 Cert.AttnAIdeal.cfg0.N, fun c => (Cert.AttnAcc.dats m 0 c).arrAt 6 Cert.AttnAIdeal.cfg0.N,
    fun c => (Cert.AttnAcc.dats m 0 c).arrAt 7 Cert.AttnAIdeal.cfg0.N, run_kernel m ρ, ?_⟩
  refine (θ_run Cert.AttnARefIdeal.defs _ _).mono (fun r h c => ?_) (Cert.AttnARefIdeal.Value.run (F := Ideal) m' ρ')
  obtain ⟨r0, r1, r2, k⟩ := h c
  obtain ⟨a0, a1, a2, a3, a4, a5, a6⟩ := hag c
  obtain ⟨f0, f1, f2, f3, f4⟩ := finite_args _ _ _ _ _ _ _ (fun i => congrFun (pre c) i)
  choose q hq using f0
  choose κ hk using f1
  choose v hv using f2
  choose rel hr using f3
  choose o ho using f4
  refine ⟨(r0.trans (Cert.AttnARefIdeal.Read.val_main_v187_eq _)).trans (Eq.trans ?_ (Cert.AttnAccTile.arr5 m c hq hk hv hr ho).symm),
    (r1.trans (Cert.AttnARefIdeal.Read.val_main_v189_eq _)).trans (Eq.trans ?_ (Cert.AttnAccTile.arr6 m c hq hk hv hr ho).symm),
    (r2.trans (Cert.AttnARefIdeal.Read.val_main_v191_eq _)).trans (Eq.trans ?_ (Cert.AttnAccTile.arr7 m c hq hk hr ho).symm), k⟩
  · exact Cert.AttnAccRef.ref_q (fun i => (congrFun a0 i).trans (hq i)) (fun i => (congrFun a1 i).trans (hk i)) (fun i => (congrFun a2 i).trans (hv i)) (fun i => (congrFun a3 i).trans (hr i)) (fun i => (congrFun a4 i).trans (ho i))
  · refine Eq.trans ?_ (congrArg (fun z : Cert.AttnAIdeal.S1x8192x16x128.Idx → EReal => fun j : Cert.AttnAIdeal.S8192x2048.Idx => Cert.AttnAccRef.GKA q κ v o rel z (j 0) (j 1)) a5)
    exact Cert.AttnAccRef.ref_k (fun i => (congrFun a0 i).trans (hq i)) (fun i => (congrFun a1 i).trans (hk i)) (fun i => (congrFun a2 i).trans (hv i)) (fun i => (congrFun a3 i).trans (hr i)) (fun i => (congrFun a4 i).trans (ho i))
  · refine Eq.trans ?_ (congrArg (fun z : Cert.AttnAIdeal.S1x8192x16x128.Idx → EReal => fun j : Cert.AttnAIdeal.S8192x2048.Idx => Cert.AttnAccRef.GVA q κ o rel z (j 0) (j 1)) a6)
    exact Cert.AttnAccRef.ref_v (fun i => (congrFun a0 i).trans (hq i)) (fun i => (congrFun a1 i).trans (hk i)) (fun i => (congrFun a3 i).trans (hr i)) (fun i => (congrFun a4 i).trans (ho i))

end Cert.AttnAccClaims

end
end
-- ==== Proof.GateKernel.lean ====
/- The value of the gate call's backward pass: what the three gradients hold after its run. -/
module

public import proofs.«01_k».proof.Proof.Coe
public import proofs.«01_k».proof.Proof.Gen.GateIdeal.Value
public import Idealize.ShloMosaic.Lib.StableHlo.ReadAt
public import Idealize.ShloMosaic.Lib.Pointwise

@[expose] public section

set_option maxRecDepth 16384

noncomputable section

namespace Cert.GateIdeal.Value

open Cert.GateIdeal Cert.GateIdeal.Gen Idealize.ShloMosaic Idealize.ShloMosaic.TcCoe Idealize.SL.Sem
open Idealize.ShloMosaic.Pipeline (Dat)
open Idealize.ShloMosaic.Pointwise

/-! ## One entry -/

/-- An entry of the cotangent of the gated product: a row of the scaled cotangent against a row of the weight. -/
def dgt (d g w : Fin 1024 → EReal) : EReal := ∑ x, g x * d x * w x

/-- The logistic function as the call computes it. -/
def logi (z : EReal) : EReal := Ideal.div 1 (1 + Ideal.exp (0 - z))

/-- The gradient of the mixed values, of the gate's argument, and a row's part of the gradient of the scale, from
    the cotangent `e` of the gated product. -/
def dmE (e z a : EReal) : EReal := e * (z * logi z) * a
def dzE (e m z a : EReal) : EReal := e * (m * a) * (logi z * (1 + z * (1 - logi z)))
def daE (e m z : EReal) : EReal := e * (z * logi z) * m

/-- Row `j` of the weight, stored as eight parts. -/
abbrev wrow (w : Vec Ideal S8x256x1024 EltTy.bf16) (j : Fin 2048) : Fin 1024 → EReal :=
  fun x => w (ix3 ⟨j.val / 256, by omega⟩ ⟨j.val % 256, by omega⟩ x)

section
variable (d : Vec Ideal S512x1024 EltTy.f32) (g : Vec Ideal S1x1024 EltTy.f32) (w : Vec Ideal S8x256x1024 EltTy.bf16)
    (m z : Vec Ideal S512x2048 EltTy.bf16) (a : Vec Ideal S1x2048 EltTy.f32)

theorem pay_dm (i : Fin 512) (j : Fin 2048) :
    k0_pay2 (k0_pay10 a) (k0_pay11 d g w z) (ix2 i j)
      = dmE (dgt (fun x => d (ix2 i x)) (fun x => g (ix2 0 x)) (wrow w j)) (z (ix2 i j)) (a (ix2 0 j)) := by
  pointwise [k0_pay2, k0_pay10, k0_pay11, k0_pay6, k0_pay7, k0_pay8]
  rfl

theorem pay_dz (i : Fin 512) (j : Fin 2048) :
    k0_pay3 (k0_pay6 d g w) (k0_pay7 z) (k0_pay8 z) (k0_pay9 m) (k0_pay10 a) (ix2 i j)
      = dzE (dgt (fun x => d (ix2 i x)) (fun x => g (ix2 0 x)) (wrow w j)) (m (ix2 i j)) (z (ix2 i j)) (a (ix2 0 j)) := by
  pointwise [k0_pay3, k0_pay10, k0_pay9, k0_pay6, k0_pay7, k0_pay8]
  rfl

theorem pay_da (j : S1x2048.Idx) :
    k0_pay1 (k0_pay9 m) (k0_pay11 d g w z) (k0_pay12 a) j
      = a j + ∑ r : Fin 512, daE (dgt (fun x => d (ix2 r x)) (fun x => g (ix2 0 x)) (wrow w (j 1))) (m (ix2 r (j 1))) (z (ix2 r (j 1))) := by
  obtain ⟨i, j, rfl⟩ : ∃ i k, j = ix2 i k := ⟨_, _, eq_ix2 j⟩
  pointwise [k0_pay1, k0_pay12, k0_pay9, k0_pay11, k0_pay6, k0_pay7, k0_pay8]
  rfl

theorem pay_zero (j : S1x2048.Idx) : (k0_pay4 : FVec Ideal S1x2048 .f32) j = 0 := by
  pointwise [k0_pay4]
end

/-! ## The blocks -/

variable (m : (ℓ : Loc nD τ sig) → Buf (Elt Ideal) ℓ) (c : Dev nD)

abbrev mixedA : S8192x2048.Idx → EReal := m ((c : Thread nD τ).loc main_arg0)
abbrev zA : S8192x2048.Idx → EReal := m ((c : Thread nD τ).loc main_arg1)
abbrev scaleA : S2048.Idx → EReal := m ((c : Thread nD τ).loc main_arg2)
abbrev weightA : S2048x1024.Idx → EReal := m ((c : Thread nD τ).loc main_arg3)
abbrev gateA : S1024.Idx → EReal := m ((c : Thread nD τ).loc main_arg4)
abbrev dhA : S8192x1024.Idx → EReal := m ((c : Thread nD τ).loc main_arg5)

/-- The window's block at a grid point: its row coordinate is the point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![0, 0]
    ∧ win0_7.index t = ![t.val, 0] ∧ win0_8.index t = ![t.val, 0] ∧ win0_9.index t = ![0, 0] :=
  (by decide +kernel : ∀ t : Fin grid0.N, _)

theorem blk_dh (t : Fin cfg0.N) (a : Fin 512) (hr : t.val * 512 + a.val < 8192) (x : Fin 1024) :
    (iblk m c 0 t : S512x1024.Idx → EReal) (ix2 a x) = dhA m c (ix2 ⟨t.val * 512 + a.val, hr⟩ x) := by
  blk_point [iblk, V, idx t]

theorem blk_gate (t : Fin cfg0.N) (x : Fin 1024) :
    (iblk m c 1 t : S1x1024.Idx → EReal) (ix2 0 x) = gateA m c (ix1 x) := by
  blk_point [iblk, V, idx t]

theorem blk_w (t : Fin cfg0.N) (j : Fin 2048) (x : Fin 1024) :
    wrow (iblk m c 2 t) j x = weightA m c (ix2 j x) := by
  show (iblk m c 2 t : S8x256x1024.Idx → EReal) (ix3 ⟨j.val / 256, by omega⟩ ⟨j.val % 256, by omega⟩ x) = _
  blk_point [iblk, V, idx t]

theorem blk_mixed (t : Fin cfg0.N) (a : Fin 512) (hr : t.val * 512 + a.val < 8192) (x : Fin 2048) :
    (iblk m c 3 t : S512x2048.Idx → EReal) (ix2 a x) = mixedA m c (ix2 ⟨t.val * 512 + a.val, hr⟩ x) := by
  blk_point [iblk, V, idx t]

theorem blk_z (t : Fin cfg0.N) (a : Fin 512) (hr : t.val * 512 + a.val < 8192) (x : Fin 2048) :
    (iblk m c 4 t : S512x2048.Idx → EReal) (ix2 a x) = zA m c (ix2 ⟨t.val * 512 + a.val, hr⟩ x) := by
  blk_point [iblk, V, idx t]

theorem blk_scale (t : Fin cfg0.N) (x : Fin 2048) :
    (iblk m c 5 t : S1x2048.Idx → EReal) (ix2 0 x) = scaleA m c (ix1 x) := by
  blk_point [iblk, V, idx t]

/-- The cotangent of the gated product at row `r`, column `j`. -/
abbrev dgtA (r : Fin 8192) (j : Fin 2048) : EReal :=
  dgt (fun x => dhA m c (ix2 r x)) (fun x => gateA m c (ix1 x)) (fun x => weightA m c (ix2 j x))

theorem blk_dgt (t : Fin cfg0.N) (a : Fin 512) (hr : t.val * 512 + a.val < 8192) (j : Fin 2048) :
    dgt (fun x => (iblk m c 0 t : S512x1024.Idx → EReal) (ix2 a x)) (fun x => (iblk m c 1 t : S1x1024.Idx → EReal) (ix2 0 x)) (wrow (iblk m c 2 t) j)
      = dgtA m c ⟨t.val * 512 + a.val, hr⟩ j := by
  unfold dgtA dgt
  simp only [blk_dh m c t a hr, blk_gate m c t, blk_w m c t]

/-! ## The three arrays -/

theorem arr7 : (dats m 0 c).arrAt 7 cfg0.N = fun j : S8192x2048.Idx => dmE (dgtA m c (j 0) (j 1)) (zA m c j) (scaleA m c (ix1 (j 1))) := by
  refine Dat.arrAt_eq_of_covers _ 7 _ (by decide +kernel) fun t hf y => ?_
  blk_simp
  rw [after0_7]
  have ht : t.val < 16 := lt_of_lt_of_eq t.isLt N_0
  have hy : t.val * 512 + (y 0).val < 8192 := by have : (y 0).val < 512 := (y 0).isLt; omega
  have e : ((((cfg0.win 7).blk t).view.emb y) : S8192x2048.Idx) = ix2 ⟨t.val * 512 + (y 0).val, hy⟩ (y 1) := by
    blk_ext [idx t]
  have key : k0_pay2 (k0_pay10 (iblk m c 5 t)) (k0_pay11 (iblk m c 0 t) (iblk m c 1 t) (iblk m c 2 t) (iblk m c 4 t)) y =
      (fun j : S8192x2048.Idx => dmE (dgtA m c (j 0) (j 1)) (zA m c j) (scaleA m c (ix1 (j 1)))) (((cfg0.win 7).blk t).view.emb y) := by
    rw [e]
    obtain ⟨i, k, rfl⟩ : ∃ i k, y = ix2 i k := ⟨_, _, eq_ix2 y⟩
    rw [pay_dm, blk_dgt m c t i hy, blk_z m c t i hy, blk_scale]
    rfl
  by_cases h : t.val % 16 = 0
  · rw [outsAt0_A m c t h]
    frame_out
    exact key
  · rw [outsAt0_B m c t h]
    frame_out
    exact key

theorem arr8 : (dats m 0 c).arrAt 8 cfg0.N = fun j : S8192x2048.Idx => dzE (dgtA m c (j 0) (j 1)) (mixedA m c j) (zA m c j) (scaleA m c (ix1 (j 1))) := by
  refine Dat.arrAt_eq_of_covers _ 8 _ (by decide +kernel) fun t hf y => ?_
  blk_simp
  rw [after0_8]
  have ht : t.val < 16 := lt_of_lt_of_eq t.isLt N_0
  have hy : t.val * 512 + (y 0).val < 8192 := by have : (y 0).val < 512 := (y 0).isLt; omega
  have e : ((((cfg0.win 8).blk t).view.emb y) : S8192x2048.Idx) = ix2 ⟨t.val * 512 + (y 0).val, hy⟩ (y 1) := by
    blk_ext [idx t]
  have key : k0_pay3 (k0_pay6 (iblk m c 0 t) (iblk m c 1 t) (iblk m c 2 t)) (k0_pay7 (iblk m c 4 t)) (k0_pay8 (iblk m c 4 t)) (k0_pay9 (iblk m c 3 t))
        (k0_pay10 (iblk m c 5 t)) y =
      (fun j : S8192x2048.Idx => dzE (dgtA m c (j 0) (j 1)) (mixedA m c j) (zA m c j) (scaleA m c (ix1 (j 1)))) (((cfg0.win 8).blk t).view.emb y) := by
    rw [e]
    obtain ⟨i, k, rfl⟩ : ∃ i k, y = ix2 i k := ⟨_, _, eq_ix2 y⟩
    rw [pay_dz, blk_dgt m c t i hy, blk_z m c t i hy, blk_mixed m c t i hy, blk_scale]
    rfl
  by_cases h : t.val % 16 = 0
  · rw [outsAt0_A m c t h]
    frame_out
    exact key
  · rw [outsAt0_B m c t h]
    frame_out
    exact key

theorem arr9 : (dats m 0 c).arrAt 9 cfg0.N = fun j : S1x2048.Idx =>
    ∑ r : Fin 8192, daE (dgtA m c r (j 1)) (mixedA m c (ix2 r (j 1))) (zA m c (ix2 r (j 1))) := by
  refine Dat.arrAt_eq_of_after_last _ 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; frame_out; rw [pay_da, pay_zero])
    (fun t h j => by rw [outsAt0_B m c t h]; frame_out; rw [pay_da]) (le_of_eq N_0) t0_15 rfl j, zero_add]
  show (_ : EReal) = _
  refine (Fin.sum_mul_add_congr (S := 16) (n := 512) fun t k hl => ?_)
  exact congr (congrArg₂ daE (blk_dgt m c t k hl (j 1)) (blk_mixed m c t k hl (j 1))) (blk_z m c t k hl (j 1))

end Cert.GateIdeal.Value

end
end
-- ==== Proof.GateRef.lean ====
/- The reference of the gate call read pointwise: the derivative of the plain forward lines, entry by entry. -/
module

public import proofs.«01_k».proof.Proof.Coe
public import proofs.«01_k».proof.Proof.Gen.GateRefIdeal.Read
public import Idealize.ShloMosaic.Lib.Pointwise

@[expose] public section

set_option maxRecDepth 16384

noncomputable section

namespace Cert.GateRefIdeal.Read

open Cert.GateRefIdeal Cert.GateRefIdeal.Gen Idealize.ShloMosaic Idealize.ShloMosaic.Pointwise

variable (x0 x1 : S8192x2048.Idx → EReal) (x2 : S2048.Idx → EReal) (x3 : S2048x1024.Idx → EReal) (x4 : S1024.Idx → EReal)
  (x5 : S8192x1024.Idx → EReal)

theorem val_dgt (i : Fin 8192) (j : Fin 2048) : val_main_v11 (F := Ideal) x3 x4 x5 (ix2 i j) = ∑ x, x4 (ix1 x) * x5 (ix2 i x) * x3 (ix2 j x) := by
  pointwise [val_main_v11, val_main_v10, val_main_v9, val_main_v6]

theorem val_sig (i : Fin 8192) (j : Fin 2048) : val_main_v3_2 (F := Ideal) x1 (ix2 i j) = Ideal.div 1 (1 + Ideal.exp (-x1 (ix2 i j))) := by
  pointwise [val_main_v3_2, val_main_call0_v4, val_main_call0_v3, val_main_call0_cst_0, val_main_call0_cst, val_main_call0_v2, val_main_call0_v1, val_main_call0_v0]

theorem val_dm (i : Fin 8192) (j : Fin 2048) : val_main_v21 (F := Ideal) x1 x2 x3 x4 x5 (ix2 i j)
    = val_main_v11 (F := Ideal) x3 x4 x5 (ix2 i j) * (x1 (ix2 i j) * val_main_v3_2 (F := Ideal) x1 (ix2 i j)) * x2 (ix1 j) := by
  pointwise [val_main_v21, val_main_v19, val_main_v18, val_main_v13, val_main_v3_0, val_main_v0]

theorem val_dz (i : Fin 8192) (j : Fin 2048) : val_main_v22 (F := Ideal) x0 x1 x2 x3 x4 x5 (ix2 i j)
    = x0 (ix2 i j) * x2 (ix1 j) * val_main_v11 (F := Ideal) x3 x4 x5 (ix2 i j) * val_main_v3_2 (F := Ideal) x1 (ix2 i j)
      + x1 (ix2 i j) * (x0 (ix2 i j) * x2 (ix1 j) * val_main_v11 (F := Ideal) x3 x4 x5 (ix2 i j))
        * (val_main_v3_2 (F := Ideal) x1 (ix2 i j) * (1 - val_main_v3_2 (F := Ideal) x1 (ix2 i j))) := by
  pointwise [val_main_v22, val_main_v14, val_main_call1_v0, val_main_call1_v1, val_main_call1_v2, val_main_v12, val_main_v2, val_main_v1, val_main_v0, val_main_v3_1, val_main_call0_v7, val_main_call0_v6, val_main_call0_cst_1]

theorem val_da (i : Fin 1) (j : Fin 2048) : val_main_v23 (F := Ideal) x0 x1 x3 x4 x5 (ix2 i j)
    = ∑ r : Fin 8192, x0 (ix2 r j) * (val_main_v11 (F := Ideal) x3 x4 x5 (ix2 r j) * (x1 (ix2 r j) * val_main_v3_2 (F := Ideal) x1 (ix2 r j))) := by
  pointwise [val_main_v23, val_main_v20, val_main_v17, val_main_v16, val_main_v15, val_main_v13, val_main_v3_0, val_main_cst, val_main_cst_0]
  rw [Finset.univ_unique, Finset.sum_singleton]

end Cert.GateRefIdeal.Read

end
end
-- ==== Proof.GateClaims.lean ====
/- The claims about the gate call's backward pass: its reference's frame, and that both compute the same three gradients. -/
module

public import proofs.«01_k».proof.Defs
public import proofs.«01_k».proof.Proof.GateKernel
public import proofs.«01_k».proof.Proof.GateRef
public import proofs.«01_k».proof.Proof.Gen.Gate.Frame
public import proofs.«01_k».proof.Proof.Gen.GateRefIdeal.Run
public import proofs.«01_k».proof.Proof.Gen.Pre_gate_finite
public import Idealize.ShloMosaic.Adequacy
public import Idealize.ShloMosaic.Init

@[expose] public section

set_option maxRecDepth 16384

noncomputable section

namespace Cert.GateClaims

open Idealize.ShloMosaic Idealize.ShloMosaic.TcCoe Idealize.SL.Sem Cert.Coe
open Cert.GateIdeal.Value (dgt logi dmE dzE daE)

theorem frame_ref : Cert.quiescent_GateRefIdeal_pre_gate_finite := fun m ρ _ =>
  (θ_run Cert.GateRefIdeal.defs _ _).mono (fun r h => ⟨fun c => (h c).2.2.2, sem_eq_zero_of_no_sems (by decide) r.2⟩)
    (Cert.GateRefIdeal.Value.run (F := Ideal) m ρ)

theorem frame_ref' : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

/-- The precondition, read as: every entry of the six arguments is a real. -/
theorem finite_args (x0 x1 : FVec Ideal Cert.Pre_gate_finite.S8192x2048 .f32) (x2 : FVec Ideal Cert.Pre_gate_finite.S2048 .f32)
    (x3 : FVec Ideal Cert.Pre_gate_finite.S2048x1024 .f32) (x4 : FVec Ideal Cert.Pre_gate_finite.S1024 .f32)
    (x5 : FVec Ideal Cert.Pre_gate_finite.S8192x1024 .f32)
    (e : ∀ i, Cert.Pre_gate_finite.fn x0 x1 x2 x3 x4 x5 i = 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) := by
  have e := e (fun a : Fin 0 => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_test x0 _ _ _ _ e1, real_of_test x1 _ _ _ _ e2, real_of_test x2 _ _ _ _ e3, real_of_test x3 _ _ _ _ e4,
    real_of_test x4 _ _ _ _ e5, real_of_test x5 _ _ _ _ e6⟩

/-- The logistic function of a real is a real. -/
theorem logi_real (z : ℝ) : logi (z : EReal) = ((1 / (1 + Real.exp (-z)) : ℝ) : EReal) := by
  unfold logi
  rw [zero_sub, ← EReal.coe_neg, Ideal.exp_coe, ← EReal.coe_one, ← EReal.coe_add, div_real (by positivity)]

/-- A sum of products of reals is a real. -/
theorem dgt_real {d g w : Fin 1024 → EReal} (hd : ∀ x, ∃ r : ℝ, d x = r) (hg : ∀ x, ∃ r : ℝ, g x = r) (hw : ∀ x, ∃ r : ℝ, w x = r) :
    ∃ r : ℝ, dgt d g w = r := by
  obtain ⟨d, rfl⟩ := reals_of hd
  obtain ⟨g, rfl⟩ := reals_of hg
  obtain ⟨w, rfl⟩ := reals_of hw
  unfold dgt
  simp only [← EReal.coe_mul, sum_coe]
  exact ⟨_, rfl⟩

/-- Differentiating `z σ(z)` by the product rule gives the call's factored form, over the reals. -/
theorem dz_eq {e m z a : EReal} (he : ∃ r : ℝ, e = r) (hm : ∃ r : ℝ, m = r) (hz : ∃ r : ℝ, z = r) (ha : ∃ r : ℝ, a = r) :
    m * a * e * logi z + z * (m * a * e) * (logi z * (1 - logi z)) = dzE e m z a := by
  obtain ⟨e, rfl⟩ := he
  obtain ⟨m, rfl⟩ := hm
  obtain ⟨z, rfl⟩ := hz
  obtain ⟨a, rfl⟩ := ha
  unfold dzE
  rw [logi_real]
  simp only [← EReal.coe_one, ← EReal.coe_mul, ← EReal.coe_add, ← EReal.coe_sub]
  rw [EReal.coe_eq_coe_iff]
  ring

theorem algebraic : Cert.algebraic_GateIdeal_GateRefIdeal_pre_gate_finite := by
  intro m ρ m' ρ' pre hag
  refine ⟨fun c => (Cert.GateIdeal.Gen.dats m 0 c).arrAt 7 Cert.GateIdeal.cfg0.N, fun c => (Cert.GateIdeal.Gen.dats m 0 c).arrAt 8 Cert.GateIdeal.cfg0.N,
    fun c => (Cert.GateIdeal.Gen.dats m 0 c).arrAt 9 Cert.GateIdeal.cfg0.N,
    (θ_run Cert.GateIdeal.defs _ _).mono (fun r h c => (h c).2) (Cert.GateIdeal.Value.run_blocks m ρ), ?_⟩
  refine (θ_run Cert.GateRefIdeal.defs _ _).mono (fun r h c => ?_) (Cert.GateRefIdeal.Value.run (F := Ideal) m' ρ')
  obtain ⟨r0, r1, r2, k⟩ := h c
  obtain ⟨a0, a1, a2, a3, a4, a5⟩ := hag c
  obtain ⟨f0, f1, f2, f3, f4, f5⟩ := finite_args _ _ _ _ _ _ (fun i => congrFun (pre c) i)
  refine ⟨(r0.trans (Cert.GateRefIdeal.Read.val_main_v21_eq _ _ _ _ _)).trans (Eq.trans ?_ (Cert.GateIdeal.Value.arr7 m c).symm),
    (r1.trans (Cert.GateRefIdeal.Read.val_main_v22_eq _ _ _ _ _ _)).trans (Eq.trans ?_ (Cert.GateIdeal.Value.arr8 m c).symm),
    (r2.trans (Cert.GateRefIdeal.Read.val_main_v23_eq _ _ _ _ _)).trans (Eq.trans ?_ (Cert.GateIdeal.Value.arr9 m c).symm), k⟩
  · rw [a1, a2, a3, a4, a5]
    funext j
    obtain ⟨s, x, rfl⟩ : ∃ s x, j = ix2 s x := ⟨_, _, eq_ix2 j⟩
    refine (Cert.GateRefIdeal.Read.val_dm _ _ _ _ _ s x).trans ?_
    rw [Cert.GateRefIdeal.Read.val_dgt, Cert.GateRefIdeal.Read.val_sig, ← zero_sub]
    rfl
  · rw [a0, a1, a2, a3, a4, a5]
    funext j
    obtain ⟨s, x, rfl⟩ : ∃ s x, j = ix2 s x := ⟨_, _, eq_ix2 j⟩
    refine (Cert.GateRefIdeal.Read.val_dz _ _ _ _ _ _ s x).trans ?_
    rw [Cert.GateRefIdeal.Read.val_dgt, Cert.GateRefIdeal.Read.val_sig, ← zero_sub]
    exact dz_eq (dgt_real (fun _ => f5 _) (fun _ => f4 _) (fun _ => f3 _)) (f0 _) (f1 _) (f2 _)
  · rw [a0, a1, a3, a4, a5]
    funext j
    obtain ⟨s, x, rfl⟩ : ∃ s x, j = ix2 s x := ⟨_, _, eq_ix2 j⟩
    refine (Cert.GateRefIdeal.Read.val_da _ _ _ _ _ s x).trans (Finset.sum_congr rfl fun r _ => ?_)
    rw [Cert.GateRefIdeal.Read.val_dgt, Cert.GateRefIdeal.Read.val_sig, ← zero_sub, mul_comm]
    rfl

end Cert.GateClaims

end
end
-- ==== Proof.GateWKernel.lean ====
/- The value of the gradient of the gate's output product: what the weight's and the gate's gradients hold after its run. -/
module

public import proofs.«01_k».proof.Proof.Coe
public import proofs.«01_k».proof.Proof.Gen.GateWIdeal.Value
public import Idealize.ShloMosaic.Lib.StableHlo.ReadAt
public import Idealize.ShloMosaic.Lib.Pointwise

@[expose] public section

set_option maxRecDepth 16384

noncomputable section

namespace Cert.GateWIdeal.Value

open Cert.GateWIdeal Cert.GateWIdeal.Gen Idealize.ShloMosaic Idealize.ShloMosaic.TcCoe Idealize.SL.Sem
open Idealize.ShloMosaic.Pipeline (Dat)
open Idealize.ShloMosaic.Pointwise

/-! ## One entry -/

/-- One block's part of the product: its rows summed. -/
def part (x : Vec Ideal S1024x2048 .bf16) (y : Vec Ideal S1024x1024 .bf16) (j : S2048x1024.Idx) : EReal :=
  ∑ r : Fin 1024, (x (ix2 r (j 0)) * y (ix2 r (j 1)) : EReal)

section
variable (x : Vec Ideal S1024x2048 .bf16) (y : Vec Ideal S1024x1024 .bf16) (a : Vec Ideal S2048x1024 .f32)

theorem pay_first (j : S2048x1024.Idx) : k0_pay2 x y j = part x y j := by
  obtain ⟨i, j, rfl⟩ : ∃ i k, j = ix2 i k := ⟨_, _, eq_ix2 j⟩
  pointwise [k0_pay2, k0_pay1]
  rfl

theorem pay_next (j : S2048x1024.Idx) : k0_pay3 x y a j = a j + part x y j := by
  obtain ⟨i, j, rfl⟩ : ∃ i k, j = ix2 i k := ⟨_, _, eq_ix2 j⟩
  pointwise [k0_pay3, k0_pay1]
  rfl

theorem pay_dg (w : Vec Ideal S8x256x1024 .bf16) (i : Fin 1) (j : Fin 1024) :
    k0_pay4 a w (ix2 i j) = ∑ e : Fin 2048, (a (ix2 e j) * w (ix3 ⟨e.val / 256, by omega⟩ ⟨e.val % 256, by omega⟩ j) : EReal) := by
  pointwise [k0_pay4]

theorem pay_dw (g : Vec Ideal S1x1024 .f32) (i : Fin 8) (j : Fin 256) (x : Fin 1024) :
    k0_pay5 a g (ix3 i j x) = (a (ix2 ⟨i.val * 256 + j.val, by omega⟩ x) * g (ix2 0 x) : EReal) := by
  pointwise [k0_pay5]
end

/-! ## The blocks -/

variable (m : (ℓ : Loc nD τ sig) → Buf (Elt Ideal) ℓ) (c : Dev nD)

abbrev mixedA : S8192x2048.Idx → EReal := m ((c : Thread nD τ).loc main_arg0)
abbrev zA : S8192x2048.Idx → EReal := m ((c : Thread nD τ).loc main_arg1)
abbrev scaleA : S2048.Idx → EReal := m ((c : Thread nD τ).loc main_arg2)
abbrev weightA : S2048x1024.Idx → EReal := m ((c : Thread nD τ).loc main_arg3)
abbrev gateA : S1024.Idx → EReal := m ((c : Thread nD τ).loc main_arg4)
abbrev dhA : S8192x1024.Idx → EReal := m ((c : Thread nD τ).loc main_arg5)

/-- An entry of the gated product, from its three factors. -/
def gatedE (m a z : EReal) : EReal := m * a * (z * Ideal.div 1 (1 + Ideal.exp (-z)))

abbrev gatedA (r : Fin 8192) (e : Fin 2048) : EReal := gatedE (mixedA m c (ix2 r e)) (scaleA m c (ix1 e)) (zA m c (ix2 r e))

theorem operand_gated (r : Fin 8192) (e : Fin 2048) : (V m c main_v8 : S8192x2048.Idx → EReal) (ix2 r e) = gatedA m c r e := by
  unfold V
  simp only [hostOps0, hostOps0_1, hostOps0_2, List.flatten_cons, List.flatten_nil, List.append_nil, List.cons_append, List.nil_append]
  after_reads_at
  rfl

theorem operand_dh (r : Fin 8192) (e : Fin 1024) : (V m c main_v9 : S8192x1024.Idx → EReal) (ix2 r e) = dhA m c (ix2 r e) := by
  unfold V
  simp only [hostOps0, hostOps0_1, hostOps0_2, List.flatten_cons, List.flatten_nil, List.append_nil, List.cons_append, List.nil_append]
  after_reads_at

theorem operand_gate (r : Fin 1) (e : Fin 1024) : (V m c main_v0 : S1x1024.Idx → EReal) (ix2 r e) = gateA m c (ix1 e) := by
  unfold V
  simp only [hostOps0, hostOps0_1, hostOps0_2, List.flatten_cons, List.flatten_nil, List.append_nil, List.cons_append, List.nil_append]
  after_reads_at

theorem operand_w (i : Fin 8) (j : Fin 256) (x : Fin 1024) : (V m c main_v2 : S8x256x1024.Idx → EReal) (ix3 i j x)
    = weightA m c (ix2 ⟨i.val * 256 + j.val, by omega⟩ x) := by
  unfold V
  simp only [hostOps0, hostOps0_1, hostOps0_2, List.flatten_cons, List.flatten_nil, List.append_nil, List.cons_append, List.nil_append]
  after_reads_at

/-- The window's block at a grid point: the two streamed operands' row coordinate is the point. -/
theorem idx : ∀ t : Fin cfg0.N, win0_0.index t = ![t.val, 0] ∧ win0_1.index t = ![t.val, 0] ∧ win0_2.index t = ![0, 0, 0]
    ∧ win0_3.index t = ![0, 0] ∧ win0_4.index t = ![0, 0, 0] ∧ win0_5.index t = ![0, 0] :=
  (by decide +kernel : ∀ t : Fin grid0.N, _)

theorem blk_gated (t : Fin cfg0.N) (a : Fin 1024) (hr : t.val * 1024 + a.val < 8192) (x : Fin 2048) :
    (iblk m c 0 t : S1024x2048.Idx → EReal) (ix2 a x) = gatedA m c ⟨t.val * 1024 + a.val, hr⟩ x := by
  rw [← operand_gated]
  blk_point [iblk, idx t]

theorem blk_dh (t : Fin cfg0.N) (a : Fin 1024) (hr : t.val * 1024 + a.val < 8192) (x : Fin 1024) :
    (iblk m c 1 t : S1024x1024.Idx → EReal) (ix2 a x) = dhA m c (ix2 ⟨t.val * 1024 + a.val, hr⟩ x) := by
  rw [← operand_dh]
  blk_point [iblk, idx t]

theorem blk_w (t : Fin cfg0.N) (i : Fin 8) (j : Fin 256) (x : Fin 1024) :
    (iblk m c 2 t : S8x256x1024.Idx → EReal) (ix3 i j x) = weightA m c (ix2 ⟨i.val * 256 + j.val, by omega⟩ x) := by
  rw [← operand_w]
  blk_point [iblk, idx t]

theorem blk_gate (t : Fin cfg0.N) (x : Fin 1024) :
    (iblk m c 3 t : S1x1024.Idx → EReal) (ix2 0 x) = gateA m c (ix1 x) := by
  rw [← operand_gate m c 0]
  blk_point [iblk, idx t]

/-! ## The accumulator, and the two arrays -/

/-- The whole product: the gated rows against the cotangent's. -/
def prodA (e : Fin 2048) (x : Fin 1024) : EReal := ∑ r : Fin 8192, gatedA m c r e * dhA m c (ix2 r x)

/-- Row `j` of part `i` of the weight. -/
def wholeRow (i : Fin 8) (j : Fin 256) : Fin 2048 := ⟨i.val * 256 + j.val, by omega⟩

/-- After the last point the accumulator holds the whole product. -/
theorem acc_last (j : S2048x1024.Idx) : ((outsAt0 m c t0_7.val t0_7.isLt).2.2 : S2048x1024.Idx → EReal) j
    = prodA m c (j 0) (j 1) := by
  unfold prodA
  rw [Pipeline.eq_sum_fin_of_reset_step_apply_last (fun n h => (outsAt0 m c n h).2.2) 8 (fun _ => (0 : EReal))
    (fun t => part (iblk m c 0 t) (iblk m c 1 t))
    (fun t h j => by
      have hN : t.val < 8 := lt_of_lt_of_eq t.isLt N_0
      rw [outsAt0_A m c t h (by omega) (by omega)]; frame_out; rw [pay_first]; exact (zero_add _).symm)
    (fun t h j => by
      have h1 : 1 ≤ t.val := by omega
      by_cases h2 : t.val % 8 = 7
      · rw [outsAt0_C m c t h h1 h2]; frame_out; rw [pay_next, (Memref.isWhole_whole _).read_unread]
      · rw [outsAt0_B m c t h h1 h2]; frame_out; rw [pay_next, (Memref.isWhole_whole _).read_unread]) (le_of_eq N_0) t0_7 rfl j, zero_add]
  refine (Fin.sum_mul_add_congr (S := 8) (n := 1024) fun t k hl => ?_)
  exact congrArg₂ (fun a b : EReal => a * b) (blk_gated m c t k hl (j 0)) (blk_dh m c t k hl (j 1))

theorem after_dw : (outsAt0 m c t0_7.val t0_7.isLt).1 = k0_pay5 (outsAt0 m c t0_7.val t0_7.isLt).2.2 (iblk m c 3 t0_7) := by
  rw [outsAt0_C m c t0_7 (by decide) (by decide) (by decide)]
  frame_out

theorem after_dg : (outsAt0 m c t0_7.val t0_7.isLt).2.1 = k0_pay4 (outsAt0 m c t0_7.val t0_7.isLt).2.2 (iblk m c 2 t0_7) := by
  rw [outsAt0_C m c t0_7 (by decide) (by decide) (by decide)]
  frame_out

theorem arr4 : (dats m 0 c).arrAt 4 cfg0.N = fun j : S8x256x1024.Idx =>
    prodA m c (wholeRow (j 0) (j 1)) (j 2) * gateA m c (ix1 (j 2)) := by
  refine Dat.arrAt_eq_of_after_last _ 4 t0_7 (by decide +kernel) _ fun j => ?_
  blk_simp
  rw [after0_4, after_dw]
  obtain ⟨i, k, x, rfl⟩ : ∃ i k x, j = ix3 i k x := ⟨_, _, _, eq_ix3 j⟩
  refine (pay_dw _ _ i k x).trans ?_
  rw [acc_last, blk_gate]
  rfl

theorem arr5 : (dats m 0 c).arrAt 5 cfg0.N = fun j : S1x1024.Idx =>
    ∑ e : Fin 2048, prodA m c e (j 1) * weightA m c (ix2 e (j 1)) := by
  refine Dat.arrAt_eq_of_after_last _ 5 t0_7 (by decide +kernel) _ fun j => ?_
  blk_simp
  rw [after0_5, after_dg]
  obtain ⟨i, k, rfl⟩ : ∃ i k, j = ix2 i k := ⟨_, _, eq_ix2 j⟩
  refine (pay_dg _ _ i k).trans (Finset.sum_congr rfl fun e _ => ?_)
  rw [acc_last, blk_w]
  exact congrArg (fun a : Fin 2048 => (_ : EReal) * weightA m c (ix2 a k)) (Fin.ext (Nat.div_add_mod' _ _))

end Cert.GateWIdeal.Value

end
end
-- ==== Proof.GateWRef.lean ====
/- The reference of the output product's gradient read pointwise: the derivative of the plain forward lines, entry by entry. -/
module

public import proofs.«01_k».proof.Proof.Coe
public import proofs.«01_k».proof.Proof.Gen.GateWRefIdeal.Read
public import Idealize.ShloMosaic.Lib.Pointwise

@[expose] public section

set_option maxRecDepth 16384

noncomputable section

namespace Cert.GateWRefIdeal.Read

open Cert.GateWRefIdeal Cert.GateWRefIdeal.Gen Idealize.ShloMosaic Idealize.ShloMosaic.Pointwise

variable (x0 x1 : S8192x2048.Idx → EReal) (x2 : S2048.Idx → EReal) (x3 : S2048x1024.Idx → EReal) (x4 : S1024.Idx → EReal)
  (x5 : S8192x1024.Idx → EReal)

theorem val_gated (i : Fin 8192) (j : Fin 2048) : val_main_v4 (F := Ideal) x0 x1 x2 (ix2 i j)
    = x0 (ix2 i j) * x2 (ix1 j) * (x1 (ix2 i j) * Ideal.div 1 (1 + Ideal.exp (-x1 (ix2 i j)))) := by
  pointwise [val_main_v4, val_main_v3, val_main_v2, val_main_v1, val_main_v0, val_main_call0_v5, val_main_call0_v4, val_main_call0_v3, val_main_call0_cst_0,
    val_main_call0_cst, val_main_call0_v2, val_main_call0_v1, val_main_call0_v0]

theorem val_dw (i : Fin 8) (j : Fin 256) (x : Fin 1024) : val_main_v18 (F := Ideal) x0 x1 x2 x4 x5 (ix3 i j x)
    = ∑ r : Fin 8192, x4 (ix1 x) * x5 (ix2 r x) * val_main_v4 (F := Ideal) x0 x1 x2 (ix2 r ⟨i.val * 256 + j.val, by omega⟩) := by
  pointwise [val_main_v18, val_main_v17, val_main_v16, val_main_v15, val_main_v10, val_main_v9, val_main_v6]

theorem val_dg (i : Fin 1) (x : Fin 1024) : val_main_v19 (F := Ideal) x0 x1 x2 x3 x5 (ix2 i x)
    = ∑ r : Fin 8192, x5 (ix2 r x) * ∑ e : Fin 2048, val_main_v4 (F := Ideal) x0 x1 x2 (ix2 r e) * x3 (ix2 e x) := by
  pointwise [val_main_v19, val_main_v14, val_main_v13, val_main_v12, val_main_v11, val_main_v5, val_main_cst, val_main_cst_0]
  rw [Finset.univ_unique, Finset.sum_singleton]

end Cert.GateWRefIdeal.Read

end
end
-- ==== Proof.GateWClaims.lean ====
/- The claims about the gradient of the gate's output product: its reference's frame, and that both compute the same two gradients. -/
module

public import proofs.«01_k».proof.Defs
public import proofs.«01_k».proof.Proof.GateWKernel
public import proofs.«01_k».proof.Proof.GateWRef
public import proofs.«01_k».proof.Proof.Gen.GateW.Frame
public import proofs.«01_k».proof.Proof.Gen.GateWRefIdeal.Run
public import proofs.«01_k».proof.Proof.Gen.Pre_gatew_finite
public import Idealize.ShloMosaic.Adequacy
public import Idealize.ShloMosaic.Init

@[expose] public section

set_option maxRecDepth 16384

noncomputable section

namespace Cert.GateWClaims

open Idealize.ShloMosaic Idealize.ShloMosaic.TcCoe Idealize.SL.Sem Cert.Coe

theorem frame_ref : Cert.quiescent_GateWRefIdeal_pre_gatew_finite := fun m ρ _ =>
  (θ_run Cert.GateWRefIdeal.defs _ _).mono (fun r h => ⟨fun c => (h c).2.2, sem_eq_zero_of_no_sems (by decide) r.2⟩)
    (Cert.GateWRefIdeal.Value.run (F := Ideal) m ρ)

theorem frame_ref' : Cert.quiescent_GateWRefIdeal := fun m ρ _ =>
  (θ_run Cert.GateWRefIdeal.defs _ _).mono (fun r h => ⟨fun c => (h c).2.2, sem_eq_zero_of_no_sems (by decide) r.2⟩)
    (Cert.GateWRefIdeal.Value.run (F := Ideal) m ρ)

/-- The precondition, read as: every entry of the six arguments is a real. -/
theorem finite_args (x0 x1 : FVec Ideal Cert.Pre_gatew_finite.S8192x2048 .f32) (x2 : FVec Ideal Cert.Pre_gatew_finite.S2048 .f32)
    (x3 : FVec Ideal Cert.Pre_gatew_finite.S2048x1024 .f32) (x4 : FVec Ideal Cert.Pre_gatew_finite.S1024 .f32)
    (x5 : FVec Ideal Cert.Pre_gatew_finite.S8192x1024 .f32)
    (e : ∀ i, Cert.Pre_gatew_finite.fn x0 x1 x2 x3 x4 x5 i = 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) := by
  have e := e (fun a : Fin 0 => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_test x0 _ _ _ _ e1, real_of_test x1 _ _ _ _ e2, real_of_test x2 _ _ _ _ e3, real_of_test x3 _ _ _ _ e4,
    real_of_test x4 _ _ _ _ e5, real_of_test x5 _ _ _ _ e6⟩

/-- An entry of the gated product of reals is a real. -/
theorem gated_real {m a z : EReal} (hm : ∃ r : ℝ, m = r) (ha : ∃ r : ℝ, a = r) (hz : ∃ r : ℝ, z = r) :
    ∃ r : ℝ, Cert.GateWIdeal.Value.gatedE m a z = r := by
  obtain ⟨m, rfl⟩ := hm
  obtain ⟨a, rfl⟩ := ha
  obtain ⟨z, rfl⟩ := hz
  unfold Cert.GateWIdeal.Value.gatedE
  rw [← EReal.coe_neg, Ideal.exp_coe, ← EReal.coe_one, ← EReal.coe_add, div_real (by positivity)]
  simp only [← EReal.coe_mul]
  exact ⟨_, rfl⟩

/-- The gate may be multiplied in after the rows are summed. -/
theorem gate_out {n : ℕ} {u d : Fin n → EReal} {g : EReal} (hu : ∀ r, ∃ a : ℝ, u r = a) (hd : ∀ r, ∃ a : ℝ, d r = a) (hg : ∃ a : ℝ, g = a) :
    ∑ r, g * d r * u r = (∑ r, u r * d r) * g := by
  obtain ⟨u, rfl⟩ := reals_of hu
  obtain ⟨d, rfl⟩ := reals_of hd
  obtain ⟨g, rfl⟩ := hg
  simp only [← EReal.coe_mul, sum_coe]
  rw [EReal.coe_eq_coe_iff, Finset.sum_mul]
  exact Finset.sum_congr rfl fun r _ => by ring

/-- Summing over the rows first, or over the columns first, is the same. -/
theorem sum_swap {n k : ℕ} {u : Fin n → Fin k → EReal} {d : Fin n → EReal} {w : Fin k → EReal} (hu : ∀ r e, ∃ a : ℝ, u r e = a)
    (hd : ∀ r, ∃ a : ℝ, d r = a) (hw : ∀ e, ∃ a : ℝ, w e = a) :
    ∑ r, d r * ∑ e, u r e * w e = ∑ e, (∑ r, u r e * d r) * w e := by
  obtain ⟨u, hu⟩ : ∃ v : Fin n → Fin k → ℝ, ∀ r e, u r e = v r e := ⟨fun r e => (hu r e).choose, fun r e => (hu r e).choose_spec⟩
  obtain ⟨d, rfl⟩ := reals_of hd
  obtain ⟨w, rfl⟩ := reals_of hw
  simp only [hu, ← EReal.coe_mul, sum_coe]
  rw [EReal.coe_eq_coe_iff]
  simp only [Finset.mul_sum, Finset.sum_mul]
  rw [Finset.sum_comm]
  exact Finset.sum_congr rfl fun e _ => Finset.sum_congr rfl fun r _ => by ring

theorem algebraic : Cert.algebraic_GateWIdeal_GateWRefIdeal_pre_gatew_finite := by
  intro m ρ m' ρ' pre hag
  refine ⟨fun c => (Cert.GateWIdeal.Gen.dats m 0 c).arrAt 4 Cert.GateWIdeal.cfg0.N, fun c => (Cert.GateWIdeal.Gen.dats m 0 c).arrAt 5 Cert.GateWIdeal.cfg0.N,
    (θ_run Cert.GateWIdeal.defs _ _).mono (fun r h c => h c) (Cert.GateWIdeal.Value.run_blocks m ρ), ?_⟩
  refine (θ_run Cert.GateWRefIdeal.defs _ _).mono (fun r h c => ?_) (Cert.GateWRefIdeal.Value.run (F := Ideal) m' ρ')
  obtain ⟨r0, r1, k⟩ := h c
  obtain ⟨a0, a1, a2, a3, a4, a5⟩ := hag c
  obtain ⟨f0, f1, f2, f3, f4, f5⟩ := finite_args _ _ _ _ _ _ (fun i => congrFun (pre c) i)
  refine ⟨(r0.trans (Cert.GateWRefIdeal.Read.val_main_v18_eq _ _ _ _ _)).trans (Eq.trans ?_ (Cert.GateWIdeal.Value.arr4 m c).symm),
    (r1.trans (Cert.GateWRefIdeal.Read.val_main_v19_eq _ _ _ _ _)).trans (Eq.trans ?_ (Cert.GateWIdeal.Value.arr5 m c).symm), k⟩
  · rw [a0, a1, a2, a4, a5]
    funext j
    obtain ⟨i, k, x, rfl⟩ : ∃ i k x, j = ix3 i k x := ⟨_, _, _, eq_ix3 j⟩
    refine (Cert.GateWRefIdeal.Read.val_dw _ _ _ _ _ i k x).trans ?_
    simp only [Cert.GateWRefIdeal.Read.val_gated]
    exact gate_out (fun r => gated_real (f0 _) (f2 _) (f1 _)) (fun _ => f5 _) (f4 _)
  · rw [a0, a1, a2, a3, a5]
    funext j
    obtain ⟨s, x, rfl⟩ : ∃ s x, j = ix2 s x := ⟨_, _, eq_ix2 j⟩
    refine (Cert.GateWRefIdeal.Read.val_dg _ _ _ _ _ s x).trans ?_
    simp only [Cert.GateWRefIdeal.Read.val_gated]
    exact sum_swap (fun r e => gated_real (f0 _) (f2 _) (f1 _)) (fun _ => f5 _) (fun _ => f3 _)

end Cert.GateWClaims

end
end
-- ==== Proof.NormKernel.lean ====
/- The value of the backward pass of the modulated norm and its product: what `dh` and the row of statistics hold after its run. -/
module

public import proofs.«01_k».proof.Proof.Coe
public import proofs.«01_k».proof.Proof.Gen.NormIdeal.Value
public import Idealize.ShloMosaic.Lib.StableHlo.ReadAt
public import Idealize.ShloMosaic.Lib.Pointwise
public import Idealize.ShloMosaic.Lib.WritesUnit

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Idealize.ShloMosaic.Pointwise

/-! ## One row -/

/-- The reciprocal root mean square of a row. -/
def rsE (h : Fin 1024 → EReal) : EReal :=
  Ideal.rsqrt (Ideal.div (∑ x, h x * h x) (Ideal.ofBits FTy.f32 1149239296#32) + Ideal.ofBits FTy.f32 897988541#32)

/-- The cotangent of the gained row, from that of the modulated one: at column `j`. -/
def dxE (u sc g : Fin 1024 → EReal) (j : Fin 1024) : EReal := u j * (1 + sc j) * g j

/-- The gradient of the row at column `j`, added to the residual's. -/
def dhE (u h g sc : Fin 1024 → EReal) (res : EReal) (j : Fin 1024) : EReal :=
  rsE h * (dxE u sc g j - h j * rsE h * Ideal.div (∑ x, dxE u sc g x * (h x * rsE h)) (Ideal.ofBits FTy.f32 1149239296#32)) + res

section
variable (u : FVec Ideal S512x1024 FTy.f32) (h : Vec Ideal S512x1024 EltTy.f32) (g sc : Vec Ideal S1x1024 EltTy.f32) (res : Vec Ideal S512x1024 EltTy.f32)
    (a : Vec Ideal S1x1024 EltTy.f32)

theorem pay_rs (i : Fin 512) (j : Fin 1) : k0_pay7 (k0_pay6 h) (Ideal.ofBits FTy.f32 897988541#32) (ix2 i j) = rsE fun x => h (ix2 i x) := by
  pointwise [k0_pay7, k0_pay6]
  rfl

theorem pay_xhat (i : Fin 512) (j : Fin 1024) : k0_pay8 h (k0_pay6 h) (Ideal.ofBits FTy.f32 897988541#32) (ix2 i j)
    = (h (ix2 i j) * rsE fun x => h (ix2 i x) : EReal) := by
  pointwise [k0_pay8]
  rw [pay_rs]

theorem pay_dn (i : Fin 512) (j : Fin 1024) : k0_pay9 u sc (ix2 i j) = (u (ix2 i j) * (1 + sc (ix2 0 j)) : EReal) := by
  pointwise [k0_pay9]

theorem pay_dx (i : Fin 512) (j : Fin 1024) : k0_pay13 u (k0_pay5 g) sc (ix2 i j)
    = dxE (fun x => u (ix2 i x)) (fun x => sc (ix2 0 x)) (fun x => g (ix2 0 x)) j := by
  pointwise [k0_pay13, k0_pay5]
  rw [pay_dn]
  rfl

theorem pay_dot (i : Fin 512) (j : Fin 1) : k0_pay14 u (k0_pay5 g) h (k0_pay6 h) (Ideal.ofBits FTy.f32 897988541#32) sc (ix2 i j)
    = ∑ x, dxE (fun x => u (ix2 i x)) (fun x => sc (ix2 0 x)) (fun x => g (ix2 0 x)) x * (h (ix2 i x) * rsE fun x => h (ix2 i x) : EReal) := by
  pointwise [k0_pay14]
  simp only [pay_dx, pay_xhat]

theorem pay_dh (i : Fin 512) (j : Fin 1024) :
    k0_pay1 (k0_pay7 (k0_pay6 h) (Ideal.ofBits FTy.f32 897988541#32)) (k0_pay8 h (k0_pay6 h) (Ideal.ofBits FTy.f32 897988541#32))
      (k0_pay13 u (k0_pay5 g) sc) (k0_pay14 u (k0_pay5 g) h (k0_pay6 h) (Ideal.ofBits FTy.f32 897988541#32) sc) res (ix2 i j)
      = dhE (fun x => u (ix2 i x)) (fun x => h (ix2 i x)) (fun x => g (ix2 0 x)) (fun x => sc (ix2 0 x)) (res (ix2 i j)) j := by
  pointwise [k0_pay1]
  rw [pay_rs, pay_xhat, pay_dx, pay_dot]
  rfl

theorem pay_row0 (i : Fin 1) (j : Fin 1024) : k0_pay10 u a (ix2 i j) = (a (ix2 i j) + ∑ r : Fin 512, u (ix2 r j) : EReal) := by
  pointwise [k0_pay10]

theorem pay_row1 (i : Fin 1) (j : Fin 1024) : k0_pay11 u (k0_pay5 g) h (k0_pay6 h) (Ideal.ofBits FTy.f32 897988541#32) a (ix2 i j)
    = (a (ix2 i j) + ∑ r : Fin 512, u (ix2 r j) * (h (ix2 r j) * (rsE fun x => h (ix2 r x)) * g (ix2 0 j)) : EReal) := by
  pointwise [k0_pay11, k0_pay5]
  simp only [pay_xhat]

theorem pay_row2 (i : Fin 1) (j : Fin 1024) : k0_pay12 u h (k0_pay6 h) (Ideal.ofBits FTy.f32 897988541#32) sc a (ix2 i j)
    = (a (ix2 i j) + ∑ r : Fin 512, u (ix2 r j) * (1 + sc (ix2 0 j)) * (h (ix2 r j) * (rsE fun x => h (ix2 r x))) : EReal) := by
  pointwise [k0_pay12]
  simp only [pay_xhat, pay_dn]

theorem pay_zero (i : Fin 8) (j : Fin 1024) : (k0_pay2 : FVec Ideal S8x1024 .f32) (ix2 i j) = 0 := by
  pointwise [k0_pay2]

theorem pay_du (a0 a1 a2 a3 a4 a5 a6 a7 : Vec Ideal S512x512 EltTy.bf16) (w0 w1 w2 w3 w4 w5 w6 w7 : Vec Ideal S1x1024x512 EltTy.bf16) (i : Fin 512) (j : Fin 1024) :
    k0_pay4 (k0_pay3 a0 w0 a1 w1 a2 w2 a3 w3) a4 w4 a5 w5 a6 w6 a7 w7 (ix2 i j)
      = ((∑ k, a0 (ix2 i k) * w0 (ix3 0 j k)) + (∑ k, a1 (ix2 i k) * w1 (ix3 0 j k)) + (∑ k, a2 (ix2 i k) * w2 (ix3 0 j k)) + (∑ k, a3 (ix2 i k) * w3 (ix3 0 j k))
        + (∑ k, a4 (ix2 i k) * w4 (ix3 0 j k)) + (∑ k, a5 (ix2 i k) * w5 (ix3 0 j k)) + (∑ k, a6 (ix2 i k) * w6 (ix3 0 j k)) + (∑ k, a7 (ix2 i k) * w7 (ix3 0 j k)) : EReal) := by
  pointwise [k0_pay4, k0_pay3]

/-- What a block adds to the statistics at row `r`, column `j`. -/
def stE (r : Fin 8) (j : Fin 1024) : EReal :=
  if r.val = 0 then ∑ i : Fin 512, (u (ix2 i j) : EReal)
  else if r.val = 1 then ∑ i : Fin 512, u (ix2 i j) * (h (ix2 i j) * (rsE fun x => h (ix2 i x)) * g (ix2 0 j))
  else if r.val = 2 then ∑ i : Fin 512, u (ix2 i j) * (1 + sc (ix2 0 j)) * (h (ix2 i j) * (rsE fun x => h (ix2 i x)))
  else 0
end

/-! ## What each point leaves -/

variable (m : (ℓ : Loc nD τ sig) → Buf (Elt Ideal) ℓ) (c : Dev nD)

/-- The block of the cotangent of the modulated row: the eight products summed. -/
def duB (t : Fin cfg0.N) : FVec Ideal S512x1024 FTy.f32 :=
  k0_pay4 (k0_pay3 (View.ld (iblk m c 0 t) (Rect.unit ![0, 0] ![512, 512] inb_S512x2048_S512x512_0_0)) (View.ld (iblk m c 2 t) (Rect.unit ![0, 0, 0] ![1, 1024, 512] inb_S8x1024x512_S1x1024x512_0_0_0))
      (View.ld (iblk m c 0 t) (Rect.unit ![0, 512] ![512, 512] inb_S512x2048_S512x512_0_512)) (View.ld (iblk m c 2 t) (Rect.unit ![1, 0, 0] ![1, 1024, 512] inb_S8x1024x512_S1x1024x512_1_0_0))
      (View.ld (iblk m c 0 t) (Rect.unit ![0, 1024] ![512, 512] inb_S512x2048_S512x512_0_1024)) (View.ld (iblk m c 2 t) (Rect.unit ![2, 0, 0] ![1, 1024, 512] inb_S8x1024x512_S1x1024x512_2_0_0))
      (View.ld (iblk m c 0 t) (Rect.unit ![0, 1536] ![512, 512] inb_S512x2048_S512x512_0_1536)) (View.ld (iblk m c 2 t) (Rect.unit ![3, 0, 0] ![1, 1024, 512] inb_S8x1024x512_S1x1024x512_3_0_0)))
    (View.ld (iblk m c 1 t) (Rect.unit ![0, 0] ![512, 512] inb_S512x2048_S512x512_0_0)) (View.ld (iblk m c 2 t) (Rect.unit ![4, 0, 0] ![1, 1024, 512] inb_S8x1024x512_S1x1024x512_4_0_0))
    (View.ld (iblk m c 1 t) (Rect.unit ![0, 512] ![512, 512] inb_S512x2048_S512x512_0_512)) (View.ld (iblk m c 2 t) (Rect.unit ![5, 0, 0] ![1, 1024, 512] inb_S8x1024x512_S1x1024x512_5_0_0))
    (View.ld (iblk m c 1 t) (Rect.unit ![0, 1024] ![512, 512] inb_S512x2048_S512x512_0_1024)) (View.ld (iblk m c 2 t) (Rect.unit ![6, 0, 0] ![1, 1024, 512] inb_S8x1024x512_S1x1024x512_6_0_0))
    (View.ld (iblk m c 1 t) (Rect.unit ![0, 1536] ![512, 512] inb_S512x2048_S512x512_0_1536)) (View.ld (iblk m c 2 t) (Rect.unit ![7, 0, 0] ![1, 1024, 512] inb_S8x1024x512_S1x1024x512_7_0_0))

theorem after_dh (t : Fin cfg0.N) : (outsAt0 m c t.val t.isLt).1 =
    k0_pay1 (k0_pay7 (k0_pay6 (iblk m c 3 t)) (FloatOps.ofBits FTy.f32 897988541#32)) (k0_pay8 (iblk m c 3 t) (k0_pay6 (iblk m c 3 t)) (FloatOps.ofBits FTy.f32 897988541#32))
      (k0_pay13 (duB m c t) (k0_pay5 (iblk m c 4 t)) (iblk m c 5 t))
      (k0_pay14 (duB m c t) (k0_pay5 (iblk m c 4 t)) (iblk m c 3 t) (k0_pay6 (iblk m c 3 t)) (FloatOps.ofBits FTy.f32 897988541#32) (iblk m c 5 t)) (iblk m c 6 t) := by
  by_cases h : t.val % 16 = 0
  · rw [outsAt0_A m c t h]
    frame_out
    rfl
  · rw [outsAt0_B m c t h]
    frame_out
    rfl

/-! The three rows of statistics -/

abbrev R0 : Rect S8x1024 := Rect.unit ![0, 0] ![1, 1024] inb_S8x1024_S1x1024_0_0
abbrev R1 : Rect S8x1024 := Rect.unit ![1, 0] ![1, 1024] inb_S8x1024_S1x1024_1_0
abbrev R2 : Rect S8x1024 := Rect.unit ![2, 0] ![1, 1024] inb_S8x1024_S1x1024_2_0

/-- Three rows stored one after the other over what was there. -/
theorem rows_read {κ : Kind} {sp : Space} (v : View sig κ sp S8x1024 .f32) (f : v.ty.Contents (Elt Ideal)) (w0 w1 w2 : Vec Ideal S1x1024 EltTy.f32)
    (L : List (View.Piece (Elt Ideal) S8x1024 .f32)) (r : Fin 8) (j : Fin 1024) :
    v.read (Elt Ideal) (v.writes (Elt Ideal) f ((⟨R2, w2⟩ : View.Piece (Elt Ideal) S8x1024 .f32) :: ⟨R1, w1⟩ :: ⟨R0, w0⟩ :: L)) (ix2 r j)
      = if r.val = 0 then w0 (ix2 0 j) else if r.val = 1 then w1 (ix2 0 j) else if r.val = 2 then w2 (ix2 0 j)
        else v.read (Elt Ideal) (v.writes (Elt Ideal) f L) (ix2 r j) := by
  by_cases c2 : r.val = 2
  · obtain rfl : r = 2 := Fin.ext c2
    refine View.read_writes_cons_unit_of_mem (off := ![2, 0]) (size := ![1, 1024]) v f inb_S8x1024_S1x1024_2_0 w2 _ (ix2 2 j) (ix2 0 j) rfl fun a => ?_
    fin_cases a <;> simp [ix2]
  refine (View.read_writes_cons_unit_of_not_mem _ _ _ _ _ _ rfl 0 ?_).trans ?_
  · show r.val < 2 ∨ 3 ≤ r.val
    omega
  by_cases c1 : r.val = 1
  · obtain rfl : r = 1 := Fin.ext c1
    refine View.read_writes_cons_unit_of_mem (off := ![1, 0]) (size := ![1, 1024]) v f inb_S8x1024_S1x1024_1_0 w1 _ (ix2 1 j) (ix2 0 j) rfl fun a => ?_
    fin_cases a <;> simp [ix2]
  refine (View.read_writes_cons_unit_of_not_mem _ _ _ _ _ _ rfl 0 ?_).trans ?_
  · show r.val < 1 ∨ 2 ≤ r.val
    omega
  by_cases c0 : r.val = 0
  · obtain rfl : r = 0 := Fin.ext c0
    refine View.read_writes_cons_unit_of_mem (off := ![0, 0]) (size := ![1, 1024]) v f inb_S8x1024_S1x1024_0_0 w0 _ (ix2 0 j) (ix2 0 j) rfl fun a => ?_
    fin_cases a <;> simp [ix2]
  rw [if_neg c0, if_neg c1, if_neg c2]
  refine View.read_writes_cons_unit_of_not_mem _ _ _ _ _ _ rfl 0 ?_
  show r.val < 0 ∨ 1 ≤ r.val
  omega

/-- Three rows read back in the same way, each updated by adding to it. -/
theorem rows_add {κ : Kind} {sp : Space} (v : View sig κ sp S8x1024 .f32) (f : v.ty.Contents (Elt Ideal)) (w0 w1 w2 a0 a1 a2 : Vec Ideal S1x1024 EltTy.f32)
    (L : List (View.Piece (Elt Ideal) S8x1024 .f32)) (T : Fin 8 → Fin 1024 → EReal) (z : Fin 8 → Fin 1024 → EReal)
    (h0 : ∀ j, w0 (ix2 0 j) = (a0 (ix2 0 j) + T 0 j : EReal)) (h1 : ∀ j, w1 (ix2 0 j) = (a1 (ix2 0 j) + T 1 j : EReal))
    (h2 : ∀ j, w2 (ix2 0 j) = (a2 (ix2 0 j) + T 2 j : EReal)) (hT : ∀ r : Fin 8, 3 ≤ r.val → ∀ j, T r j = 0)
    (e0 : ∀ j, a0 (ix2 0 j) = z 0 j) (e1 : ∀ j, a1 (ix2 0 j) = z 1 j) (e2 : ∀ j, a2 (ix2 0 j) = z 2 j)
    (hz : ∀ r j, v.read (Elt Ideal) (v.writes (Elt Ideal) f L) (ix2 r j) = z r j) (r : Fin 8) (j : Fin 1024) :
    v.read (Elt Ideal) (v.writes (Elt Ideal) f ((⟨R2, w2⟩ : View.Piece (Elt Ideal) S8x1024 .f32) :: ⟨R1, w1⟩ :: ⟨R0, w0⟩ :: L)) (ix2 r j) = z r j + T r j := by
  rw [rows_read]
  by_cases c0 : r.val = 0
  · obtain rfl : r = 0 := Fin.ext c0
    rw [if_pos c0, h0, e0]
  · rw [if_neg c0]
    by_cases c1 : r.val = 1
    · obtain rfl : r = 1 := Fin.ext c1
      rw [if_pos c1, h1, e1]
    · rw [if_neg c1]
      by_cases c2 : r.val = 2
      · obtain rfl : r = 2 := Fin.ext c2
        rw [if_pos c2, h2, e2]
      · rw [if_neg c2, hz, hT r (by omega), add_zero]

theorem st_rest (u : FVec Ideal S512x1024 FTy.f32) (h : Vec Ideal S512x1024 EltTy.f32) (g sc : Vec Ideal S1x1024 EltTy.f32) (r : Fin 8) (hr : 3 ≤ r.val) (j : Fin 1024) :
    stE u h g sc r j = 0 := by
  unfold stE
  rw [if_neg (by omega), if_neg (by omega), if_neg (by omega)]

theorem row_at (k : ℕ) (inb : ∀ a : Fin 2, (![k, 0] : Fin 2 → ℕ) a + (![1, 1024] : Fin 2 → ℕ) a ≤ S8x1024.size a) (hk : k < 8) (j : Fin 1024) :
    (Rect.unit (s := S8x1024) ![k, 0] ![1, 1024] inb).emb (ix2 0 j) = ix2 ⟨k, hk⟩ j := by
  funext a
  apply Fin.ext
  fin_cases a
  · show k + 1 * 0 = k
    omega
  · show 0 + 1 * j.val = j.val
    omega

/-- The block of statistics, cleared. -/
theorem cleared {κ : Kind} {sp : Space} (v : View sig κ sp S8x1024 .f32) (f : v.ty.Contents (Elt Ideal)) (r : Fin 8) (j : Fin 1024) :
    v.read (Elt Ideal) (v.writes (Elt Ideal) f [(⟨Rect.unit ![0, 0] ![8, 1024] inb_S8x1024_S8x1024_0_0, k0_pay2 (F := Ideal)⟩ : View.Piece (Elt Ideal) S8x1024 .f32)]) (ix2 r j)
      = (0 : EReal) := by
  refine (View.read_writes_cons_unit_of_mem (off := ![0, 0]) (size := ![8, 1024]) v f inb_S8x1024_S8x1024_0_0 (k0_pay2 (F := Ideal)) _ (ix2 r j) (ix2 r j) rfl fun a => ?_).trans (pay_zero r j)
  fin_cases a <;> simp [ix2]

theorem after_st_first (t : Fin cfg0.N) (h : t.val % 16 = 0) (r : Fin 8) (j : Fin 1024) :
    ((outsAt0 m c t.val t.isLt).2 : S8x1024.Idx → EReal) (ix2 r j) = 0 + stE (duB m c t) (iblk m c 3 t) (iblk m c 4 t) (iblk m c 5 t) r j := by
  rw [outsAt0_A m c t h]
  frame_out
  rw [← View.read_writes_junk_eq_canon (ms0_8 t).view]
  refine rows_add _ _ _ _ _ _ _ _ _ (stE (duB m c t) (iblk m c 3 t) (iblk m c 4 t) (iblk m c 5 t)) (fun _ _ => 0) (fun j => pay_row0 _ _ 0 j) (fun j => pay_row1 _ _ _ _ 0 j)
    (fun j => pay_row2 _ _ _ _ 0 j) (st_rest _ _ _ _) (fun j => ?_) (fun j => ?_) (fun j => ?_) (fun r j => ?_) r j
  · refine (congrArg _ (row_at 0 inb_S8x1024_S1x1024_0_0 (by omega) j)).trans (cleared _ _ 0 j)
  · refine (congrArg _ (row_at 1 inb_S8x1024_S1x1024_1_0 (by omega) j)).trans ?_
    exact (View.read_writes_cons_unit_of_not_mem _ _ _ _ _ _ rfl 0 (.inr le_rfl)).trans (cleared _ _ 1 j)
  · refine (congrArg _ (row_at 2 inb_S8x1024_S1x1024_2_0 (by omega) j)).trans ?_
    refine (View.read_writes_cons_unit_of_not_mem _ _ _ _ _ _ rfl 0 (.inr le_rfl)).trans ?_
    exact (View.read_writes_cons_unit_of_not_mem _ _ _ _ _ _ rfl 0 (.inr (Nat.le_succ 1))).trans (cleared _ _ 2 j)
  · exact cleared _ _ r j

theorem after_st_next (t : Fin cfg0.N) (h : ¬ t.val % 16 = 0) (r : Fin 8) (j : Fin 1024) :
    ((outsAt0 m c t.val t.isLt).2 : S8x1024.Idx → EReal) (ix2 r j)
      = ((outsAt0 m c (t.val - 1) (by omega)).2 : S8x1024.Idx → EReal) (ix2 r j) + stE (duB m c t) (iblk m c 3 t) (iblk m c 4 t) (iblk m c 5 t) r j := by
  rw [outsAt0_B m c t h]
  frame_out
  refine rows_add _ _ _ _ _ _ _ _ _ (stE (duB m c t) (iblk m c 3 t) (iblk m c 4 t) (iblk m c 5 t)) (fun r j => (outsAt0 m c (t.val - 1) (by omega)).2 (ix2 r j)) (fun j => pay_row0 _ _ 0 j) (fun j => pay_row1 _ _ _ _ 0 j)
    (fun j => pay_row2 _ _ _ _ 0 j) (st_rest _ _ _ _) (fun j => ?_) (fun j => ?_) (fun j => ?_) (fun r j => ?_) r j
  · exact congrArg _ (row_at 0 inb_S8x1024_S1x1024_0_0 (by omega) j)
  · exact congrArg _ (row_at 1 inb_S8x1024_S1x1024_1_0 (by omega) j)
  · exact congrArg _ (row_at 2 inb_S8x1024_S1x1024_2_0 (by omega) j)
  · exact congrFun ((hs0_8 t).read_unread _) (ix2 r j)

/-! ## The argument arrays and the blocks -/

abbrev hA : S8192x1024.Idx → EReal := m ((c.tc : Thread nD τ).loc main_arg0)
abbrev gA : S1024.Idx → EReal := m ((c.tc : Thread nD τ).loc main_arg1)
abbrev scA : S1024.Idx → EReal := m ((c.tc : Thread nD τ).loc main_arg3)
abbrev wA : S1024x4096.Idx → EReal := m ((c.tc : Thread nD τ).loc main_arg4)
abbrev dlA : S8192x2048.Idx → EReal := m ((c.tc : Thread nD τ).loc main_arg5)
abbrev drA : S8192x2048.Idx → EReal := m ((c.tc : Thread nD τ).loc main_arg6)
abbrev resA : S8192x1024.Idx → EReal := m ((c.tc : Thread nD τ).loc main_arg7)

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] :=
  (by decide +kernel : ∀ t : Fin grid0.N, _)

theorem blk_h (t : Fin cfg0.N) (a : Fin 512) (hr : t.val * 512 + a.val < 8192) (x : Fin 1024) :
    (iblk m c 3 t : S512x1024.Idx → EReal) (ix2 a x) = hA m c (ix2 ⟨t.val * 512 + a.val, hr⟩ x) := by
  blk_point [iblk, V, idx t]

theorem blk_g (t : Fin cfg0.N) (x : Fin 1024) : (iblk m c 4 t : S1x1024.Idx → EReal) (ix2 0 x) = gA m c (ix1 x) := by
  blk_point [iblk, V, idx t]

theorem blk_sc (t : Fin cfg0.N) (x : Fin 1024) : (iblk m c 5 t : S1x1024.Idx → EReal) (ix2 0 x) = scA m c (ix1 x) := by
  blk_point [iblk, V, idx t]

theorem blk_res (t : Fin cfg0.N) (a : Fin 512) (hr : t.val * 512 + a.val < 8192) (x : Fin 1024) :
    (iblk m c 6 t : S512x1024.Idx → EReal) (ix2 a x) = resA m c (ix2 ⟨t.val * 512 + a.val, hr⟩ x) := by
  blk_point [iblk, V, idx t]

theorem blk_dl (t : Fin cfg0.N) (a : Fin 512) (hr : t.val * 512 + a.val < 8192) (x : Fin 2048) :
    (iblk m c 0 t : S512x2048.Idx → EReal) (ix2 a x) = dlA m c (ix2 ⟨t.val * 512 + a.val, hr⟩ x) := by
  blk_point [iblk, V, idx t]

theorem blk_dr (t : Fin cfg0.N) (a : Fin 512) (hr : t.val * 512 + a.val < 8192) (x : Fin 2048) :
    (iblk m c 1 t : S512x2048.Idx → EReal) (ix2 a x) = drA m c (ix2 ⟨t.val * 512 + a.val, hr⟩ x) := by
  blk_point [iblk, V, idx t]

theorem blk_w (t : Fin cfg0.N) (s : Fin 8) (j : Fin 1024) (k : Fin 512) (hs : s.val * 512 + k.val < 4096) :
    (iblk m c 2 t : S8x1024x512.Idx → EReal) (ix3 s j k) = wA m c (ix2 j ⟨s.val * 512 + k.val, hs⟩) := by
  blk_point [iblk, V, idx t]

/-- Two halves of a row side by side. -/
def catE (l r : Fin 2048 → EReal) (x : Fin 4096) : EReal :=
  if h : x.val < 2048 then l ⟨x.val, h⟩ else r ⟨x.val - 2048, by omega⟩

theorem cat_left (l r : Fin 2048 → EReal) (x : Fin 4096) (h : x.val < 2048) : catE l r x = l ⟨x.val, h⟩ := dif_pos h

theorem cat_right (l r : Fin 2048 → EReal) (x : Fin 4096) (h : ¬ x.val < 2048) : catE l r x = r ⟨x.val - 2048, by omega⟩ := dif_neg h

/-- The cotangent of the modulated row `r` at column `i`. -/
def uA (r : Fin 8192) (i : Fin 1024) : EReal :=
  ∑ x, catE (fun y => dlA m c (ix2 r y)) (fun y => drA m c (ix2 r y)) x * wA m c (ix2 i x)

/-- A chunk of 512 columns of a row, and a part of the weights. -/
def partE (a : S512x2048.Idx → EReal) (w : S8x1024x512.Idx → EReal) (o : ℕ) (ho : o + 512 ≤ 2048) (s : Fin 8) (i : Fin 512) (j : Fin 1024) : EReal :=
  ∑ k : Fin 512, a (ix2 i ⟨o + k.val, by omega⟩) * w (ix3 s j k)

theorem ld_a (a : Vec Ideal S512x2048 EltTy.bf16) (o : ℕ) (ho : o + 512 ≤ 2048) (inb) (i k : Fin 512) :
    View.ld a (Rect.unit (s := S512x2048) ![0, o] ![512, 512] inb) (ix2 i k) = a (ix2 i ⟨o + k.val, by omega⟩) := by
  refine congrArg a (funext fun x => Fin.ext ?_)
  fin_cases x
  · show 0 + 1 * i.val = i.val
    omega
  · show o + 1 * k.val = o + k.val
    omega

theorem ld_w (w : Vec Ideal S8x1024x512 EltTy.bf16) (s : ℕ) (hs : s < 8) (inb) (j : Fin 1024) (k : Fin 512) :
    View.ld w (Rect.unit (s := S8x1024x512) ![s, 0, 0] ![1, 1024, 512] inb) (ix3 0 j k) = w (ix3 ⟨s, hs⟩ j k) := by
  refine congrArg w (funext fun x => Fin.ext ?_)
  fin_cases x
  · show s + 1 * 0 = s
    omega
  · show 0 + 1 * j.val = j.val
    omega
  · show 0 + 1 * k.val = k.val
    omega

theorem du_parts (t : Fin cfg0.N) (i : Fin 512) (j : Fin 1024) :
    duB m c t (ix2 i j) = partE (iblk m c 0 t) (iblk m c 2 t) 0 (by omega) 0 i j + partE (iblk m c 0 t) (iblk m c 2 t) 512 (by omega) 1 i j
      + partE (iblk m c 0 t) (iblk m c 2 t) 1024 (by omega) 2 i j + partE (iblk m c 0 t) (iblk m c 2 t) 1536 (by omega) 3 i j
      + partE (iblk m c 1 t) (iblk m c 2 t) 0 (by omega) 4 i j + partE (iblk m c 1 t) (iblk m c 2 t) 512 (by omega) 5 i j
      + partE (iblk m c 1 t) (iblk m c 2 t) 1024 (by omega) 6 i j + partE (iblk m c 1 t) (iblk m c 2 t) 1536 (by omega) 7 i j := by
  unfold duB partE
  refine (pay_du _ _ _ _ _ _ _ _ _ _ _ _ _ _ _ _ i j).trans ?_
  have e0 := fun k : Fin 512 => ld_w (iblk m c 2 t) 0 (by omega) inb_S8x1024x512_S1x1024x512_0_0_0 j k
  have e1 := fun k : Fin 512 => ld_w (iblk m c 2 t) 1 (by omega) inb_S8x1024x512_S1x1024x512_1_0_0 j k
  have e2 := fun k : Fin 512 => ld_w (iblk m c 2 t) 2 (by omega) inb_S8x1024x512_S1x1024x512_2_0_0 j k
  have e3 := fun k : Fin 512 => ld_w (iblk m c 2 t) 3 (by omega) inb_S8x1024x512_S1x1024x512_3_0_0 j k
  have e4 := fun k : Fin 512 => ld_w (iblk m c 2 t) 4 (by omega) inb_S8x1024x512_S1x1024x512_4_0_0 j k
  have e5 := fun k : Fin 512 => ld_w (iblk m c 2 t) 5 (by omega) inb_S8x1024x512_S1x1024x512_5_0_0 j k
  have e6 := fun k : Fin 512 => ld_w (iblk m c 2 t) 6 (by omega) inb_S8x1024x512_S1x1024x512_6_0_0 j k
  have e7 := fun k : Fin 512 => ld_w (iblk m c 2 t) 7 (by omega) inb_S8x1024x512_S1x1024x512_7_0_0 j k
  have l0 := fun k : Fin 512 => ld_a (iblk m c 0 t) 0 (by omega) inb_S512x2048_S512x512_0_0 i k
  have l1 := fun k : Fin 512 => ld_a (iblk m c 0 t) 512 (by omega) inb_S512x2048_S512x512_0_512 i k
  have l2 := fun k : Fin 512 => ld_a (iblk m c 0 t) 1024 (by omega) inb_S512x2048_S512x512_0_1024 i k
  have l3 := fun k : Fin 512 => ld_a (iblk m c 0 t) 1536 (by omega) inb_S512x2048_S512x512_0_1536 i k
  have r0 := fun k : Fin 512 => ld_a (iblk m c 1 t) 0 (by omega) inb_S512x2048_S512x512_0_0 i k
  have r1 := fun k : Fin 512 => ld_a (iblk m c 1 t) 512 (by omega) inb_S512x2048_S512x512_0_512 i k
  have r2 := fun k : Fin 512 => ld_a (iblk m c 1 t) 1024 (by omega) inb_S512x2048_S512x512_0_1024 i k
  have r3 := fun k : Fin 512 => ld_a (iblk m c 1 t) 1536 (by omega) inb_S512x2048_S512x512_0_1536 i k
  simp only [e0, e1, e2, e3, e4, e5, e6, e7, l0, l1, l2, l3, r0, r1, r2, r3]
  rfl

theorem part_left (t : Fin cfg0.N) (i : Fin 512) (hr : t.val * 512 + i.val < 8192) (j : Fin 1024) (o : ℕ) (ho : o + 512 ≤ 2048) (s : Fin 8) (hs : s.val * 512 = o) :
    partE (iblk m c 0 t) (iblk m c 2 t) o ho s i j
      = ∑ k : Fin 512, catE (fun y => dlA m c (ix2 ⟨t.val * 512 + i.val, hr⟩ y)) (fun y => drA m c (ix2 ⟨t.val * 512 + i.val, hr⟩ y)) ⟨s.val * 512 + k.val, by omega⟩
          * wA m c (ix2 j ⟨s.val * 512 + k.val, by omega⟩) := by
  refine Finset.sum_congr rfl fun k _ => ?_
  rw [cat_left _ _ _ (show s.val * 512 + k.val < 2048 by omega), blk_w m c t s j k (by omega), blk_dl m c t i hr]
  subst hs
  rfl

theorem part_right (t : Fin cfg0.N) (i : Fin 512) (hr : t.val * 512 + i.val < 8192) (j : Fin 1024) (o : ℕ) (ho : o + 512 ≤ 2048) (s : Fin 8) (hs : s.val * 512 = o + 2048) :
    partE (iblk m c 1 t) (iblk m c 2 t) o ho s i j
      = ∑ k : Fin 512, catE (fun y => dlA m c (ix2 ⟨t.val * 512 + i.val, hr⟩ y)) (fun y => drA m c (ix2 ⟨t.val * 512 + i.val, hr⟩ y)) ⟨s.val * 512 + k.val, by omega⟩
          * wA m c (ix2 j ⟨s.val * 512 + k.val, by omega⟩) := by
  refine Finset.sum_congr rfl fun k _ => ?_
  rw [cat_right _ _ _ (show ¬ s.val * 512 + k.val < 2048 by omega), blk_w m c t s j k (by omega), blk_dr m c t i hr]
  refine congrArg (fun a : Fin 2048 => drA m c (ix2 ⟨t.val * 512 + i.val, hr⟩ a) * (_ : EReal)) (Fin.ext ?_)
  show o + k.val = s.val * 512 + k.val - 2048
  omega

theorem blk_u (t : Fin cfg0.N) (i : Fin 512) (hr : t.val * 512 + i.val < 8192) (j : Fin 1024) :
    duB m c t (ix2 i j) = uA m c ⟨t.val * 512 + i.val, hr⟩ j := by
  rw [du_parts, part_left m c t i hr j 0 _ 0 rfl, part_left m c t i hr j 512 _ 1 rfl, part_left m c t i hr j 1024 _ 2 rfl, part_left m c t i hr j 1536 _ 3 rfl,
    part_right m c t i hr j 0 _ 4 rfl, part_right m c t i hr j 512 _ 5 rfl, part_right m c t i hr j 1024 _ 6 rfl, part_right m c t i hr j 1536 _ 7 rfl]
  unfold uA
  exact (Fin.sum_univ_eight (fun s : Fin 8 => ∑ k : Fin 512, catE (fun y => dlA m c (ix2 ⟨t.val * 512 + i.val, hr⟩ y)) (fun y => drA m c (ix2 ⟨t.val * 512 + i.val, hr⟩ y))
      ⟨s.val * 512 + k.val, by omega⟩ * wA m c (ix2 j ⟨s.val * 512 + k.val, by omega⟩))).symm.trans
    (Fin.sum_mul_add_congr (S := 8) (n := 512) fun s k hl => rfl)

/-! ## The two arrays -/

theorem arr7 : (dats m 0 c).arrAt 7 cfg0.N = fun j : S8192x1024.Idx =>
    dhE (uA m c (j 0)) (fun x => hA m c (ix2 (j 0) x)) (fun x => gA m c (ix1 x)) (fun x => scA m c (ix1 x)) (resA m c j) (j 1) := by
  refine Dat.arrAt_eq_of_covers _ 7 _ (by decide +kernel) fun t hf y => ?_
  blk_simp
  rw [after0_7, after_dh]
  have ht : t.val < 16 := lt_of_lt_of_eq t.isLt N_0
  have hy : t.val * 512 + (y 0).val < 8192 := by have : (y 0).val < 512 := (y 0).isLt; omega
  have e : ((((cfg0.win 7).blk t).view.emb y) : S8192x1024.Idx) = ix2 ⟨t.val * 512 + (y 0).val, hy⟩ (y 1) := by
    blk_ext [idx t]
  rw [e]
  obtain ⟨i, k, rfl⟩ : ∃ i k, y = ix2 i k := ⟨_, _, eq_ix2 y⟩
  refine (pay_dh _ _ _ _ _ i k).trans ?_
  simp only [blk_u m c t i hy, blk_h m c t i hy, blk_g, blk_sc, blk_res m c t i hy]
  rfl

/-- What one row adds to the statistics at row `r`, column `j`. -/
def stRow (r : Fin 8) (u h g sc : Fin 1024 → EReal) (j : Fin 1024) : EReal :=
  if r.val = 0 then u j else if r.val = 1 then u j * (h j * rsE h * g j) else if r.val = 2 then u j * (1 + sc j) * (h j * rsE h) else 0

theorem st_sum (u : FVec Ideal S512x1024 FTy.f32) (h : Vec Ideal S512x1024 EltTy.f32) (g sc : Vec Ideal S1x1024 EltTy.f32) (r : Fin 8) (j : Fin 1024) :
    stE u h g sc r j = ∑ i : Fin 512, stRow r (fun x => u (ix2 i x)) (fun x => h (ix2 i x)) (fun x => g (ix2 0 x)) (fun x => sc (ix2 0 x)) j := by
  unfold stE stRow
  split_ifs
  · rfl
  · rfl
  · rfl
  · exact Finset.sum_const_zero.symm

/-- What block `t` adds to the statistics. -/
def stT (t : Fin cfg0.N) (j : S8x1024.Idx) : EReal := stE (duB m c t) (iblk m c 3 t) (iblk m c 4 t) (iblk m c 5 t) (j 0) (j 1)

theorem arr8 : (dats m 0 c).arrAt 8 cfg0.N = fun j : S8x1024.Idx =>
    ∑ R : Fin 8192, stRow (j 0) (uA m c R) (fun x => hA m c (ix2 R x)) (fun x => gA m c (ix1 x)) (fun x => scA m c (ix1 x)) (j 1) := by
  refine Dat.arrAt_eq_of_after_last _ 8 t0_15 (by decide +kernel) _ fun j => ?_
  blk_simp
  rw [after0_8, Pipeline.eq_sum_fin_of_reset_step_apply_last (fun n h => (outsAt0 m c n h).2) 16 (fun _ => (0 : EReal)) (stT m c)
    (fun t h j => by
      obtain ⟨r, x, rfl⟩ : ∃ r x, j = ix2 r x := ⟨_, _, eq_ix2 j⟩
      exact after_st_first m c t h r x)
    (fun t h j => by
      obtain ⟨r, x, rfl⟩ : ∃ r x, j = ix2 r x := ⟨_, _, eq_ix2 j⟩
      exact after_st_next m c t h r x) (le_of_eq N_0) t0_15 rfl j, zero_add]
  show (_ : EReal) = _
  have key : ∀ t : Fin cfg0.N, stT m c t j = ∑ i : Fin 512, stRow (j 0) (fun x => duB m c t (ix2 i x)) (fun x => (iblk m c 3 t : S512x1024.Idx → EReal) (ix2 i x))
      (fun x => (iblk m c 4 t : S1x1024.Idx → EReal) (ix2 0 x)) (fun x => (iblk m c 5 t : S1x1024.Idx → EReal) (ix2 0 x)) (j 1) := fun t => st_sum _ _ _ _ _ _
  simp only [key]
  refine (Fin.sum_mul_add_congr (S := 16) (n := 512) fun t k hl => ?_)
  simp only [blk_u m c _ k hl, blk_h m c _ k hl]
  exact congrArg₂ (fun g sc : Fin 1024 → EReal => stRow (j 0) _ _ g sc (j 1)) (funext fun x => blk_g m c t x) (funext fun x => blk_sc m c t x)

end Cert.NormIdeal.Value

end
end
-- ==== Proof.NormRef.lean ====
/- The reference of the modulated norm read pointwise: the derivative of the plain forward lines, entry by entry. -/
module

public import proofs.«01_k».proof.Proof.Coe
public import proofs.«01_k».proof.Proof.Gen.NormRefIdeal.Read
public import Idealize.ShloMosaic.Lib.Pointwise

@[expose] public section

set_option maxRecDepth 16384

noncomputable section

namespace Cert.NormRefIdeal.Read

open Cert.NormRefIdeal Cert.NormRefIdeal.Gen Idealize.ShloMosaic Idealize.ShloMosaic.Pointwise

variable {x0 : (⟨S8192x1024, .f32⟩ : BufTy).Contents (Elt Ideal)} {x1 x3 : (⟨S1024, .f32⟩ : BufTy).Contents (Elt Ideal)} {x4 : (⟨S1024x4096, .f32⟩ : BufTy).Contents (Elt Ideal)}
    {x5 x6 : (⟨S8192x2048, .f32⟩ : BufTy).Contents (Elt Ideal)} {x7 : (⟨S8192x1024, .f32⟩ : BufTy).Contents (Elt Ideal)}

/-- Two halves of a row side by side. -/
def catR (l r : Fin 2048 → EReal) (x : Fin 4096) : EReal :=
  if h : x.val < 2048 then l ⟨x.val, h⟩ else r ⟨x.val - 2048, by omega⟩

theorem cat_left (l r : Fin 2048 → EReal) (x : Fin 4096) (h : x.val < 2048) : catR l r x = l ⟨x.val, h⟩ := dif_pos h

theorem cat_right (l r : Fin 2048 → EReal) (x : Fin 4096) (h : ¬ x.val < 2048) : catR l r x = r ⟨x.val - 2048, by omega⟩ := dif_neg h

theorem val_u (s : Fin 8192) (j : Fin 1024) : val_main_v28 (F := Ideal) x4 x5 x6 (ix2 s j)
    = (∑ x : Fin 4096, catR (fun y => x5 (ix2 s y)) (fun y => x6 (ix2 s y)) x * x4 (ix2 j x) : EReal) := by
  pointwise [val_main_v28, val_main_v27]
  refine Eq.trans ?_ (Fin.sum_univ_add (a := 2048) (b := 2048) _).symm
  refine congrArg₂ (fun a b : EReal => a + b) (Finset.sum_congr rfl fun x _ => ?_) (Finset.sum_congr rfl fun x _ => ?_)
  · exact congrArg (fun a : EReal => a * (_ : EReal)) (cat_left (fun y => x5 (ix2 s y)) (fun y => x6 (ix2 s y)) (Fin.castAdd 2048 x) x.isLt).symm
  · refine congrArg (fun a : EReal => a * (_ : EReal)) (Eq.symm ?_)
    refine (cat_right _ _ (Fin.natAdd 2048 x) (show ¬ 2048 + x.val < 2048 by omega)).trans ?_
    exact congrArg (fun a : Fin 2048 => x6 (ix2 s a)) (Fin.ext (show 2048 + x.val - 2048 = x.val by omega))

theorem val_rs (s : Fin 8192) (k : Fin 1) : val_main_v7 (F := Ideal) x0 (ix2 s k)
    = Ideal.rsqrt (Ideal.div (∑ x, x0 (ix2 s x) * x0 (ix2 s x)) (Ideal.ofBits FTy.f32 1149239296#32) + Ideal.ofBits FTy.f32 897988541#32) := by
  pointwise [val_main_v7, val_main_v6, val_main_v5, val_main_v4, val_main_v3, val_main_v2, val_main_v1, val_main_v0, val_main_cst, val_main_cst_0, val_main_cst_1]

theorem val_dx (s : Fin 8192) (j : Fin 1024) : val_main_v42 (F := Ideal) x1 x3 x4 x5 x6 (ix2 s j)
    = (val_main_v28 (F := Ideal) x4 x5 x6 (ix2 s j) * (1 + x3 (ix1 j)) * x1 (ix1 j) : EReal) := by
  pointwise [val_main_v42, val_main_v41, val_main_v36, val_main_v35, val_main_v18, val_main_v17, val_main_v16, val_main_v13, val_main_cst_3]

/-- The mean square of a row with the small constant. -/
def msC (h : Fin 1024 → EReal) : EReal :=
  Ideal.div (∑ x, h x * h x) (Ideal.ofBits FTy.f32 1149239296#32) + Ideal.ofBits FTy.f32 897988541#32

/-- What reaches the mean of the squares of a row. -/
def cmC (d h : Fin 1024 → EReal) : EReal :=
  Ideal.div ((∑ x, h x * d x) * (Ideal.ofBits FTy.f32 3204448256#32 * Ideal.div (Ideal.rsqrt (msC h)) (msC h))) (Ideal.ofBits FTy.f32 1149239296#32)

/-- The gradient of a row at column `j`, with what reaches it past the norm. -/
def dhC (d h : Fin 1024 → EReal) (res : EReal) (j : Fin 1024) : EReal :=
  res + d j * Ideal.rsqrt (msC h) + h j * cmC d h + cmC d h * h j

theorem val_dh (s : Fin 8192) (j : Fin 1024) : val_main_v58 (F := Ideal) x0 x1 x3 x4 x5 x6 x7 (ix2 s j)
    = dhC (fun x => val_main_v42 (F := Ideal) x1 x3 x4 x5 x6 (ix2 s x)) (fun x => x0 (ix2 s x)) (x7 (ix2 s j)) j := by
  pointwise [val_main_v58, val_main_v57, val_main_v56, val_main_v55, val_main_v54, val_main_v53, val_main_v52, val_main_v51, val_main_v50, val_main_v49, val_main_v48,
    val_main_v47, val_main_v46, val_main_v45, val_main_v44, val_main_v10, val_main_v9, val_main_v8, val_main_v6, val_main_v5, val_main_v4, val_main_v3, val_main_v2, val_main_v1, val_main_v0,
    val_main_cst, val_main_cst_0, val_main_cst_1, val_main_cst_2, val_main_cst_10, val_main_cst_11, val_main_cst_12]
  simp only [Finset.univ_unique, Finset.sum_singleton, val_rs]
  rfl

theorem val_st0 (k : Fin 1) (j : Fin 1024) : val_main_v59 (F := Ideal) x4 x5 x6 (ix2 k j) = (∑ s : Fin 8192, val_main_v28 (F := Ideal) x4 x5 x6 (ix2 s j) : EReal) := by
  pointwise [val_main_v59, val_main_v31, val_main_v30, val_main_v29, val_main_cst_4, val_main_cst_5]
  simp only [Finset.univ_unique, Finset.sum_singleton]

theorem val_st1 (k : Fin 1) (j : Fin 1024) : val_main_v60 (F := Ideal) x0 x1 x4 x5 x6 (ix2 k j)
    = (∑ s : Fin 8192, x0 (ix2 s j) * val_main_v7 (F := Ideal) x0 (ix2 s 0) * x1 (ix1 j) * val_main_v28 (F := Ideal) x4 x5 x6 (ix2 s j) : EReal) := by
  pointwise [val_main_v60, val_main_v37, val_main_v34, val_main_v33, val_main_v32, val_main_v15, val_main_v14, val_main_v13, val_main_v12, val_main_v11, val_main_cst_6, val_main_cst_7]
  simp only [Finset.univ_unique, Finset.sum_singleton]

theorem val_st2 (k : Fin 1) (j : Fin 1024) : val_main_v61 (F := Ideal) x0 x3 x4 x5 x6 (ix2 k j)
    = (∑ s : Fin 8192, x0 (ix2 s j) * val_main_v7 (F := Ideal) x0 (ix2 s 0) * (val_main_v28 (F := Ideal) x4 x5 x6 (ix2 s j) * (1 + x3 (ix1 j))) : EReal) := by
  pointwise [val_main_v61, val_main_v43, val_main_v40, val_main_v39, val_main_v38, val_main_v36, val_main_v35, val_main_v18, val_main_v17, val_main_v16, val_main_v12, val_main_v11, val_main_cst_3, val_main_cst_8, val_main_cst_9]
  simp only [Finset.univ_unique, Finset.sum_singleton]

theorem val_st (r : Fin 8) (j : Fin 1024) : val_main_v63 (F := Ideal) x0 x1 x3 x4 x5 x6 (ix2 r j)
    = if r.val = 0 then val_main_v59 (F := Ideal) x4 x5 x6 (ix2 0 j) else if r.val = 1 then val_main_v60 (F := Ideal) x0 x1 x4 x5 x6 (ix2 0 j)
      else if r.val = 2 then val_main_v61 (F := Ideal) x0 x3 x4 x5 x6 (ix2 0 j) else (0 : EReal) := by
  fin_cases r
  all_goals pointwise [val_main_v63, val_main_v62, val_main_cst_13]

end Cert.NormRefIdeal.Read

end
end
-- ==== Proof.NormClaims.lean ====
/- The claims about the backward pass of the modulated norm: its reference's frame, and that both compute the same two results. -/
module

public import proofs.«01_k».proof.Defs
public import proofs.«01_k».proof.Proof.LossEq
public import proofs.«01_k».proof.Proof.NormKernel
public import proofs.«01_k».proof.Proof.NormRef
public import proofs.«01_k».proof.Proof.Gen.Norm.Frame
public import proofs.«01_k».proof.Proof.Gen.NormRefIdeal.Run
public import proofs.«01_k».proof.Proof.Gen.Pre_norm_finite
public import Idealize.ShloMosaic.Adequacy
public import Idealize.ShloMosaic.Init

@[expose] public section

set_option maxRecDepth 16384

noncomputable section

namespace Cert.NormClaims

open Idealize.ShloMosaic Idealize.ShloMosaic.TcCoe Idealize.SL.Sem Cert.Coe
open Cert.NormIdeal.Value (rsE dxE dhE stRow catE uA)
open Cert.NormRefIdeal.Read (msC cmC dhC catR)
open Cert.LossEq (msR msR_pos rR rR_sq ms_up rs_up c_1024 c_mhalf)

theorem frame_ref : Cert.quiescent_NormRefIdeal_pre_norm_finite := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem frame_ref' : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

/-- The precondition, read as: every entry of `h`, the gain, the scale, the weights and the two cotangents is a real. -/
theorem finite_args (x0 : FVec Ideal Cert.Pre_norm_finite.S8192x1024 .f32) (x1 x2 x3 : FVec Ideal Cert.Pre_norm_finite.S1024 .f32)
    (x4 : FVec Ideal Cert.Pre_norm_finite.S1024x4096 .f32) (x5 x6 : FVec Ideal Cert.Pre_norm_finite.S8192x2048 .f32)
    (x7 : FVec Ideal Cert.Pre_norm_finite.S8192x1024 .f32) (e : ∀ i, Cert.Pre_norm_finite.fn x0 x1 x2 x3 x4 x5 x6 x7 i = 1#1) :
    (∀ i, ∃ r : ℝ, x0 i = r) ∧ (∀ i, ∃ r : ℝ, x1 i = r) ∧ (∀ i, ∃ r : ℝ, x3 i = r) ∧ (∀ i, ∃ r : ℝ, x4 i = r)
      ∧ (∀ i, ∃ r : ℝ, x5 i = r) ∧ (∀ i, ∃ r : ℝ, x6 i = r) := by
  have e := e (fun a : Fin 0 => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_test x0 _ _ _ _ e1, real_of_test x1 _ _ _ _ e2, real_of_test x3 _ _ _ _ e3, real_of_test x4 _ _ _ _ e4,
    real_of_test x5 _ _ _ _ e5, real_of_test x6 _ _ _ _ e6⟩

/-- A sum of products of reals is a real. -/
theorem u_real {l r : Fin 2048 → EReal} {w : Fin 4096 → EReal} (hl : ∀ x, ∃ a : ℝ, l x = a) (hr : ∀ x, ∃ a : ℝ, r x = a) (hw : ∀ x, ∃ a : ℝ, w x = a) :
    ∃ a : ℝ, ∑ x, catE l r x * w x = a := by
  have hc : ∀ x, ∃ a : ℝ, catE l r x = a := fun x => by
    unfold catE
    split_ifs
    · exact hl _
    · exact hr _
  obtain ⟨k, e⟩ := reals_of hc
  obtain ⟨w, rfl⟩ := reals_of hw
  rw [e]
  simp only [← EReal.coe_mul, sum_coe]
  exact ⟨_, rfl⟩

/-- Differentiating the root mean square step by step gives the call's closed form, over the reals. -/
theorem dh_eq {u h g sc : Fin 1024 → EReal} (hu : ∀ x, ∃ r : ℝ, u x = r) (hh : ∀ x, ∃ r : ℝ, h x = r) (hg : ∀ x, ∃ r : ℝ, g x = r)
    (hs : ∀ x, ∃ r : ℝ, sc x = r) (res : EReal) (j : Fin 1024) :
    dhC (dxE u sc g) h res j = dhE u h g sc res j := by
  obtain ⟨u, rfl⟩ := reals_of hu
  obtain ⟨h, rfl⟩ := reals_of hh
  obtain ⟨g, rfl⟩ := reals_of hg
  obtain ⟨sc, rfl⟩ := reals_of hs
  have hd : ∀ x, dxE (fun x => (u x : EReal)) (fun x => (sc x : EReal)) (fun x => (g x : EReal)) x = ((u x * (1 + sc x) * g x : ℝ) : EReal) := fun x => by
    unfold dxE
    simp only [← EReal.coe_one, ← EReal.coe_mul, ← EReal.coe_add]
  have hm : msC (fun x => (h x : EReal)) = (msR h : EReal) := ms_up h
  have hr : rsE (fun x => (h x : EReal)) = (rR h : EReal) := by
    unfold rsE
    exact (congrArg Ideal.rsqrt (ms_up h)).trans (rs_up h)
  have hc : cmC (dxE (fun x => (u x : EReal)) (fun x => (sc x : EReal)) (fun x => (g x : EReal))) (fun x => (h x : EReal))
      = (((∑ x, h x * (u x * (1 + sc x) * g x)) * (-(1 / 2) * (rR h / msR h)) / 1024 : ℝ) : EReal) := by
    unfold cmC
    simp only [hd, hm, rs_up, c_mhalf, c_1024, ← EReal.coe_mul, sum_coe]
    rw [div_real (msR_pos h).ne', ← EReal.coe_mul, ← EReal.coe_mul, div_real (by norm_num)]
  unfold dhC dhE
  rw [hc, hm, rs_up, add_assoc, add_assoc, add_comm res]
  refine congrArg (fun a : EReal => a + res) ?_
  simp only [hd, hr, c_1024, ← EReal.coe_mul, sum_coe, ← EReal.coe_add]
  rw [div_real (by norm_num)]
  simp only [← EReal.coe_mul, ← EReal.coe_sub]
  refine congrArg _ ?_
  have e : ∑ x, u x * (1 + sc x) * g x * (h x * rR h) = (∑ x, h x * (u x * (1 + sc x) * g x)) * rR h := by
    rw [Finset.sum_mul]; exact Finset.sum_congr rfl fun x _ => by ring
  rw [e, div_eq_mul_one_div (rR h) (msR h), ← rR_sq]
  ring

theorem algebraic : Cert.algebraic_NormIdeal_NormRefIdeal_pre_norm_finite := by
  intro m ρ m' ρ' pre hag
  refine ⟨fun c => (Cert.NormIdeal.Gen.dats m 0 c).arrAt 7 Cert.NormIdeal.cfg0.N, fun c => (Cert.NormIdeal.Gen.dats m 0 c).arrAt 8 Cert.NormIdeal.cfg0.N,
    (θ_run Cert.NormIdeal.defs _ _).mono (fun r h c => h c) (Cert.NormIdeal.Value.run_blocks m ρ), ?_⟩
  refine (θ_run Cert.NormRefIdeal.defs _ _).mono (fun r h c => ?_) (Cert.NormRefIdeal.Value.run (F := Ideal) m' ρ')
  obtain ⟨r0, r1, k⟩ := h c
  obtain ⟨a0, a1, a2, a3, a4, a5, a6, a7⟩ := hag c
  obtain ⟨f0, f1, f3, f4, f5, f6⟩ := finite_args _ _ _ _ _ _ _ _ (fun i => congrFun (pre c) i)
  have hu : ∀ s j, Cert.NormRefIdeal.Read.val_main_v28 (F := Ideal) (m ((c.tc : Thread Cert.NormIdeal.nD Cert.NormIdeal.τ).loc Cert.NormIdeal.main_arg4))
      (m ((c.tc : Thread Cert.NormIdeal.nD Cert.NormIdeal.τ).loc Cert.NormIdeal.main_arg5)) (m ((c.tc : Thread Cert.NormIdeal.nD Cert.NormIdeal.τ).loc Cert.NormIdeal.main_arg6)) (ix2 s j)
      = uA m c s j := fun s j => Cert.NormRefIdeal.Read.val_u s j
  refine ⟨(r0.trans (Cert.NormRefIdeal.Read.val_main_v58_eq m' c)).trans (Eq.trans ?_ (Cert.NormIdeal.Value.arr7 m c).symm),
    (r1.trans (Cert.NormRefIdeal.Read.val_main_v63_eq _ _ _ _ _ _)).trans (Eq.trans ?_ (Cert.NormIdeal.Value.arr8 m c).symm), k⟩
  · rw [a0, a1, a3, a4, a5, a6, a7]
    funext j
    obtain ⟨s, x, rfl⟩ : ∃ s x, j = ix2 s x := ⟨_, _, eq_ix2 j⟩
    refine (Cert.NormRefIdeal.Read.val_dh s x).trans ?_
    simp only [Cert.NormRefIdeal.Read.val_dx, hu]
    exact dh_eq (fun _ => u_real (fun _ => f5 _) (fun _ => f6 _) (fun _ => f4 _)) (fun _ => f0 _) (fun _ => f1 _) (fun _ => f3 _) _ x
  · rw [a0, a1, a3, a4, a5, a6]
    funext j
    obtain ⟨s, x, rfl⟩ : ∃ s x, j = ix2 s x := ⟨_, _, eq_ix2 j⟩
    refine (Cert.NormRefIdeal.Read.val_st s x).trans ?_
    show _ = ∑ R : Fin 8192, stRow s (uA m c R) (fun y => Cert.NormIdeal.Value.hA m c (ix2 R y)) (fun y => Cert.NormIdeal.Value.gA m c (ix1 y))
      (fun y => Cert.NormIdeal.Value.scA m c (ix1 y)) x
    unfold stRow
    split_ifs with h0 h1 h2
    · rw [Cert.NormRefIdeal.Read.val_st0]
      simp only [hu]
    · rw [Cert.NormRefIdeal.Read.val_st1]
      simp only [hu, Cert.NormRefIdeal.Read.val_rs]
      exact Finset.sum_congr rfl fun R _ => mul_comm _ _
    · rw [Cert.NormRefIdeal.Read.val_st2]
      simp only [hu, Cert.NormRefIdeal.Read.val_rs]
      exact Finset.sum_congr rfl fun R _ => mul_comm _ _
    · exact Finset.sum_const_zero.symm

end Cert.NormClaims

end
end
-- ==== Proof.PoolSum.lean ====
/- Sums over a window of rows: by doubling on a block of 528 rows, and as a difference of sums over all later rows. -/
module

public import proofs.«01_k».proof.Proof.Coe
public import Idealize.ShloMosaic.Lib.Pointwise
public import Idealize.ShloMosaic.Lib.WordCmp
public import Idealize.ShloMosaic.Lib.PlanTiles.Rows

@[expose] public section

noncomputable section

namespace Cert.PoolSum

open Idealize.ShloMosaic Cert.Coe

/-! ## The count a row's mean divides by -/

/-- The word `min (t + 1, w)`. -/
def cW (w t : ℕ) : BitVec 32 := IntOp.minsi (IntOp.addi (BitVec.ofNat 32 t) 1#32) (BitVec.ofNat 32 w)

/-- The number of rows the mean over a window of `w` ending at row `t` takes. -/
def cE (w t : ℕ) : EReal := FloatOps.sitofp (F := Ideal) FTy.f32 (cW w t)

theorem cE_eq (w t : ℕ) (ht : t < 8208) (hw : w ≤ 16) : cE w t = ((min w (t + 1) : ℕ) : ℝ) := by
  have e : cW w t = BitVec.ofNat 32 (min w (t + 1)) := by
    unfold cW
    rw [show IntOp.addi (BitVec.ofNat 32 t) 1#32 = BitVec.ofNat 32 (t + 1) from (BitVec.ofNat_add _ _).symm]
    exact PlanTiles.minsi_word (by omega) (by omega)
  unfold cE
  rw [e]
  show (((BitVec.ofNat 32 (min w (t + 1))).toInt : ℝ) : EReal) = _
  rw [BitVec.toInt_ofNat', Int.bmod_eq_of_le (by omega) (by omega)]
  norm_num

theorem cE_ne (w t : ℕ) (ht : t < 8208) (hw : w ≤ 16) (h0 : 0 < w) : ((min w (t + 1) : ℕ) : ℝ) ≠ 0 := by
  rw [Nat.cast_ne_zero]
  omega

/-! ## The gradient of one row -/

/-- What row `t` of the cotangent hands to each row of its window; nothing where there is no such row. -/
def eE (w : ℕ) (D : Fin 8192 → EReal) (t : ℕ) : EReal := if h : t < 8192 then Ideal.div (D ⟨t, h⟩) (cE w t) else 0

/-- The gradient of row `s` of the values: what the rows hand to it whose window holds it, less its own. -/
def poolE (w : ℕ) (D : Fin 8192 → EReal) (s : Fin 8192) : EReal := ∑ k ∈ Finset.range w, eE w D (s.val + k) - D s

/-- The windows of the four groups. -/
def wOf (g : Fin 4) : ℕ := ![2, 4, 8, 16] g

/-! ## By doubling -/

/-- A row and the row `sh` places after it, turned around at the end. -/
def stepR (sh : ℕ) (f : Fin 528 → EReal) (r : Fin 528) : EReal := f r + f ⟨(r.val + 528 - sh) % 528, Nat.mod_lt _ (by omega)⟩

/-- Row `k` of a block, and nothing past its end. -/
def eN (f : Fin 528 → EReal) (k : ℕ) : EReal := if h : k < 528 then f ⟨k, h⟩ else 0

theorem step_sum (n : ℕ) (f g : Fin 528 → EReal) (h0 : 0 < n) (hn : n ≤ 8)
    (hf : ∀ r : Fin 528, r.val + n ≤ 528 → f r = ∑ k ∈ Finset.range n, eN g (r.val + k)) (r : Fin 528) (hr : r.val + (n + n) ≤ 528) :
    stepR (528 - n) f r = ∑ k ∈ Finset.range (n + n), eN g (r.val + k) := by
  unfold stepR
  have e : (⟨(r.val + 528 - (528 - n)) % 528, Nat.mod_lt _ (by omega)⟩ : Fin 528) = ⟨r.val + n, by omega⟩ := Fin.ext (by
    show (r.val + 528 - (528 - n)) % 528 = r.val + n
    omega)
  rw [e, hf r (by omega), hf ⟨r.val + n, by omega⟩ (by show r.val + n + n ≤ 528; omega), Finset.sum_range_add]
  refine congrArg₂ _ rfl (Finset.sum_congr rfl fun k _ => ?_)
  show eN g (r.val + n + k) = _
  rw [Nat.add_assoc]

theorem sum_one (g : Fin 528 → EReal) (r : Fin 528) : g r = ∑ k ∈ Finset.range 1, eN g (r.val + k) := by
  rw [Finset.sum_range_one, eN, dif_pos (by omega)]
  rfl

theorem sum_two (g : Fin 528 → EReal) (r : Fin 528) (hr : r.val + 2 ≤ 528) : stepR 527 g r = ∑ k ∈ Finset.range 2, eN g (r.val + k) :=
  step_sum 1 g g (by omega) (by omega) (fun r _ => sum_one g r) r hr

theorem sum_four (g : Fin 528 → EReal) (r : Fin 528) (hr : r.val + 4 ≤ 528) :
    stepR 526 (stepR 527 g) r = ∑ k ∈ Finset.range 4, eN g (r.val + k) :=
  step_sum 2 _ g (by omega) (by omega) (sum_two g) r hr

theorem sum_eight (g : Fin 528 → EReal) (r : Fin 528) (hr : r.val + 8 ≤ 528) :
    stepR 524 (stepR 526 (stepR 527 g)) r = ∑ k ∈ Finset.range 8, eN g (r.val + k) :=
  step_sum 4 _ g (by omega) (by omega) (sum_four g) r hr

theorem sum_sixteen (g : Fin 528 → EReal) (r : Fin 528) (hr : r.val + 16 ≤ 528) :
    stepR 520 (stepR 524 (stepR 526 (stepR 527 g))) r = ∑ k ∈ Finset.range 16, eN g (r.val + k) :=
  step_sum 8 _ g (by omega) (by omega) (sum_eight g) r hr

/-- Row `r` of a block of the products that starts at row `t0`, masked past the last row. -/
def mE (v : Fin 528 → BitVec 32) (a : Fin 528 → EReal) (r : Fin 528) : EReal :=
  Scalar.select (IntOp.cmpi CmpIPredicate.slt (v r) 8192#32) (a r) 0

/-- The masked row over its count. -/
def dvE (w : ℕ) (v : Fin 528 → BitVec 32) (a : Fin 528 → EReal) (r : Fin 528) : EReal :=
  Ideal.div (mE v a r) (FloatOps.sitofp (F := Ideal) FTy.f32 (IntOp.minsi (IntOp.addi (v r) 1#32) (BitVec.ofNat 32 w)))

theorem mE_eq {v : Fin 528 → BitVec 32} {a : Fin 528 → EReal} {r : Fin 528} {n : ℕ} (hv : v r = BitVec.ofNat 32 n) (hn : n < 8208) :
    mE v a r = if n < 8192 then a r else 0 := by
  unfold mE
  rw [hv, show (8192#32 : BitVec 32) = BitVec.ofNat 32 8192 from rfl, WordCmp.cmpi_slt_ofNat (by omega) (by omega)]
  by_cases h : n < 8192
  · rw [if_pos h, decide_eq_true h]
    rfl
  · rw [if_neg h, decide_eq_false h]
    rfl

theorem dvE_eq (w : ℕ) (hw : w ≤ 16) (h0 : 0 < w) {v : Fin 528 → BitVec 32} {a : Fin 528 → EReal} {D : Fin 8192 → EReal} {r : Fin 528} {n : ℕ}
    (hv : v r = BitVec.ofNat 32 n) (hn : n < 8208) (ha : ∀ h : n < 8192, a r = D ⟨n, h⟩) : dvE w v a r = eE w D n := by
  unfold dvE eE
  rw [mE_eq hv hn, hv]
  show Ideal.div _ (cE w n) = _
  by_cases h : n < 8192
  · rw [if_pos h, dif_pos h, ha h]
  · rw [if_neg h, dif_neg h, cE_eq w n hn hw, ← EReal.coe_zero, div_real (cE_ne w n hn hw h0), zero_div]

/-- One group of a block: the windowed sum of the masked rows over their counts, less the row itself, is the gradient. -/
theorem pool_block (w : ℕ) (hw : w ≤ 16) (h0 : 0 < w) {v : Fin 528 → BitVec 32} {a : Fin 528 → EReal} {D : Fin 8192 → EReal} {t : ℕ} (ht : t < 16)
    (hv : ∀ r, v r = BitVec.ofNat 32 (t * 512 + r.val)) (ha : ∀ (r : Fin 528) (h : t * 512 + r.val < 8192), a r = D ⟨t * 512 + r.val, h⟩)
    (r : Fin 512) (hr : t * 512 + r.val < 8192) :
    (∑ k ∈ Finset.range w, eN (dvE w v a) (r.val + k)) - mE v a ⟨r.val, by omega⟩ = poolE w D ⟨t * 512 + r.val, hr⟩ := by
  unfold poolE
  refine congrArg₂ (fun x y : EReal => x - y) (Finset.sum_congr rfl fun k hk => ?_) ?_
  · have hk := Finset.mem_range.1 hk
    rw [eN, dif_pos (by omega), dvE_eq w hw h0 (hv _) (by show t * 512 + (r.val + k) < 8208; omega) (fun h => ha _ h)]
    show eE w D (t * 512 + (r.val + k)) = eE w D (t * 512 + r.val + k)
    rw [Nat.add_assoc]
  · rw [mE_eq (hv _) (by show t * 512 + r.val < 8208; omega), if_pos hr]
    exact ha _ hr

/-! ## As a difference of sums over all later rows -/

theorem telescope (e : ℕ → ℝ) (N w : ℕ) : ∑ n ∈ Finset.range N, (e n - e (w + n)) = ∑ k ∈ Finset.range w, e k - ∑ k ∈ Finset.range w, e (N + k) := by
  have h1 := Finset.sum_range_add e N w
  have h2 := Finset.sum_range_add e w N
  rw [Nat.add_comm w N] at h2
  rw [Finset.sum_sub_distrib]
  linarith

/-- What the running sum's derivative hands back at row `t`, before it is summed over the later rows. -/
def lagE (w : ℕ) (D : Fin 8192 → EReal) (t : Fin 8192) : EReal :=
  Ideal.div (D t) (cE w t.val) + (if h : w + t.val < 8192 then -Ideal.div (D ⟨w + t.val, h⟩) (cE w (w + t.val)) else 0)

theorem suffix_pool (w : ℕ) (hw : w ≤ 16) (h0 : 0 < w) (D : Fin 8192 → EReal) (hD : ∀ t, ∃ r : ℝ, D t = r) (s : Fin 8192) :
    -D s + ∑ n : Fin 8192, (if h : s.val + n.val < 8192 then lagE w D ⟨s.val + n.val, h⟩ else 0) = poolE w D s := by
  obtain ⟨d, rfl⟩ := reals_of hD
  have he : ∀ n : ℕ, eE w (fun t => (d t : EReal)) n = ((if h : n < 8192 then d ⟨n, h⟩ / ((min w (n + 1) : ℕ) : ℝ) else 0 : ℝ) : EReal) := fun n => by
    unfold eE
    by_cases h : n < 8192
    · rw [dif_pos h, dif_pos h, cE_eq w n (by omega) hw, div_real (cE_ne w n (by omega) hw h0)]
    · rw [dif_neg h, dif_neg h, EReal.coe_zero]
  generalize hE : (fun n : ℕ => (if h : n < 8192 then d ⟨n, h⟩ / ((min w (n + 1) : ℕ) : ℝ) else 0 : ℝ)) = E at *
  have he' : ∀ n, eE w (fun t => (d t : EReal)) n = (E n : EReal) := fun n => (he n).trans (congrArg _ (congrFun hE n))
  have hz : ∀ n, 8192 ≤ n → E n = 0 := fun n hn => by
    rw [← hE]
    exact dif_neg (by omega)
  have hl : ∀ n : Fin 8192, (if h : s.val + n.val < 8192 then lagE w (fun t => (d t : EReal)) ⟨s.val + n.val, h⟩ else 0)
      = ((E (s.val + n.val) - E (w + (s.val + n.val)) : ℝ) : EReal) := fun n => by
    by_cases h : s.val + n.val < 8192
    · rw [dif_pos h, EReal.coe_sub, sub_eq_add_neg, ← he', ← he']
      unfold lagE eE
      rw [dif_pos h]
      refine congrArg _ ?_
      by_cases h2 : w + (s.val + n.val) < 8192
      · rw [dif_pos h2, dif_pos h2]
      · rw [dif_neg h2, dif_neg h2, neg_zero]
    · rw [dif_neg h, hz _ (by omega), hz _ (by omega), sub_zero, EReal.coe_zero]
  simp only [hl]
  unfold poolE
  simp only [he']
  rw [sum_coe, sum_coe, ← EReal.coe_neg, ← EReal.coe_add, ← EReal.coe_sub, EReal.coe_eq_coe_iff,
    Fin.sum_univ_eq_sum_range (fun n => E (s.val + n) - E (w + (s.val + n))) 8192]
  have t := telescope (fun n => E (s.val + n)) 8192 w
  simp only [Nat.add_left_comm s.val w] at t
  rw [t, Finset.sum_eq_zero (s := Finset.range w) (f := fun k => E (s.val + (8192 + k))) (fun k _ => hz _ (by omega))]
  ring

/-! ## The sum over all later rows, as the host's window sum -/

theorem foldl_sum {n : ℕ} (f : Fin n → EReal) : (List.finRange n).foldl (fun r k => r + f k) 0 = ∑ k, f k := by
  have h : ∀ (l : List (Fin n)) (v : EReal), l.foldl (fun r k => r + f k) v = v + (l.map f).sum := fun l => by
    induction l with
    | nil => exact fun v => (add_zero v).symm
    | cons a l ih => exact fun v => (ih _).trans (by rw [List.map_cons, List.sum_cons, add_assoc])
  rw [h, zero_add, Fin.sum_univ_def]

/-- The positions of a window of one column and the whole height are its rows. -/
def rowsEquiv (R : ℕ) : Fin R ≃ (⟨3, ![R, 1, 1]⟩ : Shape).Idx where
  toFun n := ix3 n 0 0
  invFun q := q 0
  left_inv n := rfl
  right_inv q := by
    rw [eq_ix3 q]
    exact congrArg₂ (ix3 (q 0)) (Subsingleton.elim _ _) (Subsingleton.elim _ _)

/-- The window sum that a reversed running sum prints as: entry `s` is the sum of the entries from `s` on. -/
theorem suffix_sum {R Rm1 C E : ℕ} (x : FVec Ideal (⟨3, ![R, C, E]⟩ : Shape) .f32) (z : FVec Ideal (⟨0, ![]⟩ : Shape) .f32)
    (h : (⟨3, ![R, C, E]⟩ : Shape).ReduceWindows (![R, 1, 1] : Fin 3 → ℕ) ![1, 1, 1] ![0, 0, 0] ![Rm1, 0, 0] (⟨3, ![R, C, E]⟩ : Shape))
    (hu : 0 < (⟨0, ![]⟩ : Shape).numel) (hz : z (Shape.Idx.first hu) = (0 : EReal)) (s : Fin R) (g : Fin C) (i : Fin E) :
    Host.reduceWindowAdd (F := Ideal) ![R, 1, 1] ![1, 1, 1] ![0, 0, 0] ![Rm1, 0, 0] x z h hu (ix3 s g i)
      = ∑ n : Fin R, if h : s.val + n.val < R then (x (ix3 ⟨s.val + n.val, h⟩ g i) : EReal) else 0 := by
  show Ideal.hostReduceWindowAdd _ _ _ _ h x (z (Shape.Idx.first hu)) (ix3 s g i) = _
  rw [hz]
  unfold Ideal.hostReduceWindowAdd Host.reduceWindow
  refine (foldl_sum _).trans ?_
  refine Eq.trans (Finset.sum_congr rfl fun k _ => ?_) ((Equiv.sum_comp (⟨3, ![R, 1, 1]⟩ : Shape).rowMajor.symm fun q : (⟨3, ![R, 1, 1]⟩ : Shape).Idx =>
    if h : s.val + (q 0).val < R then (x (ix3 ⟨s.val + (q 0).val, h⟩ g i) : EReal) else 0).trans (Equiv.sum_comp (rowsEquiv R) _).symm)
  show _ = if h : s.val + ((⟨3, ![R, 1, 1]⟩ : Shape).rowMajor.symm k 0).val < R
    then (x (ix3 ⟨s.val + ((⟨3, ![R, 1, 1]⟩ : Shape).rowMajor.symm k 0).val, h⟩ g i) : EReal) else 0
  have h1 : ((⟨3, ![R, 1, 1]⟩ : Shape).rowMajor.symm k 1).val = 0 := Nat.lt_one_iff.1 ((⟨3, ![R, 1, 1]⟩ : Shape).rowMajor.symm k 1).isLt
  have h2 : ((⟨3, ![R, 1, 1]⟩ : Shape).rowMajor.symm k 2).val = 0 := Nat.lt_one_iff.1 ((⟨3, ![R, 1, 1]⟩ : Shape).rowMajor.symm k 2).isLt
  by_cases hn : s.val + ((⟨3, ![R, 1, 1]⟩ : Shape).rowMajor.symm k 0).val < R
  · rw [dif_pos hn]
    refine (dif_pos fun a => ?_).trans (congrArg x (funext fun a => Fin.ext ?_))
    · match a with
      | ⟨0, _⟩ =>
        show 0 ≤ s.val * 1 + ((⟨3, ![R, 1, 1]⟩ : Shape).rowMajor.symm k 0).val ∧ s.val * 1 + ((⟨3, ![R, 1, 1]⟩ : Shape).rowMajor.symm k 0).val - 0 < R
        omega
      | ⟨1, _⟩ =>
        show 0 ≤ g.val * 1 + ((⟨3, ![R, 1, 1]⟩ : Shape).rowMajor.symm k 1).val ∧ g.val * 1 + ((⟨3, ![R, 1, 1]⟩ : Shape).rowMajor.symm k 1).val - 0 < C
        omega
      | ⟨2, _⟩ =>
        show 0 ≤ i.val * 1 + ((⟨3, ![R, 1, 1]⟩ : Shape).rowMajor.symm k 2).val ∧ i.val * 1 + ((⟨3, ![R, 1, 1]⟩ : Shape).rowMajor.symm k 2).val - 0 < E
        omega
    · match a with
      | ⟨0, _⟩ =>
        show s.val * 1 + ((⟨3, ![R, 1, 1]⟩ : Shape).rowMajor.symm k 0).val - 0 = s.val + ((⟨3, ![R, 1, 1]⟩ : Shape).rowMajor.symm k 0).val
        omega
      | ⟨1, _⟩ =>
        show g.val * 1 + ((⟨3, ![R, 1, 1]⟩ : Shape).rowMajor.symm k 1).val - 0 = g.val
        omega
      | ⟨2, _⟩ =>
        show i.val * 1 + ((⟨3, ![R, 1, 1]⟩ : Shape).rowMajor.symm k 2).val - 0 = i.val
        omega
  · rw [dif_neg hn]
    refine dif_neg fun hin => hn ?_
    have h0 : s.val * 1 + ((⟨3, ![R, 1, 1]⟩ : Shape).rowMajor.symm k 0).val - 0 < R := (hin 0).2
    omega

end Cert.PoolSum

end
end
-- ==== Proof.PoolKernel.lean ====
/- The value of the pool's backward pass: what the gradient of the values holds after its run. -/
module

public import proofs.«01_k».proof.Proof.PoolSum
public import proofs.«01_k».proof.Proof.Gen.PoolIdeal.Value
public import Idealize.ShloMosaic.Lib.StableHlo.ReadAt
public import Idealize.ShloMosaic.Lib.Pointwise

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)
open Idealize.ShloMosaic.Pointwise
open Cert.PoolSum (mE dvE stepR eN poolE wOf pool_block sum_two sum_four sum_eight sum_sixteen)

/-! ## One group of a block -/

section
variable (i : grid0.Coords) (d : Vec Ideal S512x512 EltTy.bf16) (h : Vec Ideal S16x512 EltTy.bf16) (w : Vec Ideal S8x1x64x512 EltTy.bf16)

/-- The product of a block's rows, and the few after it, with the group's weights: column `x` of row `r`. -/
def aE (x : Fin 512) (r : Fin 528) : EReal :=
  ∑ o : Fin 512, (if hr : r.val < 512 then d (ix2 ⟨r.val, hr⟩ o) else h (ix2 ⟨r.val - 512, by omega⟩ o))
    * w (ix4 ⟨x.val / 64, by omega⟩ 0 ⟨x.val % 64, Nat.mod_lt _ (by omega)⟩ o)

theorem aE_low (x : Fin 512) (r : Fin 512) (hr : r.val < 528) : aE d h w x ⟨r.val, hr⟩
    = ∑ o : Fin 512, (d (ix2 r o) * w (ix4 ⟨x.val / 64, by omega⟩ 0 ⟨x.val % 64, Nat.mod_lt _ (by omega)⟩ o) : EReal) := by
  unfold aE
  simp only [Fin.is_lt, dite_true, Fin.eta]

/-- The numbers of a block's rows. -/
def vE (r : Fin 528) : BitVec 32 := k0_pay2 i (ix2 r 0)

theorem vE_eq (t : ℕ) (ht : (i 0).val = t) (r : Fin 528) : vE i r = BitVec.ofNat 32 (t * 512 + r.val) := by
  unfold vE
  pointwise [k0_pay2]
  rw [ht]
  show BitVec.ofNat 32 t * BitVec.ofNat 32 512 + BitVec.ofNat 32 r.val = _
  rw [← BitVec.ofNat_mul, ← BitVec.ofNat_add]

theorem pay_g0 (r x : Fin 512) : k0_pay3 i d h w (ix2 r x)
    = (stepR 527 (dvE 2 (vE i) (aE d h w x)) ⟨r.val, by omega⟩ - mE (vE i) (aE d h w x) ⟨r.val, by omega⟩ : EReal) := by
  pointwise [k0_pay3]
  simp only [stepR, dvE, mE, aE_low]
  rfl

theorem pay_g1 (r x : Fin 512) : k0_pay6 (k0_pay2 i) (k0_pay4 d) (k0_pay5 h) w (ix2 r x)
    = (stepR 526 (stepR 527 (dvE 4 (vE i) (aE d h w x))) ⟨r.val, by omega⟩ - mE (vE i) (aE d h w x) ⟨r.val, by omega⟩ : EReal) := by
  pointwise [k0_pay6, k0_pay4, k0_pay5]
  simp only [stepR, dvE, mE, aE_low]
  rfl

theorem pay_a (r : Fin 528) (x : Fin 512) : k0_pay7 d h w (ix2 r x) = aE d h w x r := by
  pointwise [k0_pay7]
  rfl

theorem pay_m (r : Fin 528) (x : Fin 512) : k0_pay9 (k0_pay2 i) d h w (ix2 r x) = mE (vE i) (aE d h w x) r := by
  pointwise [k0_pay9]
  rfl

theorem pay_8 (v : IVec S528x1 32) (a : FVec Ideal S528x512 FTy.f32) (r x : Fin 512) : k0_pay8 v a 8192#32 (ix2 r x)
    = (stepR 524 (stepR 526 (stepR 527 (dvE 8 (fun r => v (ix2 r 0)) fun r => a (ix2 r x)))) ⟨r.val, by omega⟩
      - mE (fun r => v (ix2 r 0)) (fun r => a (ix2 r x)) ⟨r.val, by omega⟩ : EReal) := by
  pointwise [k0_pay8]
  rfl

theorem pay_g2 (r x : Fin 512) : k0_pay8 (k0_pay2 i) (k0_pay7 d h w) 8192#32 (ix2 r x)
    = (stepR 524 (stepR 526 (stepR 527 (dvE 8 (vE i) (aE d h w x)))) ⟨r.val, by omega⟩ - mE (vE i) (aE d h w x) ⟨r.val, by omega⟩ : EReal) := by
  rw [pay_8, show (fun r => k0_pay7 d h w (ix2 r x)) = aE d h w x from funext fun r => pay_a d h w r x]
  rfl

set_option maxHeartbeats 2000000 in
theorem pay_16 (v : IVec S528x1 32) (M : FVec Ideal S528x512 FTy.f32) (r x : Fin 512) : k0_pay1 v M 1#32 (ix2 r x)
    = (stepR 520 (stepR 524 (stepR 526 (stepR 527 (fun r => Ideal.div (M (ix2 r x))
        (FloatOps.sitofp (F := Ideal) FTy.f32 (IntOp.minsi (IntOp.addi (v (ix2 r 0)) 1#32) (BitVec.ofNat 32 16))))))) ⟨r.val, by omega⟩
      - M (ix2 ⟨r.val, by omega⟩ x) : EReal) := by
  pointwise [k0_pay1]
  rfl

theorem pay_g3 (r x : Fin 512) : k0_pay1 (k0_pay2 i) (k0_pay9 (k0_pay2 i) d h w) 1#32 (ix2 r x)
    = (stepR 520 (stepR 524 (stepR 526 (stepR 527 (dvE 16 (vE i) (aE d h w x))))) ⟨r.val, by omega⟩ - mE (vE i) (aE d h w x) ⟨r.val, by omega⟩ : EReal) := by
  rw [pay_16, pay_m]
  refine congrArg (fun f => stepR 520 (stepR 524 (stepR 526 (stepR 527 f))) _ - _) (funext fun r => ?_)
  rw [pay_m]
  rfl

variable {D : Fin 8192 → EReal} {t : ℕ} (ht : t < 16) (hi : (i 0).val = t) (r x : Fin 512) (hr : t * 512 + r.val < 8192)
  (ha : ∀ (r : Fin 528) (hr : t * 512 + r.val < 8192), aE d h w x r = D ⟨t * 512 + r.val, hr⟩)
include ht hi ha

theorem out_g0 : k0_pay3 i d h w (ix2 r x) = poolE 2 D ⟨t * 512 + r.val, hr⟩ := by
  rw [pay_g0, sum_two _ _ (by show r.val + 2 ≤ 528; omega)]
  exact pool_block 2 (by omega) (by omega) ht (vE_eq i t hi) ha r hr

theorem out_g1 : k0_pay6 (k0_pay2 i) (k0_pay4 d) (k0_pay5 h) w (ix2 r x) = poolE 4 D ⟨t * 512 + r.val, hr⟩ := by
  rw [pay_g1, sum_four _ _ (by show r.val + 4 ≤ 528; omega)]
  exact pool_block 4 (by omega) (by omega) ht (vE_eq i t hi) ha r hr

theorem out_g2 : k0_pay8 (k0_pay2 i) (k0_pay7 d h w) 8192#32 (ix2 r x) = poolE 8 D ⟨t * 512 + r.val, hr⟩ := by
  rw [pay_g2, sum_eight _ _ (by show r.val + 8 ≤ 528; omega)]
  exact pool_block 8 (by omega) (by omega) ht (vE_eq i t hi) ha r hr

theorem out_g3 : k0_pay1 (k0_pay2 i) (k0_pay9 (k0_pay2 i) d h w) 1#32 (ix2 r x) = poolE 16 D ⟨t * 512 + r.val, hr⟩ := by
  rw [pay_g3, sum_sixteen _ _ (by show r.val + 16 ≤ 528; omega)]
  exact pool_block 16 (by omega) (by omega) ht (vE_eq i t hi) ha r hr

end

/-! ## The loads of a group's columns -/

theorem ld_d (a : Vec Ideal S512x2048 EltTy.bf16) (g : ℕ) (hg : g < 4) (o : ℕ) (ho : o = g * 512) (inb) (i k : Fin 512) :
    View.ld a (Rect.unit (s := S512x2048) ![0, o] ![512, 512] inb) (ix2 i k) = a (ix2 i ⟨g * 512 + k.val, by omega⟩) := by
  subst ho
  refine congrArg a (funext fun x => Fin.ext ?_)
  fin_cases x
  · show 0 + 1 * i.val = i.val
    omega
  · show g * 512 + 1 * k.val = g * 512 + k.val
    omega

theorem ld_h (a : Vec Ideal S16x2048 EltTy.bf16) (g : ℕ) (hg : g < 4) (o : ℕ) (ho : o = g * 512) (inb) (i : Fin 16) (k : Fin 512) :
    View.ld a (Rect.unit (s := S16x2048) ![0, o] ![16, 512] inb) (ix2 i k) = a (ix2 i ⟨g * 512 + k.val, by omega⟩) := by
  subst ho
  refine congrArg a (funext fun x => Fin.ext ?_)
  fin_cases x
  · show 0 + 1 * i.val = i.val
    omega
  · show g * 512 + 1 * k.val = g * 512 + k.val
    omega

theorem ld_w (w : Vec Ideal S8x4x64x512 EltTy.bf16) (g : ℕ) (hg : g < 4) (inb) (p : Fin 8) (q : Fin 64) (o : Fin 512) :
    View.ld w (Rect.unit (s := S8x4x64x512) ![0, g, 0, 0] ![8, 1, 64, 512] inb) (ix4 p 0 q o) = w (ix4 p ⟨g, hg⟩ q o) := by
  refine congrArg w (funext fun x => Fin.ext ?_)
  fin_cases x
  · show 0 + 1 * p.val = p.val
    omega
  · show g + 1 * 0 = g
    omega
  · show 0 + 1 * q.val = q.val
    omega
  · show 0 + 1 * o.val = o.val
    omega

/-! ## The blocks -/

variable (m : (ℓ : Loc nD τ sig) → Buf (Elt Ideal) ℓ) (c : Dev nD)

/-- The group weights. -/
abbrev wA (i : S4x512x512.Idx) : EReal := m ((c.tc : Thread nD τ).loc main_arg1) i
/-- The cotangent of the mixed rows. -/
abbrev dmA (i : S8192x2048.Idx) : EReal := m ((c.tc : Thread nD τ).loc main_arg2) i

/-- The cotangent of the pooled rows: group `g`, column `i` of row `s`. -/
def dA (g : Fin 4) (i : Fin 512) (s : Fin 8192) : EReal :=
  ∑ o : Fin 512, dmA m c (ix2 s ⟨g.val * 512 + o.val, by omega⟩) * wA m c (ix3 g i o)

theorem idx : ∀ t : Fin cfg0.N, win0_0.index t = ![t.val, 0] ∧ win0_1.index t = ![min ((t.val + 1) * 32) 511, 0] ∧ win0_2.index t = ![0, 0, 0, 0]
    ∧ win0_3.index t = ![t.val, 0] ∧ (grid0.coords t 0).val = t.val :=
  (by decide +kernel : ∀ t : Fin grid0.N, _)

theorem blk_d (t : Fin cfg0.N) (a : Fin 512) (hr : t.val * 512 + a.val < 8192) (x : Fin 2048) :
    (iblk m c 0 t : S512x2048.Idx → EReal) (ix2 a x) = dmA m c (ix2 ⟨t.val * 512 + a.val, hr⟩ x) := by
  blk_point [iblk, V, idx t]

theorem blk_h (t : Fin cfg0.N) (a : Fin 16) (hr : (t.val + 1) * 512 + a.val < 8192) (x : Fin 2048) :
    (iblk m c 1 t : S16x2048.Idx → EReal) (ix2 a x) = dmA m c (ix2 ⟨(t.val + 1) * 512 + a.val, hr⟩ x) := by
  have e : min ((t.val + 1) * 32) 511 * 16 + a.val = (t.val + 1) * 512 + a.val := by omega
  blk_point [iblk, V, idx t]

theorem blk_w (t : Fin cfg0.N) (p : Fin 8) (g : Fin 4) (q : Fin 64) (o : Fin 512) :
    (iblk m c 2 t : S8x4x64x512.Idx → EReal) (ix4 p g q o) = wA m c (ix3 g ⟨p.val * 64 + q.val, by omega⟩ o) := by
  blk_point [iblk, V, idx t]

/-- A block's products are rows of the pooled rows' cotangent. -/
theorem blk_a (t : Fin cfg0.N) (g : Fin 4) (o : ℕ) (ho : o = g.val * 512) (i1 i2 i3) (x : Fin 512) (r : Fin 528) (hr : t.val * 512 + r.val < 8192) :
    aE (View.ld (iblk m c 0 t : Vec Ideal S512x2048 EltTy.bf16) (Rect.unit (s := S512x2048) ![0, o] ![512, 512] i1))
      (View.ld (iblk m c 1 t : Vec Ideal S16x2048 EltTy.bf16) (Rect.unit (s := S16x2048) ![0, o] ![16, 512] i2))
      (View.ld (iblk m c 2 t : Vec Ideal S8x4x64x512 EltTy.bf16) (Rect.unit (s := S8x4x64x512) ![0, g.val, 0, 0] ![8, 1, 64, 512] i3)) x r
      = dA m c g x ⟨t.val * 512 + r.val, hr⟩ := by
  unfold aE dA
  refine Finset.sum_congr rfl fun k _ => congrArg₂ (fun a b : EReal => a * b) ?_ ?_
  · split_ifs with h
    · rw [ld_d _ g.val g.isLt o ho, blk_d m c t _ hr]
    · rw [ld_h _ g.val g.isLt o ho, blk_h m c t _ (by show (t.val + 1) * 512 + (r.val - 512) < 8192; omega)]
      refine congrArg (fun s => dmA m c (ix2 s _)) (Fin.ext ?_)
      show (t.val + 1) * 512 + (r.val - 512) = t.val * 512 + r.val
      omega
  · rw [ld_w _ g.val g.isLt, blk_w m c t]
    refine congrArg (fun s => wA m c (ix3 g s k)) (Fin.ext ?_)
    show x.val / 64 * 64 + x.val % 64 = x.val
    omega

/-- A column of the block is in one group. -/
theorem which (g : Fin 4) (n : ℕ) (r x : Fin 512) (j : S512x512.Idx) (h0 : r.val = (j 0).val) (h1 : g.val * 512 + x.val = n * 512 + (j 1).val) :
    g.val = n ∧ j = ix2 r x := by
  have hj : (j 1).val < 512 := (j 1).isLt
  refine ⟨by omega, ?_⟩
  rw [eq_ix2 j]
  exact congrArg₂ ix2 (Fin.ext h0.symm) (Fin.ext (by omega))

/-- Block `t` of the gradient: row `r`, column `x` of group `g`. -/
theorem after_at (t : Fin cfg0.N) (r : Fin 512) (g : Fin 4) (x : Fin 512) (hr : t.val * 512 + r.val < 8192) :
    out0_3 (grid0.coords t) (iblk m c 0 t) (iblk m c 1 t) (iblk m c 2 t) (ix2 r ⟨g.val * 512 + x.val, by omega⟩)
      = poolE (wOf g) (dA m c g x) ⟨t.val * 512 + r.val, hr⟩ := by
  have ht : t.val < 16 := lt_of_lt_of_eq t.isLt N_0
  have hi := (idx t).2.2.2.2
  unfold out0_3 k0_pay10
  generalize hj : (ix2 r ⟨g.val * 512 + x.val, by omega⟩ : S512x2048.Idx) = j
  canon_tiles j h
  · subst hj
    obtain ⟨hg, rfl⟩ := which g 3 r x _ h0 (h1)
    obtain rfl : g = 3 := Fin.ext hg
    exact out_g3 (grid0.coords t) _ _ _ ht hi r x hr fun r hr => blk_a m c t 3 1536 rfl _ _ _ x r hr
  · subst hj
    obtain ⟨hg, rfl⟩ := which g 2 r x _ h0 (h1)
    obtain rfl : g = 2 := Fin.ext hg
    exact out_g2 (grid0.coords t) _ _ _ ht hi r x hr fun r hr => blk_a m c t 2 1024 rfl _ _ _ x r hr
  · subst hj
    obtain ⟨hg, rfl⟩ := which g 1 r x _ h0 (h1)
    obtain rfl : g = 1 := Fin.ext hg
    exact out_g1 (grid0.coords t) _ _ _ ht hi r x hr fun r hr => blk_a m c t 1 512 rfl _ _ _ x r hr
  · subst hj
    obtain ⟨hg, rfl⟩ := which g 0 r x _ h0 (h1.trans (Nat.zero_add _).symm)
    obtain rfl : g = 0 := Fin.ext hg
    exact out_g0 (grid0.coords t) _ _ _ ht hi r x hr fun r hr => blk_a m c t 0 0 rfl _ _ _ x r hr

/-! ## The array -/

/-- The gradient at row `s`, column `y`. -/
def outA (s : Fin 8192) (y : Fin 2048) : EReal :=
  poolE (wOf ⟨y.val / 512, by omega⟩) (dA m c ⟨y.val / 512, by omega⟩ ⟨y.val % 512, Nat.mod_lt _ (by omega)⟩) s

theorem arr3 (s : Fin 8192) (g : Fin 4) (x : Fin 512) : (dats m 0 c).arrAt 3 cfg0.N (ix2 s ⟨g.val * 512 + x.val, by omega⟩ : S8192x2048.Idx)
    = poolE (wOf g) (dA m c g x) s := by
  have key : (dats m 0 c).arrAt 3 cfg0.N = fun j : S8192x2048.Idx => outA m c (j 0) (j 1) := by
    refine Dat.arrAt_eq_of_covers _ 3 _ (by decide +kernel) fun t hf y => ?_
    blk_simp
    rw [after0_3]
    have ht : t.val < 16 := lt_of_lt_of_eq t.isLt N_0
    have hy : t.val * 512 + (y 0).val < 8192 := by have : (y 0).val < 512 := (y 0).isLt; omega
    have e : ((((cfg0.win 3).blk t).view.emb y) : S8192x2048.Idx) = ix2 ⟨t.val * 512 + (y 0).val, hy⟩ (y 1) := by
      blk_ext [idx t]
    rw [e]
    obtain ⟨i, k, rfl⟩ : ∃ i k, y = ix2 i k := ⟨_, _, eq_ix2 y⟩
    have hk : k.val < 2048 := k.isLt
    have ek : k = ⟨(⟨k.val / 512, by omega⟩ : Fin 4).val * 512 + (⟨k.val % 512, Nat.mod_lt _ (by omega)⟩ : Fin 512).val, by
        show k.val / 512 * 512 + k.val % 512 < 2048; omega⟩ := Fin.ext (by
      show k.val = k.val / 512 * 512 + k.val % 512
      omega)
    refine (congrArg (fun k => out0_3 (grid0.coords t) (iblk m c 0 t) (iblk m c 1 t) (iblk m c 2 t) (ix2 i k)) ek).trans ?_
    exact after_at m c t i ⟨k.val / 512, by omega⟩ ⟨k.val % 512, Nat.mod_lt _ (by omega)⟩ hy
  rw [key]
  have h1 : (⟨(g.val * 512 + x.val) / 512, by omega⟩ : Fin 4) = g := Fin.ext (by show (g.val * 512 + x.val) / 512 = g.val; omega)
  have h2 : (⟨(g.val * 512 + x.val) % 512, Nat.mod_lt _ (by omega)⟩ : Fin 512) = x := Fin.ext (by show (g.val * 512 + x.val) % 512 = x.val; omega)
  show poolE (wOf (⟨(g.val * 512 + x.val) / 512, _⟩ : Fin 4)) (dA m c (⟨(g.val * 512 + x.val) / 512, _⟩ : Fin 4) (⟨(g.val * 512 + x.val) % 512, _⟩ : Fin 512)) s = _
  rw [h1, h2]

end Cert.PoolIdeal.Value

end
end
-- ==== Proof.PoolRef.lean ====
/- The value of the pool's reference: the gradient of the values, read as sums over the later rows. -/
module

public import proofs.«01_k».proof.Proof.PoolSum
public import proofs.«01_k».proof.Proof.Gen.PoolRefIdeal.Read
public import Idealize.ShloMosaic.Lib.StableHlo.ReadAt
public import Idealize.ShloMosaic.Lib.Pointwise

@[expose] public section

set_option maxRecDepth 16384

noncomputable section

namespace Cert.PoolRefIdeal.Read

open Cert.PoolRefIdeal Idealize.ShloMosaic Idealize.ShloMosaic.TcCoe Idealize.SL.Sem
open Idealize.ShloMosaic.Pointwise
open Cert.PoolSum (cE lagE poolE wOf suffix_sum suffix_pool)

variable {x1 : (⟨S4x512x512, .f32⟩ : BufTy).Contents (Elt Ideal)} {x2 : (⟨S8192x2048, .f32⟩ : BufTy).Contents (Elt Ideal)}

/-- The cotangent of the pooled rows: group `g`, column `i` of row `s`. -/
def dR (x1 : S4x512x512.Idx → EReal) (x2 : S8192x2048.Idx → EReal) (g : Fin 4) (i : Fin 512) (s : Fin 8192) : EReal :=
  ∑ o : Fin 512, x2 (ix2 s ⟨g.val * 512 + o.val, by omega⟩) * x1 (ix3 g i o)

theorem val_d (s : Fin 8192) (g : Fin 4) (i : Fin 512) : val_main_v86 x1 x2 (ix3 s g i) = dR x1 x2 g i s := by
  pointwise [val_main_v86, val_main_v85, val_main_v84, val_main_v83]
  rfl

theorem val_d0 (s : Fin 8192) (i : Fin 512) : val_main_v88 x1 x2 (ix2 s i) = dR x1 x2 0 i s := by
  pointwise [val_main_v88, val_main_v87]
  exact val_d s 0 i

theorem val_c0 (s : Fin 8192) : (val_main_v14 (ix2 s 0) : Elt Ideal EltTy.f32) = cE 2 s.val := by
  pointwise [val_main_v14, val_main_v13, val_main_v12, val_main_v10, val_main_v2, val_main_v9, val_main_c, val_main_v11, val_main_c_1]
  rfl

theorem val_lag0 (s : Fin 8192) (i : Fin 512) : val_main_v148 x1 x2 (ix3 s 0 i) = lagE 2 (dR x1 x2 0 i) s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  simp only [val_d0, val_c0]
  rfl

theorem val_own0 (s : Fin 8192) (i : Fin 512) : val_main_v138 x1 x2 (ix3 s 0 i) = -dR x1 x2 0 i s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  rw [val_d0]

theorem val_d1 (s : Fin 8192) (i : Fin 512) : val_main_v90 x1 x2 (ix2 s i) = dR x1 x2 1 i s := by
  pointwise [val_main_v90, val_main_v89]
  exact val_d s 1 i

theorem val_c1 (s : Fin 8192) : (val_main_v32 (ix2 s 0) : Elt Ideal EltTy.f32) = cE 4 s.val := by
  pointwise [val_main_v32, val_main_v31, val_main_v30, val_main_v28, val_main_v2, val_main_v27, val_main_c_4, val_main_v29, val_main_c_5]
  rfl

theorem val_lag1 (s : Fin 8192) (i : Fin 512) : val_main_v148 x1 x2 (ix3 s 1 i) = lagE 4 (dR x1 x2 1 i) s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  simp only [val_d1, val_c1]
  rfl

theorem val_own1 (s : Fin 8192) (i : Fin 512) : val_main_v138 x1 x2 (ix3 s 1 i) = -dR x1 x2 1 i s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  rw [val_d1]

theorem val_d2 (s : Fin 8192) (i : Fin 512) : val_main_v92 x1 x2 (ix2 s i) = dR x1 x2 2 i s := by
  pointwise [val_main_v92, val_main_v91]
  exact val_d s 2 i

theorem val_c2 (s : Fin 8192) : (val_main_v50 (ix2 s 0) : Elt Ideal EltTy.f32) = cE 8 s.val := by
  pointwise [val_main_v50, val_main_v49, val_main_v48, val_main_v46, val_main_v2, val_main_v45, val_main_c_8, val_main_v47, val_main_c_9]
  rfl

theorem val_lag2 (s : Fin 8192) (i : Fin 512) : val_main_v148 x1 x2 (ix3 s 2 i) = lagE 8 (dR x1 x2 2 i) s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  simp only [val_d2, val_c2]
  rfl

theorem val_own2 (s : Fin 8192) (i : Fin 512) : val_main_v138 x1 x2 (ix3 s 2 i) = -dR x1 x2 2 i s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  rw [val_d2]

theorem val_d3 (s : Fin 8192) (i : Fin 512) : val_main_v94 x1 x2 (ix2 s i) = dR x1 x2 3 i s := by
  pointwise [val_main_v94, val_main_v93]
  exact val_d s 3 i

theorem val_c3 (s : Fin 8192) : (val_main_v68 (ix2 s 0) : Elt Ideal EltTy.f32) = cE 16 s.val := by
  pointwise [val_main_v68, val_main_v67, val_main_v66, val_main_v64, val_main_v2, val_main_v63, val_main_c_12, val_main_v65, val_main_c_13]
  rfl

theorem val_lag3 (s : Fin 8192) (i : Fin 512) : val_main_v148 x1 x2 (ix3 s 3 i) = lagE 16 (dR x1 x2 3 i) s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  simp only [val_d3, val_c3]
  rfl

theorem val_own3 (s : Fin 8192) (i : Fin 512) : val_main_v138 x1 x2 (ix3 s 3 i) = -dR x1 x2 3 i s := by
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_cst_14, val_main_cst_15, val_main_cst_16, val_main_cst_17, val_main_cst_18, val_main_cst_19, val_main_cst_20, val_main_cst_21, val_main_cst_22, val_main_cst_23, val_main_cst_24, val_main_cst_25]
  rw [val_d3]

theorem val_lag (s : Fin 8192) (g : Fin 4) (i : Fin 512) : val_main_v148 x1 x2 (ix3 s g i) = lagE (wOf g) (dR x1 x2 g i) s := by
  fin_cases g
  · exact val_lag0 s i
  · exact val_lag1 s i
  · exact val_lag2 s i
  · exact val_lag3 s i

theorem val_own (s : Fin 8192) (g : Fin 4) (i : Fin 512) : val_main_v138 x1 x2 (ix3 s g i) = -dR x1 x2 g i s := by
  fin_cases g
  · exact val_own0 s i
  · exact val_own1 s i
  · exact val_own2 s i
  · exact val_own3 s i

theorem val_sum (s : Fin 8192) (g : Fin 4) (i : Fin 512) : val_main_v149 x1 x2 (ix3 s g i)
    = ∑ n : Fin 8192, if h : s.val + n.val < 8192 then (val_main_v148 x1 x2 (ix3 ⟨s.val + n.val, h⟩ g i) : EReal) else 0 := by
  unfold val_main_v149
  generalize val_main_v148 x1 x2 = x
  have hz : ∀ hu, (val_main_call1_call0_v0 (F := Ideal)) (Shape.Idx.first hu) = (0 : EReal) := fun hu => by
    pointwise [val_main_call1_call0_v0, val_main_call1_call0_cst]
  exact suffix_sum (R := 8192) (Rm1 := 8191) (C := 4) (E := 512) x _ _ _ (hz _) s g i

theorem val_group (hD : ∀ g i s, ∃ r : ℝ, dR x1 x2 g i s = r) (s : Fin 8192) (g : Fin 4) (i : Fin 512) :
    val_main_v150 x1 x2 (ix3 s g i) = poolE (wOf g) (dR x1 x2 g i) s := by
  have hw : wOf g ≤ 16 ∧ 0 < wOf g := by
    revert g
    decide
  refine Eq.trans ?_ (suffix_pool (wOf g) hw.1 hw.2 (dR x1 x2 g i) (hD g i) s)
  refine congrArg₂ (fun a b : EReal => a + b) (val_own s g i) ?_
  refine (val_sum s g i).trans ?_
  simp only [val_lag]

/-- The gradient of the values: row `s`, column `i` of group `g`. -/
theorem val_out (hD : ∀ g i s, ∃ r : ℝ, dR x1 x2 g i s = r) (s : Fin 8192) (g : Fin 4) (i : Fin 512) :
    val_main_v152 x1 x2 (ix2 s ⟨g.val * 512 + i.val, by omega⟩) = poolE (wOf g) (dR x1 x2 g i) s := by
  pointwise [val_main_v152, val_main_v151]
  exact val_group hD s g i

end Cert.PoolRefIdeal.Read

end
end
-- ==== Proof.PoolClaims.lean ====
/- The claims about the pool's backward pass: its reference's frame, and that both compute the same gradient. -/
module

public import proofs.«01_k».proof.Defs
public import proofs.«01_k».proof.Proof.PoolKernel
public import proofs.«01_k».proof.Proof.PoolRef
public import proofs.«01_k».proof.Proof.Gen.Pool.Frame
public import proofs.«01_k».proof.Proof.Gen.PoolRefIdeal.Run
public import proofs.«01_k».proof.Proof.Gen.Pre_pool_finite
public import Idealize.ShloMosaic.Adequacy
public import Idealize.ShloMosaic.Init

@[expose] public section

set_option maxRecDepth 16384

noncomputable section

namespace Cert.PoolClaims

open Idealize.ShloMosaic Idealize.ShloMosaic.TcCoe Idealize.SL.Sem Cert.Coe

theorem frame_ref : Cert.quiescent_PoolRefIdeal_pre_pool_finite := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem frame_ref' : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The precondition, read as: every entry of the weights and of the cotangent is a real. -/
theorem finite_args (x1 : FVec Ideal Cert.Pre_pool_finite.S4x512x512 .f32) (x2 : FVec Ideal Cert.Pre_pool_finite.S8192x2048 .f32)
    (x0 : FVec Ideal Cert.Pre_pool_finite.S8192x2048 .f32) (e : ∀ i, Cert.Pre_pool_finite.fn x0 x1 x2 i = 1#1) :
    (∀ i, ∃ r : ℝ, x1 i = r) ∧ (∀ i, ∃ r : ℝ, x2 i = r) := by
  have e := e (fun a : Fin 0 => a.elim0)
  obtain ⟨e1, e2⟩ := IntOp.andi_eq_one.1 e
  exact ⟨real_of_test x1 _ _ _ _ e1, real_of_test x2 _ _ _ _ e2⟩

theorem sum_real {n : ℕ} {a b : Fin n → EReal} (ha : ∀ o, ∃ r : ℝ, a o = r) (hb : ∀ o, ∃ r : ℝ, b o = r) : ∃ r : ℝ, ∑ o, a o * b o = r := by
  obtain ⟨a, rfl⟩ := reals_of ha
  obtain ⟨b, rfl⟩ := reals_of hb
  simp only [← EReal.coe_mul, sum_coe]
  exact ⟨_, rfl⟩

theorem algebraic : Cert.algebraic_PoolIdeal_PoolRefIdeal_pre_pool_finite := by
  intro m ρ m' ρ' pre hag
  refine ⟨fun c => (Cert.PoolIdeal.Gen.dats m 0 c).arrAt 3 Cert.PoolIdeal.cfg0.N,
    (θ_run Cert.PoolIdeal.defs _ _).mono (fun r h c => h c) (Cert.PoolIdeal.Value.run_blocks m ρ), ?_⟩
  refine (θ_run Cert.PoolRefIdeal.defs _ _).mono (fun r h c => ?_) (Cert.PoolRefIdeal.Value.run (F := Ideal) m' ρ')
  obtain ⟨r0, k⟩ := h c
  obtain ⟨a0, a1, a2⟩ := hag c
  obtain ⟨f1, f2⟩ := finite_args _ _ _ (fun i => congrFun (pre c) i)
  refine ⟨(r0.trans (Cert.PoolRefIdeal.Read.val_main_v152_eq (StableHlo.launchContents m' c))).trans ?_, k⟩
  show Cert.PoolRefIdeal.Read.val_main_v152 (m' ((c.tc : Thread Cert.PoolRefIdeal.nD Cert.PoolRefIdeal.τ).loc Cert.PoolRefIdeal.main_arg1))
    (m' ((c.tc : Thread Cert.PoolRefIdeal.nD Cert.PoolRefIdeal.τ).loc Cert.PoolRefIdeal.main_arg2)) = _
  rw [a1, a2]
  funext j
  obtain ⟨s, y, rfl⟩ : ∃ s y, j = ix2 s y := ⟨_, _, eq_ix2 j⟩
  obtain ⟨g, x, rfl⟩ : ∃ (g : Fin 4) (x : Fin 512), y = ⟨g.val * 512 + x.val, by omega⟩ :=
    ⟨⟨y.val / 512, by have : y.val < 2048 := y.isLt; omega⟩, ⟨y.val % 512, Nat.mod_lt _ (by omega)⟩, Fin.ext (by
      show y.val = y.val / 512 * 512 + y.val % 512
      omega)⟩
  exact (Cert.PoolRefIdeal.Read.val_out (fun g i s => sum_real (fun _ => f2 _) (fun _ => f1 _)) s g x).trans
    (Cert.PoolIdeal.Value.arr3 m c s g x).symm

end Cert.PoolClaims

end
end
-- ==== Proof.ModsKernel.lean ====
/- The value of the gradient of the modulations: what the two weights' gradients hold after its run. -/
module

public import proofs.«01_k».proof.Proof.Coe
public import proofs.«01_k».proof.Proof.Gen.ModsIdeal.Value
public import Idealize.ShloMosaic.Lib.StableHlo.ReadAt
public import Idealize.ShloMosaic.Lib.Pointwise

@[expose] public section

set_option maxRecDepth 16384

noncomputable section

namespace Cert.ModsIdeal.Value

open Cert.ModsIdeal Cert.ModsIdeal.Gen Idealize.ShloMosaic Idealize.ShloMosaic.TcCoe Idealize.SL.Sem
open Idealize.ShloMosaic.Pipeline (Dat)
open Idealize.ShloMosaic.Pointwise

/-! ## One entry -/
/-! ## One entry -/

/-- `c σ(c)`. -/
def siluE (c : EReal) : EReal := c * Ideal.div 1 (1 + Ideal.exp (0 - c))

section
variable (x : Vec Ideal S8x1024 .f32) (y : Vec Ideal S8x384 .f32)

theorem pay_layer (i : Fin 1) (e : Fin 1024) (j : Fin 384) :
    k0_pay4 x y (ix3 i e j) = (∑ b : Fin 8, siluE (x (ix2 b e)) * y (ix2 b j) : EReal) := by
  pointwise [k0_pay4, k0_pay3]
  rfl

theorem pay_same5 : k0_pay5 x y = k0_pay4 x y := rfl
theorem pay_same6 : k0_pay6 x y = k0_pay4 x y := rfl
theorem pay_same7 : k0_pay1 (k0_pay7 x y) = k0_pay4 x y := rfl

theorem pay_kv (z : Vec Ideal S8x256 .f32) (e : Fin 1024) (j : Fin 256) :
    k0_pay2 (k0_pay3 x) z (ix2 e j) = (∑ b : Fin 8, siluE (x (ix2 b e)) * z (ix2 b j) : EReal) := by
  pointwise [k0_pay2, k0_pay3]
  rfl
end

/-! ## The two arrays -/

variable (m : (ℓ : Loc nD τ sig) → Buf (Elt Ideal) ℓ) (c : Dev nD)

abbrev cA : S8x1024.Idx → EReal := m ((c : Thread nD τ).loc main_arg0)
abbrev dmodsA : S8x1792.Idx → EReal := m ((c : Thread nD τ).loc main_arg3)

/-- Column `j` of layer `l`, among the columns of all products. -/
def layerCol (l : Fin 4) (j : Fin 384) : Fin 1792 := ⟨l.val * 384 + j.val, by omega⟩

/-- Column `j` of the keys' and values' modulation, after the four layers'. -/
def kvCol (j : Fin 256) : Fin 1792 := ⟨1536 + j.val, by omega⟩

/-- An entry of a weight's gradient: the activated condition's column against the cotangent's. -/
def prodA (e : Fin 1024) (j : Fin 1792) : EReal := ∑ b : Fin 8, siluE (cA m c (ix2 b e)) * dmodsA m c (ix2 b j)

theorem idx : win0_0.index t0_0 = ![0, 0] ∧ win0_1.index t0_0 = ![0, 0] := by decide +kernel

theorem blk_c (b : Fin 8) (e : Fin 1024) : (View.ld (iblk m c 0 t0_0) r0_0 : S8x1024.Idx → EReal) (ix2 b e) = cA m c (ix2 b e) := by
  blk_point [iblk, V, idx, r0_0]

/-- One layer's product is that layer of the array, when its cotangent is that layer's columns. -/
theorem layer_eq (l : Fin 4) (y : Vec Ideal S8x384 .f32) (hy : ∀ b j, y (ix2 b j) = dmodsA m c (ix2 b (layerCol l j)))
    (x : S1x1024x384.Idx) (j : S4x1024x384.Idx) (h0 : (j 0).val = l.val + (x 0).val) (h1 : (j 1).val = (x 1).val) (h2 : (j 2).val = (x 2).val) :
    k0_pay4 (View.ld (iblk m c 0 t0_0) r0_0) y x = prodA m c (j 1) (layerCol (j 0) (j 2)) := by
  obtain ⟨i, e, k, rfl⟩ : ∃ i e k, x = ix3 i e k := ⟨_, _, _, eq_ix3 x⟩
  have e0 : j 0 = l := Fin.ext (by have : i.val < 1 := i.isLt; have : (ix3 i e k 0 : Fin 1).val = i.val := rfl; omega)
  have e1 : j 1 = e := Fin.ext h1
  have e2 : j 2 = k := Fin.ext h2
  rw [pay_layer, e0, e1, e2]
  unfold prodA
  simp only [blk_c, hy]

theorem arr2 : (dats m 0 c).arrAt 2 cfg0.N = fun j : S4x1024x384.Idx => prodA m c (j 1) (layerCol (j 0) (j 2)) := by
  refine Dat.arrAt_eq_of_after_last _ 2 t0_0 (by decide +kernel) _ fun j => ?_
  blk_simp
  rw [after0_2]
  unfold out0_2
  canon_tiles x h
  · rw [pay_same7]
    refine layer_eq m c 3 _ (fun b j => ?_) x j h0 h1 h2
    blk_point [iblk, V, idx, r0_7, layerCol]
  · rw [pay_same6]
    refine layer_eq m c 2 _ (fun b j => ?_) x j h0 h1 h2
    blk_point [iblk, V, idx, r0_5, layerCol]
  · rw [pay_same5]
    refine layer_eq m c 1 _ (fun b j => ?_) x j h0 h1 h2
    blk_point [iblk, V, idx, r0_3, layerCol]
  · refine layer_eq m c 0 _ (fun b j => ?_) x j (h0.trans (zero_add _).symm) h1 h2
    blk_point [iblk, V, idx, r0_1, layerCol]

theorem blk_kv (b : Fin 8) (j : Fin 256) : (View.ld (iblk m c 1 t0_0) r0_9 : S8x256.Idx → EReal) (ix2 b j)
    = dmodsA m c (ix2 b (kvCol j)) := by
  blk_point [iblk, V, idx, r0_9, kvCol]

theorem arr3 : (dats m 0 c).arrAt 3 cfg0.N = fun j : S1024x256.Idx => prodA m c (j 0) (kvCol (j 1)) := by
  refine Dat.arrAt_eq_of_after_last _ 3 t0_0 (by decide +kernel) _ fun j => ?_
  blk_simp
  rw [after0_3]
  unfold out0_3
  canon_tiles x h
  obtain ⟨e, k, rfl⟩ : ∃ e k, x = ix2 e k := ⟨_, _, eq_ix2 x⟩
  have e1 : j 0 = e := Fin.ext h0
  have e2 : j 1 = k := Fin.ext h1
  refine (pay_kv _ _ e k).trans ?_
  rw [e1, e2]
  unfold prodA
  simp only [blk_c, blk_kv]

end Cert.ModsIdeal.Value

end
end
-- ==== Proof.ModsRef.lean ====
/- The reference of the modulations' gradient read pointwise: the derivative of the plain forward lines, entry by entry. -/
module

public import proofs.«01_k».proof.Proof.Coe
public import proofs.«01_k».proof.Proof.Gen.ModsRefIdeal.Read
public import Idealize.ShloMosaic.Lib.Pointwise

@[expose] public section

set_option maxRecDepth 16384

noncomputable section

namespace Cert.ModsRefIdeal.Read

open Cert.ModsRefIdeal Cert.ModsRefIdeal.Gen Idealize.ShloMosaic Idealize.ShloMosaic.Pointwise

variable (x0 : S8x1024.Idx → EReal) (x3 : S8x1792.Idx → EReal)

theorem val_act (b : Fin 8) (e : Fin 1024) : val_main_v0 (F := Ideal) x0 (ix2 b e) = x0 (ix2 b e) * Ideal.div 1 (1 + Ideal.exp (-x0 (ix2 b e))) := by
  pointwise [val_main_v0, val_main_call0_v5, val_main_call0_v4, val_main_call0_v3, val_main_call0_cst_0,
    val_main_call0_cst, val_main_call0_v2, val_main_call0_v1, val_main_call0_v0]

theorem val_kv (e : Fin 1024) (j : Fin 256) : val_main_v21 (F := Ideal) x0 x3 (ix2 e j)
    = ∑ b : Fin 8, x3 (ix2 b ⟨1536 + j.val, by omega⟩) * val_main_v0 (F := Ideal) x0 (ix2 b e) := by
  pointwise [val_main_v21, val_main_v20, val_main_v19]

theorem val_layers (l : Fin 4) (e : Fin 1024) (j : Fin 384) : val_main_v40 (F := Ideal) x0 x3 (ix3 l e j)
    = ∑ b : Fin 8, x3 (ix2 b ⟨l.val * 384 + j.val, by omega⟩) * val_main_v0 (F := Ideal) x0 (ix2 b e) := by
  pointwise [val_main_v40, val_main_v39, val_main_v35, val_main_v34, val_main_v30, val_main_v29, val_main_v25, val_main_v24, val_main_v28, val_main_v33, val_main_v38,
    val_main_v37, val_main_v36, val_main_v32, val_main_v31, val_main_v27, val_main_v26, val_main_v23, val_main_v22, val_main_v15, val_main_v16, val_main_v17, val_main_v18, val_main_cst, val_main_cst_0, val_main_cst_1, val_main_cst_2]
  fin_cases l
  all_goals simp [-EReal.coe_mul]

end Cert.ModsRefIdeal.Read

end
end
-- ==== Proof.ModsClaims.lean ====
/- The claims about the gradient of the modulations: its reference's frame, and that both compute the same two gradients. -/
module

public import proofs.«01_k».proof.Defs
public import proofs.«01_k».proof.Proof.ModsKernel
public import proofs.«01_k».proof.Proof.ModsRef
public import proofs.«01_k».proof.Proof.Gen.Mods.Frame
public import proofs.«01_k».proof.Proof.Gen.ModsRefIdeal.Run
public import Idealize.ShloMosaic.Adequacy
public import Idealize.ShloMosaic.Init

@[expose] public section

set_option maxRecDepth 16384

noncomputable section

namespace Cert.ModsClaims

open Idealize.ShloMosaic Idealize.ShloMosaic.TcCoe Idealize.SL.Sem Cert.Coe

theorem frame_ref : Cert.quiescent_ModsRefIdeal := fun m ρ _ =>
  (θ_run Cert.ModsRefIdeal.defs _ _).mono (fun r h => ⟨fun c => (h c).2.2, sem_eq_zero_of_no_sems (by decide) r.2⟩)
    (Cert.ModsRefIdeal.Value.run (F := Ideal) m ρ)

theorem algebraic : Cert.algebraic_ModsIdeal_ModsRefIdeal := by
  intro m ρ m' ρ' _ hag
  refine ⟨fun c => (Cert.ModsIdeal.Gen.dats m 0 c).arrAt 2 Cert.ModsIdeal.cfg0.N, fun c => (Cert.ModsIdeal.Gen.dats m 0 c).arrAt 3 Cert.ModsIdeal.cfg0.N,
    (θ_run Cert.ModsIdeal.defs _ _).mono (fun r h c => h c) (Cert.ModsIdeal.Value.run_blocks m ρ), ?_⟩
  refine (θ_run Cert.ModsRefIdeal.defs _ _).mono (fun r h c => ?_) (Cert.ModsRefIdeal.Value.run (F := Ideal) m' ρ')
  obtain ⟨r0, r1, k⟩ := h c
  obtain ⟨a0, a1, a2, a3⟩ := hag c
  refine ⟨(r0.trans (Cert.ModsRefIdeal.Read.val_main_v40_eq _ _)).trans (Eq.trans ?_ (Cert.ModsIdeal.Value.arr2 m c).symm),
    (r1.trans (Cert.ModsRefIdeal.Read.val_main_v21_eq _ _)).trans (Eq.trans ?_ (Cert.ModsIdeal.Value.arr3 m c).symm), k⟩
  · rw [a0, a3]
    funext j
    obtain ⟨l, e, x, rfl⟩ : ∃ l e x, j = ix3 l e x := ⟨_, _, _, eq_ix3 j⟩
    refine (Cert.ModsRefIdeal.Read.val_layers _ _ l e x).trans (Finset.sum_congr rfl fun b _ => ?_)
    rw [Cert.ModsRefIdeal.Read.val_act, ← zero_sub]
    exact mul_comm _ _
  · rw [a0, a3]
    funext j
    obtain ⟨e, x, rfl⟩ : ∃ e x, j = ix2 e x := ⟨_, _, eq_ix2 j⟩
    refine (Cert.ModsRefIdeal.Read.val_kv _ _ e x).trans (Finset.sum_congr rfl fun b _ => ?_)
    rw [Cert.ModsRefIdeal.Read.val_act, ← zero_sub]
    exact mul_comm _ _

end Cert.ModsClaims

end
end
-- ==== Proof.GateFKernel.lean ====
/- The value of the gate's forward call: what the gated product and the residual stream hold after its run. -/
module

public import proofs.«01_k».proof.Proof.Coe
public import proofs.«01_k».proof.Proof.Gen.GateFIdeal.Value
public import Idealize.ShloMosaic.Lib.StableHlo.ReadAt
public import Idealize.ShloMosaic.Lib.Pointwise

@[expose] public section

set_option maxRecDepth 16384

noncomputable section

namespace Cert.GateFIdeal.Value

open Cert.GateFIdeal Cert.GateFIdeal.Gen Idealize.ShloMosaic Idealize.ShloMosaic.TcCoe Idealize.SL.Sem
open Idealize.ShloMosaic.Pipeline (Dat)
open Idealize.ShloMosaic.Pointwise

/-! ## One entry -/

/-- An entry of the gated product, from its three factors. -/
def gatedE (m a z : EReal) : EReal := m * a * (z * Ideal.div 1 (1 + Ideal.exp (0 - z)))

section
variable (z m : Vec Ideal S512x2048 .bf16) (a : Vec Ideal S1x2048 .f32) (w : Vec Ideal S8x256x1024 .bf16)
  (h : Vec Ideal S512x1024 .f32) (g : Vec Ideal S1x1024 .f32)

theorem pay_gated (i : Fin 512) (j : Fin 2048) : k0_pay1 z m a (ix2 i j) = gatedE (m (ix2 i j)) (a (ix2 0 j)) (z (ix2 i j)) := by
  pointwise [k0_pay1]
  rfl

theorem pay_out (i : Fin 512) (x : Fin 1024) : k0_pay2 z m a w h g (ix2 i x)
    = (h (ix2 i x) + g (ix2 0 x) * ∑ e : Fin 2048, gatedE (m (ix2 i e)) (a (ix2 0 e)) (z (ix2 i e))
        * w (ix3 ⟨e.val / 256, by omega⟩ ⟨e.val % 256, by omega⟩ x) : EReal) := by
  pointwise [k0_pay2]
  simp only [pay_gated]
end

/-! ## Whole blocks read -/

theorem ld_scale (X : S1x2048.Idx → EReal) (x : Fin 2048) : (View.ld (Val := Elt Ideal) (e' := .f32) X r0_1 : S1x2048.Idx → EReal) (ix2 0 x) = X (ix2 0 x) := by
  refine congrArg X (funext fun a => Fin.ext ?_)
  fin_cases a <;> exact (Nat.zero_add _).trans (Nat.one_mul _)

theorem ld_gate (X : S1x1024.Idx → EReal) (x : Fin 1024) : (View.ld (Val := Elt Ideal) (e' := .f32) X r0_4 : S1x1024.Idx → EReal) (ix2 0 x) = X (ix2 0 x) := by
  refine congrArg X (funext fun a => Fin.ext ?_)
  fin_cases a <;> exact (Nat.zero_add _).trans (Nat.one_mul _)

theorem ld_w (X : S8x256x1024.Idx → EReal) (i : Fin 8) (j : Fin 256) (x : Fin 1024) :
    (View.ld (Val := Elt Ideal) (e' := .bf16) X r0_2 : S8x256x1024.Idx → EReal) (ix3 i j x) = X (ix3 i j x) := by
  refine congrArg X (funext fun a => Fin.ext ?_)
  fin_cases a <;> exact (Nat.zero_add _).trans (Nat.one_mul _)

/-! ## The blocks -/

variable (m : (ℓ : Loc nD τ sig) → Buf (Elt Ideal) ℓ) (c : Dev nD)

abbrev mixedA : S8192x2048.Idx → EReal := m ((c : Thread nD τ).loc main_arg0)
abbrev zA : S8192x2048.Idx → EReal := m ((c : Thread nD τ).loc main_arg1)
abbrev scaleA : S2048.Idx → EReal := m ((c : Thread nD τ).loc main_arg2)
abbrev weightA : S2048x1024.Idx → EReal := m ((c : Thread nD τ).loc main_arg3)
abbrev gateA : S1024.Idx → EReal := m ((c : Thread nD τ).loc main_arg4)
abbrev hA : S8192x1024.Idx → EReal := m ((c : Thread nD τ).loc main_arg5)

/-- The gated product at row `r`, column `e`. -/
abbrev gatedA (r : Fin 8192) (e : Fin 2048) : EReal := gatedE (mixedA m c (ix2 r e)) (scaleA m c (ix1 e)) (zA m c (ix2 r e))

/-! ## The operands that the host lays out -/

theorem operand_scale (r : Fin 1) (e : Fin 2048) : (V m c main_v2 : S1x2048.Idx → EReal) (ix2 r e) = scaleA m c (ix1 e) := by
  unfold V
  after_reads_at

theorem operand_gate (r : Fin 1) (e : Fin 1024) : (V m c main_v5 : S1x1024.Idx → EReal) (ix2 r e) = gateA m c (ix1 e) := by
  unfold V
  after_reads_at

theorem operand_w (i : Fin 8) (j : Fin 256) (x : Fin 1024) : (V m c main_v4 : S8x256x1024.Idx → EReal) (ix3 i j x)
    = weightA m c (ix2 ⟨i.val * 256 + j.val, by omega⟩ x) := by
  unfold V
  after_reads_at

/-- The window's block at a grid point: a streamed window's row coordinate is the point. -/
theorem idx : ∀ t : Fin cfg0.N, win0_0.index t = ![t.val, 0] ∧ win0_1.index t = ![t.val, 0] ∧ win0_2.index t = ![0, 0]
    ∧ win0_3.index t = ![0, 0, 0] ∧ win0_4.index t = ![t.val, 0] ∧ win0_5.index t = ![0, 0] ∧ win0_6.index t = ![t.val, 0]
    ∧ win0_7.index t = ![t.val, 0] :=
  (by decide +kernel : ∀ t : Fin grid0.N, _)

theorem blk_mixed (t : Fin cfg0.N) (a : Fin 512) (hr : t.val * 512 + a.val < 8192) (x : Fin 2048) :
    (View.ld (iblk m c 0 t) r0_0 : S512x2048.Idx → EReal) (ix2 a x) = mixedA m c (ix2 ⟨t.val * 512 + a.val, hr⟩ x) := by
  blk_point [iblk, V, idx t, r0_0]

theorem blk_z (t : Fin cfg0.N) (a : Fin 512) (hr : t.val * 512 + a.val < 8192) (x : Fin 2048) :
    (View.ld (iblk m c 1 t) r0_0 : S512x2048.Idx → EReal) (ix2 a x) = zA m c (ix2 ⟨t.val * 512 + a.val, hr⟩ x) := by
  blk_point [iblk, V, idx t, r0_0]

theorem blk_scale (t : Fin cfg0.N) (x : Fin 2048) :
    (View.ld (iblk m c 2 t) r0_1 : S1x2048.Idx → EReal) (ix2 0 x) = scaleA m c (ix1 x) := by
  refine (ld_scale _ x).trans ?_
  rw [← operand_scale m c 0]
  blk_point [iblk, idx t]

theorem blk_w (t : Fin cfg0.N) (e : Fin 2048) (x : Fin 1024) :
    (View.ld (iblk m c 3 t) r0_2 : S8x256x1024.Idx → EReal) (ix3 ⟨e.val / 256, by omega⟩ ⟨e.val % 256, by omega⟩ x) = weightA m c (ix2 e x) := by
  have h : (⟨(⟨e.val / 256, by omega⟩ : Fin 8).val * 256 + (⟨e.val % 256, by omega⟩ : Fin 256).val, by
      show e.val / 256 * 256 + e.val % 256 < 2048
      omega⟩ : Fin 2048) = e := Fin.ext (Nat.div_add_mod' _ _)
  refine Eq.trans ?_ ((operand_w m c ⟨e.val / 256, by omega⟩ ⟨e.val % 256, by omega⟩ x).trans (congrArg (fun a => weightA m c (ix2 a x)) h))
  refine (ld_w _ _ _ x).trans ?_
  blk_point [iblk, idx t]

theorem blk_h (t : Fin cfg0.N) (a : Fin 512) (hr : t.val * 512 + a.val < 8192) (x : Fin 1024) :
    (View.ld (iblk m c 4 t) r0_3 : S512x1024.Idx → EReal) (ix2 a x) = hA m c (ix2 ⟨t.val * 512 + a.val, hr⟩ x) := by
  blk_point [iblk, V, idx t, r0_3]

theorem blk_gate (t : Fin cfg0.N) (x : Fin 1024) :
    (View.ld (iblk m c 5 t) r0_4 : S1x1024.Idx → EReal) (ix2 0 x) = gateA m c (ix1 x) := by
  refine (ld_gate _ x).trans ?_
  rw [← operand_gate m c 0]
  blk_point [iblk, idx t]

/-! ## The two arrays -/

theorem arr6 : (dats m 0 c).arrAt 6 cfg0.N = fun j : S8192x2048.Idx => gatedA m c (j 0) (j 1) := by
  refine Dat.arrAt_eq_of_covers _ 6 _ (by decide +kernel) fun t hf y => ?_
  blk_simp
  rw [after0_6]
  have ht : t.val < 16 := lt_of_lt_of_eq t.isLt N_0
  have hy : t.val * 512 + (y 0).val < 8192 := by have : (y 0).val < 512 := (y 0).isLt; omega
  have e : ((((cfg0.win 6).blk t).view.emb y) : S8192x2048.Idx) = ix2 ⟨t.val * 512 + (y 0).val, hy⟩ (y 1) := by
    blk_ext [idx t]
  rw [e]
  unfold out0_6
  canon_tiles x h
  obtain ⟨i, k, rfl⟩ : ∃ i k, x = ix2 i k := ⟨_, _, eq_ix2 x⟩
  obtain rfl : y = ix2 i k := (eq_ix2 y).trans (congrArg₂ ix2 (Fin.ext h0) (Fin.ext h1))
  refine (pay_gated _ _ _ i k).trans ?_
  rw [blk_mixed m c t i hy, blk_z m c t i hy, blk_scale]
  rfl

theorem arr7 : (dats m 0 c).arrAt 7 cfg0.N = fun j : S8192x1024.Idx =>
    hA m c j + gateA m c (ix1 (j 1)) * ∑ e : Fin 2048, gatedA m c (j 0) e * weightA m c (ix2 e (j 1)) := by
  refine Dat.arrAt_eq_of_covers _ 7 _ (by decide +kernel) fun t hf y => ?_
  blk_simp
  rw [after0_7]
  have ht : t.val < 16 := lt_of_lt_of_eq t.isLt N_0
  have hy : t.val * 512 + (y 0).val < 8192 := by have : (y 0).val < 512 := (y 0).isLt; omega
  have e : ((((cfg0.win 7).blk t).view.emb y) : S8192x1024.Idx) = ix2 ⟨t.val * 512 + (y 0).val, hy⟩ (y 1) := by
    blk_ext [idx t]
  rw [e]
  unfold out0_7
  canon_tiles x h
  obtain ⟨i, k, rfl⟩ : ∃ i k, x = ix2 i k := ⟨_, _, eq_ix2 x⟩
  obtain rfl : y = ix2 i k := (eq_ix2 y).trans (congrArg₂ ix2 (Fin.ext h0) (Fin.ext h1))
  refine (pay_out _ _ _ _ _ _ i k).trans ?_
  simp only [blk_mixed m c t i hy, blk_z m c t i hy, blk_scale, blk_w, blk_h m c t i hy, blk_gate]
  rfl

end Cert.GateFIdeal.Value

end
end
-- ==== Proof.GateFRef.lean ====
/- The reference of the gate's forward call read pointwise. -/
module

public import proofs.«01_k».proof.Proof.Coe
public import proofs.«01_k».proof.Proof.Gen.GateFRefIdeal.Read
public import Idealize.ShloMosaic.Lib.Pointwise

@[expose] public section

set_option maxRecDepth 16384

noncomputable section

namespace Cert.GateFRefIdeal.Read

open Cert.GateFRefIdeal Cert.GateFRefIdeal.Gen Idealize.ShloMosaic Idealize.ShloMosaic.Pointwise

variable (x0 x1 : S8192x2048.Idx → EReal) (x2 : S2048.Idx → EReal) (x3 : S2048x1024.Idx → EReal) (x4 : S1024.Idx → EReal)
  (x5 : S8192x1024.Idx → EReal)

theorem val_gated (i : Fin 8192) (j : Fin 2048) : val_main_v4 (F := Ideal) x0 x1 x2 (ix2 i j)
    = x0 (ix2 i j) * x2 (ix1 j) * (x1 (ix2 i j) * Ideal.div 1 (1 + Ideal.exp (-x1 (ix2 i j)))) := by
  pointwise [val_main_v4, val_main_v3, val_main_v2, val_main_v1, val_main_v0, val_main_call0_v5, val_main_call0_v4, val_main_call0_v3, val_main_call0_cst_0,
    val_main_call0_cst, val_main_call0_v2, val_main_call0_v1, val_main_call0_v0]

theorem val_rounded (i : Fin 8192) (j : Fin 2048) : val_main_v5 (F := Ideal) x0 x1 x2 (ix2 i j) = val_main_v4 (F := Ideal) x0 x1 x2 (ix2 i j) := by
  pointwise [val_main_v5]

theorem val_out (i : Fin 8192) (x : Fin 1024) : val_main_v10 (F := Ideal) x0 x1 x2 x3 x4 x5 (ix2 i x)
    = x5 (ix2 i x) + x4 (ix1 x) * ∑ e : Fin 2048, val_main_v4 (F := Ideal) x0 x1 x2 (ix2 i e) * x3 (ix2 e x) := by
  pointwise [val_main_v10, val_main_v9, val_main_v8, val_main_v7, val_main_v6]

end Cert.GateFRefIdeal.Read

end
end
-- ==== Proof.GateFClaims.lean ====
/- The claims about the gate's forward call: its reference's frame, and that both compute the same two results. -/
module

public import proofs.«01_k».proof.Defs
public import proofs.«01_k».proof.Proof.GateFKernel
public import proofs.«01_k».proof.Proof.GateFRef
public import proofs.«01_k».proof.Proof.Gen.GateF.Frame
public import proofs.«01_k».proof.Proof.Gen.GateFRefIdeal.Run
public import Idealize.ShloMosaic.Adequacy
public import Idealize.ShloMosaic.Init

@[expose] public section

set_option maxRecDepth 16384

noncomputable section

namespace Cert.GateFClaims

open Idealize.ShloMosaic Idealize.ShloMosaic.TcCoe Idealize.SL.Sem Cert.Coe

theorem frame_ref : Cert.quiescent_GateFRefIdeal := fun m ρ _ =>
  (θ_run Cert.GateFRefIdeal.defs _ _).mono (fun r h => ⟨fun c => (h c).2.2, sem_eq_zero_of_no_sems (by decide) r.2⟩)
    (Cert.GateFRefIdeal.Value.run (F := Ideal) m ρ)

theorem algebraic : Cert.algebraic_GateFIdeal_GateFRefIdeal := by
  intro m ρ m' ρ' _ hag
  refine ⟨fun c => (Cert.GateFIdeal.Gen.dats m 0 c).arrAt 6 Cert.GateFIdeal.cfg0.N, fun c => (Cert.GateFIdeal.Gen.dats m 0 c).arrAt 7 Cert.GateFIdeal.cfg0.N,
    (θ_run Cert.GateFIdeal.defs _ _).mono (fun r h c => h c) (Cert.GateFIdeal.Value.run_blocks m ρ), ?_⟩
  refine (θ_run Cert.GateFRefIdeal.defs _ _).mono (fun r h c => ?_) (Cert.GateFRefIdeal.Value.run (F := Ideal) m' ρ')
  obtain ⟨r0, r1, k⟩ := h c
  obtain ⟨a0, a1, a2, a3, a4, a5⟩ := hag c
  refine ⟨(r0.trans (Cert.GateFRefIdeal.Read.val_main_v5_eq _ _ _)).trans (Eq.trans ?_ (Cert.GateFIdeal.Value.arr6 m c).symm),
    (r1.trans (Cert.GateFRefIdeal.Read.val_main_v10_eq _ _ _ _ _ _)).trans (Eq.trans ?_ (Cert.GateFIdeal.Value.arr7 m c).symm), k⟩
  · rw [a0, a1, a2]
    funext j
    obtain ⟨i, x, rfl⟩ : ∃ i x, j = ix2 i x := ⟨_, _, eq_ix2 j⟩
    rw [Cert.GateFRefIdeal.Read.val_rounded, Cert.GateFRefIdeal.Read.val_gated, ← zero_sub]
    rfl
  · rw [a0, a1, a2, a3, a4, a5]
    funext j
    obtain ⟨i, x, rfl⟩ : ∃ i x, j = ix2 i x := ⟨_, _, eq_ix2 j⟩
    refine (Cert.GateFRefIdeal.Read.val_out _ _ _ _ _ _ i x).trans ?_
    simp only [Cert.GateFRefIdeal.Read.val_gated, ← zero_sub]
    rfl

end Cert.GateFClaims

end
end
-- ==== Proof.ModsFKernel.lean ====
/- The value of the modulations' forward call: what the array of modulations holds after its run. -/
module

public import proofs.«01_k».proof.Proof.Coe
public import proofs.«01_k».proof.Proof.Gen.ModsFIdeal.Value
public import Idealize.ShloMosaic.Lib.StableHlo.ReadAt
public import Idealize.ShloMosaic.Lib.Pointwise

@[expose] public section

set_option maxRecDepth 16384

noncomputable section

namespace Cert.ModsFIdeal.Value

open Cert.ModsFIdeal Cert.ModsFIdeal.Gen Idealize.ShloMosaic Idealize.ShloMosaic.TcCoe Idealize.SL.Sem
open Idealize.ShloMosaic.Pipeline (Dat)
open Idealize.ShloMosaic.Pointwise

/-! ## One entry -/

/-- `c σ(c)`. -/
def siluE (c : EReal) : EReal := c * Ideal.div 1 (1 + Ideal.exp (0 - c))

/-- The activated condition against a column of a weight, and the bias. -/
def affineE (x w : Fin 1024 → EReal) (b : EReal) : EReal := ∑ e, siluE (x e) * w e + b

section
variable (x : Vec Ideal S8x1024 .f32) (w : Vec Ideal S1x1024x384 .f32) (b : Vec Ideal S1x1x384 .f32)

theorem pay_layer (i : Fin 8) (k : Fin 384) :
    k0_pay5 x w b (ix2 i k) = affineE (fun e => x (ix2 i e)) (fun e => w (ix3 0 e k)) (b (ix3 0 0 k)) := by
  pointwise [k0_pay5, k0_pay4]
  rfl

theorem same6 : k0_pay6 x w b = k0_pay5 x w b := rfl
theorem same7 : k0_pay1 (k0_pay7 x w) b = k0_pay5 x w b := rfl
theorem same4 : k0_pay2 (k0_pay4 x) w b = k0_pay5 x w b := rfl

theorem pay_kv (v : Vec Ideal S1024x256 .f32) (z : Vec Ideal S1x256 .f32) (i : Fin 8) (k : Fin 256) :
    k0_pay3 (k0_pay4 x) v z (ix2 i k) = affineE (fun e => x (ix2 i e)) (fun e => v (ix2 e k)) (z (ix2 0 k)) := by
  pointwise [k0_pay3, k0_pay4]
  rfl
end

/-! ## The operands -/

variable (m : (ℓ : Loc nD τ sig) → Buf (Elt Ideal) ℓ) (c : Dev nD)

abbrev cA : S8x1024.Idx → EReal := m ((c : Thread nD τ).loc main_arg0)
abbrev wA : S4x1024x384.Idx → EReal := m ((c : Thread nD τ).loc main_arg1)
abbrev bA : S4x384.Idx → EReal := m ((c : Thread nD τ).loc main_arg2)
abbrev kvwA : S1024x256.Idx → EReal := m ((c : Thread nD τ).loc main_arg3)
abbrev kvbA : S256.Idx → EReal := m ((c : Thread nD τ).loc main_arg4)

/-- Column `k` of layer `l`'s modulation of row `b`. -/
def layerA (b : Fin 8) (l : Fin 4) (k : Fin 384) : EReal := affineE (fun e => cA m c (ix2 b e)) (fun e => wA m c (ix3 l e k)) (bA m c (ix2 l k))

/-- Column `k` of the keys' and values' modulation of row `b`. -/
def kvA (b : Fin 8) (k : Fin 256) : EReal := affineE (fun e => cA m c (ix2 b e)) (fun e => kvwA m c (ix2 e k)) (kvbA m c (ix1 k))

/-- The modulations side by side: the four layers', then the keys' and values'. -/
def modsA (j : S8x1792.Idx) : EReal :=
  if h : (j 1).val < 1536 then layerA m c (j 0) ⟨(j 1).val / 384, by omega⟩ ⟨(j 1).val % 384, by omega⟩
  else kvA m c (j 0) ⟨(j 1).val - 1536, by have : (j 1).val < 1792 := (j 1).isLt; omega⟩

theorem mods_layer (j : S8x1792.Idx) (l : Fin 4) (k : Fin 384) (h : (j 1).val = l.val * 384 + k.val) : modsA m c j = layerA m c (j 0) l k := by
  unfold modsA
  rw [dif_pos (by omega)]
  exact congrArg₂ (layerA m c (j 0)) (Fin.ext (by show (j 1).val / 384 = _; omega)) (Fin.ext (by show (j 1).val % 384 = _; omega))

theorem mods_kv (j : S8x1792.Idx) (k : Fin 256) (h : (j 1).val = 1536 + k.val) : modsA m c j = kvA m c (j 0) k := by
  unfold modsA
  rw [dif_neg (by omega)]
  exact congrArg (kvA m c (j 0)) (Fin.ext (by show (j 1).val - 1536 = _; omega))

theorem operand_b (l : Fin 4) (z : Fin 1) (k : Fin 384) : (V m c main_v0 : S4x1x384.Idx → EReal) (ix3 l z k) = bA m c (ix2 l k) := by
  unfold V
  after_reads_at

theorem operand_kvb (z : Fin 1) (k : Fin 256) : (V m c main_v1 : S1x256.Idx → EReal) (ix2 z k) = kvbA m c (ix1 k) := by
  unfold V
  after_reads_at

theorem idx : win0_0.index t0_0 = ![0, 0] ∧ win0_1.index t0_0 = ![0, 0, 0] ∧ win0_2.index t0_0 = ![0, 0, 0] ∧ win0_3.index t0_0 = ![0, 0]
    ∧ win0_4.index t0_0 = ![0, 0] := by decide +kernel

theorem at_c (b : Fin 8) (e : Fin 1024) : (iblk m c 0 t0_0 : S8x1024.Idx → EReal) (ix2 b e) = cA m c (ix2 b e) := by
  blk_point [iblk, V, idx]

theorem at_w (l : Fin 4) (e : Fin 1024) (k : Fin 384) : (iblk m c 1 t0_0 : S4x1024x384.Idx → EReal) (ix3 l e k) = wA m c (ix3 l e k) := by
  blk_point [iblk, V, idx]

theorem at_b (l : Fin 4) (k : Fin 384) : (iblk m c 2 t0_0 : S4x1x384.Idx → EReal) (ix3 l 0 k) = bA m c (ix2 l k) := by
  rw [← operand_b m c l 0 k]
  blk_point [iblk, idx]

theorem at_kvw (e : Fin 1024) (k : Fin 256) : (iblk m c 3 t0_0 : S1024x256.Idx → EReal) (ix2 e k) = kvwA m c (ix2 e k) := by
  blk_point [iblk, V, idx]

theorem at_kvb (k : Fin 256) : (iblk m c 4 t0_0 : S1x256.Idx → EReal) (ix2 0 k) = kvbA m c (ix1 k) := by
  rw [← operand_kvb m c 0 k]
  blk_point [iblk, idx]

/-! ## The pieces -/

theorem affine_congr {x x' w w' : Fin 1024 → EReal} {b b' : EReal} (hx : ∀ e, x e = x' e) (hw : ∀ e, w e = w' e) (hb : b = b') :
    affineE x w b = affineE x' w' b' := by
  rw [funext hx, funext hw, hb]

section
variable (X : Vec Ideal S8x1024 .f32) (W : Vec Ideal S4x1024x384 .f32) (B : Vec Ideal S4x1x384 .f32) (K : Vec Ideal S1024x256 .f32) (Z : Vec Ideal S1x256 .f32)

theorem ld_c (inb) (b : Fin 8) (e : Fin 1024) : View.ld X (Rect.unit (s := S8x1024) ![0, 0] S8x1024.size inb) (ix2 b e) = X (ix2 b e) := by
  refine congrArg X (funext fun a => Fin.ext ?_)
  fin_cases a <;> exact (Nat.zero_add _).trans (Nat.one_mul _)

theorem ld_w (l : Fin 4) (n : ℕ) (hn : n = l.val) (inb) (e : Fin 1024) (k : Fin 384) :
    View.ld W (Rect.unit (s := S4x1024x384) ![n, 0, 0] S1x1024x384.size inb) (ix3 0 e k) = W (ix3 l e k) := by
  subst hn
  refine congrArg W (funext fun a => Fin.ext ?_)
  fin_cases a
  · show l.val + 1 * 0 = l.val
    omega
  all_goals exact (Nat.zero_add _).trans (Nat.one_mul _)

theorem ld_b (l : Fin 4) (n : ℕ) (hn : n = l.val) (inb) (k : Fin 384) :
    View.ld B (Rect.unit (s := S4x1x384) ![n, 0, 0] S1x1x384.size inb) (ix3 0 0 k) = B (ix3 l 0 k) := by
  subst hn
  refine congrArg B (funext fun a => Fin.ext ?_)
  fin_cases a
  · show l.val + 1 * 0 = l.val
    omega
  all_goals exact (Nat.zero_add _).trans (Nat.one_mul _)

theorem ld_kvw (inb) (e : Fin 1024) (k : Fin 256) : View.ld K (Rect.unit (s := S1024x256) ![0, 0] S1024x256.size inb) (ix2 e k) = K (ix2 e k) := by
  refine congrArg K (funext fun a => Fin.ext ?_)
  fin_cases a <;> exact (Nat.zero_add _).trans (Nat.one_mul _)

theorem ld_kvb (inb) (k : Fin 256) : View.ld Z (Rect.unit (s := S1x256) ![0, 0] S1x256.size inb) (ix2 0 k) = Z (ix2 0 k) := by
  refine congrArg Z (funext fun a => Fin.ext ?_)
  fin_cases a <;> exact (Nat.zero_add _).trans (Nat.one_mul _)

variable (hx : ∀ b e, X (ix2 b e) = cA m c (ix2 b e)) (hw : ∀ l e k, W (ix3 l e k) = wA m c (ix3 l e k)) (hb : ∀ l k, B (ix3 l 0 k) = bA m c (ix2 l k))
  (hk : ∀ e k, K (ix2 e k) = kvwA m c (ix2 e k)) (hz : ∀ k, Z (ix2 0 k) = kvbA m c (ix1 k))

include hx hw hb in
/-- One layer's block of columns. -/
theorem layer_at (l : Fin 4) (n : ℕ) (hn : n = l.val) (i0 i1 i2) (x : S8x384.Idx) (j : S8x1792.Idx) (h0 : (j 0).val = (x 0).val)
    (h1 : (j 1).val = l.val * 384 + (x 1).val) :
    k0_pay5 (View.ld X (Rect.unit (s := S8x1024) ![0, 0] S8x1024.size i0)) (View.ld W (Rect.unit (s := S4x1024x384) ![n, 0, 0] S1x1024x384.size i1))
      (View.ld B (Rect.unit (s := S4x1x384) ![n, 0, 0] S1x1x384.size i2)) x = modsA m c j := by
  obtain ⟨i, k, rfl⟩ : ∃ i k, x = ix2 i k := ⟨_, _, eq_ix2 x⟩
  have e0 : j 0 = i := Fin.ext h0
  rw [mods_layer m c j l k h1, e0]
  exact (pay_layer _ _ _ i k).trans (affine_congr (fun e => (ld_c X i0 i e).trans (hx i e)) (fun e => (ld_w W l n hn i1 e k).trans (hw l e k))
    ((ld_b B l n hn i2 k).trans (hb l k)))

include hx hk hz in
/-- The keys' and values' block of columns. -/
theorem kv_at (i0 i1 i2) (x : S8x256.Idx) (j : S8x1792.Idx) (h0 : (j 0).val = (x 0).val) (h1 : (j 1).val = 1536 + (x 1).val) :
    k0_pay3 (k0_pay4 (View.ld X (Rect.unit (s := S8x1024) ![0, 0] S8x1024.size i0))) (View.ld K (Rect.unit (s := S1024x256) ![0, 0] S1024x256.size i1))
      (View.ld Z (Rect.unit (s := S1x256) ![0, 0] S1x256.size i2)) x = modsA m c j := by
  obtain ⟨i, k, rfl⟩ : ∃ i k, x = ix2 i k := ⟨_, _, eq_ix2 x⟩
  have e0 : j 0 = i := Fin.ext h0
  rw [mods_kv m c j k h1, e0]
  exact (pay_kv _ _ _ i k).trans (affine_congr (fun e => (ld_c X i0 i e).trans (hx i e)) (fun e => (ld_kvw K i1 e k).trans (hk e k)) ((ld_kvb Z i2 k).trans (hz k)))

include hx hw hb hk hz in
/-- The five blocks of columns tile the output. -/
theorem out_at (a0 h0 a1 h1 a2 h2 a3 h3 a4 h4 a5 h5) (j : S8x1792.Idx) :
    out0_A_5 (F := Ideal) c a0 h0 a1 h1 a2 h2 a3 h3 a4 h4 a5 h5 X W B K Z j = modsA m c j := by
  have hc := cover0_A_5 (F := Ideal) c a0 h0 a1 h1 a2 h2 a3 h3 a4 h4 a5 h5 X W B K Z j
  unfold out0_A_5
  refine (View.read_writes_apply_eq_canon VO0_5 _ j _ hc).trans ?_
  unfold kernelRun0_A at hc ⊢
  dsimp only at hc ⊢
  canon_tiles x h using hc
  all_goals simp only [kernelRun0_A.sl.r, kernelRun0_A.sl.r_1, View.readAt_eq_ld, Memref.IsWhole.read_unread]
  · exact kv_at m c X K Z hx hk hz _ _ _ x j h0 h1
  · exact (congrFun (same4 _ _ _) x).trans (layer_at m c X W B hx hw hb 3 _ rfl _ _ _ x j h0 h1)
  · exact (congrFun (same7 _ _ _) x).trans (layer_at m c X W B hx hw hb 2 _ rfl _ _ _ x j h0 h1)
  · exact (congrFun (same6 _ _ _) x).trans (layer_at m c X W B hx hw hb 1 _ rfl _ _ _ x j h0 h1)
  · exact layer_at m c X W B hx hw hb 0 _ rfl _ _ _ x j h0 (h1.trans (Nat.zero_add _).symm)
end

theorem arr5 : (dats m 0 c).arrAt 5 cfg0.N = modsA m c := by
  refine Dat.arrAt_eq_of_after_last _ 5 t0_0 (by decide +kernel) _ fun j => ?_
  blk_simp
  rw [after0_5]
  unfold outsAt0
  exact out_at m c _ _ _ _ _ (at_c m c) (at_w m c) (at_b m c) (at_kvw m c) (at_kvb m c) _ _ _ _ _ _ _ _ _ _ _ _ j

end Cert.ModsFIdeal.Value

end
end
-- ==== Proof.ModsFRef.lean ====
/- The reference of the modulations' forward call read pointwise. -/
module

public import proofs.«01_k».proof.Proof.Coe
public import proofs.«01_k».proof.Proof.Gen.ModsFRefIdeal.Read
public import Idealize.ShloMosaic.Lib.Pointwise

@[expose] public section

set_option maxRecDepth 16384

noncomputable section

namespace Cert.ModsFRefIdeal.Read

open Cert.ModsFRefIdeal Cert.ModsFRefIdeal.Gen Idealize.ShloMosaic Idealize.ShloMosaic.Pointwise

variable (x0 : S8x1024.Idx → EReal) (x1 : S4x1024x384.Idx → EReal) (x2 : S4x384.Idx → EReal) (x3 : S1024x256.Idx → EReal) (x4 : S256.Idx → EReal)

theorem val_act (b : Fin 8) (e : Fin 1024) : val_main_v0 (F := Ideal) x0 (ix2 b e) = x0 (ix2 b e) * Ideal.div 1 (1 + Ideal.exp (0 - x0 (ix2 b e))) := by
  pointwise [val_main_v0, val_main_call0_v5, val_main_call0_v4, val_main_call0_v3, val_main_call0_cst_0,
    val_main_call0_cst, val_main_call0_v2, val_main_call0_v1, val_main_call0_v0]
  rw [zero_sub]

theorem val_layer0 (b : Fin 8) (k : Fin 384) : val_main_v8 (F := Ideal) x0 x1 x2 (ix2 b k)
    = ∑ e : Fin 1024, val_main_v0 (F := Ideal) x0 (ix2 b e) * x1 (ix3 0 e k) + x2 (ix2 0 k) := by
  pointwise [val_main_v8, val_main_v7, val_main_v6, val_main_v5, val_main_v4, val_main_v3, val_main_v2, val_main_v1]

theorem val_layer1 (b : Fin 8) (k : Fin 384) : val_main_v16 (F := Ideal) x0 x1 x2 (ix2 b k)
    = ∑ e : Fin 1024, val_main_v0 (F := Ideal) x0 (ix2 b e) * x1 (ix3 1 e k) + x2 (ix2 1 k) := by
  pointwise [val_main_v16, val_main_v15, val_main_v14, val_main_v13, val_main_v12, val_main_v11, val_main_v10, val_main_v9]

theorem val_layer2 (b : Fin 8) (k : Fin 384) : val_main_v24 (F := Ideal) x0 x1 x2 (ix2 b k)
    = ∑ e : Fin 1024, val_main_v0 (F := Ideal) x0 (ix2 b e) * x1 (ix3 2 e k) + x2 (ix2 2 k) := by
  pointwise [val_main_v24, val_main_v23, val_main_v22, val_main_v21, val_main_v20, val_main_v19, val_main_v18, val_main_v17]

theorem val_layer3 (b : Fin 8) (k : Fin 384) : val_main_v32 (F := Ideal) x0 x1 x2 (ix2 b k)
    = ∑ e : Fin 1024, val_main_v0 (F := Ideal) x0 (ix2 b e) * x1 (ix3 3 e k) + x2 (ix2 3 k) := by
  pointwise [val_main_v32, val_main_v31, val_main_v30, val_main_v29, val_main_v28, val_main_v27, val_main_v26, val_main_v25]

theorem val_kv (b : Fin 8) (k : Fin 256) : val_main_v36 (F := Ideal) x0 x3 x4 (ix2 b k)
    = ∑ e : Fin 1024, val_main_v0 (F := Ideal) x0 (ix2 b e) * x3 (ix2 e k) + x4 (ix1 k) := by
  pointwise [val_main_v36, val_main_v35, val_main_v34, val_main_v33]

/-- The five products that stand side by side. -/
abbrev parts : List ((s : Shape) × (s.Idx → EReal)) :=
  [⟨S8x384, val_main_v8 (F := Ideal) x0 x1 x2⟩, ⟨S8x384, val_main_v16 (F := Ideal) x0 x1 x2⟩, ⟨S8x384, val_main_v24 (F := Ideal) x0 x1 x2⟩,
    ⟨S8x384, val_main_v32 (F := Ideal) x0 x1 x2⟩, ⟨S8x256, val_main_v36 (F := Ideal) x0 x3 x4⟩]

/-- A layer's columns of the concatenation. -/
theorem all_layer (b : Fin 8) (l : Fin 4) (k : Fin 384) (y : Fin 1792) (hy : y.val = l.val * 384 + k.val) :
    val_main_v37 (F := Ideal) x0 x1 x2 x3 x4 (ix2 b y) = ∑ e : Fin 1024, val_main_v0 (F := Ideal) x0 (ix2 b e) * x1 (ix3 l e k) + x2 (ix2 l k) := by
  fin_cases l
  · refine Eq.trans (concatenate_apply_piece (t := S8x1792) 1 (parts x0 x1 x2 x3 x4) concatenates_S8x384_S8x384_S8x384_S8x384_S8x256_S8x1792_d1 (ix2 b y) 0 (by simp) S8x384 (val_main_v8 (F := Ideal) x0 x1 x2) rfl rfl 0 (by rfl) (ix2 b k) (fun a ha => ?_) ?_) (val_layer0 x0 x1 x2 b k)
    · fin_cases a
      · rfl
      · exact absurd rfl ha
    · exact hy.symm
  · refine Eq.trans (concatenate_apply_piece (t := S8x1792) 1 (parts x0 x1 x2 x3 x4) concatenates_S8x384_S8x384_S8x384_S8x384_S8x256_S8x1792_d1 (ix2 b y) 1 (by simp) S8x384 (val_main_v16 (F := Ideal) x0 x1 x2) rfl rfl 384 (by rfl) (ix2 b k) (fun a ha => ?_) ?_) (val_layer1 x0 x1 x2 b k)
    · fin_cases a
      · rfl
      · exact absurd rfl ha
    · exact hy.symm
  · refine Eq.trans (concatenate_apply_piece (t := S8x1792) 1 (parts x0 x1 x2 x3 x4) concatenates_S8x384_S8x384_S8x384_S8x384_S8x256_S8x1792_d1 (ix2 b y) 2 (by simp) S8x384 (val_main_v24 (F := Ideal) x0 x1 x2) rfl rfl 768 (by rfl) (ix2 b k) (fun a ha => ?_) ?_) (val_layer2 x0 x1 x2 b k)
    · fin_cases a
      · rfl
      · exact absurd rfl ha
    · exact hy.symm
  · refine Eq.trans (concatenate_apply_piece (t := S8x1792) 1 (parts x0 x1 x2 x3 x4) concatenates_S8x384_S8x384_S8x384_S8x384_S8x256_S8x1792_d1 (ix2 b y) 3 (by simp) S8x384 (val_main_v32 (F := Ideal) x0 x1 x2) rfl rfl 1152 (by rfl) (ix2 b k) (fun a ha => ?_) ?_) (val_layer3 x0 x1 x2 b k)
    · fin_cases a
      · rfl
      · exact absurd rfl ha
    · exact hy.symm

/-- The last columns of the concatenation. -/
theorem all_kv (b : Fin 8) (k : Fin 256) (y : Fin 1792) (hy : y.val = 1536 + k.val) :
    val_main_v37 (F := Ideal) x0 x1 x2 x3 x4 (ix2 b y) = ∑ e : Fin 1024, val_main_v0 (F := Ideal) x0 (ix2 b e) * x3 (ix2 e k) + x4 (ix1 k) := by
  refine Eq.trans (concatenate_apply_piece (t := S8x1792) 1 (parts x0 x1 x2 x3 x4) concatenates_S8x384_S8x384_S8x384_S8x384_S8x256_S8x1792_d1 (ix2 b y) 4 (by simp) S8x256 (val_main_v36 (F := Ideal) x0 x3 x4) rfl rfl 1536 (by rfl) (ix2 b k) (fun a ha => ?_) ?_) (val_kv x0 x3 x4 b k)
  · fin_cases a
    · rfl
    · exact absurd rfl ha
  · exact hy.symm

end Cert.ModsFRefIdeal.Read

end
end
-- ==== Proof.ModsFClaims.lean ====
/- The claims about the modulations' forward call: its reference's frame, and that both compute the same modulations. -/
module

public import proofs.«01_k».proof.Defs
public import proofs.«01_k».proof.Proof.ModsFKernel
public import proofs.«01_k».proof.Proof.ModsFRef
public import proofs.«01_k».proof.Proof.Gen.ModsF.Frame
public import proofs.«01_k».proof.Proof.Gen.ModsFRefIdeal.Run
public import Idealize.ShloMosaic.Adequacy
public import Idealize.ShloMosaic.Init

@[expose] public section

set_option maxRecDepth 16384

noncomputable section

namespace Cert.ModsFClaims

open Idealize.ShloMosaic Idealize.ShloMosaic.TcCoe Idealize.SL.Sem Cert.Coe

theorem frame_ref : Cert.quiescent_ModsFRefIdeal := fun m ρ _ =>
  (θ_run Cert.ModsFRefIdeal.defs _ _).mono (fun r h => ⟨fun c => (h c).2, sem_eq_zero_of_no_sems (by decide) r.2⟩)
    (Cert.ModsFRefIdeal.Value.run (F := Ideal) m ρ)

theorem algebraic : Cert.algebraic_ModsFIdeal_ModsFRefIdeal := by
  intro m ρ m' ρ' _ hag
  refine ⟨fun c => (Cert.ModsFIdeal.Gen.dats m 0 c).arrAt 5 Cert.ModsFIdeal.cfg0.N,
    (θ_run Cert.ModsFIdeal.defs _ _).mono (fun r h c => h c) (Cert.ModsFIdeal.Value.run_blocks m ρ), ?_⟩
  refine (θ_run Cert.ModsFRefIdeal.defs _ _).mono (fun r h c => ?_) (Cert.ModsFRefIdeal.Value.run (F := Ideal) m' ρ')
  obtain ⟨r0, k⟩ := h c
  obtain ⟨a0, a1, a2, a3, a4⟩ := hag c
  refine ⟨(r0.trans (Cert.ModsFRefIdeal.Read.val_main_v37_eq _ _)).trans (Eq.trans ?_ (Cert.ModsFIdeal.Value.arr5 m c).symm), k⟩
  rw [a0, a1, a2, a3, a4]
  funext j
  obtain ⟨b, y, rfl⟩ : ∃ b y, j = ix2 b y := ⟨_, _, eq_ix2 j⟩
  by_cases h : y.val < 1536
  · have hy : y.val = (⟨y.val / 384, by omega⟩ : Fin 4).val * 384 + (⟨y.val % 384, by omega⟩ : Fin 384).val := by
      show y.val = y.val / 384 * 384 + y.val % 384
      omega
    refine (Cert.ModsFRefIdeal.Read.all_layer _ _ _ _ _ b _ _ y hy).trans (Eq.trans ?_ (Cert.ModsFIdeal.Value.mods_layer m c _ _ _ hy).symm)
    simp only [Cert.ModsFRefIdeal.Read.val_act]
    rfl
  · have hy : y.val = 1536 + (⟨y.val - 1536, by omega⟩ : Fin 256).val := by
      show y.val = 1536 + (y.val - 1536)
      omega
    refine (Cert.ModsFRefIdeal.Read.all_kv _ _ _ _ _ b _ y hy).trans (Eq.trans ?_ (Cert.ModsFIdeal.Value.mods_kv m c _ _ hy).symm)
    simp only [Cert.ModsFRefIdeal.Read.val_act]
    rfl

end Cert.ModsFClaims

end
end
-- ==== Proof.InFKernel.lean ====
/- The value of the norm's forward call: what the modulated rows and the two halves of their product hold after its run. -/
module

public import proofs.«01_k».proof.Proof.Coe
public import proofs.«01_k».proof.Proof.Gen.InFIdeal.Value
public import Idealize.ShloMosaic.Lib.StableHlo.ReadAt
public import Idealize.ShloMosaic.Lib.Pointwise

@[expose] public section

set_option maxRecDepth 16384

noncomputable section

namespace Cert.InFIdeal.Value

open Cert.InFIdeal Cert.InFIdeal.Gen Idealize.ShloMosaic Idealize.ShloMosaic.TcCoe Idealize.SL.Sem
open Idealize.ShloMosaic.Pipeline (Dat)
open Idealize.ShloMosaic.Pointwise

/-! ## One row -/

/-- The reciprocal root mean square of a row. -/
def rsE (h : Fin 1024 → EReal) : EReal :=
  Ideal.rsqrt (Ideal.div (∑ x, h x * h x) (Ideal.ofBits FTy.f32 1149239296#32) + Ideal.ofBits FTy.f32 897988541#32)

/-- A normed, gained and modulated row at column `j`. -/
def modE (h g sh sc : Fin 1024 → EReal) (j : Fin 1024) : EReal := h j * rsE h * g j * (1 + sc j) + sh j

/-- A block of rows against a block of columns. -/
def dotE (u : Fin 1024 → EReal) (w : Fin 1024 → EReal) : EReal := ∑ e, u e * w e

section
variable (h : Vec Ideal S512x1024 .f32) (g sh sc : Vec Ideal S1x1024 .f32) (u : FVec Ideal S512x1024 .bf16) (w : Vec Ideal S1x1024x512 .bf16)

theorem pay_mod (i : Fin 512) (j : Fin 1024) : k0_pay3 h g sh sc (ix2 i j)
    = modE (fun x => h (ix2 i x)) (fun x => g (ix2 0 x)) (fun x => sh (ix2 0 x)) (fun x => sc (ix2 0 x)) j := by
  pointwise [k0_pay3]
  rfl

/-! The eight products are one. -/

theorem pay_dot (i k : Fin 512) : k0_pay2 u w (ix2 i k) = dotE (fun e => u (ix2 i e)) (fun e => w (ix3 0 e k)) := by
  pointwise [k0_pay2]
  rfl

theorem same8 : k0_pay8 u w = k0_pay2 u w := rfl
theorem same7 : k0_pay7 u w = k0_pay2 u w := rfl
theorem same6 : k0_pay6 u (k0_pay5 w) = k0_pay2 u w := rfl
theorem same4 : k0_pay4 h g sh sc w = k0_pay2 (k0_pay3 h g sh sc) w := rfl
theorem same1 : k0_pay1 u (k0_pay11 w) = k0_pay2 u w := rfl
theorem same10 : k0_pay10 u w = k0_pay2 u w := rfl
theorem same9 : k0_pay9 u w = k0_pay2 u w := rfl
end

/-! ## The operands -/

variable (m : (ℓ : Loc nD τ sig) → Buf (Elt Ideal) ℓ) (c : Dev nD)

abbrev hA : S8192x1024.Idx → EReal := m ((c : Thread nD τ).loc main_arg0)
abbrev gA : S1024.Idx → EReal := m ((c : Thread nD τ).loc main_arg1)
abbrev shiftA : S1024.Idx → EReal := m ((c : Thread nD τ).loc main_arg2)
abbrev scaleA : S1024.Idx → EReal := m ((c : Thread nD τ).loc main_arg3)
abbrev weightA : S1024x4096.Idx → EReal := m ((c : Thread nD τ).loc main_arg4)

/-- The modulated row `r` at column `e`. -/
abbrev modA (r : Fin 8192) (e : Fin 1024) : EReal :=
  modE (fun x => hA m c (ix2 r x)) (fun x => gA m c (ix1 x)) (fun x => shiftA m c (ix1 x)) (fun x => scaleA m c (ix1 x)) e

/-- Its product with column `y` of the weight. -/
def prodA (r : Fin 8192) (y : Fin 4096) : EReal := dotE (fun e => modA m c r e) (fun e => weightA m c (ix2 e y))

/-- The left half of the product's columns. -/
def leftA (j : S8192x2048.Idx) : EReal := prodA m c (j 0) ⟨(j 1).val, by have : (j 1).val < 2048 := (j 1).isLt; omega⟩

/-- Its right half. -/
def rightA (j : S8192x2048.Idx) : EReal := prodA m c (j 0) ⟨2048 + (j 1).val, by have : (j 1).val < 2048 := (j 1).isLt; omega⟩

theorem operand_g (r : Fin 1) (e : Fin 1024) : (V m c main_v0 : S1x1024.Idx → EReal) (ix2 r e) = gA m c (ix1 e) := by
  unfold V
  after_reads_at

theorem operand_shift (r : Fin 1) (e : Fin 1024) : (V m c main_v1 : S1x1024.Idx → EReal) (ix2 r e) = shiftA m c (ix1 e) := by
  unfold V
  after_reads_at

theorem operand_scale (r : Fin 1) (e : Fin 1024) : (V m c main_v2 : S1x1024.Idx → EReal) (ix2 r e) = scaleA m c (ix1 e) := by
  unfold V
  after_reads_at

theorem operand_w (s : Fin 8) (e : Fin 1024) (x : Fin 512) : (V m c main_v5 : S8x1024x512.Idx → EReal) (ix3 s e x)
    = weightA m c (ix2 e ⟨s.val * 512 + x.val, by omega⟩) := by
  unfold V
  after_reads_at

/-- The window's block at a grid point: a streamed window's row coordinate is the point. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![t.val, 0] ∧ win0_6.index t = ![t.val, 0] ∧ win0_7.index t = ![t.val, 0] :=
  (by decide +kernel : ∀ t : Fin grid0.N, _)

theorem blk_h (t : Fin cfg0.N) (a : Fin 512) (hr : t.val * 512 + a.val < 8192) (x : Fin 1024) :
    (View.ld (iblk m c 0 t) r0_0 : S512x1024.Idx → EReal) (ix2 a x) = hA m c (ix2 ⟨t.val * 512 + a.val, hr⟩ x) := by
  blk_point [iblk, V, idx t, r0_0]

theorem ld_row (X : S1x1024.Idx → EReal) (x : Fin 1024) : (View.ld (Val := Elt Ideal) (e' := .f32) X r0_1 : S1x1024.Idx → EReal) (ix2 0 x) = X (ix2 0 x) := by
  refine congrArg X (funext fun a => Fin.ext ?_)
  fin_cases a <;> exact (Nat.zero_add _).trans (Nat.one_mul _)

theorem blk_g (t : Fin cfg0.N) (x : Fin 1024) : (View.ld (iblk m c 1 t) r0_1 : S1x1024.Idx → EReal) (ix2 0 x) = gA m c (ix1 x) := by
  refine (ld_row _ x).trans ?_
  rw [← operand_g m c 0]
  blk_point [iblk, idx t]

theorem blk_shift (t : Fin cfg0.N) (x : Fin 1024) : (View.ld (iblk m c 2 t) r0_1 : S1x1024.Idx → EReal) (ix2 0 x) = shiftA m c (ix1 x) := by
  refine (ld_row _ x).trans ?_
  rw [← operand_shift m c 0]
  blk_point [iblk, idx t]

theorem blk_scale (t : Fin cfg0.N) (x : Fin 1024) : (View.ld (iblk m c 3 t) r0_1 : S1x1024.Idx → EReal) (ix2 0 x) = scaleA m c (ix1 x) := by
  refine (ld_row _ x).trans ?_
  rw [← operand_scale m c 0]
  blk_point [iblk, idx t]

/-- One of the eight blocks of the weight's columns. -/
theorem blk_w (t : Fin cfg0.N) (s : Fin 8) (n : ℕ) (hn : n = s.val) (inb) (e : Fin 1024) (x : Fin 512) :
    (View.ld (iblk m c 4 t) (Rect.unit (s := S8x1024x512) ![n, 0, 0] S1x1024x512.size inb) : S1x1024x512.Idx → EReal) (ix3 0 e x)
      = weightA m c (ix2 e ⟨s.val * 512 + x.val, by omega⟩) := by
  subst hn
  have q : (iblk m c 4 t : S8x1024x512.Idx → EReal) (ix3 s e x) = weightA m c (ix2 e ⟨s.val * 512 + x.val, by omega⟩) := by
    rw [← operand_w m c s e x]
    blk_point [iblk, idx t]
  refine Eq.trans (congrArg (iblk m c 4 t : S8x1024x512.Idx → EReal) (funext fun a => Fin.ext ?_)) q
  fin_cases a
  · show s.val + 1 * 0 = s.val
    omega
  all_goals exact (Nat.zero_add _).trans (Nat.one_mul _)

theorem blk_mod (t : Fin cfg0.N) (i : Fin 512) (hr : t.val * 512 + i.val < 8192) (e : Fin 1024) :
    k0_pay3 (View.ld (iblk m c 0 t) r0_0) (View.ld (iblk m c 1 t) r0_1) (View.ld (iblk m c 2 t) r0_1) (View.ld (iblk m c 3 t) r0_1) (ix2 i e)
      = modA m c ⟨t.val * 512 + i.val, hr⟩ e := by
  rw [pay_mod]
  simp only [blk_h m c t i hr, blk_g, blk_shift, blk_scale]

/-- One of the eight products of a block of rows. -/
theorem part_at (t : Fin cfg0.N) (i : Fin 512) (hr : t.val * 512 + i.val < 8192) (s : Fin 8) (n : ℕ) (hn : n = s.val) (inb) (k : Fin 512)
    (y : Fin 4096) (hy : y.val = s.val * 512 + k.val) :
    k0_pay2 (k0_pay3 (View.ld (iblk m c 0 t) r0_0) (View.ld (iblk m c 1 t) r0_1) (View.ld (iblk m c 2 t) r0_1) (View.ld (iblk m c 3 t) r0_1))
        (View.ld (iblk m c 4 t) (Rect.unit (s := S8x1024x512) ![n, 0, 0] S1x1024x512.size inb)) (ix2 i k)
      = prodA m c ⟨t.val * 512 + i.val, hr⟩ y := by
  have ey : y = ⟨s.val * 512 + k.val, by omega⟩ := Fin.ext hy
  rw [pay_dot, ey]
  unfold prodA
  simp only [blk_mod m c t i hr, blk_w m c t s n hn inb]

/-! ## The three arrays -/

theorem arr5 : (dats m 0 c).arrAt 5 cfg0.N = fun j : S8192x1024.Idx => modA m c (j 0) (j 1) := by
  refine Dat.arrAt_eq_of_covers _ 5 _ (by decide +kernel) fun t hf y => ?_
  blk_simp
  rw [after0_5]
  have ht : t.val < 16 := lt_of_lt_of_eq t.isLt N_0
  have hy : t.val * 512 + (y 0).val < 8192 := by have : (y 0).val < 512 := (y 0).isLt; omega
  have e : ((((cfg0.win 5).blk t).view.emb y) : S8192x1024.Idx) = ix2 ⟨t.val * 512 + (y 0).val, hy⟩ (y 1) := by
    blk_ext [idx t]
  rw [e]
  unfold out0_5
  canon_tiles x h
  obtain ⟨i, k, rfl⟩ : ∃ i k, x = ix2 i k := ⟨_, _, eq_ix2 x⟩
  obtain rfl : y = ix2 i k := (eq_ix2 y).trans (congrArg₂ ix2 (Fin.ext h0) (Fin.ext h1))
  exact blk_mod m c t i hy k

/-- A half of a block of products, column `y` of it. -/
theorem left_at (t : Fin cfg0.N) (r : Fin 512) (y : Fin 2048) (hr : t.val * 512 + r.val < 8192) :
    out0_6 (iblk m c 0 t) (iblk m c 1 t) (iblk m c 2 t) (iblk m c 3 t) (iblk m c 4 t) (ix2 r y) = prodA m c ⟨t.val * 512 + r.val, hr⟩ ⟨y.val, by omega⟩ := by
  unfold out0_6 k0_pay12
  generalize hj : (ix2 r y : S512x2048.Idx) = j
  canon_tiles x h
  all_goals
    obtain ⟨i, k, rfl⟩ : ∃ i k, x = ix2 i k := ⟨_, _, eq_ix2 x⟩
    subst hj
    obtain rfl : r = i := Fin.ext h0
  · rw [same8]; exact part_at m c t r hr 3 _ rfl _ k _ h1
  · rw [same7]; exact part_at m c t r hr 2 _ rfl _ k _ h1
  · rw [same6]; exact part_at m c t r hr 1 _ rfl _ k _ h1
  · rw [same4]; exact part_at m c t r hr 0 _ rfl _ k _ (h1.trans (Nat.zero_add _).symm)

theorem right_at (t : Fin cfg0.N) (r : Fin 512) (y : Fin 2048) (hr : t.val * 512 + r.val < 8192) :
    out0_7 (iblk m c 0 t) (iblk m c 1 t) (iblk m c 2 t) (iblk m c 3 t) (iblk m c 4 t) (ix2 r y) = prodA m c ⟨t.val * 512 + r.val, hr⟩ ⟨2048 + y.val, by omega⟩ := by
  unfold out0_7 k0_pay12
  generalize hj : (ix2 r y : S512x2048.Idx) = j
  canon_tiles x h
  all_goals
    obtain ⟨i, k, rfl⟩ : ∃ i k, x = ix2 i k := ⟨_, _, eq_ix2 x⟩
    subst hj
    obtain rfl : r = i := Fin.ext h0
    have h1 : y.val = _ := h1
  · exact part_at m c t r hr 7 _ rfl _ k _ (by show 2048 + y.val = 7 * 512 + k.val; rw [h1]; show 2048 + (1536 + k.val) = _; omega)
  · rw [same1]; exact part_at m c t r hr 6 _ rfl _ k _ (by show 2048 + y.val = 6 * 512 + k.val; rw [h1]; show 2048 + (1024 + k.val) = _; omega)
  · rw [same10]; exact part_at m c t r hr 5 _ rfl _ k _ (by show 2048 + y.val = 5 * 512 + k.val; rw [h1]; show 2048 + (512 + k.val) = _; omega)
  · rw [same9]; exact part_at m c t r hr 4 _ rfl _ k _ (by show 2048 + y.val = 4 * 512 + k.val; rw [h1]; show 2048 + k.val = _; omega)

theorem arr6 : (dats m 0 c).arrAt 6 cfg0.N = leftA m c := by
  refine Dat.arrAt_eq_of_covers _ 6 _ (by decide +kernel) fun t hf y => ?_
  blk_simp
  rw [after0_6]
  have ht : t.val < 16 := lt_of_lt_of_eq t.isLt N_0
  have hy : t.val * 512 + (y 0).val < 8192 := by have : (y 0).val < 512 := (y 0).isLt; omega
  have e : ((((cfg0.win 6).blk t).view.emb y) : S8192x2048.Idx) = ix2 ⟨t.val * 512 + (y 0).val, hy⟩ (y 1) := by
    blk_ext [idx t]
  rw [e]
  exact (congrArg (out0_6 (iblk m c 0 t) (iblk m c 1 t) (iblk m c 2 t) (iblk m c 3 t) (iblk m c 4 t)) (eq_ix2 (y : S512x2048.Idx))).trans (left_at m c t (y 0) (y 1) hy)

theorem arr7 : (dats m 0 c).arrAt 7 cfg0.N = rightA m c := by
  refine Dat.arrAt_eq_of_covers _ 7 _ (by decide +kernel) fun t hf y => ?_
  blk_simp
  rw [after0_7]
  have ht : t.val < 16 := lt_of_lt_of_eq t.isLt N_0
  have hy : t.val * 512 + (y 0).val < 8192 := by have : (y 0).val < 512 := (y 0).isLt; omega
  have e : ((((cfg0.win 7).blk t).view.emb y) : S8192x2048.Idx) = ix2 ⟨t.val * 512 + (y 0).val, hy⟩ (y 1) := by
    blk_ext [idx t]
  rw [e]
  exact (congrArg (out0_7 (iblk m c 0 t) (iblk m c 1 t) (iblk m c 2 t) (iblk m c 3 t) (iblk m c 4 t)) (eq_ix2 (y : S512x2048.Idx))).trans (right_at m c t (y 0) (y 1) hy)

end Cert.InFIdeal.Value

end
end
-- ==== Proof.InFRef.lean ====
/- The reference of the norm's forward call read pointwise. -/
module

public import proofs.«01_k».proof.Proof.Coe
public import proofs.«01_k».proof.Proof.Gen.InFRefIdeal.Read
public import Idealize.ShloMosaic.Lib.Pointwise

@[expose] public section

set_option maxRecDepth 16384

noncomputable section

namespace Cert.InFRefIdeal.Read

open Cert.InFRefIdeal Cert.InFRefIdeal.Gen Idealize.ShloMosaic Idealize.ShloMosaic.Pointwise

variable (x0 : S8192x1024.Idx → EReal) (x1 x2 x3 : S1024.Idx → EReal) (x4 : S1024x4096.Idx → EReal)

theorem val_mod (i : Fin 8192) (j : Fin 1024) : val_main_v20 (F := Ideal) x0 x1 x2 x3 (ix2 i j)
    = x0 (ix2 i j) * Ideal.rsqrt (Ideal.div (∑ x, x0 (ix2 i x) * x0 (ix2 i x)) (Ideal.ofBits FTy.f32 1149239296#32) + Ideal.ofBits FTy.f32 897988541#32)
        * x1 (ix1 j) * (1 + x3 (ix1 j)) + x2 (ix1 j) := by
  pointwise [val_main_v20, val_main_v19, val_main_v18, val_main_v17, val_main_v16, val_main_v15, val_main_v14, val_main_cst_2, val_main_v13, val_main_v12,
    val_main_v11, val_main_v10, val_main_v9, val_main_v8, val_main_v7, val_main_v6, val_main_v5, val_main_cst_1, val_main_v4, val_main_v3, val_main_cst_0,
    val_main_v2, val_main_v1, val_main_cst, val_main_v0]

theorem val_rounded (i : Fin 8192) (j : Fin 1024) : val_main_v24 (F := Ideal) x0 x1 x2 x3 (ix2 i j) = val_main_v20 (F := Ideal) x0 x1 x2 x3 (ix2 i j) := by
  pointwise [val_main_v24]

theorem val_left (i : Fin 8192) (x : Fin 2048) : val_main_v25 (F := Ideal) x0 x1 x2 x3 x4 (ix2 i x)
    = ∑ e : Fin 1024, val_main_v20 (F := Ideal) x0 x1 x2 x3 (ix2 i e) * x4 (ix2 e ⟨x.val, by omega⟩) := by
  pointwise [val_main_v25, val_main_v22, val_main_v21]

theorem val_right (i : Fin 8192) (x : Fin 2048) : val_main_v26 (F := Ideal) x0 x1 x2 x3 x4 (ix2 i x)
    = ∑ e : Fin 1024, val_main_v20 (F := Ideal) x0 x1 x2 x3 (ix2 i e) * x4 (ix2 e ⟨2048 + x.val, by omega⟩) := by
  pointwise [val_main_v26, val_main_v23, val_main_v21]

end Cert.InFRefIdeal.Read

end
end
-- ==== Proof.InFClaims.lean ====
/- The claims about the norm's forward call: its reference's frame, and that both compute the same three results. -/
module

public import proofs.«01_k».proof.Defs
public import proofs.«01_k».proof.Proof.InFKernel
public import proofs.«01_k».proof.Proof.InFRef
public import proofs.«01_k».proof.Proof.Gen.InF.Frame
public import proofs.«01_k».proof.Proof.Gen.InFRefIdeal.Run
public import Idealize.ShloMosaic.Adequacy
public import Idealize.ShloMosaic.Init

@[expose] public section

set_option maxRecDepth 16384

noncomputable section

namespace Cert.InFClaims

open Idealize.ShloMosaic Idealize.ShloMosaic.TcCoe Idealize.SL.Sem Cert.Coe

theorem frame_ref : Cert.quiescent_InFRefIdeal := fun m ρ _ =>
  (θ_run Cert.InFRefIdeal.defs _ _).mono (fun r h => ⟨fun c => (h c).2.2.2, sem_eq_zero_of_no_sems (by decide) r.2⟩)
    (Cert.InFRefIdeal.Value.run (F := Ideal) m ρ)

theorem algebraic : Cert.algebraic_InFIdeal_InFRefIdeal := by
  intro m ρ m' ρ' _ hag
  refine ⟨fun c => (Cert.InFIdeal.Gen.dats m 0 c).arrAt 5 Cert.InFIdeal.cfg0.N, fun c => (Cert.InFIdeal.Gen.dats m 0 c).arrAt 6 Cert.InFIdeal.cfg0.N,
    fun c => (Cert.InFIdeal.Gen.dats m 0 c).arrAt 7 Cert.InFIdeal.cfg0.N,
    (θ_run Cert.InFIdeal.defs _ _).mono (fun r h c => h c) (Cert.InFIdeal.Value.run_blocks m ρ), ?_⟩
  refine (θ_run Cert.InFRefIdeal.defs _ _).mono (fun r h c => ?_) (Cert.InFRefIdeal.Value.run (F := Ideal) m' ρ')
  obtain ⟨r0, r1, r2, k⟩ := h c
  obtain ⟨a0, a1, a2, a3, a4⟩ := hag c
  refine ⟨(r0.trans (Cert.InFRefIdeal.Read.val_main_v24_eq _ _ _ _)).trans (Eq.trans ?_ (Cert.InFIdeal.Value.arr5 m c).symm),
    (r1.trans (Cert.InFRefIdeal.Read.val_main_v25_eq _ _ _ _ _)).trans (Eq.trans ?_ (Cert.InFIdeal.Value.arr6 m c).symm),
    (r2.trans (Cert.InFRefIdeal.Read.val_main_v26_eq _ _ _ _ _)).trans (Eq.trans ?_ (Cert.InFIdeal.Value.arr7 m c).symm), k⟩
  all_goals
    rw [a0, a1, a2, a3]
    try rw [a4]
    funext j
    obtain ⟨i, x, rfl⟩ : ∃ i x, j = ix2 i x := ⟨_, _, eq_ix2 j⟩
  · rw [Cert.InFRefIdeal.Read.val_rounded, Cert.InFRefIdeal.Read.val_mod]
    rfl
  · refine (Cert.InFRefIdeal.Read.val_left _ _ _ _ _ i x).trans ?_
    simp only [Cert.InFRefIdeal.Read.val_mod]
    rfl
  · refine (Cert.InFRefIdeal.Read.val_right _ _ _ _ _ i x).trans ?_
    simp only [Cert.InFRefIdeal.Read.val_mod]
    rfl

end Cert.InFClaims

end
end
-- ==== Proof.lean ====
/- The claims about twelve calls of a training step, eight of its backward pass and four of its forward pass, each proved in a module of its own, put together. -/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_loss_finite
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_finite
public import proofs.«01_k».proof.Proof.Gen.LossIdeal.Value
public import proofs.«01_k».proof.Proof.Gen.LossRefIdeal.Run
public import proofs.«01_k».proof.Proof.Gen.LossRefIdeal.Read
public import proofs.«01_k».proof.Proof.LossClaims
public import proofs.«01_k».proof.Proof.Gen.Pre_gate_finite
public import proofs.«01_k».proof.Proof.Gen.Pre_gatew_finite
public import proofs.«01_k».proof.Proof.Gen.Pre_norm_finite
public import proofs.«01_k».proof.Proof.Gen.Gate
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.GateW
public import proofs.«01_k».proof.Proof.Gen.GateW.Frame
public import proofs.«01_k».proof.Proof.Gen.GateWIdeal.Value
public import proofs.«01_k».proof.Proof.Gen.GateWRefIdeal.Run
public import proofs.«01_k».proof.Proof.Gen.GateWRefIdeal.Read
public import proofs.«01_k».proof.Proof.Gen.Norm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Mods
public import proofs.«01_k».proof.Proof.Gen.Mods.Frame
public import proofs.«01_k».proof.Proof.Gen.ModsIdeal.Value
public import proofs.«01_k».proof.Proof.Gen.ModsRefIdeal.Run
public import proofs.«01_k».proof.Proof.Gen.ModsRefIdeal.Read
public import proofs.«01_k».proof.Proof.Gen.AttnRefIdeal.Run
public import proofs.«01_k».proof.Proof.Gen.AttnRefIdeal.Read
public import proofs.«01_k».proof.Proof.AttnClaims
public import proofs.«01_k».proof.Proof.AttnFwdClaims
public import proofs.«01_k».proof.Proof.AttnAccClaims
public import proofs.«01_k».proof.Proof.Gen.Pre_pool_finite
public import proofs.«01_k».proof.Proof.Gen.Pool
public import proofs.«01_k».proof.Proof.Gen.Pool.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Pre_attnf_finite
public import proofs.«01_k».proof.Proof.Gen.Pre_attna_finite
public import proofs.«01_k».proof.Proof.Gen.AttnA
public import proofs.«01_k».proof.Proof.Gen.AttnAIdeal.Frame
public import proofs.«01_k».proof.Proof.Gen.AttnAIdeal.Skeleton
public import proofs.«01_k».proof.Proof.Gen.AttnARefIdeal.Run
public import proofs.«01_k».proof.Proof.Gen.AttnARefIdeal.Read
public import proofs.«01_k».proof.Proof.Gen.GateF
public import proofs.«01_k».proof.Proof.Gen.GateF.Frame
public import proofs.«01_k».proof.Proof.Gen.GateFIdeal.Value
public import proofs.«01_k».proof.Proof.Gen.GateFRefIdeal.Run
public import proofs.«01_k».proof.Proof.Gen.GateFRefIdeal.Read
public import proofs.«01_k».proof.Proof.Gen.ModsF
public import proofs.«01_k».proof.Proof.Gen.ModsF.Frame
public import proofs.«01_k».proof.Proof.Gen.ModsFIdeal.Value
public import proofs.«01_k».proof.Proof.Gen.ModsFRefIdeal.Run
public import proofs.«01_k».proof.Proof.Gen.ModsFRefIdeal.Read
public import proofs.«01_k».proof.Proof.Gen.InF
public import proofs.«01_k».proof.Proof.Gen.InF.Frame
public import proofs.«01_k».proof.Proof.Gen.InFIdeal.Value
public import proofs.«01_k».proof.Proof.Gen.InFRefIdeal.Run
public import proofs.«01_k».proof.Proof.Gen.InFRefIdeal.Read
public import proofs.«01_k».proof.Proof.Gen.AttnF
public import proofs.«01_k».proof.Proof.Gen.AttnF.Frame
public import proofs.«01_k».proof.Proof.Gen.AttnFIdeal.Value
public import proofs.«01_k».proof.Proof.Gen.AttnFRefIdeal.Run
public import proofs.«01_k».proof.Proof.Gen.AttnFRefIdeal.Read
public import proofs.«01_k».proof.Proof.GateClaims
public import proofs.«01_k».proof.Proof.GateWClaims
public import proofs.«01_k».proof.Proof.NormClaims
public import proofs.«01_k».proof.Proof.PoolClaims
public import proofs.«01_k».proof.Proof.ModsClaims
public import proofs.«01_k».proof.Proof.GateFClaims
public import proofs.«01_k».proof.Proof.ModsFClaims
public import proofs.«01_k».proof.Proof.InFClaims
public import Idealize.ShloMosaic.Adequacy
public import Idealize.ShloMosaic.Init

@[expose] public section

noncomputable section

-- The frames also say that every semaphore counter ends at zero.

namespace Cert.Proof

open Idealize.ShloMosaic Idealize.SL.Sem Cert.Loss

theorem claim : Cert.Claim := ⟨Cert.Loss.Gen.facts, Cert.LossIdeal.Gen.facts, Cert.LossRefIdeal.Gen.facts,
  Cert.Attn.Gen.facts, Cert.AttnIdeal.Gen.facts, Cert.AttnRefIdeal.Gen.facts,
  Cert.Gate.Gen.facts, Cert.GateIdeal.Gen.facts, Cert.GateRefIdeal.Gen.facts,
  Cert.Norm.Gen.facts, Cert.NormIdeal.Gen.facts, Cert.NormRefIdeal.Gen.facts,
  Cert.Pool.Gen.facts, Cert.PoolIdeal.Gen.facts, Cert.PoolRefIdeal.Gen.facts,
  Cert.GateW.Gen.facts, Cert.GateWIdeal.Gen.facts, Cert.GateWRefIdeal.Gen.facts,
  Cert.Mods.Gen.facts, Cert.ModsIdeal.Gen.facts, Cert.ModsRefIdeal.Gen.facts,
  Cert.AttnF.Gen.facts, Cert.AttnFIdeal.Gen.facts, Cert.AttnFRefIdeal.Gen.facts,
  Cert.AttnA.Gen.facts, Cert.AttnAIdeal.Gen.facts, Cert.AttnARefIdeal.Gen.facts,
  Cert.GateF.Gen.facts, Cert.GateFIdeal.Gen.facts, Cert.GateFRefIdeal.Gen.facts,
  Cert.ModsF.Gen.facts, Cert.ModsFIdeal.Gen.facts, Cert.ModsFRefIdeal.Gen.facts,
  Cert.InF.Gen.facts, Cert.InFIdeal.Gen.facts, Cert.InFRefIdeal.Gen.facts,
  Cert.Pre_loss_finite.Gen.facts, Cert.Pre_attn_finite.Gen.facts, Cert.Pre_gate_finite.Gen.facts, Cert.Pre_norm_finite.Gen.facts, Cert.Pre_pool_finite.Gen.facts, Cert.Pre_gatew_finite.Gen.facts, Cert.Pre_attnf_finite.Gen.facts, Cert.Pre_attna_finite.Gen.facts,
  fun m ρ _ => Cert.Loss.Gen.frame m ρ, fun m ρ _ => Cert.LossIdeal.Gen.frame m ρ, fun m ρ _ => Cert.LossIdeal.Gen.frame m ρ, fun m ρ _ => Cert.LossClaims.frame_ref m ρ, fun m ρ _ => Cert.LossClaims.frame_ref m ρ,
  Cert.AttnClaims.frame_kernel, fun m ρ _ => Cert.AttnLaunch.frame m ρ, fun m ρ _ => Cert.AttnLaunch.frame m ρ, fun m ρ _ => Cert.AttnClaims.frame_ref m ρ, fun m ρ _ => Cert.AttnClaims.frame_ref m ρ,
  fun m ρ _ => Cert.Gate.Gen.frame m ρ, fun m ρ _ => Cert.GateIdeal.Gen.frame m ρ, fun m ρ _ => Cert.GateIdeal.Gen.frame m ρ, Cert.GateClaims.frame_ref', Cert.GateClaims.frame_ref,
  fun m ρ _ => Cert.Norm.Gen.frame m ρ, fun m ρ _ => Cert.NormIdeal.Gen.frame m ρ, fun m ρ _ => Cert.NormIdeal.Gen.frame m ρ, Cert.NormClaims.frame_ref', Cert.NormClaims.frame_ref,
  fun m ρ _ => Cert.Pool.Gen.frame m ρ, fun m ρ _ => Cert.PoolIdeal.Gen.frame m ρ, fun m ρ _ => Cert.PoolIdeal.Gen.frame m ρ, Cert.PoolClaims.frame_ref', Cert.PoolClaims.frame_ref,
  fun m ρ _ => Cert.GateW.Gen.frame m ρ, fun m ρ _ => Cert.GateWIdeal.Gen.frame m ρ, fun m ρ _ => Cert.GateWIdeal.Gen.frame m ρ, Cert.GateWClaims.frame_ref', Cert.GateWClaims.frame_ref,
  fun m ρ _ => Cert.Mods.Gen.frame m ρ, fun m ρ _ => Cert.ModsIdeal.Gen.frame m ρ, Cert.ModsClaims.frame_ref,
  fun m ρ _ => Cert.AttnF.Gen.frame m ρ, fun m ρ _ => Cert.AttnFIdeal.Gen.frame m ρ, fun m ρ _ => Cert.AttnFIdeal.Gen.frame m ρ, Cert.AttnFwdClaims.frame_ref', Cert.AttnFwdClaims.frame_ref,
  Cert.AttnAccClaims.frame_kernel, fun m ρ _ => Cert.AttnAcc.frame m ρ, fun m ρ _ => Cert.AttnAcc.frame m ρ, fun m ρ _ => Cert.AttnAccClaims.frame_ref m ρ, fun m ρ _ => Cert.AttnAccClaims.frame_ref m ρ,
  fun m ρ _ => Cert.GateF.Gen.frame m ρ, fun m ρ _ => Cert.GateFIdeal.Gen.frame m ρ, Cert.GateFClaims.frame_ref,
  fun m ρ _ => Cert.ModsF.Gen.frame m ρ, fun m ρ _ => Cert.ModsFIdeal.Gen.frame m ρ, Cert.ModsFClaims.frame_ref,
  fun m ρ _ => Cert.InF.Gen.frame m ρ, fun m ρ _ => Cert.InFIdeal.Gen.frame m ρ, Cert.InFClaims.frame_ref,
  trivial, Cert.LossClaims.algebraic,
  trivial, Cert.AttnClaims.algebraic,
  trivial, Cert.GateClaims.algebraic,
  trivial, Cert.NormClaims.algebraic,
  trivial, Cert.PoolClaims.algebraic,
  trivial, Cert.GateWClaims.algebraic,
  trivial, Cert.ModsClaims.algebraic,
  trivial, Cert.AttnFwdClaims.algebraic,
  trivial, Cert.AttnAccClaims.algebraic,
  trivial, Cert.GateFClaims.algebraic,
  trivial, Cert.ModsFClaims.algebraic,
  trivial, Cert.InFClaims.algebraic⟩

end Cert.Proof

end
end
